-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v16) = v1 c
          ∧ r.2.mem ((c.tc : Thread Cert.Reference12Ideal.nD Cert.Reference12Ideal.τ).loc Cert.Reference12Ideal.main_v18) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v16) = v1 c
          ∧ r.2.mem ((c.tc : Thread Cert.Reference13Ideal.nD Cert.Reference13Ideal.τ).loc Cert.Reference13Ideal.main_v18) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v15) = v1 c
          ∧ r.2.mem ((c.tc : Thread Cert.Reference14Ideal.nD Cert.Reference14Ideal.τ).loc Cert.Reference14Ideal.main_v17) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v18) = v0 c
          ∧ r.2.mem ((c.tc : Thread Cert.Reference15Ideal.nD Cert.Reference15Ideal.τ).loc Cert.Reference15Ideal.main_v19) = v1 c
          ∧ r.2.mem ((c.tc : Thread Cert.Reference15Ideal.nD Cert.Reference15Ideal.τ).loc Cert.Reference15Ideal.main_v20) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v8) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v38) = v0 c
          ∧ r.2.mem ((c.tc : Thread Cert.Reference26Ideal.nD Cert.Reference26Ideal.τ).loc Cert.Reference26Ideal.main_v39) = v1 c
          ∧ r.2.mem ((c.tc : Thread Cert.Reference26Ideal.nD Cert.Reference26Ideal.τ).loc Cert.Reference26Ideal.main_v21) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v10)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v10) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v41) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v81) = v0 c
          ∧ r.2.mem ((c.tc : Thread Cert.Reference37Ideal.nD Cert.Reference37Ideal.τ).loc Cert.Reference37Ideal.main_v83) = v1 c
          ∧ r.2.mem ((c.tc : Thread Cert.Reference37Ideal.nD Cert.Reference37Ideal.τ).loc Cert.Reference37Ideal.main_v85) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v31) = v0 c
          ∧ r.2.mem ((c.tc : Thread Cert.Reference38Ideal.nD Cert.Reference38Ideal.τ).loc Cert.Reference38Ideal.main_v32) = v1 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v12) = v0 c
          ∧ r.2.mem ((c.tc : Thread Cert.Reference39Ideal.nD Cert.Reference39Ideal.τ).loc Cert.Reference39Ideal.main_v13) = v1 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v20) = v0 c
          ∧ r.2.mem ((c.tc : Thread Cert.Reference40Ideal.nD Cert.Reference40Ideal.τ).loc Cert.Reference40Ideal.main_v21) = v1 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v15) = v0 c
          ∧ r.2.mem ((c.tc : Thread Cert.Reference41Ideal.nD Cert.Reference41Ideal.τ).loc Cert.Reference41Ideal.main_v28) = v1 c
          ∧ r.2.mem ((c.tc : Thread Cert.Reference41Ideal.nD Cert.Reference41Ideal.τ).loc Cert.Reference41Ideal.main_v2) = v2 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)) (v2 : (c : Dev Cert.Kernel42Ideal.nD) → Buf (Elt Ideal) ((c.tc : Thread Cert.Kernel42Ideal.nD Cert.Kernel42Ideal.τ).loc Cert.Kernel42Ideal.main_v0_2)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_v0_2) = v2 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v27) = v0 c
          ∧ r.2.mem ((c.tc : Thread Cert.Reference42Ideal.nD Cert.Reference42Ideal.τ).loc Cert.Reference42Ideal.main_v54) = v1 c
          ∧ r.2.mem ((c.tc : Thread Cert.Reference42Ideal.nD Cert.Reference42Ideal.τ).loc Cert.Reference42Ideal.main_v2) = v2 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
-- ==== Kernel.lean ====
abbrev S4096x1024 : Shape := ⟨2, ![4096, 1024]⟩
abbrev S4096x2048 : Shape := ⟨2, ![4096, 2048]⟩
abbrev S4 : Shape := ⟨1, ![4]⟩
abbrev S_ : Shape := ⟨0, ![]⟩
abbrev S4x1x1 : Shape := ⟨3, ![4, 1, 1]⟩
abbrev S4x8x128 : Shape := ⟨3, ![4, 8, 128]⟩
abbrev S1x8x128 : Shape := ⟨3, ![1, 8, 128]⟩
abbrev S2048x256 : Shape := ⟨2, ![2048, 256]⟩
abbrev S2048x512 : Shape := ⟨2, ![2048, 512]⟩
abbrev S4x256x512 : Shape := ⟨3, ![4, 256, 512]⟩
abbrev S256x512 : Shape := ⟨2, ![256, 512]⟩
abbrev S512x512 : Shape := ⟨2, ![512, 512]⟩
abbrev S1x1x1 : Shape := ⟨3, ![1, 1, 1]⟩
abbrev S1x1 : Shape := ⟨2, ![1, 1]⟩
abbrev S512x256 : Shape := ⟨2, ![512, 256]⟩
abbrev S1x256x512 : Shape := ⟨3, ![1, 256, 512]⟩

abbrev nBuf : Space → Nat
  | .hbm => 19
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x2048, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4x1x1, .f32⟩
  | .hbm, ⟨15, _⟩ => ⟨S4x8x128, .f32⟩
  | .hbm, ⟨16, _⟩ => ⟨S4096x1024, .f32⟩
  | .hbm, ⟨17, _⟩ => ⟨S4096x1024, .f32⟩
  | .hbm, ⟨18, _⟩ => ⟨S4096x2048, .f32⟩
  | .local _ .vmem, ⟨0, _⟩ => ⟨S1x8x128, .f32⟩
  | .local _ .vmem, ⟨1, _⟩ => ⟨S1x8x128, .f32⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | .local _ .vmem, ⟨9, _⟩ => ⟨S2048x512, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x512, .f32⟩
  | .local _ .vmem, ⟨15, _⟩ => ⟨S2048x512, .f32⟩
  | .local _ .vmem, ⟨16, _⟩ => ⟨S2048x256, .bf16⟩
  | .local _ .vmem, ⟨17, _⟩ => ⟨S4x256x512, .bf16⟩
  | .local _ .vmem, ⟨18, _⟩ => ⟨S2048x256, .f32⟩
  | .local _ .vmem, ⟨19, _⟩ => ⟨S256x512, .f32⟩
  | .local _ .vmem, ⟨20, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_47 : BitVec 32 := 0#32
  let c4_i32 : BitVec 32 := 4#32
  let v122 : BitVec 32 := Scalar.addi c0_i32_47 c4_i32
  let c1_i32_48 : BitVec 32 := 1#32
  ⟨c0_i32_47, v122, c1_i32_48⟩
def k0_mult1 (k0_t1 : Fin k0_t1_loop.trips) : BitVec 32 :=
  let c0_i32_47 : BitVec 32 := 0#32
  let c1_i32_48 : BitVec 32 := 1#32
  let arg15 : BitVec 32 := Scf.iv c0_i32_47 c1_i32_48 k0_t1
  let c512_i32_63 : BitVec 32 := 512#32
  let v152 : BitVec 32 := Scalar.muli arg15 c512_i32_63
  v152
def k0_off1 (k0_t1 : Fin k0_t1_loop.trips) : Fin 2 → Nat :=
  let c0_i32_47 : BitVec 32 := 0#32
  let c1_i32_48 : BitVec 32 := 1#32
  let arg15 : BitVec 32 := Scf.iv c0_i32_47 c1_i32_48 k0_t1
  let c512_i32_63 : BitVec 32 := 512#32
  let v152 : BitVec 32 := Scalar.muli arg15 c512_i32_63
  let v153 : BitVec 32 := v152
  let v154 : Index := Scalar.indexCast v153
  let c0_64 : Index := 0#32
  ![v154.toNat, 0]
def k0_off2 (k0_t1 : Fin k0_t1_loop.trips) : Fin 2 → Nat :=
  let c0_i32_47 : BitVec 32 := 0#32
  let c1_i32_48 : BitVec 32 := 1#32
  let arg15 : BitVec 32 := Scf.iv c0_i32_47 c1_i32_48 k0_t1
  let c512_i32_63 : BitVec 32 := 512#32
  let v152 : BitVec 32 := Scalar.muli arg15 c512_i32_63
  let v153 : BitVec 32 := v152
  let v180 : Index := Scalar.indexCast v153
  let c0_71 : Index := 0#32
  ![v180.toNat, 0]
def k0_cond1 (k0_t1 : Fin k0_t1_loop.trips) : BitVec 1 :=
  let c0_i32_47 : BitVec 32 := 0#32
  let c1_i32_48 : BitVec 32 := 1#32
  let arg15 : BitVec 32 := Scf.iv c0_i32_47 c1_i32_48 k0_t1
  let c2_i32 : BitVec 32 := 2#32
  let v213 : BitVec 32 := Scalar.andi arg15 c2_i32
  let c0_i32_88 : BitVec 32 := 0#32
  let v214 : BitVec 1 := Scalar.cmpi .ne v213 c0_i32_88
  let v215 : BitVec 32 := Scalar.extui v214
  let c0_i32_89 : BitVec 32 := 0#32
  let v216 : BitVec 1 := Scalar.cmpi .ne v215 c0_i32_89
  v216

def k0_mult2 (k0_t1 : Fin k0_t1_loop.trips) : BitVec 32 :=
  let c0_i32_47 : BitVec 32 := 0#32
  let c1_i32_48 : BitVec 32 := 1#32
  let arg15 : BitVec 32 := Scf.iv c0_i32_47 c1_i32_48 k0_t1
  let c_m4_i32 : BitVec 32 := 4294967292#32
  let v227 : BitVec 32 := Scalar.andi arg15 c_m4_i32
  let c0_i32_96 : BitVec 32 := 0#32
  let v228 : BitVec 32 := Scalar.addi v227 c0_i32_96
  let c512_i32_97 : BitVec 32 := 512#32
  let v229 : BitVec 32 := Scalar.muli v228 c512_i32_97
  v229
def k0_off3 (k0_t1 : Fin k0_t1_loop.trips) (c0_i32_96 : BitVec 32) : Fin 2 → Nat :=
  let c0_i32_47 : BitVec 32 := 0#32
  let c1_i32_48 : BitVec 32 := 1#32
  let arg15 : BitVec 32 := Scf.iv c0_i32_47 c1_i32_48 k0_t1
  let c_m4_i32 : BitVec 32 := 4294967292#32
  let v227 : BitVec 32 := Scalar.andi arg15 c_m4_i32
  let v228 : BitVec 32 := Scalar.addi v227 c0_i32_96
  let c512_i32_97 : BitVec 32 := 512#32
  let v229 : BitVec 32 := Scalar.muli v228 c512_i32_97
  let v230 : BitVec 32 := v229
  let v239 : Index := Scalar.indexCast v230
  let c0_101 : Index := 0#32
  ![v239.toNat, 0]
def k0_off4 (k0_t1 : Fin k0_t1_loop.trips) (c0_i32_96 : BitVec 32) : Fin 2 → Nat :=
  let c0_i32_47 : BitVec 32 := 0#32
  let c1_i32_48 : BitVec 32 := 1#32
  let arg15 : BitVec 32 := Scf.iv c0_i32_47 c1_i32_48 k0_t1
  let c_m4_i32 : BitVec 32 := 4294967292#32
  let v227 : BitVec 32 := Scalar.andi arg15 c_m4_i32
  let v228 : BitVec 32 := Scalar.addi v227 c0_i32_96
  let c512_i32_97 : BitVec 32 := 512#32
  let v229 : BitVec 32 := Scalar.muli v228 c512_i32_97
  let v230 : BitVec 32 := v229
  let v244 : Index := Scalar.indexCast v230
  let c0_103 : Index := 0#32
  ![v244.toNat, 0]
def k0_off5 (k0_t1 : Fin k0_t1_loop.trips) (c0_i32_96 : BitVec 32) : Fin 3 → Nat :=
  let c0_i32_47 : BitVec 32 := 0#32
  let c1_i32_48 : BitVec 32 := 1#32
  let arg15 : BitVec 32 := Scf.iv c0_i32_47 c1_i32_48 k0_t1
  let c_m4_i32 : BitVec 32 := 4294967292#32
  let v227 : BitVec 32 := Scalar.andi arg15 c_m4_i32
  let v228 : BitVec 32 := Scalar.addi v227 c0_i32_96
  let v267 : Index := Scalar.indexCast v228
  let c0_113 : Index := 0#32
  let c0_114 : Index := 0#32
  ![v267.toNat, 0, 0]
def k0_mult3 (k0_t1 : Fin k0_t1_loop.trips) : BitVec 32 :=
  let c0_i32_47 : BitVec 32 := 0#32
  let c1_i32_48 : BitVec 32 := 1#32
  let arg15 : BitVec 32 := Scf.iv c0_i32_47 c1_i32_48 k0_t1
  let c_m4_i32 : BitVec 32 := 4294967292#32
  let v227 : BitVec 32 := Scalar.andi arg15 c_m4_i32
  let c1_i32_118 : BitVec 32 := 1#32
  let v275 : BitVec 32 := Scalar.addi v227 c1_i32_118
  let c512_i32_119 : BitVec 32 := 512#32
  let v276 : BitVec 32 := Scalar.muli v275 c512_i32_119
  v276
def k0_cond2 (k0_t1 : Fin k0_t1_loop.trips) : BitVec 1 :=
  let c0_i32_47 : BitVec 32 := 0#32
  let c1_i32_48 : BitVec 32 := 1#32
  let arg15 : BitVec 32 := Scf.iv c0_i32_47 c1_i32_48 k0_t1
  let c1_i32_90 : BitVec 32 := 1#32
  let v217 : BitVec 32 := Scalar.andi arg15 c1_i32_90
  let c0_i32_91 : BitVec 32 := 0#32
  let v218 : BitVec 1 := Scalar.cmpi .ne v217 c0_i32_91
  let v219 : BitVec 32 := Scalar.extui v218
  let c0_i32_92 : BitVec 32 := 0#32
  let v220 : BitVec 1 := Scalar.cmpi .ne v219 c0_i32_92
  v220

def k0_mult4 (k0_t1 : Fin k0_t1_loop.trips) : BitVec 32 :=
  let c0_i32_47 : BitVec 32 := 0#32
  let c1_i32_48 : BitVec 32 := 1#32
  let arg15 : BitVec 32 := Scf.iv c0_i32_47 c1_i32_48 k0_t1
  let c_m2_i32 : BitVec 32 := 4294967294#32
  let v227 : BitVec 32 := Scalar.andi arg15 c_m2_i32
  let c0_i32_96 : BitVec 32 := 0#32
  let v228 : BitVec 32 := Scalar.addi v227 c0_i32_96
  let c512_i32_97 : BitVec 32 := 512#32
  let v229 : BitVec 32 := Scalar.muli v228 c512_i32_97
  v229
def k0_off6 (k0_t1 : Fin k0_t1_loop.trips) : Fin 2 → Nat :=
  let c0_i32_47 : BitVec 32 := 0#32
  let c1_i32_48 : BitVec 32 := 1#32
  let arg15 : BitVec 32 := Scf.iv c0_i32_47 c1_i32_48 k0_t1
  let c_m2_i32 : BitVec 32 := 4294967294#32
  let v227 : BitVec 32 := Scalar.andi arg15 c_m2_i32
  let c0_i32_96 : BitVec 32 := 0#32
  let v228 : BitVec 32 := Scalar.addi v227 c0_i32_96
  let c512_i32_97 : BitVec 32 := 512#32
  let v229 : BitVec 32 := Scalar.muli v228 c512_i32_97
  let v230 : BitVec 32 := v229
  let v239 : Index := Scalar.indexCast v230
  let c0_101 : Index := 0#32
  ![v239.toNat, 0]
def k0_off7 (k0_t1 : Fin k0_t1_loop.trips) : Fin 2 → Nat :=
  let c0_i32_47 : BitVec 32 := 0#32
  let c1_i32_48 : BitVec 32 := 1#32
  let arg15 : BitVec 32 := Scf.iv c0_i32_47 c1_i32_48 k0_t1
  let c_m2_i32 : BitVec 32 := 4294967294#32
  let v227 : BitVec 32 := Scalar.andi arg15 c_m2_i32
  let c0_i32_96 : BitVec 32 := 0#32
  let v228 : BitVec 32 := Scalar.addi v227 c0_i32_96
  let c512_i32_97 : BitVec 32 := 512#32
  let v229 : BitVec 32 := Scalar.muli v228 c512_i32_97
  let v230 : BitVec 32 := v229
  let v244 : Index := Scalar.indexCast v230
  let c0_103 : Index := 0#32
  ![v244.toNat, 0]
def k0_off8 (k0_t1 : Fin k0_t1_loop.trips) : Fin 3 → Nat :=
  let c0_i32_47 : BitVec 32 := 0#32
  let c1_i32_48 : BitVec 32 := 1#32
  let arg15 : BitVec 32 := Scf.iv c0_i32_47 c1_i32_48 k0_t1
  let c_m2_i32 : BitVec 32 := 4294967294#32
  let v227 : BitVec 32 := Scalar.andi arg15 c_m2_i32
  let c0_i32_96 : BitVec 32 := 0#32
  let v228 : BitVec 32 := Scalar.addi v227 c0_i32_96
  let v267 : Index := Scalar.indexCast v228
  let c0_113 : Index := 0#32
  let c0_114 : Index := 0#32
  ![v267.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4096x1024 : Shape := ⟨2, ![4096, 1024]⟩
abbrev S4096x2048 : Shape := ⟨2, ![4096, 2048]⟩
abbrev S2x2048x4x256 : Shape := ⟨4, ![2, 2048, 4, 256]⟩
abbrev S2x2048x4x512 : Shape := ⟨4, ![2, 2048, 4, 512]⟩
abbrev S4 : Shape := ⟨1, ![4]⟩
abbrev S_ : Shape := ⟨0, ![]⟩
abbrev S2048 : Shape := ⟨1, ![2048]⟩
abbrev S32x64 : Shape := ⟨2, ![32, 64]⟩
abbrev S4x1x1 : Shape := ⟨3, ![4, 1, 1]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S4x2048x2048 : Shape := ⟨3, ![4, 2048, 2048]⟩
abbrev S1x2048x1 : Shape := ⟨3, ![1, 2048, 1]⟩
abbrev S1x1x2048 : Shape := ⟨3, ![1, 1, 2048]⟩
abbrev S2x4x2048x2048 : Shape := ⟨4, ![2, 4, 2048, 2048]⟩
abbrev S1x4x2048x2048 : Shape := ⟨4, ![1, 4, 2048, 2048]⟩
abbrev S2x4x512x2048 : Shape := ⟨4, ![2, 4, 512, 2048]⟩
abbrev S2x4x2048x256 : Shape := ⟨4, ![2, 4, 2048, 256]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S4096x2048, .f32⟩
  | .hbm, ⟨7, _⟩ => ⟨S2x2048x4x256, .f32⟩
  | .hbm, ⟨8, _⟩ => ⟨S2x2048x4x256, .f32⟩
  | .hbm, ⟨9, _⟩ => ⟨S2x2048x4x512, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S2048, .f32⟩
  | .hbm, ⟨21, _⟩ => ⟨S32x64, .i32⟩
  | .hbm, ⟨22, _⟩ => ⟨S2048, .i32⟩
  | .hbm, ⟨23, _⟩ => ⟨S4x1x1, .f32⟩
  | .hbm, ⟨24, _⟩ => ⟨S2048x1, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S1x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S1x2048x1, .i32⟩
  | .hbm, ⟨36, _⟩ => ⟨S1x1x2048, .i32⟩
  | .hbm, ⟨37, _⟩ => ⟨S1x2048x2048, .i32⟩
  | .hbm, ⟨38, _⟩ => ⟨S1x2048x2048, .i32⟩
  | .hbm, ⟨39, _⟩ => ⟨S1x2048x2048, .i1⟩
  | .hbm, ⟨40, _⟩ => ⟨S_, .f32⟩
  | .hbm, ⟨41, _⟩ => ⟨S_, .f32⟩
  | .hbm, ⟨42, _⟩ => ⟨S4x2048x2048, .i1⟩
  | .hbm, ⟨43, _⟩ => ⟨S4x2048x2048, .f32⟩
  | .hbm, ⟨44, _⟩ => ⟨S4x2048x2048, .f32⟩
  | .hbm, ⟨45, _⟩ => ⟨S2x4x2048x2048, .f32⟩
  | .hbm, ⟨46, _⟩ => ⟨S1x4x2048x2048, .f32⟩
  | .hbm, ⟨47, _⟩ => ⟨S2x4x2048x2048, .f32⟩
  | .hbm, ⟨48, _⟩ => ⟨S2x4x2048x2048, .f32⟩
  | .hbm, ⟨49, _⟩ => ⟨S2x4x512x2048, .f32⟩
  | .hbm, ⟨50, _⟩ => ⟨S2x2048x4x512, .f32⟩
  | .hbm, ⟨51, _⟩ => ⟨S4096x2048, .f32⟩
  | .hbm, ⟨52, _⟩ => ⟨S2x2048x4x512, .f32⟩
  | .hbm, ⟨53, _⟩ => ⟨S2x4x512x2048, .f32⟩
  | .hbm, ⟨54, _⟩ => ⟨S2x4x2048x2048, .f32⟩
  | .hbm, ⟨55, _⟩ => ⟨S2x4x512x2048, .f32⟩
  | .hbm, ⟨56, _⟩ => ⟨S2x2048x4x512, .f32⟩
  | .hbm, ⟨57, _⟩ => ⟨S2x4x2048x2048, .f32⟩
  | .hbm, ⟨58, _⟩ => ⟨S2x4x2048x2048, .f32⟩
  | .hbm, ⟨59, _⟩ => ⟨S2x4x2048x256, .f32⟩
  | .hbm, ⟨60, _⟩ => ⟨S2x2048x4x256, .f32⟩
  | .hbm, ⟨61, _⟩ => ⟨S2x4x2048x256, .f32⟩
  | .hbm, ⟨62, _⟩ => ⟨S2x2048x4x256, .f32⟩
  | .hbm, ⟨63, _⟩ => ⟨S4096x2048, .f32⟩
  | .hbm, ⟨64, _⟩ => ⟨S4096x1024, .f32⟩
  | .hbm, ⟨65, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== Kernel2.lean ====
abbrev S4096x4096 : Shape := ⟨2, ![4096, 4096]⟩
abbrev S4096x2048 : Shape := ⟨2, ![4096, 2048]⟩
abbrev S1024x6144 : Shape := ⟨2, ![1024, 6144]⟩
abbrev S4096x1024 : Shape := ⟨2, ![4096, 1024]⟩
abbrev S1x1024 : Shape := ⟨2, ![1, 1024]⟩
abbrev S256x4096 : Shape := ⟨2, ![256, 4096]⟩
abbrev S256x2048 : Shape := ⟨2, ![256, 2048]⟩
abbrev S256x1024 : Shape := ⟨2, ![256, 1024]⟩
abbrev S1024x4096 : Shape := ⟨2, ![1024, 4096]⟩
abbrev S1024x2048 : Shape := ⟨2, ![1024, 2048]⟩
abbrev S256 : Shape := ⟨1, ![256]⟩
abbrev S256x1 : Shape := ⟨2, ![256, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S1024x6144, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S256x2048, .bf16⟩
  | .local _ .vmem, ⟨3, _⟩ => ⟨S256x2048, .bf16⟩
  | .local _ .vmem, ⟨4, _⟩ => ⟨S1024x6144, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_25 : BitVec 32 := 0#32
  let v49 : BitVec 1 := Scalar.cmpi .ne v48 c0_i32_25
  v49

def k0_cond2 (i : grid0.Coords) : BitVec 1 :=
  let arg0 : BitVec 32 := BitVec.ofNat 32 (i 0).val
  let c0_i32_26 : BitVec 32 := 0#32
  let v50 : BitVec 1 := Scalar.cmpi .sgt arg0 c0_i32_26
  let v51 : BitVec 32 := Scalar.extui v50
  let c0_i32_27 : BitVec 32 := 0#32
  let v52 : BitVec 1 := Scalar.cmpi .ne v51 c0_i32_27
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4096x4096 : Shape := ⟨2, ![4096, 4096]⟩
abbrev S4096x2048 : Shape := ⟨2, ![4096, 2048]⟩
abbrev S1024x6144 : Shape := ⟨2, ![1024, 6144]⟩
abbrev S4096x1024 : Shape := ⟨2, ![4096, 1024]⟩
abbrev S1x1024 : Shape := ⟨2, ![1, 1024]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S1024x6144, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x4096, .f32⟩
  | .hbm, ⟨7, _⟩ => ⟨S4096x2048, .f32⟩
  | .hbm, ⟨8, _⟩ => ⟨S4096x6144, .f32⟩
  | .hbm, ⟨9, _⟩ => ⟨S1024x6144, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x6144, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel3.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S8x128 : Shape := ⟨2, ![8, 128]⟩
abbrev S256x2816 : Shape := ⟨2, ![256, 2816]⟩
abbrev S256x1024 : Shape := ⟨2, ![256, 1024]⟩
abbrev S1024x2816 : Shape := ⟨2, ![1024, 2816]⟩
abbrev S256 : Shape := ⟨1, ![256]⟩
abbrev S256x1 : Shape := ⟨2, ![256, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S8x128, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x5632, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x128, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_25 : BitVec 32 := 0#32
  let v49 : BitVec 1 := Scalar.cmpi .ne v48 c0_i32_25
  v49

def k0_cond2 (i : grid0.Coords) : BitVec 1 :=
  let arg0 : BitVec 32 := BitVec.ofNat 32 (i 0).val
  let c0_i32_26 : BitVec 32 := 0#32
  let v50 : BitVec 1 := Scalar.cmpi .sgt arg0 c0_i32_26
  let v51 : BitVec 32 := Scalar.extui v50
  let c0_i32_27 : BitVec 32 := 0#32
  let v52 : BitVec 1 := Scalar.cmpi .ne v51 c0_i32_27
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S8x128 : Shape := ⟨2, ![8, 128]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S8x128, .f32⟩
  | .hbm, ⟨7, _⟩ => ⟨S4096x2816, .f32⟩
  | .hbm, ⟨8, _⟩ => ⟨S4096x2816, .f32⟩
  | .hbm, ⟨9, _⟩ => ⟨S4096x5632, .f32⟩
  | .hbm, ⟨10, _⟩ => ⟨S1024x5632, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel4.lean ====
abbrev S1024x4096 : Shape := ⟨2, ![1024, 4096]⟩
abbrev S4096x2816 : Shape := ⟨2, ![4096, 2816]⟩
abbrev S4x1024x1408 : Shape := ⟨3, ![4, 1024, 1408]⟩
abbrev S1024x2048 : Shape := ⟨2, ![1024, 2048]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S1024x4096, .bf16⟩
  | .hbm, ⟨1, _⟩ => ⟨S4096x2816, .bf16⟩
  | .hbm, ⟨2, _⟩ => ⟨S4096x2816, .bf16⟩
  | .hbm, ⟨3, _⟩ => ⟨S4x1024x1408, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond4 (i : grid0.Coords) : BitVec 1 :=
  let arg2 : BitVec 32 := BitVec.ofNat 32 (i 2).val
  let c1_i32_10 : BitVec 32 := 1#32
  let v21 : BitVec 1 := Scalar.cmpi .eq arg2 c1_i32_10
  let v22 : BitVec 32 := Scalar.extui v21
  let c0_i32_11 : BitVec 32 := 0#32
  let v23 : BitVec 1 := Scalar.cmpi .ne v22 c0_i32_11
  v23

def k0_cond5 (i : grid0.Coords) : BitVec 1 :=
  let arg1 : BitVec 32 := BitVec.ofNat 32 (i 1).val
  let c2_i32_1 : BitVec 32 := 2#32
  let v5 : BitVec 1 := Scalar.cmpi .sge arg1 c2_i32_1
  let c4_i32 : BitVec 32 := 4#32
  let v6 : BitVec 1 := Scalar.cmpi .slt arg1 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond8 (i : grid0.Coords) : BitVec 1 :=
  let arg2 : BitVec 32 := BitVec.ofNat 32 (i 2).val
  let c1_i32_10 : BitVec 32 := 1#32
  let v21 : BitVec 1 := Scalar.cmpi .eq arg2 c1_i32_10
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S1024x4096 : Shape := ⟨2, ![1024, 4096]⟩
abbrev S4096x2816 : Shape := ⟨2, ![4096, 2816]⟩
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 15
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x2816, .bf16⟩
  | .hbm, ⟨2, _⟩ => ⟨S4096x2816, .bf16⟩
  | .hbm, ⟨3, _⟩ => ⟨S4096x1024, .bf16⟩
  | .hbm, ⟨4, _⟩ => ⟨S4096x5632, .bf16⟩
  | .hbm, ⟨5, _⟩ => ⟨S_, .f32⟩
  | .hbm, ⟨6, _⟩ => ⟨S1024x5632, .f32⟩
  | .hbm, ⟨7, _⟩ => ⟨S4096x1024, .f32⟩
  | .hbm, ⟨8, _⟩ => ⟨S4096x5632, .f32⟩
  | .hbm, ⟨9, _⟩ => ⟨S4096x5632, .f32⟩
  | .hbm, ⟨10, _⟩ => ⟨S5632x1024, .f32⟩
  | .hbm, ⟨11, _⟩ => ⟨S1024x5632, .f32⟩
  | .hbm, ⟨12, _⟩ => ⟨S1024x5632, .bf16⟩
  | .hbm, ⟨13, _⟩ => ⟨S1024x4x1408, .bf16⟩
  | .hbm, ⟨14, _⟩ => ⟨S4x1024x1408, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S1024x4096 : Shape := ⟨2, ![1024, 4096]⟩
abbrev S4096x4096 : Shape := ⟨2, ![4096, 4096]⟩
abbrev S4096x2048 : Shape := ⟨2, ![4096, 2048]⟩
abbrev S240x128 : Shape := ⟨2, ![240, 128]⟩
abbrev S4x1024x1536 : Shape := ⟨3, ![4, 1024, 1536]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S4096x2048, .bf16⟩
  | .hbm, ⟨3, _⟩ => ⟨S240x128, .f32⟩
  | .hbm, ⟨4, _⟩ => ⟨S4x1024x1536, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S240x128, .f32⟩
  | .local _ .vmem, ⟨6, _⟩ => ⟨S1x1024x512, .bf16⟩
  | .local _ .vmem, ⟨7, _⟩ => ⟨S1x1024x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![1, 12, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c8_i32 : BitVec 32 := 8#32
  let v1 : BitVec 1 := Scalar.cmpi .slt arg1 c8_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c8_i32_1 : BitVec 32 := 8#32
  let v5 : BitVec 1 := Scalar.cmpi .sge arg1 c8_i32_1
  let c12_i32 : BitVec 32 := 12#32
  let v6 : BitVec 1 := Scalar.cmpi .slt arg1 c12_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg2.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S240x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S1024x4096 : Shape := ⟨2, ![1024, 4096]⟩
abbrev S4096x4096 : Shape := ⟨2, ![4096, 4096]⟩
abbrev S4096x2048 : Shape := ⟨2, ![4096, 2048]⟩
abbrev S240x128 : Shape := ⟨2, ![240, 128]⟩
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 16
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S4096x2048, .bf16⟩
  | .hbm, ⟨3, _⟩ => ⟨S240x128, .f32⟩
  | .hbm, ⟨4, _⟩ => ⟨S4096x1024, .bf16⟩
  | .hbm, ⟨5, _⟩ => ⟨S4096x6144, .bf16⟩
  | .hbm, ⟨6, _⟩ => ⟨S_, .f32⟩
  | .hbm, ⟨7, _⟩ => ⟨S1024x6144, .f32⟩
  | .hbm, ⟨8, _⟩ => ⟨S4096x1024, .f32⟩
  | .hbm, ⟨9, _⟩ => ⟨S4096x6144, .f32⟩
  | .hbm, ⟨10, _⟩ => ⟨S4096x6144, .f32⟩
  | .hbm, ⟨11, _⟩ => ⟨S6144x1024, .f32⟩
  | .hbm, ⟨12, _⟩ => ⟨S1024x6144, .f32⟩
  | .hbm, ⟨13, _⟩ => ⟨S1024x6144, .bf16⟩
  | .hbm, ⟨14, _⟩ => ⟨S1024x4x1536, .bf16⟩
  | .hbm, ⟨15, _⟩ => ⟨S4x1024x1536, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel6.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .f32⟩
  | .local _ .vmem, ⟨4, _⟩ => ⟨S1024x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2816x4096 : Shape := ⟨2, ![2816, 4096]⟩
abbrev S4096x1024 : Shape := ⟨2, ![4096, 1024]⟩
abbrev S2816x1024 : Shape := ⟨2, ![2816, 1024]⟩
abbrev S1408x4096 : Shape := ⟨2, ![1408, 4096]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2816x4096, .bf16⟩
  | .hbm, ⟨1, _⟩ => ⟨S4096x1024, .bf16⟩
  | .hbm, ⟨2, _⟩ => ⟨S2816x1024, .bf16⟩
  | .local _ .vmem, ⟨0, _⟩ => ⟨S1408x4096, .bf16⟩
  | .local _ .vmem, ⟨1, _⟩ => ⟨S1408x4096, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S2816x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2816x4096 : Shape := ⟨2, ![2816, 4096]⟩
abbrev S4096x1024 : Shape := ⟨2, ![4096, 1024]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2816x4096, .bf16⟩
  | .hbm, ⟨1, _⟩ => ⟨S4096x1024, .bf16⟩
  | .hbm, ⟨2, _⟩ => ⟨S4096x2816, .bf16⟩
  | .hbm, ⟨3, _⟩ => ⟨S_, .f32⟩
  | .hbm, ⟨4, _⟩ => ⟨S2816x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S2816x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4096x1024 : Shape := ⟨2, ![4096, 1024]⟩
abbrev S1024x6144 : Shape := ⟨2, ![1024, 6144]⟩
abbrev S8x128 : Shape := ⟨2, ![8, 128]⟩
abbrev S4096x6144 : Shape := ⟨2, ![4096, 6144]⟩
abbrev S1024x1024 : Shape := ⟨2, ![1024, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S8x128, .f32⟩
  | .hbm, ⟨3, _⟩ => ⟨S4096x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1024x2048, .bf16⟩
  | .local _ .vmem, ⟨6, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x1024 : Shape := ⟨2, ![4096, 1024]⟩
abbrev S1024x6144 : Shape := ⟨2, ![1024, 6144]⟩
abbrev S8x128 : Shape := ⟨2, ![8, 128]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S8x128, .f32⟩
  | .hbm, ⟨3, _⟩ => ⟨S4096x1024, .f32⟩
  | .hbm, ⟨4, _⟩ => ⟨S1024x6144, .f32⟩
  | .hbm, ⟨5, _⟩ => ⟨S4096x6144, .f32⟩
  | .hbm, ⟨6, _⟩ => ⟨S4096x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x4096 : Shape := ⟨2, ![2048, 4096]⟩
abbrev S4096x1024 : Shape := ⟨2, ![4096, 1024]⟩
abbrev S2048x1024 : Shape := ⟨2, ![2048, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x4096 : Shape := ⟨2, ![2048, 4096]⟩
abbrev S4096x1024 : Shape := ⟨2, ![4096, 1024]⟩
abbrev S4096x2048 : Shape := ⟨2, ![4096, 2048]⟩
abbrev S_ : Shape := ⟨0, ![]⟩
abbrev S2048x1024 : Shape := ⟨2, ![2048, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S4096x2048, .bf16⟩
  | .hbm, ⟨3, _⟩ => ⟨S_, .f32⟩
  | .hbm, ⟨4, _⟩ => ⟨S2048x1024, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x4096 : Shape := ⟨2, ![1024, 4096]⟩
abbrev S512x2816 : Shape := ⟨2, ![512, 2816]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1024x4096, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .bf16⟩
  | .hbm, ⟨25, _⟩ => ⟨S1024x4096, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel13.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S1024x4096 : Shape := ⟨2, ![1024, 4096]⟩
abbrev S512x2048 : Shape := ⟨2, ![512, 2048]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1024x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .bf16⟩
  | .hbm, ⟨25, _⟩ => ⟨S1024x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x1024, .bf16⟩
  | .hbm, ⟨24, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel15.lean ====
abbrev S4096x2816 : Shape := ⟨2, ![4096, 2816]⟩
abbrev S2816x1024 : Shape := ⟨2, ![2816, 1024]⟩
abbrev S4096x1024 : Shape := ⟨2, ![4096, 1024]⟩
abbrev S8x128 : Shape := ⟨2, ![8, 128]⟩
abbrev S512x2816 : Shape := ⟨2, ![512, 2816]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S1x1 : Shape := ⟨2, ![1, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v25 : BitVec 32 := Scalar.extui v24
  let c0_i32_17 : BitVec 32 := 0#32
  let v26 : BitVec 1 := Scalar.cmpi .ne v25 c0_i32_17
  v26

def k0_cond2 (i : grid0.Coords) : BitVec 1 :=
  let arg0 : BitVec 32 := BitVec.ofNat 32 (i 0).val
  let c0_i32_18 : BitVec 32 := 0#32
  let v27 : BitVec 1 := Scalar.cmpi .sgt arg0 c0_i32_18
  let v28 : BitVec 32 := Scalar.extui v27
  let c0_i32_19 : BitVec 32 := 0#32
  let v29 : BitVec 1 := Scalar.cmpi .ne v28 c0_i32_19
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S8x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel16.lean ====
abbrev S4096x1024 : Shape := ⟨2, ![4096, 1024]⟩
abbrev S1024x768 : Shape := ⟨2, ![1024, 768]⟩
abbrev S4096x768 : Shape := ⟨2, ![4096, 768]⟩
abbrev S2048x1024 : Shape := ⟨2, ![2048, 1024]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x768, .bf16⟩
  | .hbm, ⟨2, _⟩ => ⟨S4096x768, .f32⟩
  | .local _ .vmem, ⟨0, _⟩ => ⟨S2048x1024, .bf16⟩
  | .local _ .vmem, ⟨1, _⟩ => ⟨S2048x1024, .bf16⟩
  | .local _ .vmem, ⟨2, _⟩ => ⟨S1024x768, .bf16⟩
  | .local _ .vmem, ⟨3, _⟩ => ⟨S2048x768, .f32⟩
  | .local _ .vmem, ⟨4, _⟩ => ⟨S2048x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x768 : Shape := ⟨2, ![1024, 768]⟩
abbrev S4096x768 : Shape := ⟨2, ![4096, 768]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x768, .bf16⟩
  | .hbm, ⟨2, _⟩ => ⟨S4096x1024, .f32⟩
  | .hbm, ⟨3, _⟩ => ⟨S1024x768, .f32⟩
  | .hbm, ⟨4, _⟩ => ⟨S4096x768, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x384 : Shape := ⟨2, ![4096, 384]⟩
abbrev S384x2048 : Shape := ⟨2, ![384, 2048]⟩
abbrev S4096x2048 : Shape := ⟨2, ![4096, 2048]⟩
abbrev S2048x384 : Shape := ⟨2, ![2048, 384]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x384, .bf16⟩
  | .hbm, ⟨1, _⟩ => ⟨S384x2048, .bf16⟩
  | .hbm, ⟨2, _⟩ => ⟨S4096x2048, .bf16⟩
  | .local _ .vmem, ⟨0, _⟩ => ⟨S2048x384, .bf16⟩
  | .local _ .vmem, ⟨1, _⟩ => ⟨S2048x384, .bf16⟩
  | .local _ .vmem, ⟨2, _⟩ => ⟨S384x2048, .bf16⟩
  | .local _ .vmem, ⟨3, _⟩ => ⟨S2048x2048, .bf16⟩
  | .local _ .vmem, ⟨4, _⟩ => ⟨S2048x2048, .bf16⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x384 : Shape := ⟨2, ![4096, 384]⟩
abbrev S384x2048 : Shape := ⟨2, ![384, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S384x2048, .bf16⟩
  | .hbm, ⟨2, _⟩ => ⟨S4096x384, .f32⟩
  | .hbm, ⟨3, _⟩ => ⟨S384x2048, .f32⟩
  | .hbm, ⟨4, _⟩ => ⟨S4096x2048, .f32⟩
  | .hbm, ⟨5, _⟩ => ⟨S4096x2048, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4096x256 : Shape := ⟨2, ![4096, 256]⟩
abbrev S256x2048 : Shape := ⟨2, ![256, 2048]⟩
abbrev S4096x2048 : Shape := ⟨2, ![4096, 2048]⟩
abbrev S2048x256 : Shape := ⟨2, ![2048, 256]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x2048, .bf16⟩
  | .local _ .vmem, ⟨0, _⟩ => ⟨S2048x256, .bf16⟩
  | .local _ .vmem, ⟨1, _⟩ => ⟨S2048x256, .bf16⟩
  | .local _ .vmem, ⟨2, _⟩ => ⟨S256x2048, .bf16⟩
  | .local _ .vmem, ⟨3, _⟩ => ⟨S2048x2048, .bf16⟩
  | .local _ .vmem, ⟨4, _⟩ => ⟨S2048x2048, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x256, .f32⟩
  | .hbm, ⟨3, _⟩ => ⟨S256x2048, .f32⟩
  | .hbm, ⟨4, _⟩ => ⟨S4096x2048, .f32⟩
  | .hbm, ⟨5, _⟩ => ⟨S4096x2048, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S4096x2048 : Shape := ⟨2, ![4096, 2048]⟩
abbrev S384x2048 : Shape := ⟨2, ![384, 2048]⟩
abbrev S4096x384 : Shape := ⟨2, ![4096, 384]⟩
abbrev S2048x2048 : Shape := ⟨2, ![2048, 2048]⟩
abbrev S2048x384 : Shape := ⟨2, ![2048, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S384x2048, .bf16⟩
  | .hbm, ⟨2, _⟩ => ⟨S4096x384, .f32⟩
  | .local _ .vmem, ⟨0, _⟩ => ⟨S2048x2048, .bf16⟩
  | .local _ .vmem, ⟨1, _⟩ => ⟨S2048x2048, .bf16⟩
  | .local _ .vmem, ⟨2, _⟩ => ⟨S384x2048, .bf16⟩
  | .local _ .vmem, ⟨3, _⟩ => ⟨S2048x384, .f32⟩
  | .local _ .vmem, ⟨4, _⟩ => ⟨S2048x384, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x2048 : Shape := ⟨2, ![4096, 2048]⟩
abbrev S384x2048 : Shape := ⟨2, ![384, 2048]⟩
abbrev S_ : Shape := ⟨0, ![]⟩
abbrev S4096x384 : Shape := ⟨2, ![4096, 384]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S384x2048, .bf16⟩
  | .hbm, ⟨2, _⟩ => ⟨S_, .f32⟩
  | .hbm, ⟨3, _⟩ => ⟨S4096x384, .f32⟩
  | .hbm, ⟨4, _⟩ => ⟨S384x2048, .f32⟩
  | .hbm, ⟨5, _⟩ => ⟨S4096x2048, .f32⟩
  | .hbm, ⟨6, _⟩ => ⟨S4096x2048, .f32⟩
  | .hbm, ⟨7, _⟩ => ⟨S4096x384, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S4096x2048 : Shape := ⟨2, ![4096, 2048]⟩
abbrev S256x2048 : Shape := ⟨2, ![256, 2048]⟩
abbrev S4096x256 : Shape := ⟨2, ![4096, 256]⟩
abbrev S2048x2048 : Shape := ⟨2, ![2048, 2048]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S4096x256, .f32⟩
  | .local _ .vmem, ⟨0, _⟩ => ⟨S2048x2048, .bf16⟩
  | .local _ .vmem, ⟨1, _⟩ => ⟨S2048x2048, .bf16⟩
  | .local _ .vmem, ⟨2, _⟩ => ⟨S256x2048, .bf16⟩
  | .local _ .vmem, ⟨3, _⟩ => ⟨S2048x256, .f32⟩
  | .local _ .vmem, ⟨4, _⟩ => ⟨S2048x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x2048 : Shape := ⟨2, ![4096, 2048]⟩
abbrev S256x2048 : Shape := ⟨2, ![256, 2048]⟩
abbrev S_ : Shape := ⟨0, ![]⟩
abbrev S4096x256 : Shape := ⟨2, ![4096, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S_, .f32⟩
  | .hbm, ⟨3, _⟩ => ⟨S4096x256, .f32⟩
  | .hbm, ⟨4, _⟩ => ⟨S256x2048, .f32⟩
  | .hbm, ⟨5, _⟩ => ⟨S4096x2048, .f32⟩
  | .hbm, ⟨6, _⟩ => ⟨S4096x2048, .f32⟩
  | .hbm, ⟨7, _⟩ => ⟨S4096x256, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S4096x384 : Shape := ⟨2, ![4096, 384]⟩
abbrev S4096x2048 : Shape := ⟨2, ![4096, 2048]⟩
abbrev S384x2048 : Shape := ⟨2, ![384, 2048]⟩
abbrev S1024x384 : Shape := ⟨2, ![1024, 384]⟩
abbrev S1024x1024 : Shape := ⟨2, ![1024, 1024]⟩
abbrev S384x1024 : Shape := ⟨2, ![384, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x384, .bf16⟩
  | .hbm, ⟨1, _⟩ => ⟨S4096x2048, .bf16⟩
  | .hbm, ⟨2, _⟩ => ⟨S384x2048, .bf16⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x384 : Shape := ⟨2, ![4096, 384]⟩
abbrev S4096x2048 : Shape := ⟨2, ![4096, 2048]⟩
abbrev S_ : Shape := ⟨0, ![]⟩
abbrev S384x2048 : Shape := ⟨2, ![384, 2048]⟩
abbrev S2048x384 : Shape := ⟨2, ![2048, 384]⟩

abbrev nBuf : Space → Nat
  | .hbm => 10
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x2048, .bf16⟩
  | .hbm, ⟨2, _⟩ => ⟨S_, .f32⟩
  | .hbm, ⟨3, _⟩ => ⟨S384x2048, .f32⟩
  | .hbm, ⟨4, _⟩ => ⟨S4096x384, .f32⟩
  | .hbm, ⟨5, _⟩ => ⟨S4096x2048, .f32⟩
  | .hbm, ⟨6, _⟩ => ⟨S4096x2048, .f32⟩
  | .hbm, ⟨7, _⟩ => ⟨S2048x384, .f32⟩
  | .hbm, ⟨8, _⟩ => ⟨S384x2048, .f32⟩
  | .hbm, ⟨9, _⟩ => ⟨S384x2048, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S4096x256 : Shape := ⟨2, ![4096, 256]⟩
abbrev S4096x2048 : Shape := ⟨2, ![4096, 2048]⟩
abbrev S4x256x512 : Shape := ⟨3, ![4, 256, 512]⟩
abbrev S1024x256 : Shape := ⟨2, ![1024, 256]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S4x256x512, .bf16⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S1x256x512, .bf16⟩
  | .local _ .vmem, ⟨5, _⟩ => ⟨S1x256x512, .bf16⟩
  | .local _ .vmem, ⟨6, _⟩ => ⟨S256x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩
abbrev S256x4x512 : Shape := ⟨3, ![256, 4, 512]⟩
abbrev S4x256x512 : Shape := ⟨3, ![4, 256, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S_, .f32⟩
  | .hbm, ⟨3, _⟩ => ⟨S256x2048, .f32⟩
  | .hbm, ⟨4, _⟩ => ⟨S4096x256, .f32⟩
  | .hbm, ⟨5, _⟩ => ⟨S4096x2048, .f32⟩
  | .hbm, ⟨6, _⟩ => ⟨S4096x2048, .f32⟩
  | .hbm, ⟨7, _⟩ => ⟨S2048x256, .f32⟩
  | .hbm, ⟨8, _⟩ => ⟨S256x2048, .f32⟩
  | .hbm, ⟨9, _⟩ => ⟨S256x2048, .bf16⟩
  | .hbm, ⟨10, _⟩ => ⟨S256x4x512, .bf16⟩
  | .hbm, ⟨11, _⟩ => ⟨S4x256x512, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel25.lean ====
abbrev S4096x1024 : Shape := ⟨2, ![4096, 1024]⟩
abbrev S4096x768 : Shape := ⟨2, ![4096, 768]⟩
abbrev S1024x768 : Shape := ⟨2, ![1024, 768]⟩
abbrev S1024x512 : Shape := ⟨2, ![1024, 512]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S1024x768, .bf16⟩
  | .local _ .vmem, ⟨0, _⟩ => ⟨S1024x512, .bf16⟩
  | .local _ .vmem, ⟨1, _⟩ => ⟨S1024x512, .bf16⟩
  | .local _ .vmem, ⟨2, _⟩ => ⟨S1024x768, .bf16⟩
  | .local _ .vmem, ⟨3, _⟩ => ⟨S1024x768, .bf16⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x1024 : Shape := ⟨2, ![4096, 1024]⟩
abbrev S4096x768 : Shape := ⟨2, ![4096, 768]⟩
abbrev S_ : Shape := ⟨0, ![]⟩
abbrev S1024x768 : Shape := ⟨2, ![1024, 768]⟩
abbrev S768x1024 : Shape := ⟨2, ![768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S_, .f32⟩
  | .hbm, ⟨3, _⟩ => ⟨S1024x768, .f32⟩
  | .hbm, ⟨4, _⟩ => ⟨S4096x1024, .f32⟩
  | .hbm, ⟨5, _⟩ => ⟨S4096x768, .f32⟩
  | .hbm, ⟨6, _⟩ => ⟨S4096x768, .f32⟩
  | .hbm, ⟨7, _⟩ => ⟨S768x1024, .f32⟩
  | .hbm, ⟨8, _⟩ => ⟨S1024x768, .f32⟩
  | .hbm, ⟨9, _⟩ => ⟨S1024x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel26.lean ====
abbrev S4096x768 : Shape := ⟨2, ![4096, 768]⟩
abbrev S1024x768 : Shape := ⟨2, ![1024, 768]⟩
abbrev S4096x1024 : Shape := ⟨2, ![4096, 1024]⟩
abbrev S1x1024 : Shape := ⟨2, ![1, 1024]⟩
abbrev S8x128 : Shape := ⟨2, ![8, 128]⟩
abbrev S512x768 : Shape := ⟨2, ![512, 768]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x768, .bf16⟩
  | .hbm, ⟨1, _⟩ => ⟨S1024x768, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x128, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_21 : BitVec 32 := 0#32
  let v45 : BitVec 1 := Scalar.cmpi .ne v44 c0_i32_21
  v45

def k0_cond2 (i : grid0.Coords) : BitVec 1 :=
  let arg0 : BitVec 32 := BitVec.ofNat 32 (i 0).val
  let c0_i32_22 : BitVec 32 := 0#32
  let v46 : BitVec 1 := Scalar.cmpi .sgt arg0 c0_i32_22
  let v47 : BitVec 32 := Scalar.extui v46
  let c0_i32_23 : BitVec 32 := 0#32
  let v48 : BitVec 1 := Scalar.cmpi .ne v47 c0_i32_23
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference26Ideal.lean ====
abbrev S4096x768 : Shape := ⟨2, ![4096, 768]⟩
abbrev S1024x768 : Shape := ⟨2, ![1024, 768]⟩
abbrev S4096x1024 : Shape := ⟨2, ![4096, 1024]⟩
abbrev S1x1024 : Shape := ⟨2, ![1, 1024]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S1024x768, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x128, .f32⟩
  | .hbm, ⟨6, _⟩ => ⟨S1024x768, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x768, .f32⟩
  | .hbm, ⟨27, _⟩ => ⟨S4096x768, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel27.lean ====
abbrev S256x704 : Shape := ⟨2, ![256, 704]⟩

abbrev nBuf : Space → Nat
  | .hbm => 7
  | .vmem => 7
  | .smem => 0
  | _ => 0

abbrev bufTy : (tb : Table) → Fin (tcTables nBuf tb) → BufTy
  | .hbm, ⟨0, _⟩ => ⟨S256x704, .f32⟩
  | .hbm, ⟨1, _⟩ => ⟨S256x704, .f32⟩
  | .hbm, ⟨2, _⟩ => ⟨S256x704, .f32⟩
  | .hbm, ⟨3, _⟩ => ⟨S256x704, .f32⟩
  | .hbm, ⟨4, _⟩ => ⟨S256x704, .f32⟩
  | .hbm, ⟨5, _⟩ => ⟨S256x704, .f32⟩
  | .hbm, ⟨6, _⟩ => ⟨S256x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | _, _ => ⟨S256x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S256x704 : Shape := ⟨2, ![256, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x704, .f32⟩
  | .hbm, ⟨1, _⟩ => ⟨S256x704, .f32⟩
  | .hbm, ⟨2, _⟩ => ⟨S256x704, .f32⟩
  | .hbm, ⟨3, _⟩ => ⟨S256x704, .f32⟩
  | .hbm, ⟨4, _⟩ => ⟨S_, .f32⟩
  | .hbm, ⟨5, _⟩ => ⟨S256x704, .f32⟩
  | .hbm, ⟨6, _⟩ => ⟨S256x704, .f32⟩
  | .hbm, ⟨7, _⟩ => ⟨S_, .f32⟩
  | .hbm, ⟨8, _⟩ => ⟨S256x704, .f32⟩
  | .hbm, ⟨9, _⟩ => ⟨S256x704, .f32⟩
  | .hbm, ⟨10, _⟩ => ⟨S256x704, .f32⟩
  | .hbm, ⟨11, _⟩ => ⟨S_, .f32⟩
  | .hbm, ⟨12, _⟩ => ⟨S256x704, .f32⟩
  | .hbm, ⟨13, _⟩ => ⟨S256x704, .f32⟩
  | .hbm, ⟨14, _⟩ => ⟨S256x704, .f32⟩
  | .hbm, ⟨15, _⟩ => ⟨S_, .f32⟩
  | .hbm, ⟨16, _⟩ => ⟨S256x704, .f32⟩
  | .hbm, ⟨17, _⟩ => ⟨S256x704, .f32⟩
  | .hbm, ⟨18, _⟩ => ⟨S256x704, .f32⟩
  | .hbm, ⟨19, _⟩ => ⟨S_, .f32⟩
  | .hbm, ⟨20, _⟩ => ⟨S256x704, .f32⟩
  | .hbm, ⟨21, _⟩ => ⟨S256x704, .f32⟩
  | .hbm, ⟨22, _⟩ => ⟨S_, .f32⟩
  | .hbm, ⟨23, _⟩ => ⟨S256x704, .f32⟩
  | .hbm, ⟨24, _⟩ => ⟨S256x704, .f32⟩
  | .hbm, ⟨25, _⟩ => ⟨S256x704, .f32⟩
  | .hbm, ⟨26, _⟩ => ⟨S_, .f32⟩
  | .hbm, ⟨27, _⟩ => ⟨S256x704, .f32⟩
  | .hbm, ⟨28, _⟩ => ⟨S256x704, .f32⟩
  | .hbm, ⟨29, _⟩ => ⟨S256x704, .f32⟩
  | .hbm, ⟨30, _⟩ => ⟨S_, .f32⟩
  | .hbm, ⟨31, _⟩ => ⟨S256x704, .f32⟩
  | .hbm, ⟨32, _⟩ => ⟨S256x704, .f32⟩
  | .hbm, ⟨33, _⟩ => ⟨S256x704, .f32⟩
  | .hbm, ⟨34, _⟩ => ⟨S_, .f32⟩
  | .hbm, ⟨35, _⟩ => ⟨S256x704, .f32⟩
  | .hbm, ⟨36, _⟩ => ⟨S256x704, .f32⟩
  | _, _ => ⟨S256x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S384x384 : Shape := ⟨2, ![384, 384]⟩

abbrev nBuf : Space → Nat
  | .hbm => 7
  | .vmem => 7
  | .smem => 0
  | _ => 0

abbrev bufTy : (tb : Table) → Fin (tcTables nBuf tb) → BufTy
  | .hbm, ⟨0, _⟩ => ⟨S384x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S384x384, .f32⟩
  | .hbm, ⟨5, _⟩ => ⟨S384x384, .f32⟩
  | .hbm, ⟨6, _⟩ => ⟨S384x384, .f32⟩
  | .local _ .vmem, ⟨0, _⟩ => ⟨S384x384, .f32⟩
  | .local _ .vmem, ⟨1, _⟩ => ⟨S384x384, .f32⟩
  | .local _ .vmem, ⟨2, _⟩ => ⟨S384x384, .f32⟩
  | .local _ .vmem, ⟨3, _⟩ => ⟨S384x384, .f32⟩
  | .local _ .vmem, ⟨4, _⟩ => ⟨S384x384, .f32⟩
  | .local _ .vmem, ⟨5, _⟩ => ⟨S384x384, .f32⟩
  | .local _ .vmem, ⟨6, _⟩ => ⟨S384x384, .f32⟩
  | _, _ => ⟨S384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S384x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S384x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S384x384 : Shape := ⟨2, ![384, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S384x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S_, .f32⟩
  | .hbm, ⟨5, _⟩ => ⟨S384x384, .f32⟩
  | .hbm, ⟨6, _⟩ => ⟨S384x384, .f32⟩
  | .hbm, ⟨7, _⟩ => ⟨S_, .f32⟩
  | .hbm, ⟨8, _⟩ => ⟨S384x384, .f32⟩
  | .hbm, ⟨9, _⟩ => ⟨S384x384, .f32⟩
  | .hbm, ⟨10, _⟩ => ⟨S384x384, .f32⟩
  | .hbm, ⟨11, _⟩ => ⟨S_, .f32⟩
  | .hbm, ⟨12, _⟩ => ⟨S384x384, .f32⟩
  | .hbm, ⟨13, _⟩ => ⟨S384x384, .f32⟩
  | .hbm, ⟨14, _⟩ => ⟨S384x384, .f32⟩
  | .hbm, ⟨15, _⟩ => ⟨S_, .f32⟩
  | .hbm, ⟨16, _⟩ => ⟨S384x384, .f32⟩
  | .hbm, ⟨17, _⟩ => ⟨S384x384, .f32⟩
  | .hbm, ⟨18, _⟩ => ⟨S384x384, .f32⟩
  | .hbm, ⟨19, _⟩ => ⟨S_, .f32⟩
  | .hbm, ⟨20, _⟩ => ⟨S384x384, .f32⟩
  | .hbm, ⟨21, _⟩ => ⟨S384x384, .f32⟩
  | .hbm, ⟨22, _⟩ => ⟨S_, .f32⟩
  | .hbm, ⟨23, _⟩ => ⟨S384x384, .f32⟩
  | .hbm, ⟨24, _⟩ => ⟨S384x384, .f32⟩
  | .hbm, ⟨25, _⟩ => ⟨S384x384, .f32⟩
  | .hbm, ⟨26, _⟩ => ⟨S_, .f32⟩
  | .hbm, ⟨27, _⟩ => ⟨S384x384, .f32⟩
  | .hbm, ⟨28, _⟩ => ⟨S384x384, .f32⟩
  | .hbm, ⟨29, _⟩ => ⟨S384x384, .f32⟩
  | .hbm, ⟨30, _⟩ => ⟨S_, .f32⟩
  | .hbm, ⟨31, _⟩ => ⟨S384x384, .f32⟩
  | .hbm, ⟨32, _⟩ => ⟨S384x384, .f32⟩
  | .hbm, ⟨33, _⟩ => ⟨S384x384, .f32⟩
  | .hbm, ⟨34, _⟩ => ⟨S_, .f32⟩
  | .hbm, ⟨35, _⟩ => ⟨S384x384, .f32⟩
  | .hbm, ⟨36, _⟩ => ⟨S384x384, .f32⟩
  | _, _ => ⟨S384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference33Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference34Ideal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S112x128 : Shape := ⟨2, ![112, 128]⟩

abbrev nBuf : Space → Nat
  | .hbm => 7
  | .vmem => 7
  | .smem => 0
  | _ => 0

abbrev bufTy : (tb : Table) → Fin (tcTables nBuf tb) → BufTy
  | .hbm, ⟨0, _⟩ => ⟨S112x128, .f32⟩
  | .hbm, ⟨1, _⟩ => ⟨S112x128, .f32⟩
  | .hbm, ⟨2, _⟩ => ⟨S112x128, .f32⟩
  | .hbm, ⟨3, _⟩ => ⟨S112x128, .f32⟩
  | .hbm, ⟨4, _⟩ => ⟨S112x128, .f32⟩
  | .hbm, ⟨5, _⟩ => ⟨S112x128, .f32⟩
  | .hbm, ⟨6, _⟩ => ⟨S112x128, .f32⟩
  | .local _ .vmem, ⟨0, _⟩ => ⟨S112x128, .f32⟩
  | .local _ .vmem, ⟨1, _⟩ => ⟨S112x128, .f32⟩
  | .local _ .vmem, ⟨2, _⟩ => ⟨S112x128, .f32⟩
  | .local _ .vmem, ⟨3, _⟩ => ⟨S112x128, .f32⟩
  | .local _ .vmem, ⟨4, _⟩ => ⟨S112x128, .f32⟩
  | .local _ .vmem, ⟨5, _⟩ => ⟨S112x128, .f32⟩
  | .local _ .vmem, ⟨6, _⟩ => ⟨S112x128, .f32⟩
  | _, _ => ⟨S112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S112x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference35Ideal.lean ====
abbrev S112x128 : Shape := ⟨2, ![112, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S112x128, .f32⟩
  | .hbm, ⟨1, _⟩ => ⟨S112x128, .f32⟩
  | .hbm, ⟨2, _⟩ => ⟨S112x128, .f32⟩
  | .hbm, ⟨3, _⟩ => ⟨S112x128, .f32⟩
  | .hbm, ⟨4, _⟩ => ⟨S_, .f32⟩
  | .hbm, ⟨5, _⟩ => ⟨S112x128, .f32⟩
  | .hbm, ⟨6, _⟩ => ⟨S112x128, .f32⟩
  | .hbm, ⟨7, _⟩ => ⟨S_, .f32⟩
  | .hbm, ⟨8, _⟩ => ⟨S112x128, .f32⟩
  | .hbm, ⟨9, _⟩ => ⟨S112x128, .f32⟩
  | .hbm, ⟨10, _⟩ => ⟨S112x128, .f32⟩
  | .hbm, ⟨11, _⟩ => ⟨S_, .f32⟩
  | .hbm, ⟨12, _⟩ => ⟨S112x128, .f32⟩
  | .hbm, ⟨13, _⟩ => ⟨S112x128, .f32⟩
  | .hbm, ⟨14, _⟩ => ⟨S112x128, .f32⟩
  | .hbm, ⟨15, _⟩ => ⟨S_, .f32⟩
  | .hbm, ⟨16, _⟩ => ⟨S112x128, .f32⟩
  | .hbm, ⟨17, _⟩ => ⟨S112x128, .f32⟩
  | .hbm, ⟨18, _⟩ => ⟨S112x128, .f32⟩
  | .hbm, ⟨19, _⟩ => ⟨S_, .f32⟩
  | .hbm, ⟨20, _⟩ => ⟨S112x128, .f32⟩
  | .hbm, ⟨21, _⟩ => ⟨S112x128, .f32⟩
  | .hbm, ⟨22, _⟩ => ⟨S_, .f32⟩
  | .hbm, ⟨23, _⟩ => ⟨S112x128, .f32⟩
  | .hbm, ⟨24, _⟩ => ⟨S112x128, .f32⟩
  | .hbm, ⟨25, _⟩ => ⟨S112x128, .f32⟩
  | .hbm, ⟨26, _⟩ => ⟨S_, .f32⟩
  | .hbm, ⟨27, _⟩ => ⟨S112x128, .f32⟩
  | .hbm, ⟨28, _⟩ => ⟨S112x128, .f32⟩
  | .hbm, ⟨29, _⟩ => ⟨S112x128, .f32⟩
  | .hbm, ⟨30, _⟩ => ⟨S_, .f32⟩
  | .hbm, ⟨31, _⟩ => ⟨S112x128, .f32⟩
  | .hbm, ⟨32, _⟩ => ⟨S112x128, .f32⟩
  | .hbm, ⟨33, _⟩ => ⟨S112x128, .f32⟩
  | .hbm, ⟨34, _⟩ => ⟨S_, .f32⟩
  | .hbm, ⟨35, _⟩ => ⟨S112x128, .f32⟩
  | .hbm, ⟨36, _⟩ => ⟨S112x128, .f32⟩
  | _, _ => ⟨S112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S4096x1024 : Shape := ⟨2, ![4096, 1024]⟩
abbrev S4096x2048 : Shape := ⟨2, ![4096, 2048]⟩
abbrev S4 : Shape := ⟨1, ![4]⟩
abbrev S_ : Shape := ⟨0, ![]⟩
abbrev S4x1x1 : Shape := ⟨3, ![4, 1, 1]⟩
abbrev S4x8x128 : Shape := ⟨3, ![4, 8, 128]⟩
abbrev S1x8x128 : Shape := ⟨3, ![1, 8, 128]⟩
abbrev S2048x256 : Shape := ⟨2, ![2048, 256]⟩
abbrev S2048x512 : Shape := ⟨2, ![2048, 512]⟩
abbrev S512x512 : Shape := ⟨2, ![512, 512]⟩
abbrev S1x1x1 : Shape := ⟨3, ![1, 1, 1]⟩
abbrev S1x1 : Shape := ⟨2, ![1, 1]⟩
abbrev S512x256 : Shape := ⟨2, ![512, 256]⟩
abbrev S1x1024 : Shape := ⟨2, ![1, 1024]⟩
abbrev S1024x256 : Shape := ⟨2, ![1024, 256]⟩
abbrev S512x1024 : Shape := ⟨2, ![512, 1024]⟩
abbrev S1024x512 : Shape := ⟨2, ![1024, 512]⟩
abbrev S1x512 : Shape := ⟨2, ![1, 512]⟩

abbrev nBuf : Space → Nat
  | .hbm => 16
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4x1x1, .f32⟩
  | .hbm, ⟨14, _⟩ => ⟨S4x8x128, .f32⟩
  | .hbm, ⟨15, _⟩ => ⟨S4096x2048, .f32⟩
  | .local _ .vmem, ⟨0, _⟩ => ⟨S1x8x128, .f32⟩
  | .local _ .vmem, ⟨1, _⟩ => ⟨S1x8x128, .f32⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | .local _ .vmem, ⟨9, _⟩ => ⟨S2048x512, .f32⟩
  | .local _ .vmem, ⟨10, _⟩ => ⟨S2048x256, .bf16⟩
  | .local _ .vmem, ⟨11, _⟩ => ⟨S512x512, .f32⟩
  | .local _ .vmem, ⟨12, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_24 : BitVec 32 := 0#32
  let c4_i32 : BitVec 32 := 4#32
  let v94 : BitVec 32 := Scalar.addi c0_i32_24 c4_i32
  let c1_i32_25 : BitVec 32 := 1#32
  ⟨c0_i32_24, v94, c1_i32_25⟩
def k0_mult1 (k0_t1 : Fin k0_t1_loop.trips) : BitVec 32 :=
  let c0_i32_24 : BitVec 32 := 0#32
  let c1_i32_25 : BitVec 32 := 1#32
  let arg10 : BitVec 32 := Scf.iv c0_i32_24 c1_i32_25 k0_t1
  let c512_i32_27 : BitVec 32 := 512#32
  let v95 : BitVec 32 := Scalar.muli arg10 c512_i32_27
  v95
def k0_off1 (k0_t1 : Fin k0_t1_loop.trips) : Fin 2 → Nat :=
  let c0_i32_24 : BitVec 32 := 0#32
  let c1_i32_25 : BitVec 32 := 1#32
  let arg10 : BitVec 32 := Scf.iv c0_i32_24 c1_i32_25 k0_t1
  let c512_i32_27 : BitVec 32 := 512#32
  let v95 : BitVec 32 := Scalar.muli arg10 c512_i32_27
  let v96 : BitVec 32 := v95
  let v97 : Index := Scalar.indexCast v96
  let c0_28 : Index := 0#32
  ![v97.toNat, 0]
def k0_off2 (k0_t1 : Fin k0_t1_loop.trips) : Fin 2 → Nat :=
  let c0_i32_24 : BitVec 32 := 0#32
  let c1_i32_25 : BitVec 32 := 1#32
  let arg10 : BitVec 32 := Scf.iv c0_i32_24 c1_i32_25 k0_t1
  let c512_i32_27 : BitVec 32 := 512#32
  let v95 : BitVec 32 := Scalar.muli arg10 c512_i32_27
  let v96 : BitVec 32 := v95
  let v128 : Index := Scalar.indexCast v96
  let c0_39 : Index := 0#32
  ![v128.toNat, 0]
def k0_cond1 (k0_t1 : Fin k0_t1_loop.trips) : BitVec 1 :=
  let c0_i32_24 : BitVec 32 := 0#32
  let c1_i32_25 : BitVec 32 := 1#32
  let arg10 : BitVec 32 := Scf.iv c0_i32_24 c1_i32_25 k0_t1
  let c2_i32 : BitVec 32 := 2#32
  let v135 : BitVec 32 := Scalar.andi arg10 c2_i32
  let c0_i32_43 : BitVec 32 := 0#32
  let v136 : BitVec 1 := Scalar.cmpi .ne v135 c0_i32_43
  let v137 : BitVec 32 := Scalar.extui v136
  let c0_i32_44 : BitVec 32 := 0#32
  let v138 : BitVec 1 := Scalar.cmpi .ne v137 c0_i32_44
  v138

def k0_mult2 (k0_t1 : Fin k0_t1_loop.trips) : BitVec 32 :=
  let c0_i32_24 : BitVec 32 := 0#32
  let c1_i32_25 : BitVec 32 := 1#32
  let arg10 : BitVec 32 := Scf.iv c0_i32_24 c1_i32_25 k0_t1
  let c_m4_i32 : BitVec 32 := 4294967292#32
  let v146 : BitVec 32 := Scalar.andi arg10 c_m4_i32
  let c512_i32_51 : BitVec 32 := 512#32
  let v147 : BitVec 32 := Scalar.muli v146 c512_i32_51
  v147
def k0_off3 (k0_t1 : Fin k0_t1_loop.trips) : Fin 2 → Nat :=
  let c0_i32_24 : BitVec 32 := 0#32
  let c1_i32_25 : BitVec 32 := 1#32
  let arg10 : BitVec 32 := Scf.iv c0_i32_24 c1_i32_25 k0_t1
  let c_m4_i32 : BitVec 32 := 4294967292#32
  let v146 : BitVec 32 := Scalar.andi arg10 c_m4_i32
  let c512_i32_51 : BitVec 32 := 512#32
  let v147 : BitVec 32 := Scalar.muli v146 c512_i32_51
  let v148 : BitVec 32 := v147
  let v177 : Index := Scalar.indexCast v148
  let c0_59 : Index := 0#32
  ![v177.toNat, 0]
def k0_off4 (k0_t1 : Fin k0_t1_loop.trips) : Fin 2 → Nat :=
  let c0_i32_24 : BitVec 32 := 0#32
  let c1_i32_25 : BitVec 32 := 1#32
  let arg10 : BitVec 32 := Scf.iv c0_i32_24 c1_i32_25 k0_t1
  let c_m4_i32 : BitVec 32 := 4294967292#32
  let v146 : BitVec 32 := Scalar.andi arg10 c_m4_i32
  let c512_i32_51 : BitVec 32 := 512#32
  let v147 : BitVec 32 := Scalar.muli v146 c512_i32_51
  let v148 : BitVec 32 := v147
  let v193 : Index := Scalar.indexCast v148
  let c0_66 : Index := 0#32
  ![v193.toNat, 0]
def k0_cond2 (k0_t1 : Fin k0_t1_loop.trips) : BitVec 1 :=
  let c0_i32_24 : BitVec 32 := 0#32
  let c1_i32_25 : BitVec 32 := 1#32
  let arg10 : BitVec 32 := Scf.iv c0_i32_24 c1_i32_25 k0_t1
  let c1_i32_45 : BitVec 32 := 1#32
  let v139 : BitVec 32 := Scalar.andi arg10 c1_i32_45
  let c0_i32_46 : BitVec 32 := 0#32
  let v140 : BitVec 1 := Scalar.cmpi .ne v139 c0_i32_46
  let v141 : BitVec 32 := Scalar.extui v140
  let c0_i32_47 : BitVec 32 := 0#32
  let v142 : BitVec 1 := Scalar.cmpi .ne v141 c0_i32_47
  v142

def k0_mult3 (k0_t1 : Fin k0_t1_loop.trips) : BitVec 32 :=
  let c0_i32_24 : BitVec 32 := 0#32
  let c1_i32_25 : BitVec 32 := 1#32
  let arg10 : BitVec 32 := Scf.iv c0_i32_24 c1_i32_25 k0_t1
  let c_m2_i32 : BitVec 32 := 4294967294#32
  let v146 : BitVec 32 := Scalar.andi arg10 c_m2_i32
  let c512_i32_51 : BitVec 32 := 512#32
  let v147 : BitVec 32 := Scalar.muli v146 c512_i32_51
  v147
def k0_off5 (k0_t1 : Fin k0_t1_loop.trips) : Fin 2 → Nat :=
  let c0_i32_24 : BitVec 32 := 0#32
  let c1_i32_25 : BitVec 32 := 1#32
  let arg10 : BitVec 32 := Scf.iv c0_i32_24 c1_i32_25 k0_t1
  let c_m2_i32 : BitVec 32 := 4294967294#32
  let v146 : BitVec 32 := Scalar.andi arg10 c_m2_i32
  let c512_i32_51 : BitVec 32 := 512#32
  let v147 : BitVec 32 := Scalar.muli v146 c512_i32_51
  let v148 : BitVec 32 := v147
  let v177 : Index := Scalar.indexCast v148
  let c0_59 : Index := 0#32
  ![v177.toNat, 0]
def k0_off6 (k0_t1 : Fin k0_t1_loop.trips) : Fin 2 → Nat :=
  let c0_i32_24 : BitVec 32 := 0#32
  let c1_i32_25 : BitVec 32 := 1#32
  let arg10 : BitVec 32 := Scf.iv c0_i32_24 c1_i32_25 k0_t1
  let c_m2_i32 : BitVec 32 := 4294967294#32
  let v146 : BitVec 32 := Scalar.andi arg10 c_m2_i32
  let c512_i32_51 : BitVec 32 := 512#32
  let v147 : BitVec 32 := Scalar.muli v146 c512_i32_51
  let v148 : BitVec 32 := v147
  let v193 : Index := Scalar.indexCast v148
  let c0_66 : Index := 0#32
  ![v193.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference36Ideal.lean ====
abbrev S4096x1024 : Shape := ⟨2, ![4096, 1024]⟩
abbrev S4096x2048 : Shape := ⟨2, ![4096, 2048]⟩
abbrev S2x2048x4x256 : Shape := ⟨4, ![2, 2048, 4, 256]⟩
abbrev S2x2048x4x512 : Shape := ⟨4, ![2, 2048, 4, 512]⟩
abbrev S4 : Shape := ⟨1, ![4]⟩
abbrev S_ : Shape := ⟨0, ![]⟩
abbrev S2048 : Shape := ⟨1, ![2048]⟩
abbrev S32x64 : Shape := ⟨2, ![32, 64]⟩
abbrev S4x1x1 : Shape := ⟨3, ![4, 1, 1]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S4x2048x2048 : Shape := ⟨3, ![4, 2048, 2048]⟩
abbrev S1x2048x1 : Shape := ⟨3, ![1, 2048, 1]⟩
abbrev S1x1x2048 : Shape := ⟨3, ![1, 1, 2048]⟩
abbrev S2x4x2048x2048 : Shape := ⟨4, ![2, 4, 2048, 2048]⟩
abbrev S1x4x2048x2048 : Shape := ⟨4, ![1, 4, 2048, 2048]⟩
abbrev S2x4x512x2048 : Shape := ⟨4, ![2, 4, 512, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x1024, .f32⟩
  | .hbm, ⟨4, _⟩ => ⟨S4096x1024, .f32⟩
  | .hbm, ⟨5, _⟩ => ⟨S4096x2048, .f32⟩
  | .hbm, ⟨6, _⟩ => ⟨S2x2048x4x256, .f32⟩
  | .hbm, ⟨7, _⟩ => ⟨S2x2048x4x256, .f32⟩
  | .hbm, ⟨8, _⟩ => ⟨S2x2048x4x512, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S2048, .f32⟩
  | .hbm, ⟨20, _⟩ => ⟨S32x64, .i32⟩
  | .hbm, ⟨21, _⟩ => ⟨S2048, .i32⟩
  | .hbm, ⟨22, _⟩ => ⟨S4x1x1, .f32⟩
  | .hbm, ⟨23, _⟩ => ⟨S2048x1, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S1x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S1x2048x1, .i32⟩
  | .hbm, ⟨35, _⟩ => ⟨S1x1x2048, .i32⟩
  | .hbm, ⟨36, _⟩ => ⟨S1x2048x2048, .i32⟩
  | .hbm, ⟨37, _⟩ => ⟨S1x2048x2048, .i32⟩
  | .hbm, ⟨38, _⟩ => ⟨S1x2048x2048, .i1⟩
  | .hbm, ⟨39, _⟩ => ⟨S_, .f32⟩
  | .hbm, ⟨40, _⟩ => ⟨S_, .f32⟩
  | .hbm, ⟨41, _⟩ => ⟨S4x2048x2048, .i1⟩
  | .hbm, ⟨42, _⟩ => ⟨S4x2048x2048, .f32⟩
  | .hbm, ⟨43, _⟩ => ⟨S4x2048x2048, .f32⟩
  | .hbm, ⟨44, _⟩ => ⟨S2x4x2048x2048, .f32⟩
  | .hbm, ⟨45, _⟩ => ⟨S1x4x2048x2048, .f32⟩
  | .hbm, ⟨46, _⟩ => ⟨S2x4x2048x2048, .f32⟩
  | .hbm, ⟨47, _⟩ => ⟨S2x4x2048x2048, .f32⟩
  | .hbm, ⟨48, _⟩ => ⟨S2x4x512x2048, .f32⟩
  | .hbm, ⟨49, _⟩ => ⟨S2x2048x4x512, .f32⟩
  | .hbm, ⟨50, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Kernel37.lean ====
abbrev S4096x5632 : Shape := ⟨2, ![4096, 5632]⟩
abbrev S8x2816 : Shape := ⟨2, ![8, 2816]⟩
abbrev S4096x2816 : Shape := ⟨2, ![4096, 2816]⟩
abbrev S2048x256 : Shape := ⟨2, ![2048, 256]⟩
abbrev S8x256 : Shape := ⟨2, ![8, 256]⟩
abbrev S1x256 : Shape := ⟨2, ![1, 256]⟩
abbrev S8x2048 : Shape := ⟨2, ![8, 2048]⟩
abbrev S4x256 : Shape := ⟨2, ![4, 256]⟩

abbrev nBuf : Space → Nat
  | .hbm => 6
  | .vmem => 14
  | .smem => 0
  | _ => 0

abbrev bufTy : (tb : Table) → Fin (tcTables nBuf tb) → BufTy
  | .hbm, ⟨0, _⟩ => ⟨S4096x5632, .bf16⟩
  | .hbm, ⟨1, _⟩ => ⟨S8x2816, .f32⟩
  | .hbm, ⟨2, _⟩ => ⟨S4096x2816, .f32⟩
  | .hbm, ⟨3, _⟩ => ⟨S4096x2816, .bf16⟩
  | .hbm, ⟨4, _⟩ => ⟨S4096x2816, .bf16⟩
  | .hbm, ⟨5, _⟩ => ⟨S8x2816, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S8x256, .f32⟩
  | .local _ .vmem, ⟨5, _⟩ => ⟨S8x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S8x256, .f32⟩
  | .local _ .vmem, ⟨13, _⟩ => ⟨S8x256, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 2], ![false, false]⟩

def k0_cond1 (i : grid0.Coords) : BitVec 1 :=
  let arg1 : BitVec 32 := BitVec.ofNat 32 (i 1).val
  let c0_i32 : BitVec 32 := 0#32
  let v94 : BitVec 1 := Scalar.cmpi .eq arg1 c0_i32
  let v95 : BitVec 32 := Scalar.extui v94
  let c0_i32_29 : BitVec 32 := 0#32
  let v96 : BitVec 1 := Scalar.cmpi .ne v95 c0_i32_29
  v96

def k0_cond2 (i : grid0.Coords) : BitVec 1 :=
  let arg1 : BitVec 32 := BitVec.ofNat 32 (i 1).val
  let c0_i32_30 : BitVec 32 := 0#32
  let v97 : BitVec 1 := Scalar.cmpi .sgt arg1 c0_i32_30
  let v98 : BitVec 32 := Scalar.extui v97
  let c0_i32_31 : BitVec 32 := 0#32
  let v99 : BitVec 1 := Scalar.cmpi .ne v98 c0_i32_31
  v99

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference37Ideal.lean ====
abbrev S4096x5632 : Shape := ⟨2, ![4096, 5632]⟩
abbrev S8x2816 : Shape := ⟨2, ![8, 2816]⟩
abbrev S4096x2816 : Shape := ⟨2, ![4096, 2816]⟩
abbrev S2x2048x5632 : Shape := ⟨3, ![2, 2048, 5632]⟩
abbrev S2x2048x2816 : Shape := ⟨3, ![2, 2048, 2816]⟩
abbrev S1x2816 : Shape := ⟨2, ![1, 2816]⟩
abbrev S_ : Shape := ⟨0, ![]⟩
abbrev S2x2x2816 : Shape := ⟨3, ![2, 2, 2816]⟩
abbrev S2x2046x2816 : Shape := ⟨3, ![2, 2046, 2816]⟩
abbrev S1x1x2816 : Shape := ⟨3, ![1, 1, 2816]⟩
abbrev S2x1x2816 : Shape := ⟨3, ![2, 1, 2816]⟩
abbrev S2x2047x2816 : Shape := ⟨3, ![2, 2047, 2816]⟩
abbrev S2816 : Shape := ⟨1, ![2816]⟩
abbrev S4x2816 : Shape := ⟨2, ![4, 2816]⟩

abbrev nBuf : Space → Nat
  | .hbm => 108
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S8x2816, .f32⟩
  | .hbm, ⟨2, _⟩ => ⟨S4096x2816, .f32⟩
  | .hbm, ⟨3, _⟩ => ⟨S4096x5632, .f32⟩
  | .hbm, ⟨4, _⟩ => ⟨S2x2048x5632, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S1x2816, .f32⟩
  | .hbm, ⟨9, _⟩ => ⟨S1x2816, .f32⟩
  | .hbm, ⟨10, _⟩ => ⟨S1x2816, .f32⟩
  | .hbm, ⟨11, _⟩ => ⟨S1x2816, .f32⟩
  | .hbm, ⟨12, _⟩ => ⟨S_, .f32⟩
  | .hbm, ⟨13, _⟩ => ⟨S2x2x2816, .f32⟩
  | .hbm, ⟨14, _⟩ => ⟨S2x2046x2816, .f32⟩
  | .hbm, ⟨15, _⟩ => ⟨S2x2048x2816, .f32⟩
  | .hbm, ⟨16, _⟩ => ⟨S_, .f32⟩
  | .hbm, ⟨17, _⟩ => ⟨S2x2x2816, .f32⟩
  | .hbm, ⟨18, _⟩ => ⟨S1x1x2816, .f32⟩
  | .hbm, ⟨19, _⟩ => ⟨S2x2048x2816, .f32⟩
  | .hbm, ⟨20, _⟩ => ⟨S2x2048x2816, .f32⟩
  | .hbm, ⟨21, _⟩ => ⟨S_, .f32⟩
  | .hbm, ⟨22, _⟩ => ⟨S2x1x2816, .f32⟩
  | .hbm, ⟨23, _⟩ => ⟨S2x2047x2816, .f32⟩
  | .hbm, ⟨24, _⟩ => ⟨S2x2048x2816, .f32⟩
  | .hbm, ⟨25, _⟩ => ⟨S_, .f32⟩
  | .hbm, ⟨26, _⟩ => ⟨S2x1x2816, .f32⟩
  | .hbm, ⟨27, _⟩ => ⟨S1x1x2816, .f32⟩
  | .hbm, ⟨28, _⟩ => ⟨S2x2048x2816, .f32⟩
  | .hbm, ⟨29, _⟩ => ⟨S2x2048x2816, .f32⟩
  | .hbm, ⟨30, _⟩ => ⟨S2x2048x2816, .f32⟩
  | .hbm, ⟨31, _⟩ => ⟨S1x1x2816, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S1x1x2816, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S_, .f32⟩
  | .hbm, ⟨41, _⟩ => ⟨S2x2048x2816, .f32⟩
  | .hbm, ⟨42, _⟩ => ⟨S2x2048x2816, .f32⟩
  | .hbm, ⟨43, _⟩ => ⟨S_, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S_, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S_, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S_, .f32⟩
  | .hbm, ⟨57, _⟩ => ⟨S2816, .f32⟩
  | .hbm, ⟨58, _⟩ => ⟨S1x1x2816, .f32⟩
  | .hbm, ⟨59, _⟩ => ⟨S_, .f32⟩
  | .hbm, ⟨60, _⟩ => ⟨S2816, .f32⟩
  | .hbm, ⟨61, _⟩ => ⟨S1x2816, .f32⟩
  | .hbm, ⟨62, _⟩ => ⟨S2x2048x2816, .f32⟩
  | .hbm, ⟨63, _⟩ => ⟨S2x2048x2816, .f32⟩
  | .hbm, ⟨64, _⟩ => ⟨S2x2048x2816, .f32⟩
  | .hbm, ⟨65, _⟩ => ⟨S_, .f32⟩
  | .hbm, ⟨66, _⟩ => ⟨S2816, .f32⟩
  | .hbm, ⟨67, _⟩ => ⟨S1x1x2816, .f32⟩
  | .hbm, ⟨68, _⟩ => ⟨S_, .f32⟩
  | .hbm, ⟨69, _⟩ => ⟨S2816, .f32⟩
  | .hbm, ⟨70, _⟩ => ⟨S1x2816, .f32⟩
  | .hbm, ⟨71, _⟩ => ⟨S2x2048x2816, .f32⟩
  | .hbm, ⟨72, _⟩ => ⟨S2x2048x2816, .f32⟩
  | .hbm, ⟨73, _⟩ => ⟨S2x2048x2816, .f32⟩
  | .hbm, ⟨74, _⟩ => ⟨S_, .f32⟩
  | .hbm, ⟨75, _⟩ => ⟨S2816, .f32⟩
  | .hbm, ⟨76, _⟩ => ⟨S1x1x2816, .f32⟩
  | .hbm, ⟨77, _⟩ => ⟨S_, .f32⟩
  | .hbm, ⟨78, _⟩ => ⟨S2816, .f32⟩
  | .hbm, ⟨79, _⟩ => ⟨S1x2816, .f32⟩
  | .hbm, ⟨80, _⟩ => ⟨S2x1x2816, .f32⟩
  | .hbm, ⟨81, _⟩ => ⟨S2x2047x2816, .f32⟩
  | .hbm, ⟨82, _⟩ => ⟨S_, .f32⟩
  | .hbm, ⟨83, _⟩ => ⟨S2x2048x2816, .f32⟩
  | .hbm, ⟨84, _⟩ => ⟨S2x2048x2816, .f32⟩
  | .hbm, ⟨85, _⟩ => ⟨S2x2048x2816, .f32⟩
  | .hbm, ⟨86, _⟩ => ⟨S2x2048x2816, .f32⟩
  | .hbm, ⟨87, _⟩ => ⟨S2x2048x2816, .f32⟩
  | .hbm, ⟨88, _⟩ => ⟨S_, .f32⟩
  | .hbm, ⟨89, _⟩ => ⟨S2816, .f32⟩
  | .hbm, ⟨90, _⟩ => ⟨S1x1x2816, .f32⟩
  | .hbm, ⟨91, _⟩ => ⟨S_, .f32⟩
  | .hbm, ⟨92, _⟩ => ⟨S2816, .f32⟩
  | .hbm, ⟨93, _⟩ => ⟨S1x2816, .f32⟩
  | .hbm, ⟨94, _⟩ => ⟨S2x2x2816, .f32⟩
  | .hbm, ⟨95, _⟩ => ⟨S2x2046x2816, .f32⟩
  | .hbm, ⟨96, _⟩ => ⟨S_, .f32⟩
  | .hbm, ⟨97, _⟩ => ⟨S2x2048x2816, .f32⟩
  | .hbm, ⟨98, _⟩ => ⟨S2x2048x2816, .f32⟩
  | .hbm, ⟨99, _⟩ => ⟨S2x2048x2816, .f32⟩
  | .hbm, ⟨100, _⟩ => ⟨S2x2048x2816, .f32⟩
  | .hbm, ⟨101, _⟩ => ⟨S4096x2816, .f32⟩
  | .hbm, ⟨102, _⟩ => ⟨S4096x2816, .bf16⟩
  | .hbm, ⟨103, _⟩ => ⟨S4096x2816, .f32⟩
  | .hbm, ⟨104, _⟩ => ⟨S4096x2816, .bf16⟩
  | .hbm, ⟨105, _⟩ => ⟨S_, .f32⟩
  | .hbm, ⟨106, _⟩ => ⟨S4x2816, .f32⟩
  | .hbm, ⟨107, _⟩ => ⟨S8x2816, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_14 : Ref sig .tc := ⟨.hbm, 88, rfl⟩
abbrev main_v70 : Ref sig .tc := ⟨.hbm, 89, rfl⟩
abbrev main_v71 : Ref sig .tc := ⟨.hbm, 90, rfl⟩
abbrev main_cst_15 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_16 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_17 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== Kernel38.lean ====
abbrev S4096x5632 : Shape := ⟨2, ![4096, 5632]⟩
abbrev S8x2816 : Shape := ⟨2, ![8, 2816]⟩
abbrev S4096x2816 : Shape := ⟨2, ![4096, 2816]⟩
abbrev S2816x4096 : Shape := ⟨2, ![2816, 4096]⟩
abbrev S2048x256 : Shape := ⟨2, ![2048, 256]⟩
abbrev S8x256 : Shape := ⟨2, ![8, 256]⟩
abbrev S256x2048 : Shape := ⟨2, ![256, 2048]⟩
abbrev S1x256 : Shape := ⟨2, ![1, 256]⟩

abbrev nBuf : Space → Nat
  | .hbm => 4
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S8x2816, .f32⟩
  | .hbm, ⟨2, _⟩ => ⟨S4096x2816, .bf16⟩
  | .hbm, ⟨3, _⟩ => ⟨S2816x4096, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S8x256, .f32⟩
  | .local _ .vmem, ⟨5, _⟩ => ⟨S8x256, .f32⟩
  | .local _ .vmem, ⟨6, _⟩ => ⟨S2048x256, .bf16⟩
  | .local _ .vmem, ⟨7, _⟩ => ⟨S2048x256, .bf16⟩
  | .local _ .vmem, ⟨8, _⟩ => ⟨S256x2048, .bf16⟩
  | .local _ .vmem, ⟨9, _⟩ => ⟨S256x2048, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference38Ideal.lean ====
abbrev S4096x5632 : Shape := ⟨2, ![4096, 5632]⟩
abbrev S8x2816 : Shape := ⟨2, ![8, 2816]⟩
abbrev S2x2048x5632 : Shape := ⟨3, ![2, 2048, 5632]⟩
abbrev S2x2048x2816 : Shape := ⟨3, ![2, 2048, 2816]⟩
abbrev S1x2816 : Shape := ⟨2, ![1, 2816]⟩
abbrev S_ : Shape := ⟨0, ![]⟩
abbrev S2x2x2816 : Shape := ⟨3, ![2, 2, 2816]⟩
abbrev S2x2046x2816 : Shape := ⟨3, ![2, 2046, 2816]⟩
abbrev S1x1x2816 : Shape := ⟨3, ![1, 1, 2816]⟩
abbrev S2x1x2816 : Shape := ⟨3, ![2, 1, 2816]⟩
abbrev S2x2047x2816 : Shape := ⟨3, ![2, 2047, 2816]⟩
abbrev S4096x2816 : Shape := ⟨2, ![4096, 2816]⟩
abbrev S2816x4096 : Shape := ⟨2, ![2816, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S8x2816, .f32⟩
  | .hbm, ⟨2, _⟩ => ⟨S4096x5632, .f32⟩
  | .hbm, ⟨3, _⟩ => ⟨S2x2048x5632, .f32⟩
  | .hbm, ⟨4, _⟩ => ⟨S2x2048x2816, .f32⟩
  | .hbm, ⟨5, _⟩ => ⟨S2x2048x2816, .f32⟩
  | .hbm, ⟨6, _⟩ => ⟨S1x2816, .f32⟩
  | .hbm, ⟨7, _⟩ => ⟨S1x2816, .f32⟩
  | .hbm, ⟨8, _⟩ => ⟨S1x2816, .f32⟩
  | .hbm, ⟨9, _⟩ => ⟨S1x2816, .f32⟩
  | .hbm, ⟨10, _⟩ => ⟨S_, .f32⟩
  | .hbm, ⟨11, _⟩ => ⟨S2x2x2816, .f32⟩
  | .hbm, ⟨12, _⟩ => ⟨S2x2046x2816, .f32⟩
  | .hbm, ⟨13, _⟩ => ⟨S2x2048x2816, .f32⟩
  | .hbm, ⟨14, _⟩ => ⟨S1x1x2816, .f32⟩
  | .hbm, ⟨15, _⟩ => ⟨S2x2048x2816, .f32⟩
  | .hbm, ⟨16, _⟩ => ⟨S2x2048x2816, .f32⟩
  | .hbm, ⟨17, _⟩ => ⟨S_, .f32⟩
  | .hbm, ⟨18, _⟩ => ⟨S2x1x2816, .f32⟩
  | .hbm, ⟨19, _⟩ => ⟨S2x2047x2816, .f32⟩
  | .hbm, ⟨20, _⟩ => ⟨S2x2048x2816, .f32⟩
  | .hbm, ⟨21, _⟩ => ⟨S1x1x2816, .f32⟩
  | .hbm, ⟨22, _⟩ => ⟨S2x2048x2816, .f32⟩
  | .hbm, ⟨23, _⟩ => ⟨S2x2048x2816, .f32⟩
  | .hbm, ⟨24, _⟩ => ⟨S2x2048x2816, .f32⟩
  | .hbm, ⟨25, _⟩ => ⟨S1x1x2816, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S1x1x2816, .f32⟩
  | .hbm, ⟨30, _⟩ => ⟨S2x2048x2816, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | .hbm, ⟨37, _⟩ => ⟨S_, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S4096x2816, .f32⟩
  | .hbm, ⟨43, _⟩ => ⟨S4096x2816, .bf16⟩
  | .hbm, ⟨44, _⟩ => ⟨S2816x4096, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel39.lean ====
abbrev S4096x1024 : Shape := ⟨2, ![4096, 1024]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference39Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | .hbm, ⟨18, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel40.lean ====
abbrev S4096x2048 : Shape := ⟨2, ![4096, 2048]⟩
abbrev S4096x6144 : Shape := ⟨2, ![4096, 6144]⟩
abbrev S1x2048 : Shape := ⟨2, ![1, 2048]⟩
abbrev S2048x4096 : Shape := ⟨2, ![2048, 4096]⟩
abbrev S512x2048 : Shape := ⟨2, ![512, 2048]⟩
abbrev S2048x512 : Shape := ⟨2, ![2048, 512]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x6144, .bf16⟩
  | .hbm, ⟨2, _⟩ => ⟨S1x2048, .f32⟩
  | .hbm, ⟨3, _⟩ => ⟨S4096x2048, .bf16⟩
  | .hbm, ⟨4, _⟩ => ⟨S2048x4096, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference40Ideal.lean ====
abbrev S4096x2048 : Shape := ⟨2, ![4096, 2048]⟩
abbrev S4096x6144 : Shape := ⟨2, ![4096, 6144]⟩
abbrev S1x2048 : Shape := ⟨2, ![1, 2048]⟩
abbrev S4096x4x512 : Shape := ⟨3, ![4096, 4, 512]⟩
abbrev S4x512 : Shape := ⟨2, ![4, 512]⟩
abbrev S_ : Shape := ⟨0, ![]⟩
abbrev S4096x4 : Shape := ⟨2, ![4096, 4]⟩
abbrev S4096x4x1 : Shape := ⟨3, ![4096, 4, 1]⟩
abbrev S1x4x512 : Shape := ⟨3, ![1, 4, 512]⟩
abbrev S2048x4096 : Shape := ⟨2, ![2048, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6144, .bf16⟩
  | .hbm, ⟨2, _⟩ => ⟨S1x2048, .f32⟩
  | .hbm, ⟨3, _⟩ => ⟨S4096x4x512, .f32⟩
  | .hbm, ⟨4, _⟩ => ⟨S4x512, .f32⟩
  | .hbm, ⟨5, _⟩ => ⟨S4096x4x512, .f32⟩
  | .hbm, ⟨6, _⟩ => ⟨S_, .f32⟩
  | .hbm, ⟨7, _⟩ => ⟨S4096x4, .f32⟩
  | .hbm, ⟨8, _⟩ => ⟨S4096x4x1, .f32⟩
  | .hbm, ⟨9, _⟩ => ⟨S_, .f32⟩
  | .hbm, ⟨10, _⟩ => ⟨S4096x4x1, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S4096x4x1, .f32⟩
  | .hbm, ⟨16, _⟩ => ⟨S4096x4x512, .f32⟩
  | .hbm, ⟨17, _⟩ => ⟨S4096x4x512, .f32⟩
  | .hbm, ⟨18, _⟩ => ⟨S1x4x512, .f32⟩
  | .hbm, ⟨19, _⟩ => ⟨S4096x4x512, .f32⟩
  | .hbm, ⟨20, _⟩ => ⟨S4096x4x512, .f32⟩
  | .hbm, ⟨21, _⟩ => ⟨S4096x2048, .f32⟩
  | .hbm, ⟨22, _⟩ => ⟨S4096x2048, .bf16⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .bf16⟩
  | .hbm, ⟨35, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Kernel41.lean ====
abbrev S4096x768 : Shape := ⟨2, ![4096, 768]⟩
abbrev S1x384 : Shape := ⟨2, ![1, 384]⟩
abbrev S1x256 : Shape := ⟨2, ![1, 256]⟩
abbrev S4096x384 : Shape := ⟨2, ![4096, 384]⟩
abbrev S4096x256 : Shape := ⟨2, ![4096, 256]⟩
abbrev S4096x128 : Shape := ⟨2, ![4096, 128]⟩
abbrev S512x768 : Shape := ⟨2, ![512, 768]⟩
abbrev S512x384 : Shape := ⟨2, ![512, 384]⟩
abbrev S512x256 : Shape := ⟨2, ![512, 256]⟩
abbrev S512x128 : Shape := ⟨2, ![512, 128]⟩
abbrev S1x128 : Shape := ⟨2, ![1, 128]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x768, .f32⟩
  | .hbm, ⟨1, _⟩ => ⟨S1x384, .f32⟩
  | .hbm, ⟨2, _⟩ => ⟨S1x256, .f32⟩
  | .hbm, ⟨3, _⟩ => ⟨S4096x384, .bf16⟩
  | .hbm, ⟨4, _⟩ => ⟨S4096x256, .bf16⟩
  | .hbm, ⟨5, _⟩ => ⟨S4096x128, .f32⟩
  | .local _ .vmem, ⟨0, _⟩ => ⟨S512x768, .f32⟩
  | .local _ .vmem, ⟨1, _⟩ => ⟨S512x768, .f32⟩
  | .local _ .vmem, ⟨2, _⟩ => ⟨S1x384, .f32⟩
  | .local _ .vmem, ⟨3, _⟩ => ⟨S1x256, .f32⟩
  | .local _ .vmem, ⟨4, _⟩ => ⟨S512x384, .bf16⟩
  | .local _ .vmem, ⟨5, _⟩ => ⟨S512x384, .bf16⟩
  | .local _ .vmem, ⟨6, _⟩ => ⟨S512x256, .bf16⟩
  | .local _ .vmem, ⟨7, _⟩ => ⟨S512x256, .bf16⟩
  | .local _ .vmem, ⟨8, _⟩ => ⟨S512x128, .f32⟩
  | .local _ .vmem, ⟨9, _⟩ => ⟨S512x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference41Ideal.lean ====
abbrev S4096x768 : Shape := ⟨2, ![4096, 768]⟩
abbrev S1x384 : Shape := ⟨2, ![1, 384]⟩
abbrev S1x256 : Shape := ⟨2, ![1, 256]⟩
abbrev S4096x384 : Shape := ⟨2, ![4096, 384]⟩
abbrev S4096x256 : Shape := ⟨2, ![4096, 256]⟩
abbrev S4096x128 : Shape := ⟨2, ![4096, 128]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S1x384, .f32⟩
  | .hbm, ⟨2, _⟩ => ⟨S1x256, .f32⟩
  | .hbm, ⟨3, _⟩ => ⟨S4096x384, .f32⟩
  | .hbm, ⟨4, _⟩ => ⟨S4096x256, .f32⟩
  | .hbm, ⟨5, _⟩ => ⟨S4096x128, .f32⟩
  | .hbm, ⟨6, _⟩ => ⟨S4096x384, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x384, .f32⟩
  | .hbm, ⟨18, _⟩ => ⟨S4096x384, .f32⟩
  | .hbm, ⟨19, _⟩ => ⟨S4096x384, .f32⟩
  | .hbm, ⟨20, _⟩ => ⟨S4096x384, .f32⟩
  | .hbm, ⟨21, _⟩ => ⟨S4096x384, .bf16⟩
  | .hbm, ⟨22, _⟩ => ⟨S4096x256, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S4096x256, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel42.lean ====
abbrev S4096x6144 : Shape := ⟨2, ![4096, 6144]⟩
abbrev S2048x128 : Shape := ⟨2, ![2048, 128]⟩
abbrev S4096x1024 : Shape := ⟨2, ![4096, 1024]⟩
abbrev S4096x2048 : Shape := ⟨2, ![4096, 2048]⟩
abbrev S512x4096 : Shape := ⟨2, ![512, 4096]⟩
abbrev S512x128 : Shape := ⟨2, ![512, 128]⟩
abbrev S512x1024 : Shape := ⟨2, ![512, 1024]⟩
abbrev S512x2048 : Shape := ⟨2, ![512, 2048]⟩

abbrev nBuf : Space → Nat
  | .hbm => 6
  | .vmem => 12
  | .smem => 0
  | _ => 0

abbrev bufTy : (tb : Table) → Fin (tcTables nBuf tb) → BufTy
  | .hbm, ⟨0, _⟩ => ⟨S4096x6144, .bf16⟩
  | .hbm, ⟨1, _⟩ => ⟨S2048x128, .f32⟩
  | .hbm, ⟨2, _⟩ => ⟨S2048x128, .f32⟩
  | .hbm, ⟨3, _⟩ => ⟨S4096x1024, .bf16⟩
  | .hbm, ⟨4, _⟩ => ⟨S4096x1024, .bf16⟩
  | .hbm, ⟨5, _⟩ => ⟨S4096x2048, .bf16⟩
  | .local _ .vmem, ⟨0, _⟩ => ⟨S512x4096, .bf16⟩
  | .local _ .vmem, ⟨1, _⟩ => ⟨S512x4096, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x2048, .bf16⟩
  | .local _ .vmem, ⟨11, _⟩ => ⟨S512x2048, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference42Ideal.lean ====
abbrev S4096x6144 : Shape := ⟨2, ![4096, 6144]⟩
abbrev S2048x128 : Shape := ⟨2, ![2048, 128]⟩
abbrev S4096x1024 : Shape := ⟨2, ![4096, 1024]⟩
abbrev S4096x2048 : Shape := ⟨2, ![4096, 2048]⟩
abbrev S4096x4x256 : Shape := ⟨3, ![4096, 4, 256]⟩
abbrev S1x2048x1x128 : Shape := ⟨4, ![1, 2048, 1, 128]⟩
abbrev S2x2048x1x128 : Shape := ⟨4, ![2, 2048, 1, 128]⟩
abbrev S4096x128 : Shape := ⟨2, ![4096, 128]⟩
abbrev S4096x1x128 : Shape := ⟨3, ![4096, 1, 128]⟩
abbrev S4096x4x128 : Shape := ⟨3, ![4096, 4, 128]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x128, .f32⟩
  | .hbm, ⟨2, _⟩ => ⟨S2048x128, .f32⟩
  | .hbm, ⟨3, _⟩ => ⟨S4096x1024, .bf16⟩
  | .hbm, ⟨4, _⟩ => ⟨S4096x1024, .bf16⟩
  | .hbm, ⟨5, _⟩ => ⟨S4096x2048, .bf16⟩
  | .hbm, ⟨6, _⟩ => ⟨S4096x1024, .f32⟩
  | .hbm, ⟨7, _⟩ => ⟨S4096x4x256, .f32⟩
  | .hbm, ⟨8, _⟩ => ⟨S1x2048x1x128, .f32⟩
  | .hbm, ⟨9, _⟩ => ⟨S2x2048x1x128, .f32⟩
  | .hbm, ⟨10, _⟩ => ⟨S4096x128, .f32⟩
  | .hbm, ⟨11, _⟩ => ⟨S4096x1x128, .f32⟩
  | .hbm, ⟨12, _⟩ => ⟨S1x2048x1x128, .f32⟩
  | .hbm, ⟨13, _⟩ => ⟨S2x2048x1x128, .f32⟩
  | .hbm, ⟨14, _⟩ => ⟨S4096x128, .f32⟩
  | .hbm, ⟨15, _⟩ => ⟨S4096x1x128, .f32⟩
  | .hbm, ⟨16, _⟩ => ⟨S4096x4x128, .f32⟩
  | .hbm, ⟨17, _⟩ => ⟨S4096x4x128, .f32⟩
  | .hbm, ⟨18, _⟩ => ⟨S4096x4x128, .f32⟩
  | .hbm, ⟨19, _⟩ => ⟨S4096x4x128, .f32⟩
  | .hbm, ⟨20, _⟩ => ⟨S4096x4x128, .f32⟩
  | .hbm, ⟨21, _⟩ => ⟨S4096x4x128, .f32⟩
  | .hbm, ⟨22, _⟩ => ⟨S4096x4x128, .f32⟩
  | .hbm, ⟨23, _⟩ => ⟨S4096x4x128, .f32⟩
  | .hbm, ⟨24, _⟩ => ⟨S4096x4x128, .f32⟩
  | .hbm, ⟨25, _⟩ => ⟨S4096x4x128, .f32⟩
  | .hbm, ⟨26, _⟩ => ⟨S4096x4x128, .f32⟩
  | .hbm, ⟨27, _⟩ => ⟨S4096x4x128, .f32⟩
  | .hbm, ⟨28, _⟩ => ⟨S4096x4x256, .f32⟩
  | .hbm, ⟨29, _⟩ => ⟨S4096x1024, .f32⟩
  | .hbm, ⟨30, _⟩ => ⟨S4096x1024, .bf16⟩
  | .hbm, ⟨31, _⟩ => ⟨S4096x1024, .f32⟩
  | .hbm, ⟨32, _⟩ => ⟨S4096x4x256, .f32⟩
  | .hbm, ⟨33, _⟩ => ⟨S1x2048x1x128, .f32⟩
  | .hbm, ⟨34, _⟩ => ⟨S2x2048x1x128, .f32⟩
  | .hbm, ⟨35, _⟩ => ⟨S4096x128, .f32⟩
  | .hbm, ⟨36, _⟩ => ⟨S4096x1x128, .f32⟩
  | .hbm, ⟨37, _⟩ => ⟨S1x2048x1x128, .f32⟩
  | .hbm, ⟨38, _⟩ => ⟨S2x2048x1x128, .f32⟩
  | .hbm, ⟨39, _⟩ => ⟨S4096x128, .f32⟩
  | .hbm, ⟨40, _⟩ => ⟨S4096x1x128, .f32⟩
  | .hbm, ⟨41, _⟩ => ⟨S4096x4x128, .f32⟩
  | .hbm, ⟨42, _⟩ => ⟨S4096x4x128, .f32⟩
  | .hbm, ⟨43, _⟩ => ⟨S4096x4x128, .f32⟩
  | .hbm, ⟨44, _⟩ => ⟨S4096x4x128, .f32⟩
  | .hbm, ⟨45, _⟩ => ⟨S4096x4x128, .f32⟩
  | .hbm, ⟨46, _⟩ => ⟨S4096x4x128, .f32⟩
  | .hbm, ⟨47, _⟩ => ⟨S4096x4x128, .f32⟩
  | .hbm, ⟨48, _⟩ => ⟨S4096x4x128, .f32⟩
  | .hbm, ⟨49, _⟩ => ⟨S4096x4x128, .f32⟩
  | .hbm, ⟨50, _⟩ => ⟨S4096x4x128, .f32⟩
  | .hbm, ⟨51, _⟩ => ⟨S4096x4x128, .f32⟩
  | .hbm, ⟨52, _⟩ => ⟨S4096x4x128, .f32⟩
  | .hbm, ⟨53, _⟩ => ⟨S4096x4x256, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_cst : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩

abbrev nD : Nat := 1
abbrev τ : Topo := Topo.v7x

variable {F : FTy → Type} [FloatOps F]
-- ==== Proof.Ret.Loop.lean ====
module

public import proofs.«01_k».proof.Proof.Gen.KernelIdeal.Loops
public import proofs.«01_k».proof.Proof.Gen.KernelIdeal.Frame

/-! One trip of the gradient's query-block loop, by the two conditions of its key runs, and the loop's invariant. -/

@[expose] public section

set_option maxRecDepth 16384

noncomputable section

namespace Cert.Ret

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of the five buffers a trip writes: the gradients of q, k and v, the scaled gradient of k, and the
    transposed gradient of q of the current block. -/
structure St (arg7 : Memref sig .tc .vmem S2048x256 .f32) (arg8 : Memref sig .tc .vmem S2048x256 .f32) (arg9 : Memref sig .tc .vmem S2048x512 .f32) (arg12 : Memref sig .tc .vmem S2048x256 .f32) (arg13 : Memref sig .tc .vmem S256x512 .f32) (F : FTy → Type) where
  f7 : BufTy.Contents (Elt F) arg7.view.ty
  f8 : BufTy.Contents (Elt F) arg8.view.ty
  f9 : BufTy.Contents (Elt F) arg9.view.ty
  f12 : BufTy.Contents (Elt F) arg12.view.ty
  f13 : BufTy.Contents (Elt F) arg13.view.ty

/-- The rows of the key block a trip reads and adds to, in closed form. -/
theorem off3_eq0 : ∀ k : Fin k0_t1_loop.trips, k0_off3 k 0#32 = ![0, 0] := by decide +kernel
theorem off3_eq1 : ∀ k : Fin k0_t1_loop.trips, k0_off3 k 1#32 = ![512, 0] := by decide +kernel
theorem off4_eq0 : ∀ k : Fin k0_t1_loop.trips, k0_off4 k 0#32 = ![0, 0] := by decide +kernel
theorem off4_eq1 : ∀ k : Fin k0_t1_loop.trips, k0_off4 k 1#32 = ![512, 0] := by decide +kernel
theorem off5_eq0 : ∀ k : Fin k0_t1_loop.trips, k0_off5 k 0#32 = ![0, 0, 0] := by decide +kernel
theorem off5_eq1 : ∀ k : Fin k0_t1_loop.trips, k0_off5 k 1#32 = ![1, 0, 0] := by decide +kernel
theorem off6_eq : ∀ k : Fin k0_t1_loop.trips, k0_off6 k = ![512 * (k.val / 2 * 2), 0] := by decide +kernel
theorem off7_eq : ∀ k : Fin k0_t1_loop.trips, k0_off7 k = ![512 * (k.val / 2 * 2), 0] := by decide +kernel
theorem off8_eq : ∀ k : Fin k0_t1_loop.trips, k0_off8 k = ![k.val / 2 * 2, 0, 0] := by decide +kernel
instance (k : Fin k0_t1_loop.trips) : ClosedOff (k0_off3 k 0#32) := ⟨_, off3_eq0 k⟩
instance (k : Fin k0_t1_loop.trips) : ClosedOff (k0_off3 k 1#32) := ⟨_, off3_eq1 k⟩
instance (k : Fin k0_t1_loop.trips) : ClosedOff (k0_off4 k 0#32) := ⟨_, off4_eq0 k⟩
instance (k : Fin k0_t1_loop.trips) : ClosedOff (k0_off4 k 1#32) := ⟨_, off4_eq1 k⟩
instance (k : Fin k0_t1_loop.trips) : ClosedOff (k0_off5 k 0#32) := ⟨_, off5_eq0 k⟩
instance (k : Fin k0_t1_loop.trips) : ClosedOff (k0_off5 k 1#32) := ⟨_, off5_eq1 k⟩
instance (k : Fin k0_t1_loop.trips) : ClosedOff (k0_off6 k) := ⟨_, off6_eq k⟩
instance (k : Fin k0_t1_loop.trips) : ClosedOff (k0_off7 k) := ⟨_, off7_eq k⟩
instance (k : Fin k0_t1_loop.trips) : ClosedOff (k0_off8 k) := ⟨_, off8_eq k⟩
/-- Which key runs a trip makes: the run of two blocks from trip 2 on, the run of one block at odd trips. -/
theorem cond1_iff : ∀ k : Fin k0_t1_loop.trips, k0_cond1 k = 1#1 ↔ 2 ≤ k.val := by decide +kernel
theorem cond2_iff : ∀ k : Fin k0_t1_loop.trips, k0_cond2 k = 1#1 ↔ k.val % 2 = 1 := by decide +kernel

section Trip

variable (c : Dev nD) (i : grid0.Coords)
  (arg2 : Memref sig .tc .vmem S1x8x128 .f32) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2048x512 .bf16) (harg5 : arg5.IsWhole)
  (arg6 : Memref sig .tc .vmem S2048x512 .f32) (harg6 : arg6.IsWhole)
  (arg7 : Memref sig .tc .vmem S2048x256 .f32) (harg7 : arg7.IsWhole)
  (arg8 : Memref sig .tc .vmem S2048x256 .f32) (harg8 : arg8.IsWhole)
  (arg9 : Memref sig .tc .vmem S2048x512 .f32) (harg9 : arg9.IsWhole)
  (arg10 : Memref sig .tc .vmem S2048x256 .bf16) (harg10 : arg10.IsWhole)
  (arg11 : Memref sig .tc .vmem S4x256x512 .bf16) (harg11 : arg11.IsWhole)
  (arg12 : Memref sig .tc .vmem S2048x256 .f32) (harg12 : arg12.IsWhole)
  (arg13 : Memref sig .tc .vmem S256x512 .f32) (harg13 : arg13.IsWhole)
  (arg14 : Memref sig .tc .vmem S512x512 .f32) (harg14 : arg14.IsWhole)
  (v1 : FVec F S1x1 .f32) (v67 : FVec F S512x512 .f32) (v91 v93 : IVec S512x512 32) (v112 : IVec S512x512 1) (c1 : BitVec 32)
  (X3 : BufTy.Contents (Elt F) arg3.view.ty)  (X4 : BufTy.Contents (Elt F) arg4.view.ty)  (X5 : BufTy.Contents (Elt F) arg5.view.ty)  (X6 : BufTy.Contents (Elt F) arg6.view.ty)  (X10 : BufTy.Contents (Elt F) arg10.view.ty)  (X11 : BufTy.Contents (Elt F) arg11.view.ty)  (X14 : BufTy.Contents (Elt F) arg14.view.ty)

/-- What one trip holds: the buffers it reads at their contents, those it writes at the state `s`. -/
abbrev Held (X3 : BufTy.Contents (Elt F) arg3.view.ty) (X4 : BufTy.Contents (Elt F) arg4.view.ty) (X5 : BufTy.Contents (Elt F) arg5.view.ty) (X6 : BufTy.Contents (Elt F) arg6.view.ty) (X10 : BufTy.Contents (Elt F) arg10.view.ty) (X11 : BufTy.Contents (Elt F) arg11.view.ty) (X14 : BufTy.Contents (Elt F) arg14.view.ty) (s : St arg7 arg8 arg9 arg12 arg13 F) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10) ∗ (arg11.view.loc (c : Thread nD τ) ↦[arg11.view.set]{fullShare} X11) ∗ (arg14.view.loc (c : Thread nD τ) ↦[arg14.view.set]{fullShare} X14) ∗ (arg7.view.loc (c : Thread nD τ) ↦[arg7.view.set]{fullShare} s.f7) ∗ (arg8.view.loc (c : Thread nD τ) ↦[arg8.view.set]{fullShare} s.f8) ∗ (arg9.view.loc (c : Thread nD τ) ↦[arg9.view.set]{fullShare} s.f9) ∗ (arg12.view.loc (c : Thread nD τ) ↦[arg12.view.set]{fullShare} s.f12) ∗ (arg13.view.loc (c : Thread nD τ) ↦[arg13.view.set]{fullShare} s.f13))

set_option maxHeartbeats 4000000 in
/-- Trip 0, which makes no key run: the pieces it writes into each buffer, as the run finds them, with the proof of the run. -/
@[irreducible] def trip0 (k : Fin k0_t1_loop.trips) (hk : k.val = 0) :
    Σ' (L7 : St arg7 arg8 arg9 arg12 arg13 F → List (View.Piece (Elt F) S2048x256 .f32)) (L8 : St arg7 arg8 arg9 arg12 arg13 F → List (View.Piece (Elt F) S2048x256 .f32)) (L9 : St arg7 arg8 arg9 arg12 arg13 F → List (View.Piece (Elt F) S2048x512 .f32)),
      { L13 : St arg7 arg8 arg9 arg12 arg13 F → List (View.Piece (Elt F) S256x512 .f32) // ∀ (E : Set ℕ) (s : St arg7 arg8 arg9 arg12 arg13 F),
        Held (F := F) c arg3 arg4 arg5 arg6 arg7 arg8 arg9 arg10 arg11 arg12 arg13 arg14 X3 X4 X5 X6 X10 X11 X14 s
        ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 v1 v67 v91 v93 v112 c1 k PUnit.unit)
          (fun _ => Held (F := F) c arg3 arg4 arg5 arg6 arg7 arg8 arg9 arg10 arg11 arg12 arg13 arg14 X3 X4 X5 X6 X10 X11 X14 ⟨arg7.view.writes (Elt F) s.f7 (L7 s), arg8.view.writes (Elt F) s.f8 (L8 s), arg9.view.writes (Elt F) s.f9 (L9 s), s.f12, arg13.view.writes (Elt F) s.f13 (L13 s)⟩) } := by
  have h1 : ¬k0_cond1 k = 1#1 := mt (cond1_iff k).mp (by omega)
  have h2 : ¬k0_cond2 k = 1#1 := mt (cond2_iff k).mp (by omega)
  refine ⟨?_, ?_, ?_, ?_, fun E s => ?run⟩
  case run =>
    unfold k0_t1_body
    iintro ⟨R3, R4, R5, R6, R10, R11, R14, W7, W8, W9, W12, W13⟩
    sl_exec
    sl_step
    sl_close

set_option maxHeartbeats 4000000 in
/-- Trip 1, which makes the run of one block: the pieces it writes into each buffer, as the run finds them, with the proof of the run. -/
@[irreducible] def trip1 (k : Fin k0_t1_loop.trips) (hk : k.val = 1) :
    Σ' (L7 : St arg7 arg8 arg9 arg12 arg13 F → List (View.Piece (Elt F) S2048x256 .f32)) (L8 : St arg7 arg8 arg9 arg12 arg13 F → List (View.Piece (Elt F) S2048x256 .f32)) (L9 : St arg7 arg8 arg9 arg12 arg13 F → List (View.Piece (Elt F) S2048x512 .f32)) (L12 : St arg7 arg8 arg9 arg12 arg13 F → List (View.Piece (Elt F) S2048x256 .f32)),
      { L13 : St arg7 arg8 arg9 arg12 arg13 F → List (View.Piece (Elt F) S256x512 .f32) // ∀ (E : Set ℕ) (s : St arg7 arg8 arg9 arg12 arg13 F),
        Held (F := F) c arg3 arg4 arg5 arg6 arg7 arg8 arg9 arg10 arg11 arg12 arg13 arg14 X3 X4 X5 X6 X10 X11 X14 s
        ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 v1 v67 v91 v93 v112 c1 k PUnit.unit)
          (fun _ => Held (F := F) c arg3 arg4 arg5 arg6 arg7 arg8 arg9 arg10 arg11 arg12 arg13 arg14 X3 X4 X5 X6 X10 X11 X14 ⟨arg7.view.writes (Elt F) s.f7 (L7 s), arg8.view.writes (Elt F) s.f8 (L8 s), arg9.view.writes (Elt F) s.f9 (L9 s), arg12.view.writes (Elt F) s.f12 (L12 s), arg13.view.writes (Elt F) s.f13 (L13 s)⟩) } := by
  have h1 : ¬k0_cond1 k = 1#1 := mt (cond1_iff k).mp (by omega)
  have h2 : k0_cond2 k = 1#1 := (cond2_iff k).mpr (by omega)
  refine ⟨?_, ?_, ?_, ?_, ?_, fun E s => ?run⟩
  case run =>
    unfold k0_t1_body
    iintro ⟨R3, R4, R5, R6, R10, R11, R14, W7, W8, W9, W12, W13⟩
    sl_exec
    sl_step
    sl_close

set_option maxHeartbeats 4000000 in
/-- Trip 2, which makes the run of two blocks: the pieces it writes into each buffer, as the run finds them, with the proof of the run. -/
@[irreducible] def trip2 (k : Fin k0_t1_loop.trips) (hk : k.val = 2) :
    Σ' (L7 : St arg7 arg8 arg9 arg12 arg13 F → List (View.Piece (Elt F) S2048x256 .f32)) (L8 : St arg7 arg8 arg9 arg12 arg13 F → List (View.Piece (Elt F) S2048x256 .f32)) (L9 : St arg7 arg8 arg9 arg12 arg13 F → List (View.Piece (Elt F) S2048x512 .f32)) (L12 : St arg7 arg8 arg9 arg12 arg13 F → List (View.Piece (Elt F) S2048x256 .f32)),
      { L13 : St arg7 arg8 arg9 arg12 arg13 F → List (View.Piece (Elt F) S256x512 .f32) // ∀ (E : Set ℕ) (s : St arg7 arg8 arg9 arg12 arg13 F),
        Held (F := F) c arg3 arg4 arg5 arg6 arg7 arg8 arg9 arg10 arg11 arg12 arg13 arg14 X3 X4 X5 X6 X10 X11 X14 s
        ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 v1 v67 v91 v93 v112 c1 k PUnit.unit)
          (fun _ => Held (F := F) c arg3 arg4 arg5 arg6 arg7 arg8 arg9 arg10 arg11 arg12 arg13 arg14 X3 X4 X5 X6 X10 X11 X14 ⟨arg7.view.writes (Elt F) s.f7 (L7 s), arg8.view.writes (Elt F) s.f8 (L8 s), arg9.view.writes (Elt F) s.f9 (L9 s), arg12.view.writes (Elt F) s.f12 (L12 s), arg13.view.writes (Elt F) s.f13 (L13 s)⟩) } := by
  have h1 : k0_cond1 k = 1#1 := (cond1_iff k).mpr (by omega)
  have h2 : ¬k0_cond2 k = 1#1 := mt (cond2_iff k).mp (by omega)
  refine ⟨?_, ?_, ?_, ?_, ?_, fun E s => ?run⟩
  case run =>
    unfold k0_t1_body
    iintro ⟨R3, R4, R5, R6, R10, R11, R14, W7, W8, W9, W12, W13⟩
    sl_exec
    sl_step
    sl_close

set_option maxHeartbeats 4000000 in
/-- Trip 3, which makes both key runs: the pieces it writes into each buffer, as the run finds them, with the proof of the run. -/
@[irreducible] def trip3 (k : Fin k0_t1_loop.trips) (hk : k.val = 3) :
    Σ' (L7 : St arg7 arg8 arg9 arg12 arg13 F → List (View.Piece (Elt F) S2048x256 .f32)) (L8 : St arg7 arg8 arg9 arg12 arg13 F → List (View.Piece (Elt F) S2048x256 .f32)) (L9 : St arg7 arg8 arg9 arg12 arg13 F → List (View.Piece (Elt F) S2048x512 .f32)) (L12 : St arg7 arg8 arg9 arg12 arg13 F → List (View.Piece (Elt F) S2048x256 .f32)),
      { L13 : St arg7 arg8 arg9 arg12 arg13 F → List (View.Piece (Elt F) S256x512 .f32) // ∀ (E : Set ℕ) (s : St arg7 arg8 arg9 arg12 arg13 F),
        Held (F := F) c arg3 arg4 arg5 arg6 arg7 arg8 arg9 arg10 arg11 arg12 arg13 arg14 X3 X4 X5 X6 X10 X11 X14 s
        ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 v1 v67 v91 v93 v112 c1 k PUnit.unit)
          (fun _ => Held (F := F) c arg3 arg4 arg5 arg6 arg7 arg8 arg9 arg10 arg11 arg12 arg13 arg14 X3 X4 X5 X6 X10 X11 X14 ⟨arg7.view.writes (Elt F) s.f7 (L7 s), arg8.view.writes (Elt F) s.f8 (L8 s), arg9.view.writes (Elt F) s.f9 (L9 s), arg12.view.writes (Elt F) s.f12 (L12 s), arg13.view.writes (Elt F) s.f13 (L13 s)⟩) } := by
  have h1 : k0_cond1 k = 1#1 := (cond1_iff k).mpr (by omega)
  have h2 : k0_cond2 k = 1#1 := (cond2_iff k).mpr (by omega)
  refine ⟨?_, ?_, ?_, ?_, ?_, fun E s => ?run⟩
  case run =>
    unfold k0_t1_body
    iintro ⟨R3, R4, R5, R6, R10, R11, R14, W7, W8, W9, W12, W13⟩
    sl_exec
    sl_step
    sl_close

/-- What one trip leaves of the state it finds. -/
@[irreducible] def next (k : Fin k0_t1_loop.trips) (s : St arg7 arg8 arg9 arg12 arg13 F) : St arg7 arg8 arg9 arg12 arg13 F :=
  if hk : k.val = 0 then ⟨arg7.view.writes (Elt F) s.f7 ((trip0 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).1 s), arg8.view.writes (Elt F) s.f8 ((trip0 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.1 s), arg9.view.writes (Elt F) s.f9 ((trip0 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.2.1 s), s.f12, arg13.view.writes (Elt F) s.f13 ((trip0 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.2.2.1 s)⟩
  else if hk : k.val = 1 then ⟨arg7.view.writes (Elt F) s.f7 ((trip1 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).1 s), arg8.view.writes (Elt F) s.f8 ((trip1 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.1 s), arg9.view.writes (Elt F) s.f9 ((trip1 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.2.1 s), arg12.view.writes (Elt F) s.f12 ((trip1 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.2.2.1 s), arg13.view.writes (Elt F) s.f13 ((trip1 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.2.2.2.1 s)⟩
  else if hk : k.val = 2 then ⟨arg7.view.writes (Elt F) s.f7 ((trip2 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).1 s), arg8.view.writes (Elt F) s.f8 ((trip2 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.1 s), arg9.view.writes (Elt F) s.f9 ((trip2 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.2.1 s), arg12.view.writes (Elt F) s.f12 ((trip2 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.2.2.1 s), arg13.view.writes (Elt F) s.f13 ((trip2 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.2.2.2.1 s)⟩
  else if hk : k.val = 3 then ⟨arg7.view.writes (Elt F) s.f7 ((trip3 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).1 s), arg8.view.writes (Elt F) s.f8 ((trip3 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.1 s), arg9.view.writes (Elt F) s.f9 ((trip3 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.2.1 s), arg12.view.writes (Elt F) s.f12 ((trip3 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.2.2.1 s), arg13.view.writes (Elt F) s.f13 ((trip3 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k hk).2.2.2.2.1 s)⟩
  else s

/-- The state before trip `k`, from the state at loop entry. -/
def before (s : St arg7 arg8 arg9 arg12 arg13 F) : ℕ → St arg7 arg8 arg9 arg12 arg13 F
  | 0 => s
  | k + 1 => if h : k < k0_t1_loop.trips then next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨k, h⟩ (before s k) else before s k

theorem before_succ (s : St arg7 arg8 arg9 arg12 arg13 F) (k : Fin k0_t1_loop.trips) :
    before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 s (k.val + 1) = next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 s k.val) := by
  rw [before, dif_pos k.isLt]

/-- A value before trip `k`: the one at loop entry, and after it what `b` names. -/
@[reducible] def fromEntry {α : Type} (a : α) (b : ℕ → α) (k : ℕ) : α := Nat.rec a (fun k _ => b (k + 1)) k

theorem fromEntry_eq {α : Type} {a : α} {b : ℕ → α} (h : b 0 = a) (k : ℕ) : fromEntry a b k = b k := by
  cases k with
  | zero => exact h.symm
  | succ k => rfl

/-- One trip runs from any state to the next. -/
theorem trip_run (k : Fin k0_t1_loop.trips) (E : Set ℕ) (s : St arg7 arg8 arg9 arg12 arg13 F) :
    Held (F := F) c arg3 arg4 arg5 arg6 arg7 arg8 arg9 arg10 arg11 arg12 arg13 arg14 X3 X4 X5 X6 X10 X11 X14 s
    ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 v1 v67 v91 v93 v112 c1 k PUnit.unit)
      (fun _ => Held (F := F) c arg3 arg4 arg5 arg6 arg7 arg8 arg9 arg10 arg11 arg12 arg13 arg14 X3 X4 X5 X6 X10 X11 X14 (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s)) := by
  have hlt : k.val < 4 := Nat.lt_of_lt_of_le k.isLt k0_t1_abs.2.1
  unfold next
  by_cases h0 : k.val = 0
  · rw [dif_pos h0]
    exact (trip0 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k h0).2.2.2.2 E s
  by_cases h1 : k.val = 1
  · rw [dif_neg h0, dif_pos h1]
    exact (trip1 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k h1).2.2.2.2.2 E s
  by_cases h2 : k.val = 2
  · rw [dif_neg h0, dif_neg h1, dif_pos h2]
    exact (trip2 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k h2).2.2.2.2.2 E s
  have h3 : k.val = 3 := by omega
  rw [dif_neg h0, dif_neg h1, dif_neg h2, dif_pos h3]
  exact (trip3 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k h3).2.2.2.2.2 E s

/-- Before trip `k`: the buffers the loop reads at their contents, those it writes at the state `before k`. -/
abbrev inv (G7 : BufTy.Contents (Elt F) arg7.view.ty) (G8 : BufTy.Contents (Elt F) arg8.view.ty) (G9 : BufTy.Contents (Elt F) arg9.view.ty) (G12 : BufTy.Contents (Elt F) arg12.view.ty) (G13 : BufTy.Contents (Elt F) arg13.view.ty) (k : ℕ) (_ : Unit) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10) ∗ (arg11.view.loc (c : Thread nD τ) ↦[arg11.view.set]{fullShare} X11) ∗ (arg14.view.loc (c : Thread nD τ) ↦[arg14.view.set]{fullShare} X14) ∗ (∃ f, (arg7.view.loc (c : Thread nD τ) ↦[arg7.view.set]{fullShare} f) ∗ ⌜f = fromEntry G7 (fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f7) k⌝) ∗ (∃ f, (arg8.view.loc (c : Thread nD τ) ↦[arg8.view.set]{fullShare} f) ∗ ⌜f = fromEntry G8 (fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f8) k⌝) ∗ (∃ f, (arg9.view.loc (c : Thread nD τ) ↦[arg9.view.set]{fullShare} f) ∗ ⌜f = fromEntry G9 (fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f9) k⌝) ∗ (∃ f, (arg12.view.loc (c : Thread nD τ) ↦[arg12.view.set]{fullShare} f) ∗ ⌜f = fromEntry G12 (fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f12) k⌝) ∗ (∃ f, (arg13.view.loc (c : Thread nD τ) ↦[arg13.view.set]{fullShare} f) ∗ ⌜f = fromEntry G13 (fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f13) k⌝))

set_option warn.classDefReducibility false in
/-- The loop by its invariant. -/
@[sl_loop] def loopInv (E : Set ℕ) (G7 : BufTy.Contents (Elt F) arg7.view.ty) (G8 : BufTy.Contents (Elt F) arg8.view.ty) (G9 : BufTy.Contents (Elt F) arg9.view.ty) (G12 : BufTy.Contents (Elt F) arg12.view.ty) (G13 : BufTy.Contents (Elt F) arg13.view.ty) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 v1 v67 v91 v93 v112 c1 where
  inv := inv (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 G7 G8 G9 G12 G13
  step k acc := by
    iintro ⟨R3, R4, R5, R6, R10, R11, R14, ⟨%f7, W7, %h7⟩, ⟨%f8, W8, %h8⟩, ⟨%f9, W9, %h9⟩, ⟨%f12, W12, %h12⟩, ⟨%f13, W13, %h13⟩⟩
    replace h7 : f7 = (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k.val).f7 := h7.trans (fromEntry_eq (b := fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f7) rfl k.val); replace h8 : f8 = (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k.val).f8 := h8.trans (fromEntry_eq (b := fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f8) rfl k.val); replace h9 : f9 = (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k.val).f9 := h9.trans (fromEntry_eq (b := fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f9) rfl k.val); replace h12 : f12 = (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k.val).f12 := h12.trans (fromEntry_eq (b := fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f12) rfl k.val); replace h13 : f13 = (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k.val).f13 := h13.trans (fromEntry_eq (b := fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f13) rfl k.val)
    subst h7; subst h8; subst h9; subst h12; subst h13
    iapply (wp_wand_r Idealize.ShloMosaic.frame (wpE (defs₀ (F := F)) Variants.none (c : Thread nD τ) none) E)
    isplitl [R3 R4 R5 R6 R10 R11 R14 W7 W8 W9 W12 W13]
    · iapply (trip_run (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k E (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k.val))
      isplitl [R3]; · iexact R3
      isplitl [R4]; · iexact R4
      isplitl [R5]; · iexact R5
      isplitl [R6]; · iexact R6
      isplitl [R10]; · iexact R10
      isplitl [R11]; · iexact R11
      isplitl [R14]; · iexact R14
      isplitl [W7]; · iexact W7
      isplitl [W8]; · iexact W8
      isplitl [W9]; · iexact W9
      isplitl [W12]; · iexact W12
      iexact W13
    · iintro %_ ⟨R3, R4, R5, R6, R10, R11, R14, W7, W8, W9, W12, W13⟩
      isplitl [R3]; · iexact R3
      isplitl [R4]; · iexact R4
      isplitl [R5]; · iexact R5
      isplitl [R6]; · iexact R6
      isplitl [R10]; · iexact R10
      isplitl [R11]; · iexact R11
      isplitl [R14]; · iexact R14
      isplitl [W7]
      · iexists _; isplitl [W7]; · iexact W7
        ipureintro; exact (congrArg St.f7 (before_succ (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k)).symm
      isplitl [W8]
      · iexists _; isplitl [W8]; · iexact W8
        ipureintro; exact (congrArg St.f8 (before_succ (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k)).symm
      isplitl [W9]
      · iexists _; isplitl [W9]; · iexact W9
        ipureintro; exact (congrArg St.f9 (before_succ (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k)).symm
      isplitl [W12]
      · iexists _; isplitl [W12]; · iexact W12
        ipureintro; exact (congrArg St.f12 (before_succ (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k)).symm
      iexists _; isplitl [W13]; · iexact W13
      ipureintro; exact (congrArg St.f13 (before_succ (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k)).symm

end Trip

end Cert.Ret

end
-- ==== Proof.Ret.Rows.lean ====
module

public import proofs.«01_k».proof.Proof.Ret.Loop
public import Idealize.ShloMosaic.Lib.WritesUnit
public import Idealize.ShloMosaic.Lib.VecWindow
public import Idealize.ShloMosaic.Lib.Pointwise.Index

/-! Four blocks of 512 rows: the buffers of the gradient are read and written a block at a time. -/

@[expose] public section

set_option maxRecDepth 16384

noncomputable section

namespace Cert.Ret

open Idealize.ShloMosaic Idealize.ShloMosaic.TcCoe Idealize.ShloMosaic.Tactic

/-- Block `g` of the rows of a 2048-row array. -/
def blk {α : Type} {n : ℕ} (g : Fin 4) (x : (⟨2, ![2048, n]⟩ : Shape).Idx → α) : (⟨2, ![512, n]⟩ : Shape).Idx → α :=
  fun y => x (ix2 (n0 := 2048) (n1 := n) ⟨512 * g.val + (y 0).val, by have h0 : (y 0).val < 512 := (y 0).isLt; have := g.isLt; omega⟩ (y 1))

theorem blk_apply {α : Type} {n : ℕ} (g : Fin 4) (x : (⟨2, ![2048, n]⟩ : Shape).Idx → α) (a : Fin 512) (b : Fin n) :
    blk g x (ix2 a b) = x (ix2 ⟨512 * g.val + a.val, by have := g.isLt; omega⟩ b) := rfl

/-- An array is its blocks. -/
theorem eq_blk {α : Type} {n : ℕ} (x : (⟨2, ![2048, n]⟩ : Shape).Idx → α) (a : Fin 2048) (b : Fin n) :
    x (ix2 a b) = blk ⟨a.val / 512, by omega⟩ x (ix2 ⟨a.val % 512, by omega⟩ b) := by
  rw [blk_apply]
  congr 2
  exact Fin.ext (by show a.val = 512 * (a.val / 512) + a.val % 512; omega)

variable {F : FTy → Type} [FloatOps F] {sig : RefSig} {κ : Kind} {sp : Space} {e : EltTy} {n : ℕ}

/-- A load of a block of rows. -/
theorem readAt_blk (v : View sig κ sp (⟨2, ![2048, n]⟩ : Shape) e) (f : v.ty.Contents (Elt F)) (r : Fin 4)
    {off : Fin 2 → ℕ} (inb : ∀ a : Fin 2, off a + (![512, n] : Fin 2 → ℕ) a ≤ (![2048, n] : Fin 2 → ℕ) a) (hoff : off = ![512 * r.val, 0]) :
    v.readAt (Elt F) (Rect.unit (s := ⟨2, ![2048, n]⟩) off ![512, n] inb).toLoadRect f = blk r (v.read (Elt F) f) := by
  subst hoff
  rw [View.readAt_eq_ld]
  funext y
  show v.read (Elt F) f _ = v.read (Elt F) f _
  congr 1
  funext a
  match a with
  | ⟨0, _⟩ => exact Fin.ext (by show 512 * r.val + 1 * (y 0).val = 512 * r.val + (y 0).val; omega)
  | ⟨1, _⟩ => exact Fin.ext (by show 0 + 1 * (y 1).val = (y 1).val; omega)

/-- What a store of block `r` leaves in block `g`. -/
theorem blk_writes (v : View sig κ sp (⟨2, ![2048, n]⟩ : Shape) e) (f : v.ty.Contents (Elt F)) (r g : Fin 4)
    {off : Fin 2 → ℕ} (inb : ∀ a : Fin 2, off a + (![512, n] : Fin 2 → ℕ) a ≤ (![2048, n] : Fin 2 → ℕ) a)
    (w : (⟨2, ![512, n]⟩ : Shape).Idx → Elt F e) (L : List (View.Piece (Elt F) (⟨2, ![2048, n]⟩ : Shape) e)) (hoff : off = ![512 * r.val, 0]) :
    blk g (v.read (Elt F) (v.writes (Elt F) f (⟨Rect.unit (s := ⟨2, ![2048, n]⟩) off ![512, n] inb, w⟩ :: L)))
      = if g = r then w else blk g (v.read (Elt F) (v.writes (Elt F) f L)) := by
  by_cases h : g = r
  · subst h
    rw [if_pos rfl]
    funext y
    exact View.read_writes_cons_rows_of_mem v f inb w L _ y hoff rfl rfl
  · rw [if_neg h]
    funext y
    refine View.read_writes_cons_rows_of_not_mem v f inb w L _ hoff rfl (W := 512) ?_
    have h0 : (y 0).val < 512 := (y 0).isLt
    have hne : g.val ≠ r.val := fun hv => h (Fin.ext hv)
    show 512 * g.val + (y 0).val < 512 * r.val ∨ 512 * r.val + 512 ≤ 512 * g.val + (y 0).val
    omega

end Cert.Ret

end

end
-- ==== Proof.Ret.Model.lean ====
module

public import proofs.«01_k».proof.Proof.Ret.Rows

/-! What the gradient's loop computes, block by block: at trip `n` the query block `n` adds to the gradients of the keys
    and values of its own block and of every earlier block, and the row block `n` of the query's gradient is formed. -/

@[expose] public section

set_option maxRecDepth 16384

noncomputable section

namespace Cert.Ret

open KernelIdeal KernelIdeal.Gen
open Idealize.ShloMosaic Idealize.ShloMosaic.TcCoe Idealize.ShloMosaic.Tactic

variable {F : FTy → Type} [FloatOps F]

/-- Slab `g` of the transposed scaled keys. -/
def slab {α : Type} (g : Fin 4) (x : S4x256x512.Idx → α) : S1x256x512.Idx → α :=
  fun y => x (ix3 (n0 := 4) (n1 := 256) (n2 := 512) g (y 1) (y 2))

theorem readAt_slab {sig : RefSig} {κ : Kind} {sp : Space} {e : EltTy} (v : View sig κ sp S4x256x512 e) (f : v.ty.Contents (Elt F)) (r : Fin 4)
    {off : Fin 3 → ℕ} (inb : ∀ a : Fin 3, off a + (![1, 256, 512] : Fin 3 → ℕ) a ≤ (![4, 256, 512] : Fin 3 → ℕ) a) (hoff : off = ![r.val, 0, 0]) :
    v.readAt (Elt F) (Rect.unit (s := S4x256x512) off ![1, 256, 512] inb).toLoadRect f = slab r (v.read (Elt F) f) := by
  subst hoff
  rw [View.readAt_eq_ld]
  funext y
  show v.read (Elt F) f _ = v.read (Elt F) f _
  congr 1
  funext a
  match a with
  | ⟨0, _⟩ => exact Fin.ext (by show r.val + 1 * (y 0).val = r.val; have h0 : (y 0).val < 1 := (y 0).isLt; omega)
  | ⟨1, _⟩ => exact Fin.ext (by show 0 + 1 * (y 1).val = (y 1).val; omega)
  | ⟨2, _⟩ => exact Fin.ext (by show 0 + 1 * (y 2).val = (y 2).val; omega)

/-- A load of the whole of a block's decays. -/
theorem readAt_dec {sig : RefSig} {κ : Kind} {sp : Space} {e : EltTy} (v : View sig κ sp S512x512 e) (f : v.ty.Contents (Elt F))
    (inb : ∀ a : Fin 2, (![0, 0] : Fin 2 → ℕ) a + (![512, 512] : Fin 2 → ℕ) a ≤ (![512, 512] : Fin 2 → ℕ) a) :
    v.readAt (Elt F) (Rect.unit (s := S512x512) ![0, 0] ![512, 512] inb).toLoadRect f = v.read (Elt F) f := by
  rw [View.readAt_eq_ld]
  funext y
  show v.read (Elt F) f _ = v.read (Elt F) f y
  congr 1
  funext a
  match a with
  | ⟨0, _⟩ => exact Fin.ext (by show 0 + 1 * (y 0).val = (y 0).val; omega)
  | ⟨1, _⟩ => exact Fin.ext (by show 0 + 1 * (y 1).val = (y 1).val; omega)

theorem off1_eq : ∀ k : Fin k0_t1_loop.trips, k0_off1 k = ![512 * k.val, 0] := by decide +kernel
theorem off2_eq : ∀ k : Fin k0_t1_loop.trips, k0_off2 k = ![512 * k.val, 0] := by decide +kernel
theorem off6_at1 (h : 1 < k0_t1_loop.trips) : k0_off6 ⟨1, h⟩ = ![512 * (0 : Fin 4).val, 0] := (off6_eq ⟨1, h⟩).trans (by simp)
theorem off6_at3 (h : 3 < k0_t1_loop.trips) : k0_off6 ⟨3, h⟩ = ![512 * (2 : Fin 4).val, 0] := (off6_eq ⟨3, h⟩).trans (by simp)
theorem off7_at1 (h : 1 < k0_t1_loop.trips) : k0_off7 ⟨1, h⟩ = ![512 * (0 : Fin 4).val, 0] := (off7_eq ⟨1, h⟩).trans (by simp)
theorem off7_at3 (h : 3 < k0_t1_loop.trips) : k0_off7 ⟨3, h⟩ = ![512 * (2 : Fin 4).val, 0] := (off7_eq ⟨3, h⟩).trans (by simp)
theorem off8_at1 (h : 1 < k0_t1_loop.trips) : k0_off8 ⟨1, h⟩ = ![(0 : Fin 4).val, 0, 0] := (off8_eq ⟨1, h⟩).trans (by simp)
theorem off8_at3 (h : 3 < k0_t1_loop.trips) : k0_off8 ⟨3, h⟩ = ![(2 : Fin 4).val, 0, 0] := (off8_eq ⟨3, h⟩).trans (by simp)

/-- A load of block `r` of an array of 256 columns. -/
theorem readAt_256 {sig : RefSig} {κ : Kind} {sp : Space} {e : EltTy} (v : View sig κ sp S2048x256 e) (f : v.ty.Contents (Elt F)) (r : Fin 4)
    {off : Fin 2 → ℕ} (inb : ∀ a : Fin 2, off a + (![512, 256] : Fin 2 → ℕ) a ≤ (![2048, 256] : Fin 2 → ℕ) a) (hoff : off = ![512 * r.val, 0]) :
    v.readAt (Elt F) (Rect.unit (s := S2048x256) off ![512, 256] inb).toLoadRect f = blk r (v.read (Elt F) f) := readAt_blk v f r inb hoff

/-- A store of block `r` into an array of 256 columns. -/
theorem blk_writes_256 {sig : RefSig} {κ : Kind} {sp : Space} {e : EltTy} (v : View sig κ sp S2048x256 e) (f : v.ty.Contents (Elt F)) (r g : Fin 4)
    {off : Fin 2 → ℕ} (inb : ∀ a : Fin 2, off a + (![512, 256] : Fin 2 → ℕ) a ≤ (![2048, 256] : Fin 2 → ℕ) a)
    (w : S512x256.Idx → Elt F e) (L : List (View.Piece (Elt F) S2048x256 e)) (hoff : off = ![512 * r.val, 0]) :
    blk g (v.read (Elt F) (v.writes (Elt F) f (⟨Rect.unit (s := S2048x256) off ![512, 256] inb, w⟩ :: L)))
      = if g = r then w else blk g (v.read (Elt F) (v.writes (Elt F) f L)) := blk_writes v f r g inb w L hoff

/-- A load of block `r` of an array of 512 columns. -/
theorem readAt_512 {sig : RefSig} {κ : Kind} {sp : Space} {e : EltTy} (v : View sig κ sp S2048x512 e) (f : v.ty.Contents (Elt F)) (r : Fin 4)
    {off : Fin 2 → ℕ} (inb : ∀ a : Fin 2, off a + (![512, 512] : Fin 2 → ℕ) a ≤ (![2048, 512] : Fin 2 → ℕ) a) (hoff : off = ![512 * r.val, 0]) :
    v.readAt (Elt F) (Rect.unit (s := S2048x512) off ![512, 512] inb).toLoadRect f = blk r (v.read (Elt F) f) := readAt_blk v f r inb hoff

/-- A store of block `r` into an array of 512 columns. -/
theorem blk_writes_512 {sig : RefSig} {κ : Kind} {sp : Space} {e : EltTy} (v : View sig κ sp S2048x512 e) (f : v.ty.Contents (Elt F)) (r g : Fin 4)
    {off : Fin 2 → ℕ} (inb : ∀ a : Fin 2, off a + (![512, 512] : Fin 2 → ℕ) a ≤ (![2048, 512] : Fin 2 → ℕ) a)
    (w : S512x512.Idx → Elt F e) (L : List (View.Piece (Elt F) S2048x512 e)) (hoff : off = ![512 * r.val, 0]) :
    blk g (v.read (Elt F) (v.writes (Elt F) f (⟨Rect.unit (s := S2048x512) off ![512, 512] inb, w⟩ :: L)))
      = if g = r then w else blk g (v.read (Elt F) (v.writes (Elt F) f L)) := blk_writes v f r g inb w L hoff

/-! ## The step of a trip -/

/-- The decay factor of a pair of different blocks, from the word that counts its positions. -/
def pair (v1 : FVec F S1x1 .f32) (w : BitVec 32) : FVec F S1x1 .f32 := exp (mulf v1 (broadcast S1x1 (Scalar.sitofp .f32 w)))

/-- The positions between the end of key block `g` and the start of query block `n`, plus one. -/
def gap (n g : Fin 4) : BitVec 32 := BitVec.ofNat 32 (512 * (n.val - g.val - 1) + 1)

/-- The values against the output's gradient, decayed by a pair factor. -/
def pairDa (c : FVec F S1x1 .f32) (d v : FVec F S512x512 .bf16) : FVec F S512x512 .bf16 :=
  truncf .bf16 (mulf (matmul dot_S512x512_S512x512_S512x512_1_1_0_0_n_n none v d (constant S512x512 .f32 0x00000000#32))
    (broadcastTo S512x512 c broadcasts_S1x1_S512x512)) bitsLt_bf16_f32

/-- What a pair of blocks adds to the gradient of the values. -/
def pairDv (c : FVec F S1x1 .f32) (qs : FVec F S512x256 .bf16) (d : FVec F S512x512 .bf16) (ks : FVec F S512x256 .bf16)
    (acc : FVec F S512x512 .f32) : FVec F S512x512 .f32 :=
  k0_pay35 d (mulf (matmul dot_S512x256_S512x256_S512x512_1_1_0_0_n_n none ks qs (constant S512x512 .f32 0x00000000#32))
    (broadcastTo S512x512 c broadcasts_S1x1_S512x512)) acc

section Steps

variable (v1 : FVec F S1x1 .f32) (q k ks : Fin 4 → FVec F S512x256 .bf16) (v : Fin 4 → FVec F S512x512 .bf16) (d : Fin 4 → FVec F S512x512 .f32)
  (kst : Fin 4 → FVec F S1x256x512 .bf16) (dec : FVec F S512x512 .f32)

def ownDa (n : Fin 4) : FVec F S512x512 .bf16 := k0_pay17 (d n) dec (v n)

def earlierDa (n g : Fin 4) : FVec F S512x512 .bf16 := pairDa (pair v1 (gap n g)) (k0_pay15 (d n)) (v g)

/-- The gradient of the values after trip `n`. -/
def stepDv (n : Fin 4) (s : Fin 4 → FVec F S512x512 .f32) : Fin 4 → FVec F S512x512 .f32 := fun g =>
  if g = n then k0_pay35 (k0_pay15 (d n)) (k0_pay16 (q n) (k n) dec) (s n)
  else if g < n then pairDv (pair v1 (gap n g)) (k0_pay14 v1 (q n)) (k0_pay15 (d n)) (ks g) (s g)
  else s g

/-- The gradient of the keys after trip `n`: what the own block adds. -/
def stepDk (n : Fin 4) (s : Fin 4 → FVec F S512x256 .f32) : Fin 4 → FVec F S512x256 .f32 := fun g =>
  if g = n then k0_pay36 (q n) (ownDa v d dec n) (s n) else s g

/-- The gradient of the scaled keys after trip `n`: what later query blocks add. -/
def stepDks (n : Fin 4) (s : Fin 4 → FVec F S512x256 .f32) : Fin 4 → FVec F S512x256 .f32 := fun g =>
  if g < n then k0_pay38 (k0_pay14 v1 (q n)) (earlierDa v1 v d n g) (s g) else s g

/-- The transposed gradient of query block `n` from the earlier key blocks. -/
def dqt : Fin 4 → FVec F S256x512 .f32
  | 0 => k0_pay37
  | 1 => k0_pay5 (earlierDa v1 v d 1 0) k0_pay37 (kst 0)
  | 2 => k0_pay5 (earlierDa v1 v d 2 1) (k0_pay5 (earlierDa v1 v d 2 0) k0_pay37 (kst 0)) (kst 1)
  | 3 => k0_pay5 (earlierDa v1 v d 3 2) (k0_pay5 (earlierDa v1 v d 3 1) (k0_pay5 (earlierDa v1 v d 3 0) k0_pay37 (kst 0)) (kst 1)) (kst 2)

/-- Row block `n` of the gradient of the queries. -/
def blockDq (n : Fin 4) : FVec F S512x256 .f32 := k0_pay41 (k0_pay13 v1) (k n) (ownDa v d dec n) (dqt v1 v d kst n)

/-- The gradient of the queries after trip `n`. -/
def stepDq (n : Fin 4) (s : Fin 4 → FVec F S512x256 .f32) : Fin 4 → FVec F S512x256 .f32 := fun g =>
  if g = n then blockDq v1 k v d kst dec n else s g

end Steps

/-! ## A trip computes the step -/

section Trips

variable (c : Dev nD) (i : grid0.Coords)
  (arg2 : Memref sig .tc .vmem S1x8x128 .f32) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2048x512 .bf16) (harg5 : arg5.IsWhole)
  (arg6 : Memref sig .tc .vmem S2048x512 .f32) (harg6 : arg6.IsWhole)
  (arg7 : Memref sig .tc .vmem S2048x256 .f32) (harg7 : arg7.IsWhole)
  (arg8 : Memref sig .tc .vmem S2048x256 .f32) (harg8 : arg8.IsWhole)
  (arg9 : Memref sig .tc .vmem S2048x512 .f32) (harg9 : arg9.IsWhole)
  (arg10 : Memref sig .tc .vmem S2048x256 .bf16) (harg10 : arg10.IsWhole)
  (arg11 : Memref sig .tc .vmem S4x256x512 .bf16) (harg11 : arg11.IsWhole)
  (arg12 : Memref sig .tc .vmem S2048x256 .f32) (harg12 : arg12.IsWhole)
  (arg13 : Memref sig .tc .vmem S256x512 .f32) (harg13 : arg13.IsWhole)
  (arg14 : Memref sig .tc .vmem S512x512 .f32) (harg14 : arg14.IsWhole)
  (v1 : FVec F S1x1 .f32) (v67 : FVec F S512x512 .f32) (v91 v93 : IVec S512x512 32) (v112 : IVec S512x512 1) (c1 : BitVec 32)
  (X3 : BufTy.Contents (Elt F) arg3.view.ty)  (X4 : BufTy.Contents (Elt F) arg4.view.ty)  (X5 : BufTy.Contents (Elt F) arg5.view.ty)  (X6 : BufTy.Contents (Elt F) arg6.view.ty)  (X10 : BufTy.Contents (Elt F) arg10.view.ty)  (X11 : BufTy.Contents (Elt F) arg11.view.ty)  (X14 : BufTy.Contents (Elt F) arg14.view.ty)

set_option maxHeartbeats 4000000 in
/-- Trip 0 on the gradient of the values. -/
theorem trip0_Dv (k : Fin k0_t1_loop.trips) (hk : k.val = 0) (s : St arg7 arg8 arg9 arg12 arg13 F) (g : Fin 4) :
    blk g (arg9.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f9) = stepDv v1 (fun g => blk g (arg3.view.read (Elt F) X3)) (fun g => blk g (arg4.view.read (Elt F) X4)) (fun g => blk g (arg10.view.read (Elt F) X10)) (fun g => blk g (arg6.view.read (Elt F) X6)) (arg14.view.read (Elt F) X14) 0 (fun g => blk g (arg9.view.read (Elt F) (s).f9)) g := by
  obtain ⟨kv, hlt⟩ := k
  obtain rfl : kv = 0 := hk
  unfold next
  rw [dif_pos rfl]
  unfold trip0
  dsimp only [trip0.sl.W13_1, trip0.sl.arg15, trip0.sl.r, trip0.sl.r_1, trip0.sl.r_2, trip0.sl.r_3, trip0.sl.r_4, trip0.sl.r_5, trip0.sl.r_6, trip0.sl.v152, trip0.sl.v221]
  simp only [readAt_256 _ _ 0 _ (off1_eq ⟨0, hlt⟩), readAt_512 _ _ 0 _ (off2_eq ⟨0, hlt⟩), blk_writes_512 _ _ 0 _ _ _ _ (off2_eq ⟨0, hlt⟩), View.readCov_cons_toLoadRect, readAt_dec, View.writes_nil]
  match g with | 0 => rfl | 1 => rfl | 2 => rfl | 3 => rfl
set_option maxHeartbeats 4000000 in
/-- Trip 0 on the gradient of the keys, own blocks. -/
theorem trip0_Dk (k : Fin k0_t1_loop.trips) (hk : k.val = 0) (s : St arg7 arg8 arg9 arg12 arg13 F) (g : Fin 4) :
    blk g (arg8.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f8) = stepDk (fun g => blk g (arg3.view.read (Elt F) X3)) (fun g => blk g (arg5.view.read (Elt F) X5)) (fun g => blk g (arg6.view.read (Elt F) X6)) (arg14.view.read (Elt F) X14) 0 (fun g => blk g (arg8.view.read (Elt F) (s).f8)) g := by
  obtain ⟨kv, hlt⟩ := k
  obtain rfl : kv = 0 := hk
  unfold next
  rw [dif_pos rfl]
  unfold trip0
  dsimp only [trip0.sl.W13_1, trip0.sl.arg15, trip0.sl.r, trip0.sl.r_1, trip0.sl.r_2, trip0.sl.r_3, trip0.sl.r_4, trip0.sl.r_5, trip0.sl.r_6, trip0.sl.v152, trip0.sl.v221]
  simp only [readAt_256 _ _ 0 _ (off1_eq ⟨0, hlt⟩), readAt_512 _ _ 0 _ (off2_eq ⟨0, hlt⟩), blk_writes_256 _ _ 0 _ _ _ _ (off1_eq ⟨0, hlt⟩), View.readCov_cons_toLoadRect, readAt_dec, View.writes_nil]
  match g with | 0 => rfl | 1 => rfl | 2 => rfl | 3 => rfl
set_option maxHeartbeats 4000000 in
/-- Trip 0 on the gradient of the queries. -/
theorem trip0_Dq (k : Fin k0_t1_loop.trips) (hk : k.val = 0) (s : St arg7 arg8 arg9 arg12 arg13 F) (g : Fin 4) :
    blk g (arg7.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f7) = stepDq v1 (fun g => blk g (arg4.view.read (Elt F) X4)) (fun g => blk g (arg5.view.read (Elt F) X5)) (fun g => blk g (arg6.view.read (Elt F) X6)) (fun g => slab g (arg11.view.read (Elt F) X11)) (arg14.view.read (Elt F) X14) 0 (fun g => blk g (arg7.view.read (Elt F) (s).f7)) g := by
  obtain ⟨kv, hlt⟩ := k
  obtain rfl : kv = 0 := hk
  unfold next
  rw [dif_pos rfl]
  unfold trip0
  dsimp only [trip0.sl.W13_1, trip0.sl.arg15, trip0.sl.r, trip0.sl.r_1, trip0.sl.r_2, trip0.sl.r_3, trip0.sl.r_4, trip0.sl.r_5, trip0.sl.r_6, trip0.sl.v152, trip0.sl.v221]
  simp only [readAt_256 _ _ 0 _ (off1_eq ⟨0, hlt⟩), readAt_512 _ _ 0 _ (off2_eq ⟨0, hlt⟩), blk_writes_256 _ _ 0 _ _ _ _ (off1_eq ⟨0, hlt⟩), View.readCov_cons_toLoadRect, readAt_dec, View.writes_nil]
  match g with | 0 => rfl | 1 => rfl | 2 => rfl | 3 => rfl
set_option maxHeartbeats 4000000 in
/-- Trip 1 on the gradient of the values. -/
theorem trip1_Dv (k : Fin k0_t1_loop.trips) (hk : k.val = 1) (s : St arg7 arg8 arg9 arg12 arg13 F) (g : Fin 4) :
    blk g (arg9.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f9) = stepDv v1 (fun g => blk g (arg3.view.read (Elt F) X3)) (fun g => blk g (arg4.view.read (Elt F) X4)) (fun g => blk g (arg10.view.read (Elt F) X10)) (fun g => blk g (arg6.view.read (Elt F) X6)) (arg14.view.read (Elt F) X14) 1 (fun g => blk g (arg9.view.read (Elt F) (s).f9)) g := by
  obtain ⟨kv, hlt⟩ := k
  obtain rfl : kv = 1 := hk
  unfold next
  rw [dif_neg (by simp)]; rw [dif_pos rfl]
  unfold trip1
  dsimp only [trip1.sl.W13_1, trip1.sl.W13_2, trip1.sl.W9_1, trip1.sl.arg15, trip1.sl.r, trip1.sl.r_1, trip1.sl.r_2, trip1.sl.r_3, trip1.sl.r_4, trip1.sl.r_5, trip1.sl.r_6, trip1.sl.r_7, trip1.sl.v152, trip1.sl.v221, trip1.sl.v227, trip1.sl.v228, trip1.sl.v266]
  simp only [readAt_256 _ _ 1 _ (off1_eq ⟨1, hlt⟩), readAt_512 _ _ 1 _ (off2_eq ⟨1, hlt⟩), blk_writes_512 _ _ 1 _ _ _ _ (off2_eq ⟨1, hlt⟩), readAt_256 _ _ 0 _ (off6_at1 hlt), readAt_512 _ _ 0 _ (off7_at1 hlt), blk_writes_512 _ _ 0 _ _ _ _ (off7_at1 hlt), readAt_slab _ _ 0 _ (off8_at1 hlt), View.readCov_cons_toLoadRect, readAt_dec, View.writes_nil]
  match g with | 0 => rfl | 1 => rfl | 2 => rfl | 3 => rfl
set_option maxHeartbeats 4000000 in
/-- Trip 1 on the gradient of the keys, own blocks. -/
theorem trip1_Dk (k : Fin k0_t1_loop.trips) (hk : k.val = 1) (s : St arg7 arg8 arg9 arg12 arg13 F) (g : Fin 4) :
    blk g (arg8.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f8) = stepDk (fun g => blk g (arg3.view.read (Elt F) X3)) (fun g => blk g (arg5.view.read (Elt F) X5)) (fun g => blk g (arg6.view.read (Elt F) X6)) (arg14.view.read (Elt F) X14) 1 (fun g => blk g (arg8.view.read (Elt F) (s).f8)) g := by
  obtain ⟨kv, hlt⟩ := k
  obtain rfl : kv = 1 := hk
  unfold next
  rw [dif_neg (by simp)]; rw [dif_pos rfl]
  unfold trip1
  dsimp only [trip1.sl.W13_1, trip1.sl.W13_2, trip1.sl.W9_1, trip1.sl.arg15, trip1.sl.r, trip1.sl.r_1, trip1.sl.r_2, trip1.sl.r_3, trip1.sl.r_4, trip1.sl.r_5, trip1.sl.r_6, trip1.sl.r_7, trip1.sl.v152, trip1.sl.v221, trip1.sl.v227, trip1.sl.v228, trip1.sl.v266]
  simp only [readAt_256 _ _ 1 _ (off1_eq ⟨1, hlt⟩), readAt_512 _ _ 1 _ (off2_eq ⟨1, hlt⟩), blk_writes_256 _ _ 1 _ _ _ _ (off1_eq ⟨1, hlt⟩), readAt_256 _ _ 0 _ (off6_at1 hlt), readAt_512 _ _ 0 _ (off7_at1 hlt), readAt_slab _ _ 0 _ (off8_at1 hlt), View.readCov_cons_toLoadRect, readAt_dec, View.writes_nil]
  match g with | 0 => rfl | 1 => rfl | 2 => rfl | 3 => rfl
set_option maxHeartbeats 4000000 in
/-- Trip 1 on the gradient of the scaled keys. -/
theorem trip1_Dks (k : Fin k0_t1_loop.trips) (hk : k.val = 1) (s : St arg7 arg8 arg9 arg12 arg13 F) (g : Fin 4) :
    blk g (arg12.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f12) = stepDks v1 (fun g => blk g (arg3.view.read (Elt F) X3)) (fun g => blk g (arg5.view.read (Elt F) X5)) (fun g => blk g (arg6.view.read (Elt F) X6)) 1 (fun g => blk g (arg12.view.read (Elt F) (s).f12)) g := by
  obtain ⟨kv, hlt⟩ := k
  obtain rfl : kv = 1 := hk
  unfold next
  rw [dif_neg (by simp)]; rw [dif_pos rfl]
  unfold trip1
  dsimp only [trip1.sl.W13_1, trip1.sl.W13_2, trip1.sl.W9_1, trip1.sl.arg15, trip1.sl.r, trip1.sl.r_1, trip1.sl.r_2, trip1.sl.r_3, trip1.sl.r_4, trip1.sl.r_5, trip1.sl.r_6, trip1.sl.r_7, trip1.sl.v152, trip1.sl.v221, trip1.sl.v227, trip1.sl.v228, trip1.sl.v266]
  simp only [readAt_256 _ _ 1 _ (off1_eq ⟨1, hlt⟩), readAt_512 _ _ 1 _ (off2_eq ⟨1, hlt⟩), readAt_256 _ _ 0 _ (off6_at1 hlt), blk_writes_256 _ _ 0 _ _ _ _ (off6_at1 hlt), readAt_512 _ _ 0 _ (off7_at1 hlt), readAt_slab _ _ 0 _ (off8_at1 hlt), View.readCov_cons_toLoadRect, readAt_dec, View.writes_nil]
  match g with | 0 => rfl | 1 => rfl | 2 => rfl | 3 => rfl
set_option maxHeartbeats 4000000 in
/-- Trip 1 on the gradient of the queries. -/
theorem trip1_Dq (k : Fin k0_t1_loop.trips) (hk : k.val = 1) (s : St arg7 arg8 arg9 arg12 arg13 F) (g : Fin 4) :
    blk g (arg7.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f7) = stepDq v1 (fun g => blk g (arg4.view.read (Elt F) X4)) (fun g => blk g (arg5.view.read (Elt F) X5)) (fun g => blk g (arg6.view.read (Elt F) X6)) (fun g => slab g (arg11.view.read (Elt F) X11)) (arg14.view.read (Elt F) X14) 1 (fun g => blk g (arg7.view.read (Elt F) (s).f7)) g := by
  obtain ⟨kv, hlt⟩ := k
  obtain rfl : kv = 1 := hk
  unfold next
  rw [dif_neg (by simp)]; rw [dif_pos rfl]
  unfold trip1
  dsimp only [trip1.sl.W13_1, trip1.sl.W13_2, trip1.sl.W9_1, trip1.sl.arg15, trip1.sl.r, trip1.sl.r_1, trip1.sl.r_2, trip1.sl.r_3, trip1.sl.r_4, trip1.sl.r_5, trip1.sl.r_6, trip1.sl.r_7, trip1.sl.v152, trip1.sl.v221, trip1.sl.v227, trip1.sl.v228, trip1.sl.v266]
  simp only [readAt_256 _ _ 1 _ (off1_eq ⟨1, hlt⟩), readAt_512 _ _ 1 _ (off2_eq ⟨1, hlt⟩), blk_writes_256 _ _ 1 _ _ _ _ (off1_eq ⟨1, hlt⟩), readAt_256 _ _ 0 _ (off6_at1 hlt), readAt_512 _ _ 0 _ (off7_at1 hlt), readAt_slab _ _ 0 _ (off8_at1 hlt), View.readCov_cons_toLoadRect, readAt_dec, View.writes_nil]
  match g with | 0 => rfl | 1 => rfl | 2 => rfl | 3 => rfl
set_option maxHeartbeats 4000000 in
/-- Trip 2 on the gradient of the values. -/
theorem trip2_Dv (k : Fin k0_t1_loop.trips) (hk : k.val = 2) (s : St arg7 arg8 arg9 arg12 arg13 F) (g : Fin 4) :
    blk g (arg9.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f9) = stepDv v1 (fun g => blk g (arg3.view.read (Elt F) X3)) (fun g => blk g (arg4.view.read (Elt F) X4)) (fun g => blk g (arg10.view.read (Elt F) X10)) (fun g => blk g (arg6.view.read (Elt F) X6)) (arg14.view.read (Elt F) X14) 2 (fun g => blk g (arg9.view.read (Elt F) (s).f9)) g := by
  obtain ⟨kv, hlt⟩ := k
  obtain rfl : kv = 2 := hk
  unfold next
  rw [dif_neg (by simp)]; rw [dif_neg (by simp)]; rw [dif_pos rfl]
  unfold trip2
  dsimp only [trip2.sl.W13_1, trip2.sl.W13_2, trip2.sl.W13_3, trip2.sl.W9_1, trip2.sl.W9_2, trip2.sl.arg15, trip2.sl.r, trip2.sl.r_1, trip2.sl.r_2, trip2.sl.r_3, trip2.sl.r_4, trip2.sl.r_5, trip2.sl.r_6, trip2.sl.r_7, trip2.sl.r_8, trip2.sl.v152, trip2.sl.v221, trip2.sl.v266, trip2.sl.v306, trip2.sl.v313]
  simp only [readAt_256 _ _ 2 _ (off1_eq ⟨2, hlt⟩), readAt_512 _ _ 2 _ (off2_eq ⟨2, hlt⟩), blk_writes_512 _ _ 2 _ _ _ _ (off2_eq ⟨2, hlt⟩), readAt_256 _ _ 0 _ (off3_eq0 ⟨2, hlt⟩), readAt_512 _ _ 0 _ (off4_eq0 ⟨2, hlt⟩), blk_writes_512 _ _ 0 _ _ _ _ (off4_eq0 ⟨2, hlt⟩), readAt_slab _ _ 0 _ (off5_eq0 ⟨2, hlt⟩), readAt_256 _ _ 1 _ (off3_eq1 ⟨2, hlt⟩), readAt_512 _ _ 1 _ (off4_eq1 ⟨2, hlt⟩), blk_writes_512 _ _ 1 _ _ _ _ (off4_eq1 ⟨2, hlt⟩), readAt_slab _ _ 1 _ (off5_eq1 ⟨2, hlt⟩), View.readCov_cons_toLoadRect, readAt_dec, View.writes_nil]
  match g with | 0 => rfl | 1 => rfl | 2 => rfl | 3 => rfl
set_option maxHeartbeats 4000000 in
/-- Trip 2 on the gradient of the keys, own blocks. -/
theorem trip2_Dk (k : Fin k0_t1_loop.trips) (hk : k.val = 2) (s : St arg7 arg8 arg9 arg12 arg13 F) (g : Fin 4) :
    blk g (arg8.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f8) = stepDk (fun g => blk g (arg3.view.read (Elt F) X3)) (fun g => blk g (arg5.view.read (Elt F) X5)) (fun g => blk g (arg6.view.read (Elt F) X6)) (arg14.view.read (Elt F) X14) 2 (fun g => blk g (arg8.view.read (Elt F) (s).f8)) g := by
  obtain ⟨kv, hlt⟩ := k
  obtain rfl : kv = 2 := hk
  unfold next
  rw [dif_neg (by simp)]; rw [dif_neg (by simp)]; rw [dif_pos rfl]
  unfold trip2
  dsimp only [trip2.sl.W13_1, trip2.sl.W13_2, trip2.sl.W13_3, trip2.sl.W9_1, trip2.sl.W9_2, trip2.sl.arg15, trip2.sl.r, trip2.sl.r_1, trip2.sl.r_2, trip2.sl.r_3, trip2.sl.r_4, trip2.sl.r_5, trip2.sl.r_6, trip2.sl.r_7, trip2.sl.r_8, trip2.sl.v152, trip2.sl.v221, trip2.sl.v266, trip2.sl.v306, trip2.sl.v313]
  simp only [readAt_256 _ _ 2 _ (off1_eq ⟨2, hlt⟩), readAt_512 _ _ 2 _ (off2_eq ⟨2, hlt⟩), blk_writes_256 _ _ 2 _ _ _ _ (off1_eq ⟨2, hlt⟩), readAt_256 _ _ 0 _ (off3_eq0 ⟨2, hlt⟩), readAt_512 _ _ 0 _ (off4_eq0 ⟨2, hlt⟩), readAt_slab _ _ 0 _ (off5_eq0 ⟨2, hlt⟩), readAt_256 _ _ 1 _ (off3_eq1 ⟨2, hlt⟩), readAt_512 _ _ 1 _ (off4_eq1 ⟨2, hlt⟩), readAt_slab _ _ 1 _ (off5_eq1 ⟨2, hlt⟩), View.readCov_cons_toLoadRect, readAt_dec, View.writes_nil]
  match g with | 0 => rfl | 1 => rfl | 2 => rfl | 3 => rfl
set_option maxHeartbeats 4000000 in
/-- Trip 2 on the gradient of the scaled keys. -/
theorem trip2_Dks (k : Fin k0_t1_loop.trips) (hk : k.val = 2) (s : St arg7 arg8 arg9 arg12 arg13 F) (g : Fin 4) :
    blk g (arg12.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f12) = stepDks v1 (fun g => blk g (arg3.view.read (Elt F) X3)) (fun g => blk g (arg5.view.read (Elt F) X5)) (fun g => blk g (arg6.view.read (Elt F) X6)) 2 (fun g => blk g (arg12.view.read (Elt F) (s).f12)) g := by
  obtain ⟨kv, hlt⟩ := k
  obtain rfl : kv = 2 := hk
  unfold next
  rw [dif_neg (by simp)]; rw [dif_neg (by simp)]; rw [dif_pos rfl]
  unfold trip2
  dsimp only [trip2.sl.W13_1, trip2.sl.W13_2, trip2.sl.W13_3, trip2.sl.W9_1, trip2.sl.W9_2, trip2.sl.arg15, trip2.sl.r, trip2.sl.r_1, trip2.sl.r_2, trip2.sl.r_3, trip2.sl.r_4, trip2.sl.r_5, trip2.sl.r_6, trip2.sl.r_7, trip2.sl.r_8, trip2.sl.v152, trip2.sl.v221, trip2.sl.v266, trip2.sl.v306, trip2.sl.v313]
  simp only [readAt_256 _ _ 2 _ (off1_eq ⟨2, hlt⟩), readAt_512 _ _ 2 _ (off2_eq ⟨2, hlt⟩), readAt_256 _ _ 0 _ (off3_eq0 ⟨2, hlt⟩), blk_writes_256 _ _ 0 _ _ _ _ (off3_eq0 ⟨2, hlt⟩), readAt_512 _ _ 0 _ (off4_eq0 ⟨2, hlt⟩), readAt_slab _ _ 0 _ (off5_eq0 ⟨2, hlt⟩), readAt_256 _ _ 1 _ (off3_eq1 ⟨2, hlt⟩), blk_writes_256 _ _ 1 _ _ _ _ (off3_eq1 ⟨2, hlt⟩), readAt_512 _ _ 1 _ (off4_eq1 ⟨2, hlt⟩), readAt_slab _ _ 1 _ (off5_eq1 ⟨2, hlt⟩), View.readCov_cons_toLoadRect, readAt_dec, View.writes_nil]
  match g with | 0 => rfl | 1 => rfl | 2 => rfl | 3 => rfl
set_option maxHeartbeats 4000000 in
/-- Trip 2 on the gradient of the queries. -/
theorem trip2_Dq (k : Fin k0_t1_loop.trips) (hk : k.val = 2) (s : St arg7 arg8 arg9 arg12 arg13 F) (g : Fin 4) :
    blk g (arg7.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f7) = stepDq v1 (fun g => blk g (arg4.view.read (Elt F) X4)) (fun g => blk g (arg5.view.read (Elt F) X5)) (fun g => blk g (arg6.view.read (Elt F) X6)) (fun g => slab g (arg11.view.read (Elt F) X11)) (arg14.view.read (Elt F) X14) 2 (fun g => blk g (arg7.view.read (Elt F) (s).f7)) g := by
  obtain ⟨kv, hlt⟩ := k
  obtain rfl : kv = 2 := hk
  unfold next
  rw [dif_neg (by simp)]; rw [dif_neg (by simp)]; rw [dif_pos rfl]
  unfold trip2
  dsimp only [trip2.sl.W13_1, trip2.sl.W13_2, trip2.sl.W13_3, trip2.sl.W9_1, trip2.sl.W9_2, trip2.sl.arg15, trip2.sl.r, trip2.sl.r_1, trip2.sl.r_2, trip2.sl.r_3, trip2.sl.r_4, trip2.sl.r_5, trip2.sl.r_6, trip2.sl.r_7, trip2.sl.r_8, trip2.sl.v152, trip2.sl.v221, trip2.sl.v266, trip2.sl.v306, trip2.sl.v313]
  simp only [readAt_256 _ _ 2 _ (off1_eq ⟨2, hlt⟩), readAt_512 _ _ 2 _ (off2_eq ⟨2, hlt⟩), blk_writes_256 _ _ 2 _ _ _ _ (off1_eq ⟨2, hlt⟩), readAt_256 _ _ 0 _ (off3_eq0 ⟨2, hlt⟩), readAt_512 _ _ 0 _ (off4_eq0 ⟨2, hlt⟩), readAt_slab _ _ 0 _ (off5_eq0 ⟨2, hlt⟩), readAt_256 _ _ 1 _ (off3_eq1 ⟨2, hlt⟩), readAt_512 _ _ 1 _ (off4_eq1 ⟨2, hlt⟩), readAt_slab _ _ 1 _ (off5_eq1 ⟨2, hlt⟩), View.readCov_cons_toLoadRect, readAt_dec, View.writes_nil]
  match g with | 0 => rfl | 1 => rfl | 2 => rfl | 3 => rfl
set_option maxHeartbeats 4000000 in
/-- Trip 3 on the gradient of the values. -/
theorem trip3_Dv (k : Fin k0_t1_loop.trips) (hk : k.val = 3) (s : St arg7 arg8 arg9 arg12 arg13 F) (g : Fin 4) :
    blk g (arg9.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f9) = stepDv v1 (fun g => blk g (arg3.view.read (Elt F) X3)) (fun g => blk g (arg4.view.read (Elt F) X4)) (fun g => blk g (arg10.view.read (Elt F) X10)) (fun g => blk g (arg6.view.read (Elt F) X6)) (arg14.view.read (Elt F) X14) 3 (fun g => blk g (arg9.view.read (Elt F) (s).f9)) g := by
  obtain ⟨kv, hlt⟩ := k
  obtain rfl : kv = 3 := hk
  unfold next
  rw [dif_neg (by simp)]; rw [dif_neg (by simp)]; rw [dif_neg (by simp)]; rw [dif_pos rfl]
  unfold trip3
  dsimp only [trip3.sl.W12_2, trip3.sl.W13_1, trip3.sl.W13_2, trip3.sl.W13_3, trip3.sl.W13_4, trip3.sl.W9_1, trip3.sl.W9_2, trip3.sl.W9_3, trip3.sl.arg15, trip3.sl.r, trip3.sl.r_1, trip3.sl.r_2, trip3.sl.r_3, trip3.sl.r_4, trip3.sl.r_5, trip3.sl.r_6, trip3.sl.r_7, trip3.sl.r_8, trip3.sl.r_9, trip3.sl.v152, trip3.sl.v221, trip3.sl.v227, trip3.sl.v228, trip3.sl.v266, trip3.sl.v266_1, trip3.sl.v306, trip3.sl.v313]
  simp only [readAt_256 _ _ 3 _ (off1_eq ⟨3, hlt⟩), readAt_512 _ _ 3 _ (off2_eq ⟨3, hlt⟩), blk_writes_512 _ _ 3 _ _ _ _ (off2_eq ⟨3, hlt⟩), readAt_256 _ _ 0 _ (off3_eq0 ⟨3, hlt⟩), readAt_512 _ _ 0 _ (off4_eq0 ⟨3, hlt⟩), blk_writes_512 _ _ 0 _ _ _ _ (off4_eq0 ⟨3, hlt⟩), readAt_slab _ _ 0 _ (off5_eq0 ⟨3, hlt⟩), readAt_256 _ _ 1 _ (off3_eq1 ⟨3, hlt⟩), readAt_512 _ _ 1 _ (off4_eq1 ⟨3, hlt⟩), blk_writes_512 _ _ 1 _ _ _ _ (off4_eq1 ⟨3, hlt⟩), readAt_slab _ _ 1 _ (off5_eq1 ⟨3, hlt⟩), readAt_256 _ _ 2 _ (off6_at3 hlt), readAt_512 _ _ 2 _ (off7_at3 hlt), blk_writes_512 _ _ 2 _ _ _ _ (off7_at3 hlt), readAt_slab _ _ 2 _ (off8_at3 hlt), View.readCov_cons_toLoadRect, readAt_dec, View.writes_nil]
  match g with | 0 => rfl | 1 => rfl | 2 => rfl | 3 => rfl
set_option maxHeartbeats 4000000 in
/-- Trip 3 on the gradient of the keys, own blocks. -/
theorem trip3_Dk (k : Fin k0_t1_loop.trips) (hk : k.val = 3) (s : St arg7 arg8 arg9 arg12 arg13 F) (g : Fin 4) :
    blk g (arg8.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f8) = stepDk (fun g => blk g (arg3.view.read (Elt F) X3)) (fun g => blk g (arg5.view.read (Elt F) X5)) (fun g => blk g (arg6.view.read (Elt F) X6)) (arg14.view.read (Elt F) X14) 3 (fun g => blk g (arg8.view.read (Elt F) (s).f8)) g := by
  obtain ⟨kv, hlt⟩ := k
  obtain rfl : kv = 3 := hk
  unfold next
  rw [dif_neg (by simp)]; rw [dif_neg (by simp)]; rw [dif_neg (by simp)]; rw [dif_pos rfl]
  unfold trip3
  dsimp only [trip3.sl.W12_2, trip3.sl.W13_1, trip3.sl.W13_2, trip3.sl.W13_3, trip3.sl.W13_4, trip3.sl.W9_1, trip3.sl.W9_2, trip3.sl.W9_3, trip3.sl.arg15, trip3.sl.r, trip3.sl.r_1, trip3.sl.r_2, trip3.sl.r_3, trip3.sl.r_4, trip3.sl.r_5, trip3.sl.r_6, trip3.sl.r_7, trip3.sl.r_8, trip3.sl.r_9, trip3.sl.v152, trip3.sl.v221, trip3.sl.v227, trip3.sl.v228, trip3.sl.v266, trip3.sl.v266_1, trip3.sl.v306, trip3.sl.v313]
  simp only [readAt_256 _ _ 3 _ (off1_eq ⟨3, hlt⟩), readAt_512 _ _ 3 _ (off2_eq ⟨3, hlt⟩), blk_writes_256 _ _ 3 _ _ _ _ (off1_eq ⟨3, hlt⟩), readAt_256 _ _ 0 _ (off3_eq0 ⟨3, hlt⟩), readAt_512 _ _ 0 _ (off4_eq0 ⟨3, hlt⟩), readAt_slab _ _ 0 _ (off5_eq0 ⟨3, hlt⟩), readAt_256 _ _ 1 _ (off3_eq1 ⟨3, hlt⟩), readAt_512 _ _ 1 _ (off4_eq1 ⟨3, hlt⟩), readAt_slab _ _ 1 _ (off5_eq1 ⟨3, hlt⟩), readAt_256 _ _ 2 _ (off6_at3 hlt), readAt_512 _ _ 2 _ (off7_at3 hlt), readAt_slab _ _ 2 _ (off8_at3 hlt), View.readCov_cons_toLoadRect, readAt_dec, View.writes_nil]
  match g with | 0 => rfl | 1 => rfl | 2 => rfl | 3 => rfl
set_option maxHeartbeats 4000000 in
/-- Trip 3 on the gradient of the scaled keys. -/
theorem trip3_Dks (k : Fin k0_t1_loop.trips) (hk : k.val = 3) (s : St arg7 arg8 arg9 arg12 arg13 F) (g : Fin 4) :
    blk g (arg12.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f12) = stepDks v1 (fun g => blk g (arg3.view.read (Elt F) X3)) (fun g => blk g (arg5.view.read (Elt F) X5)) (fun g => blk g (arg6.view.read (Elt F) X6)) 3 (fun g => blk g (arg12.view.read (Elt F) (s).f12)) g := by
  obtain ⟨kv, hlt⟩ := k
  obtain rfl : kv = 3 := hk
  unfold next
  rw [dif_neg (by simp)]; rw [dif_neg (by simp)]; rw [dif_neg (by simp)]; rw [dif_pos rfl]
  unfold trip3
  dsimp only [trip3.sl.W12_2, trip3.sl.W13_1, trip3.sl.W13_2, trip3.sl.W13_3, trip3.sl.W13_4, trip3.sl.W9_1, trip3.sl.W9_2, trip3.sl.W9_3, trip3.sl.arg15, trip3.sl.r, trip3.sl.r_1, trip3.sl.r_2, trip3.sl.r_3, trip3.sl.r_4, trip3.sl.r_5, trip3.sl.r_6, trip3.sl.r_7, trip3.sl.r_8, trip3.sl.r_9, trip3.sl.v152, trip3.sl.v221, trip3.sl.v227, trip3.sl.v228, trip3.sl.v266, trip3.sl.v266_1, trip3.sl.v306, trip3.sl.v313]
  simp only [readAt_256 _ _ 3 _ (off1_eq ⟨3, hlt⟩), readAt_512 _ _ 3 _ (off2_eq ⟨3, hlt⟩), readAt_256 _ _ 0 _ (off3_eq0 ⟨3, hlt⟩), blk_writes_256 _ _ 0 _ _ _ _ (off3_eq0 ⟨3, hlt⟩), readAt_512 _ _ 0 _ (off4_eq0 ⟨3, hlt⟩), readAt_slab _ _ 0 _ (off5_eq0 ⟨3, hlt⟩), readAt_256 _ _ 1 _ (off3_eq1 ⟨3, hlt⟩), blk_writes_256 _ _ 1 _ _ _ _ (off3_eq1 ⟨3, hlt⟩), readAt_512 _ _ 1 _ (off4_eq1 ⟨3, hlt⟩), readAt_slab _ _ 1 _ (off5_eq1 ⟨3, hlt⟩), readAt_256 _ _ 2 _ (off6_at3 hlt), blk_writes_256 _ _ 2 _ _ _ _ (off6_at3 hlt), readAt_512 _ _ 2 _ (off7_at3 hlt), readAt_slab _ _ 2 _ (off8_at3 hlt), View.readCov_cons_toLoadRect, readAt_dec, View.writes_nil]
  match g with | 0 => rfl | 1 => rfl | 2 => rfl | 3 => rfl
set_option maxHeartbeats 4000000 in
/-- Trip 3 on the gradient of the queries. -/
theorem trip3_Dq (k : Fin k0_t1_loop.trips) (hk : k.val = 3) (s : St arg7 arg8 arg9 arg12 arg13 F) (g : Fin 4) :
    blk g (arg7.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f7) = stepDq v1 (fun g => blk g (arg4.view.read (Elt F) X4)) (fun g => blk g (arg5.view.read (Elt F) X5)) (fun g => blk g (arg6.view.read (Elt F) X6)) (fun g => slab g (arg11.view.read (Elt F) X11)) (arg14.view.read (Elt F) X14) 3 (fun g => blk g (arg7.view.read (Elt F) (s).f7)) g := by
  obtain ⟨kv, hlt⟩ := k
  obtain rfl : kv = 3 := hk
  unfold next
  rw [dif_neg (by simp)]; rw [dif_neg (by simp)]; rw [dif_neg (by simp)]; rw [dif_pos rfl]
  unfold trip3
  dsimp only [trip3.sl.W12_2, trip3.sl.W13_1, trip3.sl.W13_2, trip3.sl.W13_3, trip3.sl.W13_4, trip3.sl.W9_1, trip3.sl.W9_2, trip3.sl.W9_3, trip3.sl.arg15, trip3.sl.r, trip3.sl.r_1, trip3.sl.r_2, trip3.sl.r_3, trip3.sl.r_4, trip3.sl.r_5, trip3.sl.r_6, trip3.sl.r_7, trip3.sl.r_8, trip3.sl.r_9, trip3.sl.v152, trip3.sl.v221, trip3.sl.v227, trip3.sl.v228, trip3.sl.v266, trip3.sl.v266_1, trip3.sl.v306, trip3.sl.v313]
  simp only [readAt_256 _ _ 3 _ (off1_eq ⟨3, hlt⟩), readAt_512 _ _ 3 _ (off2_eq ⟨3, hlt⟩), blk_writes_256 _ _ 3 _ _ _ _ (off1_eq ⟨3, hlt⟩), readAt_256 _ _ 0 _ (off3_eq0 ⟨3, hlt⟩), readAt_512 _ _ 0 _ (off4_eq0 ⟨3, hlt⟩), readAt_slab _ _ 0 _ (off5_eq0 ⟨3, hlt⟩), readAt_256 _ _ 1 _ (off3_eq1 ⟨3, hlt⟩), readAt_512 _ _ 1 _ (off4_eq1 ⟨3, hlt⟩), readAt_slab _ _ 1 _ (off5_eq1 ⟨3, hlt⟩), readAt_256 _ _ 2 _ (off6_at3 hlt), readAt_512 _ _ 2 _ (off7_at3 hlt), readAt_slab _ _ 2 _ (off8_at3 hlt), View.readCov_cons_toLoadRect, readAt_dec, View.writes_nil]
  match g with | 0 => rfl | 1 => rfl | 2 => rfl | 3 => rfl
end Trips

end Cert.Ret

end

end
-- ==== Proof.Ret.Final.lean ====
module

public import proofs.«01_k».proof.Proof.Ret.Model

/-! What the gradient's whole loop leaves: the four steps in order, and arrays put together from their row blocks. -/

@[expose] public section

set_option maxRecDepth 16384

noncomputable section

namespace Cert.Ret

open KernelIdeal KernelIdeal.Gen
open Idealize.ShloMosaic Idealize.ShloMosaic.TcCoe Idealize.ShloMosaic.Tactic

/-- An array from its four row blocks. -/
def join {α : Type} {n : ℕ} (b : Fin 4 → (⟨2, ![512, n]⟩ : Shape).Idx → α) : (⟨2, ![2048, n]⟩ : Shape).Idx → α :=
  fun y => b ⟨(y 0).val / 512, by have h0 : (y 0).val < 2048 := (y 0).isLt; omega⟩
    (ix2 (n0 := 512) (n1 := n) ⟨(y 0).val % 512, by omega⟩ (y 1))

theorem eq_join {α : Type} {n : ℕ} {x : (⟨2, ![2048, n]⟩ : Shape).Idx → α} {b : Fin 4 → (⟨2, ![512, n]⟩ : Shape).Idx → α}
    (h : ∀ g, blk g x = b g) : x = join b := by
  have e : ∀ (a : Fin 2048) (c : Fin n), x (ix2 a c) = join b (ix2 a c) := fun a c => by
    rw [eq_blk x a c, h]; rfl
  funext y
  have hy : ix2 (n0 := 2048) (n1 := n) (y 0) (y 1) = y := by
    funext a
    match a with
    | ⟨0, _⟩ => rfl
    | ⟨1, _⟩ => rfl
  rw [← hy]
  exact e _ _

variable {F : FTy → Type} [FloatOps F]

section Ends

variable (v1 : FVec F S1x1 .f32) (q k ks : Fin 4 → FVec F S512x256 .bf16) (v : Fin 4 → FVec F S512x512 .bf16) (d : Fin 4 → FVec F S512x512 .f32)
  (kst : Fin 4 → FVec F S1x256x512 .bf16) (dec : FVec F S512x512 .f32)

/-- The gradient of the values after the loop. -/
def endDv (s : Fin 4 → FVec F S512x512 .f32) : Fin 4 → FVec F S512x512 .f32 :=
  stepDv v1 q k ks d dec 3 (stepDv v1 q k ks d dec 2 (stepDv v1 q k ks d dec 1 (stepDv v1 q k ks d dec 0 s)))

/-- The gradient of the keys after the loop: what the own blocks add. -/
def endDk (s : Fin 4 → FVec F S512x256 .f32) : Fin 4 → FVec F S512x256 .f32 :=
  stepDk q v d dec 3 (stepDk q v d dec 2 (stepDk q v d dec 1 (stepDk q v d dec 0 s)))

/-- The gradient of the scaled keys after the loop: what later query blocks add. -/
def endDks (s : Fin 4 → FVec F S512x256 .f32) : Fin 4 → FVec F S512x256 .f32 :=
  stepDks v1 q v d 3 (stepDks v1 q v d 2 (stepDks v1 q v d 1 (stepDks v1 q v d 0 s)))

/-- The gradient of the queries after the loop. -/
def endDq (s : Fin 4 → FVec F S512x256 .f32) : Fin 4 → FVec F S512x256 .f32 :=
  stepDq v1 k v d kst dec 3 (stepDq v1 k v d kst dec 2 (stepDq v1 k v d kst dec 1 (stepDq v1 k v d kst dec 0 s)))

/-- Every row block of the queries' gradient is written. -/
theorem endDq_eq (s : Fin 4 → FVec F S512x256 .f32) (g : Fin 4) : endDq v1 k v d kst dec s g = blockDq v1 k v d kst dec g := by
  match g with | 0 => rfl | 1 => rfl | 2 => rfl | 3 => rfl

end Ends

section Loop

variable (c : Dev nD) (i : grid0.Coords)
  (arg2 : Memref sig .tc .vmem S1x8x128 .f32) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2048x512 .bf16) (harg5 : arg5.IsWhole)
  (arg6 : Memref sig .tc .vmem S2048x512 .f32) (harg6 : arg6.IsWhole)
  (arg7 : Memref sig .tc .vmem S2048x256 .f32) (harg7 : arg7.IsWhole)
  (arg8 : Memref sig .tc .vmem S2048x256 .f32) (harg8 : arg8.IsWhole)
  (arg9 : Memref sig .tc .vmem S2048x512 .f32) (harg9 : arg9.IsWhole)
  (arg10 : Memref sig .tc .vmem S2048x256 .bf16) (harg10 : arg10.IsWhole)
  (arg11 : Memref sig .tc .vmem S4x256x512 .bf16) (harg11 : arg11.IsWhole)
  (arg12 : Memref sig .tc .vmem S2048x256 .f32) (harg12 : arg12.IsWhole)
  (arg13 : Memref sig .tc .vmem S256x512 .f32) (harg13 : arg13.IsWhole)
  (arg14 : Memref sig .tc .vmem S512x512 .f32) (harg14 : arg14.IsWhole)
  (v1 : FVec F S1x1 .f32) (v67 : FVec F S512x512 .f32) (v91 v93 : IVec S512x512 32) (v112 : IVec S512x512 1) (c1 : BitVec 32)
  (X3 : BufTy.Contents (Elt F) arg3.view.ty)  (X4 : BufTy.Contents (Elt F) arg4.view.ty)  (X5 : BufTy.Contents (Elt F) arg5.view.ty)  (X6 : BufTy.Contents (Elt F) arg6.view.ty)  (X10 : BufTy.Contents (Elt F) arg10.view.ty)  (X11 : BufTy.Contents (Elt F) arg11.view.ty)  (X14 : BufTy.Contents (Elt F) arg14.view.ty)

/-- Trip 0 adds nothing to the gradient of the scaled keys. -/
theorem trip0_Dks (k : Fin k0_t1_loop.trips) (hk : k.val = 0) (s : St arg7 arg8 arg9 arg12 arg13 F) (g : Fin 4) :
    blk g (arg12.view.read (Elt F) (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 k s).f12) = stepDks v1 (fun g => blk g (arg3.view.read (Elt F) X3)) (fun g => blk g (arg5.view.read (Elt F) X5)) (fun g => blk g (arg6.view.read (Elt F) X6)) 0 (fun g => blk g (arg12.view.read (Elt F) (s).f12)) g := by
  obtain ⟨kv, hlt⟩ := k
  obtain rfl : kv = 0 := hk
  unfold next
  rw [dif_pos rfl]
  unfold trip0
  match g with | 0 => rfl | 1 => rfl | 2 => rfl | 3 => rfl

/-- The loop's four trips. -/
theorem before_end (s : St arg7 arg8 arg9 arg12 arg13 F) :
    before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 s (Scf.trips k0_t1_loop.lb k0_t1_loop.ub k0_t1_loop.st)
      = next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨3, by decide⟩ (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨2, by decide⟩ (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨1, by decide⟩ (next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨0, by decide⟩ s))) := by
  have e : Scf.trips k0_t1_loop.lb k0_t1_loop.ub k0_t1_loop.st = 4 := by decide
  have h (k : ℕ) (hk : k < k0_t1_loop.trips) : before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 s (k + 1) = next c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨k, hk⟩ (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 s k) :=
    before_succ (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 s ⟨k, hk⟩
  rw [e, h 3 (by decide), h 2 (by decide), h 1 (by decide), h 0 (by decide)]
  rfl

/-- The loop on the gradient of the values. -/
theorem end_f9 {G7 : BufTy.Contents (Elt F) arg7.view.ty} {G8 : BufTy.Contents (Elt F) arg8.view.ty} {G9 : BufTy.Contents (Elt F) arg9.view.ty} {G12 : BufTy.Contents (Elt F) arg12.view.ty} {G13 : BufTy.Contents (Elt F) arg13.view.ty} :
    arg9.view.read (Elt F) (fromEntry G9 (fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f9) (Scf.trips k0_t1_loop.lb k0_t1_loop.ub k0_t1_loop.st))
      = join (endDv v1 (fun g => blk g (arg3.view.read (Elt F) X3)) (fun g => blk g (arg4.view.read (Elt F) X4)) (fun g => blk g (arg10.view.read (Elt F) X10)) (fun g => blk g (arg6.view.read (Elt F) X6)) (arg14.view.read (Elt F) X14) (fun g => blk g (arg9.view.read (Elt F) G9))) := by
  rw [fromEntry_eq (a := G9) (b := fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f9) rfl]
  refine eq_join fun g => ?_
  show blk g (arg9.view.read (Elt F) (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ (Scf.trips k0_t1_loop.lb k0_t1_loop.ub k0_t1_loop.st)).f9) = _
  rw [before_end]

  refine (trip3_Dv (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨3, by decide⟩ rfl _ g).trans ?_
  refine congrFun (congrArg (stepDv v1 (fun g => blk g (arg3.view.read (Elt F) X3)) (fun g => blk g (arg4.view.read (Elt F) X4)) (fun g => blk g (arg10.view.read (Elt F) X10)) (fun g => blk g (arg6.view.read (Elt F) X6)) (arg14.view.read (Elt F) X14) 3) (funext fun g => ?_)) g
  refine (trip2_Dv (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨2, by decide⟩ rfl _ g).trans ?_
  refine congrFun (congrArg (stepDv v1 (fun g => blk g (arg3.view.read (Elt F) X3)) (fun g => blk g (arg4.view.read (Elt F) X4)) (fun g => blk g (arg10.view.read (Elt F) X10)) (fun g => blk g (arg6.view.read (Elt F) X6)) (arg14.view.read (Elt F) X14) 2) (funext fun g => ?_)) g
  refine (trip1_Dv (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨1, by decide⟩ rfl _ g).trans ?_
  refine congrFun (congrArg (stepDv v1 (fun g => blk g (arg3.view.read (Elt F) X3)) (fun g => blk g (arg4.view.read (Elt F) X4)) (fun g => blk g (arg10.view.read (Elt F) X10)) (fun g => blk g (arg6.view.read (Elt F) X6)) (arg14.view.read (Elt F) X14) 1) (funext fun g => ?_)) g
  exact trip0_Dv (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨0, by decide⟩ rfl _ g

/-- The loop on the gradient of the keys, own blocks. -/
theorem end_f8 {G7 : BufTy.Contents (Elt F) arg7.view.ty} {G8 : BufTy.Contents (Elt F) arg8.view.ty} {G9 : BufTy.Contents (Elt F) arg9.view.ty} {G12 : BufTy.Contents (Elt F) arg12.view.ty} {G13 : BufTy.Contents (Elt F) arg13.view.ty} :
    arg8.view.read (Elt F) (fromEntry G8 (fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f8) (Scf.trips k0_t1_loop.lb k0_t1_loop.ub k0_t1_loop.st))
      = join (endDk (fun g => blk g (arg3.view.read (Elt F) X3)) (fun g => blk g (arg5.view.read (Elt F) X5)) (fun g => blk g (arg6.view.read (Elt F) X6)) (arg14.view.read (Elt F) X14) (fun g => blk g (arg8.view.read (Elt F) G8))) := by
  rw [fromEntry_eq (a := G8) (b := fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f8) rfl]
  refine eq_join fun g => ?_
  show blk g (arg8.view.read (Elt F) (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ (Scf.trips k0_t1_loop.lb k0_t1_loop.ub k0_t1_loop.st)).f8) = _
  rw [before_end]

  refine (trip3_Dk (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨3, by decide⟩ rfl _ g).trans ?_
  refine congrFun (congrArg (stepDk (fun g => blk g (arg3.view.read (Elt F) X3)) (fun g => blk g (arg5.view.read (Elt F) X5)) (fun g => blk g (arg6.view.read (Elt F) X6)) (arg14.view.read (Elt F) X14) 3) (funext fun g => ?_)) g
  refine (trip2_Dk (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨2, by decide⟩ rfl _ g).trans ?_
  refine congrFun (congrArg (stepDk (fun g => blk g (arg3.view.read (Elt F) X3)) (fun g => blk g (arg5.view.read (Elt F) X5)) (fun g => blk g (arg6.view.read (Elt F) X6)) (arg14.view.read (Elt F) X14) 2) (funext fun g => ?_)) g
  refine (trip1_Dk (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨1, by decide⟩ rfl _ g).trans ?_
  refine congrFun (congrArg (stepDk (fun g => blk g (arg3.view.read (Elt F) X3)) (fun g => blk g (arg5.view.read (Elt F) X5)) (fun g => blk g (arg6.view.read (Elt F) X6)) (arg14.view.read (Elt F) X14) 1) (funext fun g => ?_)) g
  exact trip0_Dk (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨0, by decide⟩ rfl _ g

/-- The loop on the gradient of the scaled keys. -/
theorem end_f12 {G7 : BufTy.Contents (Elt F) arg7.view.ty} {G8 : BufTy.Contents (Elt F) arg8.view.ty} {G9 : BufTy.Contents (Elt F) arg9.view.ty} {G12 : BufTy.Contents (Elt F) arg12.view.ty} {G13 : BufTy.Contents (Elt F) arg13.view.ty} :
    arg12.view.read (Elt F) (fromEntry G12 (fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f12) (Scf.trips k0_t1_loop.lb k0_t1_loop.ub k0_t1_loop.st))
      = join (endDks v1 (fun g => blk g (arg3.view.read (Elt F) X3)) (fun g => blk g (arg5.view.read (Elt F) X5)) (fun g => blk g (arg6.view.read (Elt F) X6)) (fun g => blk g (arg12.view.read (Elt F) G12))) := by
  rw [fromEntry_eq (a := G12) (b := fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f12) rfl]
  refine eq_join fun g => ?_
  show blk g (arg12.view.read (Elt F) (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ (Scf.trips k0_t1_loop.lb k0_t1_loop.ub k0_t1_loop.st)).f12) = _
  rw [before_end]

  refine (trip3_Dks (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨3, by decide⟩ rfl _ g).trans ?_
  refine congrFun (congrArg (stepDks v1 (fun g => blk g (arg3.view.read (Elt F) X3)) (fun g => blk g (arg5.view.read (Elt F) X5)) (fun g => blk g (arg6.view.read (Elt F) X6)) 3) (funext fun g => ?_)) g
  refine (trip2_Dks (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨2, by decide⟩ rfl _ g).trans ?_
  refine congrFun (congrArg (stepDks v1 (fun g => blk g (arg3.view.read (Elt F) X3)) (fun g => blk g (arg5.view.read (Elt F) X5)) (fun g => blk g (arg6.view.read (Elt F) X6)) 2) (funext fun g => ?_)) g
  refine (trip1_Dks (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨1, by decide⟩ rfl _ g).trans ?_
  refine congrFun (congrArg (stepDks v1 (fun g => blk g (arg3.view.read (Elt F) X3)) (fun g => blk g (arg5.view.read (Elt F) X5)) (fun g => blk g (arg6.view.read (Elt F) X6)) 1) (funext fun g => ?_)) g
  exact trip0_Dks (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨0, by decide⟩ rfl _ g

/-- The loop on the gradient of the queries. -/
theorem end_f7 {G7 : BufTy.Contents (Elt F) arg7.view.ty} {G8 : BufTy.Contents (Elt F) arg8.view.ty} {G9 : BufTy.Contents (Elt F) arg9.view.ty} {G12 : BufTy.Contents (Elt F) arg12.view.ty} {G13 : BufTy.Contents (Elt F) arg13.view.ty} :
    arg7.view.read (Elt F) (fromEntry G7 (fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f7) (Scf.trips k0_t1_loop.lb k0_t1_loop.ub k0_t1_loop.st))
      = join (blockDq v1 (fun g => blk g (arg4.view.read (Elt F) X4)) (fun g => blk g (arg5.view.read (Elt F) X5)) (fun g => blk g (arg6.view.read (Elt F) X6)) (fun g => slab g (arg11.view.read (Elt F) X11)) (arg14.view.read (Elt F) X14)) := by
  rw [fromEntry_eq (a := G7) (b := fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f7) rfl]
  refine eq_join fun g => ?_
  show blk g (arg7.view.read (Elt F) (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ (Scf.trips k0_t1_loop.lb k0_t1_loop.ub k0_t1_loop.st)).f7) = _
  rw [before_end]
  refine Eq.trans ?_ (endDq_eq v1 (fun g => blk g (arg4.view.read (Elt F) X4)) (fun g => blk g (arg5.view.read (Elt F) X5)) (fun g => blk g (arg6.view.read (Elt F) X6)) (fun g => slab g (arg11.view.read (Elt F) X11)) (arg14.view.read (Elt F) X14) (fun g => blk g (arg7.view.read (Elt F) G7)) g)
  refine (trip3_Dq (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨3, by decide⟩ rfl _ g).trans ?_
  refine congrFun (congrArg (stepDq v1 (fun g => blk g (arg4.view.read (Elt F) X4)) (fun g => blk g (arg5.view.read (Elt F) X5)) (fun g => blk g (arg6.view.read (Elt F) X6)) (fun g => slab g (arg11.view.read (Elt F) X11)) (arg14.view.read (Elt F) X14) 3) (funext fun g => ?_)) g
  refine (trip2_Dq (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨2, by decide⟩ rfl _ g).trans ?_
  refine congrFun (congrArg (stepDq v1 (fun g => blk g (arg4.view.read (Elt F) X4)) (fun g => blk g (arg5.view.read (Elt F) X5)) (fun g => blk g (arg6.view.read (Elt F) X6)) (fun g => slab g (arg11.view.read (Elt F) X11)) (arg14.view.read (Elt F) X14) 2) (funext fun g => ?_)) g
  refine (trip1_Dq (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨1, by decide⟩ rfl _ g).trans ?_
  refine congrFun (congrArg (stepDq v1 (fun g => blk g (arg4.view.read (Elt F) X4)) (fun g => blk g (arg5.view.read (Elt F) X5)) (fun g => blk g (arg6.view.read (Elt F) X6)) (fun g => slab g (arg11.view.read (Elt F) X11)) (arg14.view.read (Elt F) X14) 1) (funext fun g => ?_)) g
  exact trip0_Dq (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨0, by decide⟩ rfl _ g

/-- The same, of what the buffers read to at entry. -/
theorem end_f9_of {G7 : BufTy.Contents (Elt F) arg7.view.ty} {G8 : BufTy.Contents (Elt F) arg8.view.ty} {G9 : BufTy.Contents (Elt F) arg9.view.ty} {G12 : BufTy.Contents (Elt F) arg12.view.ty} {G13 : BufTy.Contents (Elt F) arg13.view.ty} {lg : FVec F S1x1 .f32} (hv : v1 = lg) {x3 : Vec F S2048x256 .bf16} (h3 : arg3.view.read (Elt F) X3 = x3) {x4 : Vec F S2048x256 .bf16} (h4 : arg4.view.read (Elt F) X4 = x4) {ks : Vec F S2048x256 .bf16} (h10 : arg10.view.read (Elt F) X10 = ks) {x6 : Vec F S2048x512 .f32} (h6 : arg6.view.read (Elt F) X6 = x6) {dec : FVec F S512x512 .f32} (h14 : arg14.view.read (Elt F) X14 = dec) {z : Vec F S2048x512 .f32} (hz : arg9.view.read (Elt F) G9 = z) :
    arg9.view.read (Elt F) (fromEntry G9 (fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f9) (Scf.trips k0_t1_loop.lb k0_t1_loop.ub k0_t1_loop.st))
      = join (endDv lg (fun g => blk g x3) (fun g => blk g x4) (fun g => blk g ks) (fun g => blk g x6) dec (fun g => blk g z)) := by
  subst hv; subst h3; subst h4; subst h10; subst h6; subst h14; subst hz
  exact end_f9 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14

/-- The same, of what the buffers read to at entry. -/
theorem end_f8_of {G7 : BufTy.Contents (Elt F) arg7.view.ty} {G8 : BufTy.Contents (Elt F) arg8.view.ty} {G9 : BufTy.Contents (Elt F) arg9.view.ty} {G12 : BufTy.Contents (Elt F) arg12.view.ty} {G13 : BufTy.Contents (Elt F) arg13.view.ty} {x3 : Vec F S2048x256 .bf16} (h3 : arg3.view.read (Elt F) X3 = x3) {x5 : Vec F S2048x512 .bf16} (h5 : arg5.view.read (Elt F) X5 = x5) {x6 : Vec F S2048x512 .f32} (h6 : arg6.view.read (Elt F) X6 = x6) {dec : FVec F S512x512 .f32} (h14 : arg14.view.read (Elt F) X14 = dec) {z : Vec F S2048x256 .f32} (hz : arg8.view.read (Elt F) G8 = z) :
    arg8.view.read (Elt F) (fromEntry G8 (fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f8) (Scf.trips k0_t1_loop.lb k0_t1_loop.ub k0_t1_loop.st))
      = join (endDk (fun g => blk g x3) (fun g => blk g x5) (fun g => blk g x6) dec (fun g => blk g z)) := by
  subst h3; subst h5; subst h6; subst h14; subst hz
  exact end_f8 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14

/-- The same, of what the buffers read to at entry. -/
theorem end_f12_of {G7 : BufTy.Contents (Elt F) arg7.view.ty} {G8 : BufTy.Contents (Elt F) arg8.view.ty} {G9 : BufTy.Contents (Elt F) arg9.view.ty} {G12 : BufTy.Contents (Elt F) arg12.view.ty} {G13 : BufTy.Contents (Elt F) arg13.view.ty} {lg : FVec F S1x1 .f32} (hv : v1 = lg) {x3 : Vec F S2048x256 .bf16} (h3 : arg3.view.read (Elt F) X3 = x3) {x5 : Vec F S2048x512 .bf16} (h5 : arg5.view.read (Elt F) X5 = x5) {x6 : Vec F S2048x512 .f32} (h6 : arg6.view.read (Elt F) X6 = x6) {z : Vec F S2048x256 .f32} (hz : arg12.view.read (Elt F) G12 = z) :
    arg12.view.read (Elt F) (fromEntry G12 (fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f12) (Scf.trips k0_t1_loop.lb k0_t1_loop.ub k0_t1_loop.st))
      = join (endDks lg (fun g => blk g x3) (fun g => blk g x5) (fun g => blk g x6) (fun g => blk g z)) := by
  subst hv; subst h3; subst h5; subst h6; subst hz
  exact end_f12 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14

/-- The same, of what the buffers read to at entry. -/
theorem end_f7_of {G7 : BufTy.Contents (Elt F) arg7.view.ty} {G8 : BufTy.Contents (Elt F) arg8.view.ty} {G9 : BufTy.Contents (Elt F) arg9.view.ty} {G12 : BufTy.Contents (Elt F) arg12.view.ty} {G13 : BufTy.Contents (Elt F) arg13.view.ty} {lg : FVec F S1x1 .f32} (hv : v1 = lg) {x4 : Vec F S2048x256 .bf16} (h4 : arg4.view.read (Elt F) X4 = x4) {x5 : Vec F S2048x512 .bf16} (h5 : arg5.view.read (Elt F) X5 = x5) {x6 : Vec F S2048x512 .f32} (h6 : arg6.view.read (Elt F) X6 = x6) {kst : Fin 4 → FVec F S1x256x512 .bf16} (h11 : ∀ g, slab g (arg11.view.read (Elt F) X11) = kst g) {dec : FVec F S512x512 .f32} (h14 : arg14.view.read (Elt F) X14 = dec)  :
    arg7.view.read (Elt F) (fromEntry G7 (fun k => (before c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14 ⟨G7, G8, G9, G12, G13⟩ k).f7) (Scf.trips k0_t1_loop.lb k0_t1_loop.ub k0_t1_loop.st))
      = join (blockDq lg (fun g => blk g x4) (fun g => blk g x5) (fun g => blk g x6) kst dec) := by
  subst hv; subst h4; subst h5; subst h6; obtain rfl := funext (f := fun g => slab g (arg11.view.read (Elt F) X11)) h11; subst h14
  exact end_f7 (F := F) c i arg2 harg2 arg3 harg3 arg4 harg4 arg5 harg5 arg6 harg6 arg7 harg7 arg8 harg8 arg9 harg9 arg10 harg10 arg11 harg11 arg12 harg12 arg13 harg13 arg14 harg14 v1 v67 v91 v93 v112 c1 X3 X4 X5 X6 X10 X11 X14

end Loop

end Cert.Ret

end

end
-- ==== Proof.Ret.Body.lean ====
module

public import proofs.«01_k».proof.Proof.Ret.Final

/-! The whole body of the gradient: what it leaves in the three outputs, as a function of the blocks it reads. -/

@[expose] public section

set_option maxRecDepth 16384

noncomputable section

namespace Cert.Ret

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Outputs

variable (x2 : Vec F S1x8x128 .f32) (x3 x4 : Vec F S2048x256 .bf16) (x5 : Vec F S2048x512 .bf16) (x6 : Vec F S2048x512 .f32)

/-- The log decay, as loaded from its row. -/
def lgCell : Vec F S1x1x1 .f32 :=
  fun _ => x2 (ix3 (n0 := 1) (n1 := 8) (n2 := 128) 0 0 0)

/-- The log decay. -/
def lgOf : FVec F S1x1 .f32 := k0_pay18 (lgCell x2)

/-- The keys, each scaled by its decay to the end of its block. -/
def ksOf : FVec F S2048x256 .bf16 := k0_pay24 (k0_pay22 x4) (k0_pay23 (lgCell x2))

/-- The transposed scaled keys of a block. -/
def kstOf (g : Fin 4) : FVec F S1x256x512 .bf16 := k0_pay25 (blk g (ksOf x2 x4))

/-- The decays inside a block, zero where the query's chunk precedes the key's. -/
def decOf : FVec F S512x512 .f32 :=
  k0_pay34 (k0_pay30 (k0_pay29 (lgOf x2))) (k0_pay31 (iota .tc S512x512 32 [0] iota_S512x512_d0_w32))
    (k0_pay32 (iota .tc S512x512 32 [1] iota_S512x512_d1_w32)) (k0_pay33 (iota .tc S512x512 32 [1] iota_S512x512_d1_w32)) 1#32

/-- The gradient of the queries. -/
def outDq : Vec F S2048x256 .f32 :=
  join (blockDq (lgOf x2) (fun g => blk g x4) (fun g => blk g x5) (fun g => blk g x6) (kstOf x2 x4) (decOf x2))

/-- The gradient of the keys. -/
def outDk : Vec F S2048x256 .f32 :=
  k0_pay42 (lgOf x2)
    (join (endDk (fun g => blk g x3) (fun g => blk g x5) (fun g => blk g x6) (decOf x2) (fun g => blk g (k0_pay19 (F := F)))))
    (join (endDks (lgOf x2) (fun g => blk g x3) (fun g => blk g x5) (fun g => blk g x6) (fun g => blk g (k0_pay21 (F := F)))))

/-- The gradient of the values. -/
def outDv : Vec F S2048x512 .f32 :=
  join (endDv (lgOf x2) (fun g => blk g x3) (fun g => blk g x4) (fun g => blk g (ksOf x2 x4)) (fun g => blk g x6) (decOf x2)
    (fun g => blk g (k0_pay20 (F := F))))

end Outputs

/-- The load of the log decay. -/
theorem readAt_cell {sig : RefSig} {κ : Kind} {sp : Space} (v : View sig κ sp S1x8x128 .f32) (f : v.ty.Contents (Elt F)) (inb) :
    v.readAt (Elt F) (Rect.unit (s := S1x8x128) ![0, 0, 0] S1x1x1.size inb).toLoadRect f = lgCell (v.read (Elt F) f) := by
  rw [View.readAt_eq_ld]
  funext y
  show v.read (Elt F) f _ = v.read (Elt F) f _
  congr 1
  funext a
  match a with
  | ⟨0, _⟩ => exact Fin.ext (by show 0 + 1 * (y 0).val = 0; have h0 : (y 0).val < 1 := (y 0).isLt; omega)
  | ⟨1, _⟩ => exact Fin.ext (by show 0 + 1 * (y 1).val = 0; have h0 : (y 1).val < 1 := (y 1).isLt; omega)
  | ⟨2, _⟩ => exact Fin.ext (by show 0 + 1 * (y 2).val = 0; have h0 : (y 2).val < 1 := (y 2).isLt; omega)

/-- What a store of the whole of a matrix leaves. -/
theorem read_whole {sig : RefSig} {κ : Kind} {sp : Space} {m n : ℕ} {e : EltTy} (v : View sig κ sp (⟨2, ![m, n]⟩ : Shape) e)
    (f : v.ty.Contents (Elt F)) (inb : ∀ a : Fin 2, (![0, 0] : Fin 2 → ℕ) a + (![m, n] : Fin 2 → ℕ) a ≤ (![m, n] : Fin 2 → ℕ) a)
    (w : (⟨2, ![m, n]⟩ : Shape).Idx → Elt F e) :
    v.read (Elt F) (v.writes (Elt F) f [⟨Rect.unit (s := ⟨2, ![m, n]⟩) ![0, 0] ![m, n] inb, w⟩]) = w := by
  have h0 : (![0, 0] : Fin 2 → ℕ) = fun _ => 0 := by funext a; match a with | ⟨0, _⟩ => rfl | ⟨1, _⟩ => rfl
  have key : ∀ (off : Fin 2 → ℕ) (inb : ∀ a : Fin 2, off a + (![m, n] : Fin 2 → ℕ) a ≤ (![m, n] : Fin 2 → ℕ) a), off = (fun _ => 0) →
      v.read (Elt F) (v.writes (Elt F) f [⟨Rect.unit (s := ⟨2, ![m, n]⟩) off ![m, n] inb, w⟩]) = w := by
    intro off inb h
    subst h
    exact View.read_writes_whole v f w
  exact key _ inb h0

/-- A load of the whole of a matrix. -/
theorem readAt_whole2 {sig : RefSig} {κ : Kind} {sp : Space} {m n : ℕ} {e : EltTy} (v : View sig κ sp (⟨2, ![m, n]⟩ : Shape) e)
    (f : v.ty.Contents (Elt F)) (inb : ∀ a : Fin 2, (![0, 0] : Fin 2 → ℕ) a + (![m, n] : Fin 2 → ℕ) a ≤ (![m, n] : Fin 2 → ℕ) a) :
    v.readAt (Elt F) (Rect.unit (s := ⟨2, ![m, n]⟩) ![0, 0] ![m, n] inb).toLoadRect f = v.read (Elt F) f := by
  rw [View.readAt_eq_ld]
  funext y
  show v.read (Elt F) f _ = v.read (Elt F) f y
  congr 1
  funext a
  match a with
  | ⟨0, _⟩ => exact Fin.ext (by show 0 + 1 * (y 0).val = (y 0).val; omega)
  | ⟨1, _⟩ => exact Fin.ext (by show 0 + 1 * (y 1).val = (y 1).val; omega)

/-- What a store of the whole of a `S2048x256` leaves. -/
theorem read_w256 {sig : RefSig} {κ : Kind} {sp : Space} {e : EltTy} (v : View sig κ sp S2048x256 e) (f : v.ty.Contents (Elt F)) (inb)
    (w : S2048x256.Idx → Elt F e) :
    v.read (Elt F) (v.writes (Elt F) f [⟨Rect.unit (s := S2048x256) ![0, 0] S2048x256.size inb, w⟩]) = w := read_whole v f inb w

/-- A load of the whole of a `S2048x256`. -/
theorem readAt_w256 {sig : RefSig} {κ : Kind} {sp : Space} {e : EltTy} (v : View sig κ sp S2048x256 e) (f : v.ty.Contents (Elt F)) (inb) :
    v.readAt (Elt F) (Rect.unit (s := S2048x256) ![0, 0] S2048x256.size inb).toLoadRect f = v.read (Elt F) f := readAt_whole2 v f inb

/-- What a store of the whole of a `S2048x512` leaves. -/
theorem read_w512 {sig : RefSig} {κ : Kind} {sp : Space} {e : EltTy} (v : View sig κ sp S2048x512 e) (f : v.ty.Contents (Elt F)) (inb)
    (w : S2048x512.Idx → Elt F e) :
    v.read (Elt F) (v.writes (Elt F) f [⟨Rect.unit (s := S2048x512) ![0, 0] S2048x512.size inb, w⟩]) = w := read_whole v f inb w

/-- A load of the whole of a `S2048x512`. -/
theorem readAt_w512 {sig : RefSig} {κ : Kind} {sp : Space} {e : EltTy} (v : View sig κ sp S2048x512 e) (f : v.ty.Contents (Elt F)) (inb) :
    v.readAt (Elt F) (Rect.unit (s := S2048x512) ![0, 0] S2048x512.size inb).toLoadRect f = v.read (Elt F) f := readAt_whole2 v f inb

/-- What a store of the whole of a `S512x512` leaves. -/
theorem read_w512s {sig : RefSig} {κ : Kind} {sp : Space} {e : EltTy} (v : View sig κ sp S512x512 e) (f : v.ty.Contents (Elt F)) (inb)
    (w : S512x512.Idx → Elt F e) :
    v.read (Elt F) (v.writes (Elt F) f [⟨Rect.unit (s := S512x512) ![0, 0] S512x512.size inb, w⟩]) = w := read_whole v f inb w

/-- A load of the whole of a `S512x512`. -/
theorem readAt_w512s {sig : RefSig} {κ : Kind} {sp : Space} {e : EltTy} (v : View sig κ sp S512x512 e) (f : v.ty.Contents (Elt F)) (inb) :
    v.readAt (Elt F) (Rect.unit (s := S512x512) ![0, 0] S512x512.size inb).toLoadRect f = v.read (Elt F) f := readAt_whole2 v f inb

/-- A block loaded back from a matrix stored whole. -/
theorem readCov_blk {sig : RefSig} {κ : Kind} {sp : Space} {e : EltTy} (v : View sig κ sp S2048x256 e) (inb) (w : S2048x256.Idx → Elt F e) (g : Fin 4)
    {off : Fin 2 → ℕ} (inb' : ∀ a : Fin 2, off a + (![512, 256] : Fin 2 → ℕ) a ≤ (![2048, 256] : Fin 2 → ℕ) a) (hoff : off = ![512 * g.val, 0]) :
    v.readCov [⟨Rect.unit (s := S2048x256) ![0, 0] S2048x256.size inb, w⟩] (Rect.unit (s := S2048x256) off S512x256.size inb').toLoadRect = blk g w := by
  refine (readAt_256 v _ g inb' hoff).trans ?_
  rw [read_w256]

/-- The four slabs, each stored once, read back. -/
theorem slab_writes {sig : RefSig} {κ : Kind} {sp : Space} {e : EltTy} (v : View sig κ sp S4x256x512 e) (f : v.ty.Contents (Elt F))
    {i0 i1 i2 i3} (w0 w1 w2 w3 : S1x256x512.Idx → Elt F e) (g : Fin 4) :
    slab g (v.read (Elt F) (v.writes (Elt F) f
      [⟨Rect.unit (s := S4x256x512) ![3, 0, 0] S1x256x512.size i3, w3⟩, ⟨Rect.unit (s := S4x256x512) ![2, 0, 0] S1x256x512.size i2, w2⟩,
       ⟨Rect.unit (s := S4x256x512) ![1, 0, 0] S1x256x512.size i1, w1⟩, ⟨Rect.unit (s := S4x256x512) ![0, 0, 0] S1x256x512.size i0, w0⟩]))
      = match g with | 0 => w0 | 1 => w1 | 2 => w2 | 3 => w3 := by
  have hy : ∀ (r : ℕ) (hr : r < 4) (y : S1x256x512.Idx), (ix3 (n0 := 4) (n1 := 256) (n2 := 512) ⟨r, hr⟩ (y 1) (y 2) : S4x256x512.Idx) 0 = ⟨r, hr⟩ := fun _ _ _ => rfl
  have z0 : ∀ y : S1x256x512.Idx, (y 0).val = 0 := fun y => by have : (y 0).val < 1 := (y 0).isLt; omega
  have at_ : ∀ (r : ℕ) (hr : r < 4) (inb) (w : S1x256x512.Idx → Elt F e) (L : List (View.Piece (Elt F) S4x256x512 e)) (y : S1x256x512.Idx),
      v.read (Elt F) (v.writes (Elt F) f (⟨Rect.unit (s := S4x256x512) ![r, 0, 0] S1x256x512.size inb, w⟩ :: L))
        (ix3 (n0 := 4) (n1 := 256) (n2 := 512) ⟨r, hr⟩ (y 1) (y 2)) = w y := by
    intro r hr inb w L y
    have e := View.read_writes_cons_emb v f (Rect.unit (s := S4x256x512) ![r, 0, 0] S1x256x512.size inb) w L y
    rw [← e]
    congr 1
    funext a
    match a with
    | ⟨0, _⟩ => exact Fin.ext (by show r = r + 1 * (y 0).val; rw [z0]; rfl)
    | ⟨1, _⟩ => exact Fin.ext (by show (y 1).val = 0 + 1 * (y 1).val; omega)
    | ⟨2, _⟩ => exact Fin.ext (by show (y 2).val = 0 + 1 * (y 2).val; omega)
  have off_ : ∀ (r s : ℕ) (hr : r < 4) (hrs : r ≠ s) (inb) (w : S1x256x512.Idx → Elt F e) (L : List (View.Piece (Elt F) S4x256x512 e)) (y : S1x256x512.Idx),
      v.read (Elt F) (v.writes (Elt F) f (⟨Rect.unit (s := S4x256x512) ![s, 0, 0] S1x256x512.size inb, w⟩ :: L))
        (ix3 (n0 := 4) (n1 := 256) (n2 := 512) ⟨r, hr⟩ (y 1) (y 2))
      = v.read (Elt F) (v.writes (Elt F) f L) (ix3 (n0 := 4) (n1 := 256) (n2 := 512) ⟨r, hr⟩ (y 1) (y 2)) := by
    intro r s hr hrs inb w L y
    exact View.read_writes_cons_unit_of_not_mem v f inb w L _ (off' := ![s, 0, 0]) rfl (0 : Fin 3) (by show r < s ∨ s + 1 ≤ r; omega)
  funext y
  match g with
  | 3 => exact at_ 3 (by omega) i3 w3 _ y
  | 2 => exact (off_ 2 3 (by omega) (by omega) i3 w3 _ y).trans (at_ 2 (by omega) i2 w2 _ y)
  | 1 => exact ((off_ 1 3 (by omega) (by omega) i3 w3 _ y).trans (off_ 1 2 (by omega) (by omega) i2 w2 _ y)).trans (at_ 1 (by omega) i1 w1 _ y)
  | 0 => exact (((off_ 0 3 (by omega) (by omega) i3 w3 _ y).trans (off_ 0 2 (by omega) (by omega) i2 w2 _ y)).trans
      (off_ 0 1 (by omega) (by omega) i1 w1 _ y)).trans (at_ 0 (by omega) i0 w0 _ y)

set_option maxHeartbeats 4000000 in
/-- The body, on whole buffers: the inputs' at their contents, the outputs' and the scratch at anything; the outputs end
    at the three gradients. -/
theorem body_run (c : Dev nD) (i : grid0.Coords) (arg2 : Memref sig .tc .vmem S1x8x128 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x512 .bf16) (harg5 : arg5.IsWhole) (arg6 : Memref sig .tc .vmem S2048x512 .f32) (harg6 : arg6.IsWhole) (arg7 : Memref sig .tc .vmem S2048x256 .f32) (harg7 : arg7.IsWhole) (arg8 : Memref sig .tc .vmem S2048x256 .f32) (harg8 : arg8.IsWhole) (arg9 : Memref sig .tc .vmem S2048x512 .f32) (harg9 : arg9.IsWhole) (arg10 : Memref sig .tc .vmem S2048x256 .bf16) (harg10 : arg10.IsWhole) (arg11 : Memref sig .tc .vmem S4x256x512 .bf16) (harg11 : arg11.IsWhole) (arg12 : Memref sig .tc .vmem S2048x256 .f32) (harg12 : arg12.IsWhole) (arg13 : Memref sig .tc .vmem S256x512 .f32) (harg13 : arg13.IsWhole) (arg14 : Memref sig .tc .vmem S512x512 .f32) (harg14 : arg14.IsWhole)
    (x2 : Vec F S1x8x128 .f32) (x3 : Vec F S2048x256 .bf16) (x4 : Vec F S2048x256 .bf16) (x5 : Vec F S2048x512 .bf16) (x6 : Vec F S2048x512 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outDq x2 x4 x5 x6) ∗ owns (c : Thread nD τ) arg8 fullShare (outDk x2 x3 x5 x6) ∗ owns (c : Thread nD τ) arg9 fullShare (outDv x2 x3 x4 x6) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
    ⊢ wp frame (wpE (defs₀ (F := F)) Variants.none c none) E (cc0_ret_attn_bwd i arg2 harg2 arg3 harg3 arg4 harg4 arg5 harg5 arg6 harg6 arg7 harg7 arg8 harg8 arg9 harg9 arg10 harg10 arg11 harg11 arg12 harg12 arg13 harg13 arg14 harg14) K := by
  simp only [cc0_ret_attn_bwd_eq_skeleton]; unfold cc0_ret_attn_bwd_skel
  simp only [k0_part5_eq_skeleton, k0_part6_eq_skeleton, k0_part7_eq_skeleton, k0_part8_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf2; obtain rfl := harg3.eq_unread hf3; obtain rfl := harg4.eq_unread hf4; obtain rfl := harg5.eq_unread hf5; obtain rfl := harg6.eq_unread hf6
  sl_exec
  sl_step
  have hv : body_run.sl.r c arg2 harg2 x2 = lgOf x2 := congrArg k0_pay18 ((readAt_cell ..).trans (congrArg lgCell (harg2.read_unread x2)))
  have hdec : arg14.view.read (Elt F) (arg14.view.writes (Elt F) arg14.view.junk (body_run.sl.H14_1 c arg2 harg2 x2)) = decOf x2 :=
    (read_w512s ..).trans (congrArg (fun t => k0_pay34 (k0_pay30 (k0_pay29 t)) _ _ _ _) hv)
  have hks0 : k0_pay24 (body_run.sl.r_1 c arg4 harg4 x4) (body_run.sl.r_2 c arg2 harg2 x2) = ksOf x2 x4 :=
    congrArg₂ k0_pay24 (congrArg k0_pay22 ((readAt_w256 ..).trans (harg4.read_unread x4)))
      (congrArg k0_pay23 ((readAt_cell ..).trans (congrArg lgCell (harg2.read_unread x2))))
  have hks : arg10.view.read (Elt F) (arg10.view.writes (Elt F) arg10.view.junk (body_run.sl.H10_1 c arg2 harg2 arg4 harg4 x2 x4)) = ksOf x2 x4 :=
    (read_w256 ..).trans hks0
  have hkst : ∀ g, slab g (arg11.view.read (Elt F) (arg11.view.writes (Elt F) arg11.view.junk (body_run.sl.H11_4 c arg2 harg2 arg4 harg4 arg10 x2 x4)))
      = kstOf x2 x4 g := fun g => (slab_writes ..).trans (by
    match g with
    | 0 => exact congrArg k0_pay25 ((readCov_blk arg10.view _ _ 0 _ rfl).trans (congrArg (blk 0) hks0))
    | 1 => exact congrArg k0_pay25 ((readCov_blk arg10.view _ _ 1 _ rfl).trans (congrArg (blk 1) hks0))
    | 2 => exact congrArg k0_pay25 ((readCov_blk arg10.view _ _ 2 _ rfl).trans (congrArg (blk 2) hks0))
    | 3 => exact congrArg k0_pay25 ((readCov_blk arg10.view _ _ 3 _ rfl).trans (congrArg (blk 3) hks0)))
  iapply Hk
  isplitl [H2]
  · iexists _; isplitr
    · ipureintro; exact harg2.read_unread _
    · iexact H2
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact harg5.read_unread _
    · iexact H5
  isplitl [H6]
  · iexists _; isplitr
    · ipureintro; exact harg6.read_unread _
    · iexact H6
  isplitl [H7]
  · iexists _; isplitr; swap
    · iexact H7
    · ipureintro
      exact end_f7_of (F := F) _ _ _ _ _ _ _ _ _ _ _ _ _ _ _ _ _ _ _ _ _ _ _ _ _ _ _ _ _ _ _ _ _ _ _ _ _ _ _ _ _ hv (harg4.read_unread _) (harg5.read_unread _) (harg6.read_unread _) hkst hdec
  isplitl [H8]
  · iexists _; isplitr; swap
    · iexact H8
    · ipureintro
      refine (read_w256 ..).trans ?_
      refine congr (congr (congrArg (k0_pay42 (F := F)) hv) ((readAt_w256 ..).trans ?_)) ((readAt_w256 ..).trans ?_)
      · exact end_f8_of (F := F) _ _ _ _ _ _ _ _ _ _ _ _ _ _ _ _ _ _ _ _ _ _ _ _ _ _ _ _ _ _ _ _ _ _ _ _ _ _ _ _ _ (harg3.read_unread _) (harg5.read_unread _) (harg6.read_unread _) hdec (read_w256 ..)
      · exact end_f12_of (F := F) _ _ _ _ _ _ _ _ _ _ _ _ _ _ _ _ _ _ _ _ _ _ _ _ _ _ _ _ _ _ _ _ _ _ _ _ _ _ _ _ _ hv (harg3.read_unread _) (harg5.read_unread _) (harg6.read_unread _) (read_w256 ..)
  isplitl [H9]
  · iexists _; isplitr; swap
    · iexact H9
    · ipureintro
      exact end_f9_of (F := F) _ _ _ _ _ _ _ _ _ _ _ _ _ _ _ _ _ _ _ _ _ _ _ _ _ _ _ _ _ _ _ _ _ _ _ _ _ _ _ _ _ hv (harg3.read_unread _) (harg4.read_unread _) hks (harg6.read_unread _) hdec (read_w512 ..)
  isplitl [H10]
  · iexists _, _; isplitr; swap
    · iexact H10
    · ipureintro; rfl
  isplitl [H11]
  · iexists _, _; isplitr; swap
    · iexact H11
    · ipureintro; rfl
  isplitl [H12]
  · iexists _, _; isplitr; swap
    · iexact H12
    · ipureintro; rfl
  isplitl [H13]
  · iexists _, _; isplitr; swap
    · iexact H13
    · ipureintro; rfl
  iexists _, _; isplitr; swap
  · iexact H14
  · ipureintro; rfl

end Cert.Ret

end

end
-- ==== Proof.Ret.Run.lean ====
module

public import proofs.«01_k».proof.Proof.Ret.Body
public import proofs.«01_k».proof.Proof.Gen.KernelIdeal.Frame
public import Idealize.ShloMosaic.Lib.Claim

/-! The kernel's run, for any values: every grid point's body by `body_run`, the outputs' blocks at the three gradients of
    the point's input blocks. -/

@[expose] public section

set_option maxRecDepth 16384

noncomputable section

namespace Cert.Ret

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs of a point -/

abbrev stg0 (t : Fin cfg0.N) : Memref sig .tc .vmem S1x8x128 .f32 := win0_0.stage (cfg0.slots t 0)
theorem stgw0 (t : Fin cfg0.N) : (stg0 t).IsWhole := hstage0_0 ((cfg0.slots t 0).cast nbuf0_0)
abbrev stg1 (t : Fin cfg0.N) : Memref sig .tc .vmem S2048x256 .bf16 := win0_1.stage (cfg0.slots t 1)
theorem stgw1 (t : Fin cfg0.N) : (stg1 t).IsWhole := hstage0_1 ((cfg0.slots t 1).cast nbuf0_1)
abbrev stg2 (t : Fin cfg0.N) : Memref sig .tc .vmem S2048x256 .bf16 := win0_2.stage (cfg0.slots t 2)
theorem stgw2 (t : Fin cfg0.N) : (stg2 t).IsWhole := hstage0_2 ((cfg0.slots t 2).cast nbuf0_2)
abbrev stg3 (t : Fin cfg0.N) : Memref sig .tc .vmem S2048x512 .bf16 := win0_3.stage (cfg0.slots t 3)
theorem stgw3 (t : Fin cfg0.N) : (stg3 t).IsWhole := hstage0_3 ((cfg0.slots t 3).cast nbuf0_3)
abbrev stg4 (t : Fin cfg0.N) : Memref sig .tc .vmem S2048x512 .f32 := win0_4.stage (cfg0.slots t 4)
theorem stgw4 (t : Fin cfg0.N) : (stg4 t).IsWhole := hstage0_4 ((cfg0.slots t 4).cast nbuf0_4)
abbrev stg5 (t : Fin cfg0.N) : Memref sig .tc .vmem S2048x256 .f32 := win0_5.stage (cfg0.slots t 5)
theorem stgw5 (t : Fin cfg0.N) : (stg5 t).IsWhole := hstage0_5 ((cfg0.slots t 5).cast nbuf0_5)
abbrev stg6 (t : Fin cfg0.N) : Memref sig .tc .vmem S2048x256 .f32 := win0_6.stage (cfg0.slots t 6)
theorem stgw6 (t : Fin cfg0.N) : (stg6 t).IsWhole := hstage0_6 ((cfg0.slots t 6).cast nbuf0_6)
abbrev stg7 (t : Fin cfg0.N) : Memref sig .tc .vmem S2048x512 .f32 := win0_7.stage (cfg0.slots t 7)
theorem stgw7 (t : Fin cfg0.N) : (stg7 t).IsWhole := hstage0_7 ((cfg0.slots t 7).cast nbuf0_7)
abbrev scr0 : Memref sig .tc .vmem S2048x256 .bf16 := Memref.whole cc0_scratch0
abbrev scr1 : Memref sig .tc .vmem S4x256x512 .bf16 := Memref.whole cc0_scratch1
abbrev scr2 : Memref sig .tc .vmem S2048x256 .f32 := Memref.whole cc0_scratch2
abbrev scr3 : Memref sig .tc .vmem S256x512 .f32 := Memref.whole cc0_scratch3
abbrev scr4 : Memref sig .tc .vmem S512x512 .f32 := Memref.whole cc0_scratch4

/-- The invariant of the class, its scratch buffers as memrefs. -/
theorem held_eq (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

variable (m : (ℓ : Loc nD τ sig) → Buf (Elt F) ℓ) (ρ : Dev nD → PrngReg)

/-- The three gradients of the blocks of a point. -/
def dqAt (c : Dev nD) (t : Fin cfg0.N) : Vec F S2048x256 .f32 := outDq (iblk m c 0 t) (iblk m c 2 t) (iblk m c 3 t) (iblk m c 4 t)
def dkAt (c : Dev nD) (t : Fin cfg0.N) : Vec F S2048x256 .f32 := outDk (iblk m c 0 t) (iblk m c 1 t) (iblk m c 3 t) (iblk m c 4 t)
def dvAt (c : Dev nD) (t : Fin cfg0.N) : Vec F S2048x512 .f32 := outDv (iblk m c 0 t) (iblk m c 1 t) (iblk m c 2 t) (iblk m c 4 t)

/-- The proof data: the arrays as the region finds them, the inputs' buffers left at their blocks, the outputs' at the
    three gradients. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqAt m c t
    | ⟨6, _⟩ => dkAt m c t
    | ⟨7, _⟩ => dvAt m c t
  Φ _ := Pipeline.ΦA spec0 c
  q _ := fullShare
  owed _ := 0

theorem data_A (c : Dev nD) (w : Fin cfg0.W) : (data m 0 c).A w = V m c (Pipeline.arrRef spec0 w) := by
  dsimp only [data]

theorem left0 (c : Dev nD) (t : Fin cfg0.N) : (data m 0 c).after 0 t = iblk m c 0 t := by dsimp only [data]
theorem left1 (c : Dev nD) (t : Fin cfg0.N) : (data m 0 c).after 1 t = iblk m c 1 t := by dsimp only [data]
theorem left2 (c : Dev nD) (t : Fin cfg0.N) : (data m 0 c).after 2 t = iblk m c 2 t := by dsimp only [data]
theorem left3 (c : Dev nD) (t : Fin cfg0.N) : (data m 0 c).after 3 t = iblk m c 3 t := by dsimp only [data]
theorem left4 (c : Dev nD) (t : Fin cfg0.N) : (data m 0 c).after 4 t = iblk m c 4 t := by dsimp only [data]
theorem left5 (c : Dev nD) (t : Fin cfg0.N) : (data m 0 c).after 5 t = dqAt m c t := by dsimp only [data]
theorem left6 (c : Dev nD) (t : Fin cfg0.N) : (data m 0 c).after 6 t = dkAt m c t := by dsimp only [data]
theorem left7 (c : Dev nD) (t : Fin cfg0.N) : (data m 0 c).after 7 t = dvAt m c t := by dsimp only [data]
theorem found0 (c : Dev nD) (t : Fin cfg0.N) (d) : (data m 0 c).before 0 t d = iblk m c 0 t :=
  before0_0_of m (data m 0 c) (data_A m c 0) (left0 m c) t d
theorem found1 (c : Dev nD) (t : Fin cfg0.N) (d) : (data m 0 c).before 1 t d = iblk m c 1 t :=
  before0_1_of m (data m 0 c) (data_A m c 1) (left1 m c) t d
theorem found2 (c : Dev nD) (t : Fin cfg0.N) (d) : (data m 0 c).before 2 t d = iblk m c 2 t :=
  before0_2_of m (data m 0 c) (data_A m c 2) (left2 m c) t d
theorem found3 (c : Dev nD) (t : Fin cfg0.N) (d) : (data m 0 c).before 3 t d = iblk m c 3 t :=
  before0_3_of m (data m 0 c) (data_A m c 3) (left3 m c) t d
theorem found4 (c : Dev nD) (t : Fin cfg0.N) (d) : (data m 0 c).before 4 t d = iblk m c 4 t :=
  before0_4_of m (data m 0 c) (data_A m c 4) (left4 m c) t d

/-- What a point's body is given. -/
def given (c : Dev nD) (t : Fin cfg0.N) : sProp 𝕄 :=
  iprop((data m 0 c).Φ t.castSucc ∗ (data m 0 c).owesAt () t.castSucc
    ∗ (∃ d, owns (c : Thread nD τ) (stg0 t) fullShare ((data m 0 c).before 0 t d))
    ∗ (∃ d, owns (c : Thread nD τ) (stg1 t) fullShare ((data m 0 c).before 1 t d))
    ∗ (∃ d, owns (c : Thread nD τ) (stg2 t) fullShare ((data m 0 c).before 2 t d))
    ∗ (∃ d, owns (c : Thread nD τ) (stg3 t) fullShare ((data m 0 c).before 3 t d))
    ∗ (∃ d, owns (c : Thread nD τ) (stg4 t) fullShare ((data m 0 c).before 4 t d))
    ∗ (∃ d, owns (c : Thread nD τ) (stg5 t) fullShare ((data m 0 c).before 5 t d))
    ∗ (∃ d, owns (c : Thread nD τ) (stg6 t) fullShare ((data m 0 c).before 6 t d))
    ∗ (∃ d, owns (c : Thread nD τ) (stg7 t) fullShare ((data m 0 c).before 7 t d)))

/-- What it hands back. -/
def handed (c : Dev nD) (t : Fin cfg0.N) : sProp 𝕄 :=
  iprop((data m 0 c).Φ t.succ ∗ (data m 0 c).owesAt () t.succ
    ∗ owns (c : Thread nD τ) (stg0 t) fullShare ((data m 0 c).after 0 t)
    ∗ owns (c : Thread nD τ) (stg1 t) fullShare ((data m 0 c).after 1 t)
    ∗ owns (c : Thread nD τ) (stg2 t) fullShare ((data m 0 c).after 2 t)
    ∗ owns (c : Thread nD τ) (stg3 t) fullShare ((data m 0 c).after 3 t)
    ∗ owns (c : Thread nD τ) (stg4 t) fullShare ((data m 0 c).after 4 t)
    ∗ owns (c : Thread nD τ) (stg5 t) fullShare ((data m 0 c).after 5 t)
    ∗ owns (c : Thread nD τ) (stg6 t) fullShare ((data m 0 c).after 6 t)
    ∗ owns (c : Thread nD τ) (stg7 t) fullShare ((data m 0 c).after 7 t))

set_option maxHeartbeats 1200000 in
/-- The body at any point. -/
theorem body_at (c : Dev nD) (t : Fin cfg0.N) :
    given m c t ⊢ wp frame (wpE (defs₀ (F := F)) Variants.none c none) Set.univ (bodyAt0 t) (fun _ => handed m c t) := by
  unfold given handed bodyAt0
  simp only [found0, found1, found2, found3, found4]
  rw [show (data m 0 c).Φ t.succ = (data m 0 c).Φ t.castSucc from rfl,
    show (data m 0 c).owesAt () t.succ = (data m 0 c).owesAt () t.castSucc from rfl,
    left0, left1, left2, left3, left4, left5, left6, left7]
  rw [show (data m 0 c).Φ t.castSucc = Pipeline.ΦA spec0 c from rfl, held_eq]
  unfold dqAt dkAt dvAt
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ (stgw0 t) _ (stgw1 t) _ (stgw2 t) _ (stgw3 t) _ (stgw4 t) _ (stgw5 t) _ (stgw6 t) _ (stgw7 t) _ (Memref.isWhole_whole _) _ (Memref.isWhole_whole _) _ (Memref.isWhole_whole _) _ (Memref.isWhole_whole _) _ (Memref.isWhole_whole _) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [S0]; · iexact S0
  isplitl [S1]; · iexact S1
  isplitl [S2]; · iexact S2
  isplitl [S3]; · iexact S3
  isplitl [S4]; · iexact S4
  iintro ⟨H0, H1, H2, H3, H4, H5, H6, H7, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point's slots. -/
theorem row_at (t : Fin cfg0.N) : defs₀ (F := F) .tc cfg0.body (cfg0.bodyArgs t (cfg0.slots t)) = bodyAt0 t := by
  unfold defs₀; rw [Defs.onTc_tc]

/-- The body's obligation, at every point. -/
theorem obligation (c : Dev nD) : BodyObligation (data (F := F) m 0 c) (defs₀ (F := F)) Variants.none () Set.univ := fun t => by
  rw [bigSep_W0, bigSep_W0, row_at]
  exact triple_restated (body_at m c t) rfl .rfl fun _ => .rfl

set_option backward.isDefEq.respectTransparency.types false in
/-- The whole run: the arrays at what the proof data gives, every counter zero. -/
theorem ends : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

theorem ends_arrays : θ_run defs (onTc (τ := τ) (main (F := F))) (s₀ m ρ) (Pipeline.FramePost cfgs (data m) 0 (V m)) :=
  (θ_run defs _ _).mono (fun _ h => h.1) (ends m ρ)

/-- The arguments end as launched, and every counter at zero. -/
theorem framed : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  θ_run_and (frame_of m ρ (data m) (data_A m) (ends_arrays m ρ)) ((θ_run defs _ _).mono (fun _ h => h.2) (ends m ρ))

end Cert.Ret

end

end
-- ==== Proof.Ret.Same.lean ====
module

public import proofs.«01_k».proof.Defs
public import proofs.«01_k».proof.Proof.Gen.Kernel
public import proofs.«01_k».proof.Proof.Gen.KernelIdeal
public import proofs.«01_k».proof.Proof.Ret.Run

/-! The kernel and its ideal program have one text: the run over the machine's values is the kernel's. -/

@[expose] public section

set_option maxRecDepth 16384

namespace Cert.Ret

open Idealize.ShloMosaic Idealize.SL.Sem

local instance : Kernel.Facts := Kernel.Gen.facts
local instance : KernelIdeal.Facts := KernelIdeal.Gen.facts

theorem body_eq : @Kernel.cc0_ret_attn_bwd Bits _ _ = @KernelIdeal.cc0_ret_attn_bwd Bits _ _ := by with_unfolding_all rfl

/-- The two body tables are one. -/
theorem table_eq : Kernel.defs₀ (F := Bits) = KernelIdeal.defs₀ (F := Bits) := by
  unfold Kernel.defs₀ KernelIdeal.defs₀
  refine congrArg _ ?_
  funext l a
  match l, a with
  | 0, (t, s) =>
    show Kernel.cc0_ret_attn_bwd _ _ _ _ _ _ _ _ _ _ _ _ _ _ _ _ _ _ _ _ _ _ _ _ _ _ _
      = KernelIdeal.cc0_ret_attn_bwd _ _ _ _ _ _ _ _ _ _ _ _ _ _ _ _ _ _ _ _ _ _ _ _ _ _ _
    with_unfolding_all rfl

theorem main_eq : Kernel.main (F := Bits) = KernelIdeal.main (F := Bits) := by with_unfolding_all rfl

theorem defs_eq : Kernel.defs (F := Bits) = KernelIdeal.defs (F := Bits) :=
  congrArg (Pipeline.defs (KernelIdeal.pcfgs (F := Bits))) table_eq

/-- The kernel's frame: the same run, over the machine's values. -/
theorem frame_kernel : quiescent_Kernel := fun m ρ _ => by
  rw [defs_eq, main_eq]
  exact framed (F := Bits) m ρ

end Cert.Ret

end
-- ==== Proof.Ret.Point.lean ====
module

public import proofs.«01_k».proof.Proof.Ret.Body
public import Idealize.ShloMosaic.PureOps.Ideal.Laws
public import Idealize.ShloMosaic.Lib.MatmulPlain
public import Idealize.ShloMosaic.Lib.ValueIdx
public import Idealize.ShloMosaic.Lib.Pointwise.Reshape

/-! The pieces of the gradient over the extended reals, element by element. -/

@[expose] public section

set_option maxRecDepth 16384

noncomputable section

namespace Cert.Ret

open KernelIdeal KernelIdeal.Gen
open Idealize.ShloMosaic

/-! ## Decays -/

/-- The decay over `a` positions, of log decay `l`. -/
def decay (l : ℝ) (a : ℕ) : EReal := ((Real.exp (l * a) : ℝ) : EReal)

theorem decay_add (l : ℝ) (a b : ℕ) : decay l (a + b) = decay l a * decay l b := by
  unfold decay
  rw [← EReal.coe_mul, ← Real.exp_add]
  congr 2
  push_cast
  ring

/-- The decay of key position `j` at query position `i`: none over the key's own chunk of 64 and the later ones. -/
def decayAt (l : ℝ) (i j : ℕ) : EReal := if j / 64 ≤ i / 64 then decay l ((i - j) + (j - i)) else 0

theorem exp_word (l : ℝ) (w : BitVec 32) (n : ℕ) (h : w.toInt = n) :
    Ideal.exp ((l : EReal) * ((w.toInt : ℝ) : EReal)) = decay l n := by
  rw [h, ← EReal.coe_mul]
  show ((Real.exp (l * ((n : ℤ) : ℝ)) : ℝ) : EReal) = _
  rw [Int.cast_natCast]
  rfl

/-! ## Positions -/

/-- The row inside its block, of a block's row. -/
def rising : IVec S512x256 32 :=
  have v156 : IVec S512x256 32 := iota .tc S512x256 32 [0] iota_S512x256_d0_w32
  let v157 : BitVec 1 := Scalar.cmpi .eq 512#32 0#32
  let v158 : BitVec 32 := Scalar.select v157 1#32 512#32
  have v159 : IVec S512x256 32 := broadcast S512x256 v158
  have v160 : IVec S512x256 32 := remsi v156 v159
  have v161 : IVec S512x256 32 := broadcast S512x256 0#32
  have v162 : IVec S512x256 1 := cmpi .ne v160 v161
  have v163 : IVec S512x256 32 := broadcast S512x256 0#32
  have v164 : IVec S512x256 1 := cmpi .slt v160 v163
  let v165 : BitVec 1 := Scalar.cmpi .slt v158 0#32
  have v166 : IVec S512x256 1 := broadcast S512x256 v165
  have v167 : IVec S512x256 1 := broadcastTo S512x256 v166 broadcasts_S512x256_S512x256
  have v168 : IVec S512x256 1 := xori v164 v167
  have v169 : IVec S512x256 1 := andi v168 v162
  have v170 : IVec S512x256 32 := broadcast S512x256 v158
  have v171 : IVec S512x256 32 := addi v160 v170
  select v169 v171 v160

/-- The rows left in its block, of a row of the array. -/
def falling : IVec S2048x256 32 :=
  have v12 : IVec S2048x256 32 := iota .tc S2048x256 32 [0] iota_S2048x256_d0_w32
  let v13 : BitVec 1 := Scalar.cmpi .eq 512#32 0#32
  let v14 : BitVec 32 := Scalar.select v13 1#32 512#32
  have v15 : IVec S2048x256 32 := broadcast S2048x256 v14
  have v16 : IVec S2048x256 32 := remsi v12 v15
  have v17 : IVec S2048x256 32 := broadcast S2048x256 0#32
  have v18 : IVec S2048x256 1 := cmpi .ne v16 v17
  have v19 : IVec S2048x256 32 := broadcast S2048x256 0#32
  have v20 : IVec S2048x256 1 := cmpi .slt v16 v19
  let v21 : BitVec 1 := Scalar.cmpi .slt v14 0#32
  have v22 : IVec S2048x256 1 := broadcast S2048x256 v21
  have v23 : IVec S2048x256 1 := broadcastTo S2048x256 v22 broadcasts_S2048x256_S2048x256
  have v24 : IVec S2048x256 1 := xori v20 v23
  have v25 : IVec S2048x256 1 := andi v24 v18
  have v26 : IVec S2048x256 32 := broadcast S2048x256 v14
  have v27 : IVec S2048x256 32 := addi v16 v26
  have v28 : IVec S2048x256 32 := select v25 v27 v16
  have v29 : IVec S2048x256 32 := broadcast S2048x256 511#32
  subi v29 v28

theorem rising_word0 : ∀ r : Fin 512, (rising (ix2 r 0)).toInt = (r.val : ℤ) := by decide +kernel
theorem falling_word0 : ∀ r : Fin 2048, (falling (ix2 r 0)).toInt = ((511 - r.val % 512 : ℕ) : ℤ) := by decide +kernel

theorem rising_word (r : Fin 512) (c : Fin 256) : (rising (ix2 r c)).toInt = (r.val : ℤ) := rising_word0 r
theorem falling_word (r : Fin 2048) (c : Fin 256) : (falling (ix2 r c)).toInt = ((511 - r.val % 512 : ℕ) : ℤ) := falling_word0 r

theorem gap_word : ∀ n g : Fin 4, (gap n g).toInt = ((512 * (n.val - g.val - 1) + 1 : ℕ) : ℤ) := by decide +kernel

/-- The word of a distance inside a block. -/
theorem dist_word_le : ∀ n : Fin 512, (IntOp.absi (BitVec.ofNat 32 n.val)).toInt = (n.val : ℤ) := by decide +kernel
theorem dist_word_gt : ∀ n : Fin 512, (IntOp.absi (-BitVec.ofNat 32 n.val)).toInt = (n.val : ℤ) := by decide +kernel

theorem dist_word (a b : Fin 512) :
    (IntOp.absi (BitVec.ofNat 32 b.val - BitVec.ofNat 32 a.val)).toInt = (((b.val - a.val) + (a.val - b.val) : ℕ) : ℤ) := by
  by_cases h : a.val ≤ b.val
  · have e : BitVec.ofNat 32 b.val - BitVec.ofNat 32 a.val = BitVec.ofNat 32 (b.val - a.val) := by
      apply BitVec.eq_of_toNat_eq
      simp only [BitVec.toNat_sub, BitVec.toNat_ofNat]
      omega
    rw [e, dist_word_le ⟨b.val - a.val, by omega⟩]
    congr 1
    show b.val - a.val = _
    omega
  · have e : BitVec.ofNat 32 b.val - BitVec.ofNat 32 a.val = -BitVec.ofNat 32 (a.val - b.val) := by
      apply BitVec.eq_of_toNat_eq
      simp only [BitVec.toNat_sub, BitVec.toNat_neg, BitVec.toNat_ofNat]
      omega
    rw [e, dist_word_gt ⟨a.val - b.val, by omega⟩]
    congr 1
    show a.val - b.val = _
    omega

/-! ## The chunks inside a block -/

/-- The chunk of a key's row. -/
def keyChunk : IVec S512x512 32 := k0_pay31 (iota .tc S512x512 32 [0] iota_S512x512_d0_w32)

/-- The chunk of a query's column. -/
def queryChunk : IVec S512x512 32 :=
  select (k0_pay33 (iota .tc S512x512 32 [1] iota_S512x512_d1_w32))
    (subi (k0_pay32 (iota .tc S512x512 32 [1] iota_S512x512_d1_w32)) (broadcast S512x512 1#32))
    (k0_pay32 (iota .tc S512x512 32 [1] iota_S512x512_d1_w32))

theorem keyChunk0 : ∀ a : Fin 512, keyChunk (ix2 a 0) = BitVec.ofNat 32 (a.val / 64) := by decide +kernel
theorem queryChunk0 : ∀ b : Fin 512, queryChunk (ix2 0 b) = BitVec.ofNat 32 (b.val / 64) := by decide +kernel
theorem keyChunk_at (a b : Fin 512) : keyChunk (ix2 a b) = BitVec.ofNat 32 (a.val / 64) := keyChunk0 a
theorem queryChunk_at (a b : Fin 512) : queryChunk (ix2 a b) = BitVec.ofNat 32 (b.val / 64) := queryChunk0 b

theorem chunk_le : ∀ x y : Fin 8, (IntOp.cmpi .sle (BitVec.ofNat 32 x.val) (BitVec.ofNat 32 y.val) = 1#1) ↔ x.val ≤ y.val := by decide +kernel

/-! ## The factors -/

section Factors

variable (x2 : Vec Ideal S1x8x128 .f32) {l : ℝ} (hl : x2 (ix3 0 0 0) = (l : EReal))

include hl

theorem lgOf_at (y : S1x1.Idx) : lgOf (F := Ideal) x2 y = (l : EReal) := hl

theorem ksOf_at (x4 : Vec Ideal S2048x256 .bf16) (r : Fin 2048) (c : Fin 256) :
    ksOf (F := Ideal) x2 x4 (ix2 r c) = x4 (ix2 r c) * decay l (511 - r.val % 512) := by
  have e : ksOf (F := Ideal) x2 x4 = shapeCast S2048x256 (mulf x4 (exp (mulf (broadcastTo S2048x256 (lgOf (F := Ideal) x2) broadcasts_S1x1_S2048x256) (sitofp .f32 falling)))) shapeCasts_S2048x256_S2048x256 := rfl
  rw [e, shapeCast_id]
  show x4 (ix2 r c) * Ideal.exp (lgOf (F := Ideal) x2 _ * (((falling (ix2 r c)).toInt : ℝ) : EReal)) = _
  rw [lgOf_at x2 hl, exp_word _ _ _ (falling_word r c)]

theorem rise_at (r : Fin 512) (c : Fin 256) : k0_pay13 (F := Ideal) (lgOf x2) (ix2 r c) = decay l r.val := by
  show Ideal.exp (lgOf (F := Ideal) x2 _ * (((rising (ix2 r c)).toInt : ℝ) : EReal)) = _
  rw [lgOf_at x2 hl, exp_word _ _ _ (rising_word r c)]

theorem qs_at (x : FVec Ideal S512x256 .bf16) (r : Fin 512) (c : Fin 256) :
    k0_pay14 (F := Ideal) (lgOf x2) x (ix2 r c) = x (ix2 r c) * decay l r.val := by
  show x (ix2 r c) * k0_pay13 (F := Ideal) (lgOf x2) (ix2 r c) = _
  rw [rise_at x2 hl]

theorem pair_at (n g : Fin 4) (y : S1x1.Idx) : pair (F := Ideal) (lgOf x2) (gap n g) y = decay l (512 * (n.val - g.val - 1) + 1) := by
  show Ideal.exp (lgOf (F := Ideal) x2 _ * ((((gap n g)).toInt : ℝ) : EReal)) = _
  rw [lgOf_at x2 hl, exp_word _ _ _ (gap_word n g)]

/-- The decays inside a block: key down, query across. -/
theorem decOf_at (a b : Fin 512) : decOf (F := Ideal) x2 (ix2 a b) = decayAt l b.val a.val := by
  have e : decOf (F := Ideal) x2 = shapeCast S512x512 (select (cmpi .sle keyChunk queryChunk)
      (k0_pay30 (F := Ideal) (k0_pay29 (lgOf x2))) (broadcast S512x512 (Scalar.ofBits (F := Ideal) .f32 0x00000000#32))) shapeCasts_S512x512_S512x512 := rfl
  rw [e, shapeCast_id]
  have z : (Scalar.ofBits (F := Ideal) .f32 0x00000000#32 : EReal) = 0 := Ideal.ofBits_zero_f32
  have hd : k0_pay30 (F := Ideal) (k0_pay29 (lgOf x2)) (ix2 a b) = decay l ((b.val - a.val) + (a.val - b.val)) := by
    show Ideal.exp (lgOf (F := Ideal) x2 _ * (((IntOp.absi (BitVec.ofNat 32 (0 * 512 + b.val) - BitVec.ofNat 32 (0 * 512 + a.val))).toInt : ℝ) : EReal)) = _
    rw [lgOf_at x2 hl, Nat.zero_mul, Nat.zero_add, Nat.zero_add, exp_word _ _ _ (dist_word a b)]
  have hc : (cmpi .sle keyChunk queryChunk (ix2 a b) = 1#1) ↔ a.val / 64 ≤ b.val / 64 := by
    show (IntOp.cmpi .sle (keyChunk (ix2 a b)) (queryChunk (ix2 a b)) = 1#1) ↔ _
    rw [keyChunk_at, queryChunk_at]
    exact chunk_le ⟨a.val / 64, by omega⟩ ⟨b.val / 64, by omega⟩
  unfold decayAt
  by_cases h : a.val / 64 ≤ b.val / 64
  · rw [if_pos h, ← hd]
    exact if_pos (hc.mpr h)
  · rw [if_neg h, ← z]
    exact if_neg (fun h' => h (hc.mp h'))

end Factors

end Cert.Ret

end
-- ==== Proof.Ret.Blocks.lean ====
module

public import proofs.«01_k».proof.Proof.Ret.Point
public import Idealize.ShloMosaic.Lib.Pointwise.Contract

/-! The three gradients of a grid point in closed form: each is the sum over all positions of the decayed products, whatever
    block the position lies in. -/

@[expose] public section

set_option maxRecDepth 16384

noncomputable section

namespace Cert.Ret

open KernelIdeal KernelIdeal.Gen
open Idealize.ShloMosaic

/-! ## Sums and positive finite factors -/

theorem decay_nonneg (l : ℝ) (a : ℕ) : 0 ≤ decay l a := EReal.coe_nonneg.mpr (Real.exp_pos _).le
theorem decay_ne_top (l : ℝ) (a : ℕ) : decay l a ≠ ⊤ := EReal.coe_ne_top _

theorem add_decay (l : ℝ) (a : ℕ) (x y : EReal) : (x + y) * decay l a = x * decay l a + y * decay l a :=
  EReal.right_distrib_of_nonneg_of_ne_top (decay_nonneg l a) (decay_ne_top l a) x y

theorem sum_decay {ι : Type} (s : Finset ι) (f : ι → EReal) (l : ℝ) (a : ℕ) :
    (∑ i ∈ s, f i) * decay l a = ∑ i ∈ s, f i * decay l a := by
  classical
  induction s using Finset.induction_on with
  | empty => rw [Finset.sum_empty, Finset.sum_empty, zero_mul]
  | insert i s hi ih => rw [Finset.sum_insert hi, Finset.sum_insert hi, add_decay, ih]

/-- Two scaled vectors' product is the product, scaled. -/
theorem sum_scaled {n : ℕ} (f g : Fin n → EReal) (l : ℝ) (a b : ℕ) :
    ∑ d, (f d * decay l a) * (g d * decay l b) = (∑ d, f d * g d) * decay l (a + b) := by
  rw [sum_decay]
  refine Finset.sum_congr rfl fun d _ => ?_
  rw [decay_add, mul_mul_mul_comm]

/-- Position `r` of block `n`. -/
def at' (n : Fin 4) (r : Fin 512) : Fin 2048 := ⟨512 * n.val + r.val, by omega⟩

theorem sum_blocks (f : Fin 2048 → EReal) : ∑ i, f i = ∑ n : Fin 4, ∑ r : Fin 512, f (at' n r) := by
  rw [← (finProdFinEquiv (m := 4) (n := 512)).sum_comp f, Fintype.sum_prod_type]
  refine Finset.sum_congr rfl fun n _ => Finset.sum_congr rfl fun r _ => congrArg f (Fin.ext ?_)
  show r.val + 512 * n.val = 512 * n.val + r.val
  omega

theorem at'_div (j : Fin 2048) : at' ⟨j.val / 512, by omega⟩ ⟨j.val % 512, by omega⟩ = j := Fin.ext (by show 512 * (j.val / 512) + j.val % 512 = j.val; omega)

/-- Inside a block the decay is that of the rows. -/
theorem decayAt_own (l : ℝ) (n : Fin 4) (i j : Fin 512) : decayAt l (at' n i).val (at' n j).val = decayAt l i.val j.val := by
  unfold decayAt
  show (if (512 * n.val + j.val) / 64 ≤ (512 * n.val + i.val) / 64 then
    decay l ((512 * n.val + i.val - (512 * n.val + j.val)) + (512 * n.val + j.val - (512 * n.val + i.val))) else 0) = _
  have e : ((512 * n.val + j.val) / 64 ≤ (512 * n.val + i.val) / 64) ↔ j.val / 64 ≤ i.val / 64 := by omega
  simp only [e, Nat.add_sub_add_left]

/-- From an earlier block: to its end, over the blocks between, and from the start of the query's. -/
theorem decayAt_earlier (l : ℝ) {n g : Fin 4} (h : g < n) (i j : Fin 512) :
    decayAt l (at' n i).val (at' g j).val = decay l ((511 - j.val) + i.val + (512 * (n.val - g.val - 1) + 1)) := by
  have h' : g.val < n.val := h
  unfold decayAt
  show (if (512 * g.val + j.val) / 64 ≤ (512 * n.val + i.val) / 64 then
    decay l ((512 * n.val + i.val - (512 * g.val + j.val)) + (512 * g.val + j.val - (512 * n.val + i.val))) else 0) = _
  rw [if_pos (by omega)]
  congr 1
  omega

/-- From a later block nothing comes. -/
theorem decayAt_later (l : ℝ) {n g : Fin 4} (h : n < g) (i j : Fin 512) : decayAt l (at' n i).val (at' g j).val = 0 := by
  have h' : n.val < g.val := h
  unfold decayAt
  exact if_neg (by show ¬ (512 * g.val + j.val) / 64 ≤ (512 * n.val + i.val) / 64; omega)

/-! ## The products of the blocks -/

theorem zeros_at (s : Shape) (y : s.Idx) : (constant s .f32 0x00000000#32 : FVec Ideal s .f32) y = (0 : EReal) := Ideal.ofBits_zero_f32

theorem prod_kq (L R : FVec Ideal S512x256 .bf16) (a b : Fin 512) :
    (matmul dot_S512x256_S512x256_S512x512_1_1_0_0_n_n none L R (constant S512x512 .f32 0x00000000#32) : FVec Ideal S512x512 .f32) (ix2 a b)
      = ∑ d : Fin 256, L (ix2 a d) * R (ix2 b d) :=
  (Ideal.matmul_transposedRhs_apply none L R _ a b).trans ((congrArg (· + _) (zeros_at _ _)).trans (zero_add _))

theorem prod_vd (L R : FVec Ideal S512x512 .bf16) (a b : Fin 512) :
    (matmul dot_S512x512_S512x512_S512x512_1_1_0_0_n_n none L R (constant S512x512 .f32 0x00000000#32) : FVec Ideal S512x512 .f32) (ix2 a b)
      = ∑ d : Fin 512, L (ix2 a d) * R (ix2 b d) :=
  (Ideal.matmul_transposedRhs_apply none L R _ a b).trans ((congrArg (· + _) (zeros_at _ _)).trans (zero_add _))

theorem prod_ad (L R : FVec Ideal S512x512 .bf16) (a b : Fin 512) :
    (matmul dot_S512x512_S512x512_S512x512_1_0_0_1_n_n none L R (constant S512x512 .f32 0x00000000#32) : FVec Ideal S512x512 .f32) (ix2 a b)
      = ∑ i : Fin 512, L (ix2 a i) * R (ix2 i b) :=
  (Ideal.matmul_plain_apply none L R _ a b).trans ((congrArg (· + _) (zeros_at _ _)).trans (zero_add _))

theorem prod_aq (L : FVec Ideal S512x512 .bf16) (R : FVec Ideal S512x256 .bf16) (a : Fin 512) (b : Fin 256) :
    (matmul dot_S512x512_S512x256_S512x256_1_0_0_1_n_n none L R (constant S512x256 .f32 0x00000000#32) : FVec Ideal S512x256 .f32) (ix2 a b)
      = ∑ i : Fin 512, L (ix2 a i) * R (ix2 i b) :=
  (Ideal.matmul_plain_apply none L R _ a b).trans ((congrArg (· + _) (zeros_at _ _)).trans (zero_add _))

theorem prod_ka (L : FVec Ideal S256x512 .bf16) (R : FVec Ideal S512x512 .bf16) (a : Fin 256) (b : Fin 512) :
    (matmul dot_S256x512_S512x512_S256x512_1_0_0_1_n_n none L R (constant S256x512 .f32 0x00000000#32) : FVec Ideal S256x512 .f32) (ix2 a b)
      = ∑ i : Fin 512, L (ix2 a i) * R (ix2 i b) :=
  (Ideal.matmul_plain_apply none L R _ a b).trans ((congrArg (· + _) (zeros_at _ _)).trans (zero_add _))

theorem prod_ak (L : FVec Ideal S512x512 .bf16) (R : FVec Ideal S512x256 .bf16) (a : Fin 512) (b : Fin 256) :
    (matmul dot_S512x512_S512x256_S512x256_0_0_1_1_n_n none L R (constant S512x256 .f32 0x00000000#32) : FVec Ideal S512x256 .f32) (ix2 a b)
      = ∑ j : Fin 512, L (ix2 j a) * R (ix2 j b) := by
  have e : (matmul dot_S512x512_S512x256_S512x256_0_0_1_1_n_n none L R (constant S512x256 .f32 0x00000000#32) : FVec Ideal S512x256 .f32) (ix2 a b)
      = (constant S512x256 .f32 0x00000000#32 : FVec Ideal S512x256 .f32) (ix2 a b) + ∑ j : Fin 512, L (ix2 j a) * R (ix2 j b) := by
    simp only [pointwise]
  exact e.trans ((congrArg (· + _) (zeros_at _ _)).trans (zero_add _))

end Cert.Ret

end
-- ==== Proof.Ret.Sums.lean ====
module

public import proofs.«01_k».proof.Proof.Ret.Blocks
public import Idealize.ShloMosaic.Lib.Pipeline.Value

/-! The three gradients of a grid point in closed form: each is the sum over all positions of the decayed products, whatever
    block the position lies in. -/

@[expose] public section

set_option maxRecDepth 16384

noncomputable section

namespace Cert.Ret

open KernelIdeal KernelIdeal.Gen
open Idealize.ShloMosaic

section Values

variable (x2 : Vec Ideal S1x8x128 .f32) {l : ℝ} (hl : x2 (ix3 (n0 := 1) (n1 := 8) (n2 := 128) 0 0 0) = (l : EReal))
  (x3 x4 : Vec Ideal S2048x256 .bf16) (x5 : Vec Ideal S2048x512 .bf16) (x6 : Vec Ideal S2048x512 .f32)

/-- Key `j` against query `i`. -/
def score (i j : Fin 2048) : EReal := ∑ d : Fin 256, x4 (ix2 j d) * x3 (ix2 i d)

/-- Value `j` against the gradient of output `i`. -/
def grade (i j : Fin 2048) : EReal := ∑ e : Fin 512, x5 (ix2 j e) * x6 (ix2 i e)

include hl

omit hl in
/-- A transposed array at an index. -/
theorem turned {α : Type} {a b : ℕ} (x : (⟨2, ![a, b]⟩ : Shape).Idx → α) (h : (⟨2, ![a, b]⟩ : Shape).Transposes [1, 0] ⟨2, ![b, a]⟩) (i : Fin b) (j : Fin a) :
    transpose ⟨2, ![b, a]⟩ [1, 0] x h (ix2 i j) = x (ix2 j i) :=
  transpose_apply _ x h _ _ fun c => match c with | ⟨0, _⟩ => rfl | ⟨1, _⟩ => rfl

omit hl in
theorem mul_three (a b : EReal) (l : ℝ) (p q r : ℕ) :
    (a * decay l r) * (b * decay l q) * decay l p = (a * decay l (p + q + r)) * b := by
  rw [decay_add, decay_add]
  generalize decay l p = p
  generalize decay l q = q
  generalize decay l r = r
  rw [mul_assoc, mul_assoc, mul_assoc, mul_assoc, mul_comm p q, mul_comm (q * p) r, mul_left_comm b, mul_left_comm a, mul_comm b, mul_assoc, mul_assoc]
  exact mul_left_comm r a _

/-! ## The weights of a pair of blocks -/

theorem ownScore_at (n : Fin 4) (j i : Fin 512) :
    k0_pay16 (F := Ideal) (blk n x3) (blk n x4) (decOf x2) (ix2 j i)
      = score x3 x4 (at' n i) (at' n j) * decayAt l (at' n i).val (at' n j).val := by
  have e : k0_pay16 (F := Ideal) (blk n x3) (blk n x4) (decOf x2) (ix2 j i)
      = (matmul dot_S512x256_S512x256_S512x512_1_1_0_0_n_n none (blk n x4) (blk n x3) (constant S512x512 .f32 0x00000000#32) : FVec Ideal S512x512 .f32) (ix2 j i)
        * decOf (F := Ideal) x2 (ix2 j i) := rfl
  rw [e, decOf_at x2 hl, decayAt_own, prod_kq]
  rfl

theorem ownDa_at (n : Fin 4) (j i : Fin 512) :
    ownDa (F := Ideal) (fun g => blk g x5) (fun g => blk g x6) (decOf x2) n (ix2 j i)
      = grade x5 x6 (at' n i) (at' n j) * decayAt l (at' n i).val (at' n j).val := by
  have e : ownDa (F := Ideal) (fun g => blk g x5) (fun g => blk g x6) (decOf x2) n (ix2 j i)
      = (matmul (φ₁ := .bf16) (φ₂ := .bf16) dot_S512x512_S512x512_S512x512_1_1_0_0_n_n none (blk n x5) (blk n x6) (constant S512x512 .f32 0x00000000#32) : FVec Ideal S512x512 .f32) (ix2 j i)
        * decOf (F := Ideal) x2 (ix2 j i) := rfl
  rw [e, decOf_at x2 hl, decayAt_own, prod_vd]
  rfl

theorem earlierDa_at (n g : Fin 4) (j i : Fin 512) :
    earlierDa (F := Ideal) (lgOf x2) (fun g => blk g x5) (fun g => blk g x6) n g (ix2 j i)
      = grade x5 x6 (at' n i) (at' g j) * decay l (512 * (n.val - g.val - 1) + 1) := by
  show (matmul (φ₁ := .bf16) (φ₂ := .bf16) dot_S512x512_S512x512_S512x512_1_1_0_0_n_n none (blk g x5) (blk n x6) (constant S512x512 .f32 0x00000000#32) : FVec Ideal S512x512 .f32) (ix2 j i)
    * pair (F := Ideal) (lgOf x2) (gap n g) _ = _
  rw [pair_at x2 hl, prod_vd]
  rfl

theorem ks_at (g : Fin 4) (j : Fin 512) (d : Fin 256) :
    blk g (ksOf (F := Ideal) x2 x4) (ix2 j d) = x4 (ix2 (at' g j) d) * decay l (511 - j.val) := by
  have e : blk g (ksOf (F := Ideal) x2 x4) (ix2 j d) = ksOf (F := Ideal) x2 x4 (ix2 (at' g j) d) := rfl
  rw [e, ksOf_at x2 hl]
  have h : (at' g j).val % 512 = j.val := by show (512 * g.val + j.val) % 512 = j.val; omega
  rw [h]

/-- What key block `g` adds to the transposed gradient of query block `n`. -/
theorem pay5_at (n g : Fin 4) (acc : FVec Ideal S256x512 .f32) (d : Fin 256) (i : Fin 512) :
    k0_pay5 (F := Ideal) (earlierDa (lgOf x2) (fun g => blk g x5) (fun g => blk g x6) n g) acc (kstOf x2 x4 g) (ix2 d i)
      = acc (ix2 d i) + ∑ j : Fin 512, (x4 (ix2 (at' g j) d) * decay l (511 - j.val)) * (grade x5 x6 (at' n i) (at' g j) * decay l (512 * (n.val - g.val - 1) + 1)) := by
  unfold k0_pay5 kstOf k0_pay25
  simp only [shapeCast_comp, shapeCast_id]
  refine congrArg (acc (ix2 d i) + ·) ((prod_ka _ _ d i).trans (Finset.sum_congr rfl fun j _ => ?_))
  rw [earlierDa_at x2 hl, ← ks_at x2 hl]
  exact congrArg (· * _) (turned _ _ d j)

/-! ## The gradient of the values -/

theorem stepDv_at (n : Fin 4) (s : Fin 4 → FVec Ideal S512x512 .f32) (g : Fin 4) (j : Fin 512) (e : Fin 512) :
    stepDv (F := Ideal) (lgOf x2) (fun g => blk g x3) (fun g => blk g x4) (fun g => blk g (ksOf x2 x4)) (fun g => blk g x6) (decOf x2) n s g (ix2 j e)
      = s g (ix2 j e) + ∑ i : Fin 512, (score x3 x4 (at' n i) (at' g j) * decayAt l (at' n i).val (at' g j).val) * x6 (ix2 (at' n i) e) := by
  unfold stepDv
  split
  · next h =>
    subst h
    unfold k0_pay35
    rw [shapeCast_id]
    refine congrArg (s g (ix2 j e) + ·) ((prod_ad _ _ j e).trans (Finset.sum_congr rfl fun i _ => ?_))
    exact congrArg (· * _) (ownScore_at x2 hl x3 x4 g j i)
  · split
    · next _ h =>
      unfold pairDv k0_pay35
      rw [shapeCast_id]
      refine congrArg (s g (ix2 j e) + ·) ((prod_ad _ _ j e).trans (Finset.sum_congr rfl fun i _ => ?_))
      refine congrArg (· * _) ?_
      rw [decayAt_earlier l h, decay_add, decay_add, ← mul_assoc, ← decay_add]
      refine (congr (congrArg HMul.hMul (prod_kq _ _ j i)) (pair_at x2 hl n g _)).trans (congrArg (· * _) ?_)
      unfold score
      rw [← sum_scaled]
      refine Finset.sum_congr rfl fun d _ => ?_
      exact congr (congrArg HMul.hMul (ks_at x2 hl x4 g j d)) (qs_at x2 hl _ i d)
    · next h h' =>
      have hg : n < g := lt_of_le_of_ne (not_lt.mp h') (Ne.symm h)
      rw [Finset.sum_eq_zero (fun i _ => by rw [decayAt_later l hg, mul_zero, zero_mul]), add_zero]

theorem outDv_at (j : Fin 2048) (e : Fin 512) :
    outDv (F := Ideal) x2 x3 x4 x6 (ix2 j e) = ∑ i : Fin 2048, (score x3 x4 i j * decayAt l i.val j.val) * x6 (ix2 i e) := by
  have h : outDv (F := Ideal) x2 x3 x4 x6 (ix2 j e)
      = endDv (F := Ideal) (lgOf x2) (fun g => blk g x3) (fun g => blk g x4) (fun g => blk g (ksOf x2 x4)) (fun g => blk g x6) (decOf x2)
        (fun g => blk g (k0_pay20 (F := Ideal))) ⟨j.val / 512, by omega⟩ (ix2 ⟨j.val % 512, by omega⟩ e) := rfl
  have z : blk ⟨j.val / 512, by omega⟩ (k0_pay20 (F := Ideal)) (ix2 ⟨j.val % 512, by omega⟩ e) = (0 : EReal) := Ideal.ofBits_zero_f32
  rw [h]
  unfold endDv
  rw [stepDv_at x2 hl, stepDv_at x2 hl, stepDv_at x2 hl, stepDv_at x2 hl, at'_div, sum_blocks, Fin.sum_univ_four, z, zero_add]

/-! ## The gradient of the keys -/

omit hl in
theorem sum_add_sum (a b : Fin 4 → EReal) : (a 0 + a 1 + a 2 + a 3) + (b 0 + b 1 + b 2 + b 3) = ∑ n, (a n + b n) := by
  rw [← Fin.sum_univ_four, ← Fin.sum_univ_four, ← Finset.sum_add_distrib]

omit hl in
theorem own_or_later (g n : Fin 4) (x : EReal) (h : n < g → x = 0) : (if g = n then x else 0) + (if g < n then x else 0) = x := by
  rcases lt_trichotomy g n with hg | hg | hg
  · rw [if_neg hg.ne, if_pos hg, zero_add]
  · rw [if_pos hg, if_neg (by rw [hg]; exact lt_irrefl n), add_zero]
  · rw [if_neg hg.ne', if_neg hg.not_gt, h hg, add_zero]

omit hl in
theorem own_and_later (g : Fin 4) (C : Fin 4 → EReal) (h : ∀ n, n < g → C n = 0) :
    ((if g = 0 then C 0 else 0) + (if g = 1 then C 1 else 0) + (if g = 2 then C 2 else 0) + (if g = 3 then C 3 else 0))
      + ((if g < 0 then C 0 else 0) + (if g < 1 then C 1 else 0) + (if g < 2 then C 2 else 0) + (if g < 3 then C 3 else 0)) = ∑ n, C n :=
  (sum_add_sum (fun n => if g = n then C n else 0) (fun n => if g < n then C n else 0)).trans
    (Finset.sum_congr rfl fun n _ => own_or_later g n (C n) (h n))

theorem stepDk_at (n : Fin 4) (s : Fin 4 → FVec Ideal S512x256 .f32) (g : Fin 4) (j : Fin 512) (d : Fin 256) :
    stepDk (F := Ideal) (fun g => blk g x3) (fun g => blk g x5) (fun g => blk g x6) (decOf x2) n s g (ix2 j d)
      = s g (ix2 j d) + if g = n then ∑ i : Fin 512, (grade x5 x6 (at' n i) (at' g j) * decayAt l (at' n i).val (at' g j).val) * x3 (ix2 (at' n i) d)
        else 0 := by
  unfold stepDk
  split
  · next h =>
    subst h
    unfold k0_pay36
    rw [shapeCast_id]
    refine congrArg (s g (ix2 j d) + ·) ((prod_aq _ _ j d).trans (Finset.sum_congr rfl fun i _ => ?_))
    exact congrArg (· * _) (ownDa_at x2 hl x5 x6 g j i)
  · rw [add_zero]

/-- What later query blocks add to the gradient of the scaled keys; scaled, it is their part of the gradient of the keys. -/
theorem stepDks_at (n : Fin 4) (s : Fin 4 → FVec Ideal S512x256 .f32) (g : Fin 4) (j : Fin 512) (d : Fin 256) :
    stepDks (F := Ideal) (lgOf x2) (fun g => blk g x3) (fun g => blk g x5) (fun g => blk g x6) n s g (ix2 j d) * decay l (511 - j.val)
      = s g (ix2 j d) * decay l (511 - j.val) + if g < n then ∑ i : Fin 512, (grade x5 x6 (at' n i) (at' g j) * decayAt l (at' n i).val (at' g j).val) * x3 (ix2 (at' n i) d)
        else 0 := by
  unfold stepDks
  split
  · next h =>
    unfold k0_pay38
    rw [shapeCast_id]
    refine (add_decay l _ _ _).trans (congrArg (s g (ix2 j d) * decay l (511 - j.val) + ·) ?_)
    refine (congrArg (· * decay l (511 - j.val)) (prod_aq _ _ j d)).trans ((sum_decay _ _ l _).trans (Finset.sum_congr rfl fun i _ => ?_))
    rw [earlierDa_at x2 hl, qs_at x2 hl, decayAt_earlier l h]
    exact mul_three _ _ _ _ _ _
  · rw [add_zero]

theorem outDk_at (j : Fin 2048) (d : Fin 256) :
    outDk (F := Ideal) x2 x3 x5 x6 (ix2 j d) = ∑ i : Fin 2048, (grade x5 x6 i j * decayAt l i.val j.val) * x3 (ix2 i d) := by
  have h : outDk (F := Ideal) x2 x3 x5 x6 (ix2 j d)
      = endDk (F := Ideal) (fun g => blk g x3) (fun g => blk g x5) (fun g => blk g x6) (decOf x2) (fun g => blk g (k0_pay19 (F := Ideal)))
          ⟨j.val / 512, by omega⟩ (ix2 ⟨j.val % 512, by omega⟩ d)
        + endDks (F := Ideal) (lgOf x2) (fun g => blk g x3) (fun g => blk g x5) (fun g => blk g x6) (fun g => blk g (k0_pay21 (F := Ideal)))
          ⟨j.val / 512, by omega⟩ (ix2 ⟨j.val % 512, by omega⟩ d) * Ideal.exp ((l : EReal) * (((falling (ix2 j d)).toInt : ℝ) : EReal)) := by
    rw [← lgOf_at x2 hl (ix2 0 0)]
    unfold outDk k0_pay42
    rw [shapeCast_id]
    rfl
  have z : blk ⟨j.val / 512, by omega⟩ (k0_pay19 (F := Ideal)) (ix2 ⟨j.val % 512, by omega⟩ d) = (0 : EReal) := Ideal.ofBits_zero_f32
  have z' : blk ⟨j.val / 512, by omega⟩ (k0_pay21 (F := Ideal)) (ix2 ⟨j.val % 512, by omega⟩ d) = (0 : EReal) := by
    show shapeCast S2048x256 (broadcast S2048x256 (Scalar.ofBits (F := Ideal) .f32 0x00000000#32)) shapeCasts_S2048x256_S2048x256 (ix2 (at' ⟨j.val / 512, by omega⟩ ⟨j.val % 512, by omega⟩) d) = _
    rw [shapeCast_id]
    exact Ideal.ofBits_zero_f32
  rw [h, exp_word _ _ _ (falling_word j d)]
  unfold endDk endDks
  rw [stepDk_at x2 hl, stepDk_at x2 hl, stepDk_at x2 hl, stepDk_at x2 hl, z, zero_add]
  rw [stepDks_at x2 hl, stepDks_at x2 hl, stepDks_at x2 hl, stepDks_at x2 hl, z', zero_mul, zero_add, at'_div, sum_blocks]
  refine own_and_later ⟨j.val / 512, by omega⟩
    (fun n => ∑ i : Fin 512, (grade x5 x6 (at' n i) j * decayAt l (at' n i).val j.val) * x3 (ix2 (at' n i) d)) fun n hn => Finset.sum_eq_zero fun i _ => ?_
  have hz := decayAt_later l hn i ⟨j.val % 512, by omega⟩
  rw [at'_div] at hz
  rw [hz, mul_zero, zero_mul]

/-! ## The gradient of the queries -/

/-- What key block `g` gives query block `n`, as it stands before the query's own factor. -/
theorem block_at {n g : Fin 4} (h : g < n) (d : Fin 256) (i : Fin 512) :
    (∑ j : Fin 512, (x4 (ix2 (at' g j) d) * decay l (511 - j.val)) * (grade x5 x6 (at' n i) (at' g j) * decay l (512 * (n.val - g.val - 1) + 1))) * decay l i.val
      = ∑ j : Fin 512, (grade x5 x6 (at' n i) (at' g j) * decayAt l (at' n i).val (at' g j).val) * x4 (ix2 (at' g j) d) := by
  rw [sum_decay]
  refine Finset.sum_congr rfl fun j _ => ?_
  rw [decayAt_earlier l h]
  refine (congrArg (· * decay l i.val) (mul_comm (x4 (ix2 (at' g j) d) * decay l (511 - j.val)) _)).trans ?_
  refine (mul_three _ (x4 (ix2 (at' g j) d)) l i.val (511 - j.val) (512 * (n.val - g.val - 1) + 1)).trans ?_
  rw [Nat.add_comm i.val]

theorem later_at {n g : Fin 4} (h : n < g) (d : Fin 256) (i : Fin 512) :
    ∑ j : Fin 512, (grade x5 x6 (at' n i) (at' g j) * decayAt l (at' n i).val (at' g j).val) * x4 (ix2 (at' g j) d) = 0 :=
  Finset.sum_eq_zero fun j _ => by rw [decayAt_later l h, mul_zero, zero_mul]

theorem blockDq_at (n : Fin 4) (i : Fin 512) (d : Fin 256) :
    blockDq (lgOf x2) (fun g => blk g x4) (fun g => blk g x5) (fun g => blk g x6) (kstOf x2 x4) (decOf x2) n (ix2 i d)
      = ∑ g : Fin 4, ∑ j : Fin 512, (grade x5 x6 (at' n i) (at' g j) * decayAt l (at' n i).val (at' g j).val) * x4 (ix2 (at' g j) d) := by
  have e : blockDq (lgOf x2) (fun g => blk g x4) (fun g => blk g x5) (fun g => blk g x6) (kstOf x2 x4) (decOf x2) n (ix2 i d)
      = dqt (lgOf x2) (fun g => blk g x5) (fun g => blk g x6) (kstOf x2 x4) n (ix2 d i) * decay l i.val
        + ∑ j : Fin 512, (grade x5 x6 (at' n i) (at' n j) * decayAt l (at' n i).val (at' n j).val) * x4 (ix2 (at' n j) d) := by
    unfold blockDq k0_pay41
    refine congr (congrArg HAdd.hAdd ?_) ((prod_ak _ _ i d).trans (Finset.sum_congr rfl fun j _ => congrArg (· * _) (ownDa_at x2 hl x5 x6 n j i)))
    refine congr (congrArg HMul.hMul ?_) (rise_at x2 hl i d)
    exact turned _ _ i d
  have z : (k0_pay37 (F := Ideal)) (ix2 d i) = (0 : EReal) := by
    show shapeCast S256x512 (broadcast S256x512 (Scalar.ofBits (F := Ideal) .f32 0x00000000#32)) shapeCasts_S256x512_S256x512 _ = _
    rw [shapeCast_id]
    exact Ideal.ofBits_zero_f32
  rw [e, Fin.sum_univ_four]
  match n with
  | 0 =>
    simp only [dqt]
    rw [z, zero_mul, zero_add, later_at x2 hl x4 x5 x6 (n := 0) (g := 1) (by decide), later_at x2 hl x4 x5 x6 (n := 0) (g := 2) (by decide),
      later_at x2 hl x4 x5 x6 (n := 0) (g := 3) (by decide), add_zero, add_zero, add_zero]
  | 1 =>
    simp only [dqt]
    rw [pay5_at x2 hl, z, zero_add, block_at x2 hl x4 x5 x6 (n := 1) (g := 0) (by decide), later_at x2 hl x4 x5 x6 (n := 1) (g := 2) (by decide),
      later_at x2 hl x4 x5 x6 (n := 1) (g := 3) (by decide), add_zero, add_zero]
  | 2 =>
    simp only [dqt]
    rw [pay5_at x2 hl, pay5_at x2 hl, z, zero_add, add_decay, block_at x2 hl x4 x5 x6 (n := 2) (g := 0) (by decide),
      block_at x2 hl x4 x5 x6 (n := 2) (g := 1) (by decide), later_at x2 hl x4 x5 x6 (n := 2) (g := 3) (by decide), add_zero]
  | 3 =>
    simp only [dqt]
    rw [pay5_at x2 hl, pay5_at x2 hl, pay5_at x2 hl, z, zero_add, add_decay, add_decay, block_at x2 hl x4 x5 x6 (n := 3) (g := 0) (by decide),
      block_at x2 hl x4 x5 x6 (n := 3) (g := 1) (by decide), block_at x2 hl x4 x5 x6 (n := 3) (g := 2) (by decide)]

theorem outDq_at (i : Fin 2048) (d : Fin 256) :
    outDq (F := Ideal) x2 x4 x5 x6 (ix2 i d) = ∑ j : Fin 2048, (grade x5 x6 i j * decayAt l i.val j.val) * x4 (ix2 j d) := by
  refine (blockDq_at x2 hl x4 x5 x6 ⟨i.val / 512, by omega⟩ ⟨i.val % 512, by omega⟩ d).trans ?_
  rw [at'_div, sum_blocks]

end Values

end Cert.Ret

end
-- ==== Proof.Ret.Arrays.lean ====
module

public import proofs.«01_k».proof.Proof.Ret.Sums
public import proofs.«01_k».proof.Proof.Ret.Run
public import Idealize.ShloMosaic.Lib.Pipeline.ValueKit.Geometry

/-! The three arrays the kernel ends with, as functions of the arguments: per batch row and head, the gradients in closed
    form. -/

@[expose] public section

set_option maxRecDepth 16384

noncomputable section

namespace Cert.Ret

open KernelIdeal KernelIdeal.Gen
open Idealize.ShloMosaic TcCoe

section Any

variable {F : FTy → Type} [FloatOps F]

/-- Rows of batch row `b` and columns of head `h`, `n` of them. -/
def part {α : Type} (n : ℕ) (b : Fin 2) (h : Fin 4) (x : (⟨2, ![4096, 4 * n]⟩ : Shape).Idx → α) : (⟨2, ![2048, n]⟩ : Shape).Idx → α :=
  fun y => x (ix2 (n0 := 4096) (n1 := 4 * n) ⟨2048 * b.val + (y 0).val, by have h0 : (y 0).val < 2048 := (y 0).isLt; omega⟩
    ⟨n * h.val + (y 1).val, by
      have h1 : (y 1).val < n := (y 1).isLt
      have := h.isLt
      have : n * h.val ≤ n * 3 := Nat.mul_le_mul_left n (by omega)
      omega⟩)

/-- The log decays of the four heads, as the host computes them. -/
def logs : FVec F S4 .f32 :=
  Host.log1p (Host.negf (Host.exp (mulf (broadcastInDim S4 ![] bcast_S_S4 (constant S_ .f32 0x3F317218#32))
    (subf (broadcastInDim S4 ![] bcast_S_S4 (constant S_ .f32 0xC0A00000#32)) (sitofp .f32 (iotaInDim S4 32 0))))))

variable (m : (ℓ : Loc nD τ sig) → Buf (Elt F) ℓ)

theorem V_logs (c : Dev nD) : V m c main_v9 = broadcastInDim S4x8x128 ![0, 1, 2] bcast_S4x1x1_S4x8x128_0_1_2 (broadcastInDim S4x1x1 ![0] bcast_S4_S4x1x1_0 (logs (F := F))) := by
  rfl

/-! ## The blocks of a point -/

/-- The batch row and the head of a point. -/
def row (t : Fin cfg0.N) : Fin 2 := ⟨t.val / 4, by have h : t.val < 8 := t.isLt; omega⟩
def hd (t : Fin cfg0.N) : Fin 4 := ⟨t.val % 4, by omega⟩

theorem index : ∀ t : Fin cfg0.N, win0_0.index t = ![t.val % 4, 0, 0] ∧ win0_1.index t = ![t.val / 4, t.val % 4] ∧ win0_2.index t = ![t.val / 4, t.val % 4] ∧ win0_3.index t = ![t.val / 4, t.val % 4] ∧ win0_4.index t = ![t.val / 4, t.val % 4] ∧ win0_5.index t = ![t.val / 4, t.val % 4] ∧ win0_6.index t = ![t.val / 4, t.val % 4] ∧ win0_7.index t = ![t.val / 4, t.val % 4] := (by decide +kernel : ∀ t : Fin grid0.N, _)

theorem block1 (c : Dev nD) (t : Fin cfg0.N) : iblk m c 1 t = part 256 (row t) (hd t) (m (c.tc.loc main_arg0)) := by
  rw [← V_main_arg0 m c]
  funext y
  unfold part row hd
  blk_ext [iblk, index]
theorem block2 (c : Dev nD) (t : Fin cfg0.N) : iblk m c 2 t = part 256 (row t) (hd t) (m (c.tc.loc main_arg1)) := by
  rw [← V_main_arg1 m c]
  funext y
  unfold part row hd
  blk_ext [iblk, index]
theorem block3 (c : Dev nD) (t : Fin cfg0.N) : iblk m c 3 t = part 512 (row t) (hd t) (m (c.tc.loc main_arg2)) := by
  rw [← V_main_arg2 m c]
  funext y
  unfold part row hd
  blk_ext [iblk, index]
theorem block4 (c : Dev nD) (t : Fin cfg0.N) : iblk m c 4 t = part 512 (row t) (hd t) (m (c.tc.loc main_arg3)) := by
  rw [← V_main_arg3 m c]
  funext y
  unfold part row hd
  blk_ext [iblk, index]

theorem block0 (c : Dev nD) (t : Fin cfg0.N) : iblk m c 0 t (ix3 (n0 := 1) (n1 := 8) (n2 := 128) 0 0 0) = logs (F := F) (ix1 (hd t)) := by
  have e : iblk m c 0 t (ix3 (n0 := 1) (n1 := 8) (n2 := 128) 0 0 0) = V m c main_v9 (ix3 (n0 := 4) (n1 := 8) (n2 := 128) (hd t) 0 0) := by
    unfold hd
    blk_ext [iblk, index]
  rw [e, V_logs]
  refine congrArg (logs (F := F)) ?_
  funext a
  match a with
  | ⟨0, _⟩ => rfl

end Any

/-! ## The log decays are numbers -/

theorem minus_five : Ideal.ofBits .f32 0xC0A00000#32 = ((-5 : ℝ) : EReal) := by
  simp [Ideal.ofBits, Ideal.ieee, -EReal.coe_mul, -EReal.coe_neg]; norm_num

theorem log_two : Ideal.ofBits .f32 0x3F317218#32 = ((11629080 / 16777216 : ℝ) : EReal) := by
  simp [Ideal.ofBits, Ideal.ieee, -EReal.coe_mul]; norm_num

/-- The log decay of head `h`. -/
def lg (h : Fin 4) : ℝ := Real.log (1 + -Real.exp (11629080 / 16777216 * (-5 - (h.val : ℝ))))

theorem logs_at (h : Fin 4) : logs (F := Ideal) (ix1 h) = (lg h : EReal) := by
  have e : logs (F := Ideal) (ix1 h) = Ideal.log (1 + -(Ideal.exp (Ideal.ofBits .f32 0x3F317218#32
    * (Ideal.ofBits .f32 0xC0A00000#32 - (((BitVec.ofNat 32 h.val).toInt : ℝ) : EReal))))) := rfl
  have i : ((BitVec.ofNat 32 h.val).toInt : ℝ) = (h.val : ℝ) := by
    match h with | 0 => rfl | 1 => rfl | 2 => rfl | 3 => rfl
  rw [e, i, minus_five, log_two, ← EReal.coe_sub, ← EReal.coe_mul]
  have p : Real.exp (11629080 / 16777216 * (-5 - (h.val : ℝ))) < 1 := by
    rw [Real.exp_lt_one_iff]
    have : (0 : ℝ) ≤ (h.val : ℝ) := Nat.cast_nonneg _
    nlinarith
  show Ideal.log (1 + -((Real.exp (11629080 / 16777216 * (-5 - (h.val : ℝ))) : ℝ) : EReal)) = _
  rw [← EReal.coe_neg, ← EReal.coe_one, ← EReal.coe_add]
  show (if 1 + -Real.exp (11629080 / 16777216 * (-5 - (h.val : ℝ))) ≤ 0 then (⊥ : EReal) else _) = _
  rw [if_neg (by linarith)]
  rfl

/-! ## The arrays the kernel ends with -/

/-- The batch row, position, head and lane of an element. -/
def rowOf (R : Fin 4096) : Fin 2 := ⟨R.val / 2048, by omega⟩
def posOf (R : Fin 4096) : Fin 2048 := ⟨R.val % 2048, by omega⟩

section Targets

variable (q k : S4096x1024.Idx → EReal) (v g : S4096x2048.Idx → EReal)

/-- The gradients of the queries, keys and values, given the queries, keys, values and the output's gradient. -/
def gradQ (b : Fin 2) (h : Fin 4) (i : Fin 2048) (d : Fin 256) : EReal :=
  ∑ j : Fin 2048, (grade (part 512 b h v) (part 512 b h g) i j * decayAt (lg h) i.val j.val) * part 256 b h k (ix2 j d)
def gradK (b : Fin 2) (h : Fin 4) (j : Fin 2048) (d : Fin 256) : EReal :=
  ∑ i : Fin 2048, (grade (part 512 b h v) (part 512 b h g) i j * decayAt (lg h) i.val j.val) * part 256 b h q (ix2 i d)
def gradV (b : Fin 2) (h : Fin 4) (j : Fin 2048) (e : Fin 512) : EReal :=
  ∑ i : Fin 2048, (score (part 256 b h q) (part 256 b h k) i j * decayAt (lg h) i.val j.val) * part 512 b h g (ix2 i e)

end Targets

/-- An array from its parts. -/
def whole {α : Type} (n : ℕ) (hn : 0 < n) (x : Fin 2 → Fin 4 → Fin 2048 → Fin n → α) : (⟨2, ![4096, 4 * n]⟩ : Shape).Idx → α := fun y =>
  x (rowOf (y 0)) ⟨(y 1).val / n, by have h1 : (y 1).val < 4 * n := (y 1).isLt; exact Nat.div_lt_of_lt_mul (h1.trans_eq (Nat.mul_comm 4 n))⟩
    (posOf (y 0)) ⟨(y 1).val % n, Nat.mod_lt _ hn⟩

theorem whole_at {α : Type} (n : ℕ) (hn : 0 < n) (x : Fin 2 → Fin 4 → Fin 2048 → Fin n → α) (y : (⟨2, ![4096, 4 * n]⟩ : Shape).Idx)
    (b : Fin 2) (h : Fin 4) (i : Fin 2048) (d : Fin n) (h0 : (y 0).val = 2048 * b.val + i.val) (h1 : (y 1).val = n * h.val + d.val) :
    whole n hn x y = x b h i d := by
  unfold whole
  congr 1
  · exact Fin.ext (by show (y 0).val / 2048 = b.val; omega)
  · exact Fin.ext (by show (y 1).val / n = h.val; rw [h1, Nat.mul_add_div hn, Nat.div_eq_of_lt d.isLt, Nat.add_zero])
  · exact Fin.ext (by show (y 0).val % 2048 = i.val; omega)
  · exact Fin.ext (by show (y 1).val % n = d.val; rw [h1, Nat.mul_add_mod, Nat.mod_eq_of_lt d.isLt])

variable (m : (ℓ : Loc nD τ sig) → Buf (Elt Ideal) ℓ)

theorem dq_at (c : Dev nD) (t : Fin cfg0.N) (i : Fin 2048) (d : Fin 256) : dqAt m c t (ix2 i d)
    = gradQ (m (c.tc.loc main_arg1)) (m (c.tc.loc main_arg2)) (m (c.tc.loc main_arg3)) (row t) (hd t) i d := by
  unfold dqAt gradQ
  rw [outDq_at _ ((block0 m c t).trans (logs_at (hd t))), block2, block3, block4]

theorem dk_at (c : Dev nD) (t : Fin cfg0.N) (j : Fin 2048) (d : Fin 256) : dkAt m c t (ix2 j d)
    = gradK (m (c.tc.loc main_arg0)) (m (c.tc.loc main_arg2)) (m (c.tc.loc main_arg3)) (row t) (hd t) j d := by
  unfold dkAt gradK
  rw [outDk_at _ ((block0 m c t).trans (logs_at (hd t))), block1, block3, block4]

theorem dv_at (c : Dev nD) (t : Fin cfg0.N) (j : Fin 2048) (e : Fin 512) : dvAt m c t (ix2 j e)
    = gradV (m (c.tc.loc main_arg0)) (m (c.tc.loc main_arg1)) (m (c.tc.loc main_arg3)) (row t) (hd t) j e := by
  unfold dvAt gradV
  rw [outDv_at _ ((block0 m c t).trans (logs_at (hd t))), block1, block2, block4]

/-- An index of a matrix is its two coordinates. -/
theorem pairOf {a b : ℕ} (y : (⟨2, ![a, b]⟩ : Shape).Idx) : ∃ (i : Fin a) (j : Fin b), y = ix2 i j :=
  ⟨y 0, y 1, funext fun z => match z with | ⟨0, _⟩ => rfl | ⟨1, _⟩ => rfl⟩

theorem final_q (c : Dev nD) : (data m 0 c).arrAt 5 cfg0.N = whole 256 (by decide)
    (gradQ (m (c.tc.loc main_arg1)) (m (c.tc.loc main_arg2)) (m (c.tc.loc main_arg3))) := by
  refine (data m 0 c).arrAt_eq_of_covers 5 _ (by decide +kernel) fun t hf y => ?_
  blk_simp
  rw [left5]
  obtain ⟨i, d, rfl⟩ := pairOf (a := 2048) (b := 256) y
  refine (dq_at m c t i d).trans (whole_at 256 _ _ _ _ _ _ _ ?_ ?_).symm
  · blk_simp [index]; show t.val / 4 * 2048 + i.val = 2048 * (t.val / 4) + i.val; omega
  · blk_simp [index]; show t.val % 4 * 256 + d.val = 256 * (t.val % 4) + d.val; omega

theorem final_k (c : Dev nD) : (data m 0 c).arrAt 6 cfg0.N = whole 256 (by decide)
    (gradK (m (c.tc.loc main_arg0)) (m (c.tc.loc main_arg2)) (m (c.tc.loc main_arg3))) := by
  refine (data m 0 c).arrAt_eq_of_covers 6 _ (by decide +kernel) fun t hf y => ?_
  blk_simp
  rw [left6]
  obtain ⟨i, d, rfl⟩ := pairOf (a := 2048) (b := 256) y
  refine (dk_at m c t i d).trans (whole_at 256 _ _ _ _ _ _ _ ?_ ?_).symm
  · blk_simp [index]; show t.val / 4 * 2048 + i.val = 2048 * (t.val / 4) + i.val; omega
  · blk_simp [index]; show t.val % 4 * 256 + d.val = 256 * (t.val % 4) + d.val; omega

theorem final_v (c : Dev nD) : (data m 0 c).arrAt 7 cfg0.N = whole 512 (by decide)
    (gradV (m (c.tc.loc main_arg0)) (m (c.tc.loc main_arg1)) (m (c.tc.loc main_arg3))) := by
  refine (data m 0 c).arrAt_eq_of_covers 7 _ (by decide +kernel) fun t hf y => ?_
  blk_simp
  rw [left7]
  obtain ⟨i, d, rfl⟩ := pairOf (a := 2048) (b := 512) y
  refine (dv_at m c t i d).trans (whole_at 512 _ _ _ _ _ _ _ ?_ ?_).symm
  · blk_simp [index]; show t.val / 4 * 2048 + i.val = 2048 * (t.val / 4) + i.val; omega
  · blk_simp [index]; show t.val % 4 * 512 + d.val = 512 * (t.val % 4) + d.val; omega

theorem run_values (ρ : Dev nD → PrngReg) : θ_run defs (onTc (τ := τ) (main (F := Ideal))) ⟨m, fun _ => 0, ρ⟩ (fun r => ∀ c : Dev nD,
      r.2.mem (c.tc.loc main_v10_0) = whole 256 (by decide)
        (gradQ (m (c.tc.loc main_arg1)) (m (c.tc.loc main_arg2)) (m (c.tc.loc main_arg3)))
      ∧ r.2.mem (c.tc.loc main_v10_1) = whole 256 (by decide)
        (gradK (m (c.tc.loc main_arg0)) (m (c.tc.loc main_arg2)) (m (c.tc.loc main_arg3)))
      ∧ r.2.mem (c.tc.loc main_v10_2) = whole 512 (by decide)
        (gradV (m (c.tc.loc main_arg0)) (m (c.tc.loc main_arg1)) (m (c.tc.loc main_arg3)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun r h c => ⟨((h.2 c).1 5).trans (final_q m c), ((h.2 c).1 6).trans (final_k m c), ((h.2 c).1 7).trans (final_v m c), h.1.1 c⟩)
    (θ_run_and (framed m ρ) (ends_arrays m ρ))

end Cert.Ret

end
-- ==== Proof.Ret.Ref.lean ====
module

public import proofs.«01_k».proof.Proof.Ret.Arrays
public import proofs.«01_k».proof.Proof.Gen.ReferenceIdeal.Run
public import Idealize.ShloMosaic.Lib.Pointwise.Contract
public import Idealize.ShloMosaic.Lib.Pointwise.Reshape

/-! The reference's three results at an index: the same sums over all positions. -/

@[expose] public section

set_option maxRecDepth 16384

noncomputable section

namespace Cert.Ret.Ref

open ReferenceIdeal ReferenceIdeal.Gen
open Idealize.ShloMosaic TcCoe

/-! ## The mask -/

/-- The positions as numbers, their chunks, and the log decays. -/
def place : FVec Ideal S2048 .f32 := sitofp .f32 (iotaInDim S2048 32 0)
def chunk : IVec S2048 32 := shapeCast S2048 (iotaInDim S32x64 32 0) shapeCasts_S32x64_S2048
def logsR : FVec Ideal S4 .f32 :=
  Host.log1p (Host.negf (Host.exp (mulf (broadcastInDim S4 ![] bcast_S_S4 (constant S_ .f32 0x3F317218#32))
    (subf (broadcastInDim S4 ![] bcast_S_S4 (constant S_ .f32 0xC0A00000#32)) (sitofp .f32 (iotaInDim S4 32 0))))))

theorem logsR_eq : logsR = logs (F := Ideal) := rfl

/-- The decays, zero where the query's chunk precedes the key's. -/
def mask : FVec Ideal S4x2048x2048 .f32 :=
  select (broadcastInDim S4x2048x2048 ![0, 1, 2] bcast_S1x2048x2048_S4x2048x2048_0_1_2
      (cmpi .sge (broadcastInDim S1x2048x2048 ![0, 1, 2] bcast_S1x2048x1_S1x2048x2048_0_1_2 (broadcastInDim S1x2048x1 ![1] bcast_S2048_S1x2048x1_1 chunk))
        (broadcastInDim S1x2048x2048 ![0, 1, 2] bcast_S1x1x2048_S1x2048x2048_0_1_2 (broadcastInDim S1x1x2048 ![2] bcast_S2048_S1x1x2048_2 chunk))))
    (Host.exp (mulf (broadcastInDim S4x2048x2048 ![0, 1, 2] bcast_S4x1x1_S4x2048x2048_0_1_2 (broadcastInDim S4x1x1 ![0] bcast_S4_S4x1x1_0 logsR))
      (broadcastInDim S4x2048x2048 ![0, 1, 2] bcast_S1x2048x2048_S4x2048x2048_0_1_2 (broadcastInDim S1x2048x2048 ![1, 2] bcast_S2048x2048_S1x2048x2048_1_2
        (Host.absf (subf (broadcastInDim S2048x2048 ![0, 1] bcast_S2048x1_S2048x2048_0_1 (broadcastInDim S2048x1 ![0] bcast_S2048_S2048x1_0 place))
          (broadcastInDim S2048x2048 ![0, 1] bcast_S1x2048_S2048x2048_0_1 (broadcastInDim S1x2048 ![1] bcast_S2048_S1x2048_1 place))))))))
    (broadcastInDim S4x2048x2048 ![] bcast_S_S4x2048x2048 (id (constant S_ .f32 0x00000000#32)))

/-- The mask at every batch row. -/
def masks : FVec Ideal S2x4x2048x2048 .f32 :=
  broadcastInDim S2x4x2048x2048 ![0, 1, 2, 3] bcast_S1x4x2048x2048_S2x4x2048x2048_0_1_2_3 (broadcastInDim S1x4x2048x2048 ![1, 2, 3] bcast_S4x2048x2048_S1x4x2048x2048_1_2_3 mask)

theorem place_at (i : Fin 2048) : place (ix1 i) = (((i.val : ℝ)) : EReal) := by
  show ((((BitVec.ofNat 32 i.val).toInt : ℝ)) : EReal) = _
  have : (BitVec.ofNat 32 i.val).toInt = (i.val : ℤ) := by
    rw [BitVec.toInt_eq_toNat_of_lt (by rw [BitVec.toNat_ofNat]; omega), BitVec.toNat_ofNat]
    omega
  rw [this, Int.cast_natCast]

theorem chunk_at (i : Fin 2048) : chunk (ix1 i) = BitVec.ofNat 32 (i.val / 64) := by
  unfold chunk
  simp only [pointwise]
  rfl

theorem chunk_ge : ∀ x y : Fin 32, (IntOp.cmpi .sge (BitVec.ofNat 32 x.val) (BitVec.ofNat 32 y.val) = 1#1) ↔ y.val ≤ x.val := by decide +kernel

theorem gap_abs (i j : ℕ) : |(i : ℝ) - (j : ℝ)| = (((i - j) + (j - i) : ℕ) : ℝ) := by
  rcases le_total i j with h | h
  · rw [Nat.sub_eq_zero_of_le h, Nat.zero_add, Nat.cast_sub h, abs_of_nonpos (by have : (i : ℝ) ≤ j := Nat.cast_le.mpr h; linarith)]
    ring
  · rw [Nat.sub_eq_zero_of_le h, Nat.add_zero, Nat.cast_sub h, abs_of_nonneg (by have : (j : ℝ) ≤ i := Nat.cast_le.mpr h; linarith)]

theorem mask_at (h : Fin 4) (i j : Fin 2048) : mask (ix3 h i j) = decayAt (lg h) i.val j.val := by
  have e : mask (ix3 h i j) = if IntOp.cmpi .sge (chunk (ix1 i)) (chunk (ix1 j)) = 1#1 then
      Ideal.exp (logsR (ix1 h) * (max (place (ix1 i) - place (ix1 j)) (-(place (ix1 i) - place (ix1 j))) : EReal))
    else Ideal.ofBits .f32 0x00000000#32 := by
    rfl
  have hc := chunk_ge ⟨i.val / 64, by omega⟩ ⟨j.val / 64, by omega⟩
  rw [e, chunk_at, chunk_at, logsR_eq, logs_at, place_at, place_at, Ideal.ofBits_zero_f32, ← EReal.coe_sub, ← EReal.coe_neg,
    ← EReal.coe_strictMono.monotone.map_max, ← EReal.coe_mul]
  show (if _ then ((Real.exp (lg h * |(i.val : ℝ) - (j.val : ℝ)|) : ℝ) : EReal) else 0) = _
  rw [gap_abs]
  unfold decayAt decay
  by_cases hh : j.val / 64 ≤ i.val / 64
  · rw [if_pos hh, if_pos (hc.mpr hh)]
  · rw [if_neg hh, if_neg (fun x => hh (hc.mp x))]

theorem masks_at (b : Fin 2) (h : Fin 4) (i j : Fin 2048) : masks (ix4 b h i j) = decayAt (lg h) i.val j.val := by
  rw [← mask_at]
  rfl

/-! ## The results -/

section Results

variable (q k : FVec Ideal S4096x1024 .bf16) (v : FVec Ideal S4096x2048 .bf16) (g : FVec Ideal S4096x2048 .f32)

/-- Queries, keys, values and the output's gradient by batch row, position and head. -/
def heads256 (x : FVec Ideal S4096x1024 .bf16) : FVec Ideal S2x2048x4x256 .f32 :=
  shapeCast S2x2048x4x256 (extf .f32 x bitsLt_bf16_f32 : FVec Ideal S4096x1024 .f32) shapeCasts_S4096x1024_S2x2048x4x256
def heads512 (x : FVec Ideal S4096x2048 .bf16) : FVec Ideal S2x2048x4x512 .f32 :=
  shapeCast S2x2048x4x512 (extf .f32 x bitsLt_bf16_f32 : FVec Ideal S4096x2048 .f32) shapeCasts_S4096x2048_S2x2048x4x512
def headsG : FVec Ideal S2x4x512x2048 .f32 :=
  transpose S2x4x512x2048 [0, 2, 3, 1] (shapeCast S2x2048x4x512 g shapeCasts_S4096x2048_S2x2048x4x512) transposes_S2x2048x4x512_S2x4x512x2048_0_2_3_1

theorem heads256_at (x : FVec Ideal S4096x1024 .bf16) (b : Fin 2) (i : Fin 2048) (h : Fin 4) (d : Fin 256) :
    heads256 x (ix4 b i h d) = part 256 b h x (ix2 i d) := by
  unfold heads256
  simp only [pointwise]
  refine congrArg x ?_
  funext a
  match a with
  | ⟨0, _⟩ => exact Fin.ext (by show b.val * 2048 + i.val = 2048 * b.val + i.val; omega)
  | ⟨1, _⟩ => exact Fin.ext (by show h.val * 256 + d.val = 256 * h.val + d.val; omega)

theorem heads512_at (x : FVec Ideal S4096x2048 .bf16) (b : Fin 2) (i : Fin 2048) (h : Fin 4) (d : Fin 512) :
    heads512 x (ix4 b i h d) = part 512 b h x (ix2 i d) := by
  unfold heads512
  simp only [pointwise]
  refine congrArg x ?_
  funext a
  match a with
  | ⟨0, _⟩ => exact Fin.ext (by show b.val * 2048 + i.val = 2048 * b.val + i.val; omega)
  | ⟨1, _⟩ => exact Fin.ext (by show h.val * 512 + d.val = 512 * h.val + d.val; omega)

theorem headsG_at (b : Fin 2) (h : Fin 4) (e : Fin 512) (i : Fin 2048) :
    headsG g (ix4 b h e i) = part 512 b h g (ix2 i e) := by
  have t : headsG g (ix4 b h e i) = shapeCast S2x2048x4x512 g shapeCasts_S4096x2048_S2x2048x4x512 (ix4 b i h e) := by
    unfold headsG
    exact transpose_apply _ _ _ _ _ fun c => match c with | ⟨0, _⟩ => rfl | ⟨1, _⟩ => rfl | ⟨2, _⟩ => rfl | ⟨3, _⟩ => rfl
  rw [t]
  simp only [pointwise]
  refine congrArg g ?_
  funext a
  match a with
  | ⟨0, _⟩ => exact Fin.ext (by show b.val * 2048 + i.val = 2048 * b.val + i.val; omega)
  | ⟨1, _⟩ => exact Fin.ext (by show h.val * 512 + e.val = 512 * h.val + e.val; omega)

/-- The decayed products of values and gradients, and of queries and keys. -/
def grades : FVec Ideal S2x4x2048x2048 .f32 :=
  mulf (Host.dotGeneral dot_S2x4x512x2048_S2x2048x4x512_S2x4x2048x2048_2_3_3_1_01_02 none (headsG g) (heads512 v)) masks
def scores : FVec Ideal S2x4x2048x2048 .f32 :=
  mulf (Host.dotGeneral dot_S2x2048x4x256_S2x2048x4x256_S2x4x2048x2048_3_3_1_1_02_02 none (heads256 q) (heads256 k)) masks

theorem grades_at (b : Fin 2) (h : Fin 4) (i j : Fin 2048) :
    grades v g (ix4 b h i j) = grade (part 512 b h v) (part 512 b h g) i j * decayAt (lg h) i.val j.val := by
  rw [← masks_at b]
  refine congrArg (· * masks (ix4 b h i j)) ?_
  unfold grade
  simp only [pointwise]
  refine (zero_add _).trans (Finset.sum_congr rfl fun e _ => ?_)
  rw [headsG_at, heads512_at]
  exact mul_comm _ _

theorem scores_at (b : Fin 2) (h : Fin 4) (i j : Fin 2048) :
    scores q k (ix4 b h i j) = score (part 256 b h q) (part 256 b h k) i j * decayAt (lg h) i.val j.val := by
  rw [← masks_at b]
  refine congrArg (· * masks (ix4 b h i j)) ?_
  unfold score
  simp only [pointwise]
  refine (zero_add _).trans (Finset.sum_congr rfl fun e _ => ?_)
  rw [heads256_at, heads256_at]
  exact mul_comm _ _

def resultQ : FVec Ideal S4096x1024 .f32 :=
  shapeCast S4096x1024 (transpose S2x2048x4x256 [0, 2, 1, 3] (Host.dotGeneral dot_S2x4x2048x2048_S2x2048x4x256_S2x4x2048x256_3_1_2_3_01_02 none (grades v g) (heads256 k))
    transposes_S2x4x2048x256_S2x2048x4x256_0_2_1_3) shapeCasts_S2x2048x4x256_S4096x1024
def resultK : FVec Ideal S4096x1024 .f32 :=
  shapeCast S4096x1024 (transpose S2x2048x4x256 [0, 2, 1, 3] (Host.dotGeneral dot_S2x4x2048x2048_S2x2048x4x256_S2x4x2048x256_2_1_3_3_01_02 none (grades v g) (heads256 q))
    transposes_S2x4x2048x256_S2x2048x4x256_0_2_1_3) shapeCasts_S2x2048x4x256_S4096x1024
def resultV : FVec Ideal S4096x2048 .f32 :=
  shapeCast S4096x2048 (transpose S2x2048x4x512 [0, 3, 1, 2] (Host.dotGeneral dot_S2x4x512x2048_S2x4x2048x2048_S2x4x512x2048_3_2_2_3_01_01 none (headsG g) (scores q k))
    transposes_S2x4x512x2048_S2x2048x4x512_0_3_1_2) shapeCasts_S2x2048x4x512_S4096x2048

theorem resultQ_eq : resultQ k v g = whole 256 (by decide) (gradQ k v g) := by
  funext y
  unfold resultQ
  simp only [pointwise]
  refine (transpose_apply _ _ _ _ (ix4 (rowOf (y 0)) ⟨(y 1).val / 256, by have h1 : (y 1).val < 1024 := (y 1).isLt; omega⟩ (posOf (y 0)) ⟨(y 1).val % 256, by omega⟩)
    fun c => match c with | ⟨0, _⟩ => rfl | ⟨1, _⟩ => rfl | ⟨2, _⟩ => rfl | ⟨3, _⟩ => rfl).trans ?_
  simp only [pointwise]
  unfold whole gradQ
  refine (zero_add _).trans (Finset.sum_congr rfl fun j _ => ?_)
  rw [grades_at, heads256_at]

theorem resultK_eq : resultK q v g = whole 256 (by decide) (gradK q v g) := by
  funext y
  unfold resultK
  simp only [pointwise]
  refine (transpose_apply _ _ _ _ (ix4 (rowOf (y 0)) ⟨(y 1).val / 256, by have h1 : (y 1).val < 1024 := (y 1).isLt; omega⟩ (posOf (y 0)) ⟨(y 1).val % 256, by omega⟩)
    fun c => match c with | ⟨0, _⟩ => rfl | ⟨1, _⟩ => rfl | ⟨2, _⟩ => rfl | ⟨3, _⟩ => rfl).trans ?_
  simp only [pointwise]
  unfold whole gradK
  refine (zero_add _).trans (Finset.sum_congr rfl fun j _ => ?_)
  rw [grades_at, heads256_at]

theorem resultV_eq : resultV q k g = whole 512 (by decide) (gradV q k g) := by
  funext y
  unfold resultV
  simp only [pointwise]
  refine (transpose_apply _ _ _ _ (ix4 (rowOf (y 0)) ⟨(y 1).val / 512, by have h1 : (y 1).val < 2048 := (y 1).isLt; omega⟩ ⟨(y 1).val % 512, by omega⟩ (posOf (y 0)))
    fun c => match c with | ⟨0, _⟩ => rfl | ⟨1, _⟩ => rfl | ⟨2, _⟩ => rfl | ⟨3, _⟩ => rfl).trans ?_
  simp only [pointwise]
  unfold whole gradV
  refine (zero_add _).trans (Finset.sum_congr rfl fun j _ => ?_)
  rw [headsG_at, scores_at]
  exact mul_comm _ _

end Results

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v55) = whole 256 (by decide)
        (gradQ (m (c.tc.loc main_arg1)) (m (c.tc.loc main_arg2)) (m (c.tc.loc main_arg3)))
      ∧ r.2.mem (c.tc.loc main_v54) = whole 256 (by decide)
        (gradK (m (c.tc.loc main_arg0)) (m (c.tc.loc main_arg2)) (m (c.tc.loc main_arg3)))
      ∧ r.2.mem (c.tc.loc main_v53) = whole 512 (by decide)
        (gradV (m (c.tc.loc main_arg0)) (m (c.tc.loc main_arg1)) (m (c.tc.loc main_arg3)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun r h c => ⟨(h c).1.trans (resultQ_eq _ _ _), (h c).2.1.trans (resultK_eq _ _ _), (h c).2.2.1.trans (resultV_eq _ _ _), (h c).2.2.2⟩)
    (Value.run m ρ)

end Cert.Ret.Ref

end
-- ==== Proof.Dx.Same.lean ====
module

public import proofs.«01_k».proof.Defs
public import proofs.«01_k».proof.Proof.Gen.Kernel2Ideal.Frame

/-! The kernel and its ideal program have one text: the side conditions and the run over the machine's values are the ideal
    program's. -/

@[expose] public section

set_option maxRecDepth 16384

namespace Cert.Dx

open Idealize.ShloMosaic Idealize.SL.Sem

open Kernel2Ideal.Gen in
/-- The conditions the kernel states are those its ideal program states. -/
theorem facts₀ : Kernel2.Facts₀ where
  inb_S256x4096_S256x4096_0_0 := @inb_S256x4096_S256x4096_0_0
  h_S256x4096 := @h_S256x4096
  inb_S1024x6144_S1024x4096_0_0 := @inb_S1024x6144_S1024x4096_0_0
  h_S1024x4096 := @h_S1024x4096
  inb_S256x2048_S256x2048_0_0 := @inb_S256x2048_S256x2048_0_0
  h_S256x2048 := @h_S256x2048
  inb_S1024x6144_S1024x2048_0_4096 := @inb_S1024x6144_S1024x2048_0_4096
  h_S1024x2048 := @h_S1024x2048
  inb_S256x1024_S256x1024_0_0 := @inb_S256x1024_S256x1024_0_0
  h_S256x1024 := @h_S256x1024
  inb_S1x1024_S1x1024_0_0 := @inb_S1x1024_S1x1024_0_0
  h_S1x1024 := @h_S1x1024
  reduces_S256x1024_S256 := @reduces_S256x1024_S256
  shapeCasts_S256_S256x1 := @shapeCasts_S256_S256x1
  broadcasts_S256x1_S256x1024 := @broadcasts_S256x1_S256x1024
  reduces_S256x1024_S1024 := @reduces_S256x1024_S1024
  shapeCasts_S1024_S1x1024 := @shapeCasts_S1024_S1x1024
  broadcasts_S1x1024_S256x1024 := @broadcasts_S1x1024_S256x1024
  reduces_S256x1_S256 := @reduces_S256x1_S256
  bitsLt_bf16_f32 := @bitsLt_bf16_f32
  packedbf16_S256x1024_S256x1024_0_0 := @packedbf16_S256x1024_S256x1024_0_0
  shapeCasts_S1x1024_S1x1024 := @shapeCasts_S1x1024_S1x1024
  dot_S256x4096_S1024x4096_S256x1024_1_1_0_0_n_n_wf := @dot_S256x4096_S1024x4096_S256x1024_1_1_0_0_n_n_wf
  dot_S256x2048_S1024x2048_S256x1024_1_1_0_0_n_n_wf := @dot_S256x2048_S1024x2048_S256x1024_1_1_0_0_n_n_wf
  hrank0 := @hrank0
  hstage0_0 := @hstage0_0
  nbuf0_0 := @nbuf0_0
  hreads0_0 := @hreads0_0
  hinb0_0 := @hinb0_0
  hwx0_0 := @hwx0_0
  hstage0_1 := @hstage0_1
  nbuf0_1 := @nbuf0_1
  hreads0_1 := @hreads0_1
  hinb0_1 := @hinb0_1
  hwx0_1 := @hwx0_1
  hstage0_2 := @hstage0_2
  nbuf0_2 := @nbuf0_2
  hreads0_2 := @hreads0_2
  hinb0_2 := @hinb0_2
  hwx0_2 := @hwx0_2
  hstage0_3 := @hstage0_3
  nbuf0_3 := @nbuf0_3
  hreads0_3 := @hreads0_3
  hinb0_3 := @hinb0_3
  hwx0_3 := @hwx0_3
  hstage0_4 := @hstage0_4
  nbuf0_4 := @nbuf0_4
  hreads0_4 := @hreads0_4
  hinb0_4 := @hinb0_4
  hwx0_4 := @hwx0_4
  hstage0_5 := @hstage0_5
  nbuf0_5 := @nbuf0_5
  hreads0_5 := @hreads0_5
  hinb0_5 := @hinb0_5
  hwx0_5 := @hwx0_5
  hstage0_6 := @hstage0_6
  nbuf0_6 := @nbuf0_6
  hreads0_6 := @hreads0_6
  hinb0_6 := @hinb0_6
  hwx0_6 := @hwx0_6
  hstage0_7 := @hstage0_7
  nbuf0_7 := @nbuf0_7
  hreads0_7 := @hreads0_7
  hinb0_7 := @hinb0_7
  hwx0_7 := @hwx0_7
  hstage0_8 := @hstage0_8
  nbuf0_8 := @nbuf0_8
  hreads0_8 := @hreads0_8
  hinb0_8 := @hinb0_8
  hwx0_8 := @hwx0_8

theorem facts : Kernel2.Facts where
  toFacts₀ := facts₀

local instance : Kernel2.Facts := facts
local instance : Kernel2Ideal.Facts := Kernel2Ideal.Gen.facts

/-- The two body tables are one. -/
theorem table_eq : Kernel2.defs₀ (F := Bits) = Kernel2Ideal.defs₀ (F := Bits) := by
  unfold Kernel2.defs₀ Kernel2Ideal.defs₀
  refine congrArg _ ?_
  funext l a
  match l, a with
  | 0, (t, s) => with_unfolding_all rfl

theorem main_eq : Kernel2.main (F := Bits) = Kernel2Ideal.main (F := Bits) := by with_unfolding_all rfl

theorem defs_eq : Kernel2.defs (F := Bits) = Kernel2Ideal.defs (F := Bits) :=
  congrArg (Pipeline.defs (Kernel2Ideal.pcfgs (F := Bits))) table_eq

/-- The kernel's frame: the same run, over the machine's values. -/
theorem frame_kernel : quiescent_Kernel2 := fun m ρ _ => by
  rw [defs_eq, main_eq]
  exact Kernel2Ideal.Gen.frame (F := Bits) m ρ

end Cert.Dx

end
-- ==== Proof.Dx.Row.lean ====
module

public import Idealize.ShloMosaic.Lib.Pointwise
public import Idealize.ShloMosaic.Lib.Pointwise.Contract
public import Idealize.ShloMosaic.Lib.Pipeline.Value
public import Idealize.ShloMosaic.Lib.Pipeline.ValueKit.Geometry

/-! The gradient of a root-mean-square norm followed by a product, row by row, over the extended reals. -/

@[expose] public section

set_option maxRecDepth 16384

noncomputable section

namespace Cert

open Idealize.ShloMosaic TcCoe

theorem hz : (![0, 0] : Fin 2 → Nat) = fun _ => 0 := funext fun a => by fin_cases a <;> rfl
theorem hz3 : (![0, 0, 0] : Fin 3 → Nat) = fun _ => 0 := funext fun a => by fin_cases a <;> rfl

/-- A device's array is in the memory `m'` as it is in `m`. -/
abbrev Kept {nD : Nat} {τ : Topo} {sig : RefSig} {T : EltTy → Type} (m m' : (ℓ : Loc nD τ sig) → Buf T ℓ) (c : Dev nD) (b : Ref sig .tc) : Prop :=
  m' (c.tc.loc b) = m (c.tc.loc b)

end Cert

namespace Cert.Dx

open Idealize.ShloMosaic

/-- 1024, the norm's offset, and -1/2, as the programs write them. -/
abbrev width : EReal := Ideal.ofBits .f32 0x44800000#32
abbrev offset : EReal := Ideal.ofBits .f32 0x358637BD#32
abbrev half : EReal := Ideal.ofBits .f32 0xBF000000#32

/-- A row's mean square with the offset, and the factor by which the norm scales the row. -/
def meanSq (x : Fin 1024 → EReal) : EReal := Ideal.div (∑ k, x k * x k) width + offset
def inv (x : Fin 1024 → EReal) : EReal := Ideal.rsqrt (meanSq x)

/-- The part of the row's gradient that goes through its mean square, given the gradient `p` of the scaled row. -/
def slope (x p : Fin 1024 → EReal) : EReal :=
  Ideal.div ((∑ k, x k * p k) * (half * Ideal.div (inv x) (meanSq x))) width

/-- The gradient of the row, given the gradient `d` of the norm's output, the gain `g` and a gradient `a` that is added. -/
def dxRow (x d g a : Fin 1024 → EReal) (j : Fin 1024) : EReal :=
  d j * g j * inv x + x j * slope x (fun k => d k * g k) + slope x (fun k => d k * g k) * x j + a j

/-- The same with the added gradient first. -/
theorem dxRow_eq (x d g a : Fin 1024 → EReal) (j : Fin 1024) :
    a j + d j * g j * inv x + x j * slope x (fun k => d k * g k) + slope x (fun k => d k * g k) * x j = dxRow x d g a j := by
  unfold dxRow
  rw [add_comm _ (a j), ← add_assoc, ← add_assoc]

/-- A row's part of the gain's gradient. -/
def dgRow (x d : Fin 1024 → EReal) (j : Fin 1024) : EReal := x j * inv x * d j

/-! ## Whole arrays -/

/-- Row `i` of an array of 1024 columns. -/
def rowAt {n : ℕ} (x : (⟨2, ![n, 1024]⟩ : Shape).Idx → EReal) (i : Fin n) (k : Fin 1024) : EReal := x (ix2 i k)

/-- The gradient of a product's left factor: the sum over the two parts `a` and `b` of the product's gradient, which lie side by side. -/
def back {n p q : ℕ} (a : (⟨2, ![n, p]⟩ : Shape).Idx → EReal) (b : (⟨2, ![n, q]⟩ : Shape).Idx → EReal) (w : (⟨2, ![1024, p + q]⟩ : Shape).Idx → EReal)
    (i : Fin n) (j : Fin 1024) : EReal :=
  (∑ k : Fin p, a (ix2 i k) * w (ix2 (n0 := 1024) (n1 := p + q) j ⟨k.val, by omega⟩))
    + ∑ k : Fin q, b (ix2 i k) * w (ix2 (n0 := 1024) (n1 := p + q) j ⟨p + k.val, by omega⟩)

/-- The gradients of the input and of the gain. -/
def gradX {n : ℕ} (d : Fin n → Fin 1024 → EReal) (x : (⟨2, ![n, 1024]⟩ : Shape).Idx → EReal) (g : (⟨2, ![1, 1024]⟩ : Shape).Idx → EReal)
    (s : (⟨2, ![n, 1024]⟩ : Shape).Idx → EReal) : (⟨2, ![n, 1024]⟩ : Shape).Idx → EReal :=
  fun y => dxRow (rowAt x (y 0)) (d (y 0)) (rowAt g 0) (rowAt s (y 0)) (y 1)
def gradG {n : ℕ} (d : Fin n → Fin 1024 → EReal) (x : (⟨2, ![n, 1024]⟩ : Shape).Idx → EReal) : (⟨2, ![1, 1024]⟩ : Shape).Idx → EReal :=
  fun y => ∑ i : Fin n, dgRow (rowAt x i) (d i) (y 1)

/-- Rows `256 t` to `256 t + 255` of an array. -/
def block {n : ℕ} {α : Type} (c : ℕ) (t : ℕ) (ht : 256 * t + 256 ≤ n) (x : (⟨2, ![n, c]⟩ : Shape).Idx → α) : (⟨2, ![256, c]⟩ : Shape).Idx → α :=
  fun y => x (ix2 (n0 := n) (n1 := c) ⟨256 * t + (y 0).val, by have h : (y 0).val < 256 := (y 0).isLt; omega⟩ (y 1))

/-- A sum over 4096 rows is a sum over 16 blocks of 256. -/
theorem sum_rows (f : Fin 4096 → EReal) :
    ∑ t : Fin 16, ∑ i : Fin 256, f ⟨256 * t.val + i.val, by omega⟩ = ∑ i, f i := by
  rw [← Finset.sum_product', Finset.univ_product_univ]
  refine (Equiv.sum_comp (finProdFinEquiv (m := 16) (n := 256)) f).symm.trans ?_ |>.symm
  refine Finset.sum_congr rfl fun p _ => congrArg f (Fin.ext ?_)
  show p.2.val + 256 * p.1.val = 256 * p.1.val + p.2.val
  omega

/-- An index of a matrix is its two coordinates. -/
theorem pairOf {a b : ℕ} (y : (⟨2, ![a, b]⟩ : Shape).Idx) : ∃ (i : Fin a) (j : Fin b), y = ix2 i j :=
  ⟨y 0, y 1, funext fun z => match z with | ⟨0, _⟩ => rfl | ⟨1, _⟩ => rfl⟩

end Cert.Dx

end
-- ==== Proof.Dx.Outs.lean ====
module

public import proofs.«01_k».proof.Proof.Gen.Kernel2Ideal.Value
public import proofs.«01_k».proof.Proof.Dx.Row

/-! What a point of the kernel leaves in its three output blocks. -/

@[expose] public section

set_option maxRecDepth 16384

noncomputable section

namespace Cert.Dx

open Kernel2Ideal Kernel2Ideal.Gen
open Idealize.ShloMosaic TcCoe

section Any

variable {F : FTy → Type} [FloatOps F]
variable (m : (ℓ : Loc nD τ sig) → Buf (Elt F) ℓ)

/-- The two column ranges of the weights that the body reads. -/
def left (w : Vec F S1024x6144 .bf16) : Vec F S1024x4096 .bf16 := View.ld w (Rect.unit ![0, 0] ![1024, 4096] inb_S1024x6144_S1024x4096_0_0)
def right (w : Vec F S1024x6144 .bf16) : Vec F S1024x2048 .bf16 := View.ld w (Rect.unit ![0, 4096] ![1024, 2048] inb_S1024x6144_S1024x2048_0_4096)

theorem left_at (w : Vec F S1024x6144 .bf16) (j : Fin 1024) (k : Fin 4096) : left w (ix2 j k) = w (ix2 (n0 := 1024) (n1 := 6144) j ⟨k.val, by omega⟩) := by
  refine congrArg w ?_
  funext a
  match a with
  | ⟨0, _⟩ => exact Fin.ext (by show 0 + 1 * j.val = j.val; omega)
  | ⟨1, _⟩ => exact Fin.ext (by show 0 + 1 * k.val = k.val; omega)
theorem right_at (w : Vec F S1024x6144 .bf16) (j : Fin 1024) (k : Fin 2048) : right w (ix2 j k) = w (ix2 (n0 := 1024) (n1 := 6144) j ⟨4096 + k.val, by omega⟩) := by
  refine congrArg w ?_
  funext a
  match a with
  | ⟨0, _⟩ => exact Fin.ext (by show 0 + 1 * j.val = j.val; omega)
  | ⟨1, _⟩ => exact Fin.ext (by show 4096 + 1 * k.val = 4096 + k.val; omega)

/-- A point's block of the input's gradient, and its part of the gain's. -/
def dxOf (a : Vec F S256x4096 .bf16) (b : Vec F S256x2048 .bf16) (w : Vec F S1024x6144 .bf16) (x : Vec F S256x1024 .f32) (g : Vec F S1x1024 .f32) (s : Vec F S256x1024 .f32) : Vec F S256x1024 .f32 :=
  k0_pay1 x (k0_pay9 a (left w) b (right w) x g) (k0_pay10 a (left w) b (right w) x g) s
def dgOf (a : Vec F S256x4096 .bf16) (b : Vec F S256x2048 .bf16) (w : Vec F S1024x6144 .bf16) (x : Vec F S256x1024 .f32) : Vec F S1x1024 .f32 :=
  k0_pay7 a (left w) b (right w) x

theorem outs6 (c : Dev nD) (t : Fin cfg0.N) :
    (outsAt0 m c t.val t.isLt).1 = dxOf (iblk m c 0 t) (iblk m c 1 t) (iblk m c 2 t) (iblk m c 3 t) (iblk m c 4 t) (iblk m c 5 t) := by
  by_cases h0 : t.val % 16 = 0
  · have h1 : ¬ 1 ≤ t.val := by have h : t.val < 16 := t.isLt; omega
    rw [outsAt0_A m c t h0 h1]
    dsimp only
    unfold out0_A_6
    refine (View.read_writes_eq_canon _ _ _ (cover0_A_6 c _ _ _ _ _ _ _ _ _ _ _ _ _ _ _ _ _ _ _ _ _ _ _ _ _ _ _)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      View.ld_unit_zero (S := S256x4096) hz, View.ld_unit_zero (S := S256x2048) hz, View.ld_unit_zero (S := S256x1024) hz, View.ld_unit_zero (S := S1x1024) hz]
    rfl
  · have h1 : 1 ≤ t.val := by omega
    rw [outsAt0_B m c t h0 h1]
    dsimp only
    unfold out0_B_6
    refine (View.read_writes_eq_canon _ _ _ (cover0_B_6 c _ _ _ _ _ _ _ _ _ _ _ _ _ _ _ _ _ _ _ _ _ _ _ _ _ _ _ _)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      View.ld_unit_zero (S := S256x4096) hz, View.ld_unit_zero (S := S256x2048) hz, View.ld_unit_zero (S := S256x1024) hz, View.ld_unit_zero (S := S1x1024) hz]
    rfl

theorem outs7 (c : Dev nD) (t : Fin cfg0.N) :
    (outsAt0 m c t.val t.isLt).2.1 = truncf .bf16 (dxOf (iblk m c 0 t) (iblk m c 1 t) (iblk m c 2 t) (iblk m c 3 t) (iblk m c 4 t) (iblk m c 5 t)) bitsLt_bf16_f32 := by
  by_cases h0 : t.val % 16 = 0
  · have h1 : ¬ 1 ≤ t.val := by have h : t.val < 16 := t.isLt; omega
    rw [outsAt0_A m c t h0 h1]
    dsimp only
    unfold out0_A_7
    refine (View.read_writes_eq_canon _ _ _ (cover0_A_7 c _ _ _ _ _ _ _ _ _ _ _ _ _ _ _ _ _ _ _ _ _ _ _ _ _ _ _)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      View.ld_unit_zero (S := S256x4096) hz, View.ld_unit_zero (S := S256x2048) hz, View.ld_unit_zero (S := S256x1024) hz, View.ld_unit_zero (S := S1x1024) hz]
    rfl
  · have h1 : 1 ≤ t.val := by omega
    rw [outsAt0_B m c t h0 h1]
    dsimp only
    unfold out0_B_7
    refine (View.read_writes_eq_canon _ _ _ (cover0_B_7 c _ _ _ _ _ _ _ _ _ _ _ _ _ _ _ _ _ _ _ _ _ _ _ _ _ _ _ _)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      View.ld_unit_zero (S := S256x4096) hz, View.ld_unit_zero (S := S256x2048) hz, View.ld_unit_zero (S := S256x1024) hz, View.ld_unit_zero (S := S1x1024) hz]
    rfl

/-- The first point stores its part of the gain's gradient. -/
theorem outs8_first (c : Dev nD) (h : 0 < cfg0.N) :
    (outsAt0 m c 0 h).2.2 = dgOf (iblk m c 0 ⟨0, h⟩) (iblk m c 1 ⟨0, h⟩) (iblk m c 2 ⟨0, h⟩) (iblk m c 3 ⟨0, h⟩) := by
  rw [outsAt0_A m c ⟨0, h⟩ rfl (by show ¬ 1 ≤ 0; omega)]
  dsimp only
  unfold out0_A_8
  refine (View.read_writes_eq_canon _ _ _ (cover0_A_8 c _ _ _ _ _ _ _ _ _ _ _ _ _ _ _ _ _ _ _ _ _ _ _ _ _ _ _)).trans ?_
  unfold kernelRun0_A
  dsimp only
  sl_unfold_words
  rw [View.canon_unit_zero hz]
  simp only [View.readAt_eq_ld, (hs0_0 _).read_unread, (hs0_1 _).read_unread, (hs0_2 _).read_unread, (hs0_3 _).read_unread, (hs0_4 _).read_unread, (hs0_5 _).read_unread,
    View.ld_unit_zero (S := S256x4096) hz, View.ld_unit_zero (S := S256x2048) hz, View.ld_unit_zero (S := S256x1024) hz, View.ld_unit_zero (S := S1x1024) hz]
  rfl

/-- A later point adds its part. -/
theorem outs8_next (c : Dev nD) (n : ℕ) (h : n + 1 < cfg0.N) :
    (outsAt0 m c (n + 1) h).2.2 = addf (outsAt0 m c n (Nat.lt_of_succ_lt h)).2.2 (dgOf (iblk m c 0 ⟨n + 1, h⟩) (iblk m c 1 ⟨n + 1, h⟩) (iblk m c 2 ⟨n + 1, h⟩) (iblk m c 3 ⟨n + 1, h⟩)) := by
  have hN : n + 1 < 16 := h
  rw [outsAt0_B m c ⟨n + 1, h⟩ (by show ¬ (n + 1) % 16 = 0; omega) (by show 1 ≤ n + 1; omega)]
  dsimp only
  unfold out0_B_8
  refine (View.read_writes_eq_canon _ _ _ (cover0_B_8 c _ _ _ _ _ _ _ _ _ _ _ _ _ _ _ _ _ _ _ _ _ _ _ _ _ _ _ _)).trans ?_
  unfold kernelRun0_B
  dsimp only
  sl_unfold_words
  rw [View.canon_unit_zero hz]
  unfold k0_pay3
  simp only [View.readAt_eq_ld, (hs0_0 _).read_unread, (hs0_1 _).read_unread, (hs0_2 _).read_unread, (hs0_3 _).read_unread, (hs0_4 _).read_unread, (hs0_5 _).read_unread, (hs0_8 _).read_unread,
    View.ld_unit_zero (S := S256x4096) hz, View.ld_unit_zero (S := S256x2048) hz, View.ld_unit_zero (S := S256x1024) hz, View.ld_unit_zero (S := S1x1024) hz, shapeCast_self]
  rfl

end Any

/-! ## Over the extended reals -/

section Ideals

variable (a : Vec Ideal S256x4096 .bf16) (b : Vec Ideal S256x2048 .bf16) (w : Vec Ideal S1024x6144 .bf16) (x : Vec Ideal S256x1024 .f32) (g : Vec Ideal S1x1024 .f32) (s : Vec Ideal S256x1024 .f32)

theorem back_at (i : Fin 256) (j : Fin 1024) : k0_pay4 a (left w) b (right w) (ix2 i j) = back (p := 4096) (q := 2048) a b w i j := by
  simp only [k0_pay4, pointwise, left_at, right_at, zero_add]
  rfl

theorem meanSq_at (i : Fin 256) : k0_pay5 x (ix2 i 0) = meanSq (rowAt x i) := by
  simp only [k0_pay5, pointwise]
  rfl

theorem dxOf_at (i : Fin 256) (j : Fin 1024) :
    dxOf a b w x g s (ix2 i j) = dxRow (rowAt x i) (back (p := 4096) (q := 2048) a b w i) (rowAt g 0) (rowAt s i) j := by
  simp only [dxOf, k0_pay1, k0_pay9, k0_pay10, k0_pay8, k0_pay6, pointwise, ↓reduceDIte, OfNat.ofNat_ne_one, back_at, meanSq_at, Fin.sum_univ_one]
  rfl

theorem dgOf_at (j : Fin 1024) : dgOf a b w x (ix2 0 j) = ∑ i : Fin 256, dgRow (rowAt x i) (back (p := 4096) (q := 2048) a b w i) j := by
  simp only [dgOf, k0_pay7, k0_pay6, pointwise, ↓reduceDIte, OfNat.ofNat_ne_one, back_at, meanSq_at]
  rfl

end Ideals

end Cert.Dx

end
-- ==== Proof.Dx.Arrays.lean ====
module

public import proofs.«01_k».proof.Proof.Dx.Outs

/-! The three arrays the kernel ends with, as functions of its arguments. -/

@[expose] public section

set_option maxRecDepth 16384

noncomputable section

namespace Cert.Dx

open Kernel2Ideal Kernel2Ideal.Gen
open Idealize.ShloMosaic TcCoe Idealize.SL.Sem

/-! ## The blocks of a point -/

section Any

variable {F : FTy → Type} [FloatOps F]
variable (m : (ℓ : Loc nD τ sig) → Buf (Elt F) ℓ)

theorem rows_le (t : Fin cfg0.N) : 256 * t.val + 256 ≤ 4096 := by have h : t.val < 16 := t.isLt; omega

theorem index : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![t.val, 0] ∧ win0_6.index t = ![t.val, 0] ∧ win0_7.index t = ![t.val, 0] ∧ win0_8.index t = ![0, 0] := (by decide +kernel : ∀ t : Fin grid0.N, _)

theorem block0 (c : Dev nD) (t : Fin cfg0.N) : iblk m c 0 t = block 4096 t.val (rows_le t) (m (c.tc.loc main_arg0)) := by
  rw [← V_main_arg0 m c]
  funext y
  unfold block
  blk_ext [iblk, index]
theorem block1 (c : Dev nD) (t : Fin cfg0.N) : iblk m c 1 t = block 2048 t.val (rows_le t) (m (c.tc.loc main_arg1)) := by
  rw [← V_main_arg1 m c]
  funext y
  unfold block
  blk_ext [iblk, index]
theorem block2 (c : Dev nD) (t : Fin cfg0.N) : iblk m c 2 t = m (c.tc.loc main_arg2) := by
  rw [← V_main_arg2 m c]
  funext y
  blk_ext [iblk, index]
theorem block3 (c : Dev nD) (t : Fin cfg0.N) : iblk m c 3 t = block 1024 t.val (rows_le t) (m (c.tc.loc main_arg3)) := by
  rw [← V_main_arg3 m c]
  funext y
  unfold block
  blk_ext [iblk, index]
theorem block4 (c : Dev nD) (t : Fin cfg0.N) : iblk m c 4 t = m (c.tc.loc main_arg4) := by
  rw [← V_main_arg4 m c]
  funext y
  blk_ext [iblk, index]
theorem block5 (c : Dev nD) (t : Fin cfg0.N) : iblk m c 5 t = block 1024 t.val (rows_le t) (m (c.tc.loc main_arg5)) := by
  rw [← V_main_arg5 m c]
  funext y
  unfold block
  blk_ext [iblk, index]

end Any

/-! ## The arrays -/

variable (m : (ℓ : Loc nD τ sig) → Buf (Elt Ideal) ℓ)

/-- The gradient of the norm's output, of the input and of the gain, from the memory's arguments. -/
def dOf (c : Dev nD) : Fin 4096 → Fin 1024 → EReal :=
  back (p := 4096) (q := 2048) (m (c.tc.loc main_arg0)) (m (c.tc.loc main_arg1)) (m (c.tc.loc main_arg2))
def xGrad (c : Dev nD) : S4096x1024.Idx → EReal :=
  gradX (dOf m c) (m (c.tc.loc main_arg3)) (m (c.tc.loc main_arg4)) (m (c.tc.loc main_arg5))
def gGrad (c : Dev nD) : S1x1024.Idx → EReal := gradG (dOf m c) (m (c.tc.loc main_arg3))

/-- Row `i` of block `t`. -/
def rowOf (t : Fin cfg0.N) (i : Fin 256) : Fin 4096 := ⟨256 * t.val + i.val, by have h : t.val < 16 := t.isLt; omega⟩

theorem dx_at (c : Dev nD) (t : Fin cfg0.N) (i : Fin 256) (j : Fin 1024) :
    dxOf (iblk m c 0 t) (iblk m c 1 t) (iblk m c 2 t) (iblk m c 3 t) (iblk m c 4 t) (iblk m c 5 t) (ix2 i j) = xGrad m c (ix2 (rowOf t i) j) := by
  rw [dxOf_at, block0, block1, block2, block3, block4, block5]
  rfl

theorem dg_at (c : Dev nD) (t : Fin cfg0.N) (j : Fin 1024) :
    dgOf (iblk m c 0 t) (iblk m c 1 t) (iblk m c 2 t) (iblk m c 3 t) (ix2 0 j)
      = ∑ i : Fin 256, dgRow (rowAt (m (c.tc.loc main_arg3)) (rowOf t i)) (dOf m c (rowOf t i)) j := by
  rw [dgOf_at, block0, block1, block2, block3]
  rfl

/-- After point `n` the gain's gradient holds the parts of the points up to `n`. -/
theorem outs8 (c : Dev nD) (j : Fin 1024) : ∀ (n : ℕ) (h : n < cfg0.N), (outsAt0 m c n h).2.2 (ix2 (n0 := 1) 0 j)
    = ∑ t : Fin (n + 1), ∑ i : Fin 256, dgRow (rowAt (m (c.tc.loc main_arg3)) (rowOf ⟨t.val, by omega⟩ i)) (dOf m c (rowOf ⟨t.val, by omega⟩ i)) j
  | 0, h => by
    rw [outs8_first, Fin.sum_univ_one]
    exact dg_at m c ⟨0, h⟩ j
  | n + 1, h => by
    rw [outs8_next, Fin.sum_univ_castSucc]
    exact congrArg₂ (fun a b : EReal => a + b) (outs8 c j n (Nat.lt_of_succ_lt h)) (dg_at m c ⟨n + 1, h⟩ j)

theorem final6 (c : Dev nD) : (dats m 0 c).arrAt 6 cfg0.N = xGrad m c := by
  refine (dats m 0 c).arrAt_eq_of_covers 6 _ (by decide +kernel) fun t hf y => ?_
  blk_simp
  rw [after0_6, outs6]
  obtain ⟨i, j, rfl⟩ := pairOf (a := 256) (b := 1024) y
  refine (dx_at m c t i j).trans (congrArg (xGrad m c) ?_)
  funext a
  match a with
  | ⟨0, _⟩ => refine Fin.ext ?_; blk_simp [index]; show 256 * t.val + i.val = t.val * 256 + i.val; omega
  | ⟨1, _⟩ => refine Fin.ext ?_; blk_simp [index]

theorem final7 (c : Dev nD) : (dats m 0 c).arrAt 7 cfg0.N = xGrad m c := by
  refine (dats m 0 c).arrAt_eq_of_covers 7 _ (by decide +kernel) fun t hf y => ?_
  blk_simp
  rw [after0_7, outs7]
  obtain ⟨i, j, rfl⟩ := pairOf (a := 256) (b := 1024) y
  refine (dx_at m c t i j).trans (congrArg (xGrad m c) ?_)
  funext a
  match a with
  | ⟨0, _⟩ => refine Fin.ext ?_; blk_simp [index]; show 256 * t.val + i.val = t.val * 256 + i.val; omega
  | ⟨1, _⟩ => refine Fin.ext ?_; blk_simp [index]

theorem last : ∀ t : Fin cfg0.N, (cfg0.win 8).flush t = true → t.val = 15 := (by decide +kernel : ∀ t : Fin grid0.N, _)

theorem final8 (c : Dev nD) : (dats m 0 c).arrAt 8 cfg0.N = gGrad m c := by
  refine (dats m 0 c).arrAt_eq_of_covers 8 _ (by decide +kernel) fun t hf y => ?_
  have e := last t hf
  blk_simp
  rw [after0_8]
  obtain ⟨n, h⟩ := t
  obtain rfl : n = 15 := e
  obtain ⟨i, j, rfl⟩ := pairOf (a := 1) (b := 1024) y
  obtain rfl : i = 0 := Subsingleton.elim _ _
  refine (outs8 m c j 15 h).trans ((sum_rows fun r => dgRow (rowAt (m (c.tc.loc main_arg3)) r) (dOf m c r) j).trans ?_)
  refine congrArg (gGrad m c) (a₁ := ix2 (n0 := 1) (n1 := 1024) 0 j) ?_
  funext a
  match a with
  | ⟨0, _⟩ => exact Subsingleton.elim (α := Fin 1) _ _
  | ⟨1, _⟩ => refine Fin.ext ?_; blk_simp [index]; show j.val = 0 * 1024 + j.val; omega

theorem run_values (ρ : Dev nD → PrngReg) : θ_run defs (onTc (τ := τ) (main (F := Ideal))) ⟨m, fun _ => 0, ρ⟩ (fun r => ∀ c : Dev nD,
      r.2.mem (c.tc.loc main_v0_0) = xGrad m c
      ∧ r.2.mem (c.tc.loc main_v0_1) = xGrad m c
      ∧ r.2.mem (c.tc.loc main_v0_2) = gGrad m c
      ∧ Kept m r.2.mem c main_arg0
      ∧ Kept m r.2.mem c main_arg1
      ∧ Kept m r.2.mem c main_arg2
      ∧ Kept m r.2.mem c main_arg3
      ∧ Kept m r.2.mem c main_arg4
      ∧ Kept m r.2.mem c main_arg5) :=
  (θ_run defs _ _).mono (fun r h c => ⟨(h c).1.trans (final6 m c), (h c).2.1.trans (final7 m c), (h c).2.2.1.trans (final8 m c), (h c).2.2.2⟩)
    (Kernel2Ideal.Value.run_blocks m ρ)

end Cert.Dx

end
-- ==== Proof.Dx.Ref.lean ====
module

public import proofs.«01_k».proof.Proof.Gen.Reference2Ideal.Run
public import proofs.«01_k».proof.Proof.Dx.Row

/-! The reference's three results, as the same functions of its arguments. -/

@[expose] public section

set_option maxRecDepth 16384

noncomputable section

namespace Cert.Dx.Ref

open Reference2Ideal Reference2Ideal.Gen
open Idealize.ShloMosaic TcCoe Idealize.SL.Sem

variable (d x : FVec Ideal S4096x1024 .f32) (g : S1x1024.Idx → EReal) (s : S4096x1024.Idx → EReal)

/-- The rows' mean squares. -/
def ms : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

theorem ms_at (i : Fin 4096) (z : Fin 1) : ms x (ix2 i z) = meanSq (rowAt x i) := by
  unfold ms
  simp only [pointwise, ↓reduceDIte, OfNat.ofNat_ne_one, zero_add]
  rfl

/-- The factor of a row's gradient that goes through its mean square. -/
def sl : FVec Ideal S4096x1 .f32 :=
  Host.divf (mulf (shapeCast S4096x1 (Host.reduceAdd (mulf x (mulf d (broadcastInDim S4096x1024 ![0, 1] bcast_S1x1024_S4096x1024_0_1 g)))
      (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt (ms x)) (ms x))))
    (broadcastInDim S4096x1 ![] bcast_S_S4096x1 (constant S_ .f32 0x44800000#32))

theorem sl_at (i : Fin 4096) (z : Fin 1) : sl d x g (ix2 i z) = slope (rowAt x i) (fun k => rowAt d i k * rowAt g 0 k) := by
  unfold sl
  simp only [pointwise, ↓reduceDIte, OfNat.ofNat_ne_one, zero_add, ms_at]
  rfl

/-- The results, from the gradient `d` that reaches the norm. -/
def resX : FVec Ideal S4096x1024 .f32 :=
  addf (addf (addf s (mulf (mulf d (broadcastInDim S4096x1024 ![0, 1] bcast_S1x1024_S4096x1024_0_1 g))
      (broadcastInDim S4096x1024 ![0, 1] bcast_S4096x1_S4096x1024_0_1 (Host.rsqrt (ms x)))))
    (mulf x (broadcastInDim S4096x1024 ![0] bcast_S4096_S4096x1024_0 (Host.reduceAdd (sl d x g) (constant S_ .f32 0x00000000#32) reducesTo_S4096x1_S4096_d1 h_S_))))
    (mulf (broadcastInDim S4096x1024 ![0] bcast_S4096_S4096x1024_0 (Host.reduceAdd (sl d x g) (constant S_ .f32 0x00000000#32) reducesTo_S4096x1_S4096_d1 h_S_)) x)
def resG : FVec Ideal S1x1024 .f32 :=
  shapeCast S1x1024 (Host.reduceAdd (mulf (mulf x (broadcastInDim S4096x1024 ![0, 1] bcast_S4096x1_S4096x1024_0_1 (Host.rsqrt (ms x)))) d)
    (constant S_ .f32 0x00000000#32) reducesTo_S4096x1024_S1024_d0 h_S_) shapeCasts_S1024_S1x1024

theorem resX_eq {D : Fin 4096 → Fin 1024 → EReal} (h : rowAt d = D) : resX d x g s = gradX D x g s := by
  subst h
  funext y
  obtain ⟨i, j, rfl⟩ := pairOf (a := 4096) (b := 1024) y
  refine Eq.trans ?_ (dxRow_eq (rowAt x i) (rowAt d i) (rowAt g 0) (rowAt s i) j)
  unfold resX
  simp only [pointwise, ↓reduceDIte, OfNat.ofNat_ne_one, zero_add, ms_at, sl_at, Fin.sum_univ_one]
  rfl

theorem resG_eq {D : Fin 4096 → Fin 1024 → EReal} (h : rowAt d = D) : resG d x = gradG D x := by
  subst h
  funext y
  obtain ⟨i, j, rfl⟩ := pairOf (a := 1) (b := 1024) y
  unfold resG
  simp only [pointwise, ↓reduceDIte, OfNat.ofNat_ne_one, zero_add, ms_at]
  rfl

variable (a : S4096x4096.Idx → EReal) (b : S4096x2048.Idx → EReal) (w : S1024x6144.Idx → EReal)

/-- The product's gradient: its two parts side by side. -/
def both : FVec Ideal S4096x6144 .f32 := concatenate S4096x6144 1 [⟨S4096x4096, a⟩, ⟨S4096x2048, b⟩] concatenates_S4096x4096_S4096x2048_S4096x6144_d1

theorem both_left (i : Fin 4096) (k : Fin 4096) : both a b (ix2 (n0 := 4096) (n1 := 6144) i ⟨k.val, by omega⟩) = a (ix2 i k) := by
  unfold both
  exact concatenate_pair_apply_left (t := S4096x6144) (s₁ := S4096x4096) (s₂ := S4096x2048) _ _ _ _ _ rfl (ix2 i k)
    fun z => match z with | ⟨0, _⟩ => rfl | ⟨1, _⟩ => rfl
theorem both_right (i : Fin 4096) (k : Fin 2048) : both a b (ix2 (n0 := 4096) (n1 := 6144) i ⟨4096 + k.val, by omega⟩) = b (ix2 i k) := by
  unfold both
  exact concatenate_pair_apply_right (t := S4096x6144) (s₁ := S4096x4096) (s₂ := S4096x2048) _ _ _ _ _ rfl rfl (ix2 i k)
    (fun z h => match z, h with | ⟨0, _⟩, _ => rfl | ⟨1, _⟩, h => absurd rfl h) (by show k.val + 4096 = 4096 + k.val; omega)

def dh : FVec Ideal S4096x1024 .f32 := Host.dotGeneral (F := Ideal) (φ₁ := .f32) (φ₂ := .f32) dot_S4096x6144_S1024x6144_S4096x1024_1_1_0_0_n_n none (both a b) w

theorem dh_eq : rowAt (dh a b w) = back (p := 4096) (q := 2048) a b w := by
  funext i j
  show dh a b w (ix2 i j) = _
  unfold dh
  simp only [pointwise, zero_add]
  refine (Fin.sum_univ_add (a := 4096) (b := 2048) _).trans ?_
  refine congrArg₂ (fun a b : EReal => a + b) (Finset.sum_congr rfl fun k _ => ?_) (Finset.sum_congr rfl fun k _ => ?_)
  · exact congrArg (fun z : EReal => z * _) (both_left a b i k)
  · exact congrArg (fun z : EReal => z * _) (both_right a b i k)

section Run

variable (m : (ℓ : Loc nD τ sig) → Buf (Elt Ideal) ℓ)

def dOf (c : Dev nD) : Fin 4096 → Fin 1024 → EReal :=
  back (p := 4096) (q := 2048) (m (c.tc.loc main_arg0)) (m (c.tc.loc main_arg1)) (m (c.tc.loc main_arg2))
def xGrad (c : Dev nD) : S4096x1024.Idx → EReal :=
  gradX (dOf m c) (m (c.tc.loc main_arg3)) (m (c.tc.loc main_arg4)) (m (c.tc.loc main_arg5))
def gGrad (c : Dev nD) : S1x1024.Idx → EReal := gradG (dOf m c) (m (c.tc.loc main_arg3))

theorem run_values (ρ : Dev nD → PrngReg) : θ_run defs (onTc (τ := τ) (main (F := Ideal))) ⟨m, fun _ => 0, ρ⟩ (fun r => ∀ c : Dev nD,
      r.2.mem (c.tc.loc main_v40) = xGrad m c
      ∧ r.2.mem (c.tc.loc main_v41) = xGrad m c
      ∧ r.2.mem (c.tc.loc main_v23) = gGrad m c
      ∧ Kept m r.2.mem c main_arg0
      ∧ Kept m r.2.mem c main_arg1
      ∧ Kept m r.2.mem c main_arg2
      ∧ Kept m r.2.mem c main_arg3
      ∧ Kept m r.2.mem c main_arg4
      ∧ Kept m r.2.mem c main_arg5) :=
  (θ_run defs _ _).mono (fun r h c => ⟨(h c).1.trans (resX_eq _ _ _ _ (dh_eq _ _ _)), (h c).2.1.trans (resX_eq _ _ _ _ (dh_eq _ _ _)), (h c).2.2.1.trans (resG_eq _ _ (dh_eq _ _ _)), (h c).2.2.2⟩)
    (Value.run m ρ)

end Run

end Cert.Dx.Ref

end
-- ==== Proof.Mm.Prod.lean ====
module

public import proofs.«01_k».proof.Proof.Dx.Row

/-! The two products, of rows with rows and of rows with columns, and sums over an axis in parts. -/

@[expose] public section

set_option maxRecDepth 16384

noncomputable section

namespace Cert.Mm

open Idealize.ShloMosaic TcCoe Idealize.SL.Sem

/-- Row times row. -/
def rows {a b n : ℕ} (x : (⟨2, ![a, n]⟩ : Shape).Idx → EReal) (w : (⟨2, ![b, n]⟩ : Shape).Idx → EReal) : (⟨2, ![a, b]⟩ : Shape).Idx → EReal :=
  fun y => ∑ k : Fin n, x (ix2 (n0 := a) (n1 := n) (y 0) k) * w (ix2 (n0 := b) (n1 := n) (y 1) k)

/-- Row times column. -/
def cols {a b n : ℕ} (x : (⟨2, ![a, n]⟩ : Shape).Idx → EReal) (w : (⟨2, ![n, b]⟩ : Shape).Idx → EReal) : (⟨2, ![a, b]⟩ : Shape).Idx → EReal :=
  fun y => ∑ k : Fin n, x (ix2 (n0 := a) (n1 := n) (y 0) k) * w (ix2 (n0 := n) (n1 := b) k (y 1))

/-- An index of three axes is its three coordinates. -/
theorem tripleOf {a b n : ℕ} (y : (⟨3, ![a, b, n]⟩ : Shape).Idx) : ∃ (s : Fin a) (i : Fin b) (j : Fin n), y = ix3 s i j :=
  ⟨y 0, y 1, y 2, funext fun z => match z with | ⟨0, _⟩ => rfl | ⟨1, _⟩ => rfl | ⟨2, _⟩ => rfl⟩

/-- Column `k` of two arrays side by side. -/
def joined {a p q : ℕ} (d : (⟨2, ![a, p]⟩ : Shape).Idx → EReal) (e : (⟨2, ![a, q]⟩ : Shape).Idx → EReal) (r : Fin a) (k : ℕ) : EReal :=
  if h : k < p then d (ix2 (n0 := a) (n1 := p) r ⟨k, h⟩) else if h' : k - p < q then e (ix2 (n0 := a) (n1 := q) r ⟨k - p, h'⟩) else 0

theorem joined_left {a p q : ℕ} (d : (⟨2, ![a, p]⟩ : Shape).Idx → EReal) (e : (⟨2, ![a, q]⟩ : Shape).Idx → EReal) (r : Fin a) (k : ℕ) (h : k < p) :
    joined d e r k = d (ix2 (n0 := a) (n1 := p) r ⟨k, h⟩) := dif_pos h
theorem joined_right {a p q : ℕ} (d : (⟨2, ![a, p]⟩ : Shape).Idx → EReal) (e : (⟨2, ![a, q]⟩ : Shape).Idx → EReal) (r : Fin a) (k : ℕ) (h : ¬ k < p) (h' : k - p < q) :
    joined d e r k = e (ix2 (n0 := a) (n1 := q) r ⟨k - p, h'⟩) := (dif_neg h).trans (dif_pos h')

/-- The product with two arrays side by side, its columns cut into slots. -/
def slots {s a n b p q : ℕ} (x : (⟨2, ![a, b]⟩ : Shape).Idx → EReal) (d : (⟨2, ![b, p]⟩ : Shape).Idx → EReal) (e : (⟨2, ![b, q]⟩ : Shape).Idx → EReal) :
    (⟨3, ![s, a, n]⟩ : Shape).Idx → EReal :=
  fun y => ∑ r : Fin b, x (ix2 (n0 := a) (n1 := b) (y 1) r) * joined d e r ((y 0).val * n + (y 2).val)

/-- Column times column. -/
def overs {a b n : ℕ} (x : (⟨2, ![n, a]⟩ : Shape).Idx → EReal) (d : (⟨2, ![n, b]⟩ : Shape).Idx → EReal) : (⟨2, ![a, b]⟩ : Shape).Idx → EReal :=
  fun y => ∑ r : Fin n, x (ix2 (n0 := n) (n1 := a) r (y 0)) * d (ix2 (n0 := n) (n1 := b) r (y 1))

/-- The same, its columns cut into slots. -/
def oversIn {s a b n : ℕ} (x : (⟨2, ![n, a]⟩ : Shape).Idx → EReal) (d : (⟨2, ![n, s * b]⟩ : Shape).Idx → EReal) : (⟨3, ![s, a, b]⟩ : Shape).Idx → EReal :=
  fun y => ∑ r : Fin n, x (ix2 (n0 := n) (n1 := a) r (y 1)) * d (ix2 (n0 := n) (n1 := s * b) r (finProdFinEquiv (y 0, y 2)))

/-- A sum over 4096 rows is a sum over four blocks of 1024. -/
theorem sum_quarters (f : Fin 4096 → EReal) :
    ((∑ k : Fin 1024, f ⟨1024 * 0 + k.val, by omega⟩) + (∑ k : Fin 1024, f ⟨1024 * 1 + k.val, by omega⟩) + (∑ k : Fin 1024, f ⟨1024 * 2 + k.val, by omega⟩))
      + (∑ k : Fin 1024, f ⟨1024 * 3 + k.val, by omega⟩) = ∑ r, f r := by
  refine (Fin.sum_univ_four fun t : Fin 4 => ∑ k : Fin 1024, f ⟨1024 * t.val + k.val, by omega⟩).symm.trans ?_
  rw [← Finset.sum_product', Finset.univ_product_univ]
  refine (Equiv.sum_comp (finProdFinEquiv (m := 4) (n := 1024)) f).symm.trans ?_ |>.symm
  refine Finset.sum_congr rfl fun p _ => congrArg f (Fin.ext ?_)
  show p.2.val + 1024 * p.1.val = 1024 * p.1.val + p.2.val
  omega

end Cert.Mm

end
-- ==== Proof.Mm.Norm.lean ====
module

public import proofs.«01_k».proof.Proof.Mm.Prod

/-! A product added to a residual, its root-mean-square norm, and the loss of it, over the extended reals. -/

@[expose] public section

set_option maxRecDepth 16384

noncomputable section

namespace Cert.Mm

open Idealize.ShloMosaic Dx

/-- The product added to the residual. -/
def summed {a n : ℕ} (u : (⟨2, ![a, n]⟩ : Shape).Idx → EReal) (w : (⟨2, ![n, 1024]⟩ : Shape).Idx → EReal) (x : (⟨2, ![a, 1024]⟩ : Shape).Idx → EReal) : (⟨2, ![a, 1024]⟩ : Shape).Idx → EReal :=
  fun y => cols u w y + x y

/-- The norm of each row, with the gain. -/
def normed {a : ℕ} (o : (⟨2, ![a, 1024]⟩ : Shape).Idx → EReal) (g : (⟨2, ![1, 1024]⟩ : Shape).Idx → EReal) : (⟨2, ![a, 1024]⟩ : Shape).Idx → EReal :=
  fun y => o y * inv (rowAt o (y 0)) * g (ix2 (n0 := 1) (n1 := 1024) 0 (y 1))

/-- The norm of each row, as a column. -/
def normedT {a : ℕ} (o : (⟨2, ![a, 1024]⟩ : Shape).Idx → EReal) (g : (⟨2, ![1, 1024]⟩ : Shape).Idx → EReal) : (⟨2, ![1024, a]⟩ : Shape).Idx → EReal :=
  fun y => normed o g (ix2 (n0 := a) (n1 := 1024) (y 1) (y 0))

/-- The norm of equal rows. -/
theorem normed_row {a b : ℕ} {o : (⟨2, ![a, 1024]⟩ : Shape).Idx → EReal} {o' : (⟨2, ![b, 1024]⟩ : Shape).Idx → EReal} {i : Fin a} {i' : Fin b} (h : ∀ j, o (ix2 i j) = o' (ix2 i' j))
    (g : (⟨2, ![1, 1024]⟩ : Shape).Idx → EReal) (j : Fin 1024) : normed o g (ix2 i j) = normed o' g (ix2 i' j) := by
  have e : rowAt o i = rowAt o' i' := funext h
  show rowAt o i j * inv (rowAt o i) * _ = _
  rw [e]
  rfl

/-! ## The squared error -/

/-- One half and two, as the programs write them. -/
abbrev oneHalf : EReal := Ideal.ofBits .f32 0x3F000000#32
abbrev two : EReal := Ideal.ofBits .f32 0x40000000#32

theorem width_val : width = ((1024 : ℝ) : EReal) := by
  simp [width, Ideal.ofBits, Ideal.ieee, -EReal.coe_mul]; norm_num
theorem oneHalf_val : oneHalf = ((1 / 2 : ℝ) : EReal) := by
  simp [oneHalf, Ideal.ofBits, Ideal.ieee, -EReal.coe_mul]; norm_num
theorem two_val : two = ((2 : ℝ) : EReal) := by
  simp [two, Ideal.ofBits, Ideal.ieee, -EReal.coe_mul]; norm_num

/-- The error, its gradient under half the squared error's mean, and the half of the rows' mean squared errors' sum. -/
def errOf {a : ℕ} (o t : (⟨2, ![a, 1024]⟩ : Shape).Idx → EReal) : (⟨2, ![a, 1024]⟩ : Shape).Idx → EReal := fun y => o y - t y
def gradOf {a : ℕ} (e : (⟨2, ![a, 1024]⟩ : Shape).Idx → EReal) : (⟨2, ![a, 1024]⟩ : Shape).Idx → EReal := fun y => Ideal.div (e y) width
def meanOf (r : Fin 1024 → EReal) : EReal := Ideal.div (∑ k, r k * r k) width
def lossOf {a : ℕ} (e : (⟨2, ![a, 1024]⟩ : Shape).Idx → EReal) : EReal := oneHalf * ∑ i, meanOf (rowAt e i)

theorem div_real (x : EReal) (r : ℝ) (h : r ≠ 0) : Ideal.div x (r : EReal) = x * ((r⁻¹ : ℝ) : EReal) := by
  unfold Ideal.div
  rw [if_neg (by rw [← EReal.coe_zero]; exact fun e => h (EReal.coe_eq_coe_iff.mp e)), ← EReal.coe_inv]

/-- Half of twice a number, over the width. -/
theorem half_twice (x : EReal) : HMul.hMul (α := EReal) (β := EReal) (Ideal.div (HMul.hMul (α := EReal) (β := EReal) oneHalf 1) width) (HMul.hMul (α := EReal) (β := EReal) two x) = Ideal.div x width := by
  rw [mul_one, width_val, oneHalf_val, two_val, div_real _ _ (by norm_num), div_real _ _ (by norm_num), ← EReal.coe_mul, ← mul_assoc, ← EReal.coe_mul, mul_comm x]
  norm_num

/-- A half of a sum is the sum of the halves. -/
theorem half_sum {ι : Type} (s : Finset ι) (f : ι → EReal) : oneHalf * ∑ i ∈ s, f i = ∑ i ∈ s, oneHalf * f i := by
  classical
  rw [oneHalf_val]
  induction s using Finset.induction_on with
  | empty => rw [Finset.sum_empty, Finset.sum_empty, mul_zero]
  | insert i s hi ih => rw [Finset.sum_insert hi, Finset.sum_insert hi, EReal.left_distrib_of_nonneg_of_ne_top (EReal.coe_nonneg.mpr (by norm_num)) (EReal.coe_ne_top _), ih]

/-- The halves of eight blocks of 512 rows. -/
theorem sum_eighths (f : Fin 4096 → EReal) :
    ∑ t : Fin 8, oneHalf * ∑ i : Fin 512, f ⟨512 * t.val + i.val, by omega⟩ = oneHalf * ∑ i, f i := by
  rw [← half_sum]
  refine congrArg (fun a : EReal => oneHalf * a) ?_
  rw [← Finset.sum_product', Finset.univ_product_univ]
  refine (Equiv.sum_comp (finProdFinEquiv (m := 8) (n := 512)) f).symm.trans ?_ |>.symm
  refine Finset.sum_congr rfl fun p _ => congrArg f (Fin.ext ?_)
  show p.2.val + 512 * p.1.val = 512 * p.1.val + p.2.val
  omega

end Cert.Mm

end
-- ==== Proof.Conv.Row.lean ====
module

public import proofs.«01_k».proof.Proof.Mm.Norm

/-! The gradients of a gated causal convolution of width 3, column by column, over the extended reals. -/

@[expose] public section

set_option maxRecDepth 16384

noncomputable section

namespace Cert.Conv

open Idealize.ShloMosaic Dx

/-- The logistic function by the hyperbolic tangent is the logistic function. -/
theorem logistic_eq (z : EReal) : Mm.oneHalf * Ideal.tanh (Mm.oneHalf * z) + Mm.oneHalf = Ideal.logistic z := by
  rw [Mm.oneHalf_val]
  induction z using EReal.rec with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic, EReal.neg_top, Ideal.exp_bot, add_zero, mul_one, ← EReal.coe_one,
      Mm.div_real _ _ one_ne_zero, ← EReal.coe_mul, ← EReal.coe_add]
    norm_num
  | coe r =>
    rw [← EReal.coe_mul, Ideal.tanh_coe, ← EReal.coe_mul, ← EReal.coe_add, Ideal.logistic_coe]
    refine congrArg _ ?_
    have e : Real.exp (-r) = Real.exp (-(1 / 2 * r)) * Real.exp (-(1 / 2 * r)) := by rw [← Real.exp_add]; congr 1; ring
    have p := Real.exp_pos (1 / 2 * r)
    rw [e, Real.tanh_eq_sinh_div_cosh, Real.sinh_eq, Real.cosh_eq, Real.exp_neg]
    field_simp
    ring

/-- A column's values `n` positions earlier and later, with zeros past its ends. -/
def before (n : ℕ) (x : Fin 2048 → EReal) (i : Fin 2048) : EReal := if n ≤ i.val then x ⟨i.val - n, by omega⟩ else 0
def after (n : ℕ) (x : Fin 2048 → EReal) (i : Fin 2048) : EReal := if h : i.val + n < 2048 then x ⟨i.val + n, h⟩ else 0

/-- The convolution of a column `g` with the weights `w 0`, `w 1`, `w 2` and the offset `w 3`. -/
def conv (g : Fin 2048 → EReal) (w : Fin 8 → EReal) (i : Fin 2048) : EReal := w 0 * before 2 g i + w 1 * before 1 g i + w 2 * g i + w 3

/-- The gradients of the product of `a` with the gated convolution, given the product's gradient `d`:
of `a`, of the convolution, of `g`, and of the weights. -/
def daCol (g d : Fin 2048 → EReal) (w : Fin 8 → EReal) (i : Fin 2048) : EReal := d i * (conv g w i * Ideal.logistic (conv g w i))
def dzCol (a g d : Fin 2048 → EReal) (w : Fin 8 → EReal) (i : Fin 2048) : EReal :=
  d i * a i * (Ideal.logistic (conv g w i) * (1 + conv g w i * (1 - Ideal.logistic (conv g w i))))
def dgCol (a g d : Fin 2048 → EReal) (w : Fin 8 → EReal) (i : Fin 2048) : EReal :=
  w 2 * dzCol a g d w i + w 1 * after 1 (dzCol a g d w) i + w 0 * after 2 (dzCol a g d w) i
def dwCol (a g d : Fin 2048 → EReal) (w : Fin 8 → EReal) : Fin 8 → EReal :=
  ![∑ i, dzCol a g d w i * before 2 g i, ∑ i, dzCol a g d w i * before 1 g i, ∑ i, dzCol a g d w i * g i, ∑ i, dzCol a g d w i, 0, 0, 0, 0]

/-- Four rows and a block of four, stacked. -/
theorem stack_at {n : ℕ} (p0 p1 p2 p3 : (⟨2, ![1, n]⟩ : Shape).Idx → EReal) (z : (⟨2, ![4, n]⟩ : Shape).Idx → EReal)
    (h : Shape.Concatenates [⟨2, ![1, n]⟩, ⟨2, ![1, n]⟩, ⟨2, ![1, n]⟩, ⟨2, ![1, n]⟩, ⟨2, ![4, n]⟩] ⟨2, ![8, n]⟩ 0) (k : Fin 8) (j : Fin n) :
    concatenate ⟨2, ![8, n]⟩ 0 [⟨⟨2, ![1, n]⟩, p0⟩, ⟨⟨2, ![1, n]⟩, p1⟩, ⟨⟨2, ![1, n]⟩, p2⟩, ⟨⟨2, ![1, n]⟩, p3⟩, ⟨⟨2, ![4, n]⟩, z⟩] h (ix2 k j)
      = ![p0 (ix2 0 j), p1 (ix2 0 j), p2 (ix2 0 j), p3 (ix2 0 j), z (ix2 0 j), z (ix2 1 j), z (ix2 2 j), z (ix2 3 j)] k := by
  have side : ∀ {r s : ℕ} (x : Fin r) (y : Fin s) (b : Fin 2), b ≠ 0 → (ix2 x j b).val = (ix2 y j b).val := fun x y b hb =>
    match b with | ⟨0, _⟩ => absurd rfl hb | ⟨1, _⟩ => rfl
  have piece := concatenate_apply_piece (t := ⟨2, ![8, n]⟩) 0
    [⟨⟨2, ![1, n]⟩, p0⟩, ⟨⟨2, ![1, n]⟩, p1⟩, ⟨⟨2, ![1, n]⟩, p2⟩, ⟨⟨2, ![1, n]⟩, p3⟩, ⟨⟨2, ![4, n]⟩, z⟩] h
  match k with
  | 0 => exact piece _ 0 (by show 0 < 5; omega) _ p0 rfl rfl 0 rfl (ix2 0 j) (side _ _) rfl
  | 1 => exact piece _ 1 (by show 1 < 5; omega) _ p1 rfl rfl 1 rfl (ix2 0 j) (side _ _) rfl
  | 2 => exact piece _ 2 (by show 2 < 5; omega) _ p2 rfl rfl 2 rfl (ix2 0 j) (side _ _) rfl
  | 3 => exact piece _ 3 (by show 3 < 5; omega) _ p3 rfl rfl 3 rfl (ix2 0 j) (side _ _) rfl
  | 4 => exact piece _ 4 (by show 4 < 5; omega) _ z rfl rfl 4 rfl (ix2 0 j) (side _ _) rfl
  | 5 => exact piece _ 4 (by show 4 < 5; omega) _ z rfl rfl 4 rfl (ix2 1 j) (side _ _) rfl
  | 6 => exact piece _ 4 (by show 4 < 5; omega) _ z rfl rfl 4 rfl (ix2 2 j) (side _ _) rfl
  | 7 => exact piece _ 4 (by show 4 < 5; omega) _ z rfl rfl 4 rfl (ix2 3 j) (side _ _) rfl

/-- The sum of two such columns whose last four entries are zero. -/
theorem halves (a0 a1 a2 a3 b0 b1 b2 b3 : EReal) (k : Fin 8) :
    ![a0 + b0, a1 + b1, a2 + b2, a3 + b3, 0, 0, 0, 0] k = ![a0, a1, a2, a3, 0, 0, 0, 0] k + ![b0, b1, b2, b3, 0, 0, 0, 0] k :=
  match k with
  | 0 => rfl
  | 1 => rfl
  | 2 => rfl
  | 3 => rfl
  | 4 => (zero_add _).symm
  | 5 => (zero_add _).symm
  | 6 => (zero_add _).symm
  | 7 => (zero_add _).symm

/-- A sum over the two leading axes. -/
theorem leading_at {a b n : ℕ} (h : (⟨3, ![a, b, n]⟩ : Shape).ReducesTo [0, 1] ⟨1, ![n]⟩) (x : (⟨3, ![a, b, n]⟩ : Shape).Idx → EReal) (f : Fin n) :
    Ideal.hostReduceAdd h x 0 (ix1 f) = ∑ i : Fin a, ∑ k : Fin b, x (ix3 i k f) := by
  unfold Ideal.hostReduceAdd
  rw [zero_add, ← Finset.sum_product', Finset.univ_product_univ]
  symm
  refine Finset.sum_bij (fun p _ => ix3 p.1 p.2 f) (fun p _ => Finset.mem_filter.mpr ⟨Finset.mem_univ _, ?_⟩) (fun p _ q _ e => ?_) (fun i hi => ?_) fun p _ => rfl
  · funext z
    match z with
    | ⟨0, _⟩ => rfl
  · exact Prod.ext (congrFun e 0) (congrFun e 1)
  · have e := congrArg Fin.val (congrFun (Finset.mem_filter.mp hi).2 0)
    refine ⟨(i 0, i 1), Finset.mem_univ _, ?_⟩
    funext z
    match z with
    | ⟨0, _⟩ => rfl
    | ⟨1, _⟩ => rfl
    | ⟨2, _⟩ => exact Fin.ext e.symm

/-- Batch row `b` of column `f`, and a column of the weights. -/
def part {n : ℕ} (x : (⟨2, ![4096, n]⟩ : Shape).Idx → EReal) (b : Fin 2) (f : Fin n) (i : Fin 2048) : EReal :=
  x (ix2 (n0 := 4096) (n1 := n) ⟨2048 * b.val + i.val, by omega⟩ f)
def column {k n : ℕ} (x : (⟨2, ![k, n]⟩ : Shape).Idx → EReal) (f : Fin n) (i : Fin k) : EReal := x (ix2 i f)

/-- The two halves of the columns. -/
def lower (f : Fin 2816) : Fin 5632 := ⟨f.val, by omega⟩
def upper (f : Fin 2816) : Fin 5632 := ⟨2816 + f.val, by omega⟩

/-- Row `r`'s batch row and position. -/
def rowOf (r : Fin 4096) : Fin 2 := ⟨r.val / 2048, by omega⟩
def posOf (r : Fin 4096) : Fin 2048 := ⟨r.val % 2048, by omega⟩

section Arrays

variable (ag : (⟨2, ![4096, 5632]⟩ : Shape).Idx → EReal) (w : (⟨2, ![8, 2816]⟩ : Shape).Idx → EReal) (du : (⟨2, ![4096, 2816]⟩ : Shape).Idx → EReal)

/-- The gradients as arrays; that of the weights is the sum of the two batch rows' parts. -/
def gradA (y : (⟨2, ![4096, 2816]⟩ : Shape).Idx) : EReal :=
  daCol (part ag (rowOf (y 0)) (upper (y 1))) (part du (rowOf (y 0)) (y 1)) (column w (y 1)) (posOf (y 0))
def gradG (y : (⟨2, ![4096, 2816]⟩ : Shape).Idx) : EReal :=
  dgCol (part ag (rowOf (y 0)) (lower (y 1))) (part ag (rowOf (y 0)) (upper (y 1))) (part du (rowOf (y 0)) (y 1)) (column w (y 1)) (posOf (y 0))
def partW (b : Fin 2) (k : Fin 8) (f : Fin 2816) : EReal :=
  dwCol (part ag b (lower f)) (part ag b (upper f)) (part du b f) (column w f) k
def gradW (y : (⟨2, ![8, 2816]⟩ : Shape).Idx) : EReal := partW ag w du 0 (y 0) (y 1) + partW ag w du 1 (y 0) (y 1)

end Arrays

end Cert.Conv

end
-- ==== Proof.Conv.Outs.lean ====
module

public import proofs.«01_k».proof.Proof.Gen.Kernel37Ideal.Value
public import proofs.«01_k».proof.Proof.Conv.Row

/-! What a point of the kernel leaves in its three output blocks. -/

@[expose] public section

set_option maxRecDepth 16384

noncomputable section

namespace Cert.Conv

open Kernel37Ideal Kernel37Ideal.Gen Dx
open Idealize.ShloMosaic TcCoe

section Any

variable {F : FTy → Type} [FloatOps F]
variable (m : (ℓ : Loc nD τ sig) → Buf (Elt F) ℓ)

/-- A point's block of the gradient of the gated half, and its part of the weights'. -/
def dgOf (a g : Vec F S2048x256 .bf16) (w : Vec F S8x256 .f32) (d : Vec F S2048x256 .f32) : Vec F S2048x256 .bf16 :=
  k0_pay10 w (k0_pay6 g w) (k0_pay7 g w) d a
def dwOf (a g : Vec F S2048x256 .bf16) (w : Vec F S8x256 .f32) (d : Vec F S2048x256 .f32) : Vec F S8x256 .f32 :=
  k0_pay1 (k0_pay3 g) (k0_pay9 (k0_pay6 g w) (k0_pay7 g w) d a) k0_pay11 (k0_pay12 (k0_pay5 g) (k0_pay6 g w) (k0_pay7 g w) d a)
    (k0_pay13 (k0_pay4 g) (k0_pay6 g w) (k0_pay7 g w) d a)

/-- The first batch row stores its part of the weights' gradient. -/
theorem outs_first (c : Dev nD) (t : Fin cfg0.N) (h0 : t.val % 2 = 0) : outsAt0 m c t.val t.isLt
    = (k0_pay8 (iblk m c 1 t) (iblk m c 2 t) (iblk m c 3 t), dgOf (iblk m c 0 t) (iblk m c 1 t) (iblk m c 2 t) (iblk m c 3 t),
      dwOf (iblk m c 0 t) (iblk m c 1 t) (iblk m c 2 t) (iblk m c 3 t)) := by
  rw [outsAt0_A m c t h0 (by omega)]
  refine Prod.ext ?_ (Prod.ext ?_ ?_) <;> dsimp only
  on_goal 1 => unfold out0_A_4
  on_goal 2 => unfold out0_A_5
  on_goal 3 => unfold out0_A_6
  on_goal 1 => refine (View.read_writes_eq_canon _ _ _ (cover0_A_4 c _ _ _ _ _ _ _ _ _ _ _ _ _ _ _ _ _ _ _ _ _)).trans ?_
  on_goal 2 => refine (View.read_writes_eq_canon _ _ _ (cover0_A_5 c _ _ _ _ _ _ _ _ _ _ _ _ _ _ _ _ _ _ _ _ _)).trans ?_
  on_goal 3 => refine (View.read_writes_eq_canon _ _ _ (cover0_A_6 c _ _ _ _ _ _ _ _ _ _ _ _ _ _ _ _ _ _ _ _ _)).trans ?_
  all_goals
    unfold kernelRun0_A
    dsimp only
    sl_unfold_words
    rw [View.canon_unit_zero hz]
  all_goals
    simp only [View.readAt_eq_ld, (hs0_0 t).read_unread, (hs0_1 t).read_unread, (hs0_2 t).read_unread, (hs0_3 t).read_unread,
      View.ld_unit_zero (S := S2048x256) hz, View.ld_unit_zero (S := S8x256) hz]
  all_goals rfl

/-- The second adds its part to the first's. -/
theorem outs_second (c : Dev nD) (t : Fin cfg0.N) (h1 : t.val % 2 = 1) : outsAt0 m c t.val t.isLt
    = (k0_pay8 (iblk m c 1 t) (iblk m c 2 t) (iblk m c 3 t), dgOf (iblk m c 0 t) (iblk m c 1 t) (iblk m c 2 t) (iblk m c 3 t),
      addf (outsAt0 m c (t.val - 1) (Nat.lt_of_le_of_lt (Nat.sub_le _ _) t.isLt)).2.2 (dwOf (iblk m c 0 t) (iblk m c 1 t) (iblk m c 2 t) (iblk m c 3 t))) := by
  rw [outsAt0_B m c t (by omega) h1]
  refine Prod.ext ?_ (Prod.ext ?_ ?_) <;> dsimp only
  on_goal 1 => unfold out0_B_4
  on_goal 2 => unfold out0_B_5
  on_goal 3 => unfold out0_B_6
  on_goal 1 => refine (View.read_writes_eq_canon _ _ _ (cover0_B_4 c _ _ _ _ _ _ _ _ _ _ _ _ _ _ _ _ _ _ _ _ _ _)).trans ?_
  on_goal 2 => refine (View.read_writes_eq_canon _ _ _ (cover0_B_5 c _ _ _ _ _ _ _ _ _ _ _ _ _ _ _ _ _ _ _ _ _ _)).trans ?_
  on_goal 3 => refine (View.read_writes_eq_canon _ _ _ (cover0_B_6 c _ _ _ _ _ _ _ _ _ _ _ _ _ _ _ _ _ _ _ _ _ _)).trans ?_
  all_goals
    unfold kernelRun0_B
    dsimp only
    sl_unfold_words
    rw [View.canon_unit_zero hz]
  on_goal 3 => unfold k0_pay2
  all_goals
    simp only [View.readAt_eq_ld, (hs0_0 t).read_unread, (hs0_1 t).read_unread, (hs0_2 t).read_unread, (hs0_3 t).read_unread, (hs0_6 t).read_unread,
      View.ld_unit_zero (S := S2048x256) hz, View.ld_unit_zero (S := S8x256) hz, shapeCast_self]
  all_goals rfl

end Any

end Cert.Conv

end
-- ==== Proof.Conv.Blocks.lean ====
module

public import proofs.«01_k».proof.Proof.Conv.Outs

/-! The kernel's blocks, column by column, over the extended reals. -/

@[expose] public section

set_option maxRecDepth 16384

noncomputable section

namespace Cert.Conv

open Kernel37Ideal Kernel37Ideal.Gen Dx
open Idealize.ShloMosaic TcCoe

/-- Which rows a comparison keeps. -/
theorem keep1 : ∀ i : Fin 2048, IntOp.cmpi .sge (BitVec.ofNat 32 i.val) 1#32 = if 1 ≤ i.val then 1#1 else 0#1 := by decide +kernel
theorem keep2 : ∀ i : Fin 2048, IntOp.cmpi .sge (BitVec.ofNat 32 i.val) 2#32 = if 2 ≤ i.val then 1#1 else 0#1 := by decide +kernel
theorem drop1 : ∀ i : Fin 2048, IntOp.cmpi .slt (BitVec.ofNat 32 i.val) 2047#32 = if i.val + 1 < 2048 then 1#1 else 0#1 := by decide +kernel
theorem drop2 : ∀ i : Fin 2048, IntOp.cmpi .slt (BitVec.ofNat 32 i.val) 2046#32 = if i.val + 2 < 2048 then 1#1 else 0#1 := by decide +kernel

/-- A rotation along the rows at an index, and the rows' numbers. -/
theorem rotate_at (k : BitVec 32) (x : FVec Ideal S2048x256 .f32) (i : Fin 2048) (j : Fin 256) :
    dynamicRotate 0 k none x rotates_S2048x256_d0 (ix2 i j) = x (ix2 (n0 := 2048) (n1 := 256) ⟨(i.val + 2048 - (k.toNat + 0) % 2048) % 2048, by omega⟩ j) := by
  simp only [pointwise, ↓reduceIte, one_ne_zero]
  rfl

theorem number_at (i : Fin 2048) (j : Fin 256) : iota .tc S2048x256 32 [0] iota_S2048x256_d0_w32 (ix2 i j) = BitVec.ofNat 32 i.val := by
  show BitVec.ofNat 32 (0 * 2048 + i.val) = _
  rw [zero_mul, zero_add]

/-- A rotation of the columns with the rows that a comparison does not keep set to zero. -/
def shifted (p : CmpIPredicate) (n k : BitVec 32) (x : FVec Ideal S2048x256 .f32) : FVec Ideal S2048x256 .f32 :=
  select (cmpi p (iota .tc S2048x256 32 [0] iota_S2048x256_d0_w32) (broadcast S2048x256 n)) (dynamicRotate 0 k none x rotates_S2048x256_d0)
    (broadcast S2048x256 (Scalar.ofBits .f32 0x00000000#32 : Ideal .f32))

theorem shifted_at (p : CmpIPredicate) (n k : BitVec 32) (x : FVec Ideal S2048x256 .f32) (i : Fin 2048) (j : Fin 256) (c : Prop) [Decidable c]
    (e : IntOp.cmpi p (BitVec.ofNat 32 i.val) n = if c then 1#1 else 0#1) :
    shifted p n k x (ix2 i j) = if c then column x j ⟨(i.val + 2048 - (k.toNat + 0) % 2048) % 2048, by omega⟩ else 0 := by
  show Scalar.select (IntOp.cmpi p (iota .tc S2048x256 32 [0] iota_S2048x256_d0_w32 (ix2 i j)) n) (dynamicRotate 0 k none x rotates_S2048x256_d0 (ix2 i j)) (Ideal.ofBits .f32 0x00000000#32) = _
  rw [number_at, rotate_at, e, Ideal.ofBits_zero_f32]
  split <;> rfl

section Blocks

variable (a g : Vec Ideal S2048x256 .bf16) (w : Vec Ideal S8x256 .f32) (d : Vec Ideal S2048x256 .f32)

theorem pay4_at (i : Fin 2048) (j : Fin 256) : k0_pay4 g (ix2 i j) = before 1 (column g j) i := by
  refine (shifted_at .sge 1#32 1#32 (k0_pay3 g) i j _ (keep1 i)).trans ?_
  unfold before
  split_ifs with h
  · exact congrArg (column g j) (Fin.ext (by show (i.val + 2048 - (1 + 0) % 2048) % 2048 = i.val - 1; omega))
  · rfl

theorem pay5_at (i : Fin 2048) (j : Fin 256) : k0_pay5 g (ix2 i j) = before 2 (column g j) i := by
  refine (shifted_at .sge 2#32 2#32 (k0_pay3 g) i j _ (keep2 i)).trans ?_
  unfold before
  split_ifs with h
  · exact congrArg (column g j) (Fin.ext (by show (i.val + 2048 - (2 + 0) % 2048) % 2048 = i.val - 2; omega))
  · rfl

theorem later1 (x : FVec Ideal S2048x256 .f32) (i : Fin 2048) (j : Fin 256) : shifted .slt 2047#32 2047#32 x (ix2 i j) = after 1 (column x j) i := by
  refine (shifted_at _ _ _ x i j _ (drop1 i)).trans ?_
  unfold after
  split_ifs with h
  · exact congrArg (column x j) (Fin.ext (by show (i.val + 2048 - (2047 + 0) % 2048) % 2048 = i.val + 1; omega))
  · rfl

theorem later2 (x : FVec Ideal S2048x256 .f32) (i : Fin 2048) (j : Fin 256) : shifted .slt 2046#32 2046#32 x (ix2 i j) = after 2 (column x j) i := by
  refine (shifted_at _ _ _ x i j _ (drop2 i)).trans ?_
  unfold after
  split_ifs with h
  · exact congrArg (column x j) (Fin.ext (by show (i.val + 2048 - (2046 + 0) % 2048) % 2048 = i.val + 2; omega))
  · rfl

theorem pay6_at (i : Fin 2048) (j : Fin 256) : k0_pay6 g w (ix2 i j) = conv (column g j) (column w j) i := by
  unfold k0_pay6
  simp only [pointwise, pay4_at, pay5_at, ↓reduceDIte, OfNat.ofNat_ne_one, Matrix.cons_val_one, Matrix.cons_val_fin_one, zero_add]
  rfl

theorem pay7_at (i : Fin 2048) (j : Fin 256) : k0_pay7 g w (ix2 i j) = Ideal.logistic (conv (column g j) (column w j) i) := by
  refine Eq.trans ?_ (logistic_eq _)
  unfold k0_pay7
  simp only [pointwise, pay6_at]

theorem pay8_at (i : Fin 2048) (j : Fin 256) : k0_pay8 g w d (ix2 i j) = daCol (column g j) (column d j) (column w j) i := by
  unfold k0_pay8
  simp only [pointwise, pay6_at, pay7_at]
  rfl

theorem pay9_at (i : Fin 2048) (j : Fin 256) :
    k0_pay9 (k0_pay6 g w) (k0_pay7 g w) d a (ix2 i j) = dzCol (column a j) (column g j) (column d j) (column w j) i := by
  unfold k0_pay9
  simp only [pointwise, pay6_at, pay7_at]
  rfl

theorem pay9_column (j : Fin 256) : column (k0_pay9 (k0_pay6 g w) (k0_pay7 g w) d a) j = dzCol (column a j) (column g j) (column d j) (column w j) :=
  funext fun i => pay9_at a g w d i j

theorem dgOf_at (i : Fin 2048) (j : Fin 256) : dgOf a g w d (ix2 i j) = dgCol (column a j) (column g j) (column d j) (column w j) i := by
  have e : dgOf a g w d = truncf .bf16 (addf (addf
      (mulf (broadcastTo S2048x256 (extractStridedSlice S1x256 ![2, 0] w slices_S8x256_o2_0_S1x256) broadcasts_S1x256_S2048x256) (k0_pay9 (k0_pay6 g w) (k0_pay7 g w) d a))
      (mulf (broadcastTo S2048x256 (extractStridedSlice S1x256 ![1, 0] w slices_S8x256_o1_0_S1x256) broadcasts_S1x256_S2048x256) (shifted .slt 2047#32 2047#32 (k0_pay9 (k0_pay6 g w) (k0_pay7 g w) d a))))
      (mulf (broadcastTo S2048x256 (extractStridedSlice S1x256 ![0, 0] w slices_S8x256_o0_0_S1x256) broadcasts_S1x256_S2048x256) (shifted .slt 2046#32 2046#32 (k0_pay9 (k0_pay6 g w) (k0_pay7 g w) d a))))
      bitsLt_bf16_f32 := rfl
  rw [e]
  simp only [pointwise, later1, later2, pay9_at, pay9_column, ↓reduceDIte, OfNat.ofNat_ne_one, Matrix.cons_val_one, Matrix.cons_val_fin_one, zero_add]
  rfl

theorem ones_at (i : Fin 8) (j : Fin 2048) : (k0_pay11 : FVec Ideal S8x2048 .bf16) (ix2 i j) = 1 := by
  unfold k0_pay11
  simp only [pointwise]

theorem dwOf_at (k : Fin 8) (j : Fin 256) : dwOf a g w d (ix2 k j) = dwCol (column a j) (column g j) (column d j) (column w j) k := by
  unfold dwOf k0_pay1 k0_pay3 k0_pay12 k0_pay13
  refine (stack_at _ _ _ _ _ _ k j).trans ?_
  simp only [pointwise, pay4_at, pay5_at, pay9_at, ones_at, one_mul, zero_add, Matrix.cons_val_one, Matrix.cons_val_fin_one]
  rfl

end Blocks

end Cert.Conv

end
-- ==== Proof.Conv.Arrays.lean ====
module

public import proofs.«01_k».proof.Proof.Conv.Blocks

/-! The three arrays the kernel ends with, as functions of its arguments. -/

@[expose] public section

set_option maxRecDepth 16384

noncomputable section

namespace Cert.Conv

open Kernel37Ideal Kernel37Ideal.Gen Dx
open Idealize.ShloMosaic TcCoe Idealize.SL.Sem

theorem index : ∀ t : Fin cfg0.N, win0_0.index t = ![t.val % 2, t.val / 2] ∧ win0_1.index t = ![t.val % 2, 11 + t.val / 2] ∧ win0_2.index t = ![0, t.val / 2] ∧ win0_3.index t = ![t.val % 2, t.val / 2] ∧ win0_4.index t = ![t.val % 2, t.val / 2] ∧ win0_5.index t = ![t.val % 2, t.val / 2] ∧ win0_6.index t = ![0, t.val / 2] := (by decide +kernel : ∀ t : Fin grid0.N, _)
theorem last : ∀ t : Fin cfg0.N, (cfg0.win 6).flush t = true → t.val % 2 = 1 := (by decide +kernel : ∀ t : Fin grid0.N, _)

/-- Point `t`'s batch row, and its column `j`. -/
def rowAt (t : Fin cfg0.N) : Fin 2 := ⟨t.val % 2, by omega⟩
def colAt (t : Fin cfg0.N) (j : Fin 256) : Fin 2816 := ⟨256 * (t.val / 2) + j.val, by have h : t.val < 22 := t.isLt; omega⟩

variable (m : (ℓ : Loc nD τ sig) → Buf (Elt Ideal) ℓ)

/-- The arguments. -/
def agOf (c : Dev nD) : S4096x5632.Idx → EReal := m (c.tc.loc main_arg0)
def wOf (c : Dev nD) : S8x2816.Idx → EReal := m (c.tc.loc main_arg1)
def duOf (c : Dev nD) : S4096x2816.Idx → EReal := m (c.tc.loc main_arg2)

theorem block0 (c : Dev nD) (t : Fin cfg0.N) (j : Fin 256) : column (iblk m c 0 t : Vec Ideal S2048x256 .bf16) j = part (agOf m c) (rowAt t) (lower (colAt t j)) := by
  unfold agOf
  rw [← V_main_arg0 m c]
  funext i
  unfold column part lower rowAt colAt
  blk_ext [iblk, index]
theorem block1 (c : Dev nD) (t : Fin cfg0.N) (j : Fin 256) : column (iblk m c 1 t : Vec Ideal S2048x256 .bf16) j = part (agOf m c) (rowAt t) (upper (colAt t j)) := by
  unfold agOf
  rw [← V_main_arg0 m c]
  funext i
  unfold column part upper rowAt colAt
  blk_ext [iblk, index]
theorem block2 (c : Dev nD) (t : Fin cfg0.N) (j : Fin 256) : column (iblk m c 2 t : Vec Ideal S8x256 .f32) j = column (wOf m c) (colAt t j) := by
  unfold wOf
  rw [← V_main_arg1 m c]
  funext i
  unfold column colAt
  blk_ext [iblk, index]
theorem block3 (c : Dev nD) (t : Fin cfg0.N) (j : Fin 256) : column (iblk m c 3 t : Vec Ideal S2048x256 .f32) j = part (duOf m c) (rowAt t) (colAt t j) := by
  unfold duOf
  rw [← V_main_arg2 m c]
  funext i
  unfold column part rowAt colAt
  blk_ext [iblk, index]

/-- A point's blocks of the first two gradients. -/
theorem outs4 (c : Dev nD) (t : Fin cfg0.N) : (outsAt0 m c t.val t.isLt).1 = k0_pay8 (iblk m c 1 t) (iblk m c 2 t) (iblk m c 3 t) := by
  rcases Nat.mod_two_eq_zero_or_one t.val with h | h
  · rw [outs_first m c t h]
  · rw [outs_second m c t h]
theorem outs5 (c : Dev nD) (t : Fin cfg0.N) : (outsAt0 m c t.val t.isLt).2.1 = dgOf (iblk m c 0 t) (iblk m c 1 t) (iblk m c 2 t) (iblk m c 3 t) := by
  rcases Nat.mod_two_eq_zero_or_one t.val with h | h
  · rw [outs_first m c t h]
  · rw [outs_second m c t h]

/-- A point's part of the weights' gradient. -/
theorem dw_at (c : Dev nD) (t : Fin cfg0.N) (k : Fin 8) (j : Fin 256) :
    dwOf (iblk m c 0 t) (iblk m c 1 t) (iblk m c 2 t) (iblk m c 3 t) (ix2 k j) = partW (agOf m c) (wOf m c) (duOf m c) (rowAt t) k (colAt t j) := by
  rw [dwOf_at, block0, block1, block2, block3]
  rfl

/-- The second batch row leaves the sum of both. -/
theorem outs6 (c : Dev nD) (t : Fin cfg0.N) (h : t.val % 2 = 1) (k : Fin 8) (j : Fin 256) :
    (outsAt0 m c t.val t.isLt).2.2 (ix2 k j) = gradW (agOf m c) (wOf m c) (duOf m c) (ix2 k (colAt t j)) := by
  have l : t.val - 1 < cfg0.N := Nat.lt_of_le_of_lt (Nat.sub_le _ _) t.isLt
  rw [outs_second m c t h]
  dsimp only
  rw [outs_first m c ⟨t.val - 1, l⟩ (by show (t.val - 1) % 2 = 0; omega)]
  refine congrArg₂ (fun x y : EReal => x + y) ((dw_at m c ⟨t.val - 1, l⟩ k j).trans ?_) ((dw_at m c t k j).trans ?_)
  · have r : rowAt ⟨t.val - 1, l⟩ = 0 := Fin.ext (by show (t.val - 1) % 2 = 0; omega)
    have e : colAt ⟨t.val - 1, l⟩ j = colAt t j := Fin.ext (by show 256 * ((t.val - 1) / 2) + j.val = 256 * (t.val / 2) + j.val; omega)
    rw [r, e]
    rfl
  · have r : rowAt t = 1 := Fin.ext h
    rw [r]
    rfl

/-- Where row `i` and column `j` of point `t`'s block lie. -/
def placeOf (t : Fin cfg0.N) (i : Fin 2048) : Fin 4096 := ⟨2048 * (t.val % 2) + i.val, by omega⟩

theorem row_place (t : Fin cfg0.N) (i : Fin 2048) : rowOf (placeOf t i) = rowAt t := Fin.ext (by show (2048 * (t.val % 2) + i.val) / 2048 = t.val % 2; omega)
theorem pos_place (t : Fin cfg0.N) (i : Fin 2048) : posOf (placeOf t i) = i := Fin.ext (by show (2048 * (t.val % 2) + i.val) % 2048 = i.val; omega)

theorem da_at (c : Dev nD) (t : Fin cfg0.N) (i : Fin 2048) (j : Fin 256) :
    k0_pay8 (iblk m c 1 t) (iblk m c 2 t) (iblk m c 3 t) (ix2 i j) = gradA (agOf m c) (wOf m c) (duOf m c) (ix2 (placeOf t i) (colAt t j)) := by
  rw [pay8_at, block1, block2, block3]
  unfold gradA
  show _ = daCol (part _ (rowOf (placeOf t i)) _) (part _ (rowOf (placeOf t i)) _) _ (posOf (placeOf t i))
  rw [row_place, pos_place]
  rfl
theorem dg_at (c : Dev nD) (t : Fin cfg0.N) (i : Fin 2048) (j : Fin 256) :
    dgOf (iblk m c 0 t) (iblk m c 1 t) (iblk m c 2 t) (iblk m c 3 t) (ix2 i j) = gradG (agOf m c) (wOf m c) (duOf m c) (ix2 (placeOf t i) (colAt t j)) := by
  rw [dgOf_at, block0, block1, block2, block3]
  unfold gradG
  show _ = dgCol (part _ (rowOf (placeOf t i)) _) (part _ (rowOf (placeOf t i)) _) (part _ (rowOf (placeOf t i)) _) _ (posOf (placeOf t i))
  rw [row_place, pos_place]
  rfl

theorem final4 (c : Dev nD) : (dats m 0 c).arrAt 4 cfg0.N = gradA (agOf m c) (wOf m c) (duOf m c) := by
  refine (dats m 0 c).arrAt_eq_of_covers 4 _ (by decide +kernel) fun t hf y => ?_
  blk_simp
  rw [after0_4, outs4]
  obtain ⟨i, j, rfl⟩ := pairOf (a := 2048) (b := 256) y
  refine (da_at m c t i j).trans (congrArg (gradA (agOf m c) (wOf m c) (duOf m c)) ?_)
  funext a
  match a with
  | ⟨0, _⟩ => refine Fin.ext ?_; blk_simp [index]; show 2048 * (t.val % 2) + i.val = t.val % 2 * 2048 + i.val; omega
  | ⟨1, _⟩ => refine Fin.ext ?_; blk_simp [index]; show 256 * (t.val / 2) + j.val = t.val / 2 * 256 + j.val; omega

theorem final5 (c : Dev nD) : (dats m 0 c).arrAt 5 cfg0.N = gradG (agOf m c) (wOf m c) (duOf m c) := by
  refine (dats m 0 c).arrAt_eq_of_covers 5 _ (by decide +kernel) fun t hf y => ?_
  blk_simp
  rw [after0_5, outs5]
  obtain ⟨i, j, rfl⟩ := pairOf (a := 2048) (b := 256) y
  refine (dg_at m c t i j).trans (congrArg (gradG (agOf m c) (wOf m c) (duOf m c)) ?_)
  funext a
  match a with
  | ⟨0, _⟩ => refine Fin.ext ?_; blk_simp [index]; show 2048 * (t.val % 2) + i.val = t.val % 2 * 2048 + i.val; omega
  | ⟨1, _⟩ => refine Fin.ext ?_; blk_simp [index]; show 256 * (t.val / 2) + j.val = t.val / 2 * 256 + j.val; omega

theorem final6 (c : Dev nD) : (dats m 0 c).arrAt 6 cfg0.N = gradW (agOf m c) (wOf m c) (duOf m c) := by
  refine (dats m 0 c).arrAt_eq_of_covers 6 _ (by decide +kernel) fun t hf y => ?_
  have e := last t hf
  blk_simp
  rw [after0_6]
  obtain ⟨k, j, rfl⟩ := pairOf (a := 8) (b := 256) y
  refine (outs6 m c t e k j).trans (congrArg (gradW (agOf m c) (wOf m c) (duOf m c)) ?_)
  funext a
  match a with
  | ⟨0, _⟩ => refine Fin.ext ?_; blk_simp [index]
  | ⟨1, _⟩ => refine Fin.ext ?_; blk_simp [index]; show 256 * (t.val / 2) + j.val = t.val / 2 * 256 + j.val; omega

theorem run_values (ρ : Dev nD → PrngReg) : θ_run defs (onTc (τ := τ) (main (F := Ideal))) ⟨m, fun _ => 0, ρ⟩ (fun r => ∀ c : Dev nD,
      r.2.mem (c.tc.loc main_v0_0) = gradA (agOf m c) (wOf m c) (duOf m c)
      ∧ r.2.mem (c.tc.loc main_v0_1) = gradG (agOf m c) (wOf m c) (duOf m c)
      ∧ r.2.mem (c.tc.loc main_v0_2) = gradW (agOf m c) (wOf m c) (duOf m c)
      ∧ Kept m r.2.mem c main_arg0
      ∧ Kept m r.2.mem c main_arg1
      ∧ Kept m r.2.mem c main_arg2) :=
  (θ_run defs _ _).mono (fun r h c => ⟨(h c).1.trans (final4 m c), (h c).2.1.trans (final5 m c), (h c).2.2.1.trans (final6 m c), (h c).2.2.2⟩)
    (Kernel37Ideal.Value.run_blocks m ρ)

end Cert.Conv

end
-- ==== Proof.Conv.Ref.lean ====
module

public import proofs.«01_k».proof.Proof.Gen.Reference37Ideal.Run
public import proofs.«01_k».proof.Proof.Conv.Row

/-! The reference's three results, as the same functions of its arguments. -/

@[expose] public section

set_option maxRecDepth 16384

noncomputable section

namespace Cert.Conv.Ref

open Reference37Ideal Reference37Ideal.Gen Dx
open Idealize.ShloMosaic TcCoe Idealize.SL.Sem

variable (ag : FVec Ideal S4096x5632 .bf16) (w : FVec Ideal S8x2816 .f32) (du : FVec Ideal S4096x2816 .f32)

/-- The two halves and the gradient by batch row, position and column. -/
def whole : FVec Ideal S2x2048x5632 .f32 := shapeCast S2x2048x5632 (extf .f32 ag bitsLt_bf16_f32 : FVec Ideal S4096x5632 .f32) shapeCasts_S4096x5632_S2x2048x5632
def a3 : FVec Ideal S2x2048x2816 .f32 := extractStridedSlice S2x2048x2816 ![0, 0, 0] (whole ag) slices_S2x2048x5632_S2x2048x2816_0_0_0
def g3 : FVec Ideal S2x2048x2816 .f32 := extractStridedSlice S2x2048x2816 ![0, 0, 2816] (whole ag) slices_S2x2048x5632_S2x2048x2816_0_0_2816
def d3 : FVec Ideal S2x2048x2816 .f32 := shapeCast S2x2048x2816 du shapeCasts_S4096x2816_S2x2048x2816

theorem whole_at (b : Fin 2) (i : Fin 2048) (f : Fin 5632) : whole ag (ix3 b i f) = part ag b f i := by
  unfold whole
  simp only [pointwise]
  refine congrArg ag ?_
  funext a
  match a with
  | ⟨0, _⟩ => exact Fin.ext (by show b.val * 2048 + i.val = 2048 * b.val + i.val; omega)
  | ⟨1, _⟩ => rfl
theorem a3_at (b : Fin 2) (i : Fin 2048) (f : Fin 2816) : a3 ag (ix3 b i f) = part ag b (lower f) i := by
  refine Eq.trans ?_ (whole_at ag b i (lower f))
  refine congrArg (whole ag) ?_
  funext a
  match a with
  | ⟨0, _⟩ => exact Fin.ext (zero_add _)
  | ⟨1, _⟩ => exact Fin.ext (zero_add _)
  | ⟨2, _⟩ => exact Fin.ext (zero_add _)
theorem g3_at (b : Fin 2) (i : Fin 2048) (f : Fin 2816) : g3 ag (ix3 b i f) = part ag b (upper f) i := by
  refine Eq.trans ?_ (whole_at ag b i (upper f))
  refine congrArg (whole ag) ?_
  funext a
  match a with
  | ⟨0, _⟩ => exact Fin.ext (zero_add _)
  | ⟨1, _⟩ => exact Fin.ext (zero_add _)
  | ⟨2, _⟩ => rfl
theorem d3_at (b : Fin 2) (i : Fin 2048) (f : Fin 2816) : d3 du (ix3 b i f) = part du b f i := by
  unfold d3
  simp only [pointwise]
  refine congrArg du ?_
  funext a
  match a with
  | ⟨0, _⟩ => exact Fin.ext (by show b.val * 2048 + i.val = 2048 * b.val + i.val; omega)
  | ⟨1, _⟩ => rfl

/-- A row of the weights, over the positions. -/
def row (r : FVec Ideal S1x2816 .f32) : FVec Ideal S2x2048x2816 .f32 :=
  broadcastInDim S2x2048x2816 ![0, 1, 2] bcast_S1x1x2816_S2x2048x2816_0_1_2 (broadcastInDim S1x1x2816 ![1, 2] bcast_S1x2816_S1x1x2816_1_2 r)
def w0 : FVec Ideal S2x2048x2816 .f32 := row (extractStridedSlice S1x2816 ![0, 0] w slices_S8x2816_S1x2816_0_0)
def w1 : FVec Ideal S2x2048x2816 .f32 := row (extractStridedSlice S1x2816 ![1, 0] w slices_S8x2816_S1x2816_1_0)
def w2 : FVec Ideal S2x2048x2816 .f32 := row (extractStridedSlice S1x2816 ![2, 0] w slices_S8x2816_S1x2816_2_0)
def w3 : FVec Ideal S2x2048x2816 .f32 := row (extractStridedSlice S1x2816 ![3, 0] w slices_S8x2816_S1x2816_3_0)

theorem row_at (r : FVec Ideal S1x2816 .f32) (b : Fin 2) (i : Fin 2048) (f : Fin 2816) : row r (ix3 b i f) = r (ix2 0 f) := by
  unfold row
  simp only [pointwise, ↓reduceDIte, OfNat.ofNat_ne_one]
theorem w0_at (b : Fin 2) (i : Fin 2048) (f : Fin 2816) : w0 w (ix3 b i f) = column w f 0 := by
  unfold w0
  rw [row_at]
  simp only [pointwise, Matrix.cons_val_one, Matrix.cons_val_fin_one, zero_add]
  rfl
theorem w1_at (b : Fin 2) (i : Fin 2048) (f : Fin 2816) : w1 w (ix3 b i f) = column w f 1 := by
  unfold w1
  rw [row_at]
  simp only [pointwise, Matrix.cons_val_one, Matrix.cons_val_fin_one, zero_add]
  rfl
theorem w2_at (b : Fin 2) (i : Fin 2048) (f : Fin 2816) : w2 w (ix3 b i f) = column w f 2 := by
  unfold w2
  rw [row_at]
  simp only [pointwise, Matrix.cons_val_one, Matrix.cons_val_fin_one, zero_add]
  rfl
theorem w3_at (b : Fin 2) (i : Fin 2048) (f : Fin 2816) : w3 w (ix3 b i f) = column w f 3 := by
  unfold w3
  rw [row_at]
  simp only [pointwise, Matrix.cons_val_one, Matrix.cons_val_fin_one, zero_add]
  rfl

/-- The gated half one and two positions earlier. -/
def e1 : FVec Ideal S2x2048x2816 .f32 :=
  concatenate S2x2048x2816 1 [⟨S2x1x2816, (broadcastInDim S2x1x2816 ![] bcast_S_S2x1x2816 (constant S_ .f32 0x00000000#32))⟩,
    ⟨S2x2047x2816, (extractStridedSlice S2x2047x2816 ![0, 0, 0] (g3 ag) slices_S2x2048x2816_S2x2047x2816_0_0_0)⟩] concatenates_S2x1x2816_S2x2047x2816_S2x2048x2816_d1
def e2 : FVec Ideal S2x2048x2816 .f32 :=
  concatenate S2x2048x2816 1 [⟨S2x2x2816, (broadcastInDim S2x2x2816 ![] bcast_S_S2x2x2816 (constant S_ .f32 0x00000000#32))⟩,
    ⟨S2x2046x2816, (extractStridedSlice S2x2046x2816 ![0, 0, 0] (g3 ag) slices_S2x2048x2816_S2x2046x2816_0_0_0)⟩] concatenates_S2x2x2816_S2x2046x2816_S2x2048x2816_d1

theorem e1_at (b : Fin 2) (i : Fin 2048) (f : Fin 2816) : e1 ag (ix3 b i f) = before 1 (part ag b (upper f)) i := by
  unfold e1 before
  simp only [pointwise]
  by_cases h : i.val < 1
  · rw [dif_pos h, if_neg (by omega)]
  · rw [dif_neg h]
    refine ((congrArg (g3 ag) ?_).trans (g3_at ag b ⟨i.val - 1, by omega⟩ f)).trans (if_pos (show 1 ≤ i.val by omega)).symm
    funext a
    match a with
    | ⟨0, _⟩ => exact Fin.ext (zero_add _)
    | ⟨1, _⟩ => exact Fin.ext (zero_add _)
    | ⟨2, _⟩ => exact Fin.ext (zero_add _)
theorem e2_at (b : Fin 2) (i : Fin 2048) (f : Fin 2816) : e2 ag (ix3 b i f) = before 2 (part ag b (upper f)) i := by
  unfold e2 before
  simp only [pointwise]
  by_cases h : i.val < 2
  · rw [dif_pos h, if_neg (by omega)]
  · rw [dif_neg h]
    refine ((congrArg (g3 ag) ?_).trans (g3_at ag b ⟨i.val - 2, by omega⟩ f)).trans (if_pos (show 2 ≤ i.val by omega)).symm
    funext a
    match a with
    | ⟨0, _⟩ => exact Fin.ext (zero_add _)
    | ⟨1, _⟩ => exact Fin.ext (zero_add _)
    | ⟨2, _⟩ => exact Fin.ext (zero_add _)

/-- The convolution, the gate, and the convolution's gradient. -/
def ones : FVec Ideal S2x2048x2816 .f32 := broadcastInDim S2x2048x2816 ![] bcast_S_S2x2048x2816 (constant S_ .f32 0x3F800000#32)
def z3 : FVec Ideal S2x2048x2816 .f32 := addf (addf (addf (mulf (w0 w) (e2 ag)) (mulf (w1 w) (e1 ag))) (mulf (w2 w) (g3 ag))) (w3 w)
def s3 : FVec Ideal S2x2048x2816 .f32 := Host.divf ones (addf ones (Host.exp (Host.negf (z3 ag w))))
def dz : FVec Ideal S2x2048x2816 .f32 := mulf (mulf (d3 du) (a3 ag)) (mulf (s3 ag w) (addf ones (mulf (z3 ag w) (subf ones (s3 ag w)))))

theorem z3_at (b : Fin 2) (i : Fin 2048) (f : Fin 2816) : z3 ag w (ix3 b i f) = conv (part ag b (upper f)) (column w f) i := by
  unfold z3
  simp only [pointwise, w0_at, w1_at, w2_at, w3_at, e1_at, e2_at, g3_at]
  rfl
theorem s3_at (b : Fin 2) (i : Fin 2048) (f : Fin 2816) : s3 ag w (ix3 b i f) = Ideal.logistic (conv (part ag b (upper f)) (column w f) i) := by
  unfold s3 ones
  simp only [pointwise, z3_at]
  rfl
theorem dz_at (b : Fin 2) (i : Fin 2048) (f : Fin 2816) :
    dz ag w du (ix3 b i f) = dzCol (part ag b (lower f)) (part ag b (upper f)) (part du b f) (column w f) i := by
  unfold dz ones
  simp only [pointwise, z3_at, s3_at, d3_at, a3_at]
  rfl

/-- The three results. -/
def rows (x : FVec Ideal S2x2048x2816 .f32) : FVec Ideal S4096x2816 .bf16 :=
  truncf .bf16 (shapeCast S4096x2816 x shapeCasts_S2x2048x2816_S4096x2816 : FVec Ideal S4096x2816 .f32) bitsLt_bf16_f32
def total (x : FVec Ideal S2x2048x2816 .f32) : FVec Ideal S1x2816 .f32 :=
  broadcastInDim S1x2816 ![1] bcast_S2816_S1x2816_1 (Host.reduceAdd (shapeCast S1x1x2816 (Host.reduceAdd x (constant S_ .f32 0x00000000#32) reducesTo_S2x2048x2816_S2816_d0_1 h_S_) shapeCasts_S2816_S1x1x2816) (constant S_ .f32 0x00000000#32) reducesTo_S1x1x2816_S2816_d0_1 h_S_)
def l1 (x : FVec Ideal S2x2048x2816 .f32) : FVec Ideal S2x2048x2816 .f32 :=
  pad S2x2048x2816 ![0, 0, 0] ![0, 1, 0] ![0, 0, 0] (extractStridedSlice S2x2047x2816 ![0, 1, 0] x slices_S2x2048x2816_S2x2047x2816_0_1_0) (constant S_ .f32 0x00000000#32) pads_S2x2047x2816_S2x2048x2816_000_010_000 h_S_
def l2 (x : FVec Ideal S2x2048x2816 .f32) : FVec Ideal S2x2048x2816 .f32 :=
  pad S2x2048x2816 ![0, 0, 0] ![0, 2, 0] ![0, 0, 0] (extractStridedSlice S2x2046x2816 ![0, 2, 0] x slices_S2x2048x2816_S2x2046x2816_0_2_0) (constant S_ .f32 0x00000000#32) pads_S2x2046x2816_S2x2048x2816_000_020_000 h_S_
def resA : FVec Ideal S4096x2816 .bf16 := rows (mulf (d3 du) (mulf (z3 ag w) (s3 ag w)))
def resG : FVec Ideal S4096x2816 .bf16 := rows (addf (addf (mulf (w2 w) (dz ag w du)) (l1 (mulf (w1 w) (dz ag w du)))) (l2 (mulf (w0 w) (dz ag w du))))
def resW : FVec Ideal S8x2816 .f32 :=
  concatenate S8x2816 0 [⟨S1x2816, total (mulf (dz ag w du) (e2 ag))⟩, ⟨S1x2816, total (mulf (dz ag w du) (e1 ag))⟩, ⟨S1x2816, total (mulf (dz ag w du) (g3 ag))⟩,
    ⟨S1x2816, total (dz ag w du)⟩, ⟨S4x2816, broadcastInDim S4x2816 ![] bcast_S_S4x2816 (constant S_ .f32 0x00000000#32)⟩] concatenates_S1x2816_S1x2816_S1x2816_S1x2816_S4x2816_S8x2816_d0

theorem rows_at (x : FVec Ideal S2x2048x2816 .f32) (r : Fin 4096) (f : Fin 2816) : rows x (ix2 r f) = x (ix3 (n0 := 2) (n1 := 2048) (n2 := 2816) (rowOf r) (posOf r) f) := by
  unfold rows
  simp only [pointwise]
  rfl
theorem total_at (x : FVec Ideal S2x2048x2816 .f32) (f : Fin 2816) : total x (ix2 0 f) = ∑ i, x (ix3 0 i f) + ∑ i, x (ix3 1 i f) := by
  unfold total
  simp only [pointwise, ↓reduceDIte, OfNat.ofNat_ne_one, zero_add]
  rw [leading_at, Fin.sum_univ_one, Fin.sum_univ_one]
  simp only [pointwise]
  rw [leading_at, Fin.sum_univ_two]
theorem l1_at (x : FVec Ideal S2x2048x2816 .f32) (b : Fin 2) (i : Fin 2048) (f : Fin 2816) : l1 x (ix3 b i f) = after 1 (fun k => x (ix3 b k f)) i := by
  unfold l1 after
  simp only [pointwise]
  by_cases h : i.val + 1 < 2048
  · rw [dif_pos h, dif_pos fun a => match a with
      | ⟨0, _⟩ => ⟨Nat.zero_le _, Nat.mod_one _, by show (b.val - 0) / 1 < 2; omega⟩
      | ⟨1, _⟩ => ⟨Nat.zero_le _, Nat.mod_one _, by show (i.val - 0) / 1 < 2047; omega⟩
      | ⟨2, _⟩ => ⟨Nat.zero_le _, Nat.mod_one _, by show (f.val - 0) / 1 < 2816; omega⟩]
    refine congrArg x ?_
    funext a
    match a with
    | ⟨0, _⟩ => exact Fin.ext (by show 0 + (b.val - 0) / 1 = b.val; omega)
    | ⟨1, _⟩ => exact Fin.ext (by show 1 + (i.val - 0) / 1 = i.val + 1; omega)
    | ⟨2, _⟩ => exact Fin.ext (by show 0 + (f.val - 0) / 1 = f.val; omega)
  · rw [dif_neg h, dif_neg fun e => h (by have l : (i.val - 0) / 1 < 2047 := (e 1).2.2; omega)]
theorem l2_at (x : FVec Ideal S2x2048x2816 .f32) (b : Fin 2) (i : Fin 2048) (f : Fin 2816) : l2 x (ix3 b i f) = after 2 (fun k => x (ix3 b k f)) i := by
  unfold l2 after
  simp only [pointwise]
  by_cases h : i.val + 2 < 2048
  · rw [dif_pos h, dif_pos fun a => match a with
      | ⟨0, _⟩ => ⟨Nat.zero_le _, Nat.mod_one _, by show (b.val - 0) / 1 < 2; omega⟩
      | ⟨1, _⟩ => ⟨Nat.zero_le _, Nat.mod_one _, by show (i.val - 0) / 1 < 2046; omega⟩
      | ⟨2, _⟩ => ⟨Nat.zero_le _, Nat.mod_one _, by show (f.val - 0) / 1 < 2816; omega⟩]
    refine congrArg x ?_
    funext a
    match a with
    | ⟨0, _⟩ => exact Fin.ext (by show 0 + (b.val - 0) / 1 = b.val; omega)
    | ⟨1, _⟩ => exact Fin.ext (by show 2 + (i.val - 0) / 1 = i.val + 2; omega)
    | ⟨2, _⟩ => exact Fin.ext (by show 0 + (f.val - 0) / 1 = f.val; omega)
  · rw [dif_neg h, dif_neg fun e => h (by have l : (i.val - 0) / 1 < 2046 := (e 1).2.2; omega)]

/-- A multiple of a later value. -/
theorem after_mul (n : ℕ) (v : EReal) (x : Fin 2048 → EReal) (i : Fin 2048) : after n (fun k => v * x k) i = v * after n x i := by
  unfold after
  split
  · rfl
  · exact (mul_zero v).symm

theorem resA_eq : resA ag w du = gradA ag w du := by
  funext y
  obtain ⟨r, f, rfl⟩ := pairOf (a := 4096) (b := 2816) y
  unfold resA
  rw [rows_at]
  simp only [pointwise, z3_at, s3_at, d3_at]
  rfl

theorem resG_eq : resG ag w du = gradG ag w du := by
  funext y
  obtain ⟨r, f, rfl⟩ := pairOf (a := 4096) (b := 2816) y
  unfold resG
  rw [rows_at]
  simp only [addf_apply, mulf_apply, l1_at, l2_at, w0_at, w1_at, w2_at, dz_at]
  exact congrArg₂ (fun u v : EReal => _ + u + v) (after_mul 1 _ _ _) (after_mul 2 _ _ _)

theorem resW_eq : resW ag w du = gradW ag w du := by
  funext y
  obtain ⟨k, f, rfl⟩ := pairOf (a := 8) (b := 2816) y
  unfold resW
  refine (stack_at _ _ _ _ _ _ k f).trans ?_
  simp only [total_at, pointwise, dz_at, e1_at, e2_at, g3_at]
  show _ = dwCol (part ag 0 (lower f)) (part ag 0 (upper f)) (part du 0 f) (column w f) k + dwCol (part ag 1 (lower f)) (part ag 1 (upper f)) (part du 1 f) (column w f) k
  unfold dwCol
  exact halves _ _ _ _ _ _ _ _ k

section Run

variable (m : (ℓ : Loc nD τ sig) → Buf (Elt Ideal) ℓ)

def agOf (c : Dev nD) : S4096x5632.Idx → EReal := m (c.tc.loc main_arg0)
def wOf (c : Dev nD) : S8x2816.Idx → EReal := m (c.tc.loc main_arg1)
def duOf (c : Dev nD) : S4096x2816.Idx → EReal := m (c.tc.loc main_arg2)

theorem run_values (ρ : Dev nD → PrngReg) : θ_run defs (onTc (τ := τ) (main (F := Ideal))) ⟨m, fun _ => 0, ρ⟩ (fun r => ∀ c : Dev nD,
      r.2.mem (c.tc.loc main_v81) = gradA (agOf m c) (wOf m c) (duOf m c)
      ∧ r.2.mem (c.tc.loc main_v83) = gradG (agOf m c) (wOf m c) (duOf m c)
      ∧ r.2.mem (c.tc.loc main_v85) = gradW (agOf m c) (wOf m c) (duOf m c)
      ∧ Kept m r.2.mem c main_arg0
      ∧ Kept m r.2.mem c main_arg1
      ∧ Kept m r.2.mem c main_arg2) :=
  (θ_run defs _ _).mono (fun r h c => ⟨(h c).1.trans (resA_eq _ _ _), (h c).2.1.trans (resG_eq _ _ _), (h c).2.2.1.trans (resW_eq _ _ _), (h c).2.2.2⟩)
    (Value.run m ρ)

end Run

end Cert.Conv.Ref

end
-- ==== Proof.Dx3.Outs.lean ====
module

public import proofs.«01_k».proof.Proof.Gen.Kernel3Ideal.Value
public import proofs.«01_k».proof.Proof.Dx.Row

/-! What a point of the kernel leaves in its three output blocks. -/

@[expose] public section

set_option maxRecDepth 16384

noncomputable section

namespace Cert.Dx3

open Dx Kernel3Ideal Kernel3Ideal.Gen
open Idealize.ShloMosaic TcCoe

section Any

variable {F : FTy → Type} [FloatOps F]
variable (m : (ℓ : Loc nD τ sig) → Buf (Elt F) ℓ)

/-- The two column ranges of the weights that the body reads. -/
def left (w : Vec F S1024x5632 .bf16) : Vec F S1024x2816 .bf16 := View.ld w (Rect.unit ![0, 0] ![1024, 2816] inb_S1024x5632_S1024x2816_0_0)
def right (w : Vec F S1024x5632 .bf16) : Vec F S1024x2816 .bf16 := View.ld w (Rect.unit ![0, 2816] ![1024, 2816] inb_S1024x5632_S1024x2816_0_2816)

theorem left_at (w : Vec F S1024x5632 .bf16) (j : Fin 1024) (k : Fin 2816) : left w (ix2 j k) = w (ix2 (n0 := 1024) (n1 := 5632) j ⟨k.val, by omega⟩) := by
  refine congrArg w ?_
  funext a
  match a with
  | ⟨0, _⟩ => exact Fin.ext (by show 0 + 1 * j.val = j.val; omega)
  | ⟨1, _⟩ => exact Fin.ext (by show 0 + 1 * k.val = k.val; omega)
theorem right_at (w : Vec F S1024x5632 .bf16) (j : Fin 1024) (k : Fin 2816) : right w (ix2 j k) = w (ix2 (n0 := 1024) (n1 := 5632) j ⟨2816 + k.val, by omega⟩) := by
  refine congrArg w ?_
  funext a
  match a with
  | ⟨0, _⟩ => exact Fin.ext (by show 0 + 1 * j.val = j.val; omega)
  | ⟨1, _⟩ => exact Fin.ext (by show 2816 + 1 * k.val = 2816 + k.val; omega)

/-- A point's block of the input's gradient, and its part of the gain's. -/
def dxOf (a : Vec F S256x2816 .bf16) (b : Vec F S256x2816 .bf16) (w : Vec F S1024x5632 .bf16) (x : Vec F S256x1024 .f32) (g : Vec F S1x1024 .f32) (s : Vec F S256x1024 .f32) : Vec F S256x1024 .f32 :=
  k0_pay1 x (k0_pay9 a (left w) b (right w) x g) (k0_pay10 a (left w) b (right w) x g) s
def dgOf (a : Vec F S256x2816 .bf16) (b : Vec F S256x2816 .bf16) (w : Vec F S1024x5632 .bf16) (x : Vec F S256x1024 .f32) : Vec F S1x1024 .f32 :=
  k0_pay7 a (left w) b (right w) x

theorem outs7 (c : Dev nD) (t : Fin cfg0.N) :
    (outsAt0 m c t.val t.isLt).1 = dxOf (iblk m c 0 t) (iblk m c 1 t) (iblk m c 2 t) (iblk m c 3 t) (iblk m c 4 t) (iblk m c 5 t) := by
  by_cases h0 : t.val % 16 = 0
  · have h1 : ¬ 1 ≤ t.val := by have h : t.val < 16 := t.isLt; omega
    rw [outsAt0_A m c t h0 h1]
    dsimp only
    unfold out0_A_7
    refine (View.read_writes_eq_canon _ _ _ (cover0_A_7 c _ _ _ _ _ _ _ _ _ _ _ _ _ _ _ _ _ _ _ _ _ _ _ _ _ _ _ _ _ _)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x2816) hz, View.ld_unit_zero (S := S256x1024) hz, View.ld_unit_zero (S := S1x1024) hz]
    rfl
  · have h1 : 1 ≤ t.val := by omega
    rw [outsAt0_B m c t h0 h1]
    dsimp only
    unfold out0_B_7
    refine (View.read_writes_eq_canon _ _ _ (cover0_B_7 c _ _ _ _ _ _ _ _ _ _ _ _ _ _ _ _ _ _ _ _ _ _ _ _ _ _ _ _ _ _ _)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x2816) hz, View.ld_unit_zero (S := S256x1024) hz, View.ld_unit_zero (S := S1x1024) hz]
    rfl

theorem outs8 (c : Dev nD) (t : Fin cfg0.N) :
    (outsAt0 m c t.val t.isLt).2.1 = truncf .bf16 (dxOf (iblk m c 0 t) (iblk m c 1 t) (iblk m c 2 t) (iblk m c 3 t) (iblk m c 4 t) (iblk m c 5 t)) bitsLt_bf16_f32 := by
  by_cases h0 : t.val % 16 = 0
  · have h1 : ¬ 1 ≤ t.val := by have h : t.val < 16 := t.isLt; omega
    rw [outsAt0_A m c t h0 h1]
    dsimp only
    unfold out0_A_8
    refine (View.read_writes_eq_canon _ _ _ (cover0_A_8 c _ _ _ _ _ _ _ _ _ _ _ _ _ _ _ _ _ _ _ _ _ _ _ _ _ _ _ _ _ _)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x2816) hz, View.ld_unit_zero (S := S256x1024) hz, View.ld_unit_zero (S := S1x1024) hz]
    rfl
  · have h1 : 1 ≤ t.val := by omega
    rw [outsAt0_B m c t h0 h1]
    dsimp only
    unfold out0_B_8
    refine (View.read_writes_eq_canon _ _ _ (cover0_B_8 c _ _ _ _ _ _ _ _ _ _ _ _ _ _ _ _ _ _ _ _ _ _ _ _ _ _ _ _ _ _ _)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x2816) hz, View.ld_unit_zero (S := S256x1024) hz, View.ld_unit_zero (S := S1x1024) hz]
    rfl

/-- The first point stores its part of the gain's gradient. -/
theorem outs9_first (c : Dev nD) (h : 0 < cfg0.N) :
    (outsAt0 m c 0 h).2.2 = dgOf (iblk m c 0 ⟨0, h⟩) (iblk m c 1 ⟨0, h⟩) (iblk m c 2 ⟨0, h⟩) (iblk m c 3 ⟨0, h⟩) := by
  rw [outsAt0_A m c ⟨0, h⟩ rfl (by show ¬ 1 ≤ 0; omega)]
  dsimp only
  unfold out0_A_9
  refine (View.read_writes_eq_canon _ _ _ (cover0_A_9 c _ _ _ _ _ _ _ _ _ _ _ _ _ _ _ _ _ _ _ _ _ _ _ _ _ _ _ _ _ _)).trans ?_
  unfold kernelRun0_A
  dsimp only
  sl_unfold_words
  rw [View.canon_unit_zero hz]
  simp only [View.readAt_eq_ld, (hs0_0 _).read_unread, (hs0_1 _).read_unread, (hs0_2 _).read_unread, (hs0_3 _).read_unread, (hs0_4 _).read_unread, (hs0_5 _).read_unread,
    View.ld_unit_zero (S := S256x2816) hz, View.ld_unit_zero (S := S256x1024) hz, View.ld_unit_zero (S := S1x1024) hz]
  rfl

/-- A later point adds its part. -/
theorem outs9_next (c : Dev nD) (n : ℕ) (h : n + 1 < cfg0.N) :
    (outsAt0 m c (n + 1) h).2.2 = addf (outsAt0 m c n (Nat.lt_of_succ_lt h)).2.2 (dgOf (iblk m c 0 ⟨n + 1, h⟩) (iblk m c 1 ⟨n + 1, h⟩) (iblk m c 2 ⟨n + 1, h⟩) (iblk m c 3 ⟨n + 1, h⟩)) := by
  have hN : n + 1 < 16 := h
  rw [outsAt0_B m c ⟨n + 1, h⟩ (by show ¬ (n + 1) % 16 = 0; omega) (by show 1 ≤ n + 1; omega)]
  dsimp only
  unfold out0_B_9
  refine (View.read_writes_eq_canon _ _ _ (cover0_B_9 c _ _ _ _ _ _ _ _ _ _ _ _ _ _ _ _ _ _ _ _ _ _ _ _ _ _ _ _ _ _ _)).trans ?_
  unfold kernelRun0_B
  dsimp only
  sl_unfold_words
  rw [View.canon_unit_zero hz]
  unfold k0_pay3
  simp only [View.readAt_eq_ld, (hs0_0 _).read_unread, (hs0_1 _).read_unread, (hs0_2 _).read_unread, (hs0_3 _).read_unread, (hs0_4 _).read_unread, (hs0_5 _).read_unread, (hs0_9 _).read_unread,
    View.ld_unit_zero (S := S256x2816) hz, View.ld_unit_zero (S := S256x1024) hz, View.ld_unit_zero (S := S1x1024) hz, shapeCast_self]
  rfl

end Any

/-! ## Over the extended reals -/

section Ideals

variable (a : Vec Ideal S256x2816 .bf16) (b : Vec Ideal S256x2816 .bf16) (w : Vec Ideal S1024x5632 .bf16) (x : Vec Ideal S256x1024 .f32) (g : Vec Ideal S1x1024 .f32) (s : Vec Ideal S256x1024 .f32)

theorem back_at (i : Fin 256) (j : Fin 1024) : k0_pay4 a (left w) b (right w) (ix2 i j) = back (p := 2816) (q := 2816) a b w i j := by
  simp only [k0_pay4, pointwise, left_at, right_at, zero_add]
  rfl

theorem meanSq_at (i : Fin 256) : k0_pay5 x (ix2 i 0) = meanSq (rowAt x i) := by
  simp only [k0_pay5, pointwise]
  rfl

theorem dxOf_at (i : Fin 256) (j : Fin 1024) :
    dxOf a b w x g s (ix2 i j) = dxRow (rowAt x i) (back (p := 2816) (q := 2816) a b w i) (rowAt g 0) (rowAt s i) j := by
  simp only [dxOf, k0_pay1, k0_pay9, k0_pay10, k0_pay8, k0_pay6, pointwise, ↓reduceDIte, OfNat.ofNat_ne_one, back_at, meanSq_at, Fin.sum_univ_one]
  rfl

theorem dgOf_at (j : Fin 1024) : dgOf a b w x (ix2 0 j) = ∑ i : Fin 256, dgRow (rowAt x i) (back (p := 2816) (q := 2816) a b w i) j := by
  simp only [dgOf, k0_pay7, k0_pay6, pointwise, ↓reduceDIte, OfNat.ofNat_ne_one, back_at, meanSq_at]
  rfl

end Ideals

end Cert.Dx3

end
-- ==== Proof.Dx3.Arrays.lean ====
module

public import proofs.«01_k».proof.Proof.Dx3.Outs

/-! The three arrays the kernel ends with, as functions of its arguments. -/

@[expose] public section

set_option maxRecDepth 16384

noncomputable section

namespace Cert.Dx3

open Dx Kernel3Ideal Kernel3Ideal.Gen
open Idealize.ShloMosaic TcCoe Idealize.SL.Sem

/-! ## The blocks of a point -/

section Any

variable {F : FTy → Type} [FloatOps F]
variable (m : (ℓ : Loc nD τ sig) → Buf (Elt F) ℓ)

theorem rows_le (t : Fin cfg0.N) : 256 * t.val + 256 ≤ 4096 := by have h : t.val < 16 := t.isLt; omega

theorem index : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![t.val, 0] ∧ win0_7.index t = ![t.val, 0] ∧ win0_8.index t = ![t.val, 0] ∧ win0_9.index t = ![0, 0] := (by decide +kernel : ∀ t : Fin grid0.N, _)

theorem block0 (c : Dev nD) (t : Fin cfg0.N) : iblk m c 0 t = block 2816 t.val (rows_le t) (m (c.tc.loc main_arg0)) := by
  rw [← V_main_arg0 m c]
  funext y
  unfold block
  blk_ext [iblk, index]
theorem block1 (c : Dev nD) (t : Fin cfg0.N) : iblk m c 1 t = block 2816 t.val (rows_le t) (m (c.tc.loc main_arg1)) := by
  rw [← V_main_arg1 m c]
  funext y
  unfold block
  blk_ext [iblk, index]
theorem block2 (c : Dev nD) (t : Fin cfg0.N) : iblk m c 2 t = m (c.tc.loc main_arg2) := by
  rw [← V_main_arg2 m c]
  funext y
  blk_ext [iblk, index]
theorem block3 (c : Dev nD) (t : Fin cfg0.N) : iblk m c 3 t = block 1024 t.val (rows_le t) (m (c.tc.loc main_arg3)) := by
  rw [← V_main_arg3 m c]
  funext y
  unfold block
  blk_ext [iblk, index]
theorem block4 (c : Dev nD) (t : Fin cfg0.N) : iblk m c 4 t = m (c.tc.loc main_arg4) := by
  rw [← V_main_arg4 m c]
  funext y
  blk_ext [iblk, index]
theorem block5 (c : Dev nD) (t : Fin cfg0.N) : iblk m c 5 t = block 1024 t.val (rows_le t) (m (c.tc.loc main_arg5)) := by
  rw [← V_main_arg5 m c]
  funext y
  unfold block
  blk_ext [iblk, index]

end Any

/-! ## The arrays -/

variable (m : (ℓ : Loc nD τ sig) → Buf (Elt Ideal) ℓ)

/-- The gradient of the norm's output, of the input and of the gain, from the memory's arguments. -/
def dOf (c : Dev nD) : Fin 4096 → Fin 1024 → EReal :=
  back (p := 2816) (q := 2816) (m (c.tc.loc main_arg0)) (m (c.tc.loc main_arg1)) (m (c.tc.loc main_arg2))
def xGrad (c : Dev nD) : S4096x1024.Idx → EReal :=
  gradX (dOf m c) (m (c.tc.loc main_arg3)) (m (c.tc.loc main_arg4)) (m (c.tc.loc main_arg5))
def gGrad (c : Dev nD) : S1x1024.Idx → EReal := gradG (dOf m c) (m (c.tc.loc main_arg3))

/-- Row `i` of block `t`. -/
def rowOf (t : Fin cfg0.N) (i : Fin 256) : Fin 4096 := ⟨256 * t.val + i.val, by have h : t.val < 16 := t.isLt; omega⟩

theorem dx_at (c : Dev nD) (t : Fin cfg0.N) (i : Fin 256) (j : Fin 1024) :
    dxOf (iblk m c 0 t) (iblk m c 1 t) (iblk m c 2 t) (iblk m c 3 t) (iblk m c 4 t) (iblk m c 5 t) (ix2 i j) = xGrad m c (ix2 (rowOf t i) j) := by
  rw [dxOf_at, block0, block1, block2, block3, block4, block5]
  rfl

theorem dg_at (c : Dev nD) (t : Fin cfg0.N) (j : Fin 1024) :
    dgOf (iblk m c 0 t) (iblk m c 1 t) (iblk m c 2 t) (iblk m c 3 t) (ix2 0 j)
      = ∑ i : Fin 256, dgRow (rowAt (m (c.tc.loc main_arg3)) (rowOf t i)) (dOf m c (rowOf t i)) j := by
  rw [dgOf_at, block0, block1, block2, block3]
  rfl

/-- After point `n` the gain's gradient holds the parts of the points up to `n`. -/
theorem outs9 (c : Dev nD) (j : Fin 1024) : ∀ (n : ℕ) (h : n < cfg0.N), (outsAt0 m c n h).2.2 (ix2 (n0 := 1) 0 j)
    = ∑ t : Fin (n + 1), ∑ i : Fin 256, dgRow (rowAt (m (c.tc.loc main_arg3)) (rowOf ⟨t.val, by omega⟩ i)) (dOf m c (rowOf ⟨t.val, by omega⟩ i)) j
  | 0, h => by
    rw [outs9_first, Fin.sum_univ_one]
    exact dg_at m c ⟨0, h⟩ j
  | n + 1, h => by
    rw [outs9_next, Fin.sum_univ_castSucc]
    exact congrArg₂ (fun a b : EReal => a + b) (outs9 c j n (Nat.lt_of_succ_lt h)) (dg_at m c ⟨n + 1, h⟩ j)

theorem final7 (c : Dev nD) : (dats m 0 c).arrAt 7 cfg0.N = xGrad m c := by
  refine (dats m 0 c).arrAt_eq_of_covers 7 _ (by decide +kernel) fun t hf y => ?_
  blk_simp
  rw [after0_7, outs7]
  obtain ⟨i, j, rfl⟩ := pairOf (a := 256) (b := 1024) y
  refine (dx_at m c t i j).trans (congrArg (xGrad m c) ?_)
  funext a
  match a with
  | ⟨0, _⟩ => refine Fin.ext ?_; blk_simp [index]; show 256 * t.val + i.val = t.val * 256 + i.val; omega
  | ⟨1, _⟩ => refine Fin.ext ?_; blk_simp [index]

theorem final8 (c : Dev nD) : (dats m 0 c).arrAt 8 cfg0.N = xGrad m c := by
  refine (dats m 0 c).arrAt_eq_of_covers 8 _ (by decide +kernel) fun t hf y => ?_
  blk_simp
  rw [after0_8, outs8]
  obtain ⟨i, j, rfl⟩ := pairOf (a := 256) (b := 1024) y
  refine (dx_at m c t i j).trans (congrArg (xGrad m c) ?_)
  funext a
  match a with
  | ⟨0, _⟩ => refine Fin.ext ?_; blk_simp [index]; show 256 * t.val + i.val = t.val * 256 + i.val; omega
  | ⟨1, _⟩ => refine Fin.ext ?_; blk_simp [index]

theorem last : ∀ t : Fin cfg0.N, (cfg0.win 9).flush t = true → t.val = 15 := (by decide +kernel : ∀ t : Fin grid0.N, _)

theorem final9 (c : Dev nD) : (dats m 0 c).arrAt 9 cfg0.N = gGrad m c := by
  refine (dats m 0 c).arrAt_eq_of_covers 9 _ (by decide +kernel) fun t hf y => ?_
  have e := last t hf
  blk_simp
  rw [after0_9]
  obtain ⟨n, h⟩ := t
  obtain rfl : n = 15 := e
  obtain ⟨i, j, rfl⟩ := pairOf (a := 1) (b := 1024) y
  obtain rfl : i = 0 := Subsingleton.elim _ _
  refine (outs9 m c j 15 h).trans ((sum_rows fun r => dgRow (rowAt (m (c.tc.loc main_arg3)) r) (dOf m c r) j).trans ?_)
  refine congrArg (gGrad m c) (a₁ := ix2 (n0 := 1) (n1 := 1024) 0 j) ?_
  funext a
  match a with
  | ⟨0, _⟩ => exact Subsingleton.elim (α := Fin 1) _ _
  | ⟨1, _⟩ => refine Fin.ext ?_; blk_simp [index]; show j.val = 0 * 1024 + j.val; omega

theorem run_values (ρ : Dev nD → PrngReg) : θ_run defs (onTc (τ := τ) (main (F := Ideal))) ⟨m, fun _ => 0, ρ⟩ (fun r => ∀ c : Dev nD,
      r.2.mem (c.tc.loc main_v0_0) = xGrad m c
      ∧ r.2.mem (c.tc.loc main_v0_1) = xGrad m c
      ∧ r.2.mem (c.tc.loc main_v0_2) = gGrad m c
      ∧ Kept m r.2.mem c main_arg0
      ∧ Kept m r.2.mem c main_arg1
      ∧ Kept m r.2.mem c main_arg2
      ∧ Kept m r.2.mem c main_arg3
      ∧ Kept m r.2.mem c main_arg4
      ∧ Kept m r.2.mem c main_arg5
      ∧ Kept m r.2.mem c main_arg6) :=
  (θ_run defs _ _).mono (fun r h c => ⟨(h c).1.trans (final7 m c), (h c).2.1.trans (final8 m c), (h c).2.2.1.trans (final9 m c), (h c).2.2.2⟩)
    (Kernel3Ideal.Value.run_blocks m ρ)

end Cert.Dx3

end
-- ==== Proof.Dx3.Ref.lean ====
module

public import proofs.«01_k».proof.Proof.Gen.Reference3Ideal.Run
public import proofs.«01_k».proof.Proof.Dx.Ref

/-! The reference's three results, as the same functions of its arguments. -/

@[expose] public section

set_option maxRecDepth 16384

noncomputable section

namespace Cert.Dx3.Ref

open Dx Reference3Ideal Reference3Ideal.Gen
open Idealize.ShloMosaic TcCoe Idealize.SL.Sem

variable (a : S4096x2816.Idx → EReal) (b : S4096x2816.Idx → EReal) (w : S1024x5632.Idx → EReal)

/-- The product's gradient: its two parts side by side. -/
def both : FVec Ideal S4096x5632 .f32 := concatenate S4096x5632 1 [⟨S4096x2816, a⟩, ⟨S4096x2816, b⟩] concatenates_S4096x2816_S4096x2816_S4096x5632_d1

theorem both_left (i : Fin 4096) (k : Fin 2816) : both a b (ix2 (n0 := 4096) (n1 := 5632) i ⟨k.val, by omega⟩) = a (ix2 i k) := by
  unfold both
  exact concatenate_pair_apply_left (t := S4096x5632) (s₁ := S4096x2816) (s₂ := S4096x2816) _ _ _ _ _ rfl (ix2 i k)
    fun z => match z with | ⟨0, _⟩ => rfl | ⟨1, _⟩ => rfl
theorem both_right (i : Fin 4096) (k : Fin 2816) : both a b (ix2 (n0 := 4096) (n1 := 5632) i ⟨2816 + k.val, by omega⟩) = b (ix2 i k) := by
  unfold both
  exact concatenate_pair_apply_right (t := S4096x5632) (s₁ := S4096x2816) (s₂ := S4096x2816) _ _ _ _ _ rfl rfl (ix2 i k)
    (fun z h => match z, h with | ⟨0, _⟩, _ => rfl | ⟨1, _⟩, h => absurd rfl h) (by show k.val + 2816 = 2816 + k.val; omega)

def dh : FVec Ideal S4096x1024 .f32 := Host.dotGeneral (F := Ideal) (φ₁ := .f32) (φ₂ := .f32) dot_S4096x5632_S1024x5632_S4096x1024_1_1_0_0_n_n none (both a b) w

theorem dh_eq : rowAt (dh a b w) = back (p := 2816) (q := 2816) a b w := by
  funext i j
  show dh a b w (ix2 i j) = _
  unfold dh
  simp only [pointwise, zero_add]
  refine (Fin.sum_univ_add (a := 2816) (b := 2816) _).trans ?_
  refine congrArg₂ (fun a b : EReal => a + b) (Finset.sum_congr rfl fun k _ => ?_) (Finset.sum_congr rfl fun k _ => ?_)
  · exact congrArg (fun z : EReal => z * _) (both_left a b i k)
  · exact congrArg (fun z : EReal => z * _) (both_right a b i k)

section Run

variable (m : (ℓ : Loc nD τ sig) → Buf (Elt Ideal) ℓ)

def dOf (c : Dev nD) : Fin 4096 → Fin 1024 → EReal :=
  back (p := 2816) (q := 2816) (m (c.tc.loc main_arg0)) (m (c.tc.loc main_arg1)) (m (c.tc.loc main_arg2))
def xGrad (c : Dev nD) : S4096x1024.Idx → EReal :=
  gradX (dOf m c) (m (c.tc.loc main_arg3)) (m (c.tc.loc main_arg4)) (m (c.tc.loc main_arg5))
def gGrad (c : Dev nD) : S1x1024.Idx → EReal := gradG (dOf m c) (m (c.tc.loc main_arg3))

theorem run_values (ρ : Dev nD → PrngReg) : θ_run defs (onTc (τ := τ) (main (F := Ideal))) ⟨m, fun _ => 0, ρ⟩ (fun r => ∀ c : Dev nD,
      r.2.mem (c.tc.loc main_v40) = xGrad m c
      ∧ r.2.mem (c.tc.loc main_v41) = xGrad m c
      ∧ r.2.mem (c.tc.loc main_v23) = gGrad m c
      ∧ Kept m r.2.mem c main_arg0
      ∧ Kept m r.2.mem c main_arg1
      ∧ Kept m r.2.mem c main_arg2
      ∧ Kept m r.2.mem c main_arg3
      ∧ Kept m r.2.mem c main_arg4
      ∧ Kept m r.2.mem c main_arg5
      ∧ Kept m r.2.mem c main_arg6) :=
  (θ_run defs _ _).mono (fun r h c => ⟨(h c).1.trans (Dx.Ref.resX_eq _ _ _ _ (dh_eq _ _ _)), (h c).2.1.trans (Dx.Ref.resX_eq _ _ _ _ (dh_eq _ _ _)), (h c).2.2.1.trans (Dx.Ref.resG_eq _ _ (dh_eq _ _ _)), (h c).2.2.2⟩)
    (Value.run m ρ)

end Run

end Cert.Dx3.Ref

end
-- ==== Proof.Mm.FfnInDw.lean ====
module

public import proofs.«01_k».proof.Proof.Gen.Kernel4Ideal.Value
public import proofs.«01_k».proof.Proof.Gen.Reference4Ideal.Run
public import proofs.«01_k».proof.Proof.Mm.Prod

/-! The gradient of the input weights of the FFN: the kernel's four column blocks, two from the first array and two
    from the second, each over two points that add up half of the rows, and the reference's one product. -/

@[expose] public section

set_option maxRecDepth 16384

noncomputable section

namespace Cert.Mm.FfnInDw

open Kernel4Ideal Kernel4Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![0, t.val % 2] ∧ win0_1.index t = ![t.val % 2, min (t.val / 2) 1] ∧ win0_2.index t = ![t.val % 2, t.val / 2 - 2] ∧ win0_3.index t = ![t.val / 2, 0, 0] := (by decide +kernel : ∀ t : Fin grid0.N, _)

/-- Row `k` of the rows of point `t`. -/
def rowOf (t : Fin cfg0.N) (k : Fin 2048) : Fin 4096 := ⟨2048 * (t.val % 2) + k.val, by omega⟩

theorem block0 (c : Dev nD) (t : Fin cfg0.N) (i : Fin 1024) (k : Fin 2048) :
    iblk m c 0 t (ix2 i k) = m (c.tc.loc main_arg0) (ix2 i (rowOf t k)) := by
  rw [← V_main_arg0 m c]
  unfold rowOf
  blk_ext [iblk, index]
theorem block1 (c : Dev nD) (t : Fin cfg0.N) (k : Fin 2048) (j : Fin 1408) :
    iblk m c 1 t (ix2 k j) = m (c.tc.loc main_arg1) (ix2 (n0 := 4096) (n1 := 2816) (rowOf t k) ⟨1408 * min (t.val / 2) 1 + j.val, by omega⟩) := by
  rw [← V_main_arg1 m c]
  unfold rowOf
  blk_ext [iblk, index]
theorem block2 (c : Dev nD) (t : Fin cfg0.N) (k : Fin 2048) (j : Fin 1408) :
    iblk m c 2 t (ix2 k j) = m (c.tc.loc main_arg2) (ix2 (n0 := 4096) (n1 := 2816) (rowOf t k) ⟨1408 * (t.val / 2 - 2) + j.val, by have h : t.val < 8 := t.isLt; omega⟩) := by
  rw [← V_main_arg2 m c]
  unfold rowOf
  blk_ext [iblk, index]

/-- The product of a point's rows. -/
def term (c : Dev nD) (t : Fin cfg0.N) : Vec F S1024x1408 .f32 := if t.val < 4 then k0_pay2 (iblk m c 0 t) (iblk m c 1 t) else k0_pay6 (iblk m c 0 t) (iblk m c 2 t)

/-- A first point leaves its product in the scratch; -/
theorem scratch_even (c : Dev nD) (t : Fin cfg0.N) (h : t.val % 2 = 0) : (outsAt0 m c t.val t.isLt).2 = term m c t := by
  by_cases h0 : t.val < 4
  · rw [outsAt0_A m c t h0 h (by omega) (by omega), term, if_pos h0]
    dsimp only
    unfold sout0_A_0
    refine (View.read_writes_eq_canon _ _ _ (scover0_A_0 c _ _ _ _ _ _ _ _ _ _ _ _ _ _ _ _ _ _ _)).trans ?_
    unfold kernelRun0_A
    dsimp only
    sl_unfold_words
    rw [View.canon_unit_zero hz]
    simp only [View.readAt_eq_ld, (hs0_0 t).read_unread, (hs0_1 t).read_unread, View.ld_unit_zero (S := S1024x2048) hz, View.ld_unit_zero (S := S2048x1408) hz]
  · rw [outsAt0_C m c t h0 (by omega) h (by omega), term, if_neg h0]
    dsimp only
    unfold sout0_C_0
    refine (View.read_writes_eq_canon _ _ _ (scover0_C_0 c _ _ _ _ _ _ _ _ _ _ _ _ _ _ _ _ _ _ _)).trans ?_
    unfold kernelRun0_C
    dsimp only
    sl_unfold_words
    rw [View.canon_unit_zero hz]
    simp only [View.readAt_eq_ld, (hs0_0 t).read_unread, (hs0_2 t).read_unread, View.ld_unit_zero (S := S1024x2048) hz, View.ld_unit_zero (S := S2048x1408) hz]

/-- The sum of an array and a point's product, as it is stored. -/
def last (c : Dev nD) (t : Fin cfg0.N) (v : Vec F S1024x1408 .f32) : Vec F S1x1024x1408 .bf16 :=
  if t.val < 4 then k0_pay4 (iblk m c 0 t) (iblk m c 1 t) v else k0_pay8 (iblk m c 0 t) (iblk m c 2 t) v

/-- a second one leaves the sum of the scratch and its own in the output's block. -/
theorem out_odd (c : Dev nD) (t : Fin cfg0.N) (h : t.val % 2 = 1) :
    (outsAt0 m c t.val t.isLt).1 = last m c t (outsAt0 m c (t.val - 1) (Nat.lt_of_le_of_lt (Nat.sub_le _ _) t.isLt)).2 := by
  by_cases h0 : t.val < 4
  · rw [outsAt0_B m c t h0 (by omega) h (by omega), last, if_pos h0]
    dsimp only
    unfold out0_B_3
    refine (View.read_writes_eq_canon _ _ _ (cover0_B_3 c _ _ _ _ _ _ _ _ _ _ _ _ _ _ _ _ _ _ _ _)).trans ?_
    unfold kernelRun0_B
    dsimp only
    sl_unfold_words
    rw [View.canon_unit_zero hz3]
    simp only [View.readAt_eq_ld, (hs0_0 t).read_unread, (hs0_1 t).read_unread, (Memref.isWhole_whole _).read_unread, View.ld_unit_zero (S := S1024x2048) hz, View.ld_unit_zero (S := S2048x1408) hz, View.ld_unit_zero (S := S1024x1408) hz]
  · rw [outsAt0_D m c t h0 (by omega) (by omega) h, last, if_neg h0]
    dsimp only
    unfold out0_D_3
    refine (View.read_writes_eq_canon _ _ _ (cover0_D_3 c _ _ _ _ _ _ _ _ _ _ _ _ _ _ _ _ _ _ _ _)).trans ?_
    unfold kernelRun0_D
    dsimp only
    sl_unfold_words
    rw [View.canon_unit_zero hz3]
    simp only [View.readAt_eq_ld, (hs0_0 t).read_unread, (hs0_2 t).read_unread, (Memref.isWhole_whole _).read_unread, View.ld_unit_zero (S := S1024x2048) hz, View.ld_unit_zero (S := S2048x1408) hz, View.ld_unit_zero (S := S1024x1408) hz]

end Any

variable (m : (ℓ : Loc nD τ sig) → Buf (Elt Ideal) ℓ)

theorem pay_at (x : Vec Ideal S1024x2048 .bf16) (w : Vec Ideal S2048x1408 .bf16) (i : Fin 1024) (j : Fin 1408) :
    k0_pay2 x w (ix2 i j) = ∑ k : Fin 2048, x (ix2 i k) * w (ix2 k j) := by
  simp only [k0_pay2, k0_pay1, pointwise, zero_add]
theorem last_at (c : Dev nD) (t : Fin cfg0.N) (v : Vec Ideal S1024x1408 .f32) (s : Fin 1) (i : Fin 1024) (j : Fin 1408) :
    (last m c t v : S1x1024x1408.Idx → EReal) (ix3 s i j) = v (ix2 i j) + term m c t (ix2 i j) := by
  unfold last term
  by_cases h0 : t.val < 4
  · rw [if_pos h0, if_pos h0]
    simp only [k0_pay4, k0_pay2, pointwise]
  · rw [if_neg h0, if_neg h0]
    simp only [k0_pay8, k0_pay6, pointwise]
theorem pay_same (x : Vec Ideal S1024x2048 .bf16) (w : Vec Ideal S2048x1408 .bf16) : k0_pay6 x w = k0_pay2 x w := rfl

/-- One summand of the whole, at column `j` of the column block of point `t`. -/
def summand (c : Dev nD) (b : ℕ) (i : Fin 1024) (j : Fin 1408) (r : Fin 4096) : EReal :=
  HMul.hMul (α := EReal) (β := EReal) (m (c.tc.loc main_arg0) (ix2 i r)) (joined (m (c.tc.loc main_arg1)) (m (c.tc.loc main_arg2)) r (b * 1408 + j.val))

theorem term_at (c : Dev nD) (t : Fin cfg0.N) (i : Fin 1024) (j : Fin 1408) :
    (term m c t : S1024x1408.Idx → EReal) (ix2 i j) = ∑ k : Fin 2048, summand m c (t.val / 2) i j (rowOf t k) := by
  have ht : t.val < 8 := t.isLt
  unfold term summand
  by_cases h0 : t.val < 4
  · rw [if_pos h0, pay_at]
    refine Finset.sum_congr rfl fun k _ => congrArg₂ (fun a b : EReal => a * b) (block0 m c t i k) ?_
    refine (block1 m c t k j).trans ((joined_left _ _ (rowOf t k) (t.val / 2 * 1408 + j.val) (by omega)).trans (congrArg _ ?_)).symm
    exact congrArg (ix2 (n0 := 4096) (n1 := 2816) (rowOf t k)) (Fin.ext (by show t.val / 2 * 1408 + j.val = 1408 * min (t.val / 2) 1 + j.val; omega))
  · rw [if_neg h0, pay_same, pay_at]
    refine Finset.sum_congr rfl fun k _ => congrArg₂ (fun a b : EReal => a * b) (block0 m c t i k) ?_
    refine (block2 m c t k j).trans ((joined_right _ _ (rowOf t k) (t.val / 2 * 1408 + j.val) (by omega) (by omega)).trans (congrArg _ ?_)).symm
    exact congrArg (ix2 (n0 := 4096) (n1 := 2816) (rowOf t k)) (Fin.ext (by show t.val / 2 * 1408 + j.val - 2816 = 1408 * (t.val / 2 - 2) + j.val; omega))

/-- What a second point leaves: its slot of the whole. -/
theorem out_at (c : Dev nD) (t : Fin cfg0.N) (h : t.val % 2 = 1) (s : Fin 1) (i : Fin 1024) (j : Fin 1408) :
    ((outsAt0 m c t.val t.isLt).1 : S1x1024x1408.Idx → EReal) (ix3 s i j) = ∑ r : Fin 4096, summand m c (t.val / 2) i j r := by
  have ht : t.val < 8 := t.isLt
  have hb : t.val - 1 < cfg0.N := Nat.lt_of_le_of_lt (Nat.sub_le _ _) t.isLt
  rw [out_odd m c t h, scratch_even m c ⟨t.val - 1, hb⟩ (by show (t.val - 1) % 2 = 0; omega)]
  refine (last_at m c t _ s i j).trans ((congrArg₂ (fun a b : EReal => a + b) (term_at m c ⟨t.val - 1, hb⟩ i j) (term_at m c t i j)).trans ?_)
  refine Eq.trans ?_ (Fin.sum_univ_add (a := 2048) (b := 2048) (summand m c (t.val / 2) i j)).symm
  refine congrArg₂ (fun a b : EReal => a + b) (Finset.sum_congr rfl fun k _ => ?_) (Finset.sum_congr rfl fun k _ => ?_)
  · refine congrArg₂ (fun b r => summand m c b i j r) (by show (t.val - 1) / 2 = t.val / 2; omega) (Fin.ext ?_)
    show 2048 * ((t.val - 1) % 2) + k.val = k.val
    omega
  · refine congrArg (summand m c (t.val / 2) i j) (Fin.ext ?_)
    show 2048 * (t.val % 2) + k.val = 2048 + k.val
    omega

theorem flush_odd : ∀ t : Fin cfg0.N, (cfg0.win 3).flush t = true → t.val % 2 = 1 := (by decide +kernel : ∀ t : Fin grid0.N, _)

/-- The array the kernel ends with. -/
theorem final (c : Dev nD) : (dats m 0 c).arrAt 3 cfg0.N
    = slots (s := 4) (n := 1408) (m (c.tc.loc main_arg0)) (m (c.tc.loc main_arg1)) (m (c.tc.loc main_arg2)) := by
  refine (dats m 0 c).arrAt_eq_of_covers 3 _ (by decide +kernel) fun t hf y => ?_
  have ht : t.val < 8 := t.isLt
  have h := flush_odd t hf
  blk_simp
  rw [after0_3]
  obtain ⟨s, i, j, rfl⟩ := tripleOf (a := 1) (b := 1024) (n := 1408) y
  rw [out_at m c t h]
  refine congrArg (slots (s := 4) (n := 1408) (m (c.tc.loc main_arg0)) (m (c.tc.loc main_arg1)) (m (c.tc.loc main_arg2)))
    (a₁ := ix3 (n0 := 4) (n1 := 1024) (n2 := 1408) ⟨t.val / 2, by omega⟩ i j) ?_
  funext a
  match a with
  | ⟨0, _⟩ => refine Fin.ext ?_; blk_simp [index]
  | ⟨1, _⟩ => refine Fin.ext ?_; blk_simp [index]
  | ⟨2, _⟩ => refine Fin.ext ?_; blk_simp [index]

theorem run_values (ρ : Dev nD → PrngReg) : θ_run defs (onTc (τ := τ) (main (F := Ideal))) ⟨m, fun _ => 0, ρ⟩ (fun r => ∀ c : Dev nD,
      r.2.mem (c.tc.loc main_v0) = slots (s := 4) (n := 1408) (m (c.tc.loc main_arg0)) (m (c.tc.loc main_arg1)) (m (c.tc.loc main_arg2))
      ∧ Kept m r.2.mem c main_arg0
      ∧ Kept m r.2.mem c main_arg1
      ∧ Kept m r.2.mem c main_arg2) :=
  (θ_run defs _ _).mono (fun r h c => ⟨(h c).1.trans (final m c), (h c).2⟩) (Kernel4Ideal.Value.run_blocks m ρ)

end Cert.Mm.FfnInDw

namespace Cert.Mm.FfnInDw.Ref

open Reference4Ideal Reference4Ideal.Gen
open Idealize.ShloMosaic TcCoe Idealize.SL.Sem

variable (x : S1024x4096.Idx → EReal) (d : S4096x2816.Idx → EReal) (e : S4096x2816.Idx → EReal)

/-- The two arrays side by side. -/
def both : FVec Ideal S4096x5632 .bf16 := concatenate S4096x5632 1 [⟨S4096x2816, d⟩, ⟨S4096x2816, e⟩] concatenates_S4096x2816_S4096x2816_S4096x5632_d1

theorem both_at (r : Fin 4096) (k : Fin 5632) : both d e (ix2 r k) = joined d e r k.val := by
  by_cases h : k.val < 2816
  · rw [joined_left _ _ _ _ h]
    unfold both
    exact concatenate_pair_apply_left (t := S4096x5632) (s₁ := S4096x2816) (s₂ := S4096x2816) _ _ _ _ _ rfl (ix2 r ⟨k.val, h⟩)
      fun z => match z with | ⟨0, _⟩ => rfl | ⟨1, _⟩ => rfl
  · rw [joined_right _ _ _ _ h (by omega)]
    unfold both
    exact concatenate_pair_apply_right (t := S4096x5632) (s₁ := S4096x2816) (s₂ := S4096x2816) _ _ _ _ _ rfl rfl (ix2 r ⟨k.val - 2816, by omega⟩)
      (fun z h => match z, h with | ⟨0, _⟩, _ => rfl | ⟨1, _⟩, h => absurd rfl h) (by show k.val - 2816 + 2816 = k.val; omega)

/-- The gradient of the weights, columns by rows. -/
def dwt : FVec Ideal S5632x1024 .f32 :=
  Host.dotGeneral (F := Ideal) (φ₁ := .f32) (φ₂ := .f32) dot_S4096x5632_S4096x1024_S5632x1024_0_0_1_1_n_n none (extf .f32 (both d e) bitsLt_bf16_f32)
    (extf .f32 (transpose (α := Ideal .bf16) S4096x1024 [1, 0] x transposes_S1024x4096_S4096x1024_1_0) bitsLt_bf16_f32)

theorem dwt_at (k : Fin 5632) (i : Fin 1024) : dwt x d e (ix2 k i) = ∑ r : Fin 4096, x (ix2 i r) * joined d e r k.val := by
  unfold dwt
  simp only [pointwise, zero_add]
  exact Finset.sum_congr rfl fun r _ => (mul_comm _ _).trans (congrArg (fun z : EReal => _ * z) (both_at d e r k))

theorem product_eq :
    (transpose S4x1024x1408 [1, 0, 2] (shapeCast _ (truncf .bf16 (transpose S1024x5632 [1, 0] (dwt x d e) transposes_S5632x1024_S1024x5632_1_0) bitsLt_bf16_f32)
      shapeCasts_S1024x5632_S1024x4x1408) transposes_S1024x4x1408_S4x1024x1408_1_0_2 : FVec Ideal S4x1024x1408 .bf16) = slots x d e := by
  funext y
  obtain ⟨s, i, j, rfl⟩ := tripleOf (a := 4) (b := 1024) (n := 1408) y
  simp only [pointwise, dwt_at]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v10) = slots (s := 4) (n := 1408) (m (c.tc.loc main_arg0)) (m (c.tc.loc main_arg1)) (m (c.tc.loc main_arg2))
      ∧ Kept m r.2.mem c main_arg0
      ∧ Kept m r.2.mem c main_arg1
      ∧ Kept m r.2.mem c main_arg2) :=
  (θ_run defs _ _).mono (fun r h c => ⟨(h c).1.trans (product_eq _ _ _), (h c).2⟩) (Value.run m ρ)

end Cert.Mm.FfnInDw.Ref

end
-- ==== Proof.Mm.RetInDw.lean ====
module

public import proofs.«01_k».proof.Proof.Gen.Kernel5Ideal.Value
public import proofs.«01_k».proof.Proof.Gen.Reference5Ideal.Run
public import proofs.«01_k».proof.Proof.Mm.Prod

/-! The gradient of the input weights of the retention block: the kernel's twelve column blocks, eight from the first
    array and four from the second, and the reference's one product. -/

@[expose] public section

set_option maxRecDepth 16384

noncomputable section

namespace Cert.Mm.RetInDw

open Kernel5Ideal Kernel5Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![0, 0] ∧ win0_1.index t = ![0, min t.val 7] ∧ win0_2.index t = ![0, t.val - 8] ∧ win0_4.index t = ![t.val / 3, 0, t.val % 3] := (by decide +kernel : ∀ t : Fin grid0.N, _)

theorem block0 (c : Dev nD) (t : Fin cfg0.N) : iblk m c 0 t = m (c.tc.loc main_arg0) := by
  rw [← V_main_arg0 m c]
  funext y
  blk_ext [iblk, index]
theorem block1 (c : Dev nD) (t : Fin cfg0.N) (k : Fin 4096) (j : Fin 512) :
    iblk m c 1 t (ix2 k j) = m (c.tc.loc main_arg1) (ix2 (n0 := 4096) (n1 := 4096) k ⟨512 * min t.val 7 + j.val, by omega⟩) := by
  rw [← V_main_arg1 m c]
  blk_ext [iblk, index]
theorem block2 (c : Dev nD) (t : Fin cfg0.N) (k : Fin 4096) (j : Fin 512) :
    iblk m c 2 t (ix2 k j) = m (c.tc.loc main_arg2) (ix2 (n0 := 4096) (n1 := 2048) k ⟨512 * (t.val - 8) + j.val, by have h : t.val < 12 := t.isLt; omega⟩) := by
  rw [← V_main_arg2 m c]
  blk_ext [iblk, index]

theorem out_first (c : Dev nD) (t : Fin cfg0.N) (h0 : t.val < 8) : outsAt0 m c t.val t.isLt = k0_pay1 (iblk m c 0 t) (iblk m c 1 t) := by
  rw [outsAt0_A m c t h0 (by omega)]
  unfold out0_A_4
  refine (View.read_writes_eq_canon _ _ _ (cover0_A_4 c _ _ _ _ _ _ _ _ _ _ _ _ _ _ _ _ _)).trans ?_
  unfold kernelRun0_A
  dsimp only
  sl_unfold_words
  rw [View.canon_unit_zero hz3]
  simp only [View.readAt_eq_ld, (hs0_0 t).read_unread, (hs0_1 t).read_unread, View.ld_unit_zero (S := S1024x4096) hz, View.ld_unit_zero (S := S4096x512) hz]
theorem out_second (c : Dev nD) (t : Fin cfg0.N) (h0 : ¬ t.val < 8) : outsAt0 m c t.val t.isLt = k0_pay2 (iblk m c 0 t) (iblk m c 2 t) := by
  rw [outsAt0_B m c t h0 (by omega)]
  unfold out0_B_4
  refine (View.read_writes_eq_canon _ _ _ (cover0_B_4 c _ _ _ _ _ _ _ _ _ _ _ _ _ _ _ _ _)).trans ?_
  unfold kernelRun0_B
  dsimp only
  sl_unfold_words
  rw [View.canon_unit_zero hz3]
  simp only [View.readAt_eq_ld, (hs0_0 t).read_unread, (hs0_2 t).read_unread, View.ld_unit_zero (S := S1024x4096) hz, View.ld_unit_zero (S := S4096x512) hz]

end Any

variable (m : (ℓ : Loc nD τ sig) → Buf (Elt Ideal) ℓ)

theorem pay_at (x : Vec Ideal S1024x4096 .bf16) (w : Vec Ideal S4096x512 .bf16) (s : Fin 1) (i : Fin 1024) (j : Fin 512) :
    k0_pay1 x w (ix3 s i j) = ∑ k : Fin 4096, x (ix2 i k) * w (ix2 k j) := by
  simp only [k0_pay1, pointwise, zero_add]
theorem pay_same (x : Vec Ideal S1024x4096 .bf16) (w : Vec Ideal S4096x512 .bf16) : k0_pay2 x w = k0_pay1 x w := rfl

/-- What point `t` leaves: its block of the columns of the whole. -/
theorem out_at (c : Dev nD) (t : Fin cfg0.N) (s : Fin 1) (i : Fin 1024) (j : Fin 512) :
    (outsAt0 m c t.val t.isLt : S1x1024x512.Idx → EReal) (ix3 s i j)
      = slots (s := 12) (n := 512) (m (c.tc.loc main_arg0)) (m (c.tc.loc main_arg1)) (m (c.tc.loc main_arg2)) (ix3 (n0 := 12) ⟨t.val, t.isLt⟩ i j) := by
  have ht : t.val < 12 := t.isLt
  by_cases h0 : t.val < 8
  · rw [out_first m c t h0, pay_at, block0]
    refine Finset.sum_congr rfl fun r _ => congrArg (fun z : EReal => _ * z) ?_
    refine (block1 m c t r j).trans ((joined_left _ _ r (t.val * 512 + j.val) (by omega)).trans (congrArg _ ?_)).symm
    exact congrArg (ix2 (n0 := 4096) (n1 := 4096) r) (Fin.ext (by show t.val * 512 + j.val = 512 * min t.val 7 + j.val; omega))
  · rw [out_second m c t h0, pay_same, pay_at, block0]
    refine Finset.sum_congr rfl fun r _ => congrArg (fun z : EReal => _ * z) ?_
    refine (block2 m c t r j).trans ((joined_right _ _ r (t.val * 512 + j.val) (by omega) (by omega)).trans (congrArg _ ?_)).symm
    exact congrArg (ix2 (n0 := 4096) (n1 := 2048) r) (Fin.ext (by show t.val * 512 + j.val - 4096 = 512 * (t.val - 8) + j.val; omega))

/-- The array the kernel ends with. -/
theorem final (c : Dev nD) : (dats m 0 c).arrAt 4 cfg0.N
    = slots (s := 4) (n := 1536) (m (c.tc.loc main_arg0)) (m (c.tc.loc main_arg1)) (m (c.tc.loc main_arg2)) := by
  refine (dats m 0 c).arrAt_eq_of_covers 4 _ (by decide +kernel) fun t hf y => ?_
  have ht : t.val < 12 := t.isLt
  blk_simp
  rw [after0_4]
  obtain ⟨s, i, j, rfl⟩ := tripleOf (a := 1) (b := 1024) (n := 512) y
  rw [out_at]
  refine Eq.trans (b := slots (s := 4) (n := 1536) (m (c.tc.loc main_arg0)) (m (c.tc.loc main_arg1)) (m (c.tc.loc main_arg2))
    (ix3 (n0 := 4) (n1 := 1024) (n2 := 1536) ⟨t.val / 3, by omega⟩ i ⟨512 * (t.val % 3) + j.val, by omega⟩)) ?_ (congrArg _ ?_)
  · refine Finset.sum_congr rfl fun r _ => congrArg (fun z : EReal => _ * z) (congrArg (joined _ _ r) ?_)
    show t.val * 512 + j.val = t.val / 3 * 1536 + (512 * (t.val % 3) + j.val)
    omega
  · funext a
    match a with
    | ⟨0, _⟩ => refine Fin.ext ?_; blk_simp [index]
    | ⟨1, _⟩ => refine Fin.ext ?_; blk_simp [index]
    | ⟨2, _⟩ => refine Fin.ext ?_; blk_simp [index]; show 512 * (t.val % 3) + j.val = t.val % 3 * 512 + j.val; omega

theorem run_values (ρ : Dev nD → PrngReg) : θ_run defs (onTc (τ := τ) (main (F := Ideal))) ⟨m, fun _ => 0, ρ⟩ (fun r => ∀ c : Dev nD,
      r.2.mem (c.tc.loc main_v0) = slots (s := 4) (n := 1536) (m (c.tc.loc main_arg0)) (m (c.tc.loc main_arg1)) (m (c.tc.loc main_arg2))
      ∧ Kept m r.2.mem c main_arg0
      ∧ Kept m r.2.mem c main_arg1
      ∧ Kept m r.2.mem c main_arg2
      ∧ Kept m r.2.mem c main_arg3) :=
  (θ_run defs _ _).mono (fun r h c => ⟨(h c).1.trans (final m c), (h c).2⟩) (Kernel5Ideal.Value.run_blocks m ρ)

end Cert.Mm.RetInDw

namespace Cert.Mm.RetInDw.Ref

open Reference5Ideal Reference5Ideal.Gen
open Idealize.ShloMosaic TcCoe Idealize.SL.Sem

variable (x : S1024x4096.Idx → EReal) (d : S4096x4096.Idx → EReal) (e : S4096x2048.Idx → EReal)

/-- The two arrays side by side. -/
def both : FVec Ideal S4096x6144 .bf16 := concatenate S4096x6144 1 [⟨S4096x4096, d⟩, ⟨S4096x2048, e⟩] concatenates_S4096x4096_S4096x2048_S4096x6144_d1

theorem both_at (r : Fin 4096) (k : Fin 6144) : both d e (ix2 r k) = joined d e r k.val := by
  by_cases h : k.val < 4096
  · rw [joined_left _ _ _ _ h]
    unfold both
    exact concatenate_pair_apply_left (t := S4096x6144) (s₁ := S4096x4096) (s₂ := S4096x2048) _ _ _ _ _ rfl (ix2 r ⟨k.val, h⟩)
      fun z => match z with | ⟨0, _⟩ => rfl | ⟨1, _⟩ => rfl
  · rw [joined_right _ _ _ _ h (by omega)]
    unfold both
    exact concatenate_pair_apply_right (t := S4096x6144) (s₁ := S4096x4096) (s₂ := S4096x2048) _ _ _ _ _ rfl rfl (ix2 r ⟨k.val - 4096, by omega⟩)
      (fun z h => match z, h with | ⟨0, _⟩, _ => rfl | ⟨1, _⟩, h => absurd rfl h) (by show k.val - 4096 + 4096 = k.val; omega)

/-- The gradient of the weights, columns by rows. -/
def dwt : FVec Ideal S6144x1024 .f32 :=
  Host.dotGeneral (F := Ideal) (φ₁ := .f32) (φ₂ := .f32) dot_S4096x6144_S4096x1024_S6144x1024_0_0_1_1_n_n none (extf .f32 (both d e) bitsLt_bf16_f32)
    (extf .f32 (transpose (α := Ideal .bf16) S4096x1024 [1, 0] x transposes_S1024x4096_S4096x1024_1_0) bitsLt_bf16_f32)

theorem dwt_at (k : Fin 6144) (i : Fin 1024) : dwt x d e (ix2 k i) = ∑ r : Fin 4096, x (ix2 i r) * joined d e r k.val := by
  unfold dwt
  simp only [pointwise, zero_add]
  exact Finset.sum_congr rfl fun r _ => (mul_comm _ _).trans (congrArg (fun z : EReal => _ * z) (both_at d e r k))

theorem product_eq :
    (transpose S4x1024x1536 [1, 0, 2] (shapeCast _ (truncf .bf16 (transpose S1024x6144 [1, 0] (dwt x d e) transposes_S6144x1024_S1024x6144_1_0) bitsLt_bf16_f32)
      shapeCasts_S1024x6144_S1024x4x1536) transposes_S1024x4x1536_S4x1024x1536_1_0_2 : FVec Ideal S4x1024x1536 .bf16) = slots x d e := by
  funext y
  obtain ⟨s, i, j, rfl⟩ := tripleOf (a := 4) (b := 1024) (n := 1536) y
  simp only [pointwise, dwt_at]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v10) = slots (s := 4) (n := 1536) (m (c.tc.loc main_arg0)) (m (c.tc.loc main_arg1)) (m (c.tc.loc main_arg2))
      ∧ Kept m r.2.mem c main_arg0
      ∧ Kept m r.2.mem c main_arg1
      ∧ Kept m r.2.mem c main_arg2
      ∧ Kept m r.2.mem c main_arg3) :=
  (θ_run defs _ _).mono (fun r h c => ⟨(h c).1.trans (product_eq _ _ _), (h c).2⟩) (Value.run m ρ)

end Cert.Mm.RetInDw.Ref

end
-- ==== Proof.Mm.OutDx.lean ====
module

public import proofs.«01_k».proof.Proof.Gen.Kernel6Ideal.Value
public import proofs.«01_k».proof.Proof.Gen.Reference6Ideal.Run
public import proofs.«01_k».proof.Proof.Mm.Prod

/-! The gradient that a product with the output weights of the FFN passes back: the kernel's four row blocks and the
    reference's one product. -/

@[expose] public section

set_option maxRecDepth 16384

noncomputable section

namespace Cert.Mm.OutDx

open Kernel6Ideal Kernel6Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val, 0] ∧ win0_1.index t = ![0, 0] ∧ win0_2.index t = ![t.val, 0] := (by decide +kernel : ∀ t : Fin grid0.N, _)

/-- Row `i` of row block `t`. -/
def rowOf (t : Fin cfg0.N) (i : Fin 1024) : Fin 4096 := ⟨1024 * t.val + i.val, by have h : t.val < 4 := t.isLt; omega⟩

theorem block0 (c : Dev nD) (t : Fin cfg0.N) (i k : Fin 1024) : iblk m c 0 t (ix2 i k) = m (c.tc.loc main_arg0) (ix2 (rowOf t i) k) := by
  rw [← V_main_arg0 m c]
  unfold rowOf
  blk_ext [iblk, index]
theorem block1 (c : Dev nD) (t : Fin cfg0.N) : iblk m c 1 t = m (c.tc.loc main_arg1) := by
  rw [← V_main_arg1 m c]
  funext y
  blk_ext [iblk, index]

theorem out_eq (x : Vec F S1024x1024 .bf16) (w : Vec F S2816x1024 .bf16) : out0_2 x w = k0_pay1 x w := by
  unfold out0_2
  rw [View.canon_unit_zero hz, View.ld_unit_zero (S := S1024x1024) hz, View.ld_unit_zero (S := S2816x1024) hz]

end Any

variable (m : (ℓ : Loc nD τ sig) → Buf (Elt Ideal) ℓ)

theorem pay_at (x : Vec Ideal S1024x1024 .bf16) (w : Vec Ideal S2816x1024 .bf16) (i : Fin 1024) (j : Fin 2816) :
    k0_pay1 x w (ix2 i j) = ∑ k : Fin 1024, x (ix2 i k) * w (ix2 j k) := by
  simp only [k0_pay1, pointwise, zero_add]

/-- The array the kernel ends with. -/
theorem final (c : Dev nD) : (dats m 0 c).arrAt 2 cfg0.N = rows (m (c.tc.loc main_arg0)) (m (c.tc.loc main_arg1)) := by
  refine (dats m 0 c).arrAt_eq_of_covers 2 _ (by decide +kernel) fun t hf y => ?_
  blk_simp
  rw [after0_2, out_eq]
  obtain ⟨i, j, rfl⟩ := Dx.pairOf (a := 1024) (b := 2816) y
  rw [pay_at, block1]
  simp only [block0]
  refine congrArg (rows (m (c.tc.loc main_arg0)) (m (c.tc.loc main_arg1))) (a₁ := ix2 (rowOf t i) j) ?_
  funext a
  match a with
  | ⟨0, _⟩ => refine Fin.ext ?_; blk_simp [index]; show 1024 * t.val + i.val = t.val * 1024 + i.val; omega
  | ⟨1, _⟩ => refine Fin.ext ?_; blk_simp [index]

theorem run_values (ρ : Dev nD → PrngReg) : θ_run defs (onTc (τ := τ) (main (F := Ideal))) ⟨m, fun _ => 0, ρ⟩ (fun r => ∀ c : Dev nD,
      r.2.mem (c.tc.loc main_v0) = rows (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel6Ideal.Value.run_blocks m ρ)

end Cert.Mm.OutDx

namespace Cert.Mm.OutDx.Ref

open Reference6Ideal Reference6Ideal.Gen
open Idealize.ShloMosaic TcCoe Idealize.SL.Sem

theorem product_eq (x : S4096x1024.Idx → EReal) (w : S2816x1024.Idx → EReal) :
    (Host.dotGeneral (F := Ideal) (φ₁ := .f32) (φ₂ := .f32) dot_S4096x1024_S2816x1024_S4096x2816_1_1_0_0_n_n none x w : FVec Ideal S4096x2816 .f32) = rows x w := by
  funext y
  obtain ⟨i, j, rfl⟩ := Dx.pairOf (a := 4096) (b := 2816) y
  simp only [pointwise, zero_add]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v4) = rows (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.OutDx.Ref

end
-- ==== Proof.Mm.OutDw.lean ====
module

public import proofs.«01_k».proof.Proof.Gen.Kernel7Ideal.Value
public import proofs.«01_k».proof.Proof.Gen.Reference7Ideal.Run
public import proofs.«01_k».proof.Proof.Mm.Prod

/-! The gradient of the output weights of the FFN: the kernel's two by two blocks and the reference's one product. -/

@[expose] public section

set_option maxRecDepth 16384

noncomputable section

namespace Cert.Mm.OutDw

open Kernel7Ideal Kernel7Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val / 2, 0] ∧ win0_1.index t = ![0, t.val % 2] ∧ win0_2.index t = ![t.val / 2, t.val % 2] := (by decide +kernel : ∀ t : Fin grid0.N, _)

/-- Row `i` of the row block of point `t`. -/
def rowOf (t : Fin cfg0.N) (i : Fin 1408) : Fin 2816 := ⟨1408 * (t.val / 2) + i.val, by have h : t.val < 4 := t.isLt; omega⟩
/-- Column `j` of the column block of point `t`. -/
def colOf (t : Fin cfg0.N) (j : Fin 512) : Fin 1024 := ⟨512 * (t.val % 2) + j.val, by omega⟩

theorem block0 (c : Dev nD) (t : Fin cfg0.N) (i : Fin 1408) (k : Fin 4096) : iblk m c 0 t (ix2 i k) = m (c.tc.loc main_arg0) (ix2 (rowOf t i) k) := by
  rw [← V_main_arg0 m c]
  unfold rowOf
  blk_ext [iblk, index]
theorem block1 (c : Dev nD) (t : Fin cfg0.N) (k : Fin 4096) (j : Fin 512) : iblk m c 1 t (ix2 k j) = m (c.tc.loc main_arg1) (ix2 k (colOf t j)) := by
  rw [← V_main_arg1 m c]
  unfold colOf
  blk_ext [iblk, index]

theorem out_eq (x : Vec F S1408x4096 .bf16) (w : Vec F S4096x512 .bf16) : out0_2 x w = k0_pay1 x w := by
  unfold out0_2
  rw [View.canon_unit_zero hz, View.ld_unit_zero (S := S1408x4096) hz, View.ld_unit_zero (S := S4096x512) hz]

end Any

variable (m : (ℓ : Loc nD τ sig) → Buf (Elt Ideal) ℓ)

theorem pay_at (x : Vec Ideal S1408x4096 .bf16) (w : Vec Ideal S4096x512 .bf16) (i : Fin 1408) (j : Fin 512) :
    k0_pay1 x w (ix2 i j) = ∑ k : Fin 4096, x (ix2 i k) * w (ix2 k j) := by
  simp only [k0_pay1, pointwise, zero_add]

/-- The array the kernel ends with. -/
theorem final (c : Dev nD) : (dats m 0 c).arrAt 2 cfg0.N = cols (m (c.tc.loc main_arg0)) (m (c.tc.loc main_arg1)) := by
  refine (dats m 0 c).arrAt_eq_of_covers 2 _ (by decide +kernel) fun t hf y => ?_
  blk_simp
  rw [after0_2, out_eq]
  obtain ⟨i, j, rfl⟩ := Dx.pairOf (a := 1408) (b := 512) y
  rw [pay_at]
  simp only [block0, block1]
  refine congrArg (cols (m (c.tc.loc main_arg0)) (m (c.tc.loc main_arg1))) (a₁ := ix2 (rowOf t i) (colOf t j)) ?_
  funext a
  match a with
  | ⟨0, _⟩ => refine Fin.ext ?_; blk_simp [index]; show 1408 * (t.val / 2) + i.val = t.val / 2 * 1408 + i.val; omega
  | ⟨1, _⟩ => refine Fin.ext ?_; blk_simp [index]; show 512 * (t.val % 2) + j.val = t.val % 2 * 512 + j.val; omega

theorem run_values (ρ : Dev nD → PrngReg) : θ_run defs (onTc (τ := τ) (main (F := Ideal))) ⟨m, fun _ => 0, ρ⟩ (fun r => ∀ c : Dev nD,
      r.2.mem (c.tc.loc main_v0) = cols (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel7Ideal.Value.run_blocks m ρ)

end Cert.Mm.OutDw

namespace Cert.Mm.OutDw.Ref

open Reference7Ideal Reference7Ideal.Gen
open Idealize.ShloMosaic TcCoe Idealize.SL.Sem

theorem product_eq (x : S2816x4096.Idx → EReal) (w : S4096x1024.Idx → EReal) :
    (truncf .bf16 (transpose S2816x1024 [1, 0] (Host.dotGeneral (F := Ideal) (φ₁ := .f32) (φ₂ := .f32) dot_S4096x1024_S4096x2816_S1024x2816_0_0_1_1_n_n none w
      (extf .f32 (transpose (α := Ideal .bf16) S4096x2816 [1, 0] x transposes_S2816x4096_S4096x2816_1_0) bitsLt_bf16_f32)) transposes_S1024x2816_S2816x1024_1_0) bitsLt_bf16_f32 : FVec Ideal S2816x1024 .bf16) = cols x w := by
  funext y
  obtain ⟨i, j, rfl⟩ := Dx.pairOf (a := 2816) (b := 1024) y
  simp only [pointwise, zero_add]
  exact Finset.sum_congr rfl fun k _ => mul_comm _ _

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v7) = cols (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.OutDw.Ref

end
-- ==== Proof.Mm.FfnIn.lean ====
module

public import proofs.«01_k».proof.Proof.Gen.Kernel8Ideal.Value
public import proofs.«01_k».proof.Proof.Gen.Reference8Ideal.Run
public import proofs.«01_k».proof.Proof.Mm.Prod

/-! The product with the FFN's input weights: the kernel's two blocks of columns by four of rows and the reference's one product. -/

@[expose] public section

set_option maxRecDepth 16384

noncomputable section

namespace Cert.Mm.FfnIn

open Kernel8Ideal Kernel8Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val % 4, 0] ∧ win0_1.index t = ![0, t.val / 4] ∧ win0_2.index t = ![t.val % 4, t.val / 4] := (by decide +kernel : ∀ t : Fin grid0.N, _)

/-- Row `i` of the row block of point `t`. -/
def rowOf (t : Fin cfg0.N) (i : Fin 1024) : Fin 4096 := ⟨1024 * (t.val % 4) + i.val, by omega⟩
/-- Column `j` of the column block of point `t`. -/
def colOf (t : Fin cfg0.N) (j : Fin 2816) : Fin 5632 := ⟨2816 * (t.val / 4) + j.val, by have h : t.val < 8 := t.isLt; omega⟩

theorem block0 (c : Dev nD) (t : Fin cfg0.N) (i k : Fin 1024) : iblk m c 0 t (ix2 i k) = m (c.tc.loc main_arg0) (ix2 (rowOf t i) k) := by
  rw [← V_main_arg0 m c]
  unfold rowOf
  blk_ext [iblk, index]
theorem block1 (c : Dev nD) (t : Fin cfg0.N) (k : Fin 1024) (j : Fin 2816) : iblk m c 1 t (ix2 k j) = m (c.tc.loc main_arg1) (ix2 k (colOf t j)) := by
  rw [← V_main_arg1 m c]
  unfold colOf
  blk_ext [iblk, index]

theorem out_eq (x : Vec F S1024x1024 .bf16) (w : Vec F S1024x2816 .bf16) : out0_2 x w = k0_pay1 x w := by
  unfold out0_2
  rw [View.canon_unit_zero hz, View.ld_unit_zero (S := S1024x1024) hz, View.ld_unit_zero (S := S1024x2816) hz]

end Any

variable (m : (ℓ : Loc nD τ sig) → Buf (Elt Ideal) ℓ)

theorem pay_at (x : Vec Ideal S1024x1024 .bf16) (w : Vec Ideal S1024x2816 .bf16) (i : Fin 1024) (j : Fin 2816) :
    k0_pay1 x w (ix2 i j) = ∑ k : Fin 1024, x (ix2 i k) * w (ix2 k j) := by
  simp only [k0_pay1, pointwise, zero_add]

/-- The array the kernel ends with. -/
theorem final (c : Dev nD) : (dats m 0 c).arrAt 2 cfg0.N = cols (m (c.tc.loc main_arg0)) (m (c.tc.loc main_arg1)) := by
  refine (dats m 0 c).arrAt_eq_of_covers 2 _ (by decide +kernel) fun t hf y => ?_
  blk_simp
  rw [after0_2, out_eq]
  obtain ⟨i, j, rfl⟩ := Dx.pairOf (a := 1024) (b := 2816) y
  rw [pay_at]
  simp only [block0, block1]
  refine congrArg (cols (m (c.tc.loc main_arg0)) (m (c.tc.loc main_arg1))) (a₁ := ix2 (rowOf t i) (colOf t j)) ?_
  funext a
  match a with
  | ⟨0, _⟩ => refine Fin.ext ?_; blk_simp [index]; show 1024 * (t.val % 4) + i.val = t.val % 4 * 1024 + i.val; omega
  | ⟨1, _⟩ => refine Fin.ext ?_; blk_simp [index]; show 2816 * (t.val / 4) + j.val = t.val / 4 * 2816 + j.val; omega

theorem run_values (ρ : Dev nD → PrngReg) : θ_run defs (onTc (τ := τ) (main (F := Ideal))) ⟨m, fun _ => 0, ρ⟩ (fun r => ∀ c : Dev nD,
      r.2.mem (c.tc.loc main_v0) = cols (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel8Ideal.Value.run_blocks m ρ)

end Cert.Mm.FfnIn

namespace Cert.Mm.FfnIn.Ref

open Reference8Ideal Reference8Ideal.Gen
open Idealize.ShloMosaic TcCoe Idealize.SL.Sem

theorem product_eq (x : S4096x1024.Idx → EReal) (w : S1024x5632.Idx → EReal) :
    (truncf .bf16 (Host.dotGeneral (F := Ideal) (φ₁ := .f32) (φ₂ := .f32) dot_S4096x1024_S1024x5632_S4096x5632_1_0_0_1_n_n none x w) bitsLt_bf16_f32 : FVec Ideal S4096x5632 .bf16) = cols x w := by
  funext y
  obtain ⟨i, j, rfl⟩ := Dx.pairOf (a := 4096) (b := 5632) y
  simp only [pointwise, zero_add]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v3) = cols (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.FfnIn.Ref

end
-- ==== Proof.Mm.RetIn.lean ====
module

public import proofs.«01_k».proof.Proof.Gen.Kernel9Ideal.Value
public import proofs.«01_k».proof.Proof.Gen.Reference9Ideal.Run
public import proofs.«01_k».proof.Proof.Mm.Prod

/-! The product with the retention block's input weights: the kernel's three blocks of columns by four of rows and the reference's one product. -/

@[expose] public section

set_option maxRecDepth 16384

noncomputable section

namespace Cert.Mm.RetIn

open Kernel9Ideal Kernel9Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val % 4, 0] ∧ win0_1.index t = ![0, t.val / 4] ∧ win0_3.index t = ![t.val % 4, t.val / 4] := (by decide +kernel : ∀ t : Fin grid0.N, _)

/-- Row `i` of the row block of point `t`. -/
def rowOf (t : Fin cfg0.N) (i : Fin 1024) : Fin 4096 := ⟨1024 * (t.val % 4) + i.val, by omega⟩
/-- Column `j` of the column block of point `t`. -/
def colOf (t : Fin cfg0.N) (j : Fin 2048) : Fin 6144 := ⟨2048 * (t.val / 4) + j.val, by have h : t.val < 12 := t.isLt; omega⟩

theorem block0 (c : Dev nD) (t : Fin cfg0.N) (i k : Fin 1024) : iblk m c 0 t (ix2 i k) = m (c.tc.loc main_arg0) (ix2 (rowOf t i) k) := by
  rw [← V_main_arg0 m c]
  unfold rowOf
  blk_ext [iblk, index]
theorem block1 (c : Dev nD) (t : Fin cfg0.N) (k : Fin 1024) (j : Fin 2048) : iblk m c 1 t (ix2 k j) = m (c.tc.loc main_arg1) (ix2 k (colOf t j)) := by
  rw [← V_main_arg1 m c]
  unfold colOf
  blk_ext [iblk, index]

theorem out_eq (x : Vec F S1024x1024 .bf16) (w : Vec F S1024x2048 .bf16) (s : Vec F S8x128 .f32) : out0_3 x w s = k0_pay1 x w := by
  unfold out0_3
  rw [View.canon_unit_zero hz, View.ld_unit_zero (S := S1024x1024) hz, View.ld_unit_zero (S := S1024x2048) hz]

end Any

variable (m : (ℓ : Loc nD τ sig) → Buf (Elt Ideal) ℓ)

theorem pay_at (x : Vec Ideal S1024x1024 .bf16) (w : Vec Ideal S1024x2048 .bf16) (i : Fin 1024) (j : Fin 2048) :
    k0_pay1 x w (ix2 i j) = ∑ k : Fin 1024, x (ix2 i k) * w (ix2 k j) := by
  simp only [k0_pay1, pointwise, zero_add]

/-- The array the kernel ends with. -/
theorem final (c : Dev nD) : (dats m 0 c).arrAt 3 cfg0.N = cols (m (c.tc.loc main_arg0)) (m (c.tc.loc main_arg1)) := by
  refine (dats m 0 c).arrAt_eq_of_covers 3 _ (by decide +kernel) fun t hf y => ?_
  blk_simp
  rw [after0_3, out_eq]
  obtain ⟨i, j, rfl⟩ := Dx.pairOf (a := 1024) (b := 2048) y
  rw [pay_at]
  simp only [block0, block1]
  refine congrArg (cols (m (c.tc.loc main_arg0)) (m (c.tc.loc main_arg1))) (a₁ := ix2 (rowOf t i) (colOf t j)) ?_
  funext a
  match a with
  | ⟨0, _⟩ => refine Fin.ext ?_; blk_simp [index]; show 1024 * (t.val % 4) + i.val = t.val % 4 * 1024 + i.val; omega
  | ⟨1, _⟩ => refine Fin.ext ?_; blk_simp [index]; show 2048 * (t.val / 4) + j.val = t.val / 4 * 2048 + j.val; omega

theorem run_values (ρ : Dev nD → PrngReg) : θ_run defs (onTc (τ := τ) (main (F := Ideal))) ⟨m, fun _ => 0, ρ⟩ (fun r => ∀ c : Dev nD,
      r.2.mem (c.tc.loc main_v0) = cols (m (c.tc.loc main_arg0)) (m (c.tc.loc main_arg1))
      ∧ Kept m r.2.mem c main_arg0
      ∧ Kept m r.2.mem c main_arg1
      ∧ Kept m r.2.mem c main_arg2) :=
  (θ_run defs _ _).mono (fun r h c => ⟨(h c).1.trans (final m c), (h c).2⟩) (Kernel9Ideal.Value.run_blocks m ρ)

end Cert.Mm.RetIn

namespace Cert.Mm.RetIn.Ref

open Reference9Ideal Reference9Ideal.Gen
open Idealize.ShloMosaic TcCoe Idealize.SL.Sem

theorem product_eq (x : S4096x1024.Idx → EReal) (w : S1024x6144.Idx → EReal) :
    (truncf .bf16 (Host.dotGeneral (F := Ideal) (φ₁ := .f32) (φ₂ := .f32) dot_S4096x1024_S1024x6144_S4096x6144_1_0_0_1_n_n none x w) bitsLt_bf16_f32 : FVec Ideal S4096x6144 .bf16) = cols x w := by
  funext y
  obtain ⟨i, j, rfl⟩ := Dx.pairOf (a := 4096) (b := 6144) y
  simp only [pointwise, zero_add]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v3) = cols (m (c.tc.loc main_arg0)) (m (c.tc.loc main_arg1))
      ∧ Kept m r.2.mem c main_arg0
      ∧ Kept m r.2.mem c main_arg1
      ∧ Kept m r.2.mem c main_arg2) :=
  (θ_run defs _ _).mono (fun r h c => ⟨(h c).1.trans (product_eq _ _), (h c).2⟩) (Value.run m ρ)

end Cert.Mm.RetIn.Ref

end
-- ==== Proof.Mm.RetOutDx.lean ====
module

public import proofs.«01_k».proof.Proof.Gen.Kernel10Ideal.Value
public import proofs.«01_k».proof.Proof.Gen.Reference10Ideal.Run
public import proofs.«01_k».proof.Proof.Mm.Prod

/-! The gradient that a product with the output weights of the retention passes back: the kernel's four row blocks and the
    reference's one product. -/

@[expose] public section

set_option maxRecDepth 16384

noncomputable section

namespace Cert.Mm.RetOutDx

open Kernel10Ideal Kernel10Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val, 0] ∧ win0_1.index t = ![0, 0] ∧ win0_2.index t = ![t.val, 0] := (by decide +kernel : ∀ t : Fin grid0.N, _)

/-- Row `i` of row block `t`. -/
def rowOf (t : Fin cfg0.N) (i : Fin 1024) : Fin 4096 := ⟨1024 * t.val + i.val, by have h : t.val < 4 := t.isLt; omega⟩

theorem block0 (c : Dev nD) (t : Fin cfg0.N) (i k : Fin 1024) : iblk m c 0 t (ix2 i k) = m (c.tc.loc main_arg0) (ix2 (rowOf t i) k) := by
  rw [← V_main_arg0 m c]
  unfold rowOf
  blk_ext [iblk, index]
theorem block1 (c : Dev nD) (t : Fin cfg0.N) : iblk m c 1 t = m (c.tc.loc main_arg1) := by
  rw [← V_main_arg1 m c]
  funext y
  blk_ext [iblk, index]

theorem out_eq (x : Vec F S1024x1024 .bf16) (w : Vec F S2048x1024 .bf16) : out0_2 x w = k0_pay1 x w := by
  unfold out0_2
  rw [View.canon_unit_zero hz, View.ld_unit_zero (S := S1024x1024) hz, View.ld_unit_zero (S := S2048x1024) hz]

end Any

variable (m : (ℓ : Loc nD τ sig) → Buf (Elt Ideal) ℓ)

theorem pay_at (x : Vec Ideal S1024x1024 .bf16) (w : Vec Ideal S2048x1024 .bf16) (i : Fin 1024) (j : Fin 2048) :
    k0_pay1 x w (ix2 i j) = ∑ k : Fin 1024, x (ix2 i k) * w (ix2 j k) := by
  simp only [k0_pay1, pointwise, zero_add]

/-- The array the kernel ends with. -/
theorem final (c : Dev nD) : (dats m 0 c).arrAt 2 cfg0.N = rows (m (c.tc.loc main_arg0)) (m (c.tc.loc main_arg1)) := by
  refine (dats m 0 c).arrAt_eq_of_covers 2 _ (by decide +kernel) fun t hf y => ?_
  blk_simp
  rw [after0_2, out_eq]
  obtain ⟨i, j, rfl⟩ := Dx.pairOf (a := 1024) (b := 2048) y
  rw [pay_at, block1]
  simp only [block0]
  refine congrArg (rows (m (c.tc.loc main_arg0)) (m (c.tc.loc main_arg1))) (a₁ := ix2 (rowOf t i) j) ?_
  funext a
  match a with
  | ⟨0, _⟩ => refine Fin.ext ?_; blk_simp [index]; show 1024 * t.val + i.val = t.val * 1024 + i.val; omega
  | ⟨1, _⟩ => refine Fin.ext ?_; blk_simp [index]

theorem run_values (ρ : Dev nD → PrngReg) : θ_run defs (onTc (τ := τ) (main (F := Ideal))) ⟨m, fun _ => 0, ρ⟩ (fun r => ∀ c : Dev nD,
      r.2.mem (c.tc.loc main_v0) = rows (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel10Ideal.Value.run_blocks m ρ)

end Cert.Mm.RetOutDx

namespace Cert.Mm.RetOutDx.Ref

open Reference10Ideal Reference10Ideal.Gen
open Idealize.ShloMosaic TcCoe Idealize.SL.Sem

theorem product_eq (x : S4096x1024.Idx → EReal) (w : S2048x1024.Idx → EReal) :
    (Host.dotGeneral (F := Ideal) (φ₁ := .f32) (φ₂ := .f32) dot_S4096x1024_S2048x1024_S4096x2048_1_1_0_0_n_n none x w : FVec Ideal S4096x2048 .f32) = rows x w := by
  funext y
  obtain ⟨i, j, rfl⟩ := Dx.pairOf (a := 4096) (b := 2048) y
  simp only [pointwise, zero_add]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v4) = rows (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.RetOutDx.Ref

end
-- ==== Proof.Mm.RetOutDw.lean ====
module

public import proofs.«01_k».proof.Proof.Gen.Kernel11Ideal.Value
public import proofs.«01_k».proof.Proof.Gen.Reference11Ideal.Run
public import proofs.«01_k».proof.Proof.Mm.Prod

/-! The gradient of the output weights of the retention block: the kernel's two by two blocks and the reference's one product. -/

@[expose] public section

set_option maxRecDepth 16384

noncomputable section

namespace Cert.Mm.RetOutDw

open Kernel11Ideal Kernel11Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val / 2, 0] ∧ win0_1.index t = ![0, t.val % 2] ∧ win0_2.index t = ![t.val / 2, t.val % 2] := (by decide +kernel : ∀ t : Fin grid0.N, _)

/-- Row `i` of the row block of point `t`. -/
def rowOf (t : Fin cfg0.N) (i : Fin 1024) : Fin 2048 := ⟨1024 * (t.val / 2) + i.val, by have h : t.val < 4 := t.isLt; omega⟩
/-- Column `j` of the column block of point `t`. -/
def colOf (t : Fin cfg0.N) (j : Fin 512) : Fin 1024 := ⟨512 * (t.val % 2) + j.val, by omega⟩

theorem block0 (c : Dev nD) (t : Fin cfg0.N) (i : Fin 1024) (k : Fin 4096) : iblk m c 0 t (ix2 i k) = m (c.tc.loc main_arg0) (ix2 (rowOf t i) k) := by
  rw [← V_main_arg0 m c]
  unfold rowOf
  blk_ext [iblk, index]
theorem block1 (c : Dev nD) (t : Fin cfg0.N) (k : Fin 4096) (j : Fin 512) : iblk m c 1 t (ix2 k j) = m (c.tc.loc main_arg1) (ix2 k (colOf t j)) := by
  rw [← V_main_arg1 m c]
  unfold colOf
  blk_ext [iblk, index]

theorem out_eq (x : Vec F S1024x4096 .bf16) (w : Vec F S4096x512 .bf16) : out0_2 x w = k0_pay1 x w := by
  unfold out0_2
  rw [View.canon_unit_zero hz, View.ld_unit_zero (S := S1024x4096) hz, View.ld_unit_zero (S := S4096x512) hz]

end Any

variable (m : (ℓ : Loc nD τ sig) → Buf (Elt Ideal) ℓ)

theorem pay_at (x : Vec Ideal S1024x4096 .bf16) (w : Vec Ideal S4096x512 .bf16) (i : Fin 1024) (j : Fin 512) :
    k0_pay1 x w (ix2 i j) = ∑ k : Fin 4096, x (ix2 i k) * w (ix2 k j) := by
  simp only [k0_pay1, pointwise, zero_add]

/-- The array the kernel ends with. -/
theorem final (c : Dev nD) : (dats m 0 c).arrAt 2 cfg0.N = cols (m (c.tc.loc main_arg0)) (m (c.tc.loc main_arg1)) := by
  refine (dats m 0 c).arrAt_eq_of_covers 2 _ (by decide +kernel) fun t hf y => ?_
  blk_simp
  rw [after0_2, out_eq]
  obtain ⟨i, j, rfl⟩ := Dx.pairOf (a := 1024) (b := 512) y
  rw [pay_at]
  simp only [block0, block1]
  refine congrArg (cols (m (c.tc.loc main_arg0)) (m (c.tc.loc main_arg1))) (a₁ := ix2 (rowOf t i) (colOf t j)) ?_
  funext a
  match a with
  | ⟨0, _⟩ => refine Fin.ext ?_; blk_simp [index]; show 1024 * (t.val / 2) + i.val = t.val / 2 * 1024 + i.val; omega
  | ⟨1, _⟩ => refine Fin.ext ?_; blk_simp [index]; show 512 * (t.val % 2) + j.val = t.val % 2 * 512 + j.val; omega

theorem run_values (ρ : Dev nD → PrngReg) : θ_run defs (onTc (τ := τ) (main (F := Ideal))) ⟨m, fun _ => 0, ρ⟩ (fun r => ∀ c : Dev nD,
      r.2.mem (c.tc.loc main_v0) = cols (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel11Ideal.Value.run_blocks m ρ)

end Cert.Mm.RetOutDw

namespace Cert.Mm.RetOutDw.Ref

open Reference11Ideal Reference11Ideal.Gen
open Idealize.ShloMosaic TcCoe Idealize.SL.Sem

theorem product_eq (x : S2048x4096.Idx → EReal) (w : S4096x1024.Idx → EReal) :
    (truncf .bf16 (transpose S2048x1024 [1, 0] (Host.dotGeneral (F := Ideal) (φ₁ := .f32) (φ₂ := .f32) dot_S4096x1024_S4096x2048_S1024x2048_0_0_1_1_n_n none w
      (extf .f32 (transpose (α := Ideal .bf16) S4096x2048 [1, 0] x transposes_S2048x4096_S4096x2048_1_0) bitsLt_bf16_f32)) transposes_S1024x2048_S2048x1024_1_0) bitsLt_bf16_f32 : FVec Ideal S2048x1024 .bf16) = cols x w := by
  funext y
  obtain ⟨i, j, rfl⟩ := Dx.pairOf (a := 2048) (b := 1024) y
  simp only [pointwise, zero_add]
  exact Finset.sum_congr rfl fun k _ => mul_comm _ _

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v7) = cols (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.RetOutDw.Ref

end
-- ==== Proof.Mm.MlaOut.lean ====
module

public import proofs.«01_k».proof.Proof.Gen.Kernel14Ideal.Value
public import proofs.«01_k».proof.Proof.Gen.Reference14Ideal.Run
public import proofs.«01_k».proof.Proof.Dx.Ref
public import proofs.«01_k».proof.Proof.Mm.Norm

/-! The end of the attention block: the product with its output weights, the residual and the next norm, in the kernel's
    eight blocks of rows and in the reference. -/

@[expose] public section

set_option maxRecDepth 16384

noncomputable section

namespace Cert.Mm.MlaOut

open Kernel14Ideal Kernel14Ideal.Gen Dx
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, t.val] := (by decide +kernel : ∀ t : Fin grid0.N, _)

/-- Row `i` of row block `t`. -/
def rowOf (t : Fin cfg0.N) (i : Fin 512) : Fin 4096 := ⟨512 * t.val + i.val, by have h : t.val < 8 := t.isLt; omega⟩

theorem block0 (c : Dev nD) (t : Fin cfg0.N) (i : Fin 512) (k : Fin 1024) : iblk m c 0 t (ix2 i k) = m (c.tc.loc main_arg0) (ix2 (rowOf t i) k) := by
  rw [← V_main_arg0 m c]
  unfold rowOf
  blk_ext [iblk, index]
theorem block1 (c : Dev nD) (t : Fin cfg0.N) : iblk m c 1 t = m (c.tc.loc main_arg1) := by
  rw [← V_main_arg1 m c]
  funext y
  blk_ext [iblk, index]
theorem block2 (c : Dev nD) (t : Fin cfg0.N) (i : Fin 512) (j : Fin 1024) : iblk m c 2 t (ix2 i j) = m (c.tc.loc main_arg2) (ix2 (rowOf t i) j) := by
  rw [← V_main_arg2 m c]
  unfold rowOf
  blk_ext [iblk, index]
theorem block3 (c : Dev nD) (t : Fin cfg0.N) : iblk m c 3 t = m (c.tc.loc main_arg3) := by
  rw [← V_main_arg3 m c]
  funext y
  blk_ext [iblk, index]

theorem out4_eq (u : Vec F S512x1024 .f32) (w : Vec F S1024x1024 .bf16) (x : Vec F S512x1024 .f32) (g : Vec F S1x1024 .f32) : out0_4 u w x g = k0_pay1 u w x := by
  unfold out0_4
  rw [View.canon_unit_zero hz, View.ld_unit_zero (S := S512x1024) hz, View.ld_unit_zero (S := S1024x1024) hz, View.ld_unit_zero (S := S512x1024) hz]
theorem out5_eq (u : Vec F S512x1024 .f32) (w : Vec F S1024x1024 .bf16) (x : Vec F S512x1024 .f32) (g : Vec F S1x1024 .f32) : out0_5 u w x g = k0_pay3 u w x g := by
  unfold out0_5
  rw [View.canon_unit_zero hz, View.ld_unit_zero (S := S512x1024) hz, View.ld_unit_zero (S := S1024x1024) hz, View.ld_unit_zero (S := S512x1024) hz, View.ld_unit_zero (S := S1x1024) hz]
theorem out6_eq (u : Vec F S512x1024 .f32) (w : Vec F S1024x1024 .bf16) (x : Vec F S512x1024 .f32) (g : Vec F S1x1024 .f32) : out0_6 u w x g = k0_pay4 u w x g := by
  unfold out0_6
  rw [View.canon_unit_zero hz, View.ld_unit_zero (S := S512x1024) hz, View.ld_unit_zero (S := S1024x1024) hz, View.ld_unit_zero (S := S512x1024) hz, View.ld_unit_zero (S := S1x1024) hz]

end Any

section Payloads

variable (u : Vec Ideal S512x1024 .f32) (w : Vec Ideal S1024x1024 .bf16) (x : Vec Ideal S512x1024 .f32) (g : Vec Ideal S1x1024 .f32)

theorem pay1_eq : (k0_pay1 u w x : S512x1024.Idx → EReal) = summed (a := 512) (n := 1024) u w x := by
  funext y
  obtain ⟨i, j, rfl⟩ := pairOf (a := 512) (b := 1024) y
  simp only [k0_pay1, pointwise, zero_add]
  rfl
theorem pay2_at (i : Fin 512) (j : Fin 1024) : (k0_pay2 u w x g : S512x1024.Idx → EReal) (ix2 i j) = normed (summed (a := 512) (n := 1024) u w x) g (ix2 i j) := by
  unfold k0_pay2
  simp only [pointwise, pay1_eq, ↓reduceDIte, OfNat.ofNat_ne_one, zero_add]
  rfl
theorem pay3_at (i : Fin 512) (j : Fin 1024) : (k0_pay3 u w x g : S512x1024.Idx → EReal) (ix2 i j) = normed (summed (a := 512) (n := 1024) u w x) g (ix2 i j) := pay2_at u w x g i j
theorem pay4_at (i : Fin 512) (j : Fin 1024) : (k0_pay4 u w x g : S1024x512.Idx → EReal) (ix2 j i) = normed (summed (a := 512) (n := 1024) u w x) g (ix2 i j) := by
  simp only [k0_pay4, pointwise]
  exact pay2_at u w x g i j

end Payloads

variable (m : (ℓ : Loc nD τ sig) → Buf (Elt Ideal) ℓ)

/-- The three arrays, from the memory's arguments. -/
def sumOf (c : Dev nD) : S4096x1024.Idx → EReal := summed (a := 4096) (n := 1024) (m (c.tc.loc main_arg0)) (m (c.tc.loc main_arg1)) (m (c.tc.loc main_arg2))
def normOf (c : Dev nD) : S4096x1024.Idx → EReal := normed (sumOf m c) (m (c.tc.loc main_arg3))
def normTOf (c : Dev nD) : S1024x4096.Idx → EReal := normedT (sumOf m c) (m (c.tc.loc main_arg3))

theorem sum_at (c : Dev nD) (t : Fin cfg0.N) (i : Fin 512) (j : Fin 1024) :
    summed (a := 512) (n := 1024) (iblk m c 0 t) (iblk m c 1 t) (iblk m c 2 t) (ix2 i j) = sumOf m c (ix2 (rowOf t i) j) := by
  rw [block1]
  refine congrArg₂ (fun a b : EReal => a + b) (Finset.sum_congr rfl fun k _ => ?_) (block2 m c t i j)
  exact congrArg (fun a : EReal => a * _) (block0 m c t i k)
theorem norm_at (c : Dev nD) (t : Fin cfg0.N) (i : Fin 512) (j : Fin 1024) :
    normed (summed (a := 512) (n := 1024) (iblk m c 0 t) (iblk m c 1 t) (iblk m c 2 t)) (iblk m c 3 t) (ix2 i j) = normOf m c (ix2 (rowOf t i) j) := by
  rw [block3]
  exact normed_row (o' := sumOf m c) (i' := rowOf t i) (fun j => sum_at m c t i j) _ j

theorem final4 (c : Dev nD) : (dats m 0 c).arrAt 4 cfg0.N = sumOf m c := by
  refine (dats m 0 c).arrAt_eq_of_covers 4 _ (by decide +kernel) fun t hf y => ?_
  blk_simp
  rw [after0_4, out4_eq, pay1_eq]
  obtain ⟨i, j, rfl⟩ := pairOf (a := 512) (b := 1024) y
  refine (sum_at m c t i j).trans (congrArg (sumOf m c) ?_)
  funext a
  match a with
  | ⟨0, _⟩ => refine Fin.ext ?_; blk_simp [index]; show 512 * t.val + i.val = t.val * 512 + i.val; omega
  | ⟨1, _⟩ => refine Fin.ext ?_; blk_simp [index]

theorem final5 (c : Dev nD) : (dats m 0 c).arrAt 5 cfg0.N = normOf m c := by
  refine (dats m 0 c).arrAt_eq_of_covers 5 _ (by decide +kernel) fun t hf y => ?_
  blk_simp
  rw [after0_5, out5_eq]
  obtain ⟨i, j, rfl⟩ := pairOf (a := 512) (b := 1024) y
  refine (pay3_at _ _ _ _ i j).trans ((norm_at m c t i j).trans (congrArg (normOf m c) ?_))
  funext a
  match a with
  | ⟨0, _⟩ => refine Fin.ext ?_; blk_simp [index]; show 512 * t.val + i.val = t.val * 512 + i.val; omega
  | ⟨1, _⟩ => refine Fin.ext ?_; blk_simp [index]

theorem final6 (c : Dev nD) : (dats m 0 c).arrAt 6 cfg0.N = normTOf m c := by
  refine (dats m 0 c).arrAt_eq_of_covers 6 _ (by decide +kernel) fun t hf y => ?_
  blk_simp
  rw [after0_6, out6_eq]
  obtain ⟨j, i, rfl⟩ := pairOf (a := 1024) (b := 512) y
  refine (pay4_at _ _ _ _ i j).trans ((norm_at m c t i j).trans (congrArg (normTOf m c) (a₁ := ix2 j (rowOf t i)) ?_))
  funext a
  match a with
  | ⟨0, _⟩ => refine Fin.ext ?_; blk_simp [index]
  | ⟨1, _⟩ => refine Fin.ext ?_; blk_simp [index]; show 512 * t.val + i.val = t.val * 512 + i.val; omega

theorem run_values (ρ : Dev nD → PrngReg) : θ_run defs (onTc (τ := τ) (main (F := Ideal))) ⟨m, fun _ => 0, ρ⟩ (fun r => ∀ c : Dev nD,
      r.2.mem (c.tc.loc main_v0_0) = sumOf m c
      ∧ r.2.mem (c.tc.loc main_v0_1) = normOf m c
      ∧ r.2.mem (c.tc.loc main_v0_2) = normTOf m c
      ∧ Kept m r.2.mem c main_arg0
      ∧ Kept m r.2.mem c main_arg1
      ∧ Kept m r.2.mem c main_arg2
      ∧ Kept m r.2.mem c main_arg3) :=
  (θ_run defs _ _).mono (fun r h c => ⟨(h c).1.trans (final4 m c), (h c).2.1.trans (final5 m c), (h c).2.2.1.trans (final6 m c), (h c).2.2.2⟩) (Kernel14Ideal.Value.run_blocks m ρ)

end Cert.Mm.MlaOut

namespace Cert.Mm.MlaOut.Ref

open Reference14Ideal Reference14Ideal.Gen Dx
open Idealize.ShloMosaic TcCoe Idealize.SL.Sem

variable (u : S4096x1024.Idx → EReal) (w : S1024x1024.Idx → EReal) (x : S4096x1024.Idx → EReal) (g : S1x1024.Idx → EReal)

def sumR : FVec Ideal S4096x1024 .f32 := addf x (Host.dotGeneral (F := Ideal) (φ₁ := .f32) (φ₂ := .f32) dot_S4096x1024_S1024x1024_S4096x1024_1_0_0_1_n_n none u w)

theorem sumR_eq : sumR u w x = summed (a := 4096) (n := 1024) u w x := by
  funext y
  obtain ⟨i, j, rfl⟩ := pairOf (a := 4096) (b := 1024) y
  unfold sumR
  simp only [pointwise, zero_add]
  exact add_comm _ _

def nrm (o : FVec Ideal S4096x1024 .f32) : FVec Ideal S4096x1024 .bf16 :=
  truncf .bf16 (mulf (mulf o (broadcastInDim S4096x1024 ![0, 1] bcast_S4096x1_S4096x1024_0_1 (Host.rsqrt (Dx.Ref.ms o)))) (broadcastInDim S4096x1024 ![0, 1] bcast_S1x1024_S4096x1024_0_1 g)) bitsLt_bf16_f32

theorem nrm_eq (o : FVec Ideal S4096x1024 .f32) : nrm g o = normed (a := 4096) o g := by
  funext y
  obtain ⟨i, j, rfl⟩ := pairOf (a := 4096) (b := 1024) y
  unfold nrm
  simp only [pointwise, ↓reduceDIte, OfNat.ofNat_ne_one, Dx.Ref.ms_at]
  rfl

theorem nrmT_eq (o : FVec Ideal S4096x1024 .f32) : (transpose S1024x4096 [1, 0] (nrm g o) transposes_S4096x1024_S1024x4096_1_0 : FVec Ideal S1024x4096 .bf16) = normedT (a := 4096) o g := by
  rw [nrm_eq]
  funext y
  obtain ⟨i, j, rfl⟩ := pairOf (a := 1024) (b := 4096) y
  simp only [pointwise]
  rfl

section Run

variable (m : (ℓ : Loc nD τ sig) → Buf (Elt Ideal) ℓ)

def sumOf (c : Dev nD) : S4096x1024.Idx → EReal := summed (a := 4096) (n := 1024) (m (c.tc.loc main_arg0)) (m (c.tc.loc main_arg1)) (m (c.tc.loc main_arg2))
def normOf (c : Dev nD) : S4096x1024.Idx → EReal := normed (sumOf m c) (m (c.tc.loc main_arg3))
def normTOf (c : Dev nD) : S1024x4096.Idx → EReal := normedT (sumOf m c) (m (c.tc.loc main_arg3))

theorem run_values (ρ : Dev nD → PrngReg) : θ_run defs (onTc (τ := τ) (main (F := Ideal))) ⟨m, fun _ => 0, ρ⟩ (fun r => ∀ c : Dev nD,
      r.2.mem (c.tc.loc main_v2) = sumOf m c
      ∧ r.2.mem (c.tc.loc main_v15) = normOf m c
      ∧ r.2.mem (c.tc.loc main_v17) = normTOf m c
      ∧ Kept m r.2.mem c main_arg0
      ∧ Kept m r.2.mem c main_arg1
      ∧ Kept m r.2.mem c main_arg2
      ∧ Kept m r.2.mem c main_arg3) :=
  (θ_run defs _ _).mono (fun r h c => ⟨(h c).1.trans (sumR_eq _ _ _),
    (h c).2.1.trans ((nrm_eq _ (sumR _ _ _)).trans (congrArg (fun o => normed (a := 4096) o _) (sumR_eq _ _ _))),
    (h c).2.2.1.trans ((nrmT_eq _ (sumR _ _ _)).trans (congrArg (fun o => normedT (a := 4096) o _) (sumR_eq _ _ _))), (h c).2.2.2⟩) (Value.run m ρ)

end Run

end Cert.Mm.MlaOut.Ref

end
-- ==== Proof.Mm.FfnOut.lean ====
module

public import proofs.«01_k».proof.Proof.Gen.Kernel12Ideal.Value
public import proofs.«01_k».proof.Proof.Gen.Reference12Ideal.Run
public import proofs.«01_k».proof.Proof.Mm.MlaOut

/-! The end of the first FFN block: the product with its output weights, the residual and the next norm, in the kernel's
    eight blocks of rows and in the reference. -/

@[expose] public section

set_option maxRecDepth 16384

noncomputable section

namespace Cert.Mm.FfnOut

open Kernel12Ideal Kernel12Ideal.Gen Dx
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, t.val] := (by decide +kernel : ∀ t : Fin grid0.N, _)

/-- Row `i` of row block `t`. -/
def rowOf (t : Fin cfg0.N) (i : Fin 512) : Fin 4096 := ⟨512 * t.val + i.val, by have h : t.val < 8 := t.isLt; omega⟩

theorem block0 (c : Dev nD) (t : Fin cfg0.N) (i : Fin 512) (k : Fin 2816) : iblk m c 0 t (ix2 i k) = m (c.tc.loc main_arg0) (ix2 (rowOf t i) k) := by
  rw [← V_main_arg0 m c]
  unfold rowOf
  blk_ext [iblk, index]
theorem block1 (c : Dev nD) (t : Fin cfg0.N) : iblk m c 1 t = m (c.tc.loc main_arg1) := by
  rw [← V_main_arg1 m c]
  funext y
  blk_ext [iblk, index]
theorem block2 (c : Dev nD) (t : Fin cfg0.N) (i : Fin 512) (j : Fin 1024) : iblk m c 2 t (ix2 i j) = m (c.tc.loc main_arg2) (ix2 (rowOf t i) j) := by
  rw [← V_main_arg2 m c]
  unfold rowOf
  blk_ext [iblk, index]
theorem block3 (c : Dev nD) (t : Fin cfg0.N) : iblk m c 3 t = m (c.tc.loc main_arg3) := by
  rw [← V_main_arg3 m c]
  funext y
  blk_ext [iblk, index]

theorem out4_eq (u : Vec F S512x2816 .bf16) (w : Vec F S2816x1024 .bf16) (x : Vec F S512x1024 .f32) (g : Vec F S1x1024 .f32) : out0_4 u w x g = k0_pay1 u w x := by
  unfold out0_4
  rw [View.canon_unit_zero hz, View.ld_unit_zero (S := S512x2816) hz, View.ld_unit_zero (S := S2816x1024) hz, View.ld_unit_zero (S := S512x1024) hz]
theorem out5_eq (u : Vec F S512x2816 .bf16) (w : Vec F S2816x1024 .bf16) (x : Vec F S512x1024 .f32) (g : Vec F S1x1024 .f32) : out0_5 u w x g = k0_pay3 u w x g := by
  unfold out0_5
  rw [View.canon_unit_zero hz, View.ld_unit_zero (S := S512x2816) hz, View.ld_unit_zero (S := S2816x1024) hz, View.ld_unit_zero (S := S512x1024) hz, View.ld_unit_zero (S := S1x1024) hz]
theorem out6_eq (u : Vec F S512x2816 .bf16) (w : Vec F S2816x1024 .bf16) (x : Vec F S512x1024 .f32) (g : Vec F S1x1024 .f32) : out0_6 u w x g = k0_pay4 u w x g := by
  unfold out0_6
  rw [View.canon_unit_zero hz, View.ld_unit_zero (S := S512x2816) hz, View.ld_unit_zero (S := S2816x1024) hz, View.ld_unit_zero (S := S512x1024) hz, View.ld_unit_zero (S := S1x1024) hz]

end Any

section Payloads

variable (u : Vec Ideal S512x2816 .bf16) (w : Vec Ideal S2816x1024 .bf16) (x : Vec Ideal S512x1024 .f32) (g : Vec Ideal S1x1024 .f32)

theorem pay1_eq : (k0_pay1 u w x : S512x1024.Idx → EReal) = summed (a := 512) (n := 2816) u w x := by
  funext y
  obtain ⟨i, j, rfl⟩ := pairOf (a := 512) (b := 1024) y
  simp only [k0_pay1, pointwise, zero_add]
  rfl
theorem pay2_at (i : Fin 512) (j : Fin 1024) : (k0_pay2 u w x g : S512x1024.Idx → EReal) (ix2 i j) = normed (summed (a := 512) (n := 2816) u w x) g (ix2 i j) := by
  unfold k0_pay2
  simp only [pointwise, pay1_eq, ↓reduceDIte, OfNat.ofNat_ne_one, zero_add]
  rfl
theorem pay3_at (i : Fin 512) (j : Fin 1024) : (k0_pay3 u w x g : S512x1024.Idx → EReal) (ix2 i j) = normed (summed (a := 512) (n := 2816) u w x) g (ix2 i j) := pay2_at u w x g i j
theorem pay4_at (i : Fin 512) (j : Fin 1024) : (k0_pay4 u w x g : S1024x512.Idx → EReal) (ix2 j i) = normed (summed (a := 512) (n := 2816) u w x) g (ix2 i j) := by
  simp only [k0_pay4, pointwise]
  exact pay2_at u w x g i j

end Payloads

variable (m : (ℓ : Loc nD τ sig) → Buf (Elt Ideal) ℓ)

/-- The three arrays, from the memory's arguments. -/
def sumOf (c : Dev nD) : S4096x1024.Idx → EReal := summed (a := 4096) (n := 2816) (m (c.tc.loc main_arg0)) (m (c.tc.loc main_arg1)) (m (c.tc.loc main_arg2))
def normOf (c : Dev nD) : S4096x1024.Idx → EReal := normed (sumOf m c) (m (c.tc.loc main_arg3))
def normTOf (c : Dev nD) : S1024x4096.Idx → EReal := normedT (sumOf m c) (m (c.tc.loc main_arg3))

theorem sum_at (c : Dev nD) (t : Fin cfg0.N) (i : Fin 512) (j : Fin 1024) :
    summed (a := 512) (n := 2816) (iblk m c 0 t) (iblk m c 1 t) (iblk m c 2 t) (ix2 i j) = sumOf m c (ix2 (rowOf t i) j) := by
  rw [block1]
  refine congrArg₂ (fun a b : EReal => a + b) (Finset.sum_congr rfl fun k _ => ?_) (block2 m c t i j)
  exact congrArg (fun a : EReal => a * _) (block0 m c t i k)
theorem norm_at (c : Dev nD) (t : Fin cfg0.N) (i : Fin 512) (j : Fin 1024) :
    normed (summed (a := 512) (n := 2816) (iblk m c 0 t) (iblk m c 1 t) (iblk m c 2 t)) (iblk m c 3 t) (ix2 i j) = normOf m c (ix2 (rowOf t i) j) := by
  rw [block3]
  exact normed_row (o' := sumOf m c) (i' := rowOf t i) (fun j => sum_at m c t i j) _ j

theorem final4 (c : Dev nD) : (dats m 0 c).arrAt 4 cfg0.N = sumOf m c := by
  refine (dats m 0 c).arrAt_eq_of_covers 4 _ (by decide +kernel) fun t hf y => ?_
  blk_simp
  rw [after0_4, out4_eq, pay1_eq]
  obtain ⟨i, j, rfl⟩ := pairOf (a := 512) (b := 1024) y
  refine (sum_at m c t i j).trans (congrArg (sumOf m c) ?_)
  funext a
  match a with
  | ⟨0, _⟩ => refine Fin.ext ?_; blk_simp [index]; show 512 * t.val + i.val = t.val * 512 + i.val; omega
  | ⟨1, _⟩ => refine Fin.ext ?_; blk_simp [index]

theorem final5 (c : Dev nD) : (dats m 0 c).arrAt 5 cfg0.N = normOf m c := by
  refine (dats m 0 c).arrAt_eq_of_covers 5 _ (by decide +kernel) fun t hf y => ?_
  blk_simp
  rw [after0_5, out5_eq]
  obtain ⟨i, j, rfl⟩ := pairOf (a := 512) (b := 1024) y
  refine (pay3_at _ _ _ _ i j).trans ((norm_at m c t i j).trans (congrArg (normOf m c) ?_))
  funext a
  match a with
  | ⟨0, _⟩ => refine Fin.ext ?_; blk_simp [index]; show 512 * t.val + i.val = t.val * 512 + i.val; omega
  | ⟨1, _⟩ => refine Fin.ext ?_; blk_simp [index]

theorem final6 (c : Dev nD) : (dats m 0 c).arrAt 6 cfg0.N = normTOf m c := by
  refine (dats m 0 c).arrAt_eq_of_covers 6 _ (by decide +kernel) fun t hf y => ?_
  blk_simp
  rw [after0_6, out6_eq]
  obtain ⟨j, i, rfl⟩ := pairOf (a := 1024) (b := 512) y
  refine (pay4_at _ _ _ _ i j).trans ((norm_at m c t i j).trans (congrArg (normTOf m c) (a₁ := ix2 j (rowOf t i)) ?_))
  funext a
  match a with
  | ⟨0, _⟩ => refine Fin.ext ?_; blk_simp [index]
  | ⟨1, _⟩ => refine Fin.ext ?_; blk_simp [index]; show 512 * t.val + i.val = t.val * 512 + i.val; omega

theorem run_values (ρ : Dev nD → PrngReg) : θ_run defs (onTc (τ := τ) (main (F := Ideal))) ⟨m, fun _ => 0, ρ⟩ (fun r => ∀ c : Dev nD,
      r.2.mem (c.tc.loc main_v0_0) = sumOf m c
      ∧ r.2.mem (c.tc.loc main_v0_1) = normOf m c
      ∧ r.2.mem (c.tc.loc main_v0_2) = normTOf m c
      ∧ Kept m r.2.mem c main_arg0
      ∧ Kept m r.2.mem c main_arg1
      ∧ Kept m r.2.mem c main_arg2
      ∧ Kept m r.2.mem c main_arg3) :=
  (θ_run defs _ _).mono (fun r h c => ⟨(h c).1.trans (final4 m c), (h c).2.1.trans (final5 m c), (h c).2.2.1.trans (final6 m c), (h c).2.2.2⟩) (Kernel12Ideal.Value.run_blocks m ρ)

end Cert.Mm.FfnOut

namespace Cert.Mm.FfnOut.Ref

open Reference12Ideal Reference12Ideal.Gen Dx
open Idealize.ShloMosaic TcCoe Idealize.SL.Sem

variable (u : S4096x2816.Idx → EReal) (w : S2816x1024.Idx → EReal) (x : S4096x1024.Idx → EReal)

def sumR : FVec Ideal S4096x1024 .f32 := addf x (Host.dotGeneral (F := Ideal) (φ₁ := .f32) (φ₂ := .f32) dot_S4096x2816_S2816x1024_S4096x1024_1_0_0_1_n_n none u w)

theorem sumR_eq : sumR u w x = summed (a := 4096) (n := 2816) u w x := by
  funext y
  obtain ⟨i, j, rfl⟩ := pairOf (a := 4096) (b := 1024) y
  unfold sumR
  simp only [pointwise, zero_add]
  exact add_comm _ _

section Run

variable (m : (ℓ : Loc nD τ sig) → Buf (Elt Ideal) ℓ)

def sumOf (c : Dev nD) : S4096x1024.Idx → EReal := summed (a := 4096) (n := 2816) (m (c.tc.loc main_arg0)) (m (c.tc.loc main_arg1)) (m (c.tc.loc main_arg2))
def normOf (c : Dev nD) : S4096x1024.Idx → EReal := normed (sumOf m c) (m (c.tc.loc main_arg3))
def normTOf (c : Dev nD) : S1024x4096.Idx → EReal := normedT (sumOf m c) (m (c.tc.loc main_arg3))

theorem run_values (ρ : Dev nD → PrngReg) : θ_run defs (onTc (τ := τ) (main (F := Ideal))) ⟨m, fun _ => 0, ρ⟩ (fun r => ∀ c : Dev nD,
      r.2.mem (c.tc.loc main_v3) = sumOf m c
      ∧ r.2.mem (c.tc.loc main_v16) = normOf m c
      ∧ r.2.mem (c.tc.loc main_v18) = normTOf m c
      ∧ Kept m r.2.mem c main_arg0
      ∧ Kept m r.2.mem c main_arg1
      ∧ Kept m r.2.mem c main_arg2
      ∧ Kept m r.2.mem c main_arg3) :=
  (θ_run defs _ _).mono (fun r h c => ⟨(h c).1.trans (sumR_eq _ _ _),
    (h c).2.1.trans ((MlaOut.Ref.nrm_eq _ (sumR _ _ _)).trans (congrArg (fun o => normed (a := 4096) o _) (sumR_eq _ _ _))),
    (h c).2.2.1.trans ((MlaOut.Ref.nrmT_eq _ (sumR _ _ _)).trans (congrArg (fun o => normedT (a := 4096) o _) (sumR_eq _ _ _))), (h c).2.2.2⟩) (Value.run m ρ)

end Run

end Cert.Mm.FfnOut.Ref

end
-- ==== Proof.Mm.RetOut.lean ====
module

public import proofs.«01_k».proof.Proof.Gen.Kernel13Ideal.Value
public import proofs.«01_k».proof.Proof.Gen.Reference13Ideal.Run
public import proofs.«01_k».proof.Proof.Mm.MlaOut

/-! The end of the retention block: the product with its output weights, the residual and the next norm, in the kernel's
    eight blocks of rows and in the reference. -/

@[expose] public section

set_option maxRecDepth 16384

noncomputable section

namespace Cert.Mm.RetOut

open Kernel13Ideal Kernel13Ideal.Gen Dx
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, t.val] := (by decide +kernel : ∀ t : Fin grid0.N, _)

/-- Row `i` of row block `t`. -/
def rowOf (t : Fin cfg0.N) (i : Fin 512) : Fin 4096 := ⟨512 * t.val + i.val, by have h : t.val < 8 := t.isLt; omega⟩

theorem block0 (c : Dev nD) (t : Fin cfg0.N) (i : Fin 512) (k : Fin 2048) : iblk m c 0 t (ix2 i k) = m (c.tc.loc main_arg0) (ix2 (rowOf t i) k) := by
  rw [← V_main_arg0 m c]
  unfold rowOf
  blk_ext [iblk, index]
theorem block1 (c : Dev nD) (t : Fin cfg0.N) : iblk m c 1 t = m (c.tc.loc main_arg1) := by
  rw [← V_main_arg1 m c]
  funext y
  blk_ext [iblk, index]
theorem block2 (c : Dev nD) (t : Fin cfg0.N) (i : Fin 512) (j : Fin 1024) : iblk m c 2 t (ix2 i j) = m (c.tc.loc main_arg2) (ix2 (rowOf t i) j) := by
  rw [← V_main_arg2 m c]
  unfold rowOf
  blk_ext [iblk, index]
theorem block3 (c : Dev nD) (t : Fin cfg0.N) : iblk m c 3 t = m (c.tc.loc main_arg3) := by
  rw [← V_main_arg3 m c]
  funext y
  blk_ext [iblk, index]

theorem out4_eq (u : Vec F S512x2048 .bf16) (w : Vec F S2048x1024 .bf16) (x : Vec F S512x1024 .f32) (g : Vec F S1x1024 .f32) : out0_4 u w x g = k0_pay1 u w x := by
  unfold out0_4
  rw [View.canon_unit_zero hz, View.ld_unit_zero (S := S512x2048) hz, View.ld_unit_zero (S := S2048x1024) hz, View.ld_unit_zero (S := S512x1024) hz]
theorem out5_eq (u : Vec F S512x2048 .bf16) (w : Vec F S2048x1024 .bf16) (x : Vec F S512x1024 .f32) (g : Vec F S1x1024 .f32) : out0_5 u w x g = k0_pay3 u w x g := by
  unfold out0_5
  rw [View.canon_unit_zero hz, View.ld_unit_zero (S := S512x2048) hz, View.ld_unit_zero (S := S2048x1024) hz, View.ld_unit_zero (S := S512x1024) hz, View.ld_unit_zero (S := S1x1024) hz]
theorem out6_eq (u : Vec F S512x2048 .bf16) (w : Vec F S2048x1024 .bf16) (x : Vec F S512x1024 .f32) (g : Vec F S1x1024 .f32) : out0_6 u w x g = k0_pay4 u w x g := by
  unfold out0_6
  rw [View.canon_unit_zero hz, View.ld_unit_zero (S := S512x2048) hz, View.ld_unit_zero (S := S2048x1024) hz, View.ld_unit_zero (S := S512x1024) hz, View.ld_unit_zero (S := S1x1024) hz]

end Any

section Payloads

variable (u : Vec Ideal S512x2048 .bf16) (w : Vec Ideal S2048x1024 .bf16) (x : Vec Ideal S512x1024 .f32) (g : Vec Ideal S1x1024 .f32)

theorem pay1_eq : (k0_pay1 u w x : S512x1024.Idx → EReal) = summed (a := 512) (n := 2048) u w x := by
  funext y
  obtain ⟨i, j, rfl⟩ := pairOf (a := 512) (b := 1024) y
  simp only [k0_pay1, pointwise, zero_add]
  rfl
theorem pay2_at (i : Fin 512) (j : Fin 1024) : (k0_pay2 u w x g : S512x1024.Idx → EReal) (ix2 i j) = normed (summed (a := 512) (n := 2048) u w x) g (ix2 i j) := by
  unfold k0_pay2
  simp only [pointwise, pay1_eq, ↓reduceDIte, OfNat.ofNat_ne_one, zero_add]
  rfl
theorem pay3_at (i : Fin 512) (j : Fin 1024) : (k0_pay3 u w x g : S512x1024.Idx → EReal) (ix2 i j) = normed (summed (a := 512) (n := 2048) u w x) g (ix2 i j) := pay2_at u w x g i j
theorem pay4_at (i : Fin 512) (j : Fin 1024) : (k0_pay4 u w x g : S1024x512.Idx → EReal) (ix2 j i) = normed (summed (a := 512) (n := 2048) u w x) g (ix2 i j) := by
  simp only [k0_pay4, pointwise]
  exact pay2_at u w x g i j

end Payloads

variable (m : (ℓ : Loc nD τ sig) → Buf (Elt Ideal) ℓ)

/-- The three arrays, from the memory's arguments. -/
def sumOf (c : Dev nD) : S4096x1024.Idx → EReal := summed (a := 4096) (n := 2048) (m (c.tc.loc main_arg0)) (m (c.tc.loc main_arg1)) (m (c.tc.loc main_arg2))
def normOf (c : Dev nD) : S4096x1024.Idx → EReal := normed (sumOf m c) (m (c.tc.loc main_arg3))
def normTOf (c : Dev nD) : S1024x4096.Idx → EReal := normedT (sumOf m c) (m (c.tc.loc main_arg3))

theorem sum_at (c : Dev nD) (t : Fin cfg0.N) (i : Fin 512) (j : Fin 1024) :
    summed (a := 512) (n := 2048) (iblk m c 0 t) (iblk m c 1 t) (iblk m c 2 t) (ix2 i j) = sumOf m c (ix2 (rowOf t i) j) := by
  rw [block1]
  refine congrArg₂ (fun a b : EReal => a + b) (Finset.sum_congr rfl fun k _ => ?_) (block2 m c t i j)
  exact congrArg (fun a : EReal => a * _) (block0 m c t i k)
theorem norm_at (c : Dev nD) (t : Fin cfg0.N) (i : Fin 512) (j : Fin 1024) :
    normed (summed (a := 512) (n := 2048) (iblk m c 0 t) (iblk m c 1 t) (iblk m c 2 t)) (iblk m c 3 t) (ix2 i j) = normOf m c (ix2 (rowOf t i) j) := by
  rw [block3]
  exact normed_row (o' := sumOf m c) (i' := rowOf t i) (fun j => sum_at m c t i j) _ j

theorem final4 (c : Dev nD) : (dats m 0 c).arrAt 4 cfg0.N = sumOf m c := by
  refine (dats m 0 c).arrAt_eq_of_covers 4 _ (by decide +kernel) fun t hf y => ?_
  blk_simp
  rw [after0_4, out4_eq, pay1_eq]
  obtain ⟨i, j, rfl⟩ := pairOf (a := 512) (b := 1024) y
  refine (sum_at m c t i j).trans (congrArg (sumOf m c) ?_)
  funext a
  match a with
  | ⟨0, _⟩ => refine Fin.ext ?_; blk_simp [index]; show 512 * t.val + i.val = t.val * 512 + i.val; omega
  | ⟨1, _⟩ => refine Fin.ext ?_; blk_simp [index]

theorem final5 (c : Dev nD) : (dats m 0 c).arrAt 5 cfg0.N = normOf m c := by
  refine (dats m 0 c).arrAt_eq_of_covers 5 _ (by decide +kernel) fun t hf y => ?_
  blk_simp
  rw [after0_5, out5_eq]
  obtain ⟨i, j, rfl⟩ := pairOf (a := 512) (b := 1024) y
  refine (pay3_at _ _ _ _ i j).trans ((norm_at m c t i j).trans (congrArg (normOf m c) ?_))
  funext a
  match a with
  | ⟨0, _⟩ => refine Fin.ext ?_; blk_simp [index]; show 512 * t.val + i.val = t.val * 512 + i.val; omega
  | ⟨1, _⟩ => refine Fin.ext ?_; blk_simp [index]

theorem final6 (c : Dev nD) : (dats m 0 c).arrAt 6 cfg0.N = normTOf m c := by
  refine (dats m 0 c).arrAt_eq_of_covers 6 _ (by decide +kernel) fun t hf y => ?_
  blk_simp
  rw [after0_6, out6_eq]
  obtain ⟨j, i, rfl⟩ := pairOf (a := 1024) (b := 512) y
  refine (pay4_at _ _ _ _ i j).trans ((norm_at m c t i j).trans (congrArg (normTOf m c) (a₁ := ix2 j (rowOf t i)) ?_))
  funext a
  match a with
  | ⟨0, _⟩ => refine Fin.ext ?_; blk_simp [index]
  | ⟨1, _⟩ => refine Fin.ext ?_; blk_simp [index]; show 512 * t.val + i.val = t.val * 512 + i.val; omega

theorem run_values (ρ : Dev nD → PrngReg) : θ_run defs (onTc (τ := τ) (main (F := Ideal))) ⟨m, fun _ => 0, ρ⟩ (fun r => ∀ c : Dev nD,
      r.2.mem (c.tc.loc main_v0_0) = sumOf m c
      ∧ r.2.mem (c.tc.loc main_v0_1) = normOf m c
      ∧ r.2.mem (c.tc.loc main_v0_2) = normTOf m c
      ∧ Kept m r.2.mem c main_arg0
      ∧ Kept m r.2.mem c main_arg1
      ∧ Kept m r.2.mem c main_arg2
      ∧ Kept m r.2.mem c main_arg3) :=
  (θ_run defs _ _).mono (fun r h c => ⟨(h c).1.trans (final4 m c), (h c).2.1.trans (final5 m c), (h c).2.2.1.trans (final6 m c), (h c).2.2.2⟩) (Kernel13Ideal.Value.run_blocks m ρ)

end Cert.Mm.RetOut

namespace Cert.Mm.RetOut.Ref

open Reference13Ideal Reference13Ideal.Gen Dx
open Idealize.ShloMosaic TcCoe Idealize.SL.Sem

variable (u : S4096x2048.Idx → EReal) (w : S2048x1024.Idx → EReal) (x : S4096x1024.Idx → EReal)

def sumR : FVec Ideal S4096x1024 .f32 := addf x (Host.dotGeneral (F := Ideal) (φ₁ := .f32) (φ₂ := .f32) dot_S4096x2048_S2048x1024_S4096x1024_1_0_0_1_n_n none u w)

theorem sumR_eq : sumR u w x = summed (a := 4096) (n := 2048) u w x := by
  funext y
  obtain ⟨i, j, rfl⟩ := pairOf (a := 4096) (b := 1024) y
  unfold sumR
  simp only [pointwise, zero_add]
  exact add_comm _ _

section Run

variable (m : (ℓ : Loc nD τ sig) → Buf (Elt Ideal) ℓ)

def sumOf (c : Dev nD) : S4096x1024.Idx → EReal := summed (a := 4096) (n := 2048) (m (c.tc.loc main_arg0)) (m (c.tc.loc main_arg1)) (m (c.tc.loc main_arg2))
def normOf (c : Dev nD) : S4096x1024.Idx → EReal := normed (sumOf m c) (m (c.tc.loc main_arg3))
def normTOf (c : Dev nD) : S1024x4096.Idx → EReal := normedT (sumOf m c) (m (c.tc.loc main_arg3))

theorem run_values (ρ : Dev nD → PrngReg) : θ_run defs (onTc (τ := τ) (main (F := Ideal))) ⟨m, fun _ => 0, ρ⟩ (fun r => ∀ c : Dev nD,
      r.2.mem (c.tc.loc main_v3) = sumOf m c
      ∧ r.2.mem (c.tc.loc main_v16) = normOf m c
      ∧ r.2.mem (c.tc.loc main_v18) = normTOf m c
      ∧ Kept m r.2.mem c main_arg0
      ∧ Kept m r.2.mem c main_arg1
      ∧ Kept m r.2.mem c main_arg2
      ∧ Kept m r.2.mem c main_arg3) :=
  (θ_run defs _ _).mono (fun r h c => ⟨(h c).1.trans (sumR_eq _ _ _),
    (h c).2.1.trans ((MlaOut.Ref.nrm_eq _ (sumR _ _ _)).trans (congrArg (fun o => normed (a := 4096) o _) (sumR_eq _ _ _))),
    (h c).2.2.1.trans ((MlaOut.Ref.nrmT_eq _ (sumR _ _ _)).trans (congrArg (fun o => normedT (a := 4096) o _) (sumR_eq _ _ _))), (h c).2.2.2⟩) (Value.run m ρ)

end Run

end Cert.Mm.RetOut.Ref

end
-- ==== Proof.Mm.Loss.lean ====
module

public import proofs.«01_k».proof.Proof.Gen.Kernel15Ideal.Value
public import proofs.«01_k».proof.Proof.Gen.Reference15Ideal.Run
public import proofs.«01_k».proof.Proof.Mm.Norm

/-! The end of the last FFN block: the product with its output weights, the residual, the squared error against the target
    and its gradient, in the kernel's eight blocks of rows and in the reference. -/

@[expose] public section

set_option maxRecDepth 16384

noncomputable section

namespace Cert.Mm.Loss

open Kernel15Ideal Kernel15Ideal.Gen Dx
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, 0] := (by decide +kernel : ∀ t : Fin grid0.N, _)

/-- Row `i` of row block `t`. -/
def rowOf (t : Fin cfg0.N) (i : Fin 512) : Fin 4096 := ⟨512 * t.val + i.val, by have h : t.val < 8 := t.isLt; omega⟩

theorem block0 (c : Dev nD) (t : Fin cfg0.N) (i : Fin 512) (k : Fin 2816) : iblk m c 0 t (ix2 i k) = m (c.tc.loc main_arg0) (ix2 (rowOf t i) k) := by
  rw [← V_main_arg0 m c]
  unfold rowOf
  blk_ext [iblk, index]
theorem block1 (c : Dev nD) (t : Fin cfg0.N) : iblk m c 1 t = m (c.tc.loc main_arg1) := by
  rw [← V_main_arg1 m c]
  funext y
  blk_ext [iblk, index]
theorem block2 (c : Dev nD) (t : Fin cfg0.N) (i : Fin 512) (j : Fin 1024) : iblk m c 2 t (ix2 i j) = m (c.tc.loc main_arg2) (ix2 (rowOf t i) j) := by
  rw [← V_main_arg2 m c]
  unfold rowOf
  blk_ext [iblk, index]
theorem block3 (c : Dev nD) (t : Fin cfg0.N) (i : Fin 512) (j : Fin 1024) : iblk m c 3 t (ix2 i j) = m (c.tc.loc main_arg3) (ix2 (rowOf t i) j) := by
  rw [← V_main_arg3 m c]
  unfold rowOf
  blk_ext [iblk, index]

theorem outs4 (c : Dev nD) (t : Fin cfg0.N) :
    (outsAt0 m c t.val t.isLt).1 = k0_pay2 (iblk m c 0 t) (iblk m c 1 t) (iblk m c 2 t) (iblk m c 3 t) := by
  by_cases h0 : t.val % 8 = 0
  · have h1 : ¬ 1 ≤ t.val := by have h : t.val < 8 := t.isLt; omega
    rw [outsAt0_A m c t h0 h1]
    dsimp only
    unfold out0_A_4
    refine (View.read_writes_eq_canon _ _ _ (cover0_A_4 c _ _ _ _ _ _ _ _ _ _ _ _ _ _ _ _ _ _ _ _ _)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread,
      View.ld_unit_zero (S := S512x2816) hz, View.ld_unit_zero (S := S2816x1024) hz, View.ld_unit_zero (S := S512x1024) hz]
  · have h1 : 1 ≤ t.val := by omega
    rw [outsAt0_B m c t h0 h1]
    dsimp only
    unfold out0_B_4
    refine (View.read_writes_eq_canon _ _ _ (cover0_B_4 c _ _ _ _ _ _ _ _ _ _ _ _ _ _ _ _ _ _ _ _ _ _)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread,
      View.ld_unit_zero (S := S512x2816) hz, View.ld_unit_zero (S := S2816x1024) hz, View.ld_unit_zero (S := S512x1024) hz]

theorem outs5 (c : Dev nD) (t : Fin cfg0.N) :
    (outsAt0 m c t.val t.isLt).2.1 = k0_pay3 (iblk m c 0 t) (iblk m c 1 t) (iblk m c 2 t) (iblk m c 3 t) := by
  by_cases h0 : t.val % 8 = 0
  · have h1 : ¬ 1 ≤ t.val := by have h : t.val < 8 := t.isLt; omega
    rw [outsAt0_A m c t h0 h1]
    dsimp only
    unfold out0_A_5
    refine (View.read_writes_eq_canon _ _ _ (cover0_A_5 c _ _ _ _ _ _ _ _ _ _ _ _ _ _ _ _ _ _ _ _ _)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread,
      View.ld_unit_zero (S := S512x2816) hz, View.ld_unit_zero (S := S2816x1024) hz, View.ld_unit_zero (S := S512x1024) hz]
  · have h1 : 1 ≤ t.val := by omega
    rw [outsAt0_B m c t h0 h1]
    dsimp only
    unfold out0_B_5
    refine (View.read_writes_eq_canon _ _ _ (cover0_B_5 c _ _ _ _ _ _ _ _ _ _ _ _ _ _ _ _ _ _ _ _ _ _)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread,
      View.ld_unit_zero (S := S512x2816) hz, View.ld_unit_zero (S := S2816x1024) hz, View.ld_unit_zero (S := S512x1024) hz]

/-- The first point stores its part of the loss. -/
theorem outs6_first (c : Dev nD) (h : 0 < cfg0.N) :
    (outsAt0 m c 0 h).2.2 = k0_pay4 (iblk m c 0 ⟨0, h⟩) (iblk m c 1 ⟨0, h⟩) (iblk m c 2 ⟨0, h⟩) (iblk m c 3 ⟨0, h⟩) := by
  rw [outsAt0_A m c ⟨0, h⟩ rfl (by show ¬ 1 ≤ 0; omega)]
  dsimp only
  unfold out0_A_6
  refine (View.read_writes_eq_canon _ _ _ (cover0_A_6 c _ _ _ _ _ _ _ _ _ _ _ _ _ _ _ _ _ _ _ _ _)).trans ?_
  unfold kernelRun0_A
  dsimp only
  sl_unfold_words
  rw [View.canon_unit_zero hz]
  simp only [View.readAt_eq_ld, (hs0_0 _).read_unread, (hs0_1 _).read_unread, (hs0_2 _).read_unread, (hs0_3 _).read_unread,
    View.ld_unit_zero (S := S512x2816) hz, View.ld_unit_zero (S := S2816x1024) hz, View.ld_unit_zero (S := S512x1024) hz]

/-- A later point adds its part. -/
theorem outs6_next (c : Dev nD) (n : ℕ) (h : n + 1 < cfg0.N) :
    (outsAt0 m c (n + 1) h).2.2 = addf (outsAt0 m c n (Nat.lt_of_succ_lt h)).2.2 (k0_pay4 (iblk m c 0 ⟨n + 1, h⟩) (iblk m c 1 ⟨n + 1, h⟩) (iblk m c 2 ⟨n + 1, h⟩) (iblk m c 3 ⟨n + 1, h⟩)) := by
  have hN : n + 1 < 8 := h
  rw [outsAt0_B m c ⟨n + 1, h⟩ (by show ¬ (n + 1) % 8 = 0; omega) (by show 1 ≤ n + 1; omega)]
  dsimp only
  unfold out0_B_6
  refine (View.read_writes_eq_canon _ _ _ (cover0_B_6 c _ _ _ _ _ _ _ _ _ _ _ _ _ _ _ _ _ _ _ _ _ _)).trans ?_
  unfold kernelRun0_B
  dsimp only
  sl_unfold_words
  rw [View.canon_unit_zero hz]
  unfold k0_pay5
  simp only [View.readAt_eq_ld, (hs0_0 _).read_unread, (hs0_1 _).read_unread, (hs0_2 _).read_unread, (hs0_3 _).read_unread, (hs0_6 _).read_unread,
    View.ld_unit_zero (S := S512x2816) hz, View.ld_unit_zero (S := S2816x1024) hz, View.ld_unit_zero (S := S512x1024) hz, View.ld_unit_zero (S := S8x128) hz, shapeCast_self]
  rfl

end Any

section Payloads

variable (u : Vec Ideal S512x2816 .bf16) (w : Vec Ideal S2816x1024 .bf16) (x : Vec Ideal S512x1024 .f32) (t : Vec Ideal S512x1024 .f32)

theorem pay1_eq : (k0_pay1 u w x t : S512x1024.Idx → EReal) = errOf (summed (a := 512) (n := 2816) u w x) t := by
  funext y
  obtain ⟨i, j, rfl⟩ := pairOf (a := 512) (b := 1024) y
  simp only [k0_pay1, pointwise, zero_add]
  rfl
theorem pay2_eq : (k0_pay2 u w x t : S512x1024.Idx → EReal) = fun y => Ideal.div (errOf (summed (a := 512) (n := 2816) u w x) t y) width := by
  unfold k0_pay2
  rw [pay1_eq]
  rfl
theorem pay3_eq : (k0_pay3 u w x t : S512x1024.Idx → EReal) = fun y => Ideal.div (errOf (summed (a := 512) (n := 2816) u w x) t y) width := by
  unfold k0_pay3
  rw [pay1_eq]
  rfl
theorem pay4_at (p : Fin 8) (q : Fin 128) : (k0_pay4 u w x t : S8x128.Idx → EReal) (ix2 p q) = oneHalf * ∑ i : Fin 512, meanOf (rowAt (errOf (summed (a := 512) (n := 2816) u w x) t) i) := by
  unfold k0_pay4
  simp only [pointwise, pay1_eq, zero_add]
  rfl

end Payloads

variable (m : (ℓ : Loc nD τ sig) → Buf (Elt Ideal) ℓ)

/-- The error, from the memory's arguments. -/
def errs (c : Dev nD) : S4096x1024.Idx → EReal :=
  errOf (summed (a := 4096) (n := 2816) (m (c.tc.loc main_arg0)) (m (c.tc.loc main_arg1)) (m (c.tc.loc main_arg2))) (m (c.tc.loc main_arg3))

theorem errs_at (c : Dev nD) (t : Fin cfg0.N) (i : Fin 512) (j : Fin 1024) :
    errOf (summed (a := 512) (n := 2816) (iblk m c 0 t) (iblk m c 1 t) (iblk m c 2 t)) (iblk m c 3 t) (ix2 i j) = errs m c (ix2 (rowOf t i) j) := by
  rw [block1]
  refine congrArg₂ (fun a b : EReal => a - b) (congrArg₂ (fun a b : EReal => a + b) (Finset.sum_congr rfl fun k _ => ?_) (block2 m c t i j)) (block3 m c t i j)
  exact congrArg (fun a : EReal => a * _) (block0 m c t i k)

theorem part_at (c : Dev nD) (t : Fin cfg0.N) (p : Fin 8) (q : Fin 128) :
    (k0_pay4 (iblk m c 0 t) (iblk m c 1 t) (iblk m c 2 t) (iblk m c 3 t) : S8x128.Idx → EReal) (ix2 p q) = oneHalf * ∑ i : Fin 512, meanOf (rowAt (errs m c) (rowOf t i)) := by
  rw [pay4_at]
  refine congrArg (fun a : EReal => oneHalf * a) (Finset.sum_congr rfl fun i _ => congrArg meanOf ?_)
  exact funext fun j => errs_at m c t i j

/-- After point `n` the loss holds the parts of the points up to `n`. -/
theorem outs6 (c : Dev nD) (p : Fin 8) (q : Fin 128) : ∀ (n : ℕ) (h : n < cfg0.N), (outsAt0 m c n h).2.2 (ix2 (n0 := 8) (n1 := 128) p q)
    = ∑ t : Fin (n + 1), oneHalf * ∑ i : Fin 512, meanOf (rowAt (errs m c) (rowOf ⟨t.val, by omega⟩ i))
  | 0, h => by
    rw [outs6_first, Fin.sum_univ_one]
    exact part_at m c ⟨0, h⟩ p q
  | n + 1, h => by
    rw [outs6_next, Fin.sum_univ_castSucc]
    exact congrArg₂ (fun a b : EReal => a + b) (outs6 c p q n (Nat.lt_of_succ_lt h)) (part_at m c ⟨n + 1, h⟩ p q)

theorem final4 (c : Dev nD) : (dats m 0 c).arrAt 4 cfg0.N = gradOf (errs m c) := by
  refine (dats m 0 c).arrAt_eq_of_covers 4 _ (by decide +kernel) fun t hf y => ?_
  blk_simp
  rw [after0_4, outs4, pay2_eq]
  obtain ⟨i, j, rfl⟩ := pairOf (a := 512) (b := 1024) y
  refine (congrArg (fun a : EReal => Ideal.div a width) (errs_at m c t i j)).trans (congrArg (gradOf (errs m c)) (a₁ := ix2 (rowOf t i) j) ?_)
  funext a
  match a with
  | ⟨0, _⟩ => refine Fin.ext ?_; blk_simp [index]; show 512 * t.val + i.val = t.val * 512 + i.val; omega
  | ⟨1, _⟩ => refine Fin.ext ?_; blk_simp [index]

theorem final5 (c : Dev nD) : (dats m 0 c).arrAt 5 cfg0.N = gradOf (errs m c) := by
  refine (dats m 0 c).arrAt_eq_of_covers 5 _ (by decide +kernel) fun t hf y => ?_
  blk_simp
  rw [after0_5, outs5, pay3_eq]
  obtain ⟨i, j, rfl⟩ := pairOf (a := 512) (b := 1024) y
  refine (congrArg (fun a : EReal => Ideal.div a width) (errs_at m c t i j)).trans (congrArg (gradOf (errs m c)) (a₁ := ix2 (rowOf t i) j) ?_)
  funext a
  match a with
  | ⟨0, _⟩ => refine Fin.ext ?_; blk_simp [index]; show 512 * t.val + i.val = t.val * 512 + i.val; omega
  | ⟨1, _⟩ => refine Fin.ext ?_; blk_simp [index]

theorem last : ∀ t : Fin cfg0.N, (cfg0.win 6).flush t = true → t.val = 7 := (by decide +kernel : ∀ t : Fin grid0.N, _)

theorem final6 (c : Dev nD) : (dats m 0 c).arrAt 6 cfg0.N = fun _ => lossOf (errs m c) := by
  refine (dats m 0 c).arrAt_eq_of_covers 6 _ (by decide +kernel) fun t hf y => ?_
  have e := last t hf
  blk_simp
  rw [after0_6]
  obtain ⟨n, h⟩ := t
  obtain rfl : n = 7 := e
  obtain ⟨p, q, rfl⟩ := pairOf (a := 8) (b := 128) y
  exact (outs6 m c p q 7 h).trans (sum_eighths fun r => meanOf (rowAt (errs m c) r))

theorem run_values (ρ : Dev nD → PrngReg) : θ_run defs (onTc (τ := τ) (main (F := Ideal))) ⟨m, fun _ => 0, ρ⟩ (fun r => ∀ c : Dev nD,
      r.2.mem (c.tc.loc main_v0_0) = gradOf (errs m c)
      ∧ r.2.mem (c.tc.loc main_v0_1) = gradOf (errs m c)
      ∧ r.2.mem (c.tc.loc main_v0_2) = (fun _ => lossOf (errs m c))
      ∧ Kept m r.2.mem c main_arg0
      ∧ Kept m r.2.mem c main_arg1
      ∧ Kept m r.2.mem c main_arg2
      ∧ Kept m r.2.mem c main_arg3) :=
  (θ_run defs _ _).mono (fun r h c => ⟨(h c).1.trans (final4 m c), (h c).2.1.trans (final5 m c), (h c).2.2.1.trans (final6 m c), (h c).2.2.2⟩) (Kernel15Ideal.Value.run_blocks m ρ)

end Cert.Mm.Loss

namespace Cert.Mm.Loss.Ref

open Reference15Ideal Reference15Ideal.Gen Dx
open Idealize.ShloMosaic TcCoe Idealize.SL.Sem

variable (u : S4096x2816.Idx → EReal) (w : S2816x1024.Idx → EReal) (x t : S4096x1024.Idx → EReal)

def errR : FVec Ideal S4096x1024 .f32 := subf (addf x (Host.dotGeneral (F := Ideal) (φ₁ := .f32) (φ₂ := .f32) dot_S4096x2816_S2816x1024_S4096x1024_1_0_0_1_n_n none u w)) t

theorem errR_eq : errR u w x t = errOf (summed (a := 4096) (n := 2816) u w x) t := by
  funext y
  obtain ⟨i, j, rfl⟩ := pairOf (a := 4096) (b := 1024) y
  unfold errR
  simp only [pointwise, zero_add]
  exact congrArg (fun a : EReal => a - t (ix2 i j)) (add_comm _ _)

def gradR (o : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) o)

theorem gradR_eq (o : FVec Ideal S4096x1024 .f32) : gradR o = gradOf o := by
  funext y
  obtain ⟨i, j, rfl⟩ := pairOf (a := 4096) (b := 1024) y
  unfold gradR
  simp only [pointwise, ↓reduceDIte, OfNat.ofNat_ne_one]
  exact half_twice _

def lossR (o : FVec Ideal S4096x1024 .f32) : FVec Ideal S8x128 .f32 :=
  broadcastInDim S8x128 ![] bcast_S_S8x128 (mulf (constant S_ .f32 0x3F000000#32) (Host.reduceAdd (Host.divf (Host.reduceAdd (mulf o o) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

theorem lossR_eq (o : FVec Ideal S4096x1024 .f32) : lossR o = fun _ => lossOf o := by
  funext y
  obtain ⟨p, q, rfl⟩ := pairOf (a := 8) (b := 128) y
  unfold lossR
  simp only [pointwise, ↓reduceDIte, OfNat.ofNat_ne_one, zero_add]
  rfl

section Run

variable (m : (ℓ : Loc nD τ sig) → Buf (Elt Ideal) ℓ)

def errs (c : Dev nD) : S4096x1024.Idx → EReal :=
  errOf (summed (a := 4096) (n := 2816) (m (c.tc.loc main_arg0)) (m (c.tc.loc main_arg1)) (m (c.tc.loc main_arg2))) (m (c.tc.loc main_arg3))

theorem run_values (ρ : Dev nD → PrngReg) : θ_run defs (onTc (τ := τ) (main (F := Ideal))) ⟨m, fun _ => 0, ρ⟩ (fun r => ∀ c : Dev nD,
      r.2.mem (c.tc.loc main_v18) = gradOf (errs m c)
      ∧ r.2.mem (c.tc.loc main_v19) = gradOf (errs m c)
      ∧ r.2.mem (c.tc.loc main_v20) = (fun _ => lossOf (errs m c))
      ∧ Kept m r.2.mem c main_arg0
      ∧ Kept m r.2.mem c main_arg1
      ∧ Kept m r.2.mem c main_arg2
      ∧ Kept m r.2.mem c main_arg3) :=
  (θ_run defs _ _).mono (fun r h c => ⟨(h c).1.trans ((gradR_eq (errR _ _ _ _)).trans (congrArg gradOf (errR_eq _ _ _ _))),
    (h c).2.1.trans ((gradR_eq (errR _ _ _ _)).trans (congrArg gradOf (errR_eq _ _ _ _))),
    (h c).2.2.1.trans ((lossR_eq (errR _ _ _ _)).trans (congrArg (fun o => fun _ => lossOf o) (errR_eq _ _ _ _))), (h c).2.2.2⟩) (Value.run m ρ)

end Run

end Cert.Mm.Loss.Ref

end
-- ==== Proof.Mm.MlaIn.lean ====
module

public import proofs.«01_k».proof.Proof.Gen.Kernel16Ideal.Value
public import proofs.«01_k».proof.Proof.Gen.Reference16Ideal.Run
public import proofs.«01_k».proof.Proof.Mm.Prod

/-! The product with the input weights of the attention block: the kernel's two row
    blocks and the reference's one product. -/

@[expose] public section

set_option maxRecDepth 16384

noncomputable section

namespace Cert.Mm.MlaIn

open Kernel16Ideal Kernel16Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val, 0] ∧ win0_1.index t = ![0, 0] ∧ win0_2.index t = ![t.val, 0] := (by decide +kernel : ∀ t : Fin grid0.N, _)

/-- Row `i` of row block `t`. -/
def rowOf (t : Fin cfg0.N) (i : Fin 2048) : Fin 4096 := ⟨2048 * t.val + i.val, by have h : t.val < 2 := t.isLt; omega⟩

theorem block0 (c : Dev nD) (t : Fin cfg0.N) (i : Fin 2048) (k : Fin 1024) : iblk m c 0 t (ix2 i k) = m (c.tc.loc main_arg0) (ix2 (rowOf t i) k) := by
  rw [← V_main_arg0 m c]
  unfold rowOf
  blk_ext [iblk, index]
theorem block1 (c : Dev nD) (t : Fin cfg0.N) : iblk m c 1 t = m (c.tc.loc main_arg1) := by
  rw [← V_main_arg1 m c]
  funext y
  blk_ext [iblk, index]

theorem out_eq (x : Vec F S2048x1024 .bf16) (w : Vec F S1024x768 .bf16) : out0_2 x w = k0_pay1 x w := by
  unfold out0_2
  rw [View.canon_unit_zero hz, View.ld_unit_zero (S := S2048x1024) hz, View.ld_unit_zero (S := S1024x768) hz]

end Any

variable (m : (ℓ : Loc nD τ sig) → Buf (Elt Ideal) ℓ)

theorem pay_at (x : Vec Ideal S2048x1024 .bf16) (w : Vec Ideal S1024x768 .bf16) (i : Fin 2048) (j : Fin 768) :
    k0_pay1 x w (ix2 i j) = ∑ k : Fin 1024, x (ix2 i k) * w (ix2 k j) := by
  simp only [k0_pay1, pointwise, zero_add]

/-- The array the kernel ends with. -/
theorem final (c : Dev nD) : (dats m 0 c).arrAt 2 cfg0.N = cols (m (c.tc.loc main_arg0)) (m (c.tc.loc main_arg1)) := by
  refine (dats m 0 c).arrAt_eq_of_covers 2 _ (by decide +kernel) fun t hf y => ?_
  blk_simp
  rw [after0_2, out_eq]
  obtain ⟨i, j, rfl⟩ := Dx.pairOf (a := 2048) (b := 768) y
  rw [pay_at, block1]
  simp only [block0]
  refine congrArg (cols (m (c.tc.loc main_arg0)) (m (c.tc.loc main_arg1))) (a₁ := ix2 (rowOf t i) j) ?_
  funext a
  match a with
  | ⟨0, _⟩ => refine Fin.ext ?_; blk_simp [index]; show 2048 * t.val + i.val = t.val * 2048 + i.val; omega
  | ⟨1, _⟩ => refine Fin.ext ?_; blk_simp [index]

theorem run_values (ρ : Dev nD → PrngReg) : θ_run defs (onTc (τ := τ) (main (F := Ideal))) ⟨m, fun _ => 0, ρ⟩ (fun r => ∀ c : Dev nD,
      r.2.mem (c.tc.loc main_v0) = cols (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel16Ideal.Value.run_blocks m ρ)

end Cert.Mm.MlaIn

namespace Cert.Mm.MlaIn.Ref

open Reference16Ideal Reference16Ideal.Gen
open Idealize.ShloMosaic TcCoe Idealize.SL.Sem

theorem product_eq (x : S4096x1024.Idx → EReal) (w : S1024x768.Idx → EReal) :
    (Host.dotGeneral (F := Ideal) (φ₁ := .f32) (φ₂ := .f32) dot_S4096x1024_S1024x768_S4096x768_1_0_0_1_n_n none x w : FVec Ideal S4096x768 .f32) = cols x w := by
  funext y
  obtain ⟨i, j, rfl⟩ := Dx.pairOf (a := 4096) (b := 768) y
  simp only [pointwise, zero_add]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v2) = cols (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.MlaIn.Ref

end
-- ==== Proof.Mm.MlaQb.lean ====
module

public import proofs.«01_k».proof.Proof.Gen.Kernel17Ideal.Value
public import proofs.«01_k».proof.Proof.Gen.Reference17Ideal.Run
public import proofs.«01_k».proof.Proof.Mm.Prod

/-! The product with the second query weights of the attention block: the kernel's two row
    blocks and the reference's one product. -/

@[expose] public section

set_option maxRecDepth 16384

noncomputable section

namespace Cert.Mm.MlaQb

open Kernel17Ideal Kernel17Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val, 0] ∧ win0_1.index t = ![0, 0] ∧ win0_2.index t = ![t.val, 0] := (by decide +kernel : ∀ t : Fin grid0.N, _)

/-- Row `i` of row block `t`. -/
def rowOf (t : Fin cfg0.N) (i : Fin 2048) : Fin 4096 := ⟨2048 * t.val + i.val, by have h : t.val < 2 := t.isLt; omega⟩

theorem block0 (c : Dev nD) (t : Fin cfg0.N) (i : Fin 2048) (k : Fin 384) : iblk m c 0 t (ix2 i k) = m (c.tc.loc main_arg0) (ix2 (rowOf t i) k) := by
  rw [← V_main_arg0 m c]
  unfold rowOf
  blk_ext [iblk, index]
theorem block1 (c : Dev nD) (t : Fin cfg0.N) : iblk m c 1 t = m (c.tc.loc main_arg1) := by
  rw [← V_main_arg1 m c]
  funext y
  blk_ext [iblk, index]

theorem out_eq (x : Vec F S2048x384 .bf16) (w : Vec F S384x2048 .bf16) : out0_2 x w = k0_pay1 x w := by
  unfold out0_2
  rw [View.canon_unit_zero hz, View.ld_unit_zero (S := S2048x384) hz, View.ld_unit_zero (S := S384x2048) hz]

end Any

variable (m : (ℓ : Loc nD τ sig) → Buf (Elt Ideal) ℓ)

theorem pay_at (x : Vec Ideal S2048x384 .bf16) (w : Vec Ideal S384x2048 .bf16) (i : Fin 2048) (j : Fin 2048) :
    k0_pay1 x w (ix2 i j) = ∑ k : Fin 384, x (ix2 i k) * w (ix2 k j) := by
  simp only [k0_pay1, pointwise, zero_add]

/-- The array the kernel ends with. -/
theorem final (c : Dev nD) : (dats m 0 c).arrAt 2 cfg0.N = cols (m (c.tc.loc main_arg0)) (m (c.tc.loc main_arg1)) := by
  refine (dats m 0 c).arrAt_eq_of_covers 2 _ (by decide +kernel) fun t hf y => ?_
  blk_simp
  rw [after0_2, out_eq]
  obtain ⟨i, j, rfl⟩ := Dx.pairOf (a := 2048) (b := 2048) y
  rw [pay_at, block1]
  simp only [block0]
  refine congrArg (cols (m (c.tc.loc main_arg0)) (m (c.tc.loc main_arg1))) (a₁ := ix2 (rowOf t i) j) ?_
  funext a
  match a with
  | ⟨0, _⟩ => refine Fin.ext ?_; blk_simp [index]; show 2048 * t.val + i.val = t.val * 2048 + i.val; omega
  | ⟨1, _⟩ => refine Fin.ext ?_; blk_simp [index]

theorem run_values (ρ : Dev nD → PrngReg) : θ_run defs (onTc (τ := τ) (main (F := Ideal))) ⟨m, fun _ => 0, ρ⟩ (fun r => ∀ c : Dev nD,
      r.2.mem (c.tc.loc main_v0) = cols (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel17Ideal.Value.run_blocks m ρ)

end Cert.Mm.MlaQb

namespace Cert.Mm.MlaQb.Ref

open Reference17Ideal Reference17Ideal.Gen
open Idealize.ShloMosaic TcCoe Idealize.SL.Sem

theorem product_eq (x : S4096x384.Idx → EReal) (w : S384x2048.Idx → EReal) :
    (Host.dotGeneral (F := Ideal) (φ₁ := .f32) (φ₂ := .f32) dot_S4096x384_S384x2048_S4096x2048_1_0_0_1_n_n none x w : FVec Ideal S4096x2048 .f32) = cols x w := by
  funext y
  obtain ⟨i, j, rfl⟩ := Dx.pairOf (a := 4096) (b := 2048) y
  simp only [pointwise, zero_add]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v3) = cols (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.MlaQb.Ref

end
-- ==== Proof.Mm.MlaKvb.lean ====
module

public import proofs.«01_k».proof.Proof.Gen.Kernel18Ideal.Value
public import proofs.«01_k».proof.Proof.Gen.Reference18Ideal.Run
public import proofs.«01_k».proof.Proof.Mm.Prod

/-! The product with the second key and value weights of the attention block: the kernel's two row
    blocks and the reference's one product. -/

@[expose] public section

set_option maxRecDepth 16384

noncomputable section

namespace Cert.Mm.MlaKvb

open Kernel18Ideal Kernel18Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val, 0] ∧ win0_1.index t = ![0, 0] ∧ win0_2.index t = ![t.val, 0] := (by decide +kernel : ∀ t : Fin grid0.N, _)

/-- Row `i` of row block `t`. -/
def rowOf (t : Fin cfg0.N) (i : Fin 2048) : Fin 4096 := ⟨2048 * t.val + i.val, by have h : t.val < 2 := t.isLt; omega⟩

theorem block0 (c : Dev nD) (t : Fin cfg0.N) (i : Fin 2048) (k : Fin 256) : iblk m c 0 t (ix2 i k) = m (c.tc.loc main_arg0) (ix2 (rowOf t i) k) := by
  rw [← V_main_arg0 m c]
  unfold rowOf
  blk_ext [iblk, index]
theorem block1 (c : Dev nD) (t : Fin cfg0.N) : iblk m c 1 t = m (c.tc.loc main_arg1) := by
  rw [← V_main_arg1 m c]
  funext y
  blk_ext [iblk, index]

theorem out_eq (x : Vec F S2048x256 .bf16) (w : Vec F S256x2048 .bf16) : out0_2 x w = k0_pay1 x w := by
  unfold out0_2
  rw [View.canon_unit_zero hz, View.ld_unit_zero (S := S2048x256) hz, View.ld_unit_zero (S := S256x2048) hz]

end Any

variable (m : (ℓ : Loc nD τ sig) → Buf (Elt Ideal) ℓ)

theorem pay_at (x : Vec Ideal S2048x256 .bf16) (w : Vec Ideal S256x2048 .bf16) (i : Fin 2048) (j : Fin 2048) :
    k0_pay1 x w (ix2 i j) = ∑ k : Fin 256, x (ix2 i k) * w (ix2 k j) := by
  simp only [k0_pay1, pointwise, zero_add]

/-- The array the kernel ends with. -/
theorem final (c : Dev nD) : (dats m 0 c).arrAt 2 cfg0.N = cols (m (c.tc.loc main_arg0)) (m (c.tc.loc main_arg1)) := by
  refine (dats m 0 c).arrAt_eq_of_covers 2 _ (by decide +kernel) fun t hf y => ?_
  blk_simp
  rw [after0_2, out_eq]
  obtain ⟨i, j, rfl⟩ := Dx.pairOf (a := 2048) (b := 2048) y
  rw [pay_at, block1]
  simp only [block0]
  refine congrArg (cols (m (c.tc.loc main_arg0)) (m (c.tc.loc main_arg1))) (a₁ := ix2 (rowOf t i) j) ?_
  funext a
  match a with
  | ⟨0, _⟩ => refine Fin.ext ?_; blk_simp [index]; show 2048 * t.val + i.val = t.val * 2048 + i.val; omega
  | ⟨1, _⟩ => refine Fin.ext ?_; blk_simp [index]

theorem run_values (ρ : Dev nD → PrngReg) : θ_run defs (onTc (τ := τ) (main (F := Ideal))) ⟨m, fun _ => 0, ρ⟩ (fun r => ∀ c : Dev nD,
      r.2.mem (c.tc.loc main_v0) = cols (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel18Ideal.Value.run_blocks m ρ)

end Cert.Mm.MlaKvb

namespace Cert.Mm.MlaKvb.Ref

open Reference18Ideal Reference18Ideal.Gen
open Idealize.ShloMosaic TcCoe Idealize.SL.Sem

theorem product_eq (x : S4096x256.Idx → EReal) (w : S256x2048.Idx → EReal) :
    (Host.dotGeneral (F := Ideal) (φ₁ := .f32) (φ₂ := .f32) dot_S4096x256_S256x2048_S4096x2048_1_0_0_1_n_n none x w : FVec Ideal S4096x2048 .f32) = cols x w := by
  funext y
  obtain ⟨i, j, rfl⟩ := Dx.pairOf (a := 4096) (b := 2048) y
  simp only [pointwise, zero_add]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v3) = cols (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.MlaKvb.Ref

end
-- ==== Proof.Mm.MlaOutDx.lean ====
module

public import proofs.«01_k».proof.Proof.Gen.Kernel19Ideal.Value
public import proofs.«01_k».proof.Proof.Gen.Reference19Ideal.Run
public import proofs.«01_k».proof.Proof.Mm.Prod

/-! The gradient that a product with the output weights of the attention block passes back: the kernel's two row
    blocks and the reference's one product. -/

@[expose] public section

set_option maxRecDepth 16384

noncomputable section

namespace Cert.Mm.MlaOutDx

open Kernel19Ideal Kernel19Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val, 0] ∧ win0_1.index t = ![0, 0] ∧ win0_2.index t = ![t.val, 0] := (by decide +kernel : ∀ t : Fin grid0.N, _)

/-- Row `i` of row block `t`. -/
def rowOf (t : Fin cfg0.N) (i : Fin 2048) : Fin 4096 := ⟨2048 * t.val + i.val, by have h : t.val < 2 := t.isLt; omega⟩

theorem block0 (c : Dev nD) (t : Fin cfg0.N) (i : Fin 2048) (k : Fin 1024) : iblk m c 0 t (ix2 i k) = m (c.tc.loc main_arg0) (ix2 (rowOf t i) k) := by
  rw [← V_main_arg0 m c]
  unfold rowOf
  blk_ext [iblk, index]
theorem block1 (c : Dev nD) (t : Fin cfg0.N) : iblk m c 1 t = m (c.tc.loc main_arg1) := by
  rw [← V_main_arg1 m c]
  funext y
  blk_ext [iblk, index]

theorem out_eq (x : Vec F S2048x1024 .bf16) (w : Vec F S1024x1024 .bf16) : out0_2 x w = k0_pay1 x w := by
  unfold out0_2
  rw [View.canon_unit_zero hz, View.ld_unit_zero (S := S2048x1024) hz, View.ld_unit_zero (S := S1024x1024) hz]

end Any

variable (m : (ℓ : Loc nD τ sig) → Buf (Elt Ideal) ℓ)

theorem pay_at (x : Vec Ideal S2048x1024 .bf16) (w : Vec Ideal S1024x1024 .bf16) (i : Fin 2048) (j : Fin 1024) :
    k0_pay1 x w (ix2 i j) = ∑ k : Fin 1024, x (ix2 i k) * w (ix2 j k) := by
  simp only [k0_pay1, pointwise, zero_add]

/-- The array the kernel ends with. -/
theorem final (c : Dev nD) : (dats m 0 c).arrAt 2 cfg0.N = rows (m (c.tc.loc main_arg0)) (m (c.tc.loc main_arg1)) := by
  refine (dats m 0 c).arrAt_eq_of_covers 2 _ (by decide +kernel) fun t hf y => ?_
  blk_simp
  rw [after0_2, out_eq]
  obtain ⟨i, j, rfl⟩ := Dx.pairOf (a := 2048) (b := 1024) y
  rw [pay_at, block1]
  simp only [block0]
  refine congrArg (rows (m (c.tc.loc main_arg0)) (m (c.tc.loc main_arg1))) (a₁ := ix2 (rowOf t i) j) ?_
  funext a
  match a with
  | ⟨0, _⟩ => refine Fin.ext ?_; blk_simp [index]; show 2048 * t.val + i.val = t.val * 2048 + i.val; omega
  | ⟨1, _⟩ => refine Fin.ext ?_; blk_simp [index]

theorem run_values (ρ : Dev nD → PrngReg) : θ_run defs (onTc (τ := τ) (main (F := Ideal))) ⟨m, fun _ => 0, ρ⟩ (fun r => ∀ c : Dev nD,
      r.2.mem (c.tc.loc main_v0) = rows (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel19Ideal.Value.run_blocks m ρ)

end Cert.Mm.MlaOutDx

namespace Cert.Mm.MlaOutDx.Ref

open Reference19Ideal Reference19Ideal.Gen
open Idealize.ShloMosaic TcCoe Idealize.SL.Sem

theorem product_eq (x : S4096x1024.Idx → EReal) (w : S1024x1024.Idx → EReal) :
    (Host.dotGeneral (F := Ideal) (φ₁ := .f32) (φ₂ := .f32) dot_S4096x1024_S1024x1024_S4096x1024_1_1_0_0_n_n none x w : FVec Ideal S4096x1024 .f32) = rows x w := by
  funext y
  obtain ⟨i, j, rfl⟩ := Dx.pairOf (a := 4096) (b := 1024) y
  simp only [pointwise, zero_add]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v4) = rows (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.MlaOutDx.Ref

end
-- ==== Proof.Mm.MlaQbDx.lean ====
module

public import proofs.«01_k».proof.Proof.Gen.Kernel20Ideal.Value
public import proofs.«01_k».proof.Proof.Gen.Reference20Ideal.Run
public import proofs.«01_k».proof.Proof.Mm.Prod

/-! The gradient that a product with the second query weights of the attention block passes back: the kernel's two row
    blocks and the reference's one product. -/

@[expose] public section

set_option maxRecDepth 16384

noncomputable section

namespace Cert.Mm.MlaQbDx

open Kernel20Ideal Kernel20Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val, 0] ∧ win0_1.index t = ![0, 0] ∧ win0_2.index t = ![t.val, 0] := (by decide +kernel : ∀ t : Fin grid0.N, _)

/-- Row `i` of row block `t`. -/
def rowOf (t : Fin cfg0.N) (i : Fin 2048) : Fin 4096 := ⟨2048 * t.val + i.val, by have h : t.val < 2 := t.isLt; omega⟩

theorem block0 (c : Dev nD) (t : Fin cfg0.N) (i : Fin 2048) (k : Fin 2048) : iblk m c 0 t (ix2 i k) = m (c.tc.loc main_arg0) (ix2 (rowOf t i) k) := by
  rw [← V_main_arg0 m c]
  unfold rowOf
  blk_ext [iblk, index]
theorem block1 (c : Dev nD) (t : Fin cfg0.N) : iblk m c 1 t = m (c.tc.loc main_arg1) := by
  rw [← V_main_arg1 m c]
  funext y
  blk_ext [iblk, index]

theorem out_eq (x : Vec F S2048x2048 .bf16) (w : Vec F S384x2048 .bf16) : out0_2 x w = k0_pay1 x w := by
  unfold out0_2
  rw [View.canon_unit_zero hz, View.ld_unit_zero (S := S2048x2048) hz, View.ld_unit_zero (S := S384x2048) hz]

end Any

variable (m : (ℓ : Loc nD τ sig) → Buf (Elt Ideal) ℓ)

theorem pay_at (x : Vec Ideal S2048x2048 .bf16) (w : Vec Ideal S384x2048 .bf16) (i : Fin 2048) (j : Fin 384) :
    k0_pay1 x w (ix2 i j) = ∑ k : Fin 2048, x (ix2 i k) * w (ix2 j k) := by
  simp only [k0_pay1, pointwise, zero_add]

/-- The array the kernel ends with. -/
theorem final (c : Dev nD) : (dats m 0 c).arrAt 2 cfg0.N = rows (m (c.tc.loc main_arg0)) (m (c.tc.loc main_arg1)) := by
  refine (dats m 0 c).arrAt_eq_of_covers 2 _ (by decide +kernel) fun t hf y => ?_
  blk_simp
  rw [after0_2, out_eq]
  obtain ⟨i, j, rfl⟩ := Dx.pairOf (a := 2048) (b := 384) y
  rw [pay_at, block1]
  simp only [block0]
  refine congrArg (rows (m (c.tc.loc main_arg0)) (m (c.tc.loc main_arg1))) (a₁ := ix2 (rowOf t i) j) ?_
  funext a
  match a with
  | ⟨0, _⟩ => refine Fin.ext ?_; blk_simp [index]; show 2048 * t.val + i.val = t.val * 2048 + i.val; omega
  | ⟨1, _⟩ => refine Fin.ext ?_; blk_simp [index]

theorem run_values (ρ : Dev nD → PrngReg) : θ_run defs (onTc (τ := τ) (main (F := Ideal))) ⟨m, fun _ => 0, ρ⟩ (fun r => ∀ c : Dev nD,
      r.2.mem (c.tc.loc main_v0) = rows (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel20Ideal.Value.run_blocks m ρ)

end Cert.Mm.MlaQbDx

namespace Cert.Mm.MlaQbDx.Ref

open Reference20Ideal Reference20Ideal.Gen
open Idealize.ShloMosaic TcCoe Idealize.SL.Sem

theorem product_eq (x : S4096x2048.Idx → EReal) (w : S384x2048.Idx → EReal) :
    (Host.dotGeneral (F := Ideal) (φ₁ := .f32) (φ₂ := .f32) dot_S4096x2048_S384x2048_S4096x384_1_1_0_0_n_n none x w : FVec Ideal S4096x384 .f32) = rows x w := by
  funext y
  obtain ⟨i, j, rfl⟩ := Dx.pairOf (a := 4096) (b := 384) y
  simp only [pointwise, zero_add]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v4) = rows (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.MlaQbDx.Ref

end
-- ==== Proof.Mm.MlaKvbDx.lean ====
module

public import proofs.«01_k».proof.Proof.Gen.Kernel21Ideal.Value
public import proofs.«01_k».proof.Proof.Gen.Reference21Ideal.Run
public import proofs.«01_k».proof.Proof.Mm.Prod

/-! The gradient that a product with the second key and value weights of the attention block passes back: the kernel's two row
    blocks and the reference's one product. -/

@[expose] public section

set_option maxRecDepth 16384

noncomputable section

namespace Cert.Mm.MlaKvbDx

open Kernel21Ideal Kernel21Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val, 0] ∧ win0_1.index t = ![0, 0] ∧ win0_2.index t = ![t.val, 0] := (by decide +kernel : ∀ t : Fin grid0.N, _)

/-- Row `i` of row block `t`. -/
def rowOf (t : Fin cfg0.N) (i : Fin 2048) : Fin 4096 := ⟨2048 * t.val + i.val, by have h : t.val < 2 := t.isLt; omega⟩

theorem block0 (c : Dev nD) (t : Fin cfg0.N) (i : Fin 2048) (k : Fin 2048) : iblk m c 0 t (ix2 i k) = m (c.tc.loc main_arg0) (ix2 (rowOf t i) k) := by
  rw [← V_main_arg0 m c]
  unfold rowOf
  blk_ext [iblk, index]
theorem block1 (c : Dev nD) (t : Fin cfg0.N) : iblk m c 1 t = m (c.tc.loc main_arg1) := by
  rw [← V_main_arg1 m c]
  funext y
  blk_ext [iblk, index]

theorem out_eq (x : Vec F S2048x2048 .bf16) (w : Vec F S256x2048 .bf16) : out0_2 x w = k0_pay1 x w := by
  unfold out0_2
  rw [View.canon_unit_zero hz, View.ld_unit_zero (S := S2048x2048) hz, View.ld_unit_zero (S := S256x2048) hz]

end Any

variable (m : (ℓ : Loc nD τ sig) → Buf (Elt Ideal) ℓ)

theorem pay_at (x : Vec Ideal S2048x2048 .bf16) (w : Vec Ideal S256x2048 .bf16) (i : Fin 2048) (j : Fin 256) :
    k0_pay1 x w (ix2 i j) = ∑ k : Fin 2048, x (ix2 i k) * w (ix2 j k) := by
  simp only [k0_pay1, pointwise, zero_add]

/-- The array the kernel ends with. -/
theorem final (c : Dev nD) : (dats m 0 c).arrAt 2 cfg0.N = rows (m (c.tc.loc main_arg0)) (m (c.tc.loc main_arg1)) := by
  refine (dats m 0 c).arrAt_eq_of_covers 2 _ (by decide +kernel) fun t hf y => ?_
  blk_simp
  rw [after0_2, out_eq]
  obtain ⟨i, j, rfl⟩ := Dx.pairOf (a := 2048) (b := 256) y
  rw [pay_at, block1]
  simp only [block0]
  refine congrArg (rows (m (c.tc.loc main_arg0)) (m (c.tc.loc main_arg1))) (a₁ := ix2 (rowOf t i) j) ?_
  funext a
  match a with
  | ⟨0, _⟩ => refine Fin.ext ?_; blk_simp [index]; show 2048 * t.val + i.val = t.val * 2048 + i.val; omega
  | ⟨1, _⟩ => refine Fin.ext ?_; blk_simp [index]

theorem run_values (ρ : Dev nD → PrngReg) : θ_run defs (onTc (τ := τ) (main (F := Ideal))) ⟨m, fun _ => 0, ρ⟩ (fun r => ∀ c : Dev nD,
      r.2.mem (c.tc.loc main_v0) = rows (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel21Ideal.Value.run_blocks m ρ)

end Cert.Mm.MlaKvbDx

namespace Cert.Mm.MlaKvbDx.Ref

open Reference21Ideal Reference21Ideal.Gen
open Idealize.ShloMosaic TcCoe Idealize.SL.Sem

theorem product_eq (x : S4096x2048.Idx → EReal) (w : S256x2048.Idx → EReal) :
    (Host.dotGeneral (F := Ideal) (φ₁ := .f32) (φ₂ := .f32) dot_S4096x2048_S256x2048_S4096x256_1_1_0_0_n_n none x w : FVec Ideal S4096x256 .f32) = rows x w := by
  funext y
  obtain ⟨i, j, rfl⟩ := Dx.pairOf (a := 4096) (b := 256) y
  simp only [pointwise, zero_add]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v4) = rows (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.MlaKvbDx.Ref

end
-- ==== Proof.Mm.MlaOutDw.lean ====
module

public import proofs.«01_k».proof.Proof.Gen.Kernel22Ideal.Value
public import proofs.«01_k».proof.Proof.Gen.Reference22Ideal.Run
public import proofs.«01_k».proof.Proof.Mm.Prod

/-! The gradient of the output weights of the attention block: the kernel's blocks, each over four points that add up a
    quarter of the rows, and the reference's one product. -/

@[expose] public section

set_option maxRecDepth 16384

noncomputable section

namespace Cert.Mm.MlaOutDw

open Kernel22Ideal Kernel22Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val % 4, t.val / 4] ∧ win0_1.index t = ![t.val % 4, 0] ∧ win0_2.index t = ![t.val / 4, 0] := (by decide +kernel : ∀ t : Fin grid0.N, _)

/-- Row `k` of the rows of point `t`, and the place of an entry of its block in the whole. -/
def rowOf (t : Fin cfg0.N) (k : Fin 1024) : Fin 4096 := ⟨1024 * (t.val % 4) + k.val, by omega⟩
def left (b : ℕ) (i : Fin 512) : Fin 1024 := ⟨512 * (b % 2) + i.val, by omega⟩
def right (b : ℕ) (j : Fin 1024) : Fin 1024 := j

theorem block0 (c : Dev nD) (t : Fin cfg0.N) (k : Fin 1024) (i : Fin 512) :
    iblk m c 0 t (ix2 k i) = m (c.tc.loc main_arg0) (ix2 (rowOf t k) (left (t.val / 4) i)) := by
  have ht : t.val < 8 := t.isLt
  rw [← V_main_arg0 m c]
  unfold rowOf left
  blk_ext [iblk, index]
theorem block1 (c : Dev nD) (t : Fin cfg0.N) (k : Fin 1024) (j : Fin 1024) :
    iblk m c 1 t (ix2 k j) = m (c.tc.loc main_arg1) (ix2 (rowOf t k) (right (t.val / 4) j)) := by
  have ht : t.val < 8 := t.isLt
  rw [← V_main_arg1 m c]
  unfold rowOf right
  blk_ext [iblk, index]

/-- The first point of a block leaves its product in the scratch; -/
theorem scratch_first (c : Dev nD) (t : Fin cfg0.N) (h : t.val % 4 = 0) : (outsAt0 m c t.val t.isLt).2 = k0_pay2 (iblk m c 0 t) (iblk m c 1 t) := by
  rw [outsAt0_A m c t h (by omega) (by omega)]
  dsimp only
  unfold sout0_A_0
  refine (View.read_writes_eq_canon _ _ _ (scover0_A_0 c _ _ _ _ _ _ _ _ _ _ _ _ _ _)).trans ?_
  unfold kernelRun0_A
  dsimp only
  sl_unfold_words
  rw [View.canon_unit_zero hz]
  simp only [View.readAt_eq_ld, (hs0_0 t).read_unread, (hs0_1 t).read_unread, View.ld_unit_zero (S := S1024x512) hz, View.ld_unit_zero (S := S1024x1024) hz]

/-- the next two add theirs to it, -/
theorem scratch_next (c : Dev nD) (t : Fin cfg0.N) (h : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h (by omega)]
  dsimp only
  unfold sout0_B_0
  refine (View.read_writes_eq_canon _ _ _ (scover0_B_0 c _ _ _ _ _ _ _ _ _ _ _ _ _ _ _)).trans ?_
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S1024x512) hz, View.ld_unit_zero (S := S1024x1024) hz, View.ld_unit_zero (S := S512x1024) hz]

/-- and the last one leaves the sum of the scratch and its own in the output's block. -/
theorem out_last (c : Dev nD) (t : Fin cfg0.N) (h : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h]
  dsimp only
  unfold out0_C_2
  refine (View.read_writes_eq_canon _ _ _ (cover0_C_2 c _ _ _ _ _ _ _ _ _ _ _ _ _ _ _)).trans ?_
  unfold kernelRun0_C
  dsimp only
  sl_unfold_words
  rw [View.canon_unit_zero hz]
  simp only [View.readAt_eq_ld, (hs0_0 t).read_unread, (hs0_1 t).read_unread, (Memref.isWhole_whole _).read_unread, View.ld_unit_zero (S := S1024x512) hz, View.ld_unit_zero (S := S1024x1024) hz, View.ld_unit_zero (S := S512x1024) hz]

end Any

variable (m : (ℓ : Loc nD τ sig) → Buf (Elt Ideal) ℓ)

section Payloads

variable (x : Vec Ideal S1024x512 .f32) (d : Vec Ideal S1024x1024 .bf16) (v : Vec Ideal S512x1024 .f32) (i : Fin 512) (j : Fin 1024)

theorem pay2_at : k0_pay2 x d (ix2 i j) = ∑ k : Fin 1024, x (ix2 k i) * d (ix2 k j) := by
  unfold k0_pay2
  rw [shapeCast_self]
  simp only [k0_pay1, pointwise, zero_add]
theorem pay3_at : (k0_pay3 x d v : S512x1024.Idx → EReal) (ix2 i j) = v (ix2 i j) + k0_pay2 x d (ix2 i j) := by
  unfold k0_pay3 k0_pay2
  rw [shapeCast_self, shapeCast_self]
  rfl
theorem pay4_at : (k0_pay4 x d v : S512x1024.Idx → EReal) (ix2 i j) = v (ix2 i j) + k0_pay2 x d (ix2 i j) := by
  unfold k0_pay4 k0_pay2
  rw [shapeCast_self]
  rfl

end Payloads

/-- One summand of the whole, at an entry of block `b`. -/
def summand (c : Dev nD) (b : ℕ) (i : Fin 512) (j : Fin 1024) (r : Fin 4096) : EReal :=
  HMul.hMul (α := EReal) (β := EReal) (m (c.tc.loc main_arg0) (ix2 r (left b i))) (m (c.tc.loc main_arg1) (ix2 r (right b j)))

/-- A point's product, `p` its place among the four points of block `b`. -/
theorem term_at (c : Dev nD) (t : Fin cfg0.N) (i : Fin 512) (j : Fin 1024) (b p : ℕ) (hb : t.val / 4 = b) (hp : t.val % 4 = p) (h : p < 4) :
    (k0_pay2 (iblk m c 0 t) (iblk m c 1 t) : S512x1024.Idx → EReal) (ix2 i j) = ∑ k : Fin 1024, summand m c b i j ⟨1024 * p + k.val, by omega⟩ := by
  subst hb hp
  rw [pay2_at]
  exact Finset.sum_congr rfl fun k _ => congrArg₂ (fun a b : EReal => a * b) (block0 m c t k i) (block1 m c t k j)

/-- What the last point of a block leaves: the whole sum. -/
theorem out_at (c : Dev nD) (t : Fin cfg0.N) (h : t.val % 4 = 3) (i : Fin 512) (j : Fin 1024) :
    ((outsAt0 m c t.val t.isLt).1 : S512x1024.Idx → EReal) (ix2 i j) = ∑ r : Fin 4096, summand m c (t.val / 4) i j r := by
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  rw [out_last m c t h, pay4_at, scratch_next m c ⟨t.val - 1, h1⟩ (by dsimp only; omega), pay3_at, scratch_next m c ⟨t.val - 1 - 1, h2⟩ (by dsimp only; omega), pay3_at,
    scratch_first m c ⟨t.val - 1 - 1 - 1, h3⟩ (by dsimp only; omega),
    term_at m c t i j (t.val / 4) 3 rfl h (by omega),
    term_at m c ⟨t.val - 1, h1⟩ i j (t.val / 4) 2 (by dsimp only; omega) (by dsimp only; omega) (by omega),
    term_at m c ⟨t.val - 1 - 1, h2⟩ i j (t.val / 4) 1 (by dsimp only; omega) (by dsimp only; omega) (by omega),
    term_at m c ⟨t.val - 1 - 1 - 1, h3⟩ i j (t.val / 4) 0 (by dsimp only; omega) (by dsimp only; omega) (by omega)]
  exact sum_quarters (summand m c (t.val / 4) i j)

theorem flush_last : ∀ t : Fin cfg0.N, (cfg0.win 2).flush t = true → t.val % 4 = 3 := (by decide +kernel : ∀ t : Fin grid0.N, _)

/-- The array the kernel ends with. -/
theorem final (c : Dev nD) : (dats m 0 c).arrAt 2 cfg0.N = overs (a := 1024) (b := 1024) (n := 4096) (m (c.tc.loc main_arg0)) (m (c.tc.loc main_arg1)) := by
  refine (dats m 0 c).arrAt_eq_of_covers 2 _ (by decide +kernel) fun t hf y => ?_
  have ht : t.val < 8 := t.isLt
  have h := flush_last t hf
  blk_simp
  rw [after0_2]
  obtain ⟨i, j, rfl⟩ := Dx.pairOf (a := 512) (b := 1024) y
  rw [out_at m c t h]
  refine congrArg (overs (a := 1024) (b := 1024) (n := 4096) (m (c.tc.loc main_arg0)) (m (c.tc.loc main_arg1)))
    (a₁ := ix2 (left (t.val / 4) i) (right (t.val / 4) j)) ?_
  funext a
  match a with
  | ⟨0, _⟩ => refine Fin.ext ?_; blk_simp [index]; show 512 * (t.val / 4 % 2) + i.val = t.val / 4 * 512 + i.val; omega
  | ⟨1, _⟩ => refine Fin.ext ?_; blk_simp [index]; rfl

theorem run_values (ρ : Dev nD → PrngReg) : θ_run defs (onTc (τ := τ) (main (F := Ideal))) ⟨m, fun _ => 0, ρ⟩ (fun r => ∀ c : Dev nD,
      r.2.mem (c.tc.loc main_v0) = overs (a := 1024) (b := 1024) (n := 4096) (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel22Ideal.Value.run_blocks m ρ)

end Cert.Mm.MlaOutDw

namespace Cert.Mm.MlaOutDw.Ref

open Reference22Ideal Reference22Ideal.Gen
open Idealize.ShloMosaic TcCoe Idealize.SL.Sem

variable (x : S4096x1024.Idx → EReal) (d : S4096x1024.Idx → EReal)

/-- The gradient of the weights, columns by rows. -/
def dwt : FVec Ideal S1024x1024 .f32 :=
  Host.dotGeneral (F := Ideal) (φ₁ := .f32) (φ₂ := .f32) dot_S4096x1024_S4096x1024_S1024x1024_0_0_1_1_n_n none d x

theorem dwt_at (j : Fin 1024) (i : Fin 1024) : dwt x d (ix2 j i) = ∑ r : Fin 4096, x (ix2 r i) * d (ix2 r j) := by
  unfold dwt
  simp only [pointwise, zero_add]
  exact Finset.sum_congr rfl fun r _ => mul_comm _ _

theorem product_eq : (truncf .bf16 (transpose S1024x1024 [1, 0] (dwt x d) transposes_S1024x1024_S1024x1024_1_0) bitsLt_bf16_f32 : FVec Ideal S1024x1024 .bf16) = overs x d := by
  funext y
  obtain ⟨i, j, rfl⟩ := Dx.pairOf (a := 1024) (b := 1024) y
  simp only [pointwise, dwt_at]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v5) = overs (a := 1024) (b := 1024) (n := 4096) (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.MlaOutDw.Ref

end
-- ==== Proof.Mm.MlaQbDw.lean ====
module

public import proofs.«01_k».proof.Proof.Gen.Kernel23Ideal.Value
public import proofs.«01_k».proof.Proof.Gen.Reference23Ideal.Run
public import proofs.«01_k».proof.Proof.Mm.Prod

/-! The gradient of the query weights of the attention block: the kernel's blocks, each over four points that add up a
    quarter of the rows, and the reference's one product. -/

@[expose] public section

set_option maxRecDepth 16384

noncomputable section

namespace Cert.Mm.MlaQbDw

open Kernel23Ideal Kernel23Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val % 4, 0] ∧ win0_1.index t = ![t.val % 4, t.val / 4] ∧ win0_2.index t = ![0, t.val / 4] := (by decide +kernel : ∀ t : Fin grid0.N, _)

/-- Row `k` of the rows of point `t`, and the place of an entry of its block in the whole. -/
def rowOf (t : Fin cfg0.N) (k : Fin 1024) : Fin 4096 := ⟨1024 * (t.val % 4) + k.val, by omega⟩
def left (b : ℕ) (i : Fin 384) : Fin 384 := i
def right (b : ℕ) (j : Fin 1024) : Fin 2048 := ⟨1024 * (b % 2) + j.val, by omega⟩

theorem block0 (c : Dev nD) (t : Fin cfg0.N) (k : Fin 1024) (i : Fin 384) :
    iblk m c 0 t (ix2 k i) = m (c.tc.loc main_arg0) (ix2 (rowOf t k) (left (t.val / 4) i)) := by
  have ht : t.val < 8 := t.isLt
  rw [← V_main_arg0 m c]
  unfold rowOf left
  blk_ext [iblk, index]
theorem block1 (c : Dev nD) (t : Fin cfg0.N) (k : Fin 1024) (j : Fin 1024) :
    iblk m c 1 t (ix2 k j) = m (c.tc.loc main_arg1) (ix2 (rowOf t k) (right (t.val / 4) j)) := by
  have ht : t.val < 8 := t.isLt
  rw [← V_main_arg1 m c]
  unfold rowOf right
  blk_ext [iblk, index]

/-- The first point of a block leaves its product in the scratch; -/
theorem scratch_first (c : Dev nD) (t : Fin cfg0.N) (h : t.val % 4 = 0) : (outsAt0 m c t.val t.isLt).2 = k0_pay2 (iblk m c 0 t) (iblk m c 1 t) := by
  rw [outsAt0_A m c t h (by omega) (by omega)]
  dsimp only
  unfold sout0_A_0
  refine (View.read_writes_eq_canon _ _ _ (scover0_A_0 c _ _ _ _ _ _ _ _ _ _ _ _ _ _)).trans ?_
  unfold kernelRun0_A
  dsimp only
  sl_unfold_words
  rw [View.canon_unit_zero hz]
  simp only [View.readAt_eq_ld, (hs0_0 t).read_unread, (hs0_1 t).read_unread, View.ld_unit_zero (S := S1024x384) hz, View.ld_unit_zero (S := S1024x1024) hz]

/-- the next two add theirs to it, -/
theorem scratch_next (c : Dev nD) (t : Fin cfg0.N) (h : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h (by omega)]
  dsimp only
  unfold sout0_B_0
  refine (View.read_writes_eq_canon _ _ _ (scover0_B_0 c _ _ _ _ _ _ _ _ _ _ _ _ _ _ _)).trans ?_
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S1024x384) hz, View.ld_unit_zero (S := S1024x1024) hz, View.ld_unit_zero (S := S384x1024) hz]

/-- and the last one leaves the sum of the scratch and its own in the output's block. -/
theorem out_last (c : Dev nD) (t : Fin cfg0.N) (h : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h]
  dsimp only
  unfold out0_C_2
  refine (View.read_writes_eq_canon _ _ _ (cover0_C_2 c _ _ _ _ _ _ _ _ _ _ _ _ _ _ _)).trans ?_
  unfold kernelRun0_C
  dsimp only
  sl_unfold_words
  rw [View.canon_unit_zero hz]
  simp only [View.readAt_eq_ld, (hs0_0 t).read_unread, (hs0_1 t).read_unread, (Memref.isWhole_whole _).read_unread, View.ld_unit_zero (S := S1024x384) hz, View.ld_unit_zero (S := S1024x1024) hz, View.ld_unit_zero (S := S384x1024) hz]

end Any

variable (m : (ℓ : Loc nD τ sig) → Buf (Elt Ideal) ℓ)

section Payloads

variable (x : Vec Ideal S1024x384 .bf16) (d : Vec Ideal S1024x1024 .bf16) (v : Vec Ideal S384x1024 .f32) (i : Fin 384) (j : Fin 1024)

theorem pay2_at : k0_pay2 x d (ix2 i j) = ∑ k : Fin 1024, x (ix2 k i) * d (ix2 k j) := by
  unfold k0_pay2
  rw [shapeCast_self]
  simp only [k0_pay1, pointwise, zero_add]
theorem pay3_at : (k0_pay3 x d v : S384x1024.Idx → EReal) (ix2 i j) = v (ix2 i j) + k0_pay2 x d (ix2 i j) := by
  unfold k0_pay3 k0_pay2
  rw [shapeCast_self, shapeCast_self]
  rfl
theorem pay4_at : (k0_pay4 x d v : S384x1024.Idx → EReal) (ix2 i j) = v (ix2 i j) + k0_pay2 x d (ix2 i j) := by
  unfold k0_pay4 k0_pay2
  rw [shapeCast_self]
  rfl

end Payloads

/-- One summand of the whole, at an entry of block `b`. -/
def summand (c : Dev nD) (b : ℕ) (i : Fin 384) (j : Fin 1024) (r : Fin 4096) : EReal :=
  HMul.hMul (α := EReal) (β := EReal) (m (c.tc.loc main_arg0) (ix2 r (left b i))) (m (c.tc.loc main_arg1) (ix2 r (right b j)))

/-- A point's product, `p` its place among the four points of block `b`. -/
theorem term_at (c : Dev nD) (t : Fin cfg0.N) (i : Fin 384) (j : Fin 1024) (b p : ℕ) (hb : t.val / 4 = b) (hp : t.val % 4 = p) (h : p < 4) :
    (k0_pay2 (iblk m c 0 t) (iblk m c 1 t) : S384x1024.Idx → EReal) (ix2 i j) = ∑ k : Fin 1024, summand m c b i j ⟨1024 * p + k.val, by omega⟩ := by
  subst hb hp
  rw [pay2_at]
  exact Finset.sum_congr rfl fun k _ => congrArg₂ (fun a b : EReal => a * b) (block0 m c t k i) (block1 m c t k j)

/-- What the last point of a block leaves: the whole sum. -/
theorem out_at (c : Dev nD) (t : Fin cfg0.N) (h : t.val % 4 = 3) (i : Fin 384) (j : Fin 1024) :
    ((outsAt0 m c t.val t.isLt).1 : S384x1024.Idx → EReal) (ix2 i j) = ∑ r : Fin 4096, summand m c (t.val / 4) i j r := by
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  rw [out_last m c t h, pay4_at, scratch_next m c ⟨t.val - 1, h1⟩ (by dsimp only; omega), pay3_at, scratch_next m c ⟨t.val - 1 - 1, h2⟩ (by dsimp only; omega), pay3_at,
    scratch_first m c ⟨t.val - 1 - 1 - 1, h3⟩ (by dsimp only; omega),
    term_at m c t i j (t.val / 4) 3 rfl h (by omega),
    term_at m c ⟨t.val - 1, h1⟩ i j (t.val / 4) 2 (by dsimp only; omega) (by dsimp only; omega) (by omega),
    term_at m c ⟨t.val - 1 - 1, h2⟩ i j (t.val / 4) 1 (by dsimp only; omega) (by dsimp only; omega) (by omega),
    term_at m c ⟨t.val - 1 - 1 - 1, h3⟩ i j (t.val / 4) 0 (by dsimp only; omega) (by dsimp only; omega) (by omega)]
  exact sum_quarters (summand m c (t.val / 4) i j)

theorem flush_last : ∀ t : Fin cfg0.N, (cfg0.win 2).flush t = true → t.val % 4 = 3 := (by decide +kernel : ∀ t : Fin grid0.N, _)

/-- The array the kernel ends with. -/
theorem final (c : Dev nD) : (dats m 0 c).arrAt 2 cfg0.N = overs (a := 384) (b := 2048) (n := 4096) (m (c.tc.loc main_arg0)) (m (c.tc.loc main_arg1)) := by
  refine (dats m 0 c).arrAt_eq_of_covers 2 _ (by decide +kernel) fun t hf y => ?_
  have ht : t.val < 8 := t.isLt
  have h := flush_last t hf
  blk_simp
  rw [after0_2]
  obtain ⟨i, j, rfl⟩ := Dx.pairOf (a := 384) (b := 1024) y
  rw [out_at m c t h]
  refine congrArg (overs (a := 384) (b := 2048) (n := 4096) (m (c.tc.loc main_arg0)) (m (c.tc.loc main_arg1)))
    (a₁ := ix2 (left (t.val / 4) i) (right (t.val / 4) j)) ?_
  funext a
  match a with
  | ⟨0, _⟩ => refine Fin.ext ?_; blk_simp [index]; rfl
  | ⟨1, _⟩ => refine Fin.ext ?_; blk_simp [index]; show 1024 * (t.val / 4 % 2) + j.val = t.val / 4 * 1024 + j.val; omega

theorem run_values (ρ : Dev nD → PrngReg) : θ_run defs (onTc (τ := τ) (main (F := Ideal))) ⟨m, fun _ => 0, ρ⟩ (fun r => ∀ c : Dev nD,
      r.2.mem (c.tc.loc main_v0) = overs (a := 384) (b := 2048) (n := 4096) (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel23Ideal.Value.run_blocks m ρ)

end Cert.Mm.MlaQbDw

namespace Cert.Mm.MlaQbDw.Ref

open Reference23Ideal Reference23Ideal.Gen
open Idealize.ShloMosaic TcCoe Idealize.SL.Sem

variable (x : S4096x384.Idx → EReal) (d : S4096x2048.Idx → EReal)

/-- The gradient of the weights, columns by rows. -/
def dwt : FVec Ideal S2048x384 .f32 :=
  Host.dotGeneral (F := Ideal) (φ₁ := .f32) (φ₂ := .f32) dot_S4096x2048_S4096x384_S2048x384_0_0_1_1_n_n none d x

theorem dwt_at (j : Fin 2048) (i : Fin 384) : dwt x d (ix2 j i) = ∑ r : Fin 4096, x (ix2 r i) * d (ix2 r j) := by
  unfold dwt
  simp only [pointwise, zero_add]
  exact Finset.sum_congr rfl fun r _ => mul_comm _ _

theorem product_eq : (truncf .bf16 (transpose S384x2048 [1, 0] (dwt x d) transposes_S2048x384_S384x2048_1_0) bitsLt_bf16_f32 : FVec Ideal S384x2048 .bf16) = overs x d := by
  funext y
  obtain ⟨i, j, rfl⟩ := Dx.pairOf (a := 384) (b := 2048) y
  simp only [pointwise, dwt_at]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v6) = overs (a := 384) (b := 2048) (n := 4096) (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.MlaQbDw.Ref

end
-- ==== Proof.Mm.MlaKvbDw.lean ====
module

public import proofs.«01_k».proof.Proof.Gen.Kernel24Ideal.Value
public import proofs.«01_k».proof.Proof.Gen.Reference24Ideal.Run
public import proofs.«01_k».proof.Proof.Mm.Prod

/-! The gradient of the key and value weights of the attention block, in four slots of columns: the kernel's blocks, each over four points that add up a
    quarter of the rows, and the reference's one product. -/

@[expose] public section

set_option maxRecDepth 16384

noncomputable section

namespace Cert.Mm.MlaKvbDw

open Kernel24Ideal Kernel24Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val % 4, 0] ∧ win0_1.index t = ![t.val % 4, t.val / 4] ∧ win0_2.index t = ![t.val / 4, 0, 0] := (by decide +kernel : ∀ t : Fin grid0.N, _)

/-- Row `k` of the rows of point `t`, and the place of an entry of its block in the whole. -/
def rowOf (t : Fin cfg0.N) (k : Fin 1024) : Fin 4096 := ⟨1024 * (t.val % 4) + k.val, by omega⟩
def left (b : ℕ) (i : Fin 256) : Fin 256 := i
def right (b : ℕ) (j : Fin 512) : Fin 2048 := ⟨512 * (b % 4) + j.val, by omega⟩

theorem block0 (c : Dev nD) (t : Fin cfg0.N) (k : Fin 1024) (i : Fin 256) :
    iblk m c 0 t (ix2 k i) = m (c.tc.loc main_arg0) (ix2 (rowOf t k) (left (t.val / 4) i)) := by
  have ht : t.val < 16 := t.isLt
  rw [← V_main_arg0 m c]
  unfold rowOf left
  blk_ext [iblk, index]
theorem block1 (c : Dev nD) (t : Fin cfg0.N) (k : Fin 1024) (j : Fin 512) :
    iblk m c 1 t (ix2 k j) = m (c.tc.loc main_arg1) (ix2 (rowOf t k) (right (t.val / 4) j)) := by
  have ht : t.val < 16 := t.isLt
  rw [← V_main_arg1 m c]
  unfold rowOf right
  blk_ext [iblk, index]

/-- The first point of a block leaves its product in the scratch; -/
theorem scratch_first (c : Dev nD) (t : Fin cfg0.N) (h : t.val % 4 = 0) : (outsAt0 m c t.val t.isLt).2 = k0_pay2 (iblk m c 0 t) (iblk m c 1 t) := by
  rw [outsAt0_A m c t h (by omega) (by omega)]
  dsimp only
  unfold sout0_A_0
  refine (View.read_writes_eq_canon _ _ _ (scover0_A_0 c _ _ _ _ _ _ _ _ _ _ _ _ _ _)).trans ?_
  unfold kernelRun0_A
  dsimp only
  sl_unfold_words
  rw [View.canon_unit_zero hz]
  simp only [View.readAt_eq_ld, (hs0_0 t).read_unread, (hs0_1 t).read_unread, View.ld_unit_zero (S := S1024x256) hz, View.ld_unit_zero (S := S1024x512) hz]

/-- the next two add theirs to it, -/
theorem scratch_next (c : Dev nD) (t : Fin cfg0.N) (h : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h (by omega)]
  dsimp only
  unfold sout0_B_0
  refine (View.read_writes_eq_canon _ _ _ (scover0_B_0 c _ _ _ _ _ _ _ _ _ _ _ _ _ _ _)).trans ?_
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S1024x256) hz, View.ld_unit_zero (S := S1024x512) hz, View.ld_unit_zero (S := S256x512) hz]

/-- and the last one leaves the sum of the scratch and its own in the output's block. -/
theorem out_last (c : Dev nD) (t : Fin cfg0.N) (h : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h]
  dsimp only
  unfold out0_C_2
  refine (View.read_writes_eq_canon _ _ _ (cover0_C_2 c _ _ _ _ _ _ _ _ _ _ _ _ _ _ _)).trans ?_
  unfold kernelRun0_C
  dsimp only
  sl_unfold_words
  rw [View.canon_unit_zero hz3]
  simp only [View.readAt_eq_ld, (hs0_0 t).read_unread, (hs0_1 t).read_unread, (Memref.isWhole_whole _).read_unread, View.ld_unit_zero (S := S1024x256) hz, View.ld_unit_zero (S := S1024x512) hz, View.ld_unit_zero (S := S256x512) hz]

end Any

variable (m : (ℓ : Loc nD τ sig) → Buf (Elt Ideal) ℓ)

section Payloads

variable (x : Vec Ideal S1024x256 .bf16) (d : Vec Ideal S1024x512 .bf16) (v : Vec Ideal S256x512 .f32) (i : Fin 256) (j : Fin 512)

theorem pay2_at : k0_pay2 x d (ix2 i j) = ∑ k : Fin 1024, x (ix2 k i) * d (ix2 k j) := by
  unfold k0_pay2
  rw [shapeCast_self]
  simp only [k0_pay1, pointwise, zero_add]
theorem pay3_at : (k0_pay3 x d v : S256x512.Idx → EReal) (ix2 i j) = v (ix2 i j) + k0_pay2 x d (ix2 i j) := by
  unfold k0_pay3 k0_pay2
  rw [shapeCast_self, shapeCast_self]
  rfl
theorem pay4_at : (k0_pay4 x d v : S1x256x512.Idx → EReal) (ix3 0 i j) = v (ix2 i j) + k0_pay2 x d (ix2 i j) := by
  unfold k0_pay4 k0_pay2
  rw [shapeCast_self]
  simp only [pointwise]

end Payloads

/-- One summand of the whole, at an entry of block `b`. -/
def summand (c : Dev nD) (b : ℕ) (i : Fin 256) (j : Fin 512) (r : Fin 4096) : EReal :=
  HMul.hMul (α := EReal) (β := EReal) (m (c.tc.loc main_arg0) (ix2 r (left b i))) (m (c.tc.loc main_arg1) (ix2 r (right b j)))

/-- A point's product, `p` its place among the four points of block `b`. -/
theorem term_at (c : Dev nD) (t : Fin cfg0.N) (i : Fin 256) (j : Fin 512) (b p : ℕ) (hb : t.val / 4 = b) (hp : t.val % 4 = p) (h : p < 4) :
    (k0_pay2 (iblk m c 0 t) (iblk m c 1 t) : S256x512.Idx → EReal) (ix2 i j) = ∑ k : Fin 1024, summand m c b i j ⟨1024 * p + k.val, by omega⟩ := by
  subst hb hp
  rw [pay2_at]
  exact Finset.sum_congr rfl fun k _ => congrArg₂ (fun a b : EReal => a * b) (block0 m c t k i) (block1 m c t k j)

/-- What the last point of a block leaves: the whole sum. -/
theorem out_at (c : Dev nD) (t : Fin cfg0.N) (h : t.val % 4 = 3) (i : Fin 256) (j : Fin 512) :
    ((outsAt0 m c t.val t.isLt).1 : S1x256x512.Idx → EReal) (ix3 0 i j) = ∑ r : Fin 4096, summand m c (t.val / 4) i j r := by
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  rw [out_last m c t h, pay4_at, scratch_next m c ⟨t.val - 1, h1⟩ (by dsimp only; omega), pay3_at, scratch_next m c ⟨t.val - 1 - 1, h2⟩ (by dsimp only; omega), pay3_at,
    scratch_first m c ⟨t.val - 1 - 1 - 1, h3⟩ (by dsimp only; omega),
    term_at m c t i j (t.val / 4) 3 rfl h (by omega),
    term_at m c ⟨t.val - 1, h1⟩ i j (t.val / 4) 2 (by dsimp only; omega) (by dsimp only; omega) (by omega),
    term_at m c ⟨t.val - 1 - 1, h2⟩ i j (t.val / 4) 1 (by dsimp only; omega) (by dsimp only; omega) (by omega),
    term_at m c ⟨t.val - 1 - 1 - 1, h3⟩ i j (t.val / 4) 0 (by dsimp only; omega) (by dsimp only; omega) (by omega)]
  exact sum_quarters (summand m c (t.val / 4) i j)

/-- That sum is an entry of the whole. -/
theorem sum_eq (c : Dev nD) (t : Fin cfg0.N) (i : Fin 256) (j : Fin 512) : ∑ r : Fin 4096, summand m c (t.val / 4) i j r
    = oversIn (s := 4) (a := 256) (b := 512) (n := 4096) (m (c.tc.loc main_arg0)) (m (c.tc.loc main_arg1)) (ix3 (n0 := 4) ⟨t.val / 4, by have ht : t.val < 16 := t.isLt; omega⟩ i j) := by
  have ht : t.val < 16 := t.isLt
  refine Finset.sum_congr rfl fun r _ => congrArg (fun k : Fin 2048 => HMul.hMul (α := EReal) (β := EReal) (m (c.tc.loc main_arg0) (ix2 r i)) (m (c.tc.loc main_arg1) (ix2 r k))) (Fin.ext ?_)
  show 512 * (t.val / 4 % 4) + j.val = j.val + 512 * (t.val / 4)
  omega

theorem flush_last : ∀ t : Fin cfg0.N, (cfg0.win 2).flush t = true → t.val % 4 = 3 := (by decide +kernel : ∀ t : Fin grid0.N, _)

/-- The array the kernel ends with. -/
theorem final (c : Dev nD) : (dats m 0 c).arrAt 2 cfg0.N = oversIn (s := 4) (a := 256) (b := 512) (n := 4096) (m (c.tc.loc main_arg0)) (m (c.tc.loc main_arg1)) := by
  refine (dats m 0 c).arrAt_eq_of_covers 2 _ (by decide +kernel) fun t hf y => ?_
  have ht : t.val < 16 := t.isLt
  have h := flush_last t hf
  blk_simp
  rw [after0_2]
  obtain ⟨s, i, j, rfl⟩ := tripleOf (a := 1) (b := 256) (n := 512) y
  obtain rfl : s = 0 := Subsingleton.elim _ _
  rw [out_at m c t h, sum_eq m c t i j]
  refine congrArg (oversIn (s := 4) (a := 256) (b := 512) (n := 4096) (m (c.tc.loc main_arg0)) (m (c.tc.loc main_arg1)))
    (a₁ := ix3 (n0 := 4) (n1 := 256) (n2 := 512) ⟨t.val / 4, by omega⟩ i j) ?_
  funext a
  match a with
  | ⟨0, _⟩ => refine Fin.ext ?_; blk_simp [index]; rfl
  | ⟨1, _⟩ => refine Fin.ext ?_; blk_simp [index]
  | ⟨2, _⟩ => refine Fin.ext ?_; blk_simp [index]

theorem run_values (ρ : Dev nD → PrngReg) : θ_run defs (onTc (τ := τ) (main (F := Ideal))) ⟨m, fun _ => 0, ρ⟩ (fun r => ∀ c : Dev nD,
      r.2.mem (c.tc.loc main_v0) = oversIn (s := 4) (a := 256) (b := 512) (n := 4096) (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel24Ideal.Value.run_blocks m ρ)

end Cert.Mm.MlaKvbDw

namespace Cert.Mm.MlaKvbDw.Ref

open Reference24Ideal Reference24Ideal.Gen
open Idealize.ShloMosaic TcCoe Idealize.SL.Sem

variable (x : S4096x256.Idx → EReal) (d : S4096x2048.Idx → EReal)

/-- The gradient of the weights, columns by rows. -/
def dwt : FVec Ideal S2048x256 .f32 :=
  Host.dotGeneral (F := Ideal) (φ₁ := .f32) (φ₂ := .f32) dot_S4096x2048_S4096x256_S2048x256_0_0_1_1_n_n none d x

theorem dwt_at (j : Fin 2048) (i : Fin 256) : dwt x d (ix2 j i) = ∑ r : Fin 4096, x (ix2 r i) * d (ix2 r j) := by
  unfold dwt
  simp only [pointwise, zero_add]
  exact Finset.sum_congr rfl fun r _ => mul_comm _ _

theorem product_eq :
    (transpose S4x256x512 [1, 0, 2] (shapeCast _ (truncf .bf16 (transpose S256x2048 [1, 0] (dwt x d) transposes_S2048x256_S256x2048_1_0) bitsLt_bf16_f32)
      shapeCasts_S256x2048_S256x4x512) transposes_S256x4x512_S4x256x512_1_0_2 : FVec Ideal S4x256x512 .bf16) = oversIn x d := by
  funext y
  obtain ⟨s, i, j, rfl⟩ := tripleOf (a := 4) (b := 256) (n := 512) y
  simp only [pointwise, dwt_at]
  refine Finset.sum_congr rfl fun r _ => congrArg (fun k : Fin 2048 => x (ix2 r i) * d (ix2 r k)) (Fin.ext ?_)
  show s.val * 512 + j.val = j.val + 512 * s.val
  omega

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v8) = oversIn (s := 4) (a := 256) (b := 512) (n := 4096) (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.MlaKvbDw.Ref

end
-- ==== Proof.Mm.MlaInDw.lean ====
module

public import proofs.«01_k».proof.Proof.Gen.Kernel25Ideal.Value
public import proofs.«01_k».proof.Proof.Gen.Reference25Ideal.Run
public import proofs.«01_k».proof.Proof.Mm.Prod

/-! The gradient of the input weights of the attention block: the kernel's blocks, each over four points that add up a
    quarter of the rows, and the reference's one product. -/

@[expose] public section

set_option maxRecDepth 16384

noncomputable section

namespace Cert.Mm.MlaInDw

open Kernel25Ideal Kernel25Ideal.Gen
open Idealize.ShloMosaic TcCoe Idealize.SL.Sem

section Any

variable {F : FTy → Type} [FloatOps F]
variable (m : (ℓ : Loc nD τ sig) → Buf (Elt F) ℓ)

theorem index : ∀ t : Fin cfg0.N, win0_0.index t = ![t.val % 4, t.val / 4] ∧ win0_1.index t = ![t.val % 4, 0] ∧ win0_2.index t = ![t.val / 4, 0] := (by decide +kernel : ∀ t : Fin grid0.N, _)

/-- Row `k` of the rows of point `t`, and the place of an entry of its block in the whole. -/
def rowOf (t : Fin cfg0.N) (k : Fin 1024) : Fin 4096 := ⟨1024 * (t.val % 4) + k.val, by omega⟩
def left (b : ℕ) (i : Fin 512) : Fin 1024 := ⟨512 * (b % 2) + i.val, by omega⟩
def right (b : ℕ) (j : Fin 768) : Fin 768 := j

theorem block0 (c : Dev nD) (t : Fin cfg0.N) (k : Fin 1024) (i : Fin 512) :
    iblk m c 0 t (ix2 k i) = m (c.tc.loc main_arg0) (ix2 (rowOf t k) (left (t.val / 4) i)) := by
  have ht : t.val < 8 := t.isLt
  rw [← V_main_arg0 m c]
  unfold rowOf left
  blk_ext [iblk, index]
theorem block1 (c : Dev nD) (t : Fin cfg0.N) (k : Fin 1024) (j : Fin 768) :
    iblk m c 1 t (ix2 k j) = m (c.tc.loc main_arg1) (ix2 (rowOf t k) (right (t.val / 4) j)) := by
  have ht : t.val < 8 := t.isLt
  rw [← V_main_arg1 m c]
  unfold rowOf right
  blk_ext [iblk, index]

/-- The first point of a block leaves its product in the scratch; -/
theorem scratch_first (c : Dev nD) (t : Fin cfg0.N) (h : t.val % 4 = 0) : (outsAt0 m c t.val t.isLt).2 = k0_pay2 (iblk m c 0 t) (iblk m c 1 t) := by
  rw [outsAt0_A m c t h (by omega) (by omega)]
  dsimp only
  unfold sout0_A_0
  refine (View.read_writes_eq_canon _ _ _ (scover0_A_0 c _ _ _ _ _ _ _ _ _ _ _ _ _ _)).trans ?_
  unfold kernelRun0_A
  dsimp only
  sl_unfold_words
  rw [View.canon_unit_zero hz]
  simp only [View.readAt_eq_ld, (hs0_0 t).read_unread, (hs0_1 t).read_unread, View.ld_unit_zero (S := S1024x512) hz, View.ld_unit_zero (S := S1024x768) hz]

/-- the next two add theirs to it, -/
theorem scratch_next (c : Dev nD) (t : Fin cfg0.N) (h : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h (by omega)]
  dsimp only
  unfold sout0_B_0
  refine (View.read_writes_eq_canon _ _ _ (scover0_B_0 c _ _ _ _ _ _ _ _ _ _ _ _ _ _ _)).trans ?_
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S1024x512) hz, View.ld_unit_zero (S := S1024x768) hz, View.ld_unit_zero (S := S512x768) hz]

/-- and the last one leaves the sum of the scratch and its own in the output's block. -/
theorem out_last (c : Dev nD) (t : Fin cfg0.N) (h : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h]
  dsimp only
  unfold out0_C_2
  refine (View.read_writes_eq_canon _ _ _ (cover0_C_2 c _ _ _ _ _ _ _ _ _ _ _ _ _ _ _)).trans ?_
  unfold kernelRun0_C
  dsimp only
  sl_unfold_words
  rw [View.canon_unit_zero hz]
  simp only [View.readAt_eq_ld, (hs0_0 t).read_unread, (hs0_1 t).read_unread, (Memref.isWhole_whole _).read_unread, View.ld_unit_zero (S := S1024x512) hz, View.ld_unit_zero (S := S1024x768) hz, View.ld_unit_zero (S := S512x768) hz]

end Any

variable (m : (ℓ : Loc nD τ sig) → Buf (Elt Ideal) ℓ)

section Payloads

variable (x : Vec Ideal S1024x512 .bf16) (d : Vec Ideal S1024x768 .bf16) (v : Vec Ideal S512x768 .f32) (i : Fin 512) (j : Fin 768)

theorem pay2_at : k0_pay2 x d (ix2 i j) = ∑ k : Fin 1024, x (ix2 k i) * d (ix2 k j) := by
  unfold k0_pay2
  rw [shapeCast_self]
  simp only [k0_pay1, pointwise, zero_add]
theorem pay3_at : (k0_pay3 x d v : S512x768.Idx → EReal) (ix2 i j) = v (ix2 i j) + k0_pay2 x d (ix2 i j) := by
  unfold k0_pay3 k0_pay2
  rw [shapeCast_self, shapeCast_self]
  rfl
theorem pay4_at : (k0_pay4 x d v : S512x768.Idx → EReal) (ix2 i j) = v (ix2 i j) + k0_pay2 x d (ix2 i j) := by
  unfold k0_pay4 k0_pay2
  rw [shapeCast_self]
  rfl

end Payloads

/-- One summand of the whole, at an entry of block `b`. -/
def summand (c : Dev nD) (b : ℕ) (i : Fin 512) (j : Fin 768) (r : Fin 4096) : EReal :=
  HMul.hMul (α := EReal) (β := EReal) (m (c.tc.loc main_arg0) (ix2 r (left b i))) (m (c.tc.loc main_arg1) (ix2 r (right b j)))

/-- A point's product, `p` its place among the four points of block `b`. -/
theorem term_at (c : Dev nD) (t : Fin cfg0.N) (i : Fin 512) (j : Fin 768) (b p : ℕ) (hb : t.val / 4 = b) (hp : t.val % 4 = p) (h : p < 4) :
    (k0_pay2 (iblk m c 0 t) (iblk m c 1 t) : S512x768.Idx → EReal) (ix2 i j) = ∑ k : Fin 1024, summand m c b i j ⟨1024 * p + k.val, by omega⟩ := by
  subst hb hp
  rw [pay2_at]
  exact Finset.sum_congr rfl fun k _ => congrArg₂ (fun a b : EReal => a * b) (block0 m c t k i) (block1 m c t k j)

/-- What the last point of a block leaves: the whole sum. -/
theorem out_at (c : Dev nD) (t : Fin cfg0.N) (h : t.val % 4 = 3) (i : Fin 512) (j : Fin 768) :
    ((outsAt0 m c t.val t.isLt).1 : S512x768.Idx → EReal) (ix2 i j) = ∑ r : Fin 4096, summand m c (t.val / 4) i j r := by
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  rw [out_last m c t h, pay4_at, scratch_next m c ⟨t.val - 1, h1⟩ (by dsimp only; omega), pay3_at, scratch_next m c ⟨t.val - 1 - 1, h2⟩ (by dsimp only; omega), pay3_at,
    scratch_first m c ⟨t.val - 1 - 1 - 1, h3⟩ (by dsimp only; omega),
    term_at m c t i j (t.val / 4) 3 rfl h (by omega),
    term_at m c ⟨t.val - 1, h1⟩ i j (t.val / 4) 2 (by dsimp only; omega) (by dsimp only; omega) (by omega),
    term_at m c ⟨t.val - 1 - 1, h2⟩ i j (t.val / 4) 1 (by dsimp only; omega) (by dsimp only; omega) (by omega),
    term_at m c ⟨t.val - 1 - 1 - 1, h3⟩ i j (t.val / 4) 0 (by dsimp only; omega) (by dsimp only; omega) (by omega)]
  exact sum_quarters (summand m c (t.val / 4) i j)

theorem flush_last : ∀ t : Fin cfg0.N, (cfg0.win 2).flush t = true → t.val % 4 = 3 := (by decide +kernel : ∀ t : Fin grid0.N, _)

/-- The array the kernel ends with. -/
theorem final (c : Dev nD) : (dats m 0 c).arrAt 2 cfg0.N = overs (a := 1024) (b := 768) (n := 4096) (m (c.tc.loc main_arg0)) (m (c.tc.loc main_arg1)) := by
  refine (dats m 0 c).arrAt_eq_of_covers 2 _ (by decide +kernel) fun t hf y => ?_
  have ht : t.val < 8 := t.isLt
  have h := flush_last t hf
  blk_simp
  rw [after0_2]
  obtain ⟨i, j, rfl⟩ := Dx.pairOf (a := 512) (b := 768) y
  rw [out_at m c t h]
  refine congrArg (overs (a := 1024) (b := 768) (n := 4096) (m (c.tc.loc main_arg0)) (m (c.tc.loc main_arg1)))
    (a₁ := ix2 (left (t.val / 4) i) (right (t.val / 4) j)) ?_
  funext a
  match a with
  | ⟨0, _⟩ => refine Fin.ext ?_; blk_simp [index]; show 512 * (t.val / 4 % 2) + i.val = t.val / 4 * 512 + i.val; omega
  | ⟨1, _⟩ => refine Fin.ext ?_; blk_simp [index]; rfl

theorem run_values (ρ : Dev nD → PrngReg) : θ_run defs (onTc (τ := τ) (main (F := Ideal))) ⟨m, fun _ => 0, ρ⟩ (fun r => ∀ c : Dev nD,
      r.2.mem (c.tc.loc main_v0) = overs (a := 1024) (b := 768) (n := 4096) (m (c.tc.loc main_arg0)) (m (c.tc.loc main_arg1))
      ∧ Kept m r.2.mem c main_arg0
      ∧ Kept m r.2.mem c main_arg1) :=
  (θ_run defs _ _).mono (fun r h c => ⟨(h c).1.trans (final m c), (h c).2⟩) (Kernel25Ideal.Value.run_blocks m ρ)

end Cert.Mm.MlaInDw

namespace Cert.Mm.MlaInDw.Ref

open Reference25Ideal Reference25Ideal.Gen
open Idealize.ShloMosaic TcCoe Idealize.SL.Sem

variable (x : S4096x1024.Idx → EReal) (d : S4096x768.Idx → EReal)

/-- The gradient of the weights, columns by rows. -/
def dwt : FVec Ideal S768x1024 .f32 :=
  Host.dotGeneral (F := Ideal) (φ₁ := .f32) (φ₂ := .f32) dot_S4096x768_S4096x1024_S768x1024_0_0_1_1_n_n none d x

theorem dwt_at (j : Fin 768) (i : Fin 1024) : dwt x d (ix2 j i) = ∑ r : Fin 4096, x (ix2 r i) * d (ix2 r j) := by
  unfold dwt
  simp only [pointwise, zero_add]
  exact Finset.sum_congr rfl fun r _ => mul_comm _ _

theorem product_eq : (truncf .bf16 (transpose S1024x768 [1, 0] (dwt x d) transposes_S768x1024_S1024x768_1_0) bitsLt_bf16_f32 : FVec Ideal S1024x768 .bf16) = overs x d := by
  funext y
  obtain ⟨i, j, rfl⟩ := Dx.pairOf (a := 1024) (b := 768) y
  simp only [pointwise, dwt_at]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v6) = overs (a := 1024) (b := 768) (n := 4096) (m (c.tc.loc main_arg0)) (m (c.tc.loc main_arg1))
      ∧ Kept m r.2.mem c main_arg0
      ∧ Kept m r.2.mem c main_arg1) :=
  (θ_run defs _ _).mono (fun r h c => ⟨(h c).1.trans (product_eq _ _), (h c).2⟩) (Value.run m ρ)

end Cert.Mm.MlaInDw.Ref

end
-- ==== Proof.Mm.MlaInDx.lean ====
module

public import proofs.«01_k».proof.Proof.Gen.Kernel26Ideal.Value
public import proofs.«01_k».proof.Proof.Gen.Reference26Ideal.Run
public import proofs.«01_k».proof.Proof.Dx.Ref

/-! The gradient of the attention block's input product and of the norm before it: the kernel's blocks, whose part of the
    gain's gradient adds up over the points, and the reference's results. -/

@[expose] public section

set_option maxRecDepth 16384

noncomputable section

namespace Cert.Mm.MlaInDx

open Idealize.ShloMosaic

/-- The gradient of a product's left factor. -/
def through {n : ℕ} (a : (⟨2, ![n, 768]⟩ : Shape).Idx → EReal) (w : (⟨2, ![1024, 768]⟩ : Shape).Idx → EReal) (i : Fin n) (j : Fin 1024) : EReal :=
  ∑ k : Fin 768, a (ix2 i k) * w (ix2 j k)

/-- Rows `512 t` to `512 t + 511` of an array. -/
def part {n : ℕ} {α : Type} (c : ℕ) (t : ℕ) (ht : 512 * t + 512 ≤ n) (x : (⟨2, ![n, c]⟩ : Shape).Idx → α) : (⟨2, ![512, c]⟩ : Shape).Idx → α :=
  fun y => x (ix2 (n0 := n) (n1 := c) ⟨512 * t + (y 0).val, by have h : (y 0).val < 512 := (y 0).isLt; omega⟩ (y 1))

/-- A sum over 4096 rows is a sum over 8 blocks of 512. -/
theorem sum_parts (f : Fin 4096 → EReal) :
    ∑ t : Fin 8, ∑ i : Fin 512, f ⟨512 * t.val + i.val, by omega⟩ = ∑ i, f i := by
  rw [← Finset.sum_product', Finset.univ_product_univ]
  refine (Equiv.sum_comp (finProdFinEquiv (m := 8) (n := 512)) f).symm.trans ?_ |>.symm
  refine Finset.sum_congr rfl fun p _ => congrArg f (Fin.ext ?_)
  show p.2.val + 512 * p.1.val = 512 * p.1.val + p.2.val
  omega

end Cert.Mm.MlaInDx

namespace Cert.Mm.MlaInDx

open Dx Kernel26Ideal Kernel26Ideal.Gen
open Idealize.ShloMosaic TcCoe

section Any

variable {F : FTy → Type} [FloatOps F]
variable (m : (ℓ : Loc nD τ sig) → Buf (Elt F) ℓ)

/-- A point's block of the input's gradient, and its part of the gain's. -/
def dxOf (a : Vec F S512x768 .bf16) (w : Vec F S1024x768 .bf16) (x : Vec F S512x1024 .f32) (g : Vec F S1x1024 .f32) (s : Vec F S512x1024 .f32) : Vec F S512x1024 .f32 :=
  k0_pay7 a w x g s
def dgOf (a : Vec F S512x768 .bf16) (w : Vec F S1024x768 .bf16) (x : Vec F S512x1024 .f32) : Vec F S1x1024 .f32 :=
  k0_pay6 a w x

theorem outs6 (c : Dev nD) (t : Fin cfg0.N) :
    (outsAt0 m c t.val t.isLt).1 = dxOf (iblk m c 0 t) (iblk m c 1 t) (iblk m c 2 t) (iblk m c 3 t) (iblk m c 4 t) := by
  by_cases h0 : t.val % 8 = 0
  · have h1 : ¬ 1 ≤ t.val := by have h : t.val < 8 := t.isLt; omega
    rw [outsAt0_A m c t h0 h1]
    dsimp only
    unfold out0_A_6
    refine (View.read_writes_eq_canon _ _ _ (cover0_A_6 c _ _ _ _ _ _ _ _ _ _ _ _ _ _ _ _ _ _ _ _ _ _ _ _ _ _ _)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      View.ld_unit_zero (S := S512x768) hz, View.ld_unit_zero (S := S1024x768) hz, View.ld_unit_zero (S := S512x1024) hz, View.ld_unit_zero (S := S1x1024) hz]
    rfl
  · have h1 : 1 ≤ t.val := by omega
    rw [outsAt0_B m c t h0 h1]
    dsimp only
    unfold out0_B_6
    refine (View.read_writes_eq_canon _ _ _ (cover0_B_6 c _ _ _ _ _ _ _ _ _ _ _ _ _ _ _ _ _ _ _ _ _ _ _ _ _ _ _ _)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      View.ld_unit_zero (S := S512x768) hz, View.ld_unit_zero (S := S1024x768) hz, View.ld_unit_zero (S := S512x1024) hz, View.ld_unit_zero (S := S1x1024) hz]
    rfl

theorem outs7 (c : Dev nD) (t : Fin cfg0.N) :
    (outsAt0 m c t.val t.isLt).2.1 = truncf .bf16 (dxOf (iblk m c 0 t) (iblk m c 1 t) (iblk m c 2 t) (iblk m c 3 t) (iblk m c 4 t)) bitsLt_bf16_f32 := by
  by_cases h0 : t.val % 8 = 0
  · have h1 : ¬ 1 ≤ t.val := by have h : t.val < 8 := t.isLt; omega
    rw [outsAt0_A m c t h0 h1]
    dsimp only
    unfold out0_A_7
    refine (View.read_writes_eq_canon _ _ _ (cover0_A_7 c _ _ _ _ _ _ _ _ _ _ _ _ _ _ _ _ _ _ _ _ _ _ _ _ _ _ _)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      View.ld_unit_zero (S := S512x768) hz, View.ld_unit_zero (S := S1024x768) hz, View.ld_unit_zero (S := S512x1024) hz, View.ld_unit_zero (S := S1x1024) hz]
    rfl
  · have h1 : 1 ≤ t.val := by omega
    rw [outsAt0_B m c t h0 h1]
    dsimp only
    unfold out0_B_7
    refine (View.read_writes_eq_canon _ _ _ (cover0_B_7 c _ _ _ _ _ _ _ _ _ _ _ _ _ _ _ _ _ _ _ _ _ _ _ _ _ _ _ _)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      View.ld_unit_zero (S := S512x768) hz, View.ld_unit_zero (S := S1024x768) hz, View.ld_unit_zero (S := S512x1024) hz, View.ld_unit_zero (S := S1x1024) hz]
    rfl

/-- The first point stores its part of the gain's gradient. -/
theorem outs8_first (c : Dev nD) (h : 0 < cfg0.N) :
    (outsAt0 m c 0 h).2.2 = dgOf (iblk m c 0 ⟨0, h⟩) (iblk m c 1 ⟨0, h⟩) (iblk m c 2 ⟨0, h⟩) := by
  rw [outsAt0_A m c ⟨0, h⟩ rfl (by show ¬ 1 ≤ 0; omega)]
  dsimp only
  unfold out0_A_8
  refine (View.read_writes_eq_canon _ _ _ (cover0_A_8 c _ _ _ _ _ _ _ _ _ _ _ _ _ _ _ _ _ _ _ _ _ _ _ _ _ _ _)).trans ?_
  unfold kernelRun0_A
  dsimp only
  sl_unfold_words
  rw [View.canon_unit_zero hz]
  simp only [View.readAt_eq_ld, (hs0_0 _).read_unread, (hs0_1 _).read_unread, (hs0_2 _).read_unread, (hs0_3 _).read_unread, (hs0_4 _).read_unread, (hs0_5 _).read_unread,
    View.ld_unit_zero (S := S512x768) hz, View.ld_unit_zero (S := S1024x768) hz, View.ld_unit_zero (S := S512x1024) hz, View.ld_unit_zero (S := S1x1024) hz]
  rfl

/-- A later point adds its part. -/
theorem outs8_next (c : Dev nD) (n : ℕ) (h : n + 1 < cfg0.N) :
    (outsAt0 m c (n + 1) h).2.2 = addf (outsAt0 m c n (Nat.lt_of_succ_lt h)).2.2 (dgOf (iblk m c 0 ⟨n + 1, h⟩) (iblk m c 1 ⟨n + 1, h⟩) (iblk m c 2 ⟨n + 1, h⟩)) := by
  have hN : n + 1 < 8 := h
  rw [outsAt0_B m c ⟨n + 1, h⟩ (by show ¬ (n + 1) % 8 = 0; omega) (by show 1 ≤ n + 1; omega)]
  dsimp only
  unfold out0_B_8
  refine (View.read_writes_eq_canon _ _ _ (cover0_B_8 c _ _ _ _ _ _ _ _ _ _ _ _ _ _ _ _ _ _ _ _ _ _ _ _ _ _ _ _)).trans ?_
  unfold kernelRun0_B
  dsimp only
  sl_unfold_words
  rw [View.canon_unit_zero hz]
  unfold k0_pay2
  simp only [View.readAt_eq_ld, (hs0_0 _).read_unread, (hs0_1 _).read_unread, (hs0_2 _).read_unread, (hs0_3 _).read_unread, (hs0_4 _).read_unread, (hs0_5 _).read_unread, (hs0_8 _).read_unread,
    View.ld_unit_zero (S := S512x768) hz, View.ld_unit_zero (S := S1024x768) hz, View.ld_unit_zero (S := S512x1024) hz, View.ld_unit_zero (S := S1x1024) hz, shapeCast_self]
  rfl

end Any

/-! ## Over the extended reals -/

section Ideals

variable (a : Vec Ideal S512x768 .bf16) (w : Vec Ideal S1024x768 .bf16) (x : Vec Ideal S512x1024 .f32) (g : Vec Ideal S1x1024 .f32) (s : Vec Ideal S512x1024 .f32)

theorem through_at (i : Fin 512) (j : Fin 1024) : k0_pay3 a w (ix2 i j) = through a w i j := by
  simp only [k0_pay3, pointwise, zero_add]
  rfl

theorem meanSq_at (i : Fin 512) : k0_pay4 x (ix2 i 0) = meanSq (rowAt x i) := by
  simp only [k0_pay4, pointwise]
  rfl

theorem dxOf_at (i : Fin 512) (j : Fin 1024) :
    dxOf a w x g s (ix2 i j) = dxRow (rowAt x i) (through a w i) (rowAt g 0) (rowAt s i) j := by
  simp only [dxOf, k0_pay7, k0_pay5, pointwise, ↓reduceDIte, OfNat.ofNat_ne_one, through_at, meanSq_at, Fin.sum_univ_one]
  rfl

theorem dgOf_at (j : Fin 1024) : dgOf a w x (ix2 0 j) = ∑ i : Fin 512, dgRow (rowAt x i) (through a w i) j := by
  simp only [dgOf, k0_pay6, k0_pay5, pointwise, ↓reduceDIte, OfNat.ofNat_ne_one, through_at, meanSq_at]
  rfl

end Ideals

/-! ## The blocks of a point -/

section Any

variable {F : FTy → Type} [FloatOps F]
variable (m : (ℓ : Loc nD τ sig) → Buf (Elt F) ℓ)

theorem rows_le (t : Fin cfg0.N) : 512 * t.val + 512 ≤ 4096 := by have h : t.val < 8 := t.isLt; omega

theorem index : ∀ t : Fin cfg0.N, win0_0.index t = ![t.val, 0] ∧ win0_1.index t = ![0, 0] ∧ win0_2.index t = ![t.val, 0] ∧ win0_3.index t = ![0, 0] ∧ win0_4.index t = ![t.val, 0] ∧ win0_6.index t = ![t.val, 0] ∧ win0_7.index t = ![t.val, 0] ∧ win0_8.index t = ![0, 0] := (by decide +kernel : ∀ t : Fin grid0.N, _)

theorem block0 (c : Dev nD) (t : Fin cfg0.N) : iblk m c 0 t = part 768 t.val (rows_le t) (m (c.tc.loc main_arg0)) := by
  rw [← V_main_arg0 m c]
  funext y
  unfold part
  blk_ext [iblk, index]
theorem block1 (c : Dev nD) (t : Fin cfg0.N) : iblk m c 1 t = m (c.tc.loc main_arg1) := by
  rw [← V_main_arg1 m c]
  funext y
  blk_ext [iblk, index]
theorem block2 (c : Dev nD) (t : Fin cfg0.N) : iblk m c 2 t = part 1024 t.val (rows_le t) (m (c.tc.loc main_arg2)) := by
  rw [← V_main_arg2 m c]
  funext y
  unfold part
  blk_ext [iblk, index]
theorem block3 (c : Dev nD) (t : Fin cfg0.N) : iblk m c 3 t = m (c.tc.loc main_arg3) := by
  rw [← V_main_arg3 m c]
  funext y
  blk_ext [iblk, index]
theorem block4 (c : Dev nD) (t : Fin cfg0.N) : iblk m c 4 t = part 1024 t.val (rows_le t) (m (c.tc.loc main_arg4)) := by
  rw [← V_main_arg4 m c]
  funext y
  unfold part
  blk_ext [iblk, index]

end Any

/-! ## The arrays -/

variable (m : (ℓ : Loc nD τ sig) → Buf (Elt Ideal) ℓ)

/-- The gradient of the norm's output, of the input and of the gain, from the memory's arguments. -/
def dOf (c : Dev nD) : Fin 4096 → Fin 1024 → EReal :=
  through (m (c.tc.loc main_arg0)) (m (c.tc.loc main_arg1))
def xGrad (c : Dev nD) : S4096x1024.Idx → EReal :=
  gradX (dOf m c) (m (c.tc.loc main_arg2)) (m (c.tc.loc main_arg3)) (m (c.tc.loc main_arg4))
def gGrad (c : Dev nD) : S1x1024.Idx → EReal := gradG (dOf m c) (m (c.tc.loc main_arg2))

/-- Row `i` of block `t`. -/
def rowOf (t : Fin cfg0.N) (i : Fin 512) : Fin 4096 := ⟨512 * t.val + i.val, by have h : t.val < 8 := t.isLt; omega⟩

theorem dx_at (c : Dev nD) (t : Fin cfg0.N) (i : Fin 512) (j : Fin 1024) :
    dxOf (iblk m c 0 t) (iblk m c 1 t) (iblk m c 2 t) (iblk m c 3 t) (iblk m c 4 t) (ix2 i j) = xGrad m c (ix2 (rowOf t i) j) := by
  rw [dxOf_at, block0, block1, block2, block3, block4]
  rfl

theorem dg_at (c : Dev nD) (t : Fin cfg0.N) (j : Fin 1024) :
    dgOf (iblk m c 0 t) (iblk m c 1 t) (iblk m c 2 t) (ix2 0 j)
      = ∑ i : Fin 512, dgRow (rowAt (m (c.tc.loc main_arg2)) (rowOf t i)) (dOf m c (rowOf t i)) j := by
  rw [dgOf_at, block0, block1, block2]
  rfl

/-- After point `n` the gain's gradient holds the parts of the points up to `n`. -/
theorem outs8 (c : Dev nD) (j : Fin 1024) : ∀ (n : ℕ) (h : n < cfg0.N), (outsAt0 m c n h).2.2 (ix2 (n0 := 1) 0 j)
    = ∑ t : Fin (n + 1), ∑ i : Fin 512, dgRow (rowAt (m (c.tc.loc main_arg2)) (rowOf ⟨t.val, by omega⟩ i)) (dOf m c (rowOf ⟨t.val, by omega⟩ i)) j
  | 0, h => by
    rw [outs8_first, Fin.sum_univ_one]
    exact dg_at m c ⟨0, h⟩ j
  | n + 1, h => by
    rw [outs8_next, Fin.sum_univ_castSucc]
    exact congrArg₂ (fun a b : EReal => a + b) (outs8 c j n (Nat.lt_of_succ_lt h)) (dg_at m c ⟨n + 1, h⟩ j)

theorem final6 (c : Dev nD) : (dats m 0 c).arrAt 6 cfg0.N = xGrad m c := by
  refine (dats m 0 c).arrAt_eq_of_covers 6 _ (by decide +kernel) fun t hf y => ?_
  blk_simp
  rw [after0_6, outs6]
  obtain ⟨i, j, rfl⟩ := pairOf (a := 512) (b := 1024) y
  refine (dx_at m c t i j).trans (congrArg (xGrad m c) ?_)
  funext a
  match a with
  | ⟨0, _⟩ => refine Fin.ext ?_; blk_simp [index]; show 512 * t.val + i.val = t.val * 512 + i.val; omega
  | ⟨1, _⟩ => refine Fin.ext ?_; blk_simp [index]

theorem final7 (c : Dev nD) : (dats m 0 c).arrAt 7 cfg0.N = xGrad m c := by
  refine (dats m 0 c).arrAt_eq_of_covers 7 _ (by decide +kernel) fun t hf y => ?_
  blk_simp
  rw [after0_7, outs7]
  obtain ⟨i, j, rfl⟩ := pairOf (a := 512) (b := 1024) y
  refine (dx_at m c t i j).trans (congrArg (xGrad m c) ?_)
  funext a
  match a with
  | ⟨0, _⟩ => refine Fin.ext ?_; blk_simp [index]; show 512 * t.val + i.val = t.val * 512 + i.val; omega
  | ⟨1, _⟩ => refine Fin.ext ?_; blk_simp [index]

theorem last : ∀ t : Fin cfg0.N, (cfg0.win 8).flush t = true → t.val = 7 := (by decide +kernel : ∀ t : Fin grid0.N, _)

theorem final8 (c : Dev nD) : (dats m 0 c).arrAt 8 cfg0.N = gGrad m c := by
  refine (dats m 0 c).arrAt_eq_of_covers 8 _ (by decide +kernel) fun t hf y => ?_
  have e := last t hf
  blk_simp
  rw [after0_8]
  obtain ⟨n, h⟩ := t
  obtain rfl : n = 7 := e
  obtain ⟨i, j, rfl⟩ := pairOf (a := 1) (b := 1024) y
  obtain rfl : i = 0 := Subsingleton.elim _ _
  refine (outs8 m c j 7 h).trans ((sum_parts fun r => dgRow (rowAt (m (c.tc.loc main_arg2)) r) (dOf m c r) j).trans ?_)
  refine congrArg (gGrad m c) (a₁ := ix2 (n0 := 1) (n1 := 1024) 0 j) ?_
  funext a
  match a with
  | ⟨0, _⟩ => exact Subsingleton.elim (α := Fin 1) _ _
  | ⟨1, _⟩ => refine Fin.ext ?_; blk_simp [index]; show j.val = 0 * 1024 + j.val; omega

theorem run_values (ρ : Dev nD → PrngReg) : θ_run defs (onTc (τ := τ) (main (F := Ideal))) ⟨m, fun _ => 0, ρ⟩ (fun r => ∀ c : Dev nD,
      r.2.mem (c.tc.loc main_v0_0) = xGrad m c
      ∧ r.2.mem (c.tc.loc main_v0_1) = xGrad m c
      ∧ r.2.mem (c.tc.loc main_v0_2) = gGrad m c
      ∧ Kept m r.2.mem c main_arg0
      ∧ Kept m r.2.mem c main_arg1
      ∧ Kept m r.2.mem c main_arg2
      ∧ Kept m r.2.mem c main_arg3
      ∧ Kept m r.2.mem c main_arg4
      ∧ Kept m r.2.mem c main_arg5) :=
  (θ_run defs _ _).mono (fun r h c => ⟨(h c).1.trans (final6 m c), (h c).2.1.trans (final7 m c), (h c).2.2.1.trans (final8 m c), (h c).2.2.2⟩)
    (Kernel26Ideal.Value.run_blocks m ρ)

end Cert.Mm.MlaInDx

namespace Cert.Mm.MlaInDx.Ref

open Dx Reference26Ideal Reference26Ideal.Gen
open Idealize.ShloMosaic TcCoe Idealize.SL.Sem

variable (a : S4096x768.Idx → EReal) (w : S1024x768.Idx → EReal)

def dh : FVec Ideal S4096x1024 .f32 := Host.dotGeneral (F := Ideal) (φ₁ := .f32) (φ₂ := .f32) dot_S4096x768_S1024x768_S4096x1024_1_1_0_0_n_n none a w

theorem dh_eq : rowAt (dh a w) = through a w := by
  funext i j
  show dh a w (ix2 i j) = _
  unfold dh
  simp only [pointwise, zero_add]
  rfl

section Run

variable (m : (ℓ : Loc nD τ sig) → Buf (Elt Ideal) ℓ)

def dOf (c : Dev nD) : Fin 4096 → Fin 1024 → EReal :=
  through (m (c.tc.loc main_arg0)) (m (c.tc.loc main_arg1))
def xGrad (c : Dev nD) : S4096x1024.Idx → EReal :=
  gradX (dOf m c) (m (c.tc.loc main_arg2)) (m (c.tc.loc main_arg3)) (m (c.tc.loc main_arg4))
def gGrad (c : Dev nD) : S1x1024.Idx → EReal := gradG (dOf m c) (m (c.tc.loc main_arg2))

theorem run_values (ρ : Dev nD → PrngReg) : θ_run defs (onTc (τ := τ) (main (F := Ideal))) ⟨m, fun _ => 0, ρ⟩ (fun r => ∀ c : Dev nD,
      r.2.mem (c.tc.loc main_v38) = xGrad m c
      ∧ r.2.mem (c.tc.loc main_v39) = xGrad m c
      ∧ r.2.mem (c.tc.loc main_v21) = gGrad m c
      ∧ Kept m r.2.mem c main_arg0
      ∧ Kept m r.2.mem c main_arg1
      ∧ Kept m r.2.mem c main_arg2
      ∧ Kept m r.2.mem c main_arg3
      ∧ Kept m r.2.mem c main_arg4
      ∧ Kept m r.2.mem c main_arg5) :=
  (θ_run defs _ _).mono (fun r h c => ⟨(h c).1.trans (Dx.Ref.resX_eq _ _ _ _ (dh_eq _ _)), (h c).2.1.trans (Dx.Ref.resX_eq _ _ _ _ (dh_eq _ _)), (h c).2.2.1.trans (Dx.Ref.resG_eq _ _ (dh_eq _ _)), (h c).2.2.2⟩)
    (Value.run m ρ)

end Run

end Cert.Mm.MlaInDx.Ref

end
-- ==== Proof.Mm.RetNorm.lean ====
module

public import proofs.«01_k».proof.Proof.Gen.Kernel39Ideal.Value
public import proofs.«01_k».proof.Proof.Gen.Reference39Ideal.Run
public import proofs.«01_k».proof.Proof.Mm.MlaOut

/-! The first block's norm, by rows and transposed, in the kernel's eight blocks of rows and in the reference. -/

@[expose] public section

set_option maxRecDepth 16384

noncomputable section

namespace Cert.Mm.RetNorm

open Kernel39Ideal Kernel39Ideal.Gen Dx
open Idealize.ShloMosaic TcCoe Idealize.SL.Sem

theorem index : ∀ t : Fin cfg0.N, win0_0.index t = ![t.val, 0] ∧ win0_1.index t = ![0, 0] ∧ win0_2.index t = ![t.val, 0] ∧ win0_3.index t = ![0, t.val] := (by decide +kernel : ∀ t : Fin grid0.N, _)

/-- Row `i` of row block `t`. -/
def rowOf (t : Fin cfg0.N) (i : Fin 512) : Fin 4096 := ⟨512 * t.val + i.val, by have h : t.val < 8 := t.isLt; omega⟩

variable (m : (ℓ : Loc nD τ sig) → Buf (Elt Ideal) ℓ)

theorem block0 (c : Dev nD) (t : Fin cfg0.N) (i : Fin 512) (j : Fin 1024) : iblk m c 0 t (ix2 i j) = m (c.tc.loc main_arg0) (ix2 (rowOf t i) j) := by
  rw [← V_main_arg0 m c]
  unfold rowOf
  blk_ext [iblk, index]
theorem block1 (c : Dev nD) (t : Fin cfg0.N) : iblk m c 1 t = m (c.tc.loc main_arg1) := by
  rw [← V_main_arg1 m c]
  funext y
  blk_ext [iblk, index]

section Payloads

variable (x : Vec Ideal S512x1024 .f32) (g : Vec Ideal S1x1024 .f32)

theorem out2_eq : out0_2 x g = k0_pay2 x g := by
  unfold out0_2
  rw [View.canon_unit_zero hz, View.ld_unit_zero (S := S512x1024) hz, View.ld_unit_zero (S := S1x1024) hz]
theorem out3_eq : out0_3 x g = k0_pay3 x g := by
  unfold out0_3
  rw [View.canon_unit_zero hz, View.ld_unit_zero (S := S512x1024) hz, View.ld_unit_zero (S := S1x1024) hz]
theorem pay1_at (i : Fin 512) (j : Fin 1024) : (k0_pay1 x g : S512x1024.Idx → EReal) (ix2 i j) = normed (a := 512) x g (ix2 i j) := by
  unfold k0_pay1
  simp only [pointwise, ↓reduceDIte, OfNat.ofNat_ne_one, zero_add]
  rfl
theorem pay3_at (i : Fin 512) (j : Fin 1024) : (k0_pay3 x g : S1024x512.Idx → EReal) (ix2 j i) = normed (a := 512) x g (ix2 i j) := by
  simp only [k0_pay3, pointwise]
  exact pay1_at x g i j

end Payloads

/-- The two arrays, from the memory's arguments. -/
def normOf (c : Dev nD) : S4096x1024.Idx → EReal := normed (a := 4096) (m (c.tc.loc main_arg0)) (m (c.tc.loc main_arg1))
def normTOf (c : Dev nD) : S1024x4096.Idx → EReal := normedT (a := 4096) (m (c.tc.loc main_arg0)) (m (c.tc.loc main_arg1))

theorem norm_at (c : Dev nD) (t : Fin cfg0.N) (i : Fin 512) (j : Fin 1024) :
    normed (a := 512) (iblk m c 0 t) (iblk m c 1 t) (ix2 i j) = normOf m c (ix2 (rowOf t i) j) := by
  rw [block1]
  exact normed_row (o' := m (c.tc.loc main_arg0)) (i' := rowOf t i) (fun j => block0 m c t i j) _ j

theorem final2 (c : Dev nD) : (dats m 0 c).arrAt 2 cfg0.N = normOf m c := by
  refine (dats m 0 c).arrAt_eq_of_covers 2 _ (by decide +kernel) fun t hf y => ?_
  blk_simp
  rw [after0_2, out2_eq]
  obtain ⟨i, j, rfl⟩ := pairOf (a := 512) (b := 1024) y
  refine (pay1_at _ _ i j).trans ((norm_at m c t i j).trans (congrArg (normOf m c) ?_))
  funext a
  match a with
  | ⟨0, _⟩ => refine Fin.ext ?_; blk_simp [index]; show 512 * t.val + i.val = t.val * 512 + i.val; omega
  | ⟨1, _⟩ => refine Fin.ext ?_; blk_simp [index]

theorem final3 (c : Dev nD) : (dats m 0 c).arrAt 3 cfg0.N = normTOf m c := by
  refine (dats m 0 c).arrAt_eq_of_covers 3 _ (by decide +kernel) fun t hf y => ?_
  blk_simp
  rw [after0_3, out3_eq]
  obtain ⟨j, i, rfl⟩ := pairOf (a := 1024) (b := 512) y
  refine (pay3_at _ _ i j).trans ((norm_at m c t i j).trans (congrArg (normTOf m c) (a₁ := ix2 j (rowOf t i)) ?_))
  funext a
  match a with
  | ⟨0, _⟩ => refine Fin.ext ?_; blk_simp [index]
  | ⟨1, _⟩ => refine Fin.ext ?_; blk_simp [index]; show 512 * t.val + i.val = t.val * 512 + i.val; omega

theorem run_values (ρ : Dev nD → PrngReg) : θ_run defs (onTc (τ := τ) (main (F := Ideal))) ⟨m, fun _ => 0, ρ⟩ (fun r => ∀ c : Dev nD,
      r.2.mem (c.tc.loc main_v0_0) = normOf m c
      ∧ r.2.mem (c.tc.loc main_v0_1) = normTOf m c
      ∧ Kept m r.2.mem c main_arg0
      ∧ Kept m r.2.mem c main_arg1) :=
  (θ_run defs _ _).mono (fun r h c => ⟨(h c).1.trans (final2 m c), (h c).2.1.trans (final3 m c), (h c).2.2⟩) (Kernel39Ideal.Value.run_blocks m ρ)

end Cert.Mm.RetNorm

namespace Cert.Mm.RetNorm.Ref

open Reference39Ideal Reference39Ideal.Gen
open Idealize.ShloMosaic TcCoe Idealize.SL.Sem

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v12) = normed (a := 4096) (m (c.tc.loc main_arg0)) (m (c.tc.loc main_arg1))
      ∧ r.2.mem (c.tc.loc main_v13) = normedT (a := 4096) (m (c.tc.loc main_arg0)) (m (c.tc.loc main_arg1))
      ∧ Kept m r.2.mem c main_arg0
      ∧ Kept m r.2.mem c main_arg1) :=
  (θ_run defs _ _).mono (fun r h c => ⟨(h c).1.trans (MlaOut.Ref.nrm_eq _ _), (h c).2.1.trans (MlaOut.Ref.nrmT_eq _ _), (h c).2.2⟩) (Value.run m ρ)

end Cert.Mm.RetNorm.Ref

end
-- ==== Proof.Mm.MlaLat.lean ====
module

public import proofs.«01_k».proof.Proof.Gen.Kernel41Ideal.Value
public import proofs.«01_k».proof.Proof.Gen.Reference41Ideal.Run
public import proofs.«01_k».proof.Proof.Mm.Norm
public import Idealize.ShloMosaic.Lib.Pipeline.ValueKit.Tiles

/-! The norms of the latent attention's two parts, in the kernel's eight blocks of rows, each part by 128 columns, and in the
    reference. -/

@[expose] public section

set_option maxRecDepth 16384

noncomputable section

namespace Cert.Mm.MlaLat

open Kernel41Ideal Kernel41Ideal.Gen Dx
open Idealize.ShloMosaic TcCoe Idealize.SL.Sem

/-- The numbers of columns of the two parts, as the programs write them. -/
abbrev widthQ : EReal := Ideal.ofBits .f32 0x43C00000#32
abbrev widthK : EReal := Ideal.ofBits .f32 0x43800000#32

/-- Columns `o` to `o + n - 1`, normed by rows with the gain. -/
def part {a : ℕ} (n o : ℕ) (ho : o + n ≤ 768) (x : (⟨2, ![a, 768]⟩ : Shape).Idx → EReal) (i : Fin a) (k : Fin n) : EReal := x (ix2 (n1 := 768) i ⟨o + k.val, by omega⟩)
def lat {a : ℕ} (n o : ℕ) (ho : o + n ≤ 768) (N : EReal) (x : (⟨2, ![a, 768]⟩ : Shape).Idx → EReal) (g : (⟨2, ![1, n]⟩ : Shape).Idx → EReal) : (⟨2, ![a, n]⟩ : Shape).Idx → EReal :=
  fun y => part n o ho x (y 0) (y 1) * Ideal.rsqrt (Ideal.div (∑ k, part n o ho x (y 0) k * part n o ho x (y 0) k) N + offset) * g (ix2 (n0 := 1) (n1 := n) 0 (y 1))

theorem lat_row {a b n o : ℕ} {ho : o + n ≤ 768} {N : EReal} {x : (⟨2, ![a, 768]⟩ : Shape).Idx → EReal} {x' : (⟨2, ![b, 768]⟩ : Shape).Idx → EReal} {i : Fin a} {i' : Fin b} (h : ∀ j, x (ix2 i j) = x' (ix2 i' j))
    (g : (⟨2, ![1, n]⟩ : Shape).Idx → EReal) (j : Fin n) : lat n o ho N x g (ix2 i j) = lat n o ho N x' g (ix2 i' j) := by
  have e : part n o ho x i = part n o ho x' i' := funext fun _ => h _
  show part n o ho x i j * Ideal.rsqrt (Ideal.div (∑ k, part n o ho x i k * part n o ho x i k) N + offset) * _ = _
  rw [e]
  rfl

/-- A sum by parts of 128. -/
theorem sum2 (f : Fin 256 → EReal) : (∑ k : Fin 128, f ⟨0 + k.val, by omega⟩) + (∑ k : Fin 128, f ⟨128 + k.val, by omega⟩) = ∑ k, f k := by
  simp only [zero_add]
  exact (Fin.sum_univ_add (a := 128) (b := 128) f).symm
theorem sum3 (f : Fin 384 → EReal) : (∑ k : Fin 128, f ⟨0 + k.val, by omega⟩) + (∑ k : Fin 128, f ⟨128 + k.val, by omega⟩) + (∑ k : Fin 128, f ⟨256 + k.val, by omega⟩) = ∑ k, f k :=
  (congrArg (· + _) (sum2 fun k => f ⟨k.val, by omega⟩)).trans (Fin.sum_univ_add (a := 256) (b := 128) f).symm

theorem index : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] := (by decide +kernel : ∀ t : Fin grid0.N, _)

/-- Row `i` of row block `t`. -/
def rowOf (t : Fin cfg0.N) (i : Fin 512) : Fin 4096 := ⟨512 * t.val + i.val, by have h : t.val < 8 := t.isLt; omega⟩

variable (m : (ℓ : Loc nD τ sig) → Buf (Elt Ideal) ℓ)

theorem block0 (c : Dev nD) (t : Fin cfg0.N) (i : Fin 512) (j : Fin 768) : iblk m c 0 t (ix2 i j) = m (c.tc.loc main_arg0) (ix2 (rowOf t i) j) := by
  rw [← V_main_arg0 m c]
  unfold rowOf
  blk_ext [iblk, index]
theorem block1 (c : Dev nD) (t : Fin cfg0.N) : iblk m c 1 t = m (c.tc.loc main_arg1) := by
  rw [← V_main_arg1 m c]
  funext y
  blk_ext [iblk, index]
theorem block2 (c : Dev nD) (t : Fin cfg0.N) : iblk m c 2 t = m (c.tc.loc main_arg2) := by
  rw [← V_main_arg2 m c]
  funext y
  blk_ext [iblk, index]

section Payloads

variable (x : Vec Ideal S512x768 .f32) (g : Vec Ideal S1x384 .f32) (h : Vec Ideal S1x256 .f32)

theorem pay5_at (v : Vec Ideal S512x128 .f32) (u : Vec Ideal S1x128 .f32) (r : FVec Ideal S512x1 .f32) (i : Fin 512) (j : Fin 128) :
    (k0_pay5 v u r : S512x128.Idx → EReal) (ix2 i j) = v (ix2 i j) * r (ix2 (n1 := 1) i 0) * u (ix2 (n0 := 1) 0 j) := by
  simp only [k0_pay5, pointwise, ↓reduceDIte, OfNat.ofNat_ne_one]

/-- A rectangle of all the rows and the columns from `o` on. -/
theorem emb_at {a n b o : ℕ} (inb : ∀ k, (![0, o] : Fin 2 → ℕ) k + (![a, n] : Fin 2 → ℕ) k ≤ (![a, b] : Fin 2 → ℕ) k) (i : Fin a) (j : Fin n) (h : o + j.val < b) :
    (Rect.unit (s := ⟨2, ![a, b]⟩) ![0, o] ![a, n] inb).emb (ix2 i j) = ix2 (n0 := a) (n1 := b) i ⟨o + j.val, h⟩ := by
  funext k
  match k with
  | ⟨0, _⟩ => exact Fin.ext (by rw [Rect.emb_apply]; show 0 + 1 * i.val = i.val; omega)
  | ⟨1, _⟩ => exact Fin.ext (by rw [Rect.emb_apply]; show o + 1 * j.val = o + j.val; omega)

/-- A load of 128 of a part's columns. -/
theorem ld_at {n o p : ℕ} (ho : o + n ≤ 768) (inb) (i : Fin 512) (j : Fin 128) (k : Fin n) (e : o + k.val = p + j.val) :
    (View.ld x (Rect.unit (s := S512x768) ![0, p] S512x128.size inb) : S512x128.Idx → EReal) (ix2 i j) = part n o ho x i k :=
  congrArg x ((emb_at (a := 512) (n := 128) (b := 768) inb i j (by omega)).trans (congrArg (ix2 (n1 := 768) i) (Fin.ext e.symm)))

/-- One store of a part's norm. -/
theorem lat_at {n o p q : ℕ} (ho : o + n ≤ 768) (N : EReal) (u : Vec Ideal ⟨2, ![1, n]⟩ .f32) (inx) (inu : ∀ k, (![0, q] : Fin 2 → ℕ) k + (![1, 128] : Fin 2 → ℕ) k ≤ (![1, n] : Fin 2 → ℕ) k)
    (ino : ∀ k, (![0, q] : Fin 2 → ℕ) k + (![512, 128] : Fin 2 → ℕ) k ≤ (![512, n] : Fin 2 → ℕ) k) (i : Fin 512) (j : Fin 128) (e : o + q = p) :
    (View.ld x (Rect.unit (s := S512x768) ![0, p] S512x128.size inx) : S512x128.Idx → EReal) (ix2 i j)
        * Ideal.rsqrt (Ideal.div (∑ k, part n o ho x i k * part n o ho x i k) N + offset)
        * (View.ld u (Rect.unit (s := ⟨2, ![1, n]⟩) ![0, q] ![1, 128] inu) : S1x128.Idx → EReal) (ix2 (n0 := 1) 0 j)
      = lat n o ho N x u ((Rect.unit (s := ⟨2, ![512, n]⟩) ![0, q] ![512, 128] ino).emb (ix2 i j)) := by
  have hq : q + j.val < n := by
    have h := ino 1
    have : q + 128 ≤ n := h
    omega
  rw [emb_at ino i j hq]
  refine congrArg₂ (fun a b : EReal => a * b) (congrArg (fun a : EReal => a * _) (ld_at x ho inx i j ⟨q + j.val, hq⟩ (by show o + (q + j.val) = _; omega))) ?_
  exact congrArg u (emb_at inu 0 j hq)

theorem pay1_at (u v w : Vec Ideal S512x128 .f32) (i : Fin 512) : (k0_pay1 u v w : S512x1.Idx → EReal) (ix2 (n1 := 1) i 0)
    = Ideal.rsqrt (Ideal.div ((∑ k : Fin 128, u (ix2 i k) * u (ix2 i k)) + (∑ k : Fin 128, v (ix2 i k) * v (ix2 i k)) + (∑ k : Fin 128, w (ix2 i k) * w (ix2 i k))) widthQ + offset) := by
  simp only [k0_pay1, pointwise, ↓reduceDIte, OfNat.ofNat_ne_one, zero_add]
theorem pay4_at (u v : Vec Ideal S512x128 .f32) (i : Fin 512) : (k0_pay4 (k0_pay2 u) (k0_pay3 v) : S512x1.Idx → EReal) (ix2 (n1 := 1) i 0)
    = Ideal.rsqrt (Ideal.div ((∑ k : Fin 128, u (ix2 i k) * u (ix2 i k)) + (∑ k : Fin 128, v (ix2 i k) * v (ix2 i k))) widthK + offset) := by
  simp only [k0_pay4, k0_pay2, k0_pay3, pointwise, ↓reduceDIte, OfNat.ofNat_ne_one, zero_add]
theorem sq_at (n o p q : ℕ) (ho : o + n ≤ 768) (inb) (i : Fin 512) (hq : q + 128 ≤ n) (e : o + q = p) :
    (∑ k : Fin 128, (View.ld x (Rect.unit (s := S512x768) ![0, p] S512x128.size inb) : S512x128.Idx → EReal) (ix2 i k) * (View.ld x (Rect.unit (s := S512x768) ![0, p] S512x128.size inb) : S512x128.Idx → EReal) (ix2 i k))
      = ∑ k : Fin 128, part n o ho x i ⟨q + k.val, by omega⟩ * part n o ho x i ⟨q + k.val, by omega⟩ :=
  Finset.sum_congr rfl fun k _ => congrArg (fun a : EReal => a * a) (ld_at x ho inb i k _ (by show o + (q + k.val) = _; omega))

theorem pay10_at (i : Fin 512) : (k0_pay10 x g h : S512x1.Idx → EReal) (ix2 (n1 := 1) i 0)
    = Ideal.rsqrt (Ideal.div (∑ k, part 384 0 (by omega) x i k * part 384 0 (by omega) x i k) widthQ + offset) :=
  (pay1_at _ _ _ i).trans (congrArg (fun s : EReal => Ideal.rsqrt (Ideal.div s widthQ + offset)) (Eq.trans
    (congrArg₂ (fun a b : EReal => a + b) (congrArg₂ (fun a b : EReal => a + b) (sq_at x 384 0 0 0 (by omega) _ i (by omega) rfl) (sq_at x 384 0 128 128 (by omega) _ i (by omega) rfl))
      (sq_at x 384 0 256 256 (by omega) _ i (by omega) rfl)) (sum3 fun k => part 384 0 (by omega) x i k * part 384 0 (by omega) x i k)))
theorem pay11_at (i : Fin 512) : (k0_pay4 (k0_pay11 x g h) (k0_pay12 x g h) : S512x1.Idx → EReal) (ix2 (n1 := 1) i 0)
    = Ideal.rsqrt (Ideal.div (∑ k, part 256 384 (by omega) x i k * part 256 384 (by omega) x i k) widthK + offset) :=
  (pay4_at _ _ i).trans (congrArg (fun s : EReal => Ideal.rsqrt (Ideal.div s widthK + offset)) (Eq.trans
    (congrArg₂ (fun a b : EReal => a + b) (sq_at x 256 384 384 0 (by omega) _ i (by omega) rfl) (sq_at x 256 384 512 128 (by omega) _ i (by omega) rfl))
      (sum2 fun k => part 256 384 (by omega) x i k * part 256 384 (by omega) x i k)))

theorem out3_eq : out0_3 x g h = lat (a := 512) 384 0 (by omega) widthQ x g := by
  funext y
  unfold out0_3
  refine View.canon_apply_of_pieces _ _ ?_ y (cover0_3 _ _ _ y)
  simp only [List.forall_mem_cons, List.not_mem_nil, false_imp_iff, implies_true, and_true]
  refine ⟨fun z => ?_, fun z => ?_, fun z => ?_⟩
  all_goals
    obtain ⟨i, j, rfl⟩ := pairOf (a := 512) (b := 128) z
    refine (pay5_at _ _ _ i j).trans ?_
    rw [pay10_at]
    exact lat_at x _ _ _ _ _ _ i j rfl

theorem out4_eq : out0_4 x g h = lat (a := 512) 256 384 (by omega) widthK x h := by
  funext y
  unfold out0_4
  refine View.canon_apply_of_pieces _ _ ?_ y (cover0_4 _ _ y)
  simp only [List.forall_mem_cons, List.not_mem_nil, false_imp_iff, implies_true, and_true]
  refine ⟨fun z => ?_, fun z => ?_⟩
  all_goals
    obtain ⟨i, j, rfl⟩ := pairOf (a := 512) (b := 128) z
    refine (pay5_at _ _ _ i j).trans ?_
    rw [pay11_at]
    exact lat_at x _ _ _ _ _ _ i j rfl
theorem out5_at (i : Fin 512) (j : Fin 128) : (out0_5 x g h : S512x128.Idx → EReal) (ix2 i j) = part 128 640 (by omega) x i j := by
  unfold out0_5
  rw [View.canon_unit_zero hz]
  exact ld_at x _ _ i j j rfl

end Payloads

/-- The three arrays, from the memory's arguments. -/
def qOf (c : Dev nD) : S4096x384.Idx → EReal := lat (a := 4096) 384 0 (by omega) widthQ (m (c.tc.loc main_arg0)) (m (c.tc.loc main_arg1))
def kOf (c : Dev nD) : S4096x256.Idx → EReal := lat (a := 4096) 256 384 (by omega) widthK (m (c.tc.loc main_arg0)) (m (c.tc.loc main_arg2))
def rOf (c : Dev nD) : S4096x128.Idx → EReal := fun y => part (a := 4096) 128 640 (by omega) (m (c.tc.loc main_arg0)) (y 0) (y 1)

theorem final3 (c : Dev nD) : (dats m 0 c).arrAt 3 cfg0.N = qOf m c := by
  refine (dats m 0 c).arrAt_eq_of_covers 3 _ (by decide +kernel) fun t hf y => ?_
  blk_simp
  rw [after0_3, out3_eq, block1]
  obtain ⟨i, j, rfl⟩ := pairOf (a := 512) (b := 384) y
  refine (lat_row (i' := rowOf t i) (fun j => block0 m c t i j) _ j).trans (congrArg (qOf m c) ?_)
  funext a
  match a with
  | ⟨0, _⟩ => refine Fin.ext ?_; blk_simp [index]; show 512 * t.val + i.val = t.val * 512 + i.val; omega
  | ⟨1, _⟩ => refine Fin.ext ?_; blk_simp [index]

theorem final4 (c : Dev nD) : (dats m 0 c).arrAt 4 cfg0.N = kOf m c := by
  refine (dats m 0 c).arrAt_eq_of_covers 4 _ (by decide +kernel) fun t hf y => ?_
  blk_simp
  rw [after0_4, out4_eq, block2]
  obtain ⟨i, j, rfl⟩ := pairOf (a := 512) (b := 256) y
  refine (lat_row (i' := rowOf t i) (fun j => block0 m c t i j) _ j).trans (congrArg (kOf m c) ?_)
  funext a
  match a with
  | ⟨0, _⟩ => refine Fin.ext ?_; blk_simp [index]; show 512 * t.val + i.val = t.val * 512 + i.val; omega
  | ⟨1, _⟩ => refine Fin.ext ?_; blk_simp [index]

theorem final5 (c : Dev nD) : (dats m 0 c).arrAt 5 cfg0.N = rOf m c := by
  refine (dats m 0 c).arrAt_eq_of_covers 5 _ (by decide +kernel) fun t hf y => ?_
  blk_simp
  rw [after0_5]
  obtain ⟨i, j, rfl⟩ := pairOf (a := 512) (b := 128) y
  refine (out5_at _ _ _ i j).trans ((block0 m c t i _).trans (congrArg (rOf m c) (a₁ := ix2 (rowOf t i) j) ?_))
  funext a
  match a with
  | ⟨0, _⟩ => refine Fin.ext ?_; blk_simp [index]; show 512 * t.val + i.val = t.val * 512 + i.val; omega
  | ⟨1, _⟩ => refine Fin.ext ?_; blk_simp [index]

theorem run_values (ρ : Dev nD → PrngReg) : θ_run defs (onTc (τ := τ) (main (F := Ideal))) ⟨m, fun _ => 0, ρ⟩ (fun r => ∀ c : Dev nD,
      r.2.mem (c.tc.loc main_v0_0) = qOf m c
      ∧ r.2.mem (c.tc.loc main_v0_1) = kOf m c
      ∧ r.2.mem (c.tc.loc main_v0_2) = rOf m c
      ∧ Kept m r.2.mem c main_arg0
      ∧ Kept m r.2.mem c main_arg1
      ∧ Kept m r.2.mem c main_arg2) :=
  (θ_run defs _ _).mono (fun r h c => ⟨(h c).1.trans (final3 m c), (h c).2.1.trans (final4 m c), (h c).2.2.1.trans (final5 m c), (h c).2.2.2⟩) (Kernel41Ideal.Value.run_blocks m ρ)

end Cert.Mm.MlaLat

namespace Cert.Mm.MlaLat.Ref

open Reference41Ideal Reference41Ideal.Gen Dx
open Idealize.ShloMosaic TcCoe Idealize.SL.Sem

variable (x : S4096x768.Idx → EReal)

/-- A slice of the columns. -/
theorem slice_eq {n o : ℕ} (ho : o + n ≤ 768) (hs) :
    (extractStridedSlice ⟨2, ![4096, n]⟩ ![0, o] x hs : (⟨2, ![4096, n]⟩ : Shape).Idx → EReal) = fun y => part (a := 4096) n o ho x (y 0) (y 1) := by
  funext y
  obtain ⟨i, j, rfl⟩ := pairOf (a := 4096) (b := n) y
  simp only [pointwise]
  refine congrArg x (funext fun k => ?_)
  match k with
  | ⟨0, _⟩ => exact Fin.ext (Nat.zero_add _)
  | ⟨1, _⟩ => rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v15) = lat (a := 4096) 384 0 (by omega) widthQ (m (c.tc.loc main_arg0)) (m (c.tc.loc main_arg1))
      ∧ r.2.mem (c.tc.loc main_v28) = lat (a := 4096) 256 384 (by omega) widthK (m (c.tc.loc main_arg0)) (m (c.tc.loc main_arg2))
      ∧ r.2.mem (c.tc.loc main_v2) = (fun y => part (a := 4096) 128 640 (by omega) (m (c.tc.loc main_arg0)) (y 0) (y 1) : S4096x128.Idx → EReal)
      ∧ Kept m r.2.mem c main_arg0
      ∧ Kept m r.2.mem c main_arg1
      ∧ Kept m r.2.mem c main_arg2) := by
  refine (θ_run defs _ _).mono (fun r h c => ⟨(h c).1.trans ?_, (h c).2.1.trans ?_, (h c).2.2.1.trans ?_, (h c).2.2.2⟩) (Value.run m ρ)
  · rw [slice_eq _ (by omega)]
    funext y
    obtain ⟨i, j, rfl⟩ := pairOf (a := 4096) (b := 384) y
    simp only [pointwise, ↓reduceDIte, OfNat.ofNat_ne_one, zero_add]
    rfl
  · rw [slice_eq _ (by omega)]
    funext y
    obtain ⟨i, j, rfl⟩ := pairOf (a := 4096) (b := 256) y
    simp only [pointwise, ↓reduceDIte, OfNat.ofNat_ne_one, zero_add]
    rfl
  · exact slice_eq _ _ _

end Cert.Mm.MlaLat.Ref

end
-- ==== Proof.Mm.RetGate.lean ====
module

public import proofs.«01_k».proof.Proof.Gen.Kernel40Ideal.Value
public import proofs.«01_k».proof.Proof.Gen.Reference40Ideal.Run
public import proofs.«01_k».proof.Proof.Mm.MlaLat
public import proofs.«01_k».proof.Proof.Conv.Row

/-! The retention's norm by heads and its gate, by rows and transposed, in the kernel's eight blocks of rows and in the reference. -/

@[expose] public section

set_option maxRecDepth 16384

noncomputable section

namespace Cert.Mm.RetGate

open Kernel40Ideal Kernel40Ideal.Gen Dx
open Idealize.ShloMosaic TcCoe Idealize.SL.Sem

/-- The number of a head's columns, as the programs write it. -/
abbrev widthV : EReal := Ideal.ofBits .f32 0x44000000#32

/-- A row normed by heads with the gain, and gated. -/
def gateRow (x z g : Fin 2048 → EReal) (j : Fin 2048) : EReal :=
  x j * Ideal.rsqrt (Ideal.div (∑ k : Fin 512, x ⟨j.val / 512 * 512 + k.val, by omega⟩ * x ⟨j.val / 512 * 512 + k.val, by omega⟩) widthV + offset) * g j * (z j * Ideal.logistic (z j))
def gate {a : ℕ} (x z : (⟨2, ![a, 2048]⟩ : Shape).Idx → EReal) (g : (⟨2, ![1, 2048]⟩ : Shape).Idx → EReal) : (⟨2, ![a, 2048]⟩ : Shape).Idx → EReal :=
  fun y => gateRow (fun k => x (ix2 (n0 := a) (n1 := 2048) (y 0) k)) (fun k => z (ix2 (n0 := a) (n1 := 2048) (y 0) k)) (fun k => g (ix2 (n0 := 1) (n1 := 2048) 0 k)) (y 1)
/-- The last 2048 columns. -/
def upper {a : ℕ} (p : (⟨2, ![a, 6144]⟩ : Shape).Idx → EReal) : (⟨2, ![a, 2048]⟩ : Shape).Idx → EReal :=
  fun y => p (ix2 (n0 := a) (n1 := 6144) (y 0) ⟨4096 + (y 1).val, by have h : (y 1).val < 2048 := (y 1).isLt; omega⟩)
/-- Rows as columns. -/
def flip {a b : ℕ} (x : (⟨2, ![a, b]⟩ : Shape).Idx → EReal) : (⟨2, ![b, a]⟩ : Shape).Idx → EReal := fun y => x (ix2 (n0 := a) (n1 := b) (y 1) (y 0))

theorem index : ∀ t : Fin cfg0.N, win0_0.index t = ![t.val, 0] ∧ win0_1.index t = ![t.val, 2] ∧ win0_2.index t = ![0, 0] ∧ win0_3.index t = ![t.val, 0] ∧ win0_4.index t = ![0, t.val] := (by decide +kernel : ∀ t : Fin grid0.N, _)

/-- Row `i` of row block `t`. -/
def rowOf (t : Fin cfg0.N) (i : Fin 512) : Fin 4096 := ⟨512 * t.val + i.val, by have h : t.val < 8 := t.isLt; omega⟩

variable (m : (ℓ : Loc nD τ sig) → Buf (Elt Ideal) ℓ)

theorem block0 (c : Dev nD) (t : Fin cfg0.N) (i : Fin 512) (j : Fin 2048) : iblk m c 0 t (ix2 i j) = m (c.tc.loc main_arg0) (ix2 (rowOf t i) j) := by
  rw [← V_main_arg0 m c]
  unfold rowOf
  blk_ext [iblk, index]
theorem block1 (c : Dev nD) (t : Fin cfg0.N) (i : Fin 512) (j : Fin 2048) : iblk m c 1 t (ix2 i j) = upper (a := 4096) (m (c.tc.loc main_arg1)) (ix2 (rowOf t i) j) := by
  rw [← V_main_arg1 m c]
  unfold rowOf upper
  blk_ext [iblk, index]
theorem block2 (c : Dev nD) (t : Fin cfg0.N) : iblk m c 2 t = m (c.tc.loc main_arg2) := by
  rw [← V_main_arg2 m c]
  funext y
  blk_ext [iblk, index]

theorem pay_at (v : Vec Ideal S512x512 .f32) (z : Vec Ideal S512x512 .bf16) (u : Vec Ideal S1x512 .f32) (i : Fin 512) (j : Fin 512) :
    (k0_pay10 v (k0_pay4 z) u : S512x512.Idx → EReal) (ix2 i j)
      = v (ix2 i j) * Ideal.rsqrt (Ideal.div (∑ k : Fin 512, v (ix2 i k) * v (ix2 i k)) widthV + offset) * u (ix2 (n0 := 1) 0 j) * (z (ix2 i j) * Ideal.logistic (z (ix2 i j))) := by
  simp only [k0_pay10, k0_pay4, pointwise, ↓reduceDIte, OfNat.ofNat_ne_one, zero_add, ← Conv.logistic_eq]

theorem turned_at (w : FVec Ideal S512x512 .f32) (i j : Fin 512) : (k0_pay20 w : S512x512.Idx → EReal) (ix2 j i) = w (ix2 i j) := by
  simp only [k0_pay20, pointwise]

/-- A rectangle of all the columns and the rows from `o` on. -/
theorem embT_at {a n b o : ℕ} (inb : ∀ k, (![o, 0] : Fin 2 → ℕ) k + (![n, a] : Fin 2 → ℕ) k ≤ (![b, a] : Fin 2 → ℕ) k) (j : Fin n) (i : Fin a) (h : o + j.val < b) :
    (Rect.unit (s := ⟨2, ![b, a]⟩) ![o, 0] ![n, a] inb).emb (ix2 j i) = ix2 (n0 := b) (n1 := a) ⟨o + j.val, h⟩ i := by
  funext k
  match k with
  | ⟨0, _⟩ => exact Fin.ext (by rw [Rect.emb_apply]; show o + 1 * j.val = o + j.val; omega)
  | ⟨1, _⟩ => exact Fin.ext (by rw [Rect.emb_apply]; show 0 + 1 * i.val = i.val; omega)

section Payloads

variable (x : Vec Ideal S512x2048 .f32) (z : Vec Ideal S512x2048 .bf16) (g : Vec Ideal S1x2048 .f32)

/-- One head. -/
theorem head_at {p : ℕ} (inx) (ing) (i : Fin 512) (j : Fin 512) (hp : p % 512 = 0) (h : p + j.val < 2048) :
    (k0_pay10 (View.ld x (Rect.unit (s := S512x2048) ![0, p] S512x512.size inx)) (k0_pay4 (View.ld z (Rect.unit (s := S512x2048) ![0, p] S512x512.size inx)))
        (View.ld g (Rect.unit (s := S1x2048) ![0, p] S1x512.size ing)) : S512x512.Idx → EReal) (ix2 i j) = gate (a := 512) x z g (ix2 i ⟨p + j.val, h⟩) := by
  have hk : ∀ k : Fin 512, p + k.val < 2048 := fun k => by omega
  have ex : ∀ k : Fin 512, (View.ld x (Rect.unit (s := S512x2048) ![0, p] S512x512.size inx) : S512x512.Idx → EReal) (ix2 i k) = x (ix2 i ⟨p + k.val, hk k⟩) :=
    fun k => congrArg x (MlaLat.emb_at (a := 512) (n := 512) (b := 2048) inx i k (hk k))
  have ez : (View.ld z (Rect.unit (s := S512x2048) ![0, p] S512x512.size inx) : S512x512.Idx → EReal) (ix2 i j) = z (ix2 i ⟨p + j.val, h⟩) :=
    congrArg z (MlaLat.emb_at (a := 512) (n := 512) (b := 2048) inx i j h)
  have eg : (View.ld g (Rect.unit (s := S1x2048) ![0, p] S1x512.size ing) : S1x512.Idx → EReal) (ix2 (n0 := 1) 0 j) = g (ix2 (n0 := 1) 0 ⟨p + j.val, h⟩) :=
    congrArg g (MlaLat.emb_at (a := 1) (n := 512) (b := 2048) ing 0 j h)
  have e : (p + j.val) / 512 * 512 = p := by omega
  refine (pay_at _ _ _ i j).trans ?_
  rw [ez, eg]
  simp only [ex]
  show _ = gateRow _ _ _ ⟨p + j.val, h⟩
  simp only [gateRow, e]
  rfl

theorem out3_eq : out0_3 x z g = gate (a := 512) x z g := by
  funext y
  unfold out0_3
  refine View.canon_apply_of_pieces _ _ ?_ y (cover0_3 _ _ _ _ y)
  simp only [List.forall_mem_cons, List.not_mem_nil, false_imp_iff, implies_true, and_true]
  refine ⟨fun y => ?_, fun y => ?_, fun y => ?_, fun y => ?_⟩
  all_goals
    obtain ⟨i, j, rfl⟩ := pairOf (a := 512) (b := 512) y
    refine (head_at x z g _ _ i j (by rfl) (by omega)).trans (congrArg (gate (a := 512) x z g) ?_)
    exact (MlaLat.emb_at (a := 512) (n := 512) (b := 2048) _ i j _).symm

theorem out4_eq : out0_4 x z g = flip (gate (a := 512) x z g) := by
  funext y
  unfold out0_4
  refine View.canon_apply_of_pieces _ _ ?_ y (cover0_4 _ _ _ _ y)
  simp only [List.forall_mem_cons, List.not_mem_nil, false_imp_iff, implies_true, and_true]
  refine ⟨fun y => ?_, fun y => ?_, fun y => ?_, fun y => ?_⟩
  all_goals
    obtain ⟨j, i, rfl⟩ := pairOf (a := 512) (b := 512) y
    refine ((turned_at _ i j).trans (head_at x z g _ _ i j (by rfl) (by omega))).trans (congrArg (flip (gate (a := 512) x z g)) (a₁ := ix2 _ i) ?_)
    exact (embT_at (a := 512) (n := 512) (b := 2048) _ j i _).symm

end Payloads

/-- The two arrays, from the memory's arguments. -/
def gateOf (c : Dev nD) : S4096x2048.Idx → EReal := gate (a := 4096) (m (c.tc.loc main_arg0)) (upper (a := 4096) (m (c.tc.loc main_arg1))) (m (c.tc.loc main_arg2))

theorem gate_at (c : Dev nD) (t : Fin cfg0.N) (i : Fin 512) (j : Fin 2048) :
    gate (a := 512) (iblk m c 0 t) (iblk m c 1 t) (iblk m c 2 t) (ix2 i j) = gateOf m c (ix2 (rowOf t i) j) := by
  rw [block2]
  exact congrArg₂ (fun x z => gateRow x z _ j) (funext fun k => block0 m c t i k) (funext fun k => block1 m c t i k)

theorem final3 (c : Dev nD) : (dats m 0 c).arrAt 3 cfg0.N = gateOf m c := by
  refine (dats m 0 c).arrAt_eq_of_covers 3 _ (by decide +kernel) fun t hf y => ?_
  blk_simp
  rw [after0_3, out3_eq]
  obtain ⟨i, j, rfl⟩ := pairOf (a := 512) (b := 2048) y
  refine (gate_at m c t i j).trans (congrArg (gateOf m c) ?_)
  funext a
  match a with
  | ⟨0, _⟩ => refine Fin.ext ?_; blk_simp [index]; show 512 * t.val + i.val = t.val * 512 + i.val; omega
  | ⟨1, _⟩ => refine Fin.ext ?_; blk_simp [index]

theorem final4 (c : Dev nD) : (dats m 0 c).arrAt 4 cfg0.N = flip (gateOf m c) := by
  refine (dats m 0 c).arrAt_eq_of_covers 4 _ (by decide +kernel) fun t hf y => ?_
  blk_simp
  rw [after0_4, out4_eq]
  obtain ⟨j, i, rfl⟩ := pairOf (a := 2048) (b := 512) y
  refine (gate_at m c t i j).trans (congrArg (flip (gateOf m c)) (a₁ := ix2 j (rowOf t i)) ?_)
  funext a
  match a with
  | ⟨0, _⟩ => refine Fin.ext ?_; blk_simp [index]
  | ⟨1, _⟩ => refine Fin.ext ?_; blk_simp [index]; show 512 * t.val + i.val = t.val * 512 + i.val; omega

theorem run_values (ρ : Dev nD → PrngReg) : θ_run defs (onTc (τ := τ) (main (F := Ideal))) ⟨m, fun _ => 0, ρ⟩ (fun r => ∀ c : Dev nD,
      r.2.mem (c.tc.loc main_v0_0) = gateOf m c
      ∧ r.2.mem (c.tc.loc main_v0_1) = flip (gateOf m c)
      ∧ Kept m r.2.mem c main_arg0
      ∧ Kept m r.2.mem c main_arg1
      ∧ Kept m r.2.mem c main_arg2) :=
  (θ_run defs _ _).mono (fun r h c => ⟨(h c).1.trans (final3 m c), (h c).2.1.trans (final4 m c), (h c).2.2⟩) (Kernel40Ideal.Value.run_blocks m ρ)

end Cert.Mm.RetGate

namespace Cert.Mm.RetGate.Ref

open Reference40Ideal Reference40Ideal.Gen Dx
open Idealize.ShloMosaic TcCoe Idealize.SL.Sem

/-- The slice of the last columns. -/
theorem slice_eq (p : S4096x6144.Idx → EReal) (hs) : (extractStridedSlice S4096x2048 ![0, 4096] p hs : S4096x2048.Idx → EReal) = upper (a := 4096) p := by
  funext y
  obtain ⟨i, j, rfl⟩ := pairOf (a := 4096) (b := 2048) y
  simp only [pointwise]
  refine congrArg p (funext fun k => ?_)
  match k with
  | ⟨0, _⟩ => exact Fin.ext (Nat.zero_add _)
  | ⟨1, _⟩ => rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v20) = gate (a := 4096) (m (c.tc.loc main_arg0)) (upper (a := 4096) (m (c.tc.loc main_arg1))) (m (c.tc.loc main_arg2))
      ∧ r.2.mem (c.tc.loc main_v21) = flip (gate (a := 4096) (m (c.tc.loc main_arg0)) (upper (a := 4096) (m (c.tc.loc main_arg1))) (m (c.tc.loc main_arg2)))
      ∧ Kept m r.2.mem c main_arg0
      ∧ Kept m r.2.mem c main_arg1
      ∧ Kept m r.2.mem c main_arg2) := by
  refine (θ_run defs _ _).mono (fun r h c => ⟨(h c).1.trans ?_, (h c).2.1.trans ?_, (h c).2.2⟩) (Value.run m ρ)
  · rw [slice_eq]
    funext y
    obtain ⟨i, j, rfl⟩ := pairOf (a := 4096) (b := 2048) y
    simp only [pointwise, ↓reduceDIte, OfNat.ofNat_ne_one, zero_add]
    rfl
  · rw [slice_eq]
    funext y
    obtain ⟨j, i, rfl⟩ := pairOf (a := 2048) (b := 4096) y
    simp only [pointwise, ↓reduceDIte, OfNat.ofNat_ne_one, zero_add]
    rfl

end Cert.Mm.RetGate.Ref

end
-- ==== Proof.Mm.RetRope.lean ====
module

public import proofs.«01_k».proof.Proof.Gen.Kernel42Ideal.Value
public import proofs.«01_k».proof.Proof.Gen.Reference42Ideal.Run
public import proofs.«01_k».proof.Proof.Mm.MlaLat

/-! The retention's queries and keys turned by their positions, in the kernel's eight blocks of rows and in the reference. -/

@[expose] public section

set_option maxRecDepth 16384

noncomputable section

namespace Cert.Mm.RetRope

open Kernel42Ideal Kernel42Ideal.Gen Dx
open Idealize.ShloMosaic TcCoe Idealize.SL.Sem

/-- A row of four heads, each head's halves turned. -/
def turnRow (x : Fin 1024 → EReal) (c s : Fin 128 → EReal) (j : Fin 1024) : EReal :=
  if h : j.val % 256 < 128 then x j * c ⟨j.val % 256, h⟩ - x ⟨j.val + 128, by omega⟩ * s ⟨j.val % 256, h⟩
  else x j * c ⟨j.val % 256 - 128, by omega⟩ + x ⟨j.val - 128, by omega⟩ * s ⟨j.val % 256 - 128, by omega⟩
/-- Columns `o` to `o + 1023`, turned; the columns from 2048 on. -/
def turn {a b : ℕ} (o : ℕ) (ho : o + 1024 ≤ b) (x : (⟨2, ![a, b]⟩ : Shape).Idx → EReal) (c s : (⟨2, ![a, 128]⟩ : Shape).Idx → EReal) : (⟨2, ![a, 1024]⟩ : Shape).Idx → EReal :=
  fun y => turnRow (fun k => x (ix2 (n0 := a) (n1 := b) (y 0) ⟨o + k.val, by omega⟩)) (fun k => c (ix2 (n0 := a) (n1 := 128) (y 0) k)) (fun k => s (ix2 (n0 := a) (n1 := 128) (y 0) k)) (y 1)
def third {a b : ℕ} (hb : 4096 ≤ b) (x : (⟨2, ![a, b]⟩ : Shape).Idx → EReal) : (⟨2, ![a, 2048]⟩ : Shape).Idx → EReal :=
  fun y => x (ix2 (n0 := a) (n1 := b) (y 0) ⟨2048 + (y 1).val, by have h : (y 1).val < 2048 := (y 1).isLt; omega⟩)
/-- The keys' scale, as the programs write it. -/
def scaled {s : Shape} (x : s.Idx → EReal) : s.Idx → EReal := fun y => x y * Ideal.ofBits .f32 0x3D800000#32

theorem index : ∀ t : Fin cfg0.N, win0_0.index t = ![t.val, 0] ∧ win0_1.index t = ![t.val % 4, 0] ∧ win0_2.index t = ![t.val % 4, 0] ∧ win0_3.index t = ![t.val, 0] ∧ win0_4.index t = ![t.val, 0] ∧ win0_5.index t = ![t.val, 0] := (by decide +kernel : ∀ t : Fin grid0.N, _)

/-- Row `i` of row block `t`, and a table's rows for both batch rows. -/
def rowOf (t : Fin cfg0.N) (i : Fin 512) : Fin 4096 := ⟨512 * t.val + i.val, by have h : t.val < 8 := t.isLt; omega⟩
def twice (c : (⟨2, ![2048, 128]⟩ : Shape).Idx → EReal) : (⟨2, ![4096, 128]⟩ : Shape).Idx → EReal :=
  fun y => c (ix2 (n0 := 2048) (n1 := 128) ⟨(y 0).val % 2048, Nat.mod_lt _ (by decide)⟩ (y 1))

variable (m : (ℓ : Loc nD τ sig) → Buf (Elt Ideal) ℓ)

theorem block0 (c : Dev nD) (t : Fin cfg0.N) (i : Fin 512) (j : Fin 4096) : X0_0 m c t (ix2 i j) = m (c.tc.loc main_arg0) (ix2 (n1 := 6144) (rowOf t i) ⟨j.val, by omega⟩) := by
  rw [← V_main_arg0 m c]
  unfold rowOf X0_0 Pipeline.Window.fill
  rw [dif_pos (moved0_0 t _)]
  blk_ext [iblk, index]
theorem block1 (c : Dev nD) (t : Fin cfg0.N) (i : Fin 512) (j : Fin 128) : iblk m c 1 t (ix2 i j) = twice (m (c.tc.loc main_arg1)) (ix2 (rowOf t i) j) := by
  rw [← V_main_arg1 m c]
  unfold rowOf twice
  blk_ext [iblk, index]
theorem block2 (c : Dev nD) (t : Fin cfg0.N) (i : Fin 512) (j : Fin 128) : iblk m c 2 t (ix2 i j) = twice (m (c.tc.loc main_arg2)) (ix2 (rowOf t i) j) := by
  rw [← V_main_arg2 m c]
  unfold rowOf twice
  blk_ext [iblk, index]

section Payloads

variable (x : Vec Ideal S512x4096 .bf16) (c s : Vec Ideal S512x128 .f32)

/-- A load of 128 columns. -/
theorem ld_at {p : ℕ} (inb) (i : Fin 512) (j : Fin 128) (h : p + j.val < 4096) :
    (View.ld x (Rect.unit (s := S512x4096) ![0, p] S512x128.size inb) : S512x128.Idx → EReal) (ix2 i j) = x (ix2 i ⟨p + j.val, h⟩) :=
  congrArg x (MlaLat.emb_at (a := 512) (n := 128) (b := 4096) inb i j h)

variable {o p q r : ℕ} (ho : o + 1024 ≤ 4096) (inq : ∀ k, (![0, q] : Fin 2 → ℕ) k + S512x128.size k ≤ S512x4096.size k) (inr : ∀ k, (![0, r] : Fin 2 → ℕ) k + S512x128.size k ≤ S512x4096.size k)
  (ino : ∀ k, (![0, p] : Fin 2 → ℕ) k + S512x128.size k ≤ S512x1024.size k) (z : S512x128.Idx)

/-- The stores. -/
theorem low_pay (hp : p % 256 = 0) (hl : p < 1024) (hq : o + p = q) (hr : o + p + 128 = r) :
    (k0_pay51 (k0_pay34 (k0_pay2 (View.ld x (Rect.unit ![0, q] S512x128.size inq))) (k0_pay3 (View.ld x (Rect.unit ![0, r] S512x128.size inr))) c s) : S512x128.Idx → EReal) z
      = turn (a := 512) o ho x c s ((Rect.unit (s := S512x1024) ![0, p] S512x128.size ino).emb z) := by
  obtain ⟨i, j, rfl⟩ := pairOf (a := 512) (b := 128) z
  show (View.ld x (Rect.unit (s := S512x4096) ![0, q] S512x128.size inq) : S512x128.Idx → EReal) (ix2 i j) * c (ix2 i j) - (View.ld x (Rect.unit (s := S512x4096) ![0, r] S512x128.size inr) : S512x128.Idx → EReal) (ix2 i j) * s (ix2 i j) = _
  have hm : (p + j.val) % 256 = j.val := by omega
  rw [MlaLat.emb_at (a := 512) (n := 128) (b := 1024) ino i j (by omega), ld_at x inq i j (by omega), ld_at x inr i j (by omega)]
  show _ = turnRow _ _ _ ⟨p + j.val, _⟩
  unfold turnRow
  rw [dif_pos (by show (p + j.val) % 256 < 128; omega)]
  simp only [hm]
  subst hq hr
  simp only [Nat.add_assoc, Nat.add_comm 128 j.val]
  rfl
theorem high_pay (hp : p % 256 = 128) (hl : p < 1024) (hq : o + p = q) (hr : r + 128 = q) :
    (k0_pay51 (k0_pay35 (k0_pay2 (View.ld x (Rect.unit ![0, r] S512x128.size inr))) (k0_pay3 (View.ld x (Rect.unit ![0, q] S512x128.size inq))) c s) : S512x128.Idx → EReal) z
      = turn (a := 512) o ho x c s ((Rect.unit (s := S512x1024) ![0, p] S512x128.size ino).emb z) := by
  obtain ⟨i, j, rfl⟩ := pairOf (a := 512) (b := 128) z
  show (View.ld x (Rect.unit (s := S512x4096) ![0, q] S512x128.size inq) : S512x128.Idx → EReal) (ix2 i j) * c (ix2 i j) + (View.ld x (Rect.unit (s := S512x4096) ![0, r] S512x128.size inr) : S512x128.Idx → EReal) (ix2 i j) * s (ix2 i j) = _
  have hm : (p + j.val) % 256 - 128 = j.val := by omega
  have h1 : o + (p + j.val) = q + j.val := by omega
  have h2 : o + (p + j.val - 128) = r + j.val := by omega
  rw [MlaLat.emb_at (a := 512) (n := 128) (b := 1024) ino i j (by omega), ld_at x inq i j (by omega), ld_at x inr i j (by omega)]
  show _ = turnRow _ _ _ ⟨p + j.val, _⟩
  unfold turnRow
  rw [dif_neg (by show ¬ (p + j.val) % 256 < 128; omega)]
  simp only [hm, h1, h2]
  rfl
theorem low_scaled (hp : p % 256 = 0) (hl : p < 1024) (hq : o + p = q) (hr : o + p + 128 = r) :
    (k0_pay51 (k0_pay42 (k0_pay2 (View.ld x (Rect.unit ![0, q] S512x128.size inq))) (k0_pay3 (View.ld x (Rect.unit ![0, r] S512x128.size inr))) c s) : S512x128.Idx → EReal) z
      = scaled (turn (a := 512) o ho x c s) ((Rect.unit (s := S512x1024) ![0, p] S512x128.size ino).emb z) :=
  congrArg (fun a : EReal => a * _) (low_pay x c s ho inq inr ino z hp hl hq hr)
theorem high_scaled (hp : p % 256 = 128) (hl : p < 1024) (hq : o + p = q) (hr : r + 128 = q) :
    (k0_pay51 (k0_pay43 (k0_pay2 (View.ld x (Rect.unit ![0, r] S512x128.size inr))) (k0_pay3 (View.ld x (Rect.unit ![0, q] S512x128.size inq))) c s) : S512x128.Idx → EReal) z
      = scaled (turn (a := 512) o ho x c s) ((Rect.unit (s := S512x1024) ![0, p] S512x128.size ino).emb z) :=
  congrArg (fun a : EReal => a * _) (high_pay x c s ho inq inr ino z hp hl hq hr)
theorem copy_pay (inc : ∀ k, (![0, p] : Fin 2 → ℕ) k + S512x128.size k ≤ S512x2048.size k) (hl : p + 128 ≤ 2048) (hq : 2048 + p = q) :
    (k0_pay51 (k0_pay2 (View.ld x (Rect.unit ![0, q] S512x128.size inq))) : S512x128.Idx → EReal) z
      = third (a := 512) (b := 4096) le_rfl x ((Rect.unit (s := S512x2048) ![0, p] S512x128.size inc).emb z) := by
  obtain ⟨i, j, rfl⟩ := pairOf (a := 512) (b := 128) z
  show (View.ld x (Rect.unit (s := S512x4096) ![0, q] S512x128.size inq) : S512x128.Idx → EReal) (ix2 i j) = _
  rw [MlaLat.emb_at (a := 512) (n := 128) (b := 2048) inc i j (by omega), ld_at x inq i j (by omega)]
  subst hq
  exact congrArg x (congrArg (ix2 i) (Fin.ext (Nat.add_assoc _ _ _)))

variable (d : Dev nD) (g : grid0.Coords) (a1 : Memref sig .tc .vmem S512x4096 .bf16) (h1 : a1.IsWhole) (a2 a3 : Memref sig .tc .vmem S512x128 .f32) (h2 : a2.IsWhole) (h3 : a3.IsWhole)
  (a4 a5 : Memref sig .tc .vmem S512x1024 .bf16) (h4 : a4.IsWhole) (h5 : a5.IsWhole) (a6 : Memref sig .tc .vmem S512x2048 .bf16) (h6 : a6.IsWhole)

theorem out3_eq : out0_A_3 d g a1 h1 a2 h2 a3 h3 a4 h4 a5 h5 a6 h6 x c s = turn (a := 512) (b := 4096) 0 (by decide) x c s := by
  funext y
  unfold out0_A_3
  refine (congrFun (View.read_writes_eq_canon _ _ _ (cover0_A_3 d g a1 h1 a2 h2 a3 h3 a4 h4 a5 h5 a6 h6 x c s)) y).trans ?_
  refine View.canon_apply_of_pieces _ _ ?_ y (cover0_A_3 d g a1 h1 a2 h2 a3 h3 a4 h4 a5 h5 a6 h6 x c s y)
  unfold kernelRun0_A
  dsimp only
  sl_unfold_words
  simp only [View.readAt_eq_ld, h1.read_unread, h2.read_unread, h3.read_unread, View.ld_unit_zero (S := S512x128) hz,
    List.forall_mem_cons, List.not_mem_nil, false_imp_iff, implies_true, and_true]
  exact ⟨fun z => high_pay x c s _ _ _ _ z rfl (by decide) rfl rfl, fun z => low_pay x c s _ _ _ _ z rfl (by decide) rfl rfl, fun z => high_pay x c s _ _ _ _ z rfl (by decide) rfl rfl, fun z => low_pay x c s _ _ _ _ z rfl (by decide) rfl rfl, fun z => high_pay x c s _ _ _ _ z rfl (by decide) rfl rfl, fun z => low_pay x c s _ _ _ _ z rfl (by decide) rfl rfl, fun z => high_pay x c s _ _ _ _ z rfl (by decide) rfl rfl, fun z => low_pay x c s _ _ _ _ z rfl (by decide) rfl rfl⟩

theorem out4_eq : out0_A_4 d g a1 h1 a2 h2 a3 h3 a4 h4 a5 h5 a6 h6 x c s = scaled (turn (a := 512) (b := 4096) 1024 (by decide) x c s) := by
  funext y
  unfold out0_A_4
  refine (congrFun (View.read_writes_eq_canon _ _ _ (cover0_A_4 d g a1 h1 a2 h2 a3 h3 a4 h4 a5 h5 a6 h6 x c s)) y).trans ?_
  refine View.canon_apply_of_pieces _ _ ?_ y (cover0_A_4 d g a1 h1 a2 h2 a3 h3 a4 h4 a5 h5 a6 h6 x c s y)
  unfold kernelRun0_A
  dsimp only
  sl_unfold_words
  simp only [View.readAt_eq_ld, h1.read_unread, h2.read_unread, h3.read_unread, View.ld_unit_zero (S := S512x128) hz,
    List.forall_mem_cons, List.not_mem_nil, false_imp_iff, implies_true, and_true]
  exact ⟨fun z => high_scaled x c s _ _ _ _ z rfl (by decide) rfl rfl, fun z => low_scaled x c s _ _ _ _ z rfl (by decide) rfl rfl, fun z => high_scaled x c s _ _ _ _ z rfl (by decide) rfl rfl, fun z => low_scaled x c s _ _ _ _ z rfl (by decide) rfl rfl, fun z => high_scaled x c s _ _ _ _ z rfl (by decide) rfl rfl, fun z => low_scaled x c s _ _ _ _ z rfl (by decide) rfl rfl, fun z => high_scaled x c s _ _ _ _ z rfl (by decide) rfl rfl, fun z => low_scaled x c s _ _ _ _ z rfl (by decide) rfl rfl⟩

theorem out5_eq : out0_A_5 d g a1 h1 a2 h2 a3 h3 a4 h4 a5 h5 a6 h6 x c s = third (a := 512) (b := 4096) le_rfl x := by
  funext y
  unfold out0_A_5
  refine (congrFun (View.read_writes_eq_canon _ _ _ (cover0_A_5 d g a1 h1 a2 h2 a3 h3 a4 h4 a5 h5 a6 h6 x c s)) y).trans ?_
  refine View.canon_apply_of_pieces _ _ ?_ y (cover0_A_5 d g a1 h1 a2 h2 a3 h3 a4 h4 a5 h5 a6 h6 x c s y)
  unfold kernelRun0_A
  dsimp only
  sl_unfold_words
  simp only [View.readAt_eq_ld, h1.read_unread, h2.read_unread, h3.read_unread, View.ld_unit_zero (S := S512x128) hz,
    List.forall_mem_cons, List.not_mem_nil, false_imp_iff, implies_true, and_true]
  refine ⟨?_, ?_, ?_, ?_, ?_, ?_, ?_, ?_, ?_, ?_, ?_, ?_, ?_, ?_, ?_, ?_⟩ <;> exact fun z => copy_pay x _ z _ (by decide) rfl

end Payloads

/-- The three arrays, from the memory's arguments. -/
def turnOf (o : ℕ) (ho : o + 1024 ≤ 6144) (x : S4096x6144.Idx → EReal) (c s : S2048x128.Idx → EReal) : S4096x1024.Idx → EReal := turn (a := 4096) o ho x (twice c) (twice s)
def qOf (c : Dev nD) : S4096x1024.Idx → EReal := turnOf 0 (by omega) (m (c.tc.loc main_arg0)) (m (c.tc.loc main_arg1)) (m (c.tc.loc main_arg2))
def kOf (c : Dev nD) : S4096x1024.Idx → EReal := scaled (turnOf 1024 (by omega) (m (c.tc.loc main_arg0)) (m (c.tc.loc main_arg1)) (m (c.tc.loc main_arg2)))
def vOf (c : Dev nD) : S4096x2048.Idx → EReal := third (a := 4096) (b := 6144) (by omega) (m (c.tc.loc main_arg0))

theorem turn_at (c : Dev nD) (t : Fin cfg0.N) (o : ℕ) (ho : o + 1024 ≤ 4096) (i : Fin 512) (j : Fin 1024) : turn (a := 512) (b := 4096) o ho (X0_0 m c t) (iblk m c 1 t) (iblk m c 2 t) (ix2 i j)
    = turnOf o (by omega) (m (c.tc.loc main_arg0)) (m (c.tc.loc main_arg1)) (m (c.tc.loc main_arg2)) (ix2 (rowOf t i) j) := by
  show turnRow (fun k => X0_0 m c t (ix2 i _)) (fun k => iblk m c 1 t (ix2 i k)) (fun k => iblk m c 2 t (ix2 i k)) j = _
  simp only [block0, block1, block2]
  rfl

theorem final3 (c : Dev nD) : (dats m 0 c).arrAt 3 cfg0.N = qOf m c := by
  refine (dats m 0 c).arrAt_eq_of_covers 3 _ (by decide +kernel) fun t hf y => ?_
  blk_simp
  rw [after0_3]
  unfold outsAt0
  dsimp only
  rw [out3_eq]
  obtain ⟨i, j, rfl⟩ := pairOf (a := 512) (b := 1024) y
  refine (turn_at m c t 0 (by omega) i j).trans (congrArg (qOf m c) (a₁ := ix2 (rowOf t i) j) ?_)
  funext a
  match a with
  | ⟨0, _⟩ => refine Fin.ext ?_; blk_simp [index]; show 512 * t.val + i.val = t.val * 512 + i.val; omega
  | ⟨1, _⟩ => refine Fin.ext ?_; blk_simp [index]

theorem final4 (c : Dev nD) : (dats m 0 c).arrAt 4 cfg0.N = kOf m c := by
  refine (dats m 0 c).arrAt_eq_of_covers 4 _ (by decide +kernel) fun t hf y => ?_
  blk_simp
  rw [after0_4]
  unfold outsAt0
  dsimp only
  rw [out4_eq]
  obtain ⟨i, j, rfl⟩ := pairOf (a := 512) (b := 1024) y
  refine (congrArg (fun a : EReal => a * Ideal.ofBits .f32 0x3D800000#32) (turn_at m c t 1024 (by omega) i j)).trans (congrArg (kOf m c) (a₁ := ix2 (rowOf t i) j) ?_)
  funext a
  match a with
  | ⟨0, _⟩ => refine Fin.ext ?_; blk_simp [index]; show 512 * t.val + i.val = t.val * 512 + i.val; omega
  | ⟨1, _⟩ => refine Fin.ext ?_; blk_simp [index]

theorem final5 (c : Dev nD) : (dats m 0 c).arrAt 5 cfg0.N = vOf m c := by
  refine (dats m 0 c).arrAt_eq_of_covers 5 _ (by decide +kernel) fun t hf y => ?_
  blk_simp
  rw [after0_5]
  unfold outsAt0
  dsimp only
  rw [out5_eq]
  obtain ⟨i, j, rfl⟩ := pairOf (a := 512) (b := 2048) y
  refine (block0 m c t i _).trans (congrArg (vOf m c) (a₁ := ix2 (rowOf t i) j) ?_)
  funext a
  match a with
  | ⟨0, _⟩ => refine Fin.ext ?_; blk_simp [index]; show 512 * t.val + i.val = t.val * 512 + i.val; omega
  | ⟨1, _⟩ => refine Fin.ext ?_; blk_simp [index]

theorem run_values (ρ : Dev nD → PrngReg) : θ_run defs (onTc (τ := τ) (main (F := Ideal))) ⟨m, fun _ => 0, ρ⟩ (fun r => ∀ c : Dev nD,
      r.2.mem (c.tc.loc main_v0_0) = qOf m c
      ∧ r.2.mem (c.tc.loc main_v0_1) = kOf m c
      ∧ r.2.mem (c.tc.loc main_v0_2) = vOf m c
      ∧ Kept m r.2.mem c main_arg0
      ∧ Kept m r.2.mem c main_arg1
      ∧ Kept m r.2.mem c main_arg2) :=
  (θ_run defs _ _).mono (fun r h c => ⟨(h c).1.trans (final3 m c), (h c).2.1.trans (final4 m c), (h c).2.2.1.trans (final5 m c), (h c).2.2.2⟩) (Kernel42Ideal.Value.run_blocks m ρ)

end Cert.Mm.RetRope

namespace Cert.Mm.RetRope.Ref

open Reference42Ideal Reference42Ideal.Gen Dx
open Idealize.ShloMosaic TcCoe Idealize.SL.Sem

theorem two_zeros (i : ℕ) : 0 + (0 + i) = i := by omega
theorem col_low (o : ℕ) (j : Fin 1024) : o + ((0 + j.val / 256) * 256 + (0 + j.val % 256)) = o + j.val := by omega
theorem col_next (o : ℕ) (j : Fin 1024) : o + ((0 + j.val / 256) * 256 + (128 + j.val % 256)) = o + (j.val + 128) := by omega
theorem col_high (o : ℕ) (j : Fin 1024) (h : ¬ j.val % 256 < 128) : o + ((0 + j.val / 256) * 256 + (128 + (j.val % 256 - 128))) = o + j.val := by omega
theorem col_last (o : ℕ) (j : Fin 1024) (h : ¬ j.val % 256 < 128) : o + ((0 + j.val / 256) * 256 + (0 + (j.val % 256 - 128))) = o + (j.val - 128) := by omega
theorem at_eq {a b : ℕ} (x : (⟨2, ![a, b]⟩ : Shape).Idx → EReal) {i i' : Fin a} {j j' : Fin b} (hi : i.val = i'.val) (hj : j.val = j'.val) : x (ix2 i j) = x (ix2 i' j') :=
  congrArg x (congrArg₂ ix2 (Fin.ext hi) (Fin.ext hj))

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v27) = turnOf 0 (by omega) (m (c.tc.loc main_arg0)) (m (c.tc.loc main_arg1)) (m (c.tc.loc main_arg2))
      ∧ r.2.mem (c.tc.loc main_v54) = scaled (turnOf 1024 (by omega) (m (c.tc.loc main_arg0)) (m (c.tc.loc main_arg1)) (m (c.tc.loc main_arg2)))
      ∧ r.2.mem (c.tc.loc main_v2) = third (a := 4096) (b := 6144) (by omega) (m (c.tc.loc main_arg0))
      ∧ Kept m r.2.mem c main_arg0
      ∧ Kept m r.2.mem c main_arg1
      ∧ Kept m r.2.mem c main_arg2) := by
  refine (θ_run defs _ _).mono (fun r h c => ⟨(h c).1.trans ?_, (h c).2.1.trans ?_, (h c).2.2.1.trans ?_, (h c).2.2.2⟩) (Value.run m ρ)
  on_goal 3 =>
    funext y
    obtain ⟨i, j, rfl⟩ := pairOf (a := 4096) (b := 2048) y
    simp only [pointwise]
    exact at_eq _ (Nat.zero_add _) rfl
  all_goals
    funext y
    obtain ⟨i, j, rfl⟩ := pairOf (a := 4096) (b := 1024) y
    simp only [pointwise, ↓reduceDIte, OfNat.ofNat_ne_one, zero_add]
  on_goal 2 => refine congrArg (fun a : EReal => a * _) ?_
  all_goals
    unfold turnOf turn turnRow
    by_cases h : j.val % 256 < 128
    · refine (dif_pos h).trans (Eq.trans ?_ (dif_pos h).symm)
      exact congrArg₂ (fun a b : EReal => a - b) (congrArg₂ (fun a b : EReal => a * b) (at_eq _ (two_zeros _) (col_low _ j)) (at_eq _ rfl rfl)) (congrArg₂ (fun a b : EReal => a * b) (at_eq _ (two_zeros _) (col_next _ j)) (at_eq _ rfl rfl))
    · refine (dif_neg h).trans (Eq.trans ?_ (dif_neg h).symm)
      exact congrArg₂ (fun a b : EReal => a + b) (congrArg₂ (fun a b : EReal => a * b) (at_eq _ (two_zeros _) (col_high _ j h)) (at_eq _ rfl rfl)) (congrArg₂ (fun a b : EReal => a * b) (at_eq _ (two_zeros _) (col_last _ j h)) (at_eq _ rfl rfl))

end Cert.Mm.RetRope.Ref

end
-- ==== Proof.Conv.Fwd.lean ====
module

public import proofs.«01_k».proof.Proof.Gen.Kernel38Ideal.Value
public import proofs.«01_k».proof.Proof.Gen.Reference38Ideal.Run
public import proofs.«01_k».proof.Proof.Conv.Blocks
public import proofs.«01_k».proof.Proof.Conv.Ref

/-! The product of `a` with the gated convolution, by rows and transposed, in the kernel's blocks and in the reference. -/

@[expose] public section

set_option maxRecDepth 16384

noncomputable section

namespace Cert.Conv

open Idealize.ShloMosaic TcCoe

/-- The product, and its transpose, as arrays. -/
def prodOf (ag : (⟨2, ![4096, 5632]⟩ : Shape).Idx → EReal) (w : (⟨2, ![8, 2816]⟩ : Shape).Idx → EReal) (y : (⟨2, ![4096, 2816]⟩ : Shape).Idx) : EReal :=
  daCol (part ag (rowOf (y 0)) (upper (y 1))) (part ag (rowOf (y 0)) (lower (y 1))) (column w (y 1)) (posOf (y 0))
def prodTOf (ag : (⟨2, ![4096, 5632]⟩ : Shape).Idx → EReal) (w : (⟨2, ![8, 2816]⟩ : Shape).Idx → EReal) (y : (⟨2, ![2816, 4096]⟩ : Shape).Idx) : EReal :=
  prodOf ag w (ix2 (n0 := 4096) (n1 := 2816) (y 1) (y 0))

end Cert.Conv

namespace Cert.Conv.Fwd

open Kernel38Ideal Kernel38Ideal.Gen Dx
open Idealize.ShloMosaic TcCoe Idealize.SL.Sem

theorem index : ∀ t : Fin cfg0.N, win0_0.index t = ![t.val % 2, t.val / 2] ∧ win0_1.index t = ![t.val % 2, 11 + t.val / 2] ∧ win0_2.index t = ![0, t.val / 2] ∧ win0_3.index t = ![t.val % 2, t.val / 2] ∧ win0_4.index t = ![t.val / 2, t.val % 2] := (by decide +kernel : ∀ t : Fin grid0.N, _)

/-- Point `t`'s batch row, its column `j`, and its row `i` of the whole. -/
def rowAt (t : Fin cfg0.N) : Fin 2 := ⟨t.val % 2, by omega⟩
def colAt (t : Fin cfg0.N) (j : Fin 256) : Fin 2816 := ⟨256 * (t.val / 2) + j.val, by have h : t.val < 22 := t.isLt; omega⟩
def placeOf (t : Fin cfg0.N) (i : Fin 2048) : Fin 4096 := ⟨2048 * (t.val % 2) + i.val, by omega⟩

theorem row_place (t : Fin cfg0.N) (i : Fin 2048) : rowOf (placeOf t i) = rowAt t := Fin.ext (by show (2048 * (t.val % 2) + i.val) / 2048 = t.val % 2; omega)
theorem pos_place (t : Fin cfg0.N) (i : Fin 2048) : posOf (placeOf t i) = i := Fin.ext (by show (2048 * (t.val % 2) + i.val) % 2048 = i.val; omega)

variable (m : (ℓ : Loc nD τ sig) → Buf (Elt Ideal) ℓ)

/-- The arguments. -/
def agOf (c : Dev nD) : S4096x5632.Idx → EReal := m (c.tc.loc main_arg0)
def wOf (c : Dev nD) : S8x2816.Idx → EReal := m (c.tc.loc main_arg1)

theorem block0 (c : Dev nD) (t : Fin cfg0.N) (j : Fin 256) : column (iblk m c 0 t : Vec Ideal S2048x256 .bf16) j = part (agOf m c) (rowAt t) (lower (colAt t j)) := by
  unfold agOf
  rw [← V_main_arg0 m c]
  funext i
  unfold column part lower rowAt colAt
  blk_ext [iblk, index]
theorem block1 (c : Dev nD) (t : Fin cfg0.N) (j : Fin 256) : column (iblk m c 1 t : Vec Ideal S2048x256 .bf16) j = part (agOf m c) (rowAt t) (upper (colAt t j)) := by
  unfold agOf
  rw [← V_main_arg0 m c]
  funext i
  unfold column part upper rowAt colAt
  blk_ext [iblk, index]
theorem block2 (c : Dev nD) (t : Fin cfg0.N) (j : Fin 256) : column (iblk m c 2 t : Vec Ideal S8x256 .f32) j = column (wOf m c) (colAt t j) := by
  unfold wOf
  rw [← V_main_arg1 m c]
  funext i
  unfold column colAt
  blk_ext [iblk, index]

section Payloads

variable (a g : Vec Ideal S2048x256 .bf16) (w : Vec Ideal S8x256 .f32)

theorem out3_eq : out0_3 a g w = k0_pay3 g w a := by
  unfold out0_3
  rw [View.canon_unit_zero hz, View.ld_unit_zero (S := S2048x256) hz, View.ld_unit_zero (S := S2048x256) hz, View.ld_unit_zero (S := S8x256) hz]
theorem out4_eq : out0_4 a g w = k0_pay1 (k0_pay2 g w a) := by
  unfold out0_4
  rw [View.canon_unit_zero hz, View.ld_unit_zero (S := S2048x256) hz, View.ld_unit_zero (S := S2048x256) hz, View.ld_unit_zero (S := S8x256) hz]

/-- The product is the backward pass's first gradient, with `a` in the gradient's place. -/
theorem pay2_at (i : Fin 2048) (j : Fin 256) : (k0_pay2 g w a : S2048x256.Idx → EReal) (ix2 i j) = daCol (column g j) (column a j) (column w j) i :=
  pay8_at g w a i j
theorem pay1_at (i : Fin 2048) (j : Fin 256) : (k0_pay1 (k0_pay2 g w a) : S256x2048.Idx → EReal) (ix2 j i) = daCol (column g j) (column a j) (column w j) i := by
  unfold k0_pay1
  simp only [pointwise]
  exact pay2_at a g w i j

end Payloads

theorem prod_at (c : Dev nD) (t : Fin cfg0.N) (i : Fin 2048) (j : Fin 256) :
    daCol (column (iblk m c 1 t : Vec Ideal S2048x256 .bf16) j) (column (iblk m c 0 t : Vec Ideal S2048x256 .bf16) j) (column (iblk m c 2 t : Vec Ideal S8x256 .f32) j) i
      = prodOf (agOf m c) (wOf m c) (ix2 (placeOf t i) (colAt t j)) := by
  rw [block0, block1, block2]
  unfold prodOf
  show _ = daCol (part _ (rowOf (placeOf t i)) _) (part _ (rowOf (placeOf t i)) _) _ (posOf (placeOf t i))
  rw [row_place, pos_place]
  rfl

theorem final3 (c : Dev nD) : (dats m 0 c).arrAt 3 cfg0.N = prodOf (agOf m c) (wOf m c) := by
  refine (dats m 0 c).arrAt_eq_of_covers 3 _ (by decide +kernel) fun t hf y => ?_
  blk_simp
  rw [after0_3, out3_eq]
  obtain ⟨i, j, rfl⟩ := pairOf (a := 2048) (b := 256) y
  refine (pay2_at _ _ _ i j).trans ((prod_at m c t i j).trans (congrArg (prodOf (agOf m c) (wOf m c)) ?_))
  funext a
  match a with
  | ⟨0, _⟩ => refine Fin.ext ?_; blk_simp [index]; show 2048 * (t.val % 2) + i.val = t.val % 2 * 2048 + i.val; omega
  | ⟨1, _⟩ => refine Fin.ext ?_; blk_simp [index]; show 256 * (t.val / 2) + j.val = t.val / 2 * 256 + j.val; omega

theorem final4 (c : Dev nD) : (dats m 0 c).arrAt 4 cfg0.N = prodTOf (agOf m c) (wOf m c) := by
  refine (dats m 0 c).arrAt_eq_of_covers 4 _ (by decide +kernel) fun t hf y => ?_
  blk_simp
  rw [after0_4, out4_eq]
  obtain ⟨j, i, rfl⟩ := pairOf (a := 256) (b := 2048) y
  refine (pay1_at _ _ _ i j).trans ((prod_at m c t i j).trans (congrArg (prodTOf (agOf m c) (wOf m c)) (a₁ := ix2 (colAt t j) (placeOf t i)) ?_))
  funext a
  match a with
  | ⟨0, _⟩ => refine Fin.ext ?_; blk_simp [index]; show 256 * (t.val / 2) + j.val = t.val / 2 * 256 + j.val; omega
  | ⟨1, _⟩ => refine Fin.ext ?_; blk_simp [index]; show 2048 * (t.val % 2) + i.val = t.val % 2 * 2048 + i.val; omega

theorem run_values (ρ : Dev nD → PrngReg) : θ_run defs (onTc (τ := τ) (main (F := Ideal))) ⟨m, fun _ => 0, ρ⟩ (fun r => ∀ c : Dev nD,
      r.2.mem (c.tc.loc main_v0_0) = prodOf (agOf m c) (wOf m c)
      ∧ r.2.mem (c.tc.loc main_v0_1) = prodTOf (agOf m c) (wOf m c)
      ∧ Kept m r.2.mem c main_arg0
      ∧ Kept m r.2.mem c main_arg1) :=
  (θ_run defs _ _).mono (fun r h c => ⟨(h c).1.trans (final3 m c), (h c).2.1.trans (final4 m c), (h c).2.2⟩) (Kernel38Ideal.Value.run_blocks m ρ)

end Cert.Conv.Fwd

namespace Cert.Conv.Fwd.Ref

open Reference38Ideal Reference38Ideal.Gen Dx
open Idealize.ShloMosaic TcCoe Idealize.SL.Sem

/-- The product, of the same convolution and gate as the backward pass's reference. -/
def res (ag : FVec Ideal S4096x5632 .bf16) (w : FVec Ideal S8x2816 .f32) : FVec Ideal S4096x2816 .bf16 :=
  Conv.Ref.rows (mulf (mulf (Conv.Ref.z3 ag w) (Conv.Ref.s3 ag w)) (Conv.Ref.a3 ag))

variable (ag : FVec Ideal S4096x5632 .bf16) (w : FVec Ideal S8x2816 .f32)

theorem res_eq : res ag w = prodOf ag w := by
  funext y
  obtain ⟨r, f, rfl⟩ := pairOf (a := 4096) (b := 2816) y
  unfold res
  rw [Conv.Ref.rows_at]
  simp only [mulf_apply, Conv.Ref.z3_at, Conv.Ref.s3_at, Conv.Ref.a3_at]
  exact mul_comm (G := EReal) _ _

theorem resT_eq : (transpose S2816x4096 [1, 0] (res ag w) transposes_S4096x2816_S2816x4096_1_0 : FVec Ideal S2816x4096 .bf16) = prodTOf ag w := by
  rw [res_eq]
  funext y
  obtain ⟨i, j, rfl⟩ := pairOf (a := 2816) (b := 4096) y
  simp only [pointwise]
  rfl

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v31) = prodOf (m (c.tc.loc main_arg0)) (m (c.tc.loc main_arg1))
      ∧ r.2.mem (c.tc.loc main_v32) = prodTOf (m (c.tc.loc main_arg0)) (m (c.tc.loc main_arg1))
      ∧ Kept m r.2.mem c main_arg0
      ∧ Kept m r.2.mem c main_arg1) :=
  (θ_run defs _ _).mono (fun r h c => ⟨(h c).1.trans (res_eq _ _), (h c).2.1.trans (resT_eq _ _), (h c).2.2⟩) (Value.run m ρ)

end Cert.Conv.Fwd.Ref

end
-- ==== Proof.Mm.AdamW.lean ====
module

public import proofs.«01_k».proof.Proof.Mm.Prod

/-! One step of the optimiser over the extended reals, entry by entry: the two moments and the change of the weight,
    and the reference's arrays of them. -/

@[expose] public section

set_option maxRecDepth 16384

noncomputable section

namespace Cert.AdamW

open Idealize.ShloMosaic

/-- The step's constants, as the programs write them: the decay of each moment and its rest, the moments' corrections at
    this step, the small number under the quotient, the weight decay, and the negated rate. -/
abbrev beta1 : EReal := Ideal.ofBits .f32 0x3F666666#32
abbrev rest1 : EReal := Ideal.ofBits .f32 0x3DCCCCCD#32
abbrev beta2 : EReal := Ideal.ofBits .f32 0x3F7FBE77#32
abbrev rest2 : EReal := Ideal.ofBits .f32 0x3A83126F#32
abbrev corr1 : EReal := Ideal.ofBits .f32 0x3F26BD02#32
abbrev corr2 : EReal := Ideal.ofBits .f32 0x3C231ACC#32
abbrev small : EReal := Ideal.ofBits .f32 0x322BCC77#32
abbrev decay : EReal := Ideal.ofBits .f32 0x3C23D70A#32
abbrev negRate : EReal := Ideal.ofBits .f32 0xBA83126F#32

variable {S : Shape}

/-- The first moment, of the gradient and the moment before. -/
def first (g m : S.Idx → EReal) : S.Idx → EReal := fun i => beta1 * m i + rest1 * g i
/-- The second moment, of the gradient and the moment before. -/
def second (g v : S.Idx → EReal) : S.Idx → EReal := fun i => beta2 * v i + rest2 * (g i * g i)
/-- The change of the weight. -/
def change (w g m v : S.Idx → EReal) : S.Idx → EReal :=
  fun i => negRate * (Ideal.div (Ideal.div (first g m i) corr1) (Ideal.sqrt (Ideal.div (second g v i) corr2) + small) + decay * w i)

/-! ## The reference's arrays -/

variable (h : (⟨0, ![]⟩ : Shape).BroadcastsInDim S (![] : Fin 0 → Fin S.rank))

/-- A number everywhere. -/
abbrev every (b : BitVec 32) : FVec Ideal S .f32 := broadcastInDim S ![] h (constant (⟨0, ![]⟩ : Shape) .f32 b)

theorem first_ref (g m : FVec Ideal S .f32) :
    addf (mulf (every h 0x3F666666#32) m) (mulf (every h 0x3DCCCCCD#32) g) = first g m := rfl

theorem second_ref (g v : FVec Ideal S .f32) :
    addf (mulf (every h 0x3F7FBE77#32) v) (mulf (every h 0x3A83126F#32) (mulf g g)) = second g v := rfl

theorem change_ref (w g m v : FVec Ideal S .f32) :
    mulf (every h 0xBA83126F#32)
      (addf (Host.divf (Host.divf (addf (mulf (every h 0x3F666666#32) m) (mulf (every h 0x3DCCCCCD#32) g)) (every h 0x3F26BD02#32))
          (addf (Host.sqrt (Host.divf (addf (mulf (every h 0x3F7FBE77#32) v) (mulf (every h 0x3A83126F#32) (mulf g g))) (every h 0x3C231ACC#32)))
            (every h 0x322BCC77#32)))
        (mulf (every h 0x3C23D70A#32) w)) = change w g m v := rfl

end Cert.AdamW

end
-- ==== Proof.RetFwd.Loop.lean ====
module

public import proofs.«01_k».proof.Proof.Gen.Kernel36Ideal.Loops
public import proofs.«01_k».proof.Proof.Gen.Kernel36Ideal.Frame
public import proofs.«01_k».proof.Proof.Ret.Body

/-! The query-block loop of the retention's forward pass: at trip `n` the row block `n` of the output is formed from the
    queries of that block, and stored once. -/

@[expose] public section

set_option maxRecDepth 16384

noncomputable section

namespace Cert.RetFwd

open Kernel36Ideal Kernel36Ideal.Gen
open Ret (blk readAt_256 readAt_512 blk_writes_512 readAt_dec)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The rows a trip reads -/

theorem off1_eq : ∀ k : Fin k0_t1_loop.trips, k0_off1 k = ![512 * k.val, 0] := by decide +kernel
theorem off2_eq : ∀ k : Fin k0_t1_loop.trips, k0_off2 k = ![512 * k.val, 0] := by decide +kernel
theorem off3_eq : ∀ k : Fin k0_t1_loop.trips, k0_off3 k = ![0, 0] := by decide +kernel
theorem off4_eq : ∀ k : Fin k0_t1_loop.trips, k0_off4 k = ![0, 0] := by decide +kernel
theorem off5_eq : ∀ k : Fin k0_t1_loop.trips, k0_off5 k = ![512 * (k.val / 2 * 2), 0] := by decide +kernel
theorem off6_eq : ∀ k : Fin k0_t1_loop.trips, k0_off6 k = ![512 * (k.val / 2 * 2), 0] := by decide +kernel
instance (k : Fin k0_t1_loop.trips) : ClosedOff (k0_off3 k) := ⟨_, off3_eq k⟩
instance (k : Fin k0_t1_loop.trips) : ClosedOff (k0_off4 k) := ⟨_, off4_eq k⟩
instance (k : Fin k0_t1_loop.trips) : ClosedOff (k0_off5 k) := ⟨_, off5_eq k⟩
instance (k : Fin k0_t1_loop.trips) : ClosedOff (k0_off6 k) := ⟨_, off6_eq k⟩
/-- Which key runs a trip makes: the run of two blocks from trip 2 on, the run of one block at odd trips. -/
theorem cond1_iff : ∀ k : Fin k0_t1_loop.trips, k0_cond1 k = 1#1 ↔ 2 ≤ k.val := by decide +kernel
theorem cond2_iff : ∀ k : Fin k0_t1_loop.trips, k0_cond2 k = 1#1 ↔ k.val % 2 = 1 := by decide +kernel

/-- The first 1024 rows. -/
def top {α : Type} {n : ℕ} (x : (⟨2, ![2048, n]⟩ : Shape).Idx → α) : (⟨2, ![1024, n]⟩ : Shape).Idx → α :=
  fun y => x (ix2 (n0 := 2048) (n1 := n) ⟨(y 0).val, by have h0 : (y 0).val < 1024 := (y 0).isLt; omega⟩ (y 1))

/-- A load of the first 1024 rows. -/
theorem readAt_top {sig : RefSig} {κ : Kind} {sp : Space} {n : ℕ} {e : EltTy} (v : View sig κ sp (⟨2, ![2048, n]⟩ : Shape) e) (f : v.ty.Contents (Elt F))
    {off : Fin 2 → ℕ} (inb : ∀ a : Fin 2, off a + (![1024, n] : Fin 2 → ℕ) a ≤ (![2048, n] : Fin 2 → ℕ) a) (hoff : off = ![0, 0]) :
    v.readAt (Elt F) (Rect.unit (s := ⟨2, ![2048, n]⟩) off ![1024, n] inb).toLoadRect f = top (v.read (Elt F) f) := by
  subst hoff
  rw [View.readAt_eq_ld]
  funext y
  show v.read (Elt F) f _ = v.read (Elt F) f _
  congr 1
  funext a
  match a with
  | ⟨0, _⟩ => exact Fin.ext (by show 0 + 1 * (y 0).val = (y 0).val; omega)
  | ⟨1, _⟩ => exact Fin.ext (by show 0 + 1 * (y 1).val = (y 1).val; omega)

section Rows

variable (v1 : FVec F S1x1 .f32) (q k ks : FVec F S2048x256 .bf16) (v : FVec F S2048x512 .bf16) (dec : FVec F S512x512 .f32)

/-- Block `n` of the output from the keys of its own block. -/
def own (n : Fin 4) : FVec F S512x512 .f32 := k0_pay7 (blk n q) (blk n k) dec (blk n v)

/-- With the run of two key blocks. -/
def two (n : Fin 4) (acc : FVec F S512x512 .f32) : FVec F S512x512 .f32 :=
  k0_pay2 (k0_pay4 v1 (BitVec.ofNat 32 n.val) (k0_pay6 v1 (blk n q)) (top ks)) acc (top v)

/-- With the run of one key block, `g`. -/
def one (n g : Fin 4) (acc : FVec F S512x512 .f32) : FVec F S512x512 .f32 :=
  k0_pay3 (k0_pay5 v1 (BitVec.ofNat 32 n.val) (k0_pay6 v1 (blk n q)) (blk g ks)) acc (blk g v)

/-- Block `n` of the output. -/
def block : Fin 4 → FVec F S512x512 .f32
  | 0 => own q k v dec 0
  | 1 => one v1 q ks v 1 0 (own q k v dec 1)
  | 2 => two v1 q ks v 2 (own q k v dec 2)
  | 3 => one v1 q ks v 3 2 (two v1 q ks v 3 (own q k v dec 3))

end Rows

section Trip

variable (c : Dev nD) (i : grid0.Coords)
  (arg2 : Memref sig .tc .vmem S1x8x128 .f32) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2048x512 .bf16) (harg5 : arg5.IsWhole)
  (arg6 : Memref sig .tc .vmem S2048x512 .f32) (harg6 : arg6.IsWhole)
  (arg7 : Memref sig .tc .vmem S2048x256 .bf16) (harg7 : arg7.IsWhole)
  (arg8 : Memref sig .tc .vmem S512x512 .f32) (harg8 : arg8.IsWhole)
  (arg9 : Memref sig .tc .vmem S512x512 .f32) (harg9 : arg9.IsWhole)
  (v1 : FVec F S1x1 .f32)
  (X3 : BufTy.Contents (Elt F) arg3.view.ty) (X4 : BufTy.Contents (Elt F) arg4.view.ty) (X5 : BufTy.Contents (Elt F) arg5.view.ty)
  (X7 : BufTy.Contents (Elt F) arg7.view.ty) (X8 : BufTy.Contents (Elt F) arg8.view.ty)

/-- The blocks of the output, of the buffers' contents. -/
abbrev blockOf (n : Fin 4) : FVec F S512x512 .f32 :=
  block v1 (arg3.view.read (Elt F) X3) (arg4.view.read (Elt F) X4) (arg7.view.read (Elt F) X7) (arg5.view.read (Elt F) X5) (arg8.view.read (Elt F) X8) n

/-- Before trip `k`: the buffers the loop reads at their contents, the accumulator at anything, and the output's blocks
    before `k` formed. -/
abbrev inv (k : ℕ) (_ : Unit) : sProp 𝕄 :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg7.view.loc (c : Thread nD τ) ↦[arg7.view.set]{fullShare} X7)
    ∗ (arg8.view.loc (c : Thread nD τ) ↦[arg8.view.set]{fullShare} X8) ∗ (∃ f, arg9.view.loc (c : Thread nD τ) ↦[arg9.view.set]{fullShare} f)
    ∗ (∃ f, (arg6.view.loc (c : Thread nD τ) ↦[arg6.view.set]{fullShare} f)
      ∗ ⌜∀ g : Fin 4, g.val < k → blk g (arg6.view.read (Elt F) f) = blockOf arg3 arg4 arg5 arg7 arg8 v1 X3 X4 X5 X7 X8 g⌝))

/-- A trip's store of its block, after the blocks before it. -/
theorem stored (f6 : BufTy.Contents (Elt F) arg6.view.ty) (n : Fin 4) {B : Fin 4 → FVec F S512x512 .f32} {off : Fin 2 → ℕ}
    (inb : ∀ a : Fin 2, off a + (![512, 512] : Fin 2 → ℕ) a ≤ (![2048, 512] : Fin 2 → ℕ) a) (w : FVec F S512x512 .f32) (hoff : off = ![512 * n.val, 0])
    (h6 : ∀ g : Fin 4, g.val < n.val → blk g (arg6.view.read (Elt F) f6) = B g) (hw : w = B n) (g : Fin 4) (hg : g.val < n.val + 1) :
    blk g (arg6.view.read (Elt F) (arg6.view.writes (Elt F) f6 [⟨Rect.unit (s := S2048x512) off S512x512.size inb, w⟩])) = B g := by
  rw [blk_writes_512 _ _ n _ _ _ _ hoff]
  by_cases h : g = n
  · rw [if_pos h, hw, h]
  · rw [if_neg h]
    exact h6 g (by have : g.val ≠ n.val := fun e => h (Fin.ext e); omega)

set_option maxHeartbeats 4000000 in
theorem trip (E : Set ℕ) (k : Fin k0_t1_loop.trips) :
    inv c arg3 arg4 arg5 arg6 arg7 arg8 arg9 v1 X3 X4 X5 X7 X8 k.val ()
      ⊢ wp frame (wpE (defs₀ (F := F)) Variants.none (c : Thread nD τ) none) E
        (k0_t1_body (F := F) i arg2 harg2 arg3 harg3 arg4 harg4 arg5 harg5 arg6 harg6 arg7 harg7 arg8 harg8 arg9 harg9 v1 k PUnit.unit)
        (fun _ => inv c arg3 arg4 arg5 arg6 arg7 arg8 arg9 v1 X3 X4 X5 X7 X8 (k.val + 1) ()) := by
  obtain ⟨kv, hlt⟩ := k
  unfold k0_t1_body
  match kv, hlt with
  | 0, hlt =>
    have h1 : ¬k0_cond1 ⟨0, hlt⟩ = 1#1 := mt (cond1_iff ⟨0, hlt⟩).mp (by show ¬2 ≤ 0; omega)
    have h2 : ¬k0_cond2 ⟨0, hlt⟩ = 1#1 := mt (cond2_iff ⟨0, hlt⟩).mp (by show ¬0 % 2 = 1; omega)
    iintro ⟨R3, R4, R5, R7, R8, ⟨%f9, W9⟩, ⟨%f6, W6, %h6⟩⟩
    sl_exec
    sl_step
    have hw : trip.sl.v143 arg3 arg4 arg5 arg8 arg9 X3 X4 X5 X8 hlt = blockOf arg3 arg4 arg5 arg7 arg8 v1 X3 X4 X5 X7 X8 0 := by
      dsimp only [trip.sl.v143, trip.sl.W9_1]
      simp only [View.readCov_cons_toLoadRect, readAt_256 _ _ 0 _ (off1_eq ⟨0, hlt⟩), readAt_512 _ _ 0 _ (off2_eq ⟨0, hlt⟩), readAt_dec]
      rfl
    have hs := stored arg6 f6 0 (B := blockOf arg3 arg4 arg5 arg7 arg8 v1 X3 X4 X5 X7 X8) (k0_off2_inb ⟨0, hlt⟩) _ (off2_eq ⟨0, hlt⟩) h6 hw
    sl_close
  | 1, hlt =>
    have h1 : ¬k0_cond1 ⟨1, hlt⟩ = 1#1 := mt (cond1_iff ⟨1, hlt⟩).mp (by show ¬2 ≤ 1; omega)
    have h2 : k0_cond2 ⟨1, hlt⟩ = 1#1 := (cond2_iff ⟨1, hlt⟩).mpr (by show 1 % 2 = 1; omega)
    iintro ⟨R3, R4, R5, R7, R8, ⟨%f9, W9⟩, ⟨%f6, W6, %h6⟩⟩
    sl_exec
    sl_step
    have hw : trip.sl.v143_1 arg3 arg4 arg5 arg7 arg8 arg9 v1 X3 X4 X5 X7 X8 hlt h2 = blockOf arg3 arg4 arg5 arg7 arg8 v1 X3 X4 X5 X7 X8 1 := by
      dsimp only [trip.sl.v143_1, trip.sl.W9_2, trip.sl.r_2, trip.sl.v192, trip.sl.r_1, trip.sl.r, trip.sl.W9_1_1]
      simp only [View.readCov_cons_toLoadRect, readAt_256 _ _ 1 _ (off1_eq ⟨1, hlt⟩), readAt_512 _ _ 1 _ (off2_eq ⟨1, hlt⟩), readAt_dec, readAt_256 _ _ 0 _ ((off5_eq ⟨1, hlt⟩).trans (by simp)), readAt_512 _ _ 0 _ ((off6_eq ⟨1, hlt⟩).trans (by simp))]
      rfl
    have hs := stored arg6 f6 1 (B := blockOf arg3 arg4 arg5 arg7 arg8 v1 X3 X4 X5 X7 X8) (k0_off2_inb ⟨1, hlt⟩) _ (off2_eq ⟨1, hlt⟩) h6 hw
    sl_close
  | 2, hlt =>
    have h1 : k0_cond1 ⟨2, hlt⟩ = 1#1 := (cond1_iff ⟨2, hlt⟩).mpr (by show 2 ≤ 2; omega)
    have h2 : ¬k0_cond2 ⟨2, hlt⟩ = 1#1 := mt (cond2_iff ⟨2, hlt⟩).mp (by show ¬2 % 2 = 1; omega)
    iintro ⟨R3, R4, R5, R7, R8, ⟨%f9, W9⟩, ⟨%f6, W6, %h6⟩⟩
    sl_exec
    sl_step
    have hw : trip.sl.v143_2 arg3 arg4 arg5 arg7 arg8 arg9 v1 X3 X4 X5 X7 X8 hlt h1 = blockOf arg3 arg4 arg5 arg7 arg8 v1 X3 X4 X5 X7 X8 2 := by
      dsimp only [trip.sl.v143_2, trip.sl.W9_2_1, trip.sl.r_4, trip.sl.r_3, trip.sl.v192_1, trip.sl.W9_1_2]
      simp only [View.readCov_cons_toLoadRect, readAt_256 _ _ 2 _ (off1_eq ⟨2, hlt⟩), readAt_512 _ _ 2 _ (off2_eq ⟨2, hlt⟩), readAt_dec, readAt_top _ _ _ (off3_eq ⟨2, hlt⟩), readAt_top _ _ _ (off4_eq ⟨2, hlt⟩)]
      rfl
    have hs := stored arg6 f6 2 (B := blockOf arg3 arg4 arg5 arg7 arg8 v1 X3 X4 X5 X7 X8) (k0_off2_inb ⟨2, hlt⟩) _ (off2_eq ⟨2, hlt⟩) h6 hw
    sl_close
  | 3, hlt =>
    have h1 : k0_cond1 ⟨3, hlt⟩ = 1#1 := (cond1_iff ⟨3, hlt⟩).mpr (by show 2 ≤ 3; omega)
    have h2 : k0_cond2 ⟨3, hlt⟩ = 1#1 := (cond2_iff ⟨3, hlt⟩).mpr (by show 3 % 2 = 1; omega)
    iintro ⟨R3, R4, R5, R7, R8, ⟨%f9, W9⟩, ⟨%f6, W6, %h6⟩⟩
    sl_exec
    sl_step
    have hw : trip.sl.v143_3 arg3 arg4 arg5 arg7 arg8 arg9 v1 X3 X4 X5 X7 X8 hlt h1 h2 = blockOf arg3 arg4 arg5 arg7 arg8 v1 X3 X4 X5 X7 X8 3 := by
      dsimp only [trip.sl.v143_3, trip.sl.W9_3, trip.sl.r_7, trip.sl.r_6, trip.sl.r_5, trip.sl.v192_3, trip.sl.W9_2_2, trip.sl.v192_2, trip.sl.W9_1_3]
      simp only [View.readCov_cons_toLoadRect, readAt_256 _ _ 3 _ (off1_eq ⟨3, hlt⟩), readAt_512 _ _ 3 _ (off2_eq ⟨3, hlt⟩), readAt_dec, readAt_256 _ _ 2 _ ((off5_eq ⟨3, hlt⟩).trans (by simp)), readAt_512 _ _ 2 _ ((off6_eq ⟨3, hlt⟩).trans (by simp)), readAt_top _ _ _ (off3_eq ⟨3, hlt⟩), readAt_top _ _ _ (off4_eq ⟨3, hlt⟩)]
      rfl
    have hs := stored arg6 f6 3 (B := blockOf arg3 arg4 arg5 arg7 arg8 v1 X3 X4 X5 X7 X8) (k0_off2_inb ⟨3, hlt⟩) _ (off2_eq ⟨3, hlt⟩) h6 hw
    sl_close
  | n + 4, hlt => exact absurd hlt (by show ¬n + 4 < 4; omega)

set_option warn.classDefReducibility false in
/-- The loop by its invariant. -/
@[sl_loop] def loopInv (E : Set ℕ) :
    LoopInvTy_k0_t1 (F := F) Unit ℕ (UR sig nD τ) ℕ Variants.none c none E i arg2 harg2 arg3 harg3 arg4 harg4 arg5 harg5 arg6 harg6 arg7 harg7 arg8 harg8 arg9 harg9 v1 where
  inv := inv c arg3 arg4 arg5 arg6 arg7 arg8 arg9 v1 X3 X4 X5 X7 X8
  step k _ := trip c i arg2 harg2 arg3 harg3 arg4 harg4 arg5 harg5 arg6 harg6 arg7 harg7 arg8 harg8 arg9 harg9 v1 X3 X4 X5 X7 X8 E k

end Trip

end Cert.RetFwd

end

end
-- ==== Proof.RetFwd.Body.lean ====
module

public import proofs.«01_k».proof.Proof.RetFwd.Loop

/-! The whole body of the retention's forward pass: what it leaves in the output, as a function of the blocks it reads. -/

@[expose] public section

set_option maxRecDepth 16384

noncomputable section

namespace Cert.RetFwd

open Kernel36Ideal Kernel36Ideal.Gen
open Ret (blk join eq_join lgCell readAt_cell read_w256 readAt_w256 read_w512s)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Outputs

variable (x2 : Vec F S1x8x128 .f32) (x3 x4 : Vec F S2048x256 .bf16) (x5 : Vec F S2048x512 .bf16)

/-- The log decay. -/
def lgOf : FVec F S1x1 .f32 := k0_pay8 (lgCell x2)

/-- The keys, each scaled by its decay to the end of its block. -/
def ksOf : FVec F S2048x256 .bf16 := k0_pay9 (lgCell x2) x4

/-- The decays inside a block, zero where the query's chunk precedes the key's. -/
def decOf : FVec F S512x512 .f32 :=
  k0_pay1 (k0_pay10 (lgCell x2)) (k0_pay12 (iota .tc S512x512 32 [0] iota_S512x512_d0_w32) (iota .tc S512x512 32 [1] iota_S512x512_d1_w32) 64#32 k0_pay11)

/-- The output. -/
def out : Vec F S2048x512 .f32 := join (block (lgOf x2) x3 x4 (ksOf x2 x4) x5 (decOf x2))

end Outputs

set_option maxHeartbeats 4000000 in
/-- The body, on whole buffers: the inputs' at their contents, the output's and the scratch at anything. -/
theorem body_run (c : Dev nD) (i : grid0.Coords) (arg2 : Memref sig .tc .vmem S1x8x128 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x512 .bf16) (harg5 : arg5.IsWhole) (arg6 : Memref sig .tc .vmem S2048x512 .f32) (harg6 : arg6.IsWhole) (arg7 : Memref sig .tc .vmem S2048x256 .bf16) (harg7 : arg7.IsWhole) (arg8 : Memref sig .tc .vmem S512x512 .f32) (harg8 : arg8.IsWhole) (arg9 : Memref sig .tc .vmem S512x512 .f32) (harg9 : arg9.IsWhole)
    (x2 : Vec F S1x8x128 .f32) (x3 x4 : Vec F S2048x256 .bf16) (x5 : Vec F S2048x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
      ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare (out x2 x3 x4 x5) ∗ (∃ d, owns (c : Thread nD τ) arg7 fullShare d) ∗ (∃ d, owns (c : Thread nD τ) arg8 fullShare d) ∗ (∃ d, owns (c : Thread nD τ) arg9 fullShare d)) -∗ K ⟨⟩))
    ⊢ wp frame (wpE (defs₀ (F := F)) Variants.none c none) E (cc0_ret_attn_fwd i arg2 harg2 arg3 harg3 arg4 harg4 arg5 harg5 arg6 harg6 arg7 harg7 arg8 harg8 arg9 harg9) K := by
  simp only [cc0_ret_attn_fwd_eq_skeleton]; unfold cc0_ret_attn_fwd_skel
  simp only [k0_part4_eq_skeleton, k0_part5_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5
  sl_exec
  sl_step
  have hv : body_run.sl.r c arg2 harg2 x2 = lgOf x2 := congrArg k0_pay8 ((readAt_cell ..).trans (congrArg lgCell (harg2.read_unread x2)))
  have hks : arg7.view.read (Elt F) (arg7.view.writes (Elt F) arg7.view.junk (body_run.sl.H7_1 c arg2 harg2 arg4 harg4 x2 x4)) = ksOf x2 x4 :=
    (read_w256 ..).trans (congrArg₂ k0_pay9 ((readAt_cell ..).trans (congrArg lgCell (harg2.read_unread x2)))
      ((readAt_w256 ..).trans (harg4.read_unread x4)))
  have hdec : arg8.view.read (Elt F) (arg8.view.writes (Elt F) arg8.view.junk (body_run.sl.H8_1 c arg2 harg2 x2)) = decOf x2 :=
    (read_w512s ..).trans (congrArg (fun t => k0_pay1 (k0_pay10 t) _) ((readAt_cell ..).trans (congrArg lgCell (harg2.read_unread x2))))
  have hout : arg6.view.read (Elt F) fL1 = out x2 x3 x4 x5 := eq_join fun g => by
    refine (hL7 g (lt_of_lt_of_eq g.isLt (by decide))).trans ?_
    unfold blockOf
    rw [hv, harg3.read_unread, harg4.read_unread, harg5.read_unread, hks, hdec]
  iapply Hk
  isplitl [H2]
  · iexists _; isplitr
    · ipureintro; exact harg2.read_unread _
    · iexact H2
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact harg5.read_unread _
    · iexact H5
  isplitl [H6]
  · iexists _; isplitr; swap
    · iexact H6
    · ipureintro; exact hout
  isplitl [H7]
  · iexists _, _; isplitr; swap
    · iexact H7
    · ipureintro; rfl
  isplitl [H8]
  · iexists _, _; isplitr; swap
    · iexact H8
    · ipureintro; rfl
  · iexists _, _; isplitr; swap
    · iexact H9
    · ipureintro; rfl

end Cert.RetFwd

end

end
-- ==== Proof.RetFwd.Run.lean ====
module

public import proofs.«01_k».proof.Proof.RetFwd.Body
public import Idealize.ShloMosaic.Lib.Claim

/-! The kernel's run, for any values: every grid point's body by `body_run`, the output's block at the function `out` of
    the point's input blocks. -/

@[expose] public section

set_option maxRecDepth 16384

noncomputable section

namespace Cert.RetFwd

open Kernel36Ideal Kernel36Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs of a point -/

abbrev stg0 (t : Fin cfg0.N) : Memref sig .tc .vmem S1x8x128 .f32 := win0_0.stage (cfg0.slots t 0)
theorem stgw0 (t : Fin cfg0.N) : (stg0 t).IsWhole := hstage0_0 ((cfg0.slots t 0).cast nbuf0_0)
abbrev stg1 (t : Fin cfg0.N) : Memref sig .tc .vmem S2048x256 .bf16 := win0_1.stage (cfg0.slots t 1)
theorem stgw1 (t : Fin cfg0.N) : (stg1 t).IsWhole := hstage0_1 ((cfg0.slots t 1).cast nbuf0_1)
abbrev stg2 (t : Fin cfg0.N) : Memref sig .tc .vmem S2048x256 .bf16 := win0_2.stage (cfg0.slots t 2)
theorem stgw2 (t : Fin cfg0.N) : (stg2 t).IsWhole := hstage0_2 ((cfg0.slots t 2).cast nbuf0_2)
abbrev stg3 (t : Fin cfg0.N) : Memref sig .tc .vmem S2048x512 .bf16 := win0_3.stage (cfg0.slots t 3)
theorem stgw3 (t : Fin cfg0.N) : (stg3 t).IsWhole := hstage0_3 ((cfg0.slots t 3).cast nbuf0_3)
abbrev stg4 (t : Fin cfg0.N) : Memref sig .tc .vmem S2048x512 .f32 := win0_4.stage (cfg0.slots t 4)
theorem stgw4 (t : Fin cfg0.N) : (stg4 t).IsWhole := hstage0_4 ((cfg0.slots t 4).cast nbuf0_4)
abbrev scr0 : Memref sig .tc .vmem S2048x256 .bf16 := Memref.whole cc0_scratch0
abbrev scr1 : Memref sig .tc .vmem S512x512 .f32 := Memref.whole cc0_scratch1
abbrev scr2 : Memref sig .tc .vmem S512x512 .f32 := Memref.whole cc0_scratch2

/-- The invariant of the class, its scratch buffers as memrefs. -/
theorem held_eq (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

variable (m : (ℓ : Loc nD τ sig) → Buf (Elt F) ℓ) (ρ : Dev nD → PrngReg)

/-- The output of the blocks of a point. -/
def outAt (c : Dev nD) (t : Fin cfg0.N) : Vec F S2048x512 .f32 := out (iblk m c 0 t) (iblk m c 1 t) (iblk m c 2 t) (iblk m c 3 t)

/-- The proof data: the arrays as the region finds them, the inputs' buffers left at their blocks, the output's at
    the point's output. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem data_A (c : Dev nD) (w : Fin cfg0.W) : (data m 0 c).A w = V m c (Pipeline.arrRef spec0 w) := by
  dsimp only [data]

theorem left0 (c : Dev nD) (t : Fin cfg0.N) : (data m 0 c).after 0 t = iblk m c 0 t := by dsimp only [data]
theorem left1 (c : Dev nD) (t : Fin cfg0.N) : (data m 0 c).after 1 t = iblk m c 1 t := by dsimp only [data]
theorem left2 (c : Dev nD) (t : Fin cfg0.N) : (data m 0 c).after 2 t = iblk m c 2 t := by dsimp only [data]
theorem left3 (c : Dev nD) (t : Fin cfg0.N) : (data m 0 c).after 3 t = iblk m c 3 t := by dsimp only [data]
theorem left4 (c : Dev nD) (t : Fin cfg0.N) : (data m 0 c).after 4 t = outAt m c t := by dsimp only [data]
theorem found0 (c : Dev nD) (t : Fin cfg0.N) (d) : (data m 0 c).before 0 t d = iblk m c 0 t :=
  before0_0_of m (data m 0 c) (data_A m c 0) (left0 m c) t d
theorem found1 (c : Dev nD) (t : Fin cfg0.N) (d) : (data m 0 c).before 1 t d = iblk m c 1 t :=
  before0_1_of m (data m 0 c) (data_A m c 1) (left1 m c) t d
theorem found2 (c : Dev nD) (t : Fin cfg0.N) (d) : (data m 0 c).before 2 t d = iblk m c 2 t :=
  before0_2_of m (data m 0 c) (data_A m c 2) (left2 m c) t d
theorem found3 (c : Dev nD) (t : Fin cfg0.N) (d) : (data m 0 c).before 3 t d = iblk m c 3 t :=
  before0_3_of m (data m 0 c) (data_A m c 3) (left3 m c) t d

/-- What a point's body is given. -/
def given (c : Dev nD) (t : Fin cfg0.N) : sProp 𝕄 :=
  iprop((data m 0 c).Φ t.castSucc ∗ (data m 0 c).owesAt () t.castSucc
    ∗ (∃ d, owns (c : Thread nD τ) (stg0 t) fullShare ((data m 0 c).before 0 t d))
    ∗ (∃ d, owns (c : Thread nD τ) (stg1 t) fullShare ((data m 0 c).before 1 t d))
    ∗ (∃ d, owns (c : Thread nD τ) (stg2 t) fullShare ((data m 0 c).before 2 t d))
    ∗ (∃ d, owns (c : Thread nD τ) (stg3 t) fullShare ((data m 0 c).before 3 t d))
    ∗ (∃ d, owns (c : Thread nD τ) (stg4 t) fullShare ((data m 0 c).before 4 t d)))

/-- What it hands back. -/
def handed (c : Dev nD) (t : Fin cfg0.N) : sProp 𝕄 :=
  iprop((data m 0 c).Φ t.succ ∗ (data m 0 c).owesAt () t.succ
    ∗ owns (c : Thread nD τ) (stg0 t) fullShare ((data m 0 c).after 0 t)
    ∗ owns (c : Thread nD τ) (stg1 t) fullShare ((data m 0 c).after 1 t)
    ∗ owns (c : Thread nD τ) (stg2 t) fullShare ((data m 0 c).after 2 t)
    ∗ owns (c : Thread nD τ) (stg3 t) fullShare ((data m 0 c).after 3 t)
    ∗ owns (c : Thread nD τ) (stg4 t) fullShare ((data m 0 c).after 4 t))

set_option maxHeartbeats 1200000 in
/-- The body at any point. -/
theorem body_at (c : Dev nD) (t : Fin cfg0.N) :
    given m c t ⊢ wp frame (wpE (defs₀ (F := F)) Variants.none c none) Set.univ (bodyAt0 t) (fun _ => handed m c t) := by
  unfold given handed bodyAt0
  simp only [found0, found1, found2, found3]
  rw [show (data m 0 c).Φ t.succ = (data m 0 c).Φ t.castSucc from rfl,
    show (data m 0 c).owesAt () t.succ = (data m 0 c).owesAt () t.castSucc from rfl,
    left0, left1, left2, left3, left4]
  rw [show (data m 0 c).Φ t.castSucc = Pipeline.ΦA spec0 c from rfl, held_eq]
  unfold outAt
  iintro ⟨⟨⟨S0, S1, S2⟩, Hg⟩, Ho, ⟨%d0, H0⟩, ⟨%d1, H1⟩, ⟨%d2, H2⟩, ⟨%d3, H3⟩, ⟨%d4, H4⟩⟩
  iapply (body_run c (grid0.coords t) _ (stgw0 t) _ (stgw1 t) _ (stgw2 t) _ (stgw3 t) _ (stgw4 t) _ (Memref.isWhole_whole _) _ (Memref.isWhole_whole _) _ (Memref.isWhole_whole _) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  iintro ⟨H0, H1, H2, H3, H4, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  iexact H4

/-- The body table's row at a point's slots. -/
theorem row_at (t : Fin cfg0.N) : defs₀ (F := F) .tc cfg0.body (cfg0.bodyArgs t (cfg0.slots t)) = bodyAt0 t := by
  unfold defs₀; rw [Defs.onTc_tc]

/-- The body's obligation, at every point. -/
theorem obligation (c : Dev nD) : BodyObligation (data (F := F) m 0 c) (defs₀ (F := F)) Variants.none () Set.univ := fun t => by
  rw [bigSep_W0, bigSep_W0, row_at]
  exact triple_restated (body_at m c t) rfl .rfl fun _ => .rfl

set_option backward.isDefEq.respectTransparency.types false in
/-- The whole run: the arrays at what the proof data gives, every counter zero. -/
theorem ends : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

theorem ends_arrays : θ_run defs (onTc (τ := τ) (main (F := F))) (s₀ m ρ) (Pipeline.FramePost cfgs (data m) 0 (V m)) :=
  (θ_run defs _ _).mono (fun _ h => h.1) (ends m ρ)

/-- The arguments end as launched, and every counter at zero. -/
theorem framed : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2))
      ∧ r.2.sem = fun _ => 0) :=
  θ_run_and (frame_of m ρ (data m) (data_A m) (ends_arrays m ρ)) ((θ_run defs _ _).mono (fun _ h => h.2) (ends m ρ))

end Cert.RetFwd

end

end
-- ==== Proof.RetFwd.Same.lean ====
module

public import proofs.«01_k».proof.Defs
public import proofs.«01_k».proof.Proof.Gen.Kernel36
public import proofs.«01_k».proof.Proof.Gen.Kernel36Ideal
public import proofs.«01_k».proof.Proof.RetFwd.Run

/-! The kernel and its ideal program have one text: the run over the machine's values is the kernel's. -/

@[expose] public section

set_option maxRecDepth 16384

namespace Cert.RetFwd

open Idealize.ShloMosaic Idealize.SL.Sem

local instance : Kernel36.Facts := Kernel36.Gen.facts
local instance : Kernel36Ideal.Facts := Kernel36Ideal.Gen.facts

theorem body_eq : @Kernel36.cc0_ret_attn_fwd Bits _ _ = @Kernel36Ideal.cc0_ret_attn_fwd Bits _ _ := by with_unfolding_all rfl

/-- The two body tables are one. -/
theorem table_eq : Kernel36.defs₀ (F := Bits) = Kernel36Ideal.defs₀ (F := Bits) := by
  unfold Kernel36.defs₀ Kernel36Ideal.defs₀
  refine congrArg _ ?_
  funext l a
  match l, a with
  | 0, (t, s) =>
    show Kernel36.cc0_ret_attn_fwd _ _ _ _ _ _ _ _ _ _ _ _ _ _ _ _ _
      = Kernel36Ideal.cc0_ret_attn_fwd _ _ _ _ _ _ _ _ _ _ _ _ _ _ _ _ _
    with_unfolding_all rfl

theorem main_eq : Kernel36.main (F := Bits) = Kernel36Ideal.main (F := Bits) := by with_unfolding_all rfl

theorem defs_eq : Kernel36.defs (F := Bits) = Kernel36Ideal.defs (F := Bits) :=
  congrArg (Pipeline.defs (Kernel36Ideal.pcfgs (F := Bits))) table_eq

/-- The kernel's frame: the same run, over the machine's values. -/
theorem frame_kernel : quiescent_Kernel36 := fun m ρ _ => by
  rw [defs_eq, main_eq]
  exact framed (F := Bits) m ρ

end Cert.RetFwd

end
-- ==== Proof.RetFwd.Sums.lean ====
module

public import proofs.«01_k».proof.Proof.Ret.Sums
public import proofs.«01_k».proof.Proof.RetFwd.Body

/-! The output of a grid point in closed form: the sum over all positions of the decayed scores times the values, whatever
    block the position lies in. -/

@[expose] public section

set_option maxRecDepth 16384

noncomputable section

namespace Cert.RetFwd

open Kernel36Ideal Kernel36Ideal.Gen
open Ret (blk join decay decay_add decayAt exp_word rising rising_word keyChunk keyChunk_at queryChunk queryChunk_at chunk_le dist_word
  zeros_at prod_kq prod_ad at' at'_div sum_blocks sum_scaled decayAt_own decayAt_earlier decayAt_later score)
open Idealize.ShloMosaic

/-! ## The products over a run of two blocks -/

/-- Position `r` of block `g` of the first two. -/
def at2 (g : Fin 2) (r : Fin 512) : Fin 1024 := ⟨512 * g.val + r.val, by omega⟩
def wide (g : Fin 2) : Fin 4 := ⟨g.val, by omega⟩

theorem sum_two (f : Fin 1024 → EReal) : ∑ i, f i = ∑ g : Fin 2, ∑ r : Fin 512, f (at2 g r) := by
  rw [← (finProdFinEquiv (m := 2) (n := 512)).sum_comp f, Fintype.sum_prod_type]
  refine Finset.sum_congr rfl fun n _ => Finset.sum_congr rfl fun r _ => congrArg f (Fin.ext ?_)
  show r.val + 512 * n.val = 512 * n.val + r.val
  omega

theorem top_at {α : Type} {n : ℕ} (x : (⟨2, ![2048, n]⟩ : Shape).Idx → α) (g : Fin 2) (r : Fin 512) (d : Fin n) :
    top x (ix2 (at2 g r) d) = x (ix2 (at' (wide g) r) d) := rfl

theorem prod_wide (L : FVec Ideal S512x256 .bf16) (R : FVec Ideal S1024x256 .bf16) (a : Fin 512) (b : Fin 1024) :
    (matmul dot_S512x256_S1024x256_S512x1024_1_1_0_0_n_n none L R (constant S512x1024 .f32 0x00000000#32) : FVec Ideal S512x1024 .f32) (ix2 a b)
      = ∑ d : Fin 256, L (ix2 a d) * R (ix2 b d) :=
  (Ideal.matmul_transposedRhs_apply none L R _ a b).trans ((congrArg (· + _) (zeros_at _ _)).trans (zero_add _))

theorem prod_long (L : FVec Ideal S512x1024 .bf16) (R : FVec Ideal S1024x512 .bf16) (a b : Fin 512) :
    (matmul dot_S512x1024_S1024x512_S512x512_1_0_0_1_n_n none L R (constant S512x512 .f32 0x00000000#32) : FVec Ideal S512x512 .f32) (ix2 a b)
      = ∑ j : Fin 1024, L (ix2 a j) * R (ix2 j b) :=
  (Ideal.matmul_plain_apply none L R _ a b).trans ((congrArg (· + _) (zeros_at _ _)).trans (zero_add _))

/-! ## The positions between two blocks -/

/-- A position's block in its run, rounded down. -/
def blockWord (j : BitVec 32) : BitVec 32 :=
  Scalar.select (Scalar.andi (Scalar.cmpi .ne (Scalar.subi (Scalar.extui (Scalar.cmpi .sgt j 0#32)) (Scalar.extui (Scalar.cmpi .slt j 0#32)))
      (Scalar.subi (Scalar.extui (Scalar.cmpi .sgt 512#32 0#32)) (Scalar.extui (Scalar.cmpi .slt 512#32 0#32))))
    (Scalar.cmpi .ne (IntOp.remsi .vector j 512#32) 0#32)) (Scalar.subi (IntOp.divsi .vector j 512#32) 1#32) (IntOp.divsi .vector j 512#32)

/-- The positions between the end of that block and the start of block `n`, the run starting at the multiple `n` is masked to. -/
def gapWord (mask n j : BitVec 32) : BitVec 32 :=
  Scalar.addi (Scalar.muli 512#32 (Scalar.subi (Scalar.subi (Scalar.subi n (Scalar.andi n mask)) (blockWord j)) 1#32)) 1#32

theorem gap_two : ∀ (n : Fin 4) (j : Fin 1024), 2 ≤ n.val →
    (gapWord 4294967292#32 (BitVec.ofNat 32 n.val) (BitVec.ofNat 32 j.val)).toInt = ((512 * (n.val - j.val / 512 - 1) + 1 : ℕ) : ℤ) := by
  decide +kernel

theorem gap_one : ∀ (n : Fin 4) (j : Fin 512), n.val % 2 = 1 →
    (gapWord 4294967294#32 (BitVec.ofNat 32 n.val) (BitVec.ofNat 32 j.val)).toInt = ((1 : ℕ) : ℤ) := by
  decide +kernel

section Values

variable (x2 : Vec Ideal S1x8x128 .f32) {l : ℝ} (hl : x2 (ix3 (n0 := 1) (n1 := 8) (n2 := 128) 0 0 0) = (l : EReal))
  (x3 x4 : Vec Ideal S2048x256 .bf16) (x5 : Vec Ideal S2048x512 .bf16)

include hl

theorem lgOf_at (y : S1x1.Idx) : lgOf (F := Ideal) x2 y = (l : EReal) := hl

theorem ks_at (g : Fin 4) (j : Fin 512) (d : Fin 256) :
    blk g (ksOf (F := Ideal) x2 x4) (ix2 j d) = x4 (ix2 (at' g j) d) * decay l (511 - j.val) :=
  Ret.ks_at x2 hl x4 g j d

theorem qs_at (x : FVec Ideal S512x256 .bf16) (r : Fin 512) (c : Fin 256) :
    k0_pay6 (F := Ideal) (lgOf x2) x (ix2 r c) = x (ix2 r c) * decay l r.val := by
  show x (ix2 r c) * Ideal.exp (lgOf (F := Ideal) x2 _ * (((rising (ix2 r c)).toInt : ℝ) : EReal)) = _
  rw [lgOf_at x2 hl, exp_word _ _ _ (rising_word r c)]

/-- The decays inside a block: query down, key across. -/
theorem decOf_at (a b : Fin 512) : decOf (F := Ideal) x2 (ix2 a b) = decayAt l a.val b.val := by
  have e : decOf (F := Ideal) x2 = shapeCast S512x512 (select (cmpi .sle queryChunk keyChunk)
      (k0_pay10 (F := Ideal) (Ret.lgCell x2)) (broadcast S512x512 (Scalar.ofBits (F := Ideal) .f32 0x00000000#32))) shapeCasts_S512x512_S512x512 := rfl
  rw [e, shapeCast_id]
  have z : (Scalar.ofBits (F := Ideal) .f32 0x00000000#32 : EReal) = 0 := Ideal.ofBits_zero_f32
  have hd : k0_pay10 (F := Ideal) (Ret.lgCell x2) (ix2 a b) = decay l ((a.val - b.val) + (b.val - a.val)) := by
    show Ideal.exp (lgOf (F := Ideal) x2 _ * (((IntOp.absi (BitVec.ofNat 32 (0 * 512 + a.val) - BitVec.ofNat 32 (0 * 512 + b.val))).toInt : ℝ) : EReal)) = _
    rw [lgOf_at x2 hl, Nat.zero_mul, Nat.zero_add, Nat.zero_add, exp_word _ _ _ (dist_word b a)]
  have hc : (cmpi .sle queryChunk keyChunk (ix2 a b) = 1#1) ↔ b.val / 64 ≤ a.val / 64 := by
    show (IntOp.cmpi .sle (queryChunk (ix2 a b)) (keyChunk (ix2 a b)) = 1#1) ↔ _
    rw [keyChunk_at, queryChunk_at]
    exact chunk_le ⟨b.val / 64, by omega⟩ ⟨a.val / 64, by omega⟩
  unfold decayAt
  by_cases h : b.val / 64 ≤ a.val / 64
  · rw [if_pos h, ← hd]
    exact if_pos (hc.mpr h)
  · rw [if_neg h, ← z]
    exact if_neg (fun h' => h (hc.mp h'))

/-- What key block `g` gives to row `i` of query block `n`. -/
def give (l : ℝ) (n g : Fin 4) (i e : Fin 512) : EReal :=
  ∑ j : Fin 512, (score x3 x4 (at' n i) (at' g j) * decayAt l (at' n i).val (at' g j).val) * x5 (ix2 (at' g j) e)

omit hl in
/-- The scaled products of an earlier block's keys are the decayed scores. -/
theorem weight {n g : Fin 4} (h : g < n) (i j : Fin 512) :
    (∑ d : Fin 256, (x3 (ix2 (at' n i) d) * decay l i.val) * (x4 (ix2 (at' g j) d) * decay l (511 - j.val))) * decay l (512 * (n.val - g.val - 1) + 1)
      = score x3 x4 (at' n i) (at' g j) * decayAt l (at' n i).val (at' g j).val := by
  rw [sum_scaled, decayAt_earlier l h, Nat.add_comm (511 - j.val), decay_add l (i.val + _), ← mul_assoc]
  refine congrArg (· * _) (congrArg (· * _) (Finset.sum_congr rfl fun d _ => mul_comm _ _))

theorem own_at (n : Fin 4) (i e : Fin 512) : own (F := Ideal) x3 x4 x5 (decOf x2) n (ix2 i e) = give x3 x4 x5 l n n i e := by
  unfold own k0_pay7
  rw [shapeCast_id]
  refine (prod_ad _ _ i e).trans (Finset.sum_congr rfl fun j _ => congrArg (· * _) ?_)
  refine (congr (congrArg HMul.hMul (prod_kq _ _ i j)) (decOf_at x2 hl i j)).trans ?_
  rw [← decayAt_own l n]
  exact congrArg (· * _) (Finset.sum_congr rfl fun d _ => mul_comm _ _)

theorem one_at {n g : Fin 4} (h : g.val + 1 = n.val) (hn : n.val % 2 = 1) (acc : FVec Ideal S512x512 .f32) (i e : Fin 512) :
    one (F := Ideal) (lgOf x2) x3 (ksOf x2 x4) x5 n g acc (ix2 i e) = acc (ix2 i e) + give x3 x4 x5 l n g i e := by
  unfold one k0_pay3
  rw [shapeCast_id]
  refine congrArg (acc (ix2 i e) + ·) ((prod_ad _ _ i e).trans (Finset.sum_congr rfl fun j _ => congrArg (· * _) ?_))
  rw [← weight x3 x4 (show g < n from by show g.val < n.val; omega), show n.val - g.val - 1 = 0 by omega]
  have f : Ideal.exp (lgOf (F := Ideal) x2 (ix2 0 0) * (((gapWord 4294967294#32 (BitVec.ofNat 32 n.val) (BitVec.ofNat 32 j.val)).toInt : ℝ) : EReal)) = decay l (512 * 0 + 1) := by
    rw [lgOf_at x2 hl, exp_word _ _ _ (gap_one n j hn)]
  rw [← f]
  have p : (matmul dot_S512x256_S512x256_S512x512_1_1_0_0_n_n none (k0_pay6 (F := Ideal) (lgOf x2) (blk n x3)) (blk g (ksOf (F := Ideal) x2 x4)) (constant S512x512 .f32 0x00000000#32) : FVec Ideal S512x512 .f32) (ix2 i j)
      = ∑ d : Fin 256, (x3 (ix2 (at' n i) d) * decay l i.val) * (x4 (ix2 (at' g j) d) * decay l (511 - j.val)) :=
    (prod_kq _ _ i j).trans (Finset.sum_congr rfl fun d _ => congr (congrArg HMul.hMul (qs_at x2 hl _ i d)) (ks_at x2 hl x4 g j d))
  rw [← p]
  show _ * Ideal.exp (lgOf (F := Ideal) x2 _ * (((gapWord 4294967294#32 (BitVec.ofNat 32 n.val) (BitVec.ofNat 32 (0 * 512 + j.val))).toInt : ℝ) : EReal)) = _
  rw [Nat.zero_mul, Nat.zero_add]
  rfl

theorem two_at {n : Fin 4} (hn : 2 ≤ n.val) (acc : FVec Ideal S512x512 .f32) (i e : Fin 512) :
    two (F := Ideal) (lgOf x2) x3 (ksOf x2 x4) x5 n acc (ix2 i e) = acc (ix2 i e) + (give x3 x4 x5 l n 0 i e + give x3 x4 x5 l n 1 i e) := by
  unfold two k0_pay2
  rw [shapeCast_id]
  refine congrArg (acc (ix2 i e) + ·) ((prod_long _ _ i e).trans ((sum_two _).trans ((Fin.sum_univ_two _).trans ?_)))
  have step : ∀ g : Fin 2, (∑ r : Fin 512, (k0_pay4 (F := Ideal) (lgOf x2) (BitVec.ofNat 32 n.val) (k0_pay6 (lgOf x2) (blk n x3)) (top (ksOf x2 x4))) (ix2 i (at2 g r)) * top x5 (ix2 (at2 g r) e))
      = give x3 x4 x5 l n (wide g) i e := fun g => by
    refine Finset.sum_congr rfl fun j _ => ?_
    rw [top_at]
    refine congrArg (· * _) ?_
    rw [← weight x3 x4 (show wide g < n from by show g.val < n.val; omega)]
    have f : Ideal.exp (lgOf (F := Ideal) x2 (ix2 0 0) * (((gapWord 4294967292#32 (BitVec.ofNat 32 n.val) (BitVec.ofNat 32 (at2 g j).val)).toInt : ℝ) : EReal))
        = decay l (512 * (n.val - (wide g).val - 1) + 1) := by
      have hg : (at2 g j).val / 512 = (wide g).val := by show (512 * g.val + j.val) / 512 = g.val; omega
      rw [lgOf_at x2 hl, exp_word _ _ _ (gap_two n (at2 g j) hn), hg]
    rw [← f]
    have p : (matmul dot_S512x256_S1024x256_S512x1024_1_1_0_0_n_n none (k0_pay6 (F := Ideal) (lgOf x2) (blk n x3)) (top (ksOf (F := Ideal) x2 x4)) (constant S512x1024 .f32 0x00000000#32) : FVec Ideal S512x1024 .f32) (ix2 i (at2 g j))
        = ∑ d : Fin 256, (x3 (ix2 (at' n i) d) * decay l i.val) * (x4 (ix2 (at' (wide g) j) d) * decay l (511 - j.val)) :=
      (prod_wide _ _ i _).trans (Finset.sum_congr rfl fun d _ => congr (congrArg HMul.hMul (qs_at x2 hl _ i d)) (ks_at x2 hl x4 (wide g) j d))
    rw [← p]
    show _ * Ideal.exp (lgOf (F := Ideal) x2 _ * (((gapWord 4294967292#32 (BitVec.ofNat 32 n.val) (BitVec.ofNat 32 (0 * 1024 + (at2 g j).val))).toInt : ℝ) : EReal)) = _
    rw [Nat.zero_mul, Nat.zero_add]
    rfl
  exact congrArg₂ (· + ·) (step 0) (step 1)

omit hl in
theorem give_later {n g : Fin 4} (h : n < g) (i e : Fin 512) : give x3 x4 x5 l n g i e = 0 :=
  Finset.sum_eq_zero fun j _ => by rw [decayAt_later l h, mul_zero, zero_mul]

theorem block_at (n : Fin 4) (i e : Fin 512) :
    block (F := Ideal) (lgOf x2) x3 x4 (ksOf x2 x4) x5 (decOf x2) n (ix2 i e) = ∑ g : Fin 4, give x3 x4 x5 l n g i e := by
  rw [Fin.sum_univ_four]
  match n with
  | 0 =>
    show own (F := Ideal) x3 x4 x5 (decOf x2) 0 (ix2 i e) = _
    rw [own_at x2 hl, give_later x3 x4 x5 (show (0 : Fin 4) < 1 by decide), give_later x3 x4 x5 (show (0 : Fin 4) < 2 by decide),
      give_later x3 x4 x5 (show (0 : Fin 4) < 3 by decide), add_zero, add_zero, add_zero]
  | 1 =>
    show one (F := Ideal) (lgOf x2) x3 (ksOf x2 x4) x5 1 0 (own x3 x4 x5 (decOf x2) 1) (ix2 i e) = _
    rw [one_at x2 hl x3 x4 x5 (n := 1) (g := 0) rfl rfl, own_at x2 hl, give_later x3 x4 x5 (show (1 : Fin 4) < 2 by decide),
      give_later x3 x4 x5 (show (1 : Fin 4) < 3 by decide), add_zero, add_zero]
    exact add_comm _ _
  | 2 =>
    show two (F := Ideal) (lgOf x2) x3 (ksOf x2 x4) x5 2 (own x3 x4 x5 (decOf x2) 2) (ix2 i e) = _
    rw [two_at x2 hl x3 x4 x5 (n := 2) (by decide), own_at x2 hl, give_later x3 x4 x5 (show (2 : Fin 4) < 3 by decide), add_zero]
    exact add_comm _ _
  | 3 =>
    show one (F := Ideal) (lgOf x2) x3 (ksOf x2 x4) x5 3 2 (two (lgOf x2) x3 (ksOf x2 x4) x5 3 (own x3 x4 x5 (decOf x2) 3)) (ix2 i e) = _
    rw [one_at x2 hl x3 x4 x5 (n := 3) (g := 2) rfl rfl, two_at x2 hl x3 x4 x5 (n := 3) (by decide), own_at x2 hl]
    abel

theorem out_at (i : Fin 2048) (e : Fin 512) :
    out (F := Ideal) x2 x3 x4 x5 (ix2 i e) = ∑ j : Fin 2048, (score x3 x4 i j * decayAt l i.val j.val) * x5 (ix2 j e) := by
  have h : out (F := Ideal) x2 x3 x4 x5 (ix2 i e)
      = block (F := Ideal) (lgOf x2) x3 x4 (ksOf x2 x4) x5 (decOf x2) ⟨i.val / 512, by omega⟩ (ix2 ⟨i.val % 512, by omega⟩ e) := rfl
  rw [h, block_at x2 hl, sum_blocks]
  unfold give
  rw [at'_div]

end Values

end Cert.RetFwd

end
-- ==== Proof.RetFwd.Arrays.lean ====
module

public import proofs.«01_k».proof.Proof.Ret.Arrays
public import proofs.«01_k».proof.Proof.RetFwd.Sums
public import proofs.«01_k».proof.Proof.RetFwd.Run
public import Idealize.ShloMosaic.Lib.Pipeline.ValueKit.Geometry

/-! The array the forward pass ends with, as a function of the arguments: per batch row and head, the output in closed
    form. -/

@[expose] public section

set_option maxRecDepth 16384

noncomputable section

namespace Cert.RetFwd

open Kernel36Ideal Kernel36Ideal.Gen
open Ret (part logs logs_at lg whole whole_at pairOf score decayAt)
open Idealize.ShloMosaic TcCoe

section Any

variable {F : FTy → Type} [FloatOps F] (m : (ℓ : Loc nD τ sig) → Buf (Elt F) ℓ)

theorem V_logs (c : Dev nD) : V m c main_v9 = broadcastInDim S4x8x128 ![0, 1, 2] bcast_S4x1x1_S4x8x128_0_1_2 (broadcastInDim S4x1x1 ![0] bcast_S4_S4x1x1_0 (logs (F := F))) := by
  rfl

/-! ## The blocks of a point -/

/-- The batch row and the head of a point. -/
def row (t : Fin cfg0.N) : Fin 2 := ⟨t.val / 4, by have h : t.val < 8 := t.isLt; omega⟩
def hd (t : Fin cfg0.N) : Fin 4 := ⟨t.val % 4, by omega⟩

theorem index : ∀ t : Fin cfg0.N, win0_0.index t = ![t.val % 4, 0, 0] ∧ win0_1.index t = ![t.val / 4, t.val % 4] ∧ win0_2.index t = ![t.val / 4, t.val % 4] ∧ win0_3.index t = ![t.val / 4, t.val % 4] ∧ win0_4.index t = ![t.val / 4, t.val % 4] := (by decide +kernel : ∀ t : Fin grid0.N, _)

theorem block1 (c : Dev nD) (t : Fin cfg0.N) : iblk m c 1 t = part 256 (row t) (hd t) (m (c.tc.loc main_arg0)) := by
  rw [← V_main_arg0 m c]
  funext y
  unfold part row hd
  blk_ext [iblk, index]
theorem block2 (c : Dev nD) (t : Fin cfg0.N) : iblk m c 2 t = part 256 (row t) (hd t) (m (c.tc.loc main_arg1)) := by
  rw [← V_main_arg1 m c]
  funext y
  unfold part row hd
  blk_ext [iblk, index]
theorem block3 (c : Dev nD) (t : Fin cfg0.N) : iblk m c 3 t = part 512 (row t) (hd t) (m (c.tc.loc main_arg2)) := by
  rw [← V_main_arg2 m c]
  funext y
  unfold part row hd
  blk_ext [iblk, index]

theorem block0 (c : Dev nD) (t : Fin cfg0.N) : iblk m c 0 t (ix3 (n0 := 1) (n1 := 8) (n2 := 128) 0 0 0) = logs (F := F) (ix1 (hd t)) := by
  have e : iblk m c 0 t (ix3 (n0 := 1) (n1 := 8) (n2 := 128) 0 0 0) = V m c main_v9 (ix3 (n0 := 4) (n1 := 8) (n2 := 128) (hd t) 0 0) := by
    unfold hd
    blk_ext [iblk, index]
  rw [e, V_logs]
  refine congrArg (logs (F := F)) ?_
  funext a
  match a with
  | ⟨0, _⟩ => rfl

end Any

/-! ## The array the kernel ends with -/

/-- The output, given the queries, keys and values. -/
def ret (q k : S4096x1024.Idx → EReal) (v : S4096x2048.Idx → EReal) (b : Fin 2) (h : Fin 4) (i : Fin 2048) (e : Fin 512) : EReal :=
  ∑ j : Fin 2048, (score (part 256 b h q) (part 256 b h k) i j * decayAt (lg h) i.val j.val) * part 512 b h v (ix2 j e)

variable (m : (ℓ : Loc nD τ sig) → Buf (Elt Ideal) ℓ)

theorem ret_at (c : Dev nD) (t : Fin cfg0.N) (i : Fin 2048) (e : Fin 512) : outAt m c t (ix2 i e)
    = ret (m (c.tc.loc main_arg0)) (m (c.tc.loc main_arg1)) (m (c.tc.loc main_arg2)) (row t) (hd t) i e := by
  unfold outAt ret
  rw [out_at _ ((block0 m c t).trans (logs_at (hd t))), block1, block2, block3]

theorem final (c : Dev nD) : (data m 0 c).arrAt 4 cfg0.N = whole 512 (by decide)
    (ret (m (c.tc.loc main_arg0)) (m (c.tc.loc main_arg1)) (m (c.tc.loc main_arg2))) := by
  refine (data m 0 c).arrAt_eq_of_covers 4 _ (by decide +kernel) fun t hf y => ?_
  blk_simp
  rw [left4]
  obtain ⟨i, d, rfl⟩ := pairOf (a := 2048) (b := 512) y
  refine (ret_at m c t i d).trans (whole_at 512 _ _ _ _ _ _ _ ?_ ?_).symm
  · blk_simp [index]; show t.val / 4 * 2048 + i.val = 2048 * (t.val / 4) + i.val; omega
  · blk_simp [index]; show t.val % 4 * 512 + d.val = 512 * (t.val % 4) + d.val; omega

theorem run_values (ρ : Dev nD → PrngReg) : θ_run defs (onTc (τ := τ) (main (F := Ideal))) ⟨m, fun _ => 0, ρ⟩ (fun r => ∀ c : Dev nD,
      r.2.mem (c.tc.loc main_v10) = whole 512 (by decide)
        (ret (m (c.tc.loc main_arg0)) (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  (θ_run defs _ _).mono (fun r h c => ⟨((h.2 c).1 4).trans (final m c), h.1.1 c⟩)
    (θ_run_and (framed m ρ) (ends_arrays m ρ))

end Cert.RetFwd

end
-- ==== Proof.RetFwd.Ref.lean ====
module

public import proofs.«01_k».proof.Proof.Ret.Ref
public import proofs.«01_k».proof.Proof.RetFwd.Arrays
public import proofs.«01_k».proof.Proof.Gen.Reference36Ideal.Run

/-! The forward pass's reference at an index: the same sum over all positions. -/

@[expose] public section

set_option maxRecDepth 16384

noncomputable section

namespace Cert.RetFwd.Ref

open Reference36Ideal Reference36Ideal.Gen
open Ret (whole rowOf posOf)
open Ret.Ref (heads512 heads512_at scores scores_at)
open Idealize.ShloMosaic TcCoe

section Result

variable (q k : FVec Ideal S4096x1024 .bf16) (v : FVec Ideal S4096x2048 .bf16)

def result : FVec Ideal S4096x2048 .f32 :=
  shapeCast S4096x2048 (transpose S2x2048x4x512 [0, 3, 1, 2] (Host.dotGeneral dot_S2x2048x4x512_S2x4x2048x2048_S2x4x512x2048_1_3_3_2_02_01 none (heads512 v) (scores q k))
    transposes_S2x4x512x2048_S2x2048x4x512_0_3_1_2) shapeCasts_S2x2048x4x512_S4096x2048

theorem result_eq : result q k v = whole 512 (by decide) (ret q k v) := by
  funext y
  unfold result
  simp only [pointwise]
  refine (transpose_apply _ _ _ _ (ix4 (rowOf (y 0)) ⟨(y 1).val / 512, by have h1 : (y 1).val < 2048 := (y 1).isLt; omega⟩ ⟨(y 1).val % 512, by omega⟩ (posOf (y 0)))
    fun c => match c with | ⟨0, _⟩ => rfl | ⟨1, _⟩ => rfl | ⟨2, _⟩ => rfl | ⟨3, _⟩ => rfl).trans ?_
  simp only [pointwise]
  unfold whole ret
  refine (zero_add _).trans (Finset.sum_congr rfl fun j _ => ?_)
  rw [heads512_at, scores_at]
  exact mul_comm _ _

end Result

theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v41) = whole 512 (by decide)
        (ret (m (c.tc.loc main_arg0)) (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  (θ_run defs _ _).mono (fun r h c => ⟨(h c).1.trans (result_eq _ _ _), (h c).2⟩) (Value.run m ρ)

end Cert.RetFwd.Ref

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ret.Same
public import proofs.«01_k».proof.Proof.Ret.Arrays
public import proofs.«01_k».proof.Proof.Ret.Ref
public import proofs.«01_k».proof.Proof.Dx.Same
public import proofs.«01_k».proof.Proof.Dx.Arrays
public import proofs.«01_k».proof.Proof.Dx.Ref
public import proofs.«01_k».proof.Proof.Gen.Kernel37.Frame
public import proofs.«01_k».proof.Proof.Conv.Arrays
public import proofs.«01_k».proof.Proof.Conv.Ref
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Dx3.Arrays
public import proofs.«01_k».proof.Proof.Dx3.Ref
public import proofs.«01_k».proof.Proof.Mm.FfnInDw
public import proofs.«01_k».proof.Proof.Mm.RetInDw
public import proofs.«01_k».proof.Proof.Mm.OutDx
public import proofs.«01_k».proof.Proof.Mm.OutDw
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Mm.FfnIn
public import proofs.«01_k».proof.Proof.Mm.RetIn
public import proofs.«01_k».proof.Proof.Mm.RetOutDx
public import proofs.«01_k».proof.Proof.Mm.RetOutDw
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Mm.FfnOut
public import proofs.«01_k».proof.Proof.Mm.RetOut
public import proofs.«01_k».proof.Proof.Mm.MlaOut
public import proofs.«01_k».proof.Proof.Mm.Loss
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Mm.MlaIn
public import proofs.«01_k».proof.Proof.Mm.MlaQb
public import proofs.«01_k».proof.Proof.Mm.MlaKvb
public import proofs.«01_k».proof.Proof.Mm.MlaOutDx
public import proofs.«01_k».proof.Proof.Mm.MlaQbDx
public import proofs.«01_k».proof.Proof.Mm.MlaKvbDx
public import proofs.«01_k».proof.Proof.Mm.MlaOutDw
public import proofs.«01_k».proof.Proof.Mm.MlaQbDw
public import proofs.«01_k».proof.Proof.Mm.MlaKvbDw
public import proofs.«01_k».proof.Proof.Mm.MlaInDw
public import proofs.«01_k».proof.Proof.Mm.MlaInDx
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Kernel38.Frame
public import proofs.«01_k».proof.Proof.Gen.Kernel38Ideal.Value
public import proofs.«01_k».proof.Proof.Gen.Reference38Ideal.Run
public import proofs.«01_k».proof.Proof.Gen.Kernel39.Frame
public import proofs.«01_k».proof.Proof.Gen.Kernel39Ideal.Value
public import proofs.«01_k».proof.Proof.Gen.Reference39Ideal.Run
public import proofs.«01_k».proof.Proof.Mm.RetNorm
public import proofs.«01_k».proof.Proof.Mm.RetGate
public import proofs.«01_k».proof.Proof.Mm.RetRope
public import proofs.«01_k».proof.Proof.Conv.Fwd
public import proofs.«01_k».proof.Proof.Gen.Kernel40.Frame
public import proofs.«01_k».proof.Proof.Gen.Kernel40Ideal.Value
public import proofs.«01_k».proof.Proof.Gen.Reference40Ideal.Run
public import proofs.«01_k».proof.Proof.Gen.Kernel41.Frame
public import proofs.«01_k».proof.Proof.Gen.Kernel41Ideal.Value
public import proofs.«01_k».proof.Proof.Gen.Reference41Ideal.Run
public import proofs.«01_k».proof.Proof.Gen.Kernel42.Frame
public import proofs.«01_k».proof.Proof.Gen.Kernel42Ideal.Value
public import proofs.«01_k».proof.Proof.Gen.Reference42Ideal.Run
public import proofs.«01_k».proof.Proof.Mm.AdamW
public import proofs.«01_k».proof.Proof.RetFwd.Same
public import proofs.«01_k».proof.Proof.RetFwd.Arrays
public import proofs.«01_k».proof.Proof.RetFwd.Ref

/-! The claim. For each call: that the kernel, over the machine's values and over the ideal ones, and the reference end and keep their
    arguments, and that the ideal kernel and the ideal reference end with the same arrays (`algebraic…`). -/

@[expose] public section

namespace Cert.Proof

open Idealize.ShloMosaic Idealize.SL.Sem

/-! ## The retention's backward call -/

/-- The ideal kernel's frame. -/
theorem frame_ideal : quiescent_KernelIdeal := fun m ρ _ => Ret.framed (F := Ideal) m ρ

theorem same {α β γ δ : Type} (f : α → β → γ → δ) {a a' : α} {b b' : β} {c c' : γ} (ha : a = a') (hb : b = b') (hc : c = c') :
    f a b c = f a' b' c' := by
  subst ha hb hc
  rfl

theorem algebraic : algebraic_KernelIdeal_ReferenceIdeal := by
  intro m ρ m' ρ' _ e
  refine ⟨_, _, _, Ret.run_values m ρ, (θ_run _ _ _).mono (fun r h c => ?_) (Ret.Ref.run_values m' ρ')⟩
  have h := h c
  have e0 := (e c).1
  have e1 := (e c).2.1
  have e2 := (e c).2.2.1
  have e3 := (e c).2.2.2
  refine ⟨h.1.trans ?_, h.2.1.trans ?_, h.2.2.1.trans ?_, h.2.2.2⟩
  · exact same (fun a b c => Ret.whole 256 (by decide) (Ret.gradQ a b c)) e1 e2 e3
  · exact same (fun a b c => Ret.whole 256 (by decide) (Ret.gradK a b c)) e0 e2 e3
  · exact same (fun a b c => Ret.whole 512 (by decide) (Ret.gradV a b c)) e0 e1 e3

/-! ## The backward call of the first block's input -/

theorem same6 {α β γ δ ε ζ η : Type} (f : α → β → γ → δ → ε → ζ → η) {a a' : α} {b b' : β} {c c' : γ} {d d' : δ} {e e' : ε} {z z' : ζ}
    (ha : a = a') (hb : b = b') (hc : c = c') (hd : d = d') (he : e = e') (hz : z = z') : f a b c d e z = f a' b' c' d' e' z' := by
  subst ha hb hc hd he hz
  rfl

theorem algebraic2 : algebraic_Kernel2Ideal_Reference2Ideal := by
  intro m ρ m' ρ' _ e
  refine ⟨_, _, _, Dx.run_values m ρ, (θ_run _ _ _).mono (fun r h c => ?_) (Dx.Ref.run_values m' ρ')⟩
  have h := h c
  obtain ⟨e0, e1, e2, e3, e4, e5⟩ := e c
  have ex : Dx.Ref.xGrad m' c = Dx.xGrad m c :=
    same6 (fun a b w x g s => Dx.gradX (Dx.back (n := 4096) (p := 4096) (q := 2048) a b w) x g s) e0 e1 e2 e3 e4 e5
  have eg : Dx.Ref.gGrad m' c = Dx.gGrad m c :=
    same6 (fun a b w x _ _ => Dx.gradG (Dx.back (n := 4096) (p := 4096) (q := 2048) a b w) x) e0 e1 e2 e3 e4 e5
  exact ⟨h.1.trans ex, h.2.1.trans ex, h.2.2.1.trans eg, h.2.2.2⟩

/-! ## The backward call of the FFN's input -/

theorem algebraic3 : algebraic_Kernel3Ideal_Reference3Ideal := by
  intro m ρ m' ρ' _ e
  refine ⟨_, _, _, Dx3.run_values m ρ, (θ_run _ _ _).mono (fun r h c => ?_) (Dx3.Ref.run_values m' ρ')⟩
  have h := h c
  obtain ⟨e0, e1, e2, e3, e4, e5, e6⟩ := e c
  have ex : Dx3.Ref.xGrad m' c = Dx3.xGrad m c :=
    same6 (fun a b w x g s => Dx.gradX (Dx.back (n := 4096) (p := 2816) (q := 2816) a b w) x g s) e0 e1 e2 e3 e4 e5
  have eg : Dx3.Ref.gGrad m' c = Dx3.gGrad m c :=
    same6 (fun a b w x _ _ => Dx.gradG (Dx.back (n := 4096) (p := 2816) (q := 2816) a b w) x) e0 e1 e2 e3 e4 e5
  exact ⟨h.1.trans ex, h.2.1.trans ex, h.2.2.1.trans eg, h.2.2.2⟩

/-! ## The gradient of the FFN's input weights -/

theorem algebraic4 : algebraic_Kernel4Ideal_Reference4Ideal := by
  intro m ρ m' ρ' _ e
  refine ⟨_, Mm.FfnInDw.run_values m ρ, (θ_run _ _ _).mono (fun r h c => ?_) (Mm.FfnInDw.Ref.run_values m' ρ')⟩
  obtain ⟨e0, e1, e2⟩ := e c
  exact ⟨(h c).1.trans (same (fun x d e => Mm.slots (s := 4) (a := 1024) (n := 1408) (b := 4096) (p := 2816) (q := 2816) x d e) e0 e1 e2), (h c).2⟩

/-! ## The gradient of the retention block's input weights -/

theorem algebraic5 : algebraic_Kernel5Ideal_Reference5Ideal := by
  intro m ρ m' ρ' _ e
  refine ⟨_, Mm.RetInDw.run_values m ρ, (θ_run _ _ _).mono (fun r h c => ?_) (Mm.RetInDw.Ref.run_values m' ρ')⟩
  obtain ⟨e0, e1, e2, e3⟩ := e c
  exact ⟨(h c).1.trans (same (fun x d e => Mm.slots (s := 4) (a := 1024) (n := 1536) (b := 4096) (p := 4096) (q := 2048) x d e) e0 e1 e2), (h c).2⟩

/-! ## The gradient passed back through the FFN's output weights -/

theorem algebraic6 : algebraic_Kernel6Ideal_Reference6Ideal := by
  intro m ρ m' ρ' _ e
  refine ⟨_, Mm.OutDx.run_values m ρ, (θ_run _ _ _).mono (fun r h c => ?_) (Mm.OutDx.Ref.run_values m' ρ')⟩
  obtain ⟨e0, e1⟩ := e c
  exact ⟨(h c).1.trans (congrArg₂ (fun x w => Mm.rows (a := 4096) (b := 2816) (n := 1024) x w) e0 e1), (h c).2⟩

/-! ## The gradient of the FFN's output weights -/

theorem algebraic7 : algebraic_Kernel7Ideal_Reference7Ideal := by
  intro m ρ m' ρ' _ e
  refine ⟨_, Mm.OutDw.run_values m ρ, (θ_run _ _ _).mono (fun r h c => ?_) (Mm.OutDw.Ref.run_values m' ρ')⟩
  obtain ⟨e0, e1⟩ := e c
  exact ⟨(h c).1.trans (congrArg₂ (fun x w => Mm.cols (a := 2816) (b := 1024) (n := 4096) x w) e0 e1), (h c).2⟩

/-! ## The product with the FFN's input weights -/

theorem algebraic8 : algebraic_Kernel8Ideal_Reference8Ideal := by
  intro m ρ m' ρ' _ e
  refine ⟨_, Mm.FfnIn.run_values m ρ, (θ_run _ _ _).mono (fun r h c => ?_) (Mm.FfnIn.Ref.run_values m' ρ')⟩
  obtain ⟨e0, e1⟩ := e c
  exact ⟨(h c).1.trans (congrArg₂ (fun x w => Mm.cols (a := 4096) (b := 5632) (n := 1024) x w) e0 e1), (h c).2⟩

/-! ## The product with the retention block's input weights -/

theorem algebraic9 : algebraic_Kernel9Ideal_Reference9Ideal := by
  intro m ρ m' ρ' _ e
  refine ⟨_, Mm.RetIn.run_values m ρ, (θ_run _ _ _).mono (fun r h c => ?_) (Mm.RetIn.Ref.run_values m' ρ')⟩
  obtain ⟨e0, e1, e2⟩ := e c
  exact ⟨(h c).1.trans (congrArg₂ (fun x w => Mm.cols (a := 4096) (b := 6144) (n := 1024) x w) e0 e1), (h c).2⟩

/-! ## The gradient passed back through the retention block's output weights -/

theorem algebraic10 : algebraic_Kernel10Ideal_Reference10Ideal := by
  intro m ρ m' ρ' _ e
  refine ⟨_, Mm.RetOutDx.run_values m ρ, (θ_run _ _ _).mono (fun r h c => ?_) (Mm.RetOutDx.Ref.run_values m' ρ')⟩
  obtain ⟨e0, e1⟩ := e c
  exact ⟨(h c).1.trans (congrArg₂ (fun x w => Mm.rows (a := 4096) (b := 2048) (n := 1024) x w) e0 e1), (h c).2⟩

/-! ## The gradient of the retention block's output weights -/

theorem algebraic11 : algebraic_Kernel11Ideal_Reference11Ideal := by
  intro m ρ m' ρ' _ e
  refine ⟨_, Mm.RetOutDw.run_values m ρ, (θ_run _ _ _).mono (fun r h c => ?_) (Mm.RetOutDw.Ref.run_values m' ρ')⟩
  obtain ⟨e0, e1⟩ := e c
  exact ⟨(h c).1.trans (congrArg₂ (fun x w => Mm.cols (a := 2048) (b := 1024) (n := 4096) x w) e0 e1), (h c).2⟩

/-- Functions of four equal arguments are equal. -/
theorem same4 {A B C D R : Type} (f : A → B → C → D → R) {a a' : A} {b b' : B} {c c' : C} {d d' : D} (ha : a' = a) (hb : b' = b) (hc : c' = c) (hd : d' = d) :
    f a' b' c' d' = f a b c d := by
  rw [ha, hb, hc, hd]

/-! ## The end of the first FFN block -/

theorem algebraic12 : algebraic_Kernel12Ideal_Reference12Ideal := by
  intro m ρ m' ρ' _ e
  refine ⟨_, _, _, Mm.FfnOut.run_values m ρ, (θ_run _ _ _).mono (fun r h c => ?_) (Mm.FfnOut.Ref.run_values m' ρ')⟩
  have h := h c
  obtain ⟨e0, e1, e2, e3⟩ := e c
  have ex : Mm.FfnOut.Ref.sumOf m' c = Mm.FfnOut.sumOf m c := same4 (fun u w x _ => Mm.summed (a := 4096) (n := 2816) u w x) e0 e1 e2 e3
  have en : Mm.FfnOut.Ref.normOf m' c = Mm.FfnOut.normOf m c := same4 (fun u w x g => Mm.normed (Mm.summed (a := 4096) (n := 2816) u w x) g) e0 e1 e2 e3
  have et : Mm.FfnOut.Ref.normTOf m' c = Mm.FfnOut.normTOf m c := same4 (fun u w x g => Mm.normedT (Mm.summed (a := 4096) (n := 2816) u w x) g) e0 e1 e2 e3
  exact ⟨h.1.trans ex, h.2.1.trans en, h.2.2.1.trans et, h.2.2.2⟩

/-! ## The end of the retention block -/

theorem algebraic13 : algebraic_Kernel13Ideal_Reference13Ideal := by
  intro m ρ m' ρ' _ e
  refine ⟨_, _, _, Mm.RetOut.run_values m ρ, (θ_run _ _ _).mono (fun r h c => ?_) (Mm.RetOut.Ref.run_values m' ρ')⟩
  have h := h c
  obtain ⟨e0, e1, e2, e3⟩ := e c
  have ex : Mm.RetOut.Ref.sumOf m' c = Mm.RetOut.sumOf m c := same4 (fun u w x _ => Mm.summed (a := 4096) (n := 2048) u w x) e0 e1 e2 e3
  have en : Mm.RetOut.Ref.normOf m' c = Mm.RetOut.normOf m c := same4 (fun u w x g => Mm.normed (Mm.summed (a := 4096) (n := 2048) u w x) g) e0 e1 e2 e3
  have et : Mm.RetOut.Ref.normTOf m' c = Mm.RetOut.normTOf m c := same4 (fun u w x g => Mm.normedT (Mm.summed (a := 4096) (n := 2048) u w x) g) e0 e1 e2 e3
  exact ⟨h.1.trans ex, h.2.1.trans en, h.2.2.1.trans et, h.2.2.2⟩

/-! ## The end of the attention block -/

theorem algebraic14 : algebraic_Kernel14Ideal_Reference14Ideal := by
  intro m ρ m' ρ' _ e
  refine ⟨_, _, _, Mm.MlaOut.run_values m ρ, (θ_run _ _ _).mono (fun r h c => ?_) (Mm.MlaOut.Ref.run_values m' ρ')⟩
  have h := h c
  obtain ⟨e0, e1, e2, e3⟩ := e c
  have ex : Mm.MlaOut.Ref.sumOf m' c = Mm.MlaOut.sumOf m c := same4 (fun u w x _ => Mm.summed (a := 4096) (n := 1024) u w x) e0 e1 e2 e3
  have en : Mm.MlaOut.Ref.normOf m' c = Mm.MlaOut.normOf m c := same4 (fun u w x g => Mm.normed (Mm.summed (a := 4096) (n := 1024) u w x) g) e0 e1 e2 e3
  have et : Mm.MlaOut.Ref.normTOf m' c = Mm.MlaOut.normTOf m c := same4 (fun u w x g => Mm.normedT (Mm.summed (a := 4096) (n := 1024) u w x) g) e0 e1 e2 e3
  exact ⟨h.1.trans ex, h.2.1.trans en, h.2.2.1.trans et, h.2.2.2⟩

/-! ## The end of the last FFN block, with the loss -/

theorem algebraic15 : algebraic_Kernel15Ideal_Reference15Ideal := by
  intro m ρ m' ρ' _ e
  refine ⟨_, _, _, Mm.Loss.run_values m ρ, (θ_run _ _ _).mono (fun r h c => ?_) (Mm.Loss.Ref.run_values m' ρ')⟩
  have h := h c
  obtain ⟨e0, e1, e2, e3⟩ := e c
  have ee : Mm.Loss.Ref.errs m' c = Mm.Loss.errs m c := same4 (fun u w x t => Mm.errOf (Mm.summed (a := 4096) (n := 2816) u w x) t) e0 e1 e2 e3
  exact ⟨h.1.trans (congrArg Mm.gradOf ee), h.2.1.trans (congrArg Mm.gradOf ee), h.2.2.1.trans (congrArg (fun o => fun _ => Mm.lossOf o) ee), h.2.2.2⟩

/-! ## The attention block's input product -/

theorem algebraic16 : algebraic_Kernel16Ideal_Reference16Ideal := by
  intro m ρ m' ρ' _ e
  refine ⟨_, Mm.MlaIn.run_values m ρ, (θ_run _ _ _).mono (fun r h c => ?_) (Mm.MlaIn.Ref.run_values m' ρ')⟩
  obtain ⟨e0, e1⟩ := e c
  exact ⟨(h c).1.trans (congrArg₂ (fun x w => Mm.cols (a := 4096) (b := 768) (n := 1024) x w) e0 e1), (h c).2⟩

/-! ## The attention block's query product -/

theorem algebraic17 : algebraic_Kernel17Ideal_Reference17Ideal := by
  intro m ρ m' ρ' _ e
  refine ⟨_, Mm.MlaQb.run_values m ρ, (θ_run _ _ _).mono (fun r h c => ?_) (Mm.MlaQb.Ref.run_values m' ρ')⟩
  obtain ⟨e0, e1⟩ := e c
  exact ⟨(h c).1.trans (congrArg₂ (fun x w => Mm.cols (a := 4096) (b := 2048) (n := 384) x w) e0 e1), (h c).2⟩

/-! ## The attention block's key and value product -/

theorem algebraic18 : algebraic_Kernel18Ideal_Reference18Ideal := by
  intro m ρ m' ρ' _ e
  refine ⟨_, Mm.MlaKvb.run_values m ρ, (θ_run _ _ _).mono (fun r h c => ?_) (Mm.MlaKvb.Ref.run_values m' ρ')⟩
  obtain ⟨e0, e1⟩ := e c
  exact ⟨(h c).1.trans (congrArg₂ (fun x w => Mm.cols (a := 4096) (b := 2048) (n := 256) x w) e0 e1), (h c).2⟩

/-! ## The gradient passed back through the attention block's output weights -/

theorem algebraic19 : algebraic_Kernel19Ideal_Reference19Ideal := by
  intro m ρ m' ρ' _ e
  refine ⟨_, Mm.MlaOutDx.run_values m ρ, (θ_run _ _ _).mono (fun r h c => ?_) (Mm.MlaOutDx.Ref.run_values m' ρ')⟩
  obtain ⟨e0, e1⟩ := e c
  exact ⟨(h c).1.trans (congrArg₂ (fun x w => Mm.rows (a := 4096) (b := 1024) (n := 1024) x w) e0 e1), (h c).2⟩

/-! ## The gradient passed back through the attention block's query weights -/

theorem algebraic20 : algebraic_Kernel20Ideal_Reference20Ideal := by
  intro m ρ m' ρ' _ e
  refine ⟨_, Mm.MlaQbDx.run_values m ρ, (θ_run _ _ _).mono (fun r h c => ?_) (Mm.MlaQbDx.Ref.run_values m' ρ')⟩
  obtain ⟨e0, e1⟩ := e c
  exact ⟨(h c).1.trans (congrArg₂ (fun x w => Mm.rows (a := 4096) (b := 384) (n := 2048) x w) e0 e1), (h c).2⟩

/-! ## The gradient passed back through the attention block's key and value weights -/

theorem algebraic21 : algebraic_Kernel21Ideal_Reference21Ideal := by
  intro m ρ m' ρ' _ e
  refine ⟨_, Mm.MlaKvbDx.run_values m ρ, (θ_run _ _ _).mono (fun r h c => ?_) (Mm.MlaKvbDx.Ref.run_values m' ρ')⟩
  obtain ⟨e0, e1⟩ := e c
  exact ⟨(h c).1.trans (congrArg₂ (fun x w => Mm.rows (a := 4096) (b := 256) (n := 2048) x w) e0 e1), (h c).2⟩

/-! ## The gradient of the attention block's output weights -/

theorem algebraic22 : algebraic_Kernel22Ideal_Reference22Ideal := by
  intro m ρ m' ρ' _ e
  refine ⟨_, Mm.MlaOutDw.run_values m ρ, (θ_run _ _ _).mono (fun r h c => ?_) (Mm.MlaOutDw.Ref.run_values m' ρ')⟩
  obtain ⟨e0, e1⟩ := e c
  exact ⟨(h c).1.trans (congrArg₂ (fun x w => Mm.overs (a := 1024) (b := 1024) (n := 4096) x w) e0 e1), (h c).2⟩

/-! ## The gradient of the attention block's query weights -/

theorem algebraic23 : algebraic_Kernel23Ideal_Reference23Ideal := by
  intro m ρ m' ρ' _ e
  refine ⟨_, Mm.MlaQbDw.run_values m ρ, (θ_run _ _ _).mono (fun r h c => ?_) (Mm.MlaQbDw.Ref.run_values m' ρ')⟩
  obtain ⟨e0, e1⟩ := e c
  exact ⟨(h c).1.trans (congrArg₂ (fun x w => Mm.overs (a := 384) (b := 2048) (n := 4096) x w) e0 e1), (h c).2⟩

/-! ## The gradient of the attention block's key and value weights -/

theorem algebraic24 : algebraic_Kernel24Ideal_Reference24Ideal := by
  intro m ρ m' ρ' _ e
  refine ⟨_, Mm.MlaKvbDw.run_values m ρ, (θ_run _ _ _).mono (fun r h c => ?_) (Mm.MlaKvbDw.Ref.run_values m' ρ')⟩
  obtain ⟨e0, e1⟩ := e c
  exact ⟨(h c).1.trans (congrArg₂ (fun x w => Mm.oversIn (s := 4) (a := 256) (b := 512) (n := 4096) x w) e0 e1), (h c).2⟩

/-! ## The gradient of the attention block's input weights -/

theorem algebraic25 : algebraic_Kernel25Ideal_Reference25Ideal := by
  intro m ρ m' ρ' _ e
  refine ⟨_, Mm.MlaInDw.run_values m ρ, (θ_run _ _ _).mono (fun r h c => ?_) (Mm.MlaInDw.Ref.run_values m' ρ')⟩
  obtain ⟨e0, e1⟩ := e c
  exact ⟨(h c).1.trans (congrArg₂ (fun x w => Mm.overs (a := 1024) (b := 768) (n := 4096) x w) e0 e1), (h c).2⟩

/-! ## The gradient passed back through the attention block's input product and norm -/

theorem algebraic26 : algebraic_Kernel26Ideal_Reference26Ideal := by
  intro m ρ m' ρ' _ e
  refine ⟨_, _, _, Mm.MlaInDx.run_values m ρ, (θ_run _ _ _).mono (fun r h c => ?_) (Mm.MlaInDx.Ref.run_values m' ρ')⟩
  have h := h c
  obtain ⟨e0, e1, e2, e3, e4, e5⟩ := e c
  have ex : Mm.MlaInDx.Ref.xGrad m' c = Mm.MlaInDx.xGrad m c :=
    same6 (fun a w x g s _ => Dx.gradX (Mm.MlaInDx.through (n := 4096) a w) x g s) e0 e1 e2 e3 e4 e5
  have eg : Mm.MlaInDx.Ref.gGrad m' c = Mm.MlaInDx.gGrad m c :=
    same6 (fun a w x _ _ _ => Dx.gradG (Mm.MlaInDx.through (n := 4096) a w) x) e0 e1 e2 e3 e4 e5
  exact ⟨h.1.trans ex, h.2.1.trans ex, h.2.2.1.trans eg, h.2.2.2⟩

/-- A step's three results of equal arguments are equal. -/
theorem stepped {S : Shape} {w g m v w' g' m' v' x y z : FVec Ideal S .f32} {R : Prop} (e0 : w' = w) (e1 : g' = g) (e2 : m' = m) (e3 : v' = v)
    (h : x = AdamW.change w' g' m' v' ∧ y = AdamW.first g' m' ∧ z = AdamW.second g' v' ∧ R) :
    x = AdamW.change w g m v ∧ y = AdamW.first g m ∧ z = AdamW.second g v ∧ R := by
  subst e0 e1 e2 e3
  exact h

/-! ## The step of the attention block's input weights -/

theorem algebraic27 : algebraic_Kernel27Ideal_Reference27Ideal := by
  intro m ρ m' ρ' _ e
  refine ⟨_, _, _, Kernel27Ideal.Value.run (F := Ideal) m ρ, (θ_run _ _ _).mono (fun r h c => ?_) (Reference27Ideal.Value.run (F := Ideal) m' ρ')⟩
  obtain ⟨e0, e1, e2, e3⟩ := e c
  exact stepped e0 e1 e2 e3 (h c)

/-! ## The step of the attention block's query weights -/

theorem algebraic28 : algebraic_Kernel28Ideal_Reference28Ideal := by
  intro m ρ m' ρ' _ e
  refine ⟨_, _, _, Kernel28Ideal.Value.run (F := Ideal) m ρ, (θ_run _ _ _).mono (fun r h c => ?_) (Reference28Ideal.Value.run (F := Ideal) m' ρ')⟩
  obtain ⟨e0, e1, e2, e3⟩ := e c
  exact stepped e0 e1 e2 e3 (h c)

/-! ## The step of the attention block's key and value weights -/

theorem algebraic29 : algebraic_Kernel29Ideal_Reference29Ideal := by
  intro m ρ m' ρ' _ e
  refine ⟨_, _, _, Kernel29Ideal.Value.run (F := Ideal) m ρ, (θ_run _ _ _).mono (fun r h c => ?_) (Reference29Ideal.Value.run (F := Ideal) m' ρ')⟩
  obtain ⟨e0, e1, e2, e3⟩ := e c
  exact stepped e0 e1 e2 e3 (h c)

/-! ## The step of the attention block's output weights -/

theorem algebraic30 : algebraic_Kernel30Ideal_Reference30Ideal := by
  intro m ρ m' ρ' _ e
  refine ⟨_, _, _, Kernel30Ideal.Value.run (F := Ideal) m ρ, (θ_run _ _ _).mono (fun r h c => ?_) (Reference30Ideal.Value.run (F := Ideal) m' ρ')⟩
  obtain ⟨e0, e1, e2, e3⟩ := e c
  exact stepped e0 e1 e2 e3 (h c)

/-! ## The step of the FFN's input weights -/

theorem algebraic31 : algebraic_Kernel31Ideal_Reference31Ideal := by
  intro m ρ m' ρ' _ e
  refine ⟨_, _, _, Kernel31Ideal.Value.run (F := Ideal) m ρ, (θ_run _ _ _).mono (fun r h c => ?_) (Reference31Ideal.Value.run (F := Ideal) m' ρ')⟩
  obtain ⟨e0, e1, e2, e3⟩ := e c
  exact stepped e0 e1 e2 e3 (h c)

/-! ## The step of the FFN's output weights -/

theorem algebraic32 : algebraic_Kernel32Ideal_Reference32Ideal := by
  intro m ρ m' ρ' _ e
  refine ⟨_, _, _, Kernel32Ideal.Value.run (F := Ideal) m ρ, (θ_run _ _ _).mono (fun r h c => ?_) (Reference32Ideal.Value.run (F := Ideal) m' ρ')⟩
  obtain ⟨e0, e1, e2, e3⟩ := e c
  exact stepped e0 e1 e2 e3 (h c)

/-! ## The step of the retention block's output weights -/

theorem algebraic33 : algebraic_Kernel33Ideal_Reference33Ideal := by
  intro m ρ m' ρ' _ e
  refine ⟨_, _, _, Kernel33Ideal.Value.run (F := Ideal) m ρ, (θ_run _ _ _).mono (fun r h c => ?_) (Reference33Ideal.Value.run (F := Ideal) m' ρ')⟩
  obtain ⟨e0, e1, e2, e3⟩ := e c
  exact stepped e0 e1 e2 e3 (h c)

/-! ## The step of the retention block's input weights -/

theorem algebraic34 : algebraic_Kernel34Ideal_Reference34Ideal := by
  intro m ρ m' ρ' _ e
  refine ⟨_, _, _, Kernel34Ideal.Value.run (F := Ideal) m ρ, (θ_run _ _ _).mono (fun r h c => ?_) (Reference34Ideal.Value.run (F := Ideal) m' ρ')⟩
  obtain ⟨e0, e1, e2, e3⟩ := e c
  exact stepped e0 e1 e2 e3 (h c)

/-! ## The step of the ten small weights, packed -/

theorem algebraic35 : algebraic_Kernel35Ideal_Reference35Ideal := by
  intro m ρ m' ρ' _ e
  refine ⟨_, _, _, Kernel35Ideal.Value.run (F := Ideal) m ρ, (θ_run _ _ _).mono (fun r h c => ?_) (Reference35Ideal.Value.run (F := Ideal) m' ρ')⟩
  obtain ⟨e0, e1, e2, e3⟩ := e c
  exact stepped e0 e1 e2 e3 (h c)

/-! ## The backward call of the FFN's convolution -/

theorem algebraic37 : algebraic_Kernel37Ideal_Reference37Ideal := by
  intro m ρ m' ρ' _ e
  refine ⟨_, _, _, Conv.run_values m ρ, (θ_run _ _ _).mono (fun r h c => ?_) (Conv.Ref.run_values m' ρ')⟩
  obtain ⟨e0, e1, e2⟩ := e c
  have h := h c
  exact ⟨h.1.trans (same (fun x y z => Conv.gradA x y z) e0 e1 e2), h.2.1.trans (same (fun x y z => Conv.gradG x y z) e0 e1 e2),
    h.2.2.1.trans (same (fun x y z => Conv.gradW x y z) e0 e1 e2), h.2.2.2⟩

/-! ## The forward call of the FFN's convolution -/

theorem algebraic38 : algebraic_Kernel38Ideal_Reference38Ideal := by
  intro m ρ m' ρ' _ e
  refine ⟨_, _, Conv.Fwd.run_values m ρ, (θ_run _ _ _).mono (fun r h c => ?_) (Conv.Fwd.Ref.run_values m' ρ')⟩
  obtain ⟨e0, e1⟩ := e c
  have h := h c
  exact ⟨h.1.trans (congrArg₂ (fun x y => Conv.prodOf x y) e0 e1), h.2.1.trans (congrArg₂ (fun x y => Conv.prodTOf x y) e0 e1), h.2.2⟩

/-! ## The first block's norm -/

theorem algebraic39 : algebraic_Kernel39Ideal_Reference39Ideal := by
  intro m ρ m' ρ' _ e
  refine ⟨_, _, Mm.RetNorm.run_values m ρ, (θ_run _ _ _).mono (fun r h c => ?_) (Mm.RetNorm.Ref.run_values m' ρ')⟩
  obtain ⟨e0, e1⟩ := e c
  have h := h c
  exact ⟨h.1.trans (congrArg₂ (fun x y => Mm.normed (a := 4096) x y) e0 e1), h.2.1.trans (congrArg₂ (fun x y => Mm.normedT (a := 4096) x y) e0 e1), h.2.2⟩

/-! ## The retention's gate -/

theorem algebraic40 : algebraic_Kernel40Ideal_Reference40Ideal := by
  intro m ρ m' ρ' _ e
  refine ⟨_, _, Mm.RetGate.run_values m ρ, (θ_run _ _ _).mono (fun r h c => ?_) (Mm.RetGate.Ref.run_values m' ρ')⟩
  obtain ⟨e0, e1, e2⟩ := e c
  have h := h c
  have g := same (fun x p g => Mm.RetGate.gate (a := 4096) x (Mm.RetGate.upper (a := 4096) p) g) e0 e1 e2
  exact ⟨h.1.trans g, h.2.1.trans (congrArg (fun x => Mm.RetGate.flip (a := 4096) (b := 2048) x) g), h.2.2⟩

/-! ## The norms of the latents -/

theorem algebraic41 : algebraic_Kernel41Ideal_Reference41Ideal := by
  intro m ρ m' ρ' _ e
  refine ⟨_, _, _, Mm.MlaLat.run_values m ρ, (θ_run _ _ _).mono (fun r h c => ?_) (Mm.MlaLat.Ref.run_values m' ρ')⟩
  obtain ⟨e0, e1, e2⟩ := e c
  have h := h c
  exact ⟨h.1.trans (congrArg₂ (fun x g => Mm.MlaLat.lat (a := 4096) 384 0 (by omega) Mm.MlaLat.widthQ x g) e0 e1),
    h.2.1.trans (congrArg₂ (fun x g => Mm.MlaLat.lat (a := 4096) 256 384 (by omega) Mm.MlaLat.widthK x g) e0 e2),
    h.2.2.1.trans (congrArg (fun x => (fun y => Mm.MlaLat.part (a := 4096) 128 640 (by omega) x (y 0) (y 1) : Kernel41Ideal.S4096x128.Idx → EReal)) e0), h.2.2.2⟩

/-! ## The retention's rotation -/

theorem algebraic42 : algebraic_Kernel42Ideal_Reference42Ideal := by
  intro m ρ m' ρ' _ e
  refine ⟨_, _, _, Mm.RetRope.run_values m ρ, (θ_run _ _ _).mono (fun r h c => ?_) (Mm.RetRope.Ref.run_values m' ρ')⟩
  obtain ⟨e0, e1, e2⟩ := e c
  have h := h c
  exact ⟨h.1.trans (same (fun x c s => Mm.RetRope.turnOf 0 (by decide) x c s) e0 e1 e2),
    h.2.1.trans (same (fun x c s => Mm.RetRope.scaled (Mm.RetRope.turnOf 1024 (by decide) x c s)) e0 e1 e2),
    h.2.2.1.trans (congrArg (fun x => Mm.RetRope.third (a := 4096) (b := 6144) (by decide) x) e0), h.2.2.2⟩

/-! ## The retention's forward call -/

/-- The ideal kernel's frame. -/
theorem frame_ideal36 : quiescent_Kernel36Ideal := fun m ρ _ => RetFwd.framed (F := Ideal) m ρ

theorem algebraic36 : algebraic_Kernel36Ideal_Reference36Ideal := by
  intro m ρ m' ρ' _ e
  refine ⟨_, RetFwd.run_values m ρ, (θ_run _ _ _).mono (fun r h c => ?_) (RetFwd.Ref.run_values m' ρ')⟩
  have h := h c
  obtain ⟨e0, e1, e2⟩ := e c
  exact ⟨h.1.trans (same (fun a b c => Ret.whole 512 (by decide) (RetFwd.ret a b c)) e0 e1 e2), h.2⟩

/-- A run of a program with no semaphores leaves none raised. -/
theorem ended {nD : ℕ} {τ : Topo} {sig : RefSig} {Val : EltTy → Type} {Λ} {defs : Defs nD τ sig Val Λ} {p} {s : MemSt nD τ sig Val}
    {P : PUnit × MemSt nD τ sig Val → Prop} {A : PUnit × MemSt nD τ sig Val → Dev nD → Prop} (e : sig.nSem + sig.nDmaSem = 0)
    (g : ∀ r, P r → ∀ c, A r c) (h : θ_run defs p s P) : θ_run defs p s (fun r => (∀ c, A r c) ∧ r.2.sem = fun _ => 0) :=
  (θ_run _ _ _).mono (fun r h => ⟨g r h, sem_eq_zero_of_no_sems e r.2⟩) h

theorem claim : Claim :=
  ⟨inferInstance, inferInstance, inferInstance, Dx.facts, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    Ret.frame_kernel, frame_ideal, fun m ρ _ => ended (by decide) (fun _ h c => (h c).2.2.2) (Ret.Ref.run_values m ρ), Dx.frame_kernel, fun m ρ _ => Kernel2Ideal.Gen.frame m ρ, fun m ρ _ => ended (by decide) (fun _ h c => (h c).2.2.2) (Dx.Ref.run_values m ρ),
    fun m ρ _ => Kernel3.Gen.frame m ρ, fun m ρ _ => Kernel3Ideal.Gen.frame m ρ, fun m ρ _ => ended (by decide) (fun _ h c => (h c).2.2.2) (Dx3.Ref.run_values m ρ),
    fun m ρ _ => Kernel4.Gen.frame m ρ, fun m ρ _ => Kernel4Ideal.Gen.frame m ρ, fun m ρ _ => ended (by decide) (fun _ h c => (h c).2) (Mm.FfnInDw.Ref.run_values m ρ),
    fun m ρ _ => Kernel5.Gen.frame m ρ, fun m ρ _ => Kernel5Ideal.Gen.frame m ρ, fun m ρ _ => ended (by decide) (fun _ h c => (h c).2) (Mm.RetInDw.Ref.run_values m ρ),
    fun m ρ _ => Kernel6.Gen.frame m ρ, fun m ρ _ => Kernel6Ideal.Gen.frame m ρ, fun m ρ _ => ended (by decide) (fun _ h c => (h c).2) (Mm.OutDx.Ref.run_values m ρ),
    fun m ρ _ => Kernel7.Gen.frame m ρ, fun m ρ _ => Kernel7Ideal.Gen.frame m ρ, fun m ρ _ => ended (by decide) (fun _ h c => (h c).2) (Mm.OutDw.Ref.run_values m ρ),
    fun m ρ _ => Kernel8.Gen.frame m ρ, fun m ρ _ => Kernel8Ideal.Gen.frame m ρ, fun m ρ _ => ended (by decide) (fun _ h c => (h c).2) (Mm.FfnIn.Ref.run_values m ρ),
    fun m ρ _ => Kernel9.Gen.frame m ρ, fun m ρ _ => Kernel9Ideal.Gen.frame m ρ, fun m ρ _ => ended (by decide) (fun _ h c => (h c).2) (Mm.RetIn.Ref.run_values m ρ),
    fun m ρ _ => Kernel10.Gen.frame m ρ, fun m ρ _ => Kernel10Ideal.Gen.frame m ρ, fun m ρ _ => ended (by decide) (fun _ h c => (h c).2) (Mm.RetOutDx.Ref.run_values m ρ),
    fun m ρ _ => Kernel11.Gen.frame m ρ, fun m ρ _ => Kernel11Ideal.Gen.frame m ρ, fun m ρ _ => ended (by decide) (fun _ h c => (h c).2) (Mm.RetOutDw.Ref.run_values m ρ),
    fun m ρ _ => Kernel12.Gen.frame m ρ, fun m ρ _ => Kernel12Ideal.Gen.frame m ρ, fun m ρ _ => ended (by decide) (fun _ h c => (h c).2.2.2) (Mm.FfnOut.Ref.run_values m ρ),
    fun m ρ _ => Kernel13.Gen.frame m ρ, fun m ρ _ => Kernel13Ideal.Gen.frame m ρ, fun m ρ _ => ended (by decide) (fun _ h c => (h c).2.2.2) (Mm.RetOut.Ref.run_values m ρ),
    fun m ρ _ => Kernel14.Gen.frame m ρ, fun m ρ _ => Kernel14Ideal.Gen.frame m ρ, fun m ρ _ => ended (by decide) (fun _ h c => (h c).2.2.2) (Mm.MlaOut.Ref.run_values m ρ),
    fun m ρ _ => Kernel15.Gen.frame m ρ, fun m ρ _ => Kernel15Ideal.Gen.frame m ρ, fun m ρ _ => ended (by decide) (fun _ h c => (h c).2.2.2) (Mm.Loss.Ref.run_values m ρ),
    fun m ρ _ => Kernel16.Gen.frame m ρ, fun m ρ _ => Kernel16Ideal.Gen.frame m ρ, fun m ρ _ => ended (by decide) (fun _ h c => (h c).2) (Mm.MlaIn.Ref.run_values m ρ),
    fun m ρ _ => Kernel17.Gen.frame m ρ, fun m ρ _ => Kernel17Ideal.Gen.frame m ρ, fun m ρ _ => ended (by decide) (fun _ h c => (h c).2) (Mm.MlaQb.Ref.run_values m ρ),
    fun m ρ _ => Kernel18.Gen.frame m ρ, fun m ρ _ => Kernel18Ideal.Gen.frame m ρ, fun m ρ _ => ended (by decide) (fun _ h c => (h c).2) (Mm.MlaKvb.Ref.run_values m ρ),
    fun m ρ _ => Kernel19.Gen.frame m ρ, fun m ρ _ => Kernel19Ideal.Gen.frame m ρ, fun m ρ _ => ended (by decide) (fun _ h c => (h c).2) (Mm.MlaOutDx.Ref.run_values m ρ),
    fun m ρ _ => Kernel20.Gen.frame m ρ, fun m ρ _ => Kernel20Ideal.Gen.frame m ρ, fun m ρ _ => ended (by decide) (fun _ h c => (h c).2) (Mm.MlaQbDx.Ref.run_values m ρ),
    fun m ρ _ => Kernel21.Gen.frame m ρ, fun m ρ _ => Kernel21Ideal.Gen.frame m ρ, fun m ρ _ => ended (by decide) (fun _ h c => (h c).2) (Mm.MlaKvbDx.Ref.run_values m ρ),
    fun m ρ _ => Kernel22.Gen.frame m ρ, fun m ρ _ => Kernel22Ideal.Gen.frame m ρ, fun m ρ _ => ended (by decide) (fun _ h c => (h c).2) (Mm.MlaOutDw.Ref.run_values m ρ),
    fun m ρ _ => Kernel23.Gen.frame m ρ, fun m ρ _ => Kernel23Ideal.Gen.frame m ρ, fun m ρ _ => ended (by decide) (fun _ h c => (h c).2) (Mm.MlaQbDw.Ref.run_values m ρ),
    fun m ρ _ => Kernel24.Gen.frame m ρ, fun m ρ _ => Kernel24Ideal.Gen.frame m ρ, fun m ρ _ => ended (by decide) (fun _ h c => (h c).2) (Mm.MlaKvbDw.Ref.run_values m ρ),
    fun m ρ _ => Kernel25.Gen.frame m ρ, fun m ρ _ => Kernel25Ideal.Gen.frame m ρ, fun m ρ _ => ended (by decide) (fun _ h c => (h c).2) (Mm.MlaInDw.Ref.run_values m ρ),
    fun m ρ _ => Kernel26.Gen.frame m ρ, fun m ρ _ => Kernel26Ideal.Gen.frame m ρ, fun m ρ _ => ended (by decide) (fun _ h c => (h c).2.2.2) (Mm.MlaInDx.Ref.run_values m ρ),
    fun m ρ _ => Kernel27.Gen.frame m ρ, fun m ρ _ => Kernel27Ideal.Gen.frame m ρ, fun m ρ _ => ended (by decide) (fun _ h c => (h c).2.2.2) (Reference27Ideal.Value.run m ρ),
    fun m ρ _ => Kernel28.Gen.frame m ρ, fun m ρ _ => Kernel28Ideal.Gen.frame m ρ, fun m ρ _ => ended (by decide) (fun _ h c => (h c).2.2.2) (Reference28Ideal.Value.run m ρ),
    fun m ρ _ => Kernel29.Gen.frame m ρ, fun m ρ _ => Kernel29Ideal.Gen.frame m ρ, fun m ρ _ => ended (by decide) (fun _ h c => (h c).2.2.2) (Reference29Ideal.Value.run m ρ),
    fun m ρ _ => Kernel30.Gen.frame m ρ, fun m ρ _ => Kernel30Ideal.Gen.frame m ρ, fun m ρ _ => ended (by decide) (fun _ h c => (h c).2.2.2) (Reference30Ideal.Value.run m ρ),
    fun m ρ _ => Kernel31.Gen.frame m ρ, fun m ρ _ => Kernel31Ideal.Gen.frame m ρ, fun m ρ _ => ended (by decide) (fun _ h c => (h c).2.2.2) (Reference31Ideal.Value.run m ρ),
    fun m ρ _ => Kernel32.Gen.frame m ρ, fun m ρ _ => Kernel32Ideal.Gen.frame m ρ, fun m ρ _ => ended (by decide) (fun _ h c => (h c).2.2.2) (Reference32Ideal.Value.run m ρ),
    fun m ρ _ => Kernel33.Gen.frame m ρ, fun m ρ _ => Kernel33Ideal.Gen.frame m ρ, fun m ρ _ => ended (by decide) (fun _ h c => (h c).2.2.2) (Reference33Ideal.Value.run m ρ),
    fun m ρ _ => Kernel34.Gen.frame m ρ, fun m ρ _ => Kernel34Ideal.Gen.frame m ρ, fun m ρ _ => ended (by decide) (fun _ h c => (h c).2.2.2) (Reference34Ideal.Value.run m ρ),
    fun m ρ _ => Kernel35.Gen.frame m ρ, fun m ρ _ => Kernel35Ideal.Gen.frame m ρ, fun m ρ _ => ended (by decide) (fun _ h c => (h c).2.2.2) (Reference35Ideal.Value.run m ρ),
    RetFwd.frame_kernel, frame_ideal36, fun m ρ _ => ended (by decide) (fun _ h c => (h c).2) (RetFwd.Ref.run_values m ρ),
    fun m ρ _ => Kernel37.Gen.frame m ρ, fun m ρ _ => Kernel37Ideal.Gen.frame m ρ, fun m ρ _ => ended (by decide) (fun _ h c => (h c).2.2.2) (Conv.Ref.run_values m ρ),
    fun m ρ _ => Kernel38.Gen.frame m ρ, fun m ρ _ => Kernel38Ideal.Gen.frame m ρ, fun m ρ _ => ended (by decide) (fun _ h c => (h c).2.2) (Conv.Fwd.Ref.run_values m ρ),
    fun m ρ _ => Kernel39.Gen.frame m ρ, fun m ρ _ => Kernel39Ideal.Gen.frame m ρ, fun m ρ _ => ended (by decide) (fun _ h c => (h c).2.2) (Mm.RetNorm.Ref.run_values m ρ),
    fun m ρ _ => Kernel40.Gen.frame m ρ, fun m ρ _ => Kernel40Ideal.Gen.frame m ρ, fun m ρ _ => ended (by decide) (fun _ h c => (h c).2.2) (Mm.RetGate.Ref.run_values m ρ),
    fun m ρ _ => Kernel41.Gen.frame m ρ, fun m ρ _ => Kernel41Ideal.Gen.frame m ρ, fun m ρ _ => ended (by decide) (fun _ h c => (h c).2.2.2) (Mm.MlaLat.Ref.run_values m ρ),
    fun m ρ _ => Kernel42.Gen.frame m ρ, fun m ρ _ => Kernel42Ideal.Gen.frame m ρ, fun m ρ _ => ended (by decide) (fun _ h c => (h c).2.2.2) (Mm.RetRope.Ref.run_values m ρ),
    trivial, algebraic, trivial, algebraic2, trivial, algebraic3, trivial, algebraic4, trivial, algebraic5, trivial, algebraic6, trivial, algebraic7,
    trivial, algebraic8, trivial, algebraic9, trivial, algebraic10, trivial, algebraic11,
    trivial, algebraic12, trivial, algebraic13, trivial, algebraic14, trivial, algebraic15,
    trivial, algebraic16, trivial, algebraic17, trivial, algebraic18, trivial, algebraic19, trivial, algebraic20, trivial, algebraic21,
    trivial, algebraic22, trivial, algebraic23, trivial, algebraic24, trivial, algebraic25, trivial, algebraic26,
    trivial, algebraic27, trivial, algebraic28, trivial, algebraic29, trivial, algebraic30, trivial, algebraic31,
    trivial, algebraic32, trivial, algebraic33, trivial, algebraic34, trivial, algebraic35, trivial, algebraic36, trivial, algebraic37,
    trivial, algebraic38, trivial, algebraic39, trivial, algebraic40, trivial, algebraic41, trivial, algebraic42⟩

end Cert.Proof

end
